-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_prompt [hPre_finite_prompt : Cert.Pre_finite_prompt.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_prompt.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_prompt [hPre_finite_prompt : Cert.Pre_finite_prompt.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_prompt.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_sample [hPre_finite_sample : Cert.Pre_finite_sample.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_sample.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_sample [hPre_finite_sample : Cert.Pre_finite_sample.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_sample.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_logs [hPre_finite_logs : Cert.Pre_finite_logs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_logs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_logs [hPre_finite_logs : Cert.Pre_finite_logs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_logs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_prompt [hKernel3Ideal : Cert.Kernel3Ideal.Facts] [hPre_finite_prompt : Cert.Pre_finite_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_prompt m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_prompt [hReference3Ideal : Cert.Reference3Ideal.Facts] [hPre_finite_prompt : Cert.Pre_finite_prompt.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_prompt m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_sample [hKernel4Ideal : Cert.Kernel4Ideal.Facts] [hPre_finite_sample : Cert.Pre_finite_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_sample m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_sample [hReference4Ideal : Cert.Reference4Ideal.Facts] [hPre_finite_sample : Cert.Pre_finite_sample.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_sample m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_logs [hKernel7Ideal : Cert.Kernel7Ideal.Facts] [hPre_finite_logs : Cert.Pre_finite_logs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_logs m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_logs [hReference7Ideal : Cert.Reference7Ideal.Facts] [hPre_finite_logs : Cert.Pre_finite_logs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_logs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_prompt [hKernel3Ideal : Cert.Kernel3Ideal.Facts] [hReference3Ideal : Cert.Reference3Ideal.Facts] [hPre_finite_prompt : Cert.Pre_finite_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_prompt m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)) (v7 : (c : Dev Cert.Kernel3Ideal.nD) → Buf (Elt Ideal) ((c.tc : Thread Cert.Kernel3Ideal.nD Cert.Kernel3Ideal.τ).loc Cert.Kernel3Ideal.main_v5_7)) (v8 : (c : Dev Cert.Kernel3Ideal.nD) → Buf (Elt Ideal) ((c.tc : Thread Cert.Kernel3Ideal.nD Cert.Kernel3Ideal.τ).loc Cert.Kernel3Ideal.main_v5_8)) (v9 : (c : Dev Cert.Kernel3Ideal.nD) → Buf (Elt Ideal) ((c.tc : Thread Cert.Kernel3Ideal.nD Cert.Kernel3Ideal.τ).loc Cert.Kernel3Ideal.main_v5_9)) (v10 : (c : Dev Cert.Kernel3Ideal.nD) → Buf (Elt Ideal) ((c.tc : Thread Cert.Kernel3Ideal.nD Cert.Kernel3Ideal.τ).loc Cert.Kernel3Ideal.main_v5_10)) (v11 : (c : Dev Cert.Kernel3Ideal.nD) → Buf (Elt Ideal) ((c.tc : Thread Cert.Kernel3Ideal.nD Cert.Kernel3Ideal.τ).loc Cert.Kernel3Ideal.main_v5_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_v5_7) = v7 c
          ∧ r.2.mem ((c.tc : Thread Cert.Kernel3Ideal.nD Cert.Kernel3Ideal.τ).loc Cert.Kernel3Ideal.main_v5_8) = v8 c
          ∧ r.2.mem ((c.tc : Thread Cert.Kernel3Ideal.nD Cert.Kernel3Ideal.τ).loc Cert.Kernel3Ideal.main_v5_9) = v9 c
          ∧ r.2.mem ((c.tc : Thread Cert.Kernel3Ideal.nD Cert.Kernel3Ideal.τ).loc Cert.Kernel3Ideal.main_v5_10) = v10 c
          ∧ r.2.mem ((c.tc : Thread Cert.Kernel3Ideal.nD Cert.Kernel3Ideal.τ).loc Cert.Kernel3Ideal.main_v5_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v89) = v3 c
          ∧ r.2.mem ((c.tc : Thread Cert.Reference3Ideal.nD Cert.Reference3Ideal.τ).loc Cert.Reference3Ideal.main_v91) = v4 c
          ∧ r.2.mem ((c.tc : Thread Cert.Reference3Ideal.nD Cert.Reference3Ideal.τ).loc Cert.Reference3Ideal.main_v93) = v5 c
          ∧ r.2.mem ((c.tc : Thread Cert.Reference3Ideal.nD Cert.Reference3Ideal.τ).loc Cert.Reference3Ideal.main_v94) = v6 c
          ∧ r.2.mem ((c.tc : Thread Cert.Reference3Ideal.nD Cert.Reference3Ideal.τ).loc Cert.Reference3Ideal.main_v96) = v7 c
          ∧ r.2.mem ((c.tc : Thread Cert.Reference3Ideal.nD Cert.Reference3Ideal.τ).loc Cert.Reference3Ideal.main_v98) = v8 c
          ∧ r.2.mem ((c.tc : Thread Cert.Reference3Ideal.nD Cert.Reference3Ideal.τ).loc Cert.Reference3Ideal.main_v100) = v9 c
          ∧ r.2.mem ((c.tc : Thread Cert.Reference3Ideal.nD Cert.Reference3Ideal.τ).loc Cert.Reference3Ideal.main_v102) = v10 c
          ∧ r.2.mem ((c.tc : Thread Cert.Reference3Ideal.nD Cert.Reference3Ideal.τ).loc Cert.Reference3Ideal.main_v104) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_sample [hKernel4Ideal : Cert.Kernel4Ideal.Facts] [hReference4Ideal : Cert.Reference4Ideal.Facts] [hPre_finite_sample : Cert.Pre_finite_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_sample m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)) (v5 : (c : Dev Cert.Kernel4Ideal.nD) → Buf (Elt Ideal) ((c.tc : Thread Cert.Kernel4Ideal.nD Cert.Kernel4Ideal.τ).loc Cert.Kernel4Ideal.main_v13_5)) (v6 : (c : Dev Cert.Kernel4Ideal.nD) → Buf (Elt Ideal) ((c.tc : Thread Cert.Kernel4Ideal.nD Cert.Kernel4Ideal.τ).loc Cert.Kernel4Ideal.main_v13_6)) (v7 : (c : Dev Cert.Kernel4Ideal.nD) → Buf (Elt Ideal) ((c.tc : Thread Cert.Kernel4Ideal.nD Cert.Kernel4Ideal.τ).loc Cert.Kernel4Ideal.main_v13_7)) (v8 : (c : Dev Cert.Kernel4Ideal.nD) → Buf (Elt Ideal) ((c.tc : Thread Cert.Kernel4Ideal.nD Cert.Kernel4Ideal.τ).loc Cert.Kernel4Ideal.main_v13_8)) (v9 : (c : Dev Cert.Kernel4Ideal.nD) → Buf (Elt Ideal) ((c.tc : Thread Cert.Kernel4Ideal.nD Cert.Kernel4Ideal.τ).loc Cert.Kernel4Ideal.main_v13_9)) (v10 : (c : Dev Cert.Kernel4Ideal.nD) → Buf (Elt Ideal) ((c.tc : Thread Cert.Kernel4Ideal.nD Cert.Kernel4Ideal.τ).loc Cert.Kernel4Ideal.main_v13_10)) (v11 : (c : Dev Cert.Kernel4Ideal.nD) → Buf (Elt Ideal) ((c.tc : Thread Cert.Kernel4Ideal.nD Cert.Kernel4Ideal.τ).loc Cert.Kernel4Ideal.main_v13_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_v13_5) = v5 c
          ∧ r.2.mem ((c.tc : Thread Cert.Kernel4Ideal.nD Cert.Kernel4Ideal.τ).loc Cert.Kernel4Ideal.main_v13_6) = v6 c
          ∧ r.2.mem ((c.tc : Thread Cert.Kernel4Ideal.nD Cert.Kernel4Ideal.τ).loc Cert.Kernel4Ideal.main_v13_7) = v7 c
          ∧ r.2.mem ((c.tc : Thread Cert.Kernel4Ideal.nD Cert.Kernel4Ideal.τ).loc Cert.Kernel4Ideal.main_v13_8) = v8 c
          ∧ r.2.mem ((c.tc : Thread Cert.Kernel4Ideal.nD Cert.Kernel4Ideal.τ).loc Cert.Kernel4Ideal.main_v13_9) = v9 c
          ∧ r.2.mem ((c.tc : Thread Cert.Kernel4Ideal.nD Cert.Kernel4Ideal.τ).loc Cert.Kernel4Ideal.main_v13_10) = v10 c
          ∧ r.2.mem ((c.tc : Thread Cert.Kernel4Ideal.nD Cert.Kernel4Ideal.τ).loc Cert.Kernel4Ideal.main_v13_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_v91) = v4 c
          ∧ r.2.mem ((c.tc : Thread Cert.Reference4Ideal.nD Cert.Reference4Ideal.τ).loc Cert.Reference4Ideal.main_v93) = v5 c
          ∧ r.2.mem ((c.tc : Thread Cert.Reference4Ideal.nD Cert.Reference4Ideal.τ).loc Cert.Reference4Ideal.main_v94) = v6 c
          ∧ r.2.mem ((c.tc : Thread Cert.Reference4Ideal.nD Cert.Reference4Ideal.τ).loc Cert.Reference4Ideal.main_v96) = v7 c
          ∧ r.2.mem ((c.tc : Thread Cert.Reference4Ideal.nD Cert.Reference4Ideal.τ).loc Cert.Reference4Ideal.main_v98) = v8 c
          ∧ r.2.mem ((c.tc : Thread Cert.Reference4Ideal.nD Cert.Reference4Ideal.τ).loc Cert.Reference4Ideal.main_v100) = v9 c
          ∧ r.2.mem ((c.tc : Thread Cert.Reference4Ideal.nD Cert.Reference4Ideal.τ).loc Cert.Reference4Ideal.main_v102) = v10 c
          ∧ r.2.mem ((c.tc : Thread Cert.Reference4Ideal.nD Cert.Reference4Ideal.τ).loc Cert.Reference4Ideal.main_v104) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite_logs [hKernel7Ideal : Cert.Kernel7Ideal.Facts] [hReference7Ideal : Cert.Reference7Ideal.Facts] [hPre_finite_logs : Cert.Pre_finite_logs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_logs m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v15_6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_prompt : Cert.Pre_finite_prompt.Facts) (hPre_finite_sample : Cert.Pre_finite_sample.Facts) (hPre_finite_logs : Cert.Pre_finite_logs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_prompt (hKernel3Ideal := hKernel3Ideal) (hPre_finite_prompt := hPre_finite_prompt)
    ∧ quiescent_Reference3Ideal (hReference3Ideal := hReference3Ideal)
    ∧ quiescent_Reference3Ideal_pre_finite_prompt (hReference3Ideal := hReference3Ideal) (hPre_finite_prompt := hPre_finite_prompt)
    ∧ quiescent_Kernel4 (hKernel4 := hKernel4)
    ∧ quiescent_Kernel4Ideal (hKernel4Ideal := hKernel4Ideal)
    ∧ quiescent_Kernel4Ideal_pre_finite_sample (hKernel4Ideal := hKernel4Ideal) (hPre_finite_sample := hPre_finite_sample)
    ∧ quiescent_Reference4Ideal (hReference4Ideal := hReference4Ideal)
    ∧ quiescent_Reference4Ideal_pre_finite_sample (hReference4Ideal := hReference4Ideal) (hPre_finite_sample := hPre_finite_sample)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_logs (hKernel7Ideal := hKernel7Ideal) (hPre_finite_logs := hPre_finite_logs)
    ∧ quiescent_Reference7Ideal (hReference7Ideal := hReference7Ideal)
    ∧ quiescent_Reference7Ideal_pre_finite_logs (hReference7Ideal := hReference7Ideal) (hPre_finite_logs := hPre_finite_logs)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_prompt (hKernel3Ideal := hKernel3Ideal) (hReference3Ideal := hReference3Ideal) (hPre_finite_prompt := hPre_finite_prompt)
    ∧ preserves_Kernel4_Kernel4Ideal
    ∧ algebraic_Kernel4Ideal_Reference4Ideal_pre_finite_sample (hKernel4Ideal := hKernel4Ideal) (hReference4Ideal := hReference4Ideal) (hPre_finite_sample := hPre_finite_sample)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_logs (hKernel7Ideal := hKernel7Ideal) (hReference7Ideal := hReference7Ideal) (hPre_finite_logs := hPre_finite_logs)
-- ==== Pre_finite.lean ====
abbrev S128x512 : Shape := ⟨2, ![128, 512]⟩
abbrev S1x32x4x128x128 : Shape := ⟨5, ![1, 32, 4, 128, 128]⟩
abbrev S1x512 : Shape := ⟨2, ![1, 512]⟩
abbrev S_ : Shape := ⟨0, ![]⟩

class Facts : Prop where
  bcast_S_S128x512 : S_.BroadcastsInDim S128x512 (![] : Fin 0 → Fin S128x512.rank)

variable [Facts]

def fn {F : FTy → Type} [FloatOps F] (main_arg0 : FVec F S128x512 .bf16) (main_arg1 : FVec F S128x512 .f32) (main_arg2 : FVec F S128x512 .bf16) (main_arg3 : FVec F S128x512 .bf16) (main_arg4 : FVec F S128x512 .bf16) (main_arg5 : FVec F S1x32x4x128x128 .f32) (main_arg6 : FVec F S1x512 .f32) : IVec S128x512 1 :=
  let main_v0 : FVec F S128x512 .f32 := Host.absf main_arg1
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  main_v2
-- ==== Pre_finite_logs.lean ====
abbrev S32768x512 : Shape := ⟨2, ![32768, 512]⟩
abbrev S1x512 : Shape := ⟨2, ![1, 512]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S32768x512 .bf16) (main_arg1 : FVec F S32768x512 .f32) (main_arg2 : FVec F S32768x512 .bf16) (main_arg3 : FVec F S32768x512 .bf16) (main_arg4 : FVec F S32768x512 .bf16) (main_arg5 : FVec F S1x512 .f32) : IVec S32768x512 1 :=
  let main_v0 : FVec F S32768x512 .f32 := Host.absf main_arg1
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  main_v2
-- ==== Pre_finite_prompt.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x5632 : Shape := ⟨3, ![1, 1024, 5632]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S8x4096x1024 .f32) (main_arg1 : FVec F S8x1x1024 .f32) (main_arg2 : FVec F S8x1x1024 .f32) (main_arg3 : FVec F S1x1024 .f32) (main_arg4 : FVec F S1x1024x5632 .f32) (main_arg5 : FVec F S2x512 .f32) : IVec S2x512 1 :=
  let main_v0 : FVec F S2x512 .f32 := Host.absf main_arg5
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Pre_finite_sample.lean ====
abbrev S32x4x1024 : Shape := ⟨3, ![32, 4, 1024]⟩
abbrev S32x1x1024 : Shape := ⟨3, ![32, 1, 1024]⟩
abbrev S1x1024 : Shape := ⟨2, ![1, 1024]⟩
abbrev S1x1024x5632 : Shape := ⟨3, ![1, 1024, 5632]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S32x4x1024 .f32) (main_arg1 : FVec F S32x1x1024 .f32) (main_arg2 : FVec F S32x1x1024 .f32) (main_arg3 : FVec F S1x1024 .f32) (main_arg4 : FVec F S1x1024x5632 .f32) (main_arg5 : FVec F S2x512 .f32) : IVec S2x512 1 :=
  let main_v0 : FVec F S2x512 .f32 := Host.absf main_arg5
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Kernel.lean ====
abbrev S128x512 : Shape := ⟨2, ![128, 512]⟩
abbrev S1x32x4x128x128 : Shape := ⟨5, ![1, 32, 4, 128, 128]⟩
abbrev S1x512 : Shape := ⟨2, ![1, 512]⟩
abbrev S512 : Shape := ⟨1, ![512]⟩
abbrev S32x4x512 : Shape := ⟨3, ![32, 4, 512]⟩
abbrev S_ : Shape := ⟨0, ![]⟩
abbrev S32x64x512 : Shape := ⟨3, ![32, 64, 512]⟩
abbrev S32x4x128x128 : Shape := ⟨4, ![32, 4, 128, 128]⟩
abbrev S1x64x512 : Shape := ⟨3, ![1, 64, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S1x64x128 : Shape := ⟨3, ![1, 64, 128]⟩
abbrev S1x128 : Shape := ⟨2, ![1, 128]⟩
abbrev S64 : Shape := ⟨1, ![64]⟩
abbrev S64x1 : Shape := ⟨2, ![64, 1]⟩

abbrev nBuf : Space → Nat
  | .hbm => 32
  | .vmem => 18
  | .smem => 0
  | _ => 0

abbrev bufTy : (tb : Table) → Fin (tcTables nBuf tb) → BufTy
  | .hbm, ⟨0, _⟩ => ⟨S128x512, .bf16⟩
  | .hbm, ⟨1, _⟩ => ⟨S128x512, .f32⟩
  | .hbm, ⟨2, _⟩ => ⟨S128x512, .bf16⟩
  | .hbm, ⟨3, _⟩ => ⟨S128x512, .bf16⟩
  | .hbm, ⟨4, _⟩ => ⟨S128x512, .bf16⟩
  | .hbm, ⟨5, _⟩ => ⟨S1x32x4x128x128, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S32x4x512, .bf16⟩
  | .hbm, ⟨10, _⟩ => ⟨S_, .i32⟩
  | .hbm, ⟨11, _⟩ => ⟨S_, .bf16⟩
  | .hbm, ⟨12, _⟩ => ⟨S32x64x512, .bf16⟩
  | .hbm, ⟨13, _⟩ => ⟨S32x4x512, .f32⟩
  | .hbm, ⟨14, _⟩ => ⟨S_, .i32⟩
  | .hbm, ⟨15, _⟩ => ⟨S_, .f32⟩
  | .hbm, ⟨16, _⟩ => ⟨S32x64x512, .f32⟩
  | .hbm, ⟨17, _⟩ => ⟨S32x4x512, .bf16⟩
  | .hbm, ⟨18, _⟩ => ⟨S_, .i32⟩
  | .hbm, ⟨19, _⟩ => ⟨S_, .bf16⟩
  | .hbm, ⟨20, _⟩ => ⟨S32x64x512, .bf16⟩
  | .hbm, ⟨21, _⟩ => ⟨S32x4x512, .bf16⟩
  | .hbm, ⟨22, _⟩ => ⟨S_, .i32⟩
  | .hbm, ⟨23, _⟩ => ⟨S_, .bf16⟩
  | .hbm, ⟨24, _⟩ => ⟨S32x64x512, .bf16⟩
  | .hbm, ⟨25, _⟩ => ⟨S32x4x512, .bf16⟩
  | .hbm, ⟨26, _⟩ => ⟨S_, .i32⟩
  | .hbm, ⟨27, _⟩ => ⟨S_, .bf16⟩
  | .hbm, ⟨28, _⟩ => ⟨S32x64x512, .bf16⟩
  | .hbm, ⟨29, _⟩ => ⟨S32x4x128x128, .f32⟩
  | .hbm, ⟨30, _⟩ => ⟨S32x64x512, .bf16⟩
  | .hbm, ⟨31, _⟩ => ⟨S32x4x128x128, .f32⟩
  | .local _ .vmem, ⟨0, _⟩ => ⟨S1x64x512, .bf16⟩
  | .local _ .vmem, ⟨1, _⟩ => ⟨S1x64x512, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .bf16⟩
  | .local _ .vmem, ⟨5, _⟩ => ⟨S1x64x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x4x128x128, .f32⟩
  | .local _ .vmem, ⟨11, _⟩ => ⟨S1x4x128x128, .f32⟩
  | .local _ .vmem, ⟨12, _⟩ => ⟨S1x512, .f32⟩
  | .local _ .vmem, ⟨13, _⟩ => ⟨S1x64x512, .bf16⟩
  | .local _ .vmem, ⟨14, _⟩ => ⟨S1x64x512, .bf16⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_195 : BitVec 32 := 0#32
  let v431 : BitVec 1 := Scalar.cmpi .eq arg1 c0_i32_195
  let v432 : BitVec 32 := Scalar.extui v431
  let c0_i32_196 : BitVec 32 := 0#32
  let v433 : BitVec 1 := Scalar.cmpi .ne v432 c0_i32_196
  v433

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S128x512 : Shape := ⟨2, ![128, 512]⟩
abbrev S1x32x4x128x128 : Shape := ⟨5, ![1, 32, 4, 128, 128]⟩
abbrev S1x512 : Shape := ⟨2, ![1, 512]⟩
abbrev S32x4x4x128 : Shape := ⟨4, ![32, 4, 4, 128]⟩
abbrev S32x4x128x128 : Shape := ⟨4, ![32, 4, 128, 128]⟩
abbrev S_ : Shape := ⟨0, ![]⟩
abbrev S4x4 : Shape := ⟨2, ![4, 4]⟩
abbrev S1x1x4x4x1 : Shape := ⟨5, ![1, 1, 4, 4, 1]⟩
abbrev S32x4x4x1x128 : Shape := ⟨5, ![32, 4, 4, 1, 128]⟩
abbrev S32x4x1x4x128 : Shape := ⟨5, ![32, 4, 1, 4, 128]⟩
abbrev S32x4x4x4x128 : Shape := ⟨5, ![32, 4, 4, 4, 128]⟩
abbrev S32x4x4x4 : Shape := ⟨4, ![32, 4, 4, 4]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x4x4 : Shape := ⟨3, ![32, 4, 4]⟩
abbrev S32x4x4x1 : Shape := ⟨4, ![32, 4, 4, 1]⟩
abbrev S512 : Shape := ⟨1, ![512]⟩
abbrev S4x128 : Shape := ⟨2, ![4, 128]⟩
abbrev S1x1x4x128 : Shape := ⟨4, ![1, 1, 4, 128]⟩
abbrev S32x4x512 : Shape := ⟨3, ![32, 4, 512]⟩
abbrev S32x64x512 : Shape := ⟨3, ![32, 64, 512]⟩

abbrev nBuf : Space → Nat
  | .hbm => 97
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x512, .f32⟩
  | .hbm, ⟨2, _⟩ => ⟨S128x512, .bf16⟩
  | .hbm, ⟨3, _⟩ => ⟨S128x512, .bf16⟩
  | .hbm, ⟨4, _⟩ => ⟨S128x512, .bf16⟩
  | .hbm, ⟨5, _⟩ => ⟨S1x32x4x128x128, .f32⟩
  | .hbm, ⟨6, _⟩ => ⟨S1x512, .f32⟩
  | .hbm, ⟨7, _⟩ => ⟨S128x512, .f32⟩
  | .hbm, ⟨8, _⟩ => ⟨S32x4x4x128, .f32⟩
  | .hbm, ⟨9, _⟩ => ⟨S32x4x4x128, .f32⟩
  | .hbm, ⟨10, _⟩ => ⟨S128x512, .f32⟩
  | .hbm, ⟨11, _⟩ => ⟨S32x4x4x128, .f32⟩
  | .hbm, ⟨12, _⟩ => ⟨S32x4x4x128, .f32⟩
  | .hbm, ⟨13, _⟩ => ⟨S32x4x4x128, .f32⟩
  | .hbm, ⟨14, _⟩ => ⟨S32x4x4x128, .f32⟩
  | .hbm, ⟨15, _⟩ => ⟨S128x512, .f32⟩
  | .hbm, ⟨16, _⟩ => ⟨S32x4x4x128, .f32⟩
  | .hbm, ⟨17, _⟩ => ⟨S32x4x4x128, .f32⟩
  | .hbm, ⟨18, _⟩ => ⟨S32x4x128x128, .f32⟩
  | .hbm, ⟨19, _⟩ => ⟨S_, .i1⟩
  | .hbm, ⟨20, _⟩ => ⟨S4x4, .i1⟩
  | .hbm, ⟨21, _⟩ => ⟨S4x4, .i32⟩
  | .hbm, ⟨22, _⟩ => ⟨S_, .i32⟩
  | .hbm, ⟨23, _⟩ => ⟨S4x4, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S_, .i1⟩
  | .hbm, ⟨28, _⟩ => ⟨S4x4, .i1⟩
  | .hbm, ⟨29, _⟩ => ⟨S4x4, .i1⟩
  | .hbm, ⟨30, _⟩ => ⟨S_, .f32⟩
  | .hbm, ⟨31, _⟩ => ⟨S_, .f32⟩
  | .hbm, ⟨32, _⟩ => ⟨S32x4x4x128, .f32⟩
  | .hbm, ⟨33, _⟩ => ⟨S1x1x4x4x1, .i1⟩
  | .hbm, ⟨34, _⟩ => ⟨S32x4x4x1x128, .f32⟩
  | .hbm, ⟨35, _⟩ => ⟨S32x4x1x4x128, .f32⟩
  | .hbm, ⟨36, _⟩ => ⟨S32x4x4x4x128, .f32⟩
  | .hbm, ⟨37, _⟩ => ⟨S32x4x4x4x128, .f32⟩
  | .hbm, ⟨38, _⟩ => ⟨S32x4x4x4x128, .f32⟩
  | .hbm, ⟨39, _⟩ => ⟨S_, .f32⟩
  | .hbm, ⟨40, _⟩ => ⟨S_, .f32⟩
  | .hbm, ⟨41, _⟩ => ⟨S32x4x4x4x128, .i1⟩
  | .hbm, ⟨42, _⟩ => ⟨S32x4x4x4x128, .f32⟩
  | .hbm, ⟨43, _⟩ => ⟨S32x4x4x4x128, .f32⟩
  | .hbm, ⟨44, _⟩ => ⟨S32x4x4x1x128, .f32⟩
  | .hbm, ⟨45, _⟩ => ⟨S32x4x1x4x128, .f32⟩
  | .hbm, ⟨46, _⟩ => ⟨S32x4x4x4x128, .f32⟩
  | .hbm, ⟨47, _⟩ => ⟨S32x4x4x4x128, .f32⟩
  | .hbm, ⟨48, _⟩ => ⟨S32x4x4x4x128, .f32⟩
  | .hbm, ⟨49, _⟩ => ⟨S32x4x4x4x128, .f32⟩
  | .hbm, ⟨50, _⟩ => ⟨S32x4x4x4x128, .f32⟩
  | .hbm, ⟨51, _⟩ => ⟨S_, .f32⟩
  | .hbm, ⟨52, _⟩ => ⟨S32x4x4x4, .f32⟩
  | .hbm, ⟨53, _⟩ => ⟨S32x4x4x128, .f32⟩
  | .hbm, ⟨54, _⟩ => ⟨S32x4x4x128, .f32⟩
  | .hbm, ⟨55, _⟩ => ⟨S32x4x4x128, .f32⟩
  | .hbm, ⟨56, _⟩ => ⟨S32x4x4x128, .f32⟩
  | .hbm, ⟨57, _⟩ => ⟨S32x4x4x128, .f32⟩
  | .hbm, ⟨58, _⟩ => ⟨S32x4x1x128, .f32⟩
  | .hbm, ⟨59, _⟩ => ⟨S32x4x128, .f32⟩
  | .hbm, ⟨60, _⟩ => ⟨S32x4x128, .f32⟩
  | .hbm, ⟨61, _⟩ => ⟨S32x4x128x1, .f32⟩
  | .hbm, ⟨62, _⟩ => ⟨S32x4x128x128, .f32⟩
  | .hbm, ⟨63, _⟩ => ⟨S32x4x128x128, .f32⟩
  | .hbm, ⟨64, _⟩ => ⟨S32x4x4x128, .f32⟩
  | .hbm, ⟨65, _⟩ => ⟨S32x4x4x128, .f32⟩
  | .hbm, ⟨66, _⟩ => ⟨S32x4x4x128, .f32⟩
  | .hbm, ⟨67, _⟩ => ⟨S32x4x4x128, .f32⟩
  | .hbm, ⟨68, _⟩ => ⟨S32x4x128x128, .f32⟩
  | .hbm, ⟨69, _⟩ => ⟨S32x4x128x128, .f32⟩
  | .hbm, ⟨70, _⟩ => ⟨S32x4x4x128, .f32⟩
  | .hbm, ⟨71, _⟩ => ⟨S32x4x4x128, .f32⟩
  | .hbm, ⟨72, _⟩ => ⟨S_, .f32⟩
  | .hbm, ⟨73, _⟩ => ⟨S32x4x4, .f32⟩
  | .hbm, ⟨74, _⟩ => ⟨S32x4x4x1, .f32⟩
  | .hbm, ⟨75, _⟩ => ⟨S_, .f32⟩
  | .hbm, ⟨76, _⟩ => ⟨S32x4x4x1, .f32⟩
  | .hbm, ⟨77, _⟩ => ⟨S32x4x4x1, .f32⟩
  | .hbm, ⟨78, _⟩ => ⟨S_, .f32⟩
  | .hbm, ⟨79, _⟩ => ⟨S32x4x4x1, .f32⟩
  | .hbm, ⟨80, _⟩ => ⟨S32x4x4x1, .f32⟩
  | .hbm, ⟨81, _⟩ => ⟨S32x4x4x1, .f32⟩
  | .hbm, ⟨82, _⟩ => ⟨S32x4x4x128, .f32⟩
  | .hbm, ⟨83, _⟩ => ⟨S32x4x4x128, .f32⟩
  | .hbm, ⟨84, _⟩ => ⟨S512, .f32⟩
  | .hbm, ⟨85, _⟩ => ⟨S4x128, .f32⟩
  | .hbm, ⟨86, _⟩ => ⟨S1x1x4x128, .f32⟩
  | .hbm, ⟨87, _⟩ => ⟨S32x4x4x128, .f32⟩
  | .hbm, ⟨88, _⟩ => ⟨S32x4x4x128, .f32⟩
  | .hbm, ⟨89, _⟩ => ⟨S128x512, .f32⟩
  | .hbm, ⟨90, _⟩ => ⟨S32x4x4x128, .f32⟩
  | .hbm, ⟨91, _⟩ => ⟨S32x4x4x128, .f32⟩
  | .hbm, ⟨92, _⟩ => ⟨S32x4x512, .f32⟩
  | .hbm, ⟨93, _⟩ => ⟨S32x4x512, .bf16⟩
  | .hbm, ⟨94, _⟩ => ⟨S_, .i32⟩
  | .hbm, ⟨95, _⟩ => ⟨S_, .bf16⟩
  | .hbm, ⟨96, _⟩ => ⟨S32x64x512, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v13 : Ref sig .tc := ⟨.hbm, 29, rfl⟩
abbrev main_call1_call0_cst : Ref sig .tc := ⟨.hbm, 30, rfl⟩
abbrev main_call1_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_1 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_4 : Ref sig .tc := ⟨.hbm, 94, rfl⟩
abbrev main_call3_v0 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel2.lean ====
abbrev S32768x1024 : Shape := ⟨2, ![32768, 1024]⟩
abbrev S8x1x1024 : Shape := ⟨3, ![8, 1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S3x2816 : Shape := ⟨2, ![3, 2816]⟩
abbrev S2816 : Shape := ⟨1, ![2816]⟩
abbrev S_ : Shape := ⟨0, ![]⟩
abbrev S8x2x2816 : Shape := ⟨3, ![8, 2, 2816]⟩
abbrev S512x1024 : Shape := ⟨2, ![512, 1024]⟩
abbrev S1x1x1024 : Shape := ⟨3, ![1, 1, 1024]⟩
abbrev S1x2x2816 : Shape := ⟨3, ![1, 2, 2816]⟩
abbrev S512x2816 : Shape := ⟨2, ![512, 2816]⟩
abbrev S2x2816 : Shape := ⟨2, ![2, 2816]⟩
abbrev S512x256 : Shape := ⟨2, ![512, 256]⟩
abbrev S1024x256 : Shape := ⟨2, ![1024, 256]⟩
abbrev S1x256 : Shape := ⟨2, ![1, 256]⟩
abbrev S2x256 : Shape := ⟨2, ![2, 256]⟩
abbrev S1x2x256 : Shape := ⟨3, ![1, 2, 256]⟩
abbrev S512 : Shape := ⟨1, ![512]⟩
abbrev S512x1 : Shape := ⟨2, ![512, 1]⟩

abbrev nBuf : Space → Nat
  | .hbm => 20
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S8x1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S3x2816, .f32⟩
  | .hbm, ⟨14, _⟩ => ⟨S2816, .f32⟩
  | .hbm, ⟨15, _⟩ => ⟨S1x2816, .f32⟩
  | .hbm, ⟨16, _⟩ => ⟨S_, .f32⟩
  | .hbm, ⟨17, _⟩ => ⟨S8x2x2816, .f32⟩
  | .hbm, ⟨18, _⟩ => ⟨S32768x1024, .f32⟩
  | .hbm, ⟨19, _⟩ => ⟨S8x2x2816, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x2x2816, .f32⟩
  | .local _ .vmem, ⟨7, _⟩ => ⟨S1x2x2816, .f32⟩
  | .local _ .vmem, ⟨8, _⟩ => ⟨S1024x5632, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x2x2816, .f32⟩
  | .local _ .vmem, ⟨16, _⟩ => ⟨S1x2x2816, .f32⟩
  | .local _ .vmem, ⟨17, _⟩ => ⟨S512x2816, .bf16⟩
  | .local _ .vmem, ⟨18, _⟩ => ⟨S2x2816, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S32768x1024 : Shape := ⟨2, ![32768, 1024]⟩
abbrev S8x1x1024 : Shape := ⟨3, ![8, 1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S8x4096x1024 : Shape := ⟨3, ![8, 4096, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S_ : Shape := ⟨0, ![]⟩
abbrev S8x2x2816 : Shape := ⟨3, ![8, 2, 2816]⟩
abbrev S8x4098x2816 : Shape := ⟨3, ![8, 4098, 2816]⟩
abbrev S2816 : Shape := ⟨1, ![2816]⟩
abbrev S1x1x2816 : Shape := ⟨3, ![1, 1, 2816]⟩
abbrev S2816x1024 : Shape := ⟨2, ![2816, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S8x1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S32768x1024, .f32⟩
  | .hbm, ⟨9, _⟩ => ⟨S8x4096x1024, .f32⟩
  | .hbm, ⟨10, _⟩ => ⟨S8x4096x1024, .f32⟩
  | .hbm, ⟨11, _⟩ => ⟨S1024x5632, .f32⟩
  | .hbm, ⟨12, _⟩ => ⟨S8x4096x5632, .f32⟩
  | .hbm, ⟨13, _⟩ => ⟨S8x4096x2816, .f32⟩
  | .hbm, ⟨14, _⟩ => ⟨S8x4096x2816, .f32⟩
  | .hbm, ⟨15, _⟩ => ⟨S_, .f32⟩
  | .hbm, ⟨16, _⟩ => ⟨S8x2x2816, .f32⟩
  | .hbm, ⟨17, _⟩ => ⟨S8x4098x2816, .f32⟩
  | .hbm, ⟨18, _⟩ => ⟨S2816, .f32⟩
  | .hbm, ⟨19, _⟩ => ⟨S1x1x2816, .f32⟩
  | .hbm, ⟨20, _⟩ => ⟨S2816, .f32⟩
  | .hbm, ⟨21, _⟩ => ⟨S8x4096x2816, .f32⟩
  | .hbm, ⟨22, _⟩ => ⟨S1x1x2816, .f32⟩
  | .hbm, ⟨23, _⟩ => ⟨S8x4096x2816, .f32⟩
  | .hbm, ⟨24, _⟩ => ⟨S8x4096x2816, .f32⟩
  | .hbm, ⟨25, _⟩ => ⟨S1x1x2816, .f32⟩
  | .hbm, ⟨26, _⟩ => ⟨S8x4096x2816, .f32⟩
  | .hbm, ⟨27, _⟩ => ⟨S8x4096x2816, .f32⟩
  | .hbm, ⟨28, _⟩ => ⟨S1x1x2816, .f32⟩
  | .hbm, ⟨29, _⟩ => ⟨S2816, .f32⟩
  | .hbm, ⟨30, _⟩ => ⟨S8x4096x2816, .f32⟩
  | .hbm, ⟨31, _⟩ => ⟨S1x1x2816, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S1x1x2816, .f32⟩
  | .hbm, ⟨36, _⟩ => ⟨S2816, .f32⟩
  | .hbm, ⟨37, _⟩ => ⟨S8x4096x2816, .f32⟩
  | .hbm, ⟨38, _⟩ => ⟨S1x1x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S2816x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x2x2816, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x5632 : Shape := ⟨3, ![1, 1024, 5632]⟩
abbrev S2x512 : Shape := ⟨2, ![2, 512]⟩
abbrev S1024x5632 : Shape := ⟨2, ![1024, 5632]⟩
abbrev S1024 : Shape := ⟨1, ![1024]⟩
abbrev S32768x1024 : Shape := ⟨2, ![32768, 1024]⟩
abbrev S8x512x4096 : Shape := ⟨3, ![8, 512, 4096]⟩
abbrev S32768x512 : Shape := ⟨2, ![32768, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S256x512 : Shape := ⟨2, ![256, 512]⟩
abbrev S512 : Shape := ⟨1, ![512]⟩
abbrev S1x512 : Shape := ⟨2, ![1, 512]⟩
abbrev S512x256 : Shape := ⟨2, ![512, 256]⟩
abbrev S1x512x256 : Shape := ⟨3, ![1, 512, 256]⟩

abbrev nBuf : Space → Nat
  | .hbm => 23
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x5632, .f32⟩
  | .hbm, ⟨5, _⟩ => ⟨S2x512, .f32⟩
  | .hbm, ⟨6, _⟩ => ⟨S1024x5632, .f32⟩
  | .hbm, ⟨7, _⟩ => ⟨S1024x5632, .bf16⟩
  | .hbm, ⟨8, _⟩ => ⟨S1024, .f32⟩
  | .hbm, ⟨9, _⟩ => ⟨S1x1024, .f32⟩
  | .hbm, ⟨10, _⟩ => ⟨S32768x1024, .f32⟩
  | .hbm, ⟨11, _⟩ => ⟨S8x512x4096, .bf16⟩
  | .hbm, ⟨12, _⟩ => ⟨S8x512x4096, .f32⟩
  | .hbm, ⟨13, _⟩ => ⟨S8x512x4096, .f32⟩
  | .hbm, ⟨14, _⟩ => ⟨S32768x512, .bf16⟩
  | .hbm, ⟨15, _⟩ => ⟨S8x512x4096, .bf16⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x1024, .bf16⟩
  | .hbm, ⟨22, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S2x512, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .bf16⟩
  | .local _ .vmem, ⟨16, _⟩ => ⟨S512x512, .bf16⟩
  | .local _ .vmem, ⟨17, _⟩ => ⟨S1x512x512, .bf16⟩
  | .local _ .vmem, ⟨18, _⟩ => ⟨S1x512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v5_8 : Ref sig .tc := ⟨.hbm, 19, rfl⟩
abbrev main_v5_9 : Ref sig .tc := ⟨.hbm, 20, rfl⟩
abbrev main_v5_10 : Ref sig .tc := ⟨.hbm, 21, rfl⟩
abbrev main_v5_11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x5632 : Shape := ⟨3, ![1, 1024, 5632]⟩
abbrev S2x512 : Shape := ⟨2, ![2, 512]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x512 : Shape := ⟨3, ![8, 4096, 512]⟩
abbrev S512 : Shape := ⟨1, ![512]⟩
abbrev S1x512 : Shape := ⟨2, ![1, 512]⟩
abbrev S1x1x512 : Shape := ⟨3, ![1, 1, 512]⟩
abbrev S8x512x4096 : Shape := ⟨3, ![8, 512, 4096]⟩
abbrev S32768x512 : Shape := ⟨2, ![32768, 512]⟩
abbrev S32768x1024 : Shape := ⟨2, ![32768, 1024]⟩

abbrev nBuf : Space → Nat
  | .hbm => 156
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1x1024, .f32⟩
  | 4 => ⟨S1x1024x5632, .f32⟩
  | 5 => ⟨S2x512, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1024, .f32⟩
  | 20 => ⟨S1x1x1024, .f32⟩
  | 21 => ⟨S8x4096x1024, .f32⟩
  | 22 => ⟨S8x4096x1024, .f32⟩
  | 23 => ⟨S_, .f32⟩
  | 24 => ⟨S8x1x1024, .f32⟩
  | 25 => ⟨S8x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S1024x5632, .f32⟩
  | 31 => ⟨S8x4096x5632, .f32⟩
  | 32 => ⟨S8x4096x512, .f32⟩
  | 33 => ⟨S8x4096x512, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .f32⟩
  | 39 => ⟨S8x4096x1024, .f32⟩
  | 40 => ⟨S8x4096x1024, .f32⟩
  | 41 => ⟨S_, .f32⟩
  | 42 => ⟨S512, .f32⟩
  | 43 => ⟨S_, .f32⟩
  | 44 => ⟨S512, .f32⟩
  | 45 => ⟨S512, .f32⟩
  | 46 => ⟨S1x512, .f32⟩
  | 47 => ⟨S2x512, .f32⟩
  | 48 => ⟨S2x512, .f32⟩
  | 49 => ⟨S2x512, .f32⟩
  | 50 => ⟨S_, .f32⟩
  | 51 => ⟨S512, .f32⟩
  | 52 => ⟨S1x512, .f32⟩
  | 53 => ⟨S2x512, .f32⟩
  | 54 => ⟨S2x512, .f32⟩
  | 55 => ⟨S_, .f32⟩
  | 56 => ⟨S_, .f32⟩
  | 57 => ⟨S2x512, .f32⟩
  | 58 => ⟨S1x512, .f32⟩
  | 59 => ⟨S512, .f32⟩
  | 60 => ⟨S512, .f32⟩
  | 61 => ⟨S512, .f32⟩
  | 62 => ⟨S512, .f32⟩
  | 63 => ⟨S8x4096x512, .f32⟩
  | 64 => ⟨S_, .f32⟩
  | 65 => ⟨S8x4096x512, .f32⟩
  | 66 => ⟨S8x4096x512, .f32⟩
  | 67 => ⟨S8x4096x512, .f32⟩
  | 68 => ⟨S8x4096x512, .f32⟩
  | 69 => ⟨S8x4096x512, .i1⟩
  | 70 => ⟨S8x4096x512, .f32⟩
  | 71 => ⟨S8x4096x512, .f32⟩
  | 72 => ⟨S8x4096x512, .f32⟩
  | 73 => ⟨S8x4096x512, .f32⟩
  | 74 => ⟨S8x4096x512, .f32⟩
  | 75 => ⟨S8x4096x512, .f32⟩
  | 76 => ⟨S8x4096x512, .f32⟩
  | 77 => ⟨S8x4096x512, .f32⟩
  | 78 => ⟨S8x4096x512, .f32⟩
  | 79 => ⟨S1x1x512, .f32⟩
  | 80 => ⟨S8x4096x512, .f32⟩
  | 81 => ⟨S8x4096x512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S8x4096x512, .i1⟩
  | 88 => ⟨S8x4096x512, .f32⟩
  | 89 => ⟨S8x4096x512, .f32⟩
  | 90 => ⟨S8x4096x512, .f32⟩
  | 91 => ⟨S8x4096x512, .f32⟩
  | 92 => ⟨S8x4096x512, .f32⟩
  | 93 => ⟨S8x4096x512, .f32⟩
  | 94 => ⟨S8x4096x512, .f32⟩
  | 95 => ⟨S8x4096x512, .f32⟩
  | 96 => ⟨S8x4096x512, .f32⟩
  | 97 => ⟨S8x4096x512, .f32⟩
  | 98 => ⟨S_, .f32⟩
  | 99 => ⟨S8x4096x512, .f32⟩
  | 100 => ⟨S8x4096x512, .f32⟩
  | 101 => ⟨S8x4096x512, .f32⟩
  | 102 => ⟨S8x4096x512, .f32⟩
  | 103 => ⟨S_, .f32⟩
  | 104 => ⟨S8x4096x512, .f32⟩
  | 105 => ⟨S8x4096x512, .f32⟩
  | 106 => ⟨S_, .f32⟩
  | 107 => ⟨S8x4096x512, .f32⟩
  | 108 => ⟨S8x4096x512, .f32⟩
  | 109 => ⟨S8x4096x512, .f32⟩
  | 110 => ⟨S8x4096x512, .f32⟩
  | 111 => ⟨S8x4096x512, .f32⟩
  | 112 => ⟨S_, .f32⟩
  | 113 => ⟨S8x4096x512, .f32⟩
  | 114 => ⟨S8x4096x512, .f32⟩
  | 115 => ⟨S_, .f32⟩
  | 116 => ⟨S8x4096x512, .f32⟩
  | 117 => ⟨S8x4096x512, .f32⟩
  | 118 => ⟨S8x4096x512, .f32⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S_, .f32⟩
  | 2 => ⟨S8x4096x1024, .f32⟩
  | 3 => ⟨S8x4096x1024, .f32⟩
  | 4 => ⟨S_, .f32⟩
  | 5 => ⟨S8x4096x1024, .f32⟩
  | 6 => ⟨S8x4096x1024, .f32⟩
  | 7 => ⟨S8x512x4096, .f32⟩
  | 8 => ⟨S8x512x4096, .bf16⟩
  | 9 => ⟨S8x512x4096, .f32⟩
  | 10 => ⟨S8x512x4096, .f32⟩
  | 11 => ⟨S32768x512, .f32⟩
  | 12 => ⟨S32768x512, .bf16⟩
  | 13 => ⟨S8x512x4096, .f32⟩
  | 14 => ⟨S8x512x4096, .bf16⟩
  | 15 => ⟨S32768x512, .f32⟩
  | 16 => ⟨S32768x512, .bf16⟩
  | 17 => ⟨S32768x512, .f32⟩
  | 18 => ⟨S32768x512, .f32⟩
  | 19 => ⟨S32768x512, .bf16⟩
  | 20 => ⟨S32768x512, .f32⟩
  | 21 => ⟨S32768x512, .bf16⟩
  | 22 => ⟨S32768x512, .f32⟩
  | 23 => ⟨S32768x512, .bf16⟩
  | 24 => ⟨S32768x1024, .f32⟩
  | 25 => ⟨S32768x1024, .bf16⟩
  | 26 => ⟨S32768x1024, .f32⟩
  | 27 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_call0_cst : Ref sig .tc := ⟨.hbm, 55, rfl⟩
abbrev main_call0_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_v68 : Ref sig .tc := ⟨.hbm, 99, rfl⟩
abbrev main_v69 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v70 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_7 : Ref sig .tc := ⟨.hbm, 121, rfl⟩
abbrev main_v74 : Ref sig .tc := ⟨.hbm, 122, rfl⟩
abbrev main_v75 : Ref sig .tc := ⟨.hbm, 123, rfl⟩
abbrev main_cst_8 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_cst_10 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩

abbrev nD : Nat := 1
abbrev τ : Topo := Topo.v7x

variable {F : FTy → Type} [FloatOps F]
-- ==== Kernel4.lean ====
abbrev S32x4x1024 : Shape := ⟨3, ![32, 4, 1024]⟩
abbrev S32x1x1024 : Shape := ⟨3, ![32, 1, 1024]⟩
abbrev S1x1024 : Shape := ⟨2, ![1, 1024]⟩
abbrev S1x1024x5632 : Shape := ⟨3, ![1, 1024, 5632]⟩
abbrev S2x512 : Shape := ⟨2, ![2, 512]⟩
abbrev S1024x5632 : Shape := ⟨2, ![1024, 5632]⟩
abbrev S1024 : Shape := ⟨1, ![1024]⟩
abbrev S128x1024 : Shape := ⟨2, ![128, 1024]⟩
abbrev S32x1024 : Shape := ⟨2, ![32, 1024]⟩
abbrev S1x128x1024 : Shape := ⟨3, ![1, 128, 1024]⟩
abbrev S128x512 : Shape := ⟨2, ![128, 512]⟩
abbrev S128 : Shape := ⟨1, ![128]⟩
abbrev S128x1 : Shape := ⟨2, ![128, 1]⟩
abbrev S1024x1024 : Shape := ⟨2, ![1024, 1024]⟩
abbrev S1024x512 : Shape := ⟨2, ![1024, 512]⟩
abbrev S512 : Shape := ⟨1, ![512]⟩
abbrev S1x512 : Shape := ⟨2, ![1, 512]⟩

abbrev nBuf : Space → Nat
  | .hbm => 31
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1x1024, .f32⟩
  | .hbm, ⟨4, _⟩ => ⟨S1x1024x5632, .f32⟩
  | .hbm, ⟨5, _⟩ => ⟨S2x512, .f32⟩
  | .hbm, ⟨6, _⟩ => ⟨S1024x5632, .f32⟩
  | .hbm, ⟨7, _⟩ => ⟨S1024x5632, .bf16⟩
  | .hbm, ⟨8, _⟩ => ⟨S1024, .f32⟩
  | .hbm, ⟨9, _⟩ => ⟨S1x1024, .f32⟩
  | .hbm, ⟨10, _⟩ => ⟨S128x1024, .f32⟩
  | .hbm, ⟨11, _⟩ => ⟨S32x1024, .f32⟩
  | .hbm, ⟨12, _⟩ => ⟨S32x4x1024, .f32⟩
  | .hbm, ⟨13, _⟩ => ⟨S128x1024, .f32⟩
  | .hbm, ⟨14, _⟩ => ⟨S1x128x1024, .f32⟩
  | .hbm, ⟨15, _⟩ => ⟨S32x1024, .f32⟩
  | .hbm, ⟨16, _⟩ => ⟨S32x4x1024, .f32⟩
  | .hbm, ⟨17, _⟩ => ⟨S128x1024, .f32⟩
  | .hbm, ⟨18, _⟩ => ⟨S1x128x1024, .f32⟩
  | .hbm, ⟨19, _⟩ => ⟨S128x512, .bf16⟩
  | .hbm, ⟨20, _⟩ => ⟨S128x512, .f32⟩
  | .hbm, ⟨21, _⟩ => ⟨S128x512, .f32⟩
  | .hbm, ⟨22, _⟩ => ⟨S128x512, .bf16⟩
  | .hbm, ⟨23, _⟩ => ⟨S128x512, .bf16⟩
  | .hbm, ⟨24, _⟩ => ⟨S128x512, .bf16⟩
  | .hbm, ⟨25, _⟩ => ⟨S128x512, .f32⟩
  | .hbm, ⟨26, _⟩ => ⟨S128x512, .bf16⟩
  | .hbm, ⟨27, _⟩ => ⟨S128x512, .bf16⟩
  | .hbm, ⟨28, _⟩ => ⟨S128x512, .bf16⟩
  | .hbm, ⟨29, _⟩ => ⟨S128x1024, .bf16⟩
  | .hbm, ⟨30, _⟩ => ⟨S128x1024, .bf16⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x5632, .bf16⟩
  | .local _ .vmem, ⟨5, _⟩ => ⟨S2x512, .f32⟩
  | .local _ .vmem, ⟨6, _⟩ => ⟨S128x512, .bf16⟩
  | .local _ .vmem, ⟨7, _⟩ => ⟨S128x512, .f32⟩
  | .local _ .vmem, ⟨8, _⟩ => ⟨S128x512, .f32⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev main_v13_9 : Ref sig .tc := ⟨.hbm, 28, rfl⟩
abbrev main_v13_10 : Ref sig .tc := ⟨.hbm, 29, rfl⟩
abbrev main_v13_11 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== Reference4Ideal.lean ====
abbrev S32x4x1024 : Shape := ⟨3, ![32, 4, 1024]⟩
abbrev S32x1x1024 : Shape := ⟨3, ![32, 1, 1024]⟩
abbrev S1x1024 : Shape := ⟨2, ![1, 1024]⟩
abbrev S1x1024x5632 : Shape := ⟨3, ![1, 1024, 5632]⟩
abbrev S2x512 : Shape := ⟨2, ![2, 512]⟩
abbrev S_ : Shape := ⟨0, ![]⟩
abbrev S32x4 : Shape := ⟨2, ![32, 4]⟩
abbrev S32x4x1 : Shape := ⟨3, ![32, 4, 1]⟩
abbrev S1024 : Shape := ⟨1, ![1024]⟩
abbrev S1x1x1024 : Shape := ⟨3, ![1, 1, 1024]⟩
abbrev S1024x5632 : Shape := ⟨2, ![1024, 5632]⟩
abbrev S32x4x5632 : Shape := ⟨3, ![32, 4, 5632]⟩
abbrev S32x4x512 : Shape := ⟨3, ![32, 4, 512]⟩
abbrev S512 : Shape := ⟨1, ![512]⟩
abbrev S1x512 : Shape := ⟨2, ![1, 512]⟩
abbrev S1x1x512 : Shape := ⟨3, ![1, 1, 512]⟩
abbrev S128x512 : Shape := ⟨2, ![128, 512]⟩
abbrev S128x1024 : Shape := ⟨2, ![128, 1024]⟩

abbrev nBuf : Space → Nat
  | .hbm => 156
  | .vmem => 0
  | .smem => 0
  | _ => 0

abbrev hbmTy0_0 (i : Nat) : BufTy := match i % 128 with
  | 0 => ⟨S32x4x1024, .f32⟩
  | 1 => ⟨S32x1x1024, .f32⟩
  | 2 => ⟨S32x1x1024, .f32⟩
  | 3 => ⟨S1x1024, .f32⟩
  | 4 => ⟨S1x1024x5632, .f32⟩
  | 5 => ⟨S2x512, .f32⟩
  | 6 => ⟨S32x4x1024, .f32⟩
  | 7 => ⟨S_, .f32⟩
  | 8 => ⟨S32x4, .f32⟩
  | 9 => ⟨S32x4x1, .f32⟩
  | 10 => ⟨S_, .f32⟩
  | 11 => ⟨S32x4x1, .f32⟩
  | 12 => ⟨S32x4x1, .f32⟩
  | 13 => ⟨S_, .f32⟩
  | 14 => ⟨S32x4x1, .f32⟩
  | 15 => ⟨S32x4x1, .f32⟩
  | 16 => ⟨S32x4x1, .f32⟩
  | 17 => ⟨S32x4x1024, .f32⟩
  | 18 => ⟨S32x4x1024, .f32⟩
  | 19 => ⟨S1024, .f32⟩
  | 20 => ⟨S1x1x1024, .f32⟩
  | 21 => ⟨S32x4x1024, .f32⟩
  | 22 => ⟨S32x4x1024, .f32⟩
  | 23 => ⟨S_, .f32⟩
  | 24 => ⟨S32x1x1024, .f32⟩
  | 25 => ⟨S32x1x1024, .f32⟩
  | 26 => ⟨S32x4x1024, .f32⟩
  | 27 => ⟨S32x4x1024, .f32⟩
  | 28 => ⟨S32x4x1024, .f32⟩
  | 29 => ⟨S32x4x1024, .f32⟩
  | 30 => ⟨S1024x5632, .f32⟩
  | 31 => ⟨S32x4x5632, .f32⟩
  | 32 => ⟨S32x4x512, .f32⟩
  | 33 => ⟨S32x4x512, .f32⟩
  | 34 => ⟨S32x4x512, .f32⟩
  | 35 => ⟨S32x4x512, .f32⟩
  | 36 => ⟨S32x4x512, .f32⟩
  | 37 => ⟨S32x4x512, .f32⟩
  | 38 => ⟨S32x4x512, .f32⟩
  | 39 => ⟨S32x4x1024, .f32⟩
  | 40 => ⟨S32x4x1024, .f32⟩
  | 41 => ⟨S_, .f32⟩
  | 42 => ⟨S512, .f32⟩
  | 43 => ⟨S_, .f32⟩
  | 44 => ⟨S512, .f32⟩
  | 45 => ⟨S512, .f32⟩
  | 46 => ⟨S1x512, .f32⟩
  | 47 => ⟨S2x512, .f32⟩
  | 48 => ⟨S2x512, .f32⟩
  | 49 => ⟨S2x512, .f32⟩
  | 50 => ⟨S_, .f32⟩
  | 51 => ⟨S512, .f32⟩
  | 52 => ⟨S1x512, .f32⟩
  | 53 => ⟨S2x512, .f32⟩
  | 54 => ⟨S2x512, .f32⟩
  | 55 => ⟨S_, .f32⟩
  | 56 => ⟨S_, .f32⟩
  | 57 => ⟨S2x512, .f32⟩
  | 58 => ⟨S1x512, .f32⟩
  | 59 => ⟨S512, .f32⟩
  | 60 => ⟨S512, .f32⟩
  | 61 => ⟨S512, .f32⟩
  | 62 => ⟨S512, .f32⟩
  | 63 => ⟨S32x4x512, .f32⟩
  | 64 => ⟨S_, .f32⟩
  | 65 => ⟨S32x4x512, .f32⟩
  | 66 => ⟨S32x4x512, .f32⟩
  | 67 => ⟨S32x4x512, .f32⟩
  | 68 => ⟨S32x4x512, .f32⟩
  | 69 => ⟨S32x4x512, .i1⟩
  | 70 => ⟨S32x4x512, .f32⟩
  | 71 => ⟨S32x4x512, .f32⟩
  | 72 => ⟨S32x4x512, .f32⟩
  | 73 => ⟨S32x4x512, .f32⟩
  | 74 => ⟨S32x4x512, .f32⟩
  | 75 => ⟨S32x4x512, .f32⟩
  | 76 => ⟨S32x4x512, .f32⟩
  | 77 => ⟨S32x4x512, .f32⟩
  | 78 => ⟨S32x4x512, .f32⟩
  | 79 => ⟨S1x1x512, .f32⟩
  | 80 => ⟨S32x4x512, .f32⟩
  | 81 => ⟨S32x4x512, .f32⟩
  | 82 => ⟨S1x1x512, .f32⟩
  | 83 => ⟨S32x4x512, .f32⟩
  | 84 => ⟨S32x4x512, .f32⟩
  | 85 => ⟨S32x4x512, .f32⟩
  | 86 => ⟨S32x4x512, .f32⟩
  | 87 => ⟨S32x4x512, .i1⟩
  | 88 => ⟨S32x4x512, .f32⟩
  | 89 => ⟨S32x4x512, .f32⟩
  | 90 => ⟨S32x4x512, .f32⟩
  | 91 => ⟨S32x4x512, .f32⟩
  | 92 => ⟨S32x4x512, .f32⟩
  | 93 => ⟨S32x4x512, .f32⟩
  | 94 => ⟨S32x4x512, .f32⟩
  | 95 => ⟨S32x4x512, .f32⟩
  | 96 => ⟨S32x4x512, .f32⟩
  | 97 => ⟨S32x4x512, .f32⟩
  | 98 => ⟨S_, .f32⟩
  | 99 => ⟨S32x4x512, .f32⟩
  | 100 => ⟨S32x4x512, .f32⟩
  | 101 => ⟨S32x4x512, .f32⟩
  | 102 => ⟨S32x4x512, .f32⟩
  | 103 => ⟨S_, .f32⟩
  | 104 => ⟨S32x4x512, .f32⟩
  | 105 => ⟨S32x4x512, .f32⟩
  | 106 => ⟨S_, .f32⟩
  | 107 => ⟨S32x4x512, .f32⟩
  | 108 => ⟨S32x4x512, .f32⟩
  | 109 => ⟨S32x4x512, .f32⟩
  | 110 => ⟨S32x4x512, .f32⟩
  | 111 => ⟨S32x4x512, .f32⟩
  | 112 => ⟨S_, .f32⟩
  | 113 => ⟨S32x4x512, .f32⟩
  | 114 => ⟨S32x4x512, .f32⟩
  | 115 => ⟨S_, .f32⟩
  | 116 => ⟨S32x4x512, .f32⟩
  | 117 => ⟨S32x4x512, .f32⟩
  | 118 => ⟨S32x4x512, .f32⟩
  | 119 => ⟨S32x4x1024, .f32⟩
  | 120 => ⟨S32x4x1024, .f32⟩
  | 121 => ⟨S_, .f32⟩
  | 122 => ⟨S32x4x1024, .f32⟩
  | 123 => ⟨S32x4x1024, .f32⟩
  | 124 => ⟨S_, .f32⟩
  | 125 => ⟨S32x4x1024, .f32⟩
  | 126 => ⟨S32x4x1024, .f32⟩
  | 127 => ⟨S32x4x1024, .f32⟩
  | _ => ⟨S32x4x1024, .f32⟩

abbrev hbmTy0_1 (i : Nat) : BufTy := match i % 128 with
  | 0 => ⟨S32x4x1024, .f32⟩
  | 1 => ⟨S_, .f32⟩
  | 2 => ⟨S32x4x1024, .f32⟩
  | 3 => ⟨S32x4x1024, .f32⟩
  | 4 => ⟨S_, .f32⟩
  | 5 => ⟨S32x4x1024, .f32⟩
  | 6 => ⟨S32x4x1024, .f32⟩
  | 7 => ⟨S128x512, .f32⟩
  | 8 => ⟨S128x512, .bf16⟩
  | 9 => ⟨S128x512, .f32⟩
  | 10 => ⟨S128x512, .f32⟩
  | 11 => ⟨S128x512, .f32⟩
  | 12 => ⟨S128x512, .bf16⟩
  | 13 => ⟨S128x512, .f32⟩
  | 14 => ⟨S128x512, .bf16⟩
  | 15 => ⟨S128x512, .f32⟩
  | 16 => ⟨S128x512, .bf16⟩
  | 17 => ⟨S128x512, .f32⟩
  | 18 => ⟨S128x512, .f32⟩
  | 19 => ⟨S128x512, .bf16⟩
  | 20 => ⟨S128x512, .f32⟩
  | 21 => ⟨S128x512, .bf16⟩
  | 22 => ⟨S128x512, .f32⟩
  | 23 => ⟨S128x512, .bf16⟩
  | 24 => ⟨S128x1024, .f32⟩
  | 25 => ⟨S128x1024, .bf16⟩
  | 26 => ⟨S128x1024, .f32⟩
  | 27 => ⟨S128x1024, .bf16⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_call0_cst : Ref sig .tc := ⟨.hbm, 55, rfl⟩
abbrev main_call0_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_v68 : Ref sig .tc := ⟨.hbm, 99, rfl⟩
abbrev main_v69 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v70 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_7 : Ref sig .tc := ⟨.hbm, 121, rfl⟩
abbrev main_v74 : Ref sig .tc := ⟨.hbm, 122, rfl⟩
abbrev main_v75 : Ref sig .tc := ⟨.hbm, 123, rfl⟩
abbrev main_cst_8 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_cst_10 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩

abbrev nD : Nat := 1
abbrev τ : Topo := Topo.v7x

variable {F : FTy → Type} [FloatOps F]
-- ==== Kernel5.lean ====
abbrev S32768x512 : Shape := ⟨2, ![32768, 512]⟩
abbrev S32768x1024 : Shape := ⟨2, ![32768, 1024]⟩
abbrev S8x4096x1024 : Shape := ⟨3, ![8, 4096, 1024]⟩
abbrev S8x1x1024 : Shape := ⟨3, ![8, 1, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S1x1x1024 : Shape := ⟨3, ![1, 1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 24
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S32768x512 : Shape := ⟨2, ![32768, 512]⟩
abbrev S32768x1024 : Shape := ⟨2, ![32768, 1024]⟩
abbrev S8x4096x1024 : Shape := ⟨3, ![8, 4096, 1024]⟩
abbrev S8x1x1024 : Shape := ⟨3, ![8, 1, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S8x4096x512 : Shape := ⟨3, ![8, 4096, 512]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S32768x512, .f32⟩
  | .hbm, ⟨13, _⟩ => ⟨S8x4096x512, .f32⟩
  | .hbm, ⟨14, _⟩ => ⟨S512x1024, .f32⟩
  | .hbm, ⟨15, _⟩ => ⟨S8x4096x1024, .f32⟩
  | .hbm, ⟨16, _⟩ => ⟨S32768x512, .f32⟩
  | .hbm, ⟨17, _⟩ => ⟨S8x4096x512, .f32⟩
  | .hbm, ⟨18, _⟩ => ⟨S512x1024, .f32⟩
  | .hbm, ⟨19, _⟩ => ⟨S8x4096x1024, .f32⟩
  | .hbm, ⟨20, _⟩ => ⟨S32768x1024, .f32⟩
  | .hbm, ⟨21, _⟩ => ⟨S8x4096x1024, .f32⟩
  | .hbm, ⟨22, _⟩ => ⟨S8x4096x1024, .f32⟩
  | .hbm, ⟨23, _⟩ => ⟨S32768x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S1024x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S32768x1024, .f32⟩
  | .hbm, ⟨57, _⟩ => ⟨S32768x1024, .f32⟩
  | .hbm, ⟨58, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel6.lean ====
abbrev S128x1024 : Shape := ⟨2, ![128, 1024]⟩
abbrev S32x1x1024 : Shape := ⟨3, ![32, 1, 1024]⟩
abbrev S1x32x2x2816 : Shape := ⟨4, ![1, 32, 2, 2816]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S3x2816 : Shape := ⟨2, ![3, 2816]⟩
abbrev S2816 : Shape := ⟨1, ![2816]⟩
abbrev S32x1024 : Shape := ⟨2, ![32, 1024]⟩
abbrev S32x4x1024 : Shape := ⟨3, ![32, 4, 1024]⟩
abbrev S1x128x1024 : Shape := ⟨3, ![1, 128, 1024]⟩
abbrev S32x2x2816 : Shape := ⟨3, ![32, 2, 2816]⟩
abbrev S32x1x2816 : Shape := ⟨3, ![32, 1, 2816]⟩
abbrev S_ : Shape := ⟨0, ![]⟩
abbrev S32x3x2816 : Shape := ⟨3, ![32, 3, 2816]⟩
abbrev S32x4x2816 : Shape := ⟨3, ![32, 4, 2816]⟩
abbrev S128x2816 : Shape := ⟨2, ![128, 2816]⟩
abbrev S128x256 : Shape := ⟨2, ![128, 256]⟩
abbrev S1024x256 : Shape := ⟨2, ![1024, 256]⟩
abbrev S1x256 : Shape := ⟨2, ![1, 256]⟩
abbrev S128 : Shape := ⟨1, ![128]⟩
abbrev S128x1 : Shape := ⟨2, ![128, 1]⟩

abbrev nBuf : Space → Nat
  | .hbm => 33
  | .vmem => 13
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S32x1x1024, .f32⟩
  | .hbm, ⟨3, _⟩ => ⟨S1x32x2x2816, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S1024x5632, .f32⟩
  | .hbm, ⟨10, _⟩ => ⟨S1024x5632, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S3x2816, .f32⟩
  | .hbm, ⟨15, _⟩ => ⟨S2816, .f32⟩
  | .hbm, ⟨16, _⟩ => ⟨S1x2816, .f32⟩
  | .hbm, ⟨17, _⟩ => ⟨S32x1024, .f32⟩
  | .hbm, ⟨18, _⟩ => ⟨S32x4x1024, .f32⟩
  | .hbm, ⟨19, _⟩ => ⟨S128x1024, .f32⟩
  | .hbm, ⟨20, _⟩ => ⟨S1x128x1024, .f32⟩
  | .hbm, ⟨21, _⟩ => ⟨S32x2x2816, .f32⟩
  | .hbm, ⟨22, _⟩ => ⟨S32x1x2816, .f32⟩
  | .hbm, ⟨23, _⟩ => ⟨S_, .f32⟩
  | .hbm, ⟨24, _⟩ => ⟨S32x3x2816, .f32⟩
  | .hbm, ⟨25, _⟩ => ⟨S32x4x2816, .f32⟩
  | .hbm, ⟨26, _⟩ => ⟨S128x2816, .f32⟩
  | .hbm, ⟨27, _⟩ => ⟨S_, .f32⟩
  | .hbm, ⟨28, _⟩ => ⟨S32x2x2816, .f32⟩
  | .hbm, ⟨29, _⟩ => ⟨S32x4x2816, .f32⟩
  | .hbm, ⟨30, _⟩ => ⟨S128x2816, .f32⟩
  | .hbm, ⟨31, _⟩ => ⟨S128x1024, .f32⟩
  | .hbm, ⟨32, _⟩ => ⟨S128x2816, .f32⟩
  | .local _ .vmem, ⟨0, _⟩ => ⟨S128x1024, .bf16⟩
  | .local _ .vmem, ⟨1, _⟩ => ⟨S128x1024, .f32⟩
  | .local _ .vmem, ⟨2, _⟩ => ⟨S1x128x1024, .f32⟩
  | .local _ .vmem, ⟨3, _⟩ => ⟨S128x2816, .f32⟩
  | .local _ .vmem, ⟨4, _⟩ => ⟨S128x2816, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S128x1024, .f32⟩
  | .local _ .vmem, ⟨11, _⟩ => ⟨S128x2816, .f32⟩
  | .local _ .vmem, ⟨12, _⟩ => ⟨S128x2816, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference6Ideal.lean ====
abbrev S128x1024 : Shape := ⟨2, ![128, 1024]⟩
abbrev S32x1x1024 : Shape := ⟨3, ![32, 1, 1024]⟩
abbrev S1x32x2x2816 : Shape := ⟨4, ![1, 32, 2, 2816]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S32x4x1024 : Shape := ⟨3, ![32, 4, 1024]⟩
abbrev S1024x5632 : Shape := ⟨2, ![1024, 5632]⟩
abbrev S32x4x5632 : Shape := ⟨3, ![32, 4, 5632]⟩
abbrev S32x4x2816 : Shape := ⟨3, ![32, 4, 2816]⟩
abbrev S32x2x2816 : Shape := ⟨3, ![32, 2, 2816]⟩
abbrev S32x6x2816 : Shape := ⟨3, ![32, 6, 2816]⟩
abbrev S2816 : Shape := ⟨1, ![2816]⟩
abbrev S1x1x2816 : Shape := ⟨3, ![1, 1, 2816]⟩
abbrev S_ : Shape := ⟨0, ![]⟩
abbrev S2816x1024 : Shape := ⟨2, ![2816, 1024]⟩
abbrev S32x4 : Shape := ⟨2, ![32, 4]⟩
abbrev S32x4x1 : Shape := ⟨3, ![32, 4, 1]⟩
abbrev S1x1x1024 : Shape := ⟨3, ![1, 1, 1024]⟩
abbrev S128x2816 : Shape := ⟨2, ![128, 2816]⟩

abbrev nBuf : Space → Nat
  | .hbm => 75
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S32x1x1024, .f32⟩
  | .hbm, ⟨3, _⟩ => ⟨S1x32x2x2816, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S128x1024, .f32⟩
  | .hbm, ⟨10, _⟩ => ⟨S32x4x1024, .f32⟩
  | .hbm, ⟨11, _⟩ => ⟨S32x4x1024, .f32⟩
  | .hbm, ⟨12, _⟩ => ⟨S1024x5632, .f32⟩
  | .hbm, ⟨13, _⟩ => ⟨S32x4x5632, .f32⟩
  | .hbm, ⟨14, _⟩ => ⟨S32x4x2816, .f32⟩
  | .hbm, ⟨15, _⟩ => ⟨S32x4x2816, .f32⟩
  | .hbm, ⟨16, _⟩ => ⟨S32x2x2816, .f32⟩
  | .hbm, ⟨17, _⟩ => ⟨S32x6x2816, .f32⟩
  | .hbm, ⟨18, _⟩ => ⟨S2816, .f32⟩
  | .hbm, ⟨19, _⟩ => ⟨S1x1x2816, .f32⟩
  | .hbm, ⟨20, _⟩ => ⟨S2816, .f32⟩
  | .hbm, ⟨21, _⟩ => ⟨S32x4x2816, .f32⟩
  | .hbm, ⟨22, _⟩ => ⟨S1x1x2816, .f32⟩
  | .hbm, ⟨23, _⟩ => ⟨S32x4x2816, .f32⟩
  | .hbm, ⟨24, _⟩ => ⟨S32x4x2816, .f32⟩
  | .hbm, ⟨25, _⟩ => ⟨S1x1x2816, .f32⟩
  | .hbm, ⟨26, _⟩ => ⟨S32x4x2816, .f32⟩
  | .hbm, ⟨27, _⟩ => ⟨S32x4x2816, .f32⟩
  | .hbm, ⟨28, _⟩ => ⟨S1x1x2816, .f32⟩
  | .hbm, ⟨29, _⟩ => ⟨S2816, .f32⟩
  | .hbm, ⟨30, _⟩ => ⟨S32x4x2816, .f32⟩
  | .hbm, ⟨31, _⟩ => ⟨S1x1x2816, .f32⟩
  | .hbm, ⟨32, _⟩ => ⟨S32x4x2816, .f32⟩
  | .hbm, ⟨33, _⟩ => ⟨S32x4x2816, .f32⟩
  | .hbm, ⟨34, _⟩ => ⟨S32x4x2816, .f32⟩
  | .hbm, ⟨35, _⟩ => ⟨S1x1x2816, .f32⟩
  | .hbm, ⟨36, _⟩ => ⟨S2816, .f32⟩
  | .hbm, ⟨37, _⟩ => ⟨S32x4x2816, .f32⟩
  | .hbm, ⟨38, _⟩ => ⟨S1x1x2816, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S_, .f32⟩
  | .hbm, ⟨43, _⟩ => ⟨S32x4x2816, .f32⟩
  | .hbm, ⟨44, _⟩ => ⟨S32x4x2816, .f32⟩
  | .hbm, ⟨45, _⟩ => ⟨S32x4x2816, .f32⟩
  | .hbm, ⟨46, _⟩ => ⟨S_, .f32⟩
  | .hbm, ⟨47, _⟩ => ⟨S32x4x2816, .f32⟩
  | .hbm, ⟨48, _⟩ => ⟨S32x4x2816, .f32⟩
  | .hbm, ⟨49, _⟩ => ⟨S32x4x2816, .f32⟩
  | .hbm, ⟨50, _⟩ => ⟨S32x4x2816, .f32⟩
  | .hbm, ⟨51, _⟩ => ⟨S32x4x2816, .f32⟩
  | .hbm, ⟨52, _⟩ => ⟨S2816x1024, .f32⟩
  | .hbm, ⟨53, _⟩ => ⟨S32x4x1024, .f32⟩
  | .hbm, ⟨54, _⟩ => ⟨S32x4x1024, .f32⟩
  | .hbm, ⟨55, _⟩ => ⟨S32x4x1024, .f32⟩
  | .hbm, ⟨56, _⟩ => ⟨S32x4x1024, .f32⟩
  | .hbm, ⟨57, _⟩ => ⟨S32x4x1024, .f32⟩
  | .hbm, ⟨58, _⟩ => ⟨S_, .f32⟩
  | .hbm, ⟨59, _⟩ => ⟨S32x4, .f32⟩
  | .hbm, ⟨60, _⟩ => ⟨S32x4x1, .f32⟩
  | .hbm, ⟨61, _⟩ => ⟨S_, .f32⟩
  | .hbm, ⟨62, _⟩ => ⟨S32x4x1, .f32⟩
  | .hbm, ⟨63, _⟩ => ⟨S32x4x1, .f32⟩
  | .hbm, ⟨64, _⟩ => ⟨S_, .f32⟩
  | .hbm, ⟨65, _⟩ => ⟨S32x4x1, .f32⟩
  | .hbm, ⟨66, _⟩ => ⟨S32x4x1, .f32⟩
  | .hbm, ⟨67, _⟩ => ⟨S32x4x1, .f32⟩
  | .hbm, ⟨68, _⟩ => ⟨S32x4x1024, .f32⟩
  | .hbm, ⟨69, _⟩ => ⟨S32x4x1024, .f32⟩
  | .hbm, ⟨70, _⟩ => ⟨S1x1x1024, .f32⟩
  | .hbm, ⟨71, _⟩ => ⟨S32x4x1024, .f32⟩
  | .hbm, ⟨72, _⟩ => ⟨S32x4x1024, .f32⟩
  | .hbm, ⟨73, _⟩ => ⟨S128x1024, .f32⟩
  | .hbm, ⟨74, _⟩ => ⟨S128x2816, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel7.lean ====
abbrev S32768x512 : Shape := ⟨2, ![32768, 512]⟩
abbrev S1x512 : Shape := ⟨2, ![1, 512]⟩
abbrev S512 : Shape := ⟨1, ![512]⟩
abbrev S_ : Shape := ⟨0, ![]⟩
abbrev S8x4x128x128 : Shape := ⟨4, ![8, 4, 128, 128]⟩
abbrev S8x4096x512 : Shape := ⟨3, ![8, 4096, 512]⟩
abbrev S1x1024x512 : Shape := ⟨3, ![1, 1024, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S1x64x128 : Shape := ⟨3, ![1, 64, 128]⟩
abbrev S1x128 : Shape := ⟨2, ![1, 128]⟩
abbrev S64 : Shape := ⟨1, ![64]⟩
abbrev S64x1 : Shape := ⟨2, ![64, 1]⟩

abbrev nBuf : Space → Nat
  | .hbm => 17
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S_, .f32⟩
  | .hbm, ⟨9, _⟩ => ⟨S8x4x128x128, .f32⟩
  | .hbm, ⟨10, _⟩ => ⟨S8x4096x512, .bf16⟩
  | .hbm, ⟨11, _⟩ => ⟨S8x4096x512, .f32⟩
  | .hbm, ⟨12, _⟩ => ⟨S8x4096x512, .bf16⟩
  | .hbm, ⟨13, _⟩ => ⟨S8x4096x512, .bf16⟩
  | .hbm, ⟨14, _⟩ => ⟨S8x4096x512, .bf16⟩
  | .hbm, ⟨15, _⟩ => ⟨S8x4096x512, .bf16⟩
  | .hbm, ⟨16, _⟩ => ⟨S8x4x128x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x4x128x128, .f32⟩
  | .local _ .vmem, ⟨11, _⟩ => ⟨S1x4x128x128, .f32⟩
  | .local _ .vmem, ⟨12, _⟩ => ⟨S1x512, .f32⟩
  | .local _ .vmem, ⟨13, _⟩ => ⟨S1x1024x512, .bf16⟩
  | .local _ .vmem, ⟨14, _⟩ => ⟨S1x1024x512, .bf16⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v6791 : BitVec 1 := Scalar.cmpi .eq arg1 c3_i32
  let v6792 : BitVec 32 := Scalar.extui v6791
  let c0_i32_3303 : BitVec 32 := 0#32
  let v6793 : BitVec 1 := Scalar.cmpi .ne v6792 c0_i32_3303
  v6793

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S32768x512 : Shape := ⟨2, ![32768, 512]⟩
abbrev S1x512 : Shape := ⟨2, ![1, 512]⟩
abbrev S_ : Shape := ⟨0, ![]⟩
abbrev S64x64 : Shape := ⟨2, ![64, 64]⟩
abbrev S8x4x128x128 : Shape := ⟨4, ![8, 4, 128, 128]⟩
abbrev S8x64x64x4x128 : Shape := ⟨5, ![8, 64, 64, 4, 128]⟩
abbrev S64x8x4x64x128 : Shape := ⟨5, ![64, 8, 4, 64, 128]⟩
abbrev S1x8x4x64x128 : Shape := ⟨5, ![1, 8, 4, 64, 128]⟩
abbrev S8x4x64x128 : Shape := ⟨4, ![8, 4, 64, 128]⟩
abbrev S1x1x64x64x1 : Shape := ⟨5, ![1, 1, 64, 64, 1]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S512 : Shape := ⟨1, ![512]⟩
abbrev S4x128 : Shape := ⟨2, ![4, 128]⟩
abbrev S1x1x4x128 : Shape := ⟨4, ![1, 1, 4, 128]⟩
abbrev S8x4096x512 : Shape := ⟨3, ![8, 4096, 512]⟩

abbrev nBuf : Space → Nat
  | .hbm => 140
  | .vmem => 0
  | .smem => 0
  | _ => 0

abbrev hbmTy0_0 (i : Nat) : BufTy := match i % 128 with
  | 0 => ⟨S32768x512, .bf16⟩
  | 1 => ⟨S32768x512, .f32⟩
  | 2 => ⟨S32768x512, .bf16⟩
  | 3 => ⟨S32768x512, .bf16⟩
  | 4 => ⟨S32768x512, .bf16⟩
  | 5 => ⟨S1x512, .f32⟩
  | 6 => ⟨S_, .i1⟩
  | 7 => ⟨S64x64, .i1⟩
  | 8 => ⟨S64x64, .i32⟩
  | 9 => ⟨S_, .i32⟩
  | 10 => ⟨S64x64, .i32⟩
  | 11 => ⟨S64x64, .i32⟩
  | 12 => ⟨S64x64, .i32⟩
  | 13 => ⟨S64x64, .i1⟩
  | 14 => ⟨S_, .i1⟩
  | 15 => ⟨S64x64, .i1⟩
  | 16 => ⟨S64x64, .i1⟩
  | 17 => ⟨S_, .f32⟩
  | 18 => ⟨S8x4x128x128, .f32⟩
  | 19 => ⟨S32768x512, .f32⟩
  | 20 => ⟨S8x64x64x4x128, .f32⟩
  | 21 => ⟨S64x8x4x64x128, .f32⟩
  | 22 => ⟨S32768x512, .f32⟩
  | 23 => ⟨S8x64x64x4x128, .f32⟩
  | 24 => ⟨S64x8x4x64x128, .f32⟩
  | 25 => ⟨S8x64x64x4x128, .f32⟩
  | 26 => ⟨S64x8x4x64x128, .f32⟩
  | 27 => ⟨S32768x512, .f32⟩
  | 28 => ⟨S8x64x64x4x128, .f32⟩
  | 29 => ⟨S64x8x4x64x128, .f32⟩
  | 30 => ⟨S_, .f32⟩
  | 31 => ⟨S64x8x4x64x128, .f32⟩
  | 32 => ⟨S_, .i32⟩
  | 33 => ⟨S64x8x4x64x128, .f32⟩
  | 34 => ⟨S64x8x4x64x128, .f32⟩
  | 35 => ⟨S64x8x4x64x128, .f32⟩
  | 36 => ⟨S64x8x4x64x128, .f32⟩
  | 37 => ⟨S64x64, .i1⟩
  | 38 => ⟨S_, .i32⟩
  | 39 => ⟨S8x4x128x128, .f32⟩
  | 40 => ⟨S64x8x4x64x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x8x4x64x128, .f32⟩
  | 48 => ⟨S8x4x64x128, .f32⟩
  | 49 => ⟨S_, .i32⟩
  | 50 => ⟨S_, .i32⟩
  | 51 => ⟨S_, .i32⟩
  | 52 => ⟨S_, .i32⟩
  | 53 => ⟨S1x8x4x64x128, .f32⟩
  | 54 => ⟨S8x4x64x128, .f32⟩
  | 55 => ⟨S_, .i32⟩
  | 56 => ⟨S_, .i32⟩
  | 57 => ⟨S_, .i32⟩
  | 58 => ⟨S_, .i32⟩
  | 59 => ⟨S1x8x4x64x128, .f32⟩
  | 60 => ⟨S8x4x64x128, .f32⟩
  | 61 => ⟨S_, .i32⟩
  | 62 => ⟨S_, .i32⟩
  | 63 => ⟨S_, .i32⟩
  | 64 => ⟨S_, .i32⟩
  | 65 => ⟨S1x8x4x64x128, .f32⟩
  | 66 => ⟨S8x4x64x128, .f32⟩
  | 67 => ⟨S_, .f32⟩
  | 68 => ⟨S_, .f32⟩
  | 69 => ⟨S8x4x64x128, .f32⟩
  | 70 => ⟨S1x1x64x64x1, .i1⟩
  | 71 => ⟨S8x4x64x1x128, .f32⟩
  | 72 => ⟨S8x4x1x64x128, .f32⟩
  | 73 => ⟨S8x4x64x64x128, .f32⟩
  | 74 => ⟨S8x4x64x64x128, .f32⟩
  | 75 => ⟨S8x4x64x64x128, .f32⟩
  | 76 => ⟨S_, .f32⟩
  | 77 => ⟨S_, .f32⟩
  | 78 => ⟨S8x4x64x64x128, .i1⟩
  | 79 => ⟨S8x4x64x64x128, .f32⟩
  | 80 => ⟨S8x4x64x64x128, .f32⟩
  | 81 => ⟨S8x4x64x1x128, .f32⟩
  | 82 => ⟨S8x4x1x64x128, .f32⟩
  | 83 => ⟨S8x4x64x64x128, .f32⟩
  | 84 => ⟨S8x4x64x64x128, .f32⟩
  | 85 => ⟨S8x4x64x64x128, .f32⟩
  | 86 => ⟨S8x4x64x64x128, .f32⟩
  | 87 => ⟨S8x4x64x64x128, .f32⟩
  | 88 => ⟨S_, .f32⟩
  | 89 => ⟨S8x4x64x64, .f32⟩
  | 90 => ⟨S8x4x64x128, .f32⟩
  | 91 => ⟨S8x4x64x128, .f32⟩
  | 92 => ⟨S8x4x64x128, .f32⟩
  | 93 => ⟨S8x4x64x128, .f32⟩
  | 94 => ⟨S8x4x64x128, .f32⟩
  | 95 => ⟨S8x4x1x128, .f32⟩
  | 96 => ⟨S8x4x128, .f32⟩
  | 97 => ⟨S8x4x128, .f32⟩
  | 98 => ⟨S8x4x128x1, .f32⟩
  | 99 => ⟨S8x4x128x128, .f32⟩
  | 100 => ⟨S8x4x128x128, .f32⟩
  | 101 => ⟨S8x4x64x128, .f32⟩
  | 102 => ⟨S8x4x64x128, .f32⟩
  | 103 => ⟨S8x4x64x128, .f32⟩
  | 104 => ⟨S8x4x64x128, .f32⟩
  | 105 => ⟨S8x4x128x128, .f32⟩
  | 106 => ⟨S8x4x128x128, .f32⟩
  | 107 => ⟨S1x8x4x64x128, .f32⟩
  | 108 => ⟨S_, .i32⟩
  | 109 => ⟨S_, .i32⟩
  | 110 => ⟨S_, .i32⟩
  | 111 => ⟨S_, .i32⟩
  | 112 => ⟨S64x8x4x64x128, .f32⟩
  | 113 => ⟨S_, .i32⟩
  | 114 => ⟨S_, .i32⟩
  | 115 => ⟨S8x64x64x4x128, .f32⟩
  | 116 => ⟨S8x4096x4x128, .f32⟩
  | 117 => ⟨S8x4096x4x128, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S_, .f32⟩
  | 125 => ⟨S8x4096x4x1, .f32⟩
  | 126 => ⟨S8x4096x4x1, .f32⟩
  | 127 => ⟨S8x4096x4x1, .f32⟩
  | _ => ⟨S32768x512, .bf16⟩

abbrev hbmTy0_1 (i : Nat) : BufTy := match i % 128 with
  | 0 => ⟨S8x4096x4x128, .f32⟩
  | 1 => ⟨S8x4096x4x128, .f32⟩
  | 2 => ⟨S512, .f32⟩
  | 3 => ⟨S4x128, .f32⟩
  | 4 => ⟨S1x1x4x128, .f32⟩
  | 5 => ⟨S8x4096x4x128, .f32⟩
  | 6 => ⟨S8x4096x4x128, .f32⟩
  | 7 => ⟨S32768x512, .f32⟩
  | 8 => ⟨S8x4096x4x128, .f32⟩
  | 9 => ⟨S8x4096x4x128, .f32⟩
  | 10 => ⟨S8x4096x512, .f32⟩
  | 11 => ⟨S8x4096x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_c_1 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v15_6 : Ref sig .tc := ⟨.hbm, 39, rfl⟩
abbrev main_v15_7 : Ref sig .tc := ⟨.hbm, 40, rfl⟩
abbrev main_while0c_c_12 : Ref sig .tc := ⟨.hbm, 41, rfl⟩
abbrev main_while0c_v38 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v38 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v39 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v40 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v41 : Ref sig .tc := ⟨.hbm, 66, rfl⟩
abbrev main_while0b_call5_call0_cst : Ref sig .tc := ⟨.hbm, 67, rfl⟩
abbrev main_while0b_call5_call0_v0 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_cst_12 : Ref sig .tc := ⟨.hbm, 76, rfl⟩
abbrev main_while0b_call6_v0 : Ref sig .tc := ⟨.hbm, 77, rfl⟩
abbrev main_while0b_call6_v1 : Ref sig .tc := ⟨.hbm, 78, rfl⟩
abbrev main_while0b_call6_v2 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_v56 : Ref sig .tc := ⟨.hbm, 87, rfl⟩
abbrev main_while0b_cst_13 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_call7_v0 : Ref sig .tc := ⟨.hbm, 107, rfl⟩
abbrev main_while0b_call7_c : Ref sig .tc := ⟨.hbm, 108, rfl⟩
abbrev main_while0b_call7_c_0 : Ref sig .tc := ⟨.hbm, 109, rfl⟩
abbrev main_while0b_call7_c_1 : Ref sig .tc := ⟨.hbm, 110, rfl⟩
abbrev main_while0b_call7_c_2 : Ref sig .tc := ⟨.hbm, 111, rfl⟩
abbrev main_while0b_v75 : Ref sig .tc := ⟨.hbm, 112, rfl⟩
abbrev main_while0b_c_14 : Ref sig .tc := ⟨.hbm, 113, rfl⟩
abbrev main_while0b_v76 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_cst_2 : Ref sig .tc := ⟨.hbm, 118, rfl⟩
abbrev main_v19 : Ref sig .tc := ⟨.hbm, 119, rfl⟩
abbrev main_v20 : Ref sig .tc := ⟨.hbm, 120, rfl⟩
abbrev main_cst_3 : Ref sig .tc := ⟨.hbm, 121, rfl⟩
abbrev main_v21 : Ref sig .tc := ⟨.hbm, 122, rfl⟩
abbrev main_v22 : Ref sig .tc := ⟨.hbm, 123, rfl⟩
abbrev main_cst_4 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩

abbrev nD : Nat := 1
abbrev τ : Topo := Topo.v7x

variable {F : FTy → Type} [FloatOps F]

abbrev main_while0_count : Scf.Loop 32 := ⟨0#32, 64#32, 1#32⟩
-- ==== Proof.Hgrn.Scan.lean ====
module

public import proofs.«01_k».proof.Proof.Gen.KernelIdeal.Skeleton
public import Idealize.ShloMosaic.Lib.Pointwise

/-!
# Running sums by doubling

The recurrence of a block of 64 rows needs the running sums of the logarithms of its forget gates. The kernel takes them
in six rounds: in each round every row adds the row `n` above it, for `n = 1, 2, 4, 8, 16, 32`. Here: what one round does
to a column, that `n`-row windows become `2n`-row windows, and that after the six rounds every row holds the sum of all rows up to it.
-/

@[expose] public section

set_option maxRecDepth 16384

noncomputable section

namespace Cert.KernelIdeal.Hgrn

open Cert.KernelIdeal Cert.KernelIdeal.Gen Idealize.ShloMosaic Idealize.SL.Sem

/-- One round on a column: the row `n` above is added, where there is one. -/
def shiftAdd (n : ℕ) (F : ℕ → EReal) (t : ℕ) : EReal := F t + if n ≤ t then F (t - n) else 0

/-- The sum of the `n` rows that end at row `t`, rows above the first counting as 0. -/
def window (n : ℕ) (F : ℕ → EReal) (t : ℕ) : EReal := ∑ j ∈ Finset.range n, if j ≤ t then F (t - j) else 0

/-- A window of one row is the row. -/
theorem window_one (F : ℕ → EReal) : window 1 F = F := by
  funext t
  simp [window]

/-- Adding the window that ends `n` rows above to a window of `n` rows gives a window of `2n` rows. -/
theorem shiftAdd_window (n : ℕ) (F : ℕ → EReal) : shiftAdd n (window n F) = window (n + n) F := by
  funext t
  unfold shiftAdd window
  rw [Finset.sum_range_add]
  congr 1
  split
  · refine Finset.sum_congr rfl fun j _ => ?_
    by_cases h : n + j ≤ t
    · rw [if_pos h, if_pos (by omega), Nat.sub_sub]
    · rw [if_neg h, if_neg (by omega)]
  · refine (Finset.sum_eq_zero fun j _ => ?_).symm
    rw [if_neg (by omega)]

/-- A window longer than the rows above it is the sum of all rows up to its end. -/
theorem window_eq_prefix (n : ℕ) (F : ℕ → EReal) (t : ℕ) (h : t < n) :
    window n F t = ∑ s ∈ Finset.range (t + 1), F s := by
  unfold window
  rw [← Finset.sum_range_reflect (fun s => F s) (t + 1)]
  rw [← Finset.sum_subset (s₁ := Finset.range (t + 1)) (fun x hx => by
    simp only [Finset.mem_range] at *; omega)]
  · refine Finset.sum_congr rfl fun j hj => ?_
    have hj' := Finset.mem_range.mp hj
    rw [if_pos (by omega)]
    congr 1
  · intro x _ hx
    rw [if_neg (by simpa using hx)]

/-- Six rounds give the sum of all rows up to each of the 64 rows. -/
theorem six_rounds (F : ℕ → EReal) (t : ℕ) (h : t < 64) :
    shiftAdd 32 (shiftAdd 16 (shiftAdd 8 (shiftAdd 4 (shiftAdd 2 (shiftAdd 1 F))))) t
      = ∑ s ∈ Finset.range (t + 1), F s := by
  have e1 : shiftAdd 1 F = window 2 F := by
    have h1 := shiftAdd_window 1 F
    rwa [window_one] at h1
  rw [e1, shiftAdd_window 2, shiftAdd_window 4, shiftAdd_window 8, shiftAdd_window 16, shiftAdd_window 32]
  exact window_eq_prefix _ F t h

/-- One round on a block: each row has the row `n` above added, where there is one. -/
def round (n : BitVec 32) (x : FVec Ideal S64x128 .f32) : FVec Ideal S64x128 .f32 :=
  addf x (select (cmpi .sge (iota .tc S64x128 32 [0] iota_S64x128_d0_w32) (broadcast S64x128 n))
    (dynamicRotate 0 n none x rotates_S64x128_d0) (broadcast S64x128 (Scalar.ofBits .f32 0x00000000#32)))

/-- Column `d` of a block, as a sequence that is 0 past the last row. -/
def col (x : FVec Ideal S64x128 .f32) (d : Fin 128) (t : ℕ) : EReal :=
  if h : t < 64 then x (ix2 ⟨t, h⟩ d) else 0

theorem col_round (n : BitVec 32) (k : ℕ)
    (hn : ∀ (x : FVec Ideal S64x128 .f32) (r : Fin 64) (d : Fin 128),
      round n x (ix2 r d) = x (ix2 r d) + if h : k ≤ r.val then x (ix2 ⟨r.val - k, by omega⟩ d) else 0)
    (x : FVec Ideal S64x128 .f32) (d : Fin 128) (t : ℕ) (ht : t < 64) :
    col (round n x) d t = shiftAdd k (col x d) t := by
  unfold shiftAdd col
  rw [dif_pos ht, dif_pos ht, hn]
  congr 1
  by_cases h : k ≤ t
  · rw [dif_pos h, if_pos h, dif_pos (by omega)]
  · rw [dif_neg h, if_neg h]

/-- A row's own number compared with a round's step. -/
theorem sge_row (k : ℕ) (hk : k < 64) : ∀ r : Fin 64,
    IntOp.cmpi .sge (BitVec.ofNat 32 r.val) (BitVec.ofNat 32 k) = if k ≤ r.val then 1#1 else 0#1 := by
  interval_cases k <;> decide +kernel

/-- What remains of reading one round: the choice by the row's number, and the rotated row's place. -/
theorem round_close (k : ℕ) (hk : k < 64) (x : FVec Ideal S64x128 .f32) (r : Fin 64) (d : Fin 128)
    (p : (r.val + 64 - k) % 64 < 64) :
    x (ix2 r d) + Scalar.select (IntOp.cmpi .sge (BitVec.ofNat 32 r.val) (BitVec.ofNat 32 k))
        (x (ix2 ⟨(r.val + 64 - k) % 64, p⟩ d)) (0 : EReal)
      = x (ix2 r d) + if h : k ≤ r.val then x (ix2 ⟨r.val - k, by omega⟩ d) else 0 := by
  rw [sge_row k hk r]
  by_cases h : k ≤ r.val
  · rw [if_pos h, dif_pos h]
    have e : (⟨(r.val + 64 - k) % 64, p⟩ : Fin 64) = ⟨r.val - k, by omega⟩ := Fin.ext (by
      show (r.val + 64 - k) % 64 = r.val - k
      have := r.isLt
      omega)
    rw [e]
    rfl
  · rw [if_neg h, dif_neg h]
    rfl

/-- The round that adds the row 1 above. -/
theorem round_1 (x : FVec Ideal S64x128 .f32) (r : Fin 64) (d : Fin 128) :
    round 1#32 x (ix2 r d) = x (ix2 r d) + if h : 1 ≤ r.val then x (ix2 ⟨r.val - 1, by omega⟩ d) else 0 := by
  pointwise [round]
  exact round_close 1 (by decide) x r d _

/-- The round that adds the row 2 above. -/
theorem round_2 (x : FVec Ideal S64x128 .f32) (r : Fin 64) (d : Fin 128) :
    round 2#32 x (ix2 r d) = x (ix2 r d) + if h : 2 ≤ r.val then x (ix2 ⟨r.val - 2, by omega⟩ d) else 0 := by
  pointwise [round]
  exact round_close 2 (by decide) x r d _

/-- The round that adds the row 4 above. -/
theorem round_4 (x : FVec Ideal S64x128 .f32) (r : Fin 64) (d : Fin 128) :
    round 4#32 x (ix2 r d) = x (ix2 r d) + if h : 4 ≤ r.val then x (ix2 ⟨r.val - 4, by omega⟩ d) else 0 := by
  pointwise [round]
  exact round_close 4 (by decide) x r d _

/-- The round that adds the row 8 above. -/
theorem round_8 (x : FVec Ideal S64x128 .f32) (r : Fin 64) (d : Fin 128) :
    round 8#32 x (ix2 r d) = x (ix2 r d) + if h : 8 ≤ r.val then x (ix2 ⟨r.val - 8, by omega⟩ d) else 0 := by
  pointwise [round]
  exact round_close 8 (by decide) x r d _

/-- The round that adds the row 16 above. -/
theorem round_16 (x : FVec Ideal S64x128 .f32) (r : Fin 64) (d : Fin 128) :
    round 16#32 x (ix2 r d) = x (ix2 r d) + if h : 16 ≤ r.val then x (ix2 ⟨r.val - 16, by omega⟩ d) else 0 := by
  pointwise [round]
  exact round_close 16 (by decide) x r d _

/-- The round that adds the row 32 above. -/
theorem round_32 (x : FVec Ideal S64x128 .f32) (r : Fin 64) (d : Fin 128) :
    round 32#32 x (ix2 r d) = x (ix2 r d) + if h : 32 ≤ r.val then x (ix2 ⟨r.val - 32, by omega⟩ d) else 0 := by
  pointwise [round]
  exact round_close 32 (by decide) x r d _

/-- The six rounds on a block. -/
def scan (x : FVec Ideal S64x128 .f32) : FVec Ideal S64x128 .f32 :=
  round 32#32 (round 16#32 (round 8#32 (round 4#32 (round 2#32 (round 1#32 x)))))

/-- One round followed by functions that agree below row 64 agree below row 64. -/
theorem shiftAdd_congr (k : ℕ) (F G : ℕ → EReal) (h : ∀ t < 64, F t = G t) : ∀ t < 64, shiftAdd k F t = shiftAdd k G t := by
  intro t ht
  unfold shiftAdd
  rw [h t ht, h (t - k) (by omega)]

/-- After the six rounds row `r` of column `d` holds the sum of the rows up to it. -/
theorem scan_apply (x : FVec Ideal S64x128 .f32) (r : Fin 64) (d : Fin 128) :
    scan x (ix2 r d) = ∑ s ∈ Finset.range (r.val + 1), col x d s := by
  have h0 : scan x (ix2 r d) = col (scan x) d r.val := by
    unfold col
    rw [dif_pos r.isLt]
  rw [h0, ← six_rounds (col x d) r.val r.isLt]
  unfold scan
  have c1 := col_round 1#32 1 round_1 x d
  have c2 := fun t ht => (col_round 2#32 2 round_2 (round 1#32 x) d t ht).trans (shiftAdd_congr 2 _ _ c1 t ht)
  have c3 := fun t ht => (col_round 4#32 4 round_4 _ d t ht).trans (shiftAdd_congr 4 _ _ c2 t ht)
  have c4 := fun t ht => (col_round 8#32 8 round_8 _ d t ht).trans (shiftAdd_congr 8 _ _ c3 t ht)
  have c5 := fun t ht => (col_round 16#32 16 round_16 _ d t ht).trans (shiftAdd_congr 16 _ _ c4 t ht)
  exact (col_round 32#32 32 round_32 _ d r.val r.isLt).trans (shiftAdd_congr 32 _ _ c5 r.val r.isLt)

end Cert.KernelIdeal.Hgrn
-- ==== Proof.Hgrn.Spec.lean ====
module

public import Idealize.ShloMosaic.Lib.Pointwise

/-!
# The gated linear recurrence of one head over four tokens

The closed form that both programs compute for one head of one sequence: the running sums of the gate logarithms, the
output before and after normalisation, and the state after the four tokens.
-/

@[expose] public section

noncomputable section

namespace Cert.Hgrn

open Idealize.ShloMosaic

/-- The running sums of the gate logarithms. -/
def cum (lf : Fin 4 → Fin 128 → EReal) (t : Fin 4) (d : Fin 128) : EReal := ∑ s : Fin 4, if s ≤ t then lf s d else 0

/-- A token's output before normalisation: the earlier tokens, decayed, and the state it started from. -/
def preOut (q k v lf : Fin 4 → Fin 128 → EReal) (S : Fin 128 → Fin 128 → EReal) (t : Fin 4) (j : Fin 128) : EReal :=
  ∑ s : Fin 4, (if s ≤ t then ∑ d : Fin 128, q t d * k s d * Ideal.exp (cum lf t d - cum lf s d) else 0) * v s j
    + ∑ d : Fin 128, q t d * Ideal.exp (cum lf t d) * S d j

/-- Normalisation by the root of the mean square, with the scale `g`, and the gate `hg`. -/
def normGate (o : Fin 128 → EReal) (g : Fin 128 → EReal) (hg : EReal) (j : Fin 128) : EReal :=
  o j * Ideal.rsqrt (Ideal.div (∑ x : Fin 128, o x * o x) (Ideal.ofBits FTy.f32 1124073472#32)
    + Ideal.ofBits FTy.f32 897988541#32) * g j * hg

/-- The state after the four tokens. -/
def newState (k v lf : Fin 4 → Fin 128 → EReal) (S : Fin 128 → Fin 128 → EReal) (d j : Fin 128) : EReal :=
  Ideal.exp (cum lf 3 d) * S d j + ∑ s : Fin 4, k s d * Ideal.exp (cum lf 3 d - cum lf s d) * v s j

/-- A number that is neither infinity. -/
def Finite (x : EReal) : Prop := ∃ r : ℝ, x = (r : EReal)

theorem Finite.zero : Finite 0 := ⟨0, rfl⟩

theorem Finite.add {x y : EReal} (hx : Finite x) (hy : Finite y) : Finite (x + y) := by
  obtain ⟨a, rfl⟩ := hx
  obtain ⟨b, rfl⟩ := hy
  exact ⟨a + b, rfl⟩

theorem Finite.sum {ι : Type} (s : Finset ι) (f : ι → EReal) (h : ∀ i ∈ s, Finite (f i)) : Finite (∑ i ∈ s, f i) := by
  classical
  induction s using Finset.induction_on with
  | empty => exact Finite.zero
  | insert a s ha ih =>
    rw [Finset.sum_insert ha]
    exact (h a (Finset.mem_insert_self a s)).add (ih fun i hi => h i (Finset.mem_insert_of_mem hi))

/-- The running sums of finite logarithms are finite. -/
theorem cum_finite (lf : Fin 4 → Fin 128 → EReal) (h : ∀ s d, Finite (lf s d)) (t : Fin 4) (d : Fin 128) :
    Finite (cum lf t d) :=
  Finite.sum _ _ fun s _ => by
    split
    · exact h s d
    · exact Finite.zero

/-- A decay split at any finite point in between: the two factors' product is the decay. -/
theorem exp_split (x y z : EReal) (hx : Finite x) (hy : Finite y) (hz : Finite z) :
    Ideal.exp (x - z) * Ideal.exp (z - y) = Ideal.exp (x - y) := by
  obtain ⟨a, rfl⟩ := hx
  obtain ⟨b, rfl⟩ := hy
  obtain ⟨c, rfl⟩ := hz
  rw [← EReal.coe_sub, ← EReal.coe_sub, ← EReal.coe_sub, Ideal.exp_coe, Ideal.exp_coe, Ideal.exp_coe, ← EReal.coe_mul,
    ← Real.exp_add]
  congr 2
  ring

/-- The same with the two factors attached to a query and a key. -/
theorem decay_split (q k x y z : EReal) (hx : Finite x) (hy : Finite y) (hz : Finite z) :
    q * Ideal.exp (x - z) * (k * Ideal.exp (z - y)) = q * k * Ideal.exp (x - y) := by
  rw [← exp_split x y z hx hy hz]
  ac_rfl

/-- A head's values for the four tokens of a sequence, out of the flat array of all tokens and channels. -/
def rowsOf (x : (⟨2, ![128, 512]⟩ : Shape).Idx → EReal) (b : Fin 32) (h : Fin 4) (t : Fin 4) (d : Fin 128) : EReal :=
  x (ix2 ⟨b.val * 4 + t.val, by omega⟩ ⟨h.val * 128 + d.val, by omega⟩)

/-- A head's state matrix of a sequence. -/
def stateOf (x : (⟨5, ![1, 32, 4, 128, 128]⟩ : Shape).Idx → EReal) (b : Fin 32) (h : Fin 4) (d j : Fin 128) : EReal :=
  x (ix5 0 b h d j)

/-- A head's normalisation scale. -/
def scaleOf (x : (⟨2, ![1, 512]⟩ : Shape).Idx → EReal) (h : Fin 4) (j : Fin 128) : EReal :=
  x (ix2 0 ⟨h.val * 128 + j.val, by omega⟩)

end Cert.Hgrn
-- ==== Proof.Hgrn.Block.lean ====
module

public import proofs.«01_k».proof.Proof.Hgrn.Scan
public import proofs.«01_k».proof.Proof.Hgrn.Spec

/-!
# What one head of one block computes

The kernel's body treats the four heads alike, each on its own 128 columns of the blocks. The definitions here are that one
head's computation; the theorems read it at an index as sums over the block's 64 rows.
-/

@[expose] public section

set_option maxRecDepth 16384

noncomputable section

namespace Cert.KernelIdeal.Hgrn

open Cert.KernelIdeal Cert.KernelIdeal.Gen Idealize.ShloMosaic Idealize.SL.Sem

/-- The running sums of a head's gate logarithms. -/
def runs (lf : FVec Ideal S1x64x128 .f32) : FVec Ideal S64x128 .f32 :=
  scan (shapeCast S64x128 lf shapeCasts_S1x64x128_S64x128)

/-- A head's block as a matrix of reals. -/
def wide (x : FVec Ideal S1x64x128 .bf16) : FVec Ideal S64x128 .f32 :=
  extf .f32 (shapeCast S64x128 x shapeCasts_S1x64x128_S64x128) bitsLt_bf16_f32

/-- The attention of every row to every row, with the decay between them split at the running sum of row 31. -/
def score (b : FVec Ideal S64x128 .f32) (q k : FVec Ideal S1x64x128 .bf16) : FVec Ideal S64x64 .f32 :=
  let mid := broadcastTo S64x128 (extractStridedSlice S1x128 ![31, 0] b slices_S64x128_o31_0_S1x128) broadcasts_S1x128_S64x128
  matmul dot_S64x128_S64x128_S64x64_1_1_0_0_n_n none
    (truncf .bf16 (mulf (wide q) (exp (subf b mid))) bitsLt_bf16_f32)
    (truncf .bf16 (mulf (wide k) (exp (subf mid b))) bitsLt_bf16_f32)
    (constant S64x64 .f32 0x00000000#32)

/-- What the rows read from the state they started with. -/
def fromState (b : FVec Ideal S64x128 .f32) (q : FVec Ideal S1x64x128 .bf16) (st : FVec Ideal S128x128 .f32) :
    FVec Ideal S64x128 .f32 :=
  matmul dot_S64x128_S128x128_S64x128_1_1_0_0_n_n none
    (truncf .bf16 (mulf (wide q) (exp b)) bitsLt_bf16_f32) (truncf .bf16 st bitsLt_bf16_f32)
    (constant S64x128 .f32 0x00000000#32)

/-- What the rows add to the state, decayed to the last row. -/
def update (b : FVec Ideal S64x128 .f32) (k v : FVec Ideal S1x64x128 .bf16) : FVec Ideal S128x128 .f32 :=
  matmul dot_S64x128_S64x128_S128x128_0_0_1_1_n_n none
    (shapeCast S64x128 v shapeCasts_S1x64x128_S64x128)
    (truncf .bf16 (mulf (wide k) (exp (subf
      (broadcastTo S64x128 (extractStridedSlice S1x128 ![63, 0] b slices_S64x128_o63_0_S1x128) broadcasts_S1x128_S64x128) b)))
      bitsLt_bf16_f32)
    (constant S128x128 .f32 0x00000000#32)

/-- A head's state block, transposed: the kernel keeps it that way. -/
def turned (s0 : FVec Ideal S1x1x128x128 .f32) : FVec Ideal S1x128x128 .f32 :=
  shapeCast S1x128x128 (transpose S128x128 [1, 0] (shapeCast S128x128 s0 shapeCasts_S1x1x128x128_S128x128)
    transposes_S128x128_p1_0_S128x128) shapeCasts_S128x128_S1x128x128

/-- A row's output before normalisation. -/
def mixed (b : FVec Ideal S64x128 .f32) (q k v : FVec Ideal S1x64x128 .bf16) (st : FVec Ideal S128x128 .f32) :
    FVec Ideal S64x128 .f32 :=
  addf (matmul dot_S64x64_S64x128_S64x128_1_0_0_1_n_n none
      (truncf .bf16 (select (cmpi .sle (iota .tc S64x64 32 [1] iota_S64x64_d1_w32) (iota .tc S64x64 32 [0] iota_S64x64_d0_w32))
        (score b q k) (broadcast S64x64 (Scalar.ofBits .f32 0x00000000#32))) bitsLt_bf16_f32)
      (shapeCast S64x128 v shapeCasts_S1x64x128_S64x128) (constant S64x128 .f32 0x00000000#32))
    (fromState b q st)

/-- The normalised, gated output of a head, from the output before normalisation. -/
def gated (o : FVec Ideal S64x128 .f32) (g : FVec Ideal S1x128 .f32) (hg : FVec Ideal S1x64x128 .bf16) :
    FVec Ideal S1x64x128 .bf16 :=
  shapeCast S1x64x128 (truncf .bf16 (mulf (mulf (mulf o
      (broadcastTo S64x128 (rsqrt (addf (divf (shapeCast S64x1
          (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x358637BD#32))))
        broadcasts_S64x1_S64x128))
      (broadcastTo S64x128 (shapeCast S1x128 g shapeCasts_S1x128_S1x128) broadcasts_S1x128_S64x128))
    (wide hg)) bitsLt_bf16_f32) shapeCasts_S64x128_S1x64x128

/-- A head's output block. -/
def headOut (q : FVec Ideal S1x64x128 .bf16) (lf : FVec Ideal S1x64x128 .f32) (k v hg : FVec Ideal S1x64x128 .bf16)
    (s0 : FVec Ideal S1x1x128x128 .f32) (g : FVec Ideal S1x128 .f32) : FVec Ideal S1x64x128 .bf16 :=
  gated (mixed (runs lf) q k v (shapeCast S128x128 (turned s0) shapeCasts_S1x128x128_S128x128)) g hg

/-- A head's state block after the rows. -/
def headState (lf : FVec Ideal S1x64x128 .f32) (k v : FVec Ideal S1x64x128 .bf16) (s0 : FVec Ideal S1x1x128x128 .f32) :
    FVec Ideal S1x1x128x128 .f32 :=
  shapeCast S1x1x128x128 (transpose S128x128 [1, 0] (shapeCast S128x128 (shapeCast S1x128x128
    (addf (mulf (shapeCast S128x128 (turned s0) shapeCasts_S1x128x128_S128x128)
        (broadcastTo S128x128 (exp (extractStridedSlice S1x128 ![63, 0] (runs lf) slices_S64x128_o63_0_S1x128))
          broadcasts_S1x128_S128x128))
      (update (runs lf) k v)) shapeCasts_S128x128_S1x128x128) shapeCasts_S1x128x128_S128x128)
    transposes_S128x128_p1_0_S128x128) shapeCasts_S128x128_S1x1x128x128

/-- The attention of row `t` to row `s`. -/
theorem score_apply (b : FVec Ideal S64x128 .f32) (q k : FVec Ideal S1x64x128 .bf16) (t s : Fin 64) :
    score b q k (ix2 t s) = ∑ x : Fin 128, (q (ix3 0 t x) * Ideal.exp (b (ix2 t x) - b (ix2 31 x)) *
        (k (ix3 0 s x) * Ideal.exp (b (ix2 31 x) - b (ix2 s x))) : EReal) := by
  pointwise [score, wide]

/-- What row `t` reads from the state. -/
theorem fromState_apply (b : FVec Ideal S64x128 .f32) (q : FVec Ideal S1x64x128 .bf16) (st : FVec Ideal S128x128 .f32)
    (t : Fin 64) (j : Fin 128) :
    fromState b q st (ix2 t j) = ∑ x : Fin 128, (q (ix3 0 t x) * Ideal.exp (b (ix2 t x)) * st (ix2 j x) : EReal) := by
  pointwise [fromState, wide]

/-- What the rows add to the state. -/
theorem update_apply (b : FVec Ideal S64x128 .f32) (k v : FVec Ideal S1x64x128 .bf16) (j d : Fin 128) :
    update b k v (ix2 j d)
      = ∑ x : Fin 64, (v (ix3 0 x j) * (k (ix3 0 x d) * Ideal.exp (b (ix2 63 d) - b (ix2 x d))) : EReal) := by
  pointwise [update, wide]

/-- The mask keeps the rows up to the row's own. -/
theorem sle_row : ∀ s t : Fin 64,
    IntOp.cmpi .sle (BitVec.ofNat 32 s.val) (BitVec.ofNat 32 t.val) = if s ≤ t then 1#1 else 0#1 := by
  decide +kernel

/-- A row's output before normalisation: the rows up to its own, and the state. -/
theorem mixed_apply (b : FVec Ideal S64x128 .f32) (q k v : FVec Ideal S1x64x128 .bf16) (st : FVec Ideal S128x128 .f32)
    (t : Fin 64) (j : Fin 128) :
    mixed b q k v st (ix2 t j)
      = ∑ s : Fin 64, (if s ≤ t then (score b q k (ix2 t s) * v (ix3 0 s j) : EReal) else 0) + fromState b q st (ix2 t j) := by
  pointwise [mixed]
  congr 1
  refine Finset.sum_congr rfl fun s _ => ?_
  rw [sle_row]
  split <;> rfl

/-- The normalised and gated output at an index. -/
theorem gated_apply (o : FVec Ideal S64x128 .f32) (g : FVec Ideal S1x128 .f32) (hg : FVec Ideal S1x64x128 .bf16)
    (t : Fin 64) (j : Fin 128) :
    gated o g hg (ix3 0 t j)
      = Cert.Hgrn.normGate (fun x => o (ix2 t x)) (fun x => g (ix2 0 x)) (hg (ix3 0 t j)) j := by
  pointwise [gated, wide, Cert.Hgrn.normGate]

/-- A head's new state at an index. -/
theorem headState_read (lf : FVec Ideal S1x64x128 .f32) (k v : FVec Ideal S1x64x128 .bf16)
    (s0 : FVec Ideal S1x1x128x128 .f32) (d j : Fin 128) :
    headState lf k v s0 (ix4 0 0 d j)
      = (s0 (ix4 0 0 d j) * Ideal.exp (runs lf (ix2 63 d)) + update (runs lf) k v (ix2 j d) : EReal) := by
  pointwise [headState, turned]

/-- The transposed state at an index. -/
theorem turned_apply (s0 : FVec Ideal S1x1x128x128 .f32) (j d : Fin 128) :
    shapeCast S128x128 (turned s0) shapeCasts_S1x128x128_S128x128 (ix2 j d) = s0 (ix4 0 0 d j) := by
  pointwise [turned]

/-- A sum over 64 rows of which only the first four count. -/
theorem sum_rows (f : Fin 64 → EReal) (h : ∀ s : Fin 64, 4 ≤ s.val → f s = 0) :
    ∑ s : Fin 64, f s = ∑ s : Fin 4, f ⟨s.val, by omega⟩ := by
  rw [Fin.sum_univ_two_halves 4 60 rfl f, Finset.sum_eq_zero (s := (Finset.univ : Finset (Fin 60))), add_zero]
  intro s _
  exact h _ (by simp)

/-- The rows up to `r` of a sequence whose rows from the fifth on are 0. -/
theorem prefix_four (f : ℕ → EReal) (hf : ∀ s, 4 ≤ s → f s = 0) (r : ℕ) :
    ∑ s ∈ Finset.range (r + 1), f s = ∑ s : Fin 4, if s.val ≤ r then f s.val else 0 := by
  rw [Fin.sum_univ_eq_sum_range (fun s => if s ≤ r then f s else 0) 4, ← Finset.sum_filter]
  refine (Finset.sum_subset (fun x hx => ?_) fun x hx hx' => hf x ?_).symm
  · simp only [Finset.mem_filter, Finset.mem_range] at hx ⊢
    omega
  · simp only [Finset.mem_filter, Finset.mem_range] at hx hx'
    omega

section Padded

variable (q : FVec Ideal S1x64x128 .bf16) (lf : FVec Ideal S1x64x128 .f32) (k v hg : FVec Ideal S1x64x128 .bf16)
  (s0 : FVec Ideal S1x1x128x128 .f32) (g : FVec Ideal S1x128 .f32)
  (Q K V HG LF : Fin 4 → Fin 128 → EReal) (S : Fin 128 → Fin 128 → EReal) (G : Fin 128 → EReal)

/-- The block `x` holds the four rows `X`, then rows of zeros. -/
def Holds {φ : FTy} (x : FVec Ideal S1x64x128 φ) (X : Fin 4 → Fin 128 → EReal) : Prop :=
  ∀ (r : Fin 64) (d : Fin 128), (x (ix3 0 r d) : EReal) = if h : r.val < 4 then X ⟨r.val, h⟩ d else 0

/-- Column `d` of the gate logarithms: four values, then zeros. -/
theorem col_padded (h : Holds lf LF) (d : Fin 128) (t : ℕ) :
    col (shapeCast S64x128 lf shapeCasts_S1x64x128_S64x128) d t = if h : t < 4 then LF ⟨t, h⟩ d else 0 := by
  unfold col
  by_cases ht : t < 64
  · rw [dif_pos ht]
    have e : shapeCast S64x128 lf shapeCasts_S1x64x128_S64x128 (ix2 ⟨t, ht⟩ d) = lf (ix3 0 ⟨t, ht⟩ d) := by pointwise
    rw [e]
    exact h ⟨t, ht⟩ d
  · rw [dif_neg ht, dif_neg (by omega)]

/-- The running sums: over the tokens up to the row's own, all four past the fourth row. -/
theorem runs_padded (h : Holds lf LF) (r : Fin 64) (d : Fin 128) :
    runs lf (ix2 r d) = Cert.Hgrn.cum LF ⟨min r.val 3, by omega⟩ d := by
  unfold runs
  rw [scan_apply, Finset.sum_congr rfl fun s _ => col_padded lf LF h d s]
  rw [prefix_four _ (fun s hs => dif_neg (by omega))]
  unfold Cert.Hgrn.cum
  refine Finset.sum_congr rfl fun s _ => ?_
  rw [dif_pos s.isLt]
  have e : (s.val ≤ r.val) = (s ≤ (⟨min r.val 3, by omega⟩ : Fin 4)) := by
    rw [Fin.le_def]
    have := s.isLt
    simp only [le_min_iff, eq_iff_iff]
    omega
  simp only [e]

/-- A row of the first four: its running sum. -/
theorem runs_row (h : Holds lf LF) (t : Fin 4) (d : Fin 128) :
    runs lf (ix2 ⟨t.val, by omega⟩ d) = Cert.Hgrn.cum LF t d := by
  rw [runs_padded lf LF h]
  congr 1
  exact Fin.ext (by
    show min t.val 3 = t.val
    omega)

/-- The last row's running sum: over all four tokens. -/
theorem runs_last (h : Holds lf LF) (d : Fin 128) : runs lf (ix2 63 d) = Cert.Hgrn.cum LF 3 d :=
  runs_padded lf LF h 63 d

/-- A row of the first four of a block of rows. -/
theorem Holds.row {φ : FTy} {x : FVec Ideal S1x64x128 φ} {X : Fin 4 → Fin 128 → EReal} (h : Holds x X) (t : Fin 4)
    (d : Fin 128) : (x (ix3 0 ⟨t.val, by omega⟩ d) : EReal) = X t d :=
  (h _ d).trans (dif_pos t.isLt)

/-- A row past the fourth of a block of rows. -/
theorem Holds.zero {φ : FTy} {x : FVec Ideal S1x64x128 φ} {X : Fin 4 → Fin 128 → EReal} (h : Holds x X) (r : Fin 64)
    (hr : 4 ≤ r.val) (d : Fin 128) : (x (ix3 0 r d) : EReal) = 0 :=
  (h r d).trans (dif_neg (by omega))

/-- A head's new state over four tokens. -/
theorem headState_apply (hlf : Holds lf LF) (hk : Holds k K) (hv : Holds v V) (hs : ∀ d j, s0 (ix4 0 0 d j) = S d j)
    (d j : Fin 128) : headState lf k v s0 (ix4 0 0 d j) = Cert.Hgrn.newState K V LF S d j := by
  rw [headState_read, hs, runs_last lf LF hlf, update_apply,
    sum_rows _ fun s hs => by rw [hv.zero s hs]; exact zero_mul _]
  unfold Cert.Hgrn.newState
  rw [mul_comm (S d j)]
  congr 1
  refine Finset.sum_congr rfl fun s _ => ?_
  rw [hv.row, hk.row, runs_last lf LF hlf, runs_row lf LF hlf, mul_comm (V s j)]

/-- A row's output before normalisation over four tokens. -/
theorem mixed_padded (hq : Holds q Q) (hlf : Holds lf LF) (hk : Holds k K) (hv : Holds v V)
    (hs : ∀ d j, s0 (ix4 0 0 d j) = S d j) (hfin : ∀ s d, Cert.Hgrn.Finite (LF s d)) (t : Fin 4) (j : Fin 128) :
    mixed (runs lf) q k v (shapeCast S128x128 (turned s0) shapeCasts_S1x128x128_S128x128) (ix2 ⟨t.val, by omega⟩ j)
      = Cert.Hgrn.preOut Q K V LF S t j := by
  rw [mixed_apply, fromState_apply, sum_rows _ fun s hs => if_neg (by rw [Fin.le_def]; show ¬ s.val ≤ t.val; omega)]
  unfold Cert.Hgrn.preOut
  congr 1
  · refine Finset.sum_congr rfl fun s _ => ?_
    have e : ((⟨s.val, by omega⟩ : Fin 64) ≤ ⟨t.val, by omega⟩) = (s ≤ t) := by rw [Fin.le_def, Fin.le_def]
    simp only [e]
    by_cases h : s ≤ t
    · rw [if_pos h, if_pos h, score_apply, hv.row]
      congr 1
      refine Finset.sum_congr rfl fun d _ => ?_
      rw [hq.row, hk.row, runs_row lf LF hlf, runs_row lf LF hlf, runs_padded lf LF hlf]
      exact Cert.Hgrn.decay_split _ _ _ _ _ (Cert.Hgrn.cum_finite LF hfin _ _) (Cert.Hgrn.cum_finite LF hfin _ _)
        (Cert.Hgrn.cum_finite LF hfin _ _)
    · rw [if_neg h, if_neg h, zero_mul]
  · refine Finset.sum_congr rfl fun d _ => ?_
    rw [hq.row, runs_row lf LF hlf, turned_apply, hs]

/-- A head's output block over four tokens, and zeros in the rows past them. -/
theorem headOut_apply (hq : Holds q Q) (hlf : Holds lf LF) (hk : Holds k K) (hv : Holds v V) (hhg : Holds hg HG)
    (hs : ∀ d j, s0 (ix4 0 0 d j) = S d j) (hg' : ∀ x, g (ix2 0 x) = G x)
    (hfin : ∀ s d, Cert.Hgrn.Finite (LF s d)) (r : Fin 64) (j : Fin 128) :
    headOut q lf k v hg s0 g (ix3 0 r j)
      = if h : r.val < 4 then Cert.Hgrn.normGate (Cert.Hgrn.preOut Q K V LF S ⟨r.val, h⟩) G (HG ⟨r.val, h⟩ j) j else 0 := by
  unfold headOut
  rw [gated_apply]
  by_cases h : r.val < 4
  · rw [dif_pos h]
    have e : (fun x => mixed (runs lf) q k v (shapeCast S128x128 (turned s0) shapeCasts_S1x128x128_S128x128) (ix2 r x))
        = Cert.Hgrn.preOut Q K V LF S ⟨r.val, h⟩ :=
      funext fun x => mixed_padded q lf k v s0 Q K V LF S hq hlf hk hv hs hfin ⟨r.val, h⟩ x
    rw [e, hhg r j, dif_pos h, funext hg']
  · rw [dif_neg h, hhg r j, dif_neg h]
    exact mul_zero _

end Padded

end Cert.KernelIdeal.Hgrn
-- ==== Proof.Hgrn.Array.lean ====
module

public import proofs.«01_k».proof.Proof.Gen.KernelIdeal.Value
public import proofs.«01_k».proof.Proof.Hgrn.Block
public import Idealize.ShloMosaic.Lib.Pipeline.ValueKit
public import Idealize.ShloMosaic.Lib.Pipeline.ReadBack
public import Idealize.ShloMosaic.Lib.StableHlo.ReadAt

/-!
# What the kernel's result arrays hold

Each grid point treats one sequence: it reads the sequence's block of every operand and writes the sequence's block of
both results. Here: what the operands' blocks hold, what a grid point leaves, and the two arrays after the run.
-/

@[expose] public section

set_option maxRecDepth 16384

noncomputable section

namespace Cert.KernelIdeal.Hgrn

open Cert.KernelIdeal Cert.KernelIdeal.Gen Idealize.ShloMosaic Idealize.ShloMosaic.TcCoe Idealize.SL.Sem
open Idealize.ShloMosaic.Pipeline (Dat)
open Cert.Hgrn (rowsOf stateOf scaleOf normGate preOut)

variable (m : (ℓ : Loc nD τ sig) → Buf (Elt Ideal) ℓ)

/-- Which block each window takes at a grid point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0, 0] ∧ win0_6.index t = ![0, 0] ∧ win0_7.index t = ![t.val, 0, 0]
    ∧ win0_8.index t = ![t.val, 0, 0, 0] :=
  (by decide +kernel : ∀ t : Fin grid0.N, _)

/-- The sequence of a grid point. -/
def seq (t : Fin cfg0.N) : Fin 32 := ⟨t.val, t.isLt⟩

/-- A flat array of all tokens and channels, as the kernel's argument memory holds it. -/
abbrev Flat : Type := (⟨2, ![128, 512]⟩ : Shape).Idx → EReal

/-- The queries. -/
abbrev A0 (c : Dev nD) : Flat := m ((c : Thread nD τ).loc main_arg0)
/-- The gate logarithms. -/
abbrev A1 (c : Dev nD) : Flat := m ((c : Thread nD τ).loc main_arg1)
/-- The keys. -/
abbrev A2 (c : Dev nD) : Flat := m ((c : Thread nD τ).loc main_arg2)
/-- The values. -/
abbrev A3 (c : Dev nD) : Flat := m ((c : Thread nD τ).loc main_arg3)
/-- The output gates. -/
abbrev A4 (c : Dev nD) : Flat := m ((c : Thread nD τ).loc main_arg4)
/-- The states. -/
abbrev A5 (c : Dev nD) : (⟨5, ![1, 32, 4, 128, 128]⟩ : Shape).Idx → EReal := m ((c : Thread nD τ).loc main_arg5)
/-- The normalisation scales. -/
abbrev A6 (c : Dev nD) : (⟨2, ![1, 512]⟩ : Shape).Idx → EReal := m ((c : Thread nD τ).loc main_arg6)

/-- The padding word converts to 0. -/
theorem zero_word (φ : FTy) : (FloatOps.sitofp φ (0#32) : Ideal φ) = (0 : EReal) := by
  show ((((0#32 : BitVec 32).toInt : ℝ)) : EReal) = 0
  simp

/-- An array padded to 64 rows per sequence. -/
def padded (x : Flat) (b : Fin 32) (r : Fin 64) (l : Fin 512) : EReal :=
  if h : r.val < 4 then x (ix2 ⟨b.val * 4 + r.val, by omega⟩ l) else 0

/-- The zero-padded queries that the kernel reads. -/
theorem arr3 (c : Dev nD) (b : Fin 32) (r : Fin 64) (l : Fin 512) :
    (V m c main_v3 (ix3 b r l) : EReal) = padded (A0 m c) b r l := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  unfold padded
  after_reads_at
  rw [zero_word]

/-- The zero-padded gate logarithms that the kernel reads. -/
theorem arr5 (c : Dev nD) (b : Fin 32) (r : Fin 64) (l : Fin 512) :
    (V m c main_v5 (ix3 b r l) : EReal) = padded (A1 m c) b r l := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  unfold padded
  after_reads_at
  rw [zero_word]

/-- The zero-padded keys that the kernel reads. -/
theorem arr7 (c : Dev nD) (b : Fin 32) (r : Fin 64) (l : Fin 512) :
    (V m c main_v7 (ix3 b r l) : EReal) = padded (A2 m c) b r l := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  unfold padded
  after_reads_at
  rw [zero_word]

/-- The zero-padded values that the kernel reads. -/
theorem arr9 (c : Dev nD) (b : Fin 32) (r : Fin 64) (l : Fin 512) :
    (V m c main_v9 (ix3 b r l) : EReal) = padded (A3 m c) b r l := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  unfold padded
  after_reads_at
  rw [zero_word]

/-- The zero-padded output gates that the kernel reads. -/
theorem arr11 (c : Dev nD) (b : Fin 32) (r : Fin 64) (l : Fin 512) :
    (V m c main_v11 (ix3 b r l) : EReal) = padded (A4 m c) b r l := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  unfold padded
  after_reads_at
  rw [zero_word]

/-- The state that the kernel reads. -/
theorem arr12 (c : Dev nD) (b : Fin 32) (h : Fin 4) (d j : Fin 128) :
    (V m c main_v12 (ix4 b h d j) : EReal) = A5 m c (ix5 0 b h d j) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- The scale that the kernel reads. -/
theorem arr1 (c : Dev nD) (l : Fin 512) : (V m c main_v1 (ix2 0 l) : EReal) = A6 m c (ix2 0 l) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- The block of the queries at a grid point. -/
theorem blk0 (c : Dev nD) (t : Fin cfg0.N) (r : Fin 64) (l : Fin 512) :
    (iblk m c 0 t (ix3 0 r l) : EReal) = padded (A0 m c) (seq t) r l := by
  rw [← arr3]
  blk_ext [iblk, idx t, seq]

/-- The block of the gate logarithms at a grid point. -/
theorem blk1 (c : Dev nD) (t : Fin cfg0.N) (r : Fin 64) (l : Fin 512) :
    (iblk m c 1 t (ix3 0 r l) : EReal) = padded (A1 m c) (seq t) r l := by
  rw [← arr5]
  blk_ext [iblk, idx t, seq]

/-- The block of the keys at a grid point. -/
theorem blk2 (c : Dev nD) (t : Fin cfg0.N) (r : Fin 64) (l : Fin 512) :
    (iblk m c 2 t (ix3 0 r l) : EReal) = padded (A2 m c) (seq t) r l := by
  rw [← arr7]
  blk_ext [iblk, idx t, seq]

/-- The block of the values at a grid point. -/
theorem blk3 (c : Dev nD) (t : Fin cfg0.N) (r : Fin 64) (l : Fin 512) :
    (iblk m c 3 t (ix3 0 r l) : EReal) = padded (A3 m c) (seq t) r l := by
  rw [← arr9]
  blk_ext [iblk, idx t, seq]

/-- The block of the output gates at a grid point. -/
theorem blk4 (c : Dev nD) (t : Fin cfg0.N) (r : Fin 64) (l : Fin 512) :
    (iblk m c 4 t (ix3 0 r l) : EReal) = padded (A4 m c) (seq t) r l := by
  rw [← arr11]
  blk_ext [iblk, idx t, seq]

/-- The block of the states at a grid point. -/
theorem blk5 (c : Dev nD) (t : Fin cfg0.N) (h : Fin 4) (d j : Fin 128) :
    (iblk m c 5 t (ix4 0 h d j) : EReal) = A5 m c (ix5 0 (seq t) h d j) := by
  rw [← arr12]
  blk_ext [iblk, idx t, seq]

/-- The block of the scales: all of them, at every grid point. -/
theorem blk6 (c : Dev nD) (t : Fin cfg0.N) (l : Fin 512) : (iblk m c 6 t (ix2 0 l) : EReal) = A6 m c (ix2 0 l) := by
  rw [← arr1]
  blk_ext [iblk, idx t, seq]

/-- The new state of a sequence, as a block. -/
def stateBlock (c : Dev nD) (b : Fin 32) (y : S1x4x128x128.Idx) : EReal :=
  Cert.Hgrn.newState (rowsOf (A2 m c) b (y 1)) (rowsOf (A3 m c) b (y 1)) (rowsOf (A1 m c) b (y 1))
    (stateOf (A5 m c) b (y 1)) (y 2) (y 3)

/-- The 128 columns of a head, read out of a padded block, hold the head's four rows and zeros. -/
theorem head_holds {φ : FTy} (X : FVec Ideal S1x64x512 φ) (Y : Flat) (b : Fin 32)
    (hX : ∀ r l, (X (ix3 0 r l) : EReal) = padded Y b r l) (h : Fin 4) (o : ℕ) (ho : o = h.val * 128)
    (inb : ∀ a, ![0, 0, o] a + (![1, 64, 128] : Fin 3 → ℕ) a ≤ S1x64x512.size a) :
    Holds (φ := φ) ((fun x => X ((Rect.unit (s := S1x64x512) ![0, 0, o] ![1, 64, 128] inb).idx x))) (rowsOf Y b h) := by
  intro r d
  subst ho
  have e : X ((Rect.unit (s := S1x64x512) ![0, 0, h.val * 128] ![1, 64, 128] inb).idx (ix3 0 r d))
      = X (ix3 0 r ⟨h.val * 128 + d.val, by omega⟩) := by
    pointwise
  refine e.trans ((hX _ _).trans ?_)
  rfl

/-- A head's matrix, read out of the state's block. -/
theorem head_state (X : FVec Ideal S1x4x128x128 .f32) (Y : (⟨5, ![1, 32, 4, 128, 128]⟩ : Shape).Idx → EReal) (b : Fin 32)
    (hX : ∀ h d j, (X (ix4 0 h d j) : EReal) = Y (ix5 0 b h d j)) (h : Fin 4) (o : ℕ) (ho : o = h.val)
    (inb : ∀ a, ![0, o, 0, 0] a + (![1, 1, 128, 128] : Fin 4 → ℕ) a ≤ S1x4x128x128.size a) (d j : Fin 128) :
    (X ((Rect.unit (s := S1x4x128x128) ![0, o, 0, 0] ![1, 1, 128, 128] inb).idx (ix4 0 0 d j)) : EReal)
      = stateOf Y b h d j := by
  subst ho
  have e : (X ((Rect.unit (s := S1x4x128x128) ![0, h.val, 0, 0] ![1, 1, 128, 128] inb).idx (ix4 0 0 d j)) : EReal)
      = X (ix4 0 h d j) := by
    pointwise
  rw [e, hX]
  rfl

/-- A head's scale, read out of all scales. -/
theorem head_scale (X : FVec Ideal S1x512 .f32) (Y : (⟨2, ![1, 512]⟩ : Shape).Idx → EReal)
    (hX : ∀ l, (X (ix2 0 l) : EReal) = Y (ix2 0 l)) (h : Fin 4) (o : ℕ) (ho : o = h.val * 128)
    (inb : ∀ a, ![0, o] a + (![1, 128] : Fin 2 → ℕ) a ≤ S1x512.size a) (j : Fin 128) :
    (X ((Rect.unit (s := S1x512) ![0, o] ![1, 128] inb).idx (ix2 0 j)) : EReal) = scaleOf Y h j := by
  subst ho
  have e : (X ((Rect.unit (s := S1x512) ![0, h.val * 128] ![1, 128] inb).idx (ix2 0 j)) : EReal)
      = X (ix2 0 ⟨h.val * 128 + j.val, by omega⟩) := by
    pointwise
  rw [e, hX]
  rfl

/-- The new state of a head, computed from the blocks, lies where the block of the new state wants it. -/
theorem state_head (c : Dev nD) (t : Fin cfg0.N) (y : S1x4x128x128.Idx)
    (h : Fin 4) (o p : ℕ) (ho : o = h.val * 128) (hp : p = h.val) (i1) (i2) (x : S1x1x128x128.Idx)
    (h1 : (y 1).val = h.val + (x 1).val) (h2 : (y 2).val = (x 2).val) (h3 : (y 3).val = (x 3).val) :
    headState (fun x => iblk m c 1 t ((Rect.unit (s := S1x64x512) ![0, 0, o] ![1, 64, 128] i1).idx x))
      (fun x => iblk m c 2 t ((Rect.unit (s := S1x64x512) ![0, 0, o] ![1, 64, 128] i1).idx x))
      (fun x => iblk m c 3 t ((Rect.unit (s := S1x64x512) ![0, 0, o] ![1, 64, 128] i1).idx x))
      (fun x => iblk m c 5 t ((Rect.unit (s := S1x4x128x128) ![0, p, 0, 0] ![1, 1, 128, 128] i2).idx x)) x
    = stateBlock m c (seq t) y := by
  have e1 : y 1 = h := Fin.ext (by have := (x 1).isLt; change (x 1).val < 1 at this; omega)
  have ex : x = ix4 0 0 (y 2) (y 3) := by
    funext a
    apply Fin.ext
    fin_cases a
    · have := (x 0).isLt; change (x 0).val < 1 at this; change (x 0).val = 0; omega
    · have := (x 1).isLt; change (x 1).val < 1 at this; change (x 1).val = 0; omega
    · exact h2.symm
    · exact h3.symm
  rw [ex]
  refine (headState_apply _ _ _ _ _ _ _ _
    (head_holds (iblk m c 1 t) (A1 m c) (seq t) (blk1 m c t) h o ho i1)
    (head_holds (iblk m c 2 t) (A2 m c) (seq t) (blk2 m c t) h o ho i1)
    (head_holds (iblk m c 3 t) (A3 m c) (seq t) (blk3 m c t) h o ho i1)
    (head_state (iblk m c 5 t) (A5 m c) (seq t) (blk5 m c t) h p hp i2) _ _).trans ?_
  unfold stateBlock
  rw [e1]

set_option maxHeartbeats 1000000 in
/-- What the visit of a sequence leaves in the block of the new state. -/
theorem state_point (c : Dev nD) (t : Fin cfg0.N) (y : S1x4x128x128.Idx) :
    (outsAt0 m c t).2 y = stateBlock m c (seq t) y := by
  unfold outsAt0
  dsimp only
  unfold out0_A_8
  frame_open
  simp (disch := decide) only [↓ View.readCov_skip, ↓ View.readCov_cons_toLoadRect, ↓ View.readCov_fill]
  frame_out
  canon_tiles x h
  on_goal 1 =>
    refine Eq.trans ?_ (state_head m c t y 3 384 3 rfl rfl (by decide) (by decide) x h1 (by omega) (by omega))
  on_goal 2 =>
    refine Eq.trans ?_ (state_head m c t y 2 256 2 rfl rfl (by decide) (by decide) x h1 (by omega) (by omega))
  on_goal 3 =>
    refine Eq.trans ?_ (state_head m c t y 1 128 1 rfl rfl (by decide) (by decide) x h1 (by omega) (by omega))
  on_goal 4 =>
    refine Eq.trans ?_ (state_head m c t y 0 0 0 rfl rfl (by decide) (by decide) x (by simpa using h1) (by omega) (by omega))
  all_goals
    simp only [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      headState, runs, turned, update, scan, round]
    rfl

/-- The output of a sequence, as a block: four rows and zeros. -/
def rowsBlock (c : Dev nD) (b : Fin 32) (h : Fin 4) (r : Fin 64) (j : Fin 128) : EReal :=
  if ht : r.val < 4 then
    normGate (preOut (rowsOf (A0 m c) b h) (rowsOf (A2 m c) b h) (rowsOf (A3 m c) b h) (rowsOf (A1 m c) b h)
      (stateOf (A5 m c) b h) ⟨r.val, ht⟩) (scaleOf (A6 m c) h) (rowsOf (A4 m c) b h ⟨r.val, ht⟩ j) j
  else 0

/-- The output of a head, computed from the blocks, lies where the block of the outputs wants it. -/
theorem out_head (c : Dev nD) (t : Fin cfg0.N) (hfin : ∀ x, Cert.Hgrn.Finite (A1 m c x)) (y : S1x64x512.Idx)
    (h : Fin 4) (j : Fin 128) (hy : (y 2).val = h.val * 128 + j.val)
    (o p : ℕ) (ho : o = h.val * 128) (hp : p = h.val) (i1) (i2) (i3) (x : S1x64x128.Idx)
    (h1 : (y 1).val = (x 1).val) (h2 : (y 2).val = o + (x 2).val) :
    headOut (fun x => iblk m c 0 t ((Rect.unit (s := S1x64x512) ![0, 0, o] ![1, 64, 128] i1).idx x))
      (fun x => iblk m c 1 t ((Rect.unit (s := S1x64x512) ![0, 0, o] ![1, 64, 128] i1).idx x))
      (fun x => iblk m c 2 t ((Rect.unit (s := S1x64x512) ![0, 0, o] ![1, 64, 128] i1).idx x))
      (fun x => iblk m c 3 t ((Rect.unit (s := S1x64x512) ![0, 0, o] ![1, 64, 128] i1).idx x))
      (fun x => iblk m c 4 t ((Rect.unit (s := S1x64x512) ![0, 0, o] ![1, 64, 128] i1).idx x))
      (fun x => iblk m c 5 t ((Rect.unit (s := S1x4x128x128) ![0, p, 0, 0] ![1, 1, 128, 128] i2).idx x))
      (fun x => iblk m c 6 t ((Rect.unit (s := S1x512) ![0, o] ![1, 128] i3).idx x)) x
    = rowsBlock m c (seq t) h (y 1) j := by
  have ex : x = ix3 0 (y 1) j := by
    funext a
    apply Fin.ext
    fin_cases a
    · have := (x 0).isLt; change (x 0).val < 1 at this; change (x 0).val = 0; omega
    · exact h1.symm
    · change (x 2).val = j.val; omega
  rw [ex]
  exact headOut_apply _ _ _ _ _
    (fun x => iblk m c 5 t ((Rect.unit (s := S1x4x128x128) ![0, p, 0, 0] ![1, 1, 128, 128] i2).idx x))
    (fun x => iblk m c 6 t ((Rect.unit (s := S1x512) ![0, o] ![1, 128] i3).idx x)) _ _ _ _ _
    (stateOf (A5 m c) (seq t) h) (scaleOf (A6 m c) h)
    (head_holds (iblk m c 0 t) (A0 m c) (seq t) (blk0 m c t) h o ho i1)
    (head_holds (iblk m c 1 t) (A1 m c) (seq t) (blk1 m c t) h o ho i1)
    (head_holds (iblk m c 2 t) (A2 m c) (seq t) (blk2 m c t) h o ho i1)
    (head_holds (iblk m c 3 t) (A3 m c) (seq t) (blk3 m c t) h o ho i1)
    (head_holds (iblk m c 4 t) (A4 m c) (seq t) (blk4 m c t) h o ho i1)
    (head_state (iblk m c 5 t) (A5 m c) (seq t) (blk5 m c t) h p hp i2)
    (head_scale (iblk m c 6 t) (A6 m c) (blk6 m c t) h o ho i3) (fun _ _ => hfin _) _ _

set_option maxHeartbeats 1000000 in
/-- What the visit of a sequence leaves in the block of the outputs. -/
theorem out_point (c : Dev nD) (t : Fin cfg0.N) (hfin : ∀ x, Cert.Hgrn.Finite (A1 m c x)) (y : S1x64x512.Idx)
    (h : Fin 4) (j : Fin 128) (hy : (y 2).val = h.val * 128 + j.val) :
    (outsAt0 m c t).1 y = rowsBlock m c (seq t) h (y 1) j := by
  unfold outsAt0
  dsimp only
  unfold out0_A_7
  frame_open
  simp (disch := decide) only [↓ View.readCov_skip, ↓ View.readCov_cons_toLoadRect, ↓ View.readCov_fill]
  frame_out
  canon_tiles x k
  on_goal 1 =>
    have hh : h = 3 := Fin.ext (by change h.val = 3; omega)
    subst hh
    refine Eq.trans ?_ (out_head m c t hfin y 3 j hy 384 3 rfl rfl (by decide) (by decide) (by decide) x (by omega) k2)
  on_goal 2 =>
    have hh : h = 2 := Fin.ext (by change h.val = 2; omega)
    subst hh
    refine Eq.trans ?_ (out_head m c t hfin y 2 j hy 256 2 rfl rfl (by decide) (by decide) (by decide) x (by omega) k2)
  on_goal 3 =>
    have hh : h = 1 := Fin.ext (by change h.val = 1; omega)
    subst hh
    refine Eq.trans ?_ (out_head m c t hfin y 1 j hy 128 1 rfl rfl (by decide) (by decide) (by decide) x (by omega) k2)
  on_goal 4 =>
    have hh : h = 0 := Fin.ext (by change h.val = 0; omega)
    subst hh
    refine Eq.trans ?_ (out_head m c t hfin y 0 j hy 0 0 rfl rfl (by decide) (by decide) (by decide) x (by omega) (by simpa using k2))
  all_goals
    simp only [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      headOut, gated, mixed, score, fromState, wide, runs, turned, scan, round]
    rfl

end Cert.KernelIdeal.Hgrn
-- ==== Proof.Hgrn.Cumsum.lean ====
module

public import proofs.«01_k».proof.Proof.Gen.ReferenceIdeal.Read
public import proofs.«01_k».proof.Proof.Hgrn.Spec

/-!
# The reference's running sum

The reference sums windows of four tokens, padded with three zeros in front: each token gets the sum of the tokens up to it.
-/

@[expose] public section

set_option maxRecDepth 16384

noncomputable section

namespace Cert.ReferenceIdeal.Hgrn

open Cert.ReferenceIdeal Cert.ReferenceIdeal.Gen Cert.ReferenceIdeal.Read Idealize.ShloMosaic Idealize.SL.Sem
open Cert.Hgrn (rowsOf stateOf scaleOf)

/-- The shape of one window. -/
abbrev Win : Shape := ⟨4, ![1, 1, 4, 1]⟩

/-- The coordinates of the `n`-th position of a window. -/
theorem win_coord : ∀ (n : Fin Win.numel) (a : Fin 4), (Win.rowMajor.symm n a).val = ![0, 0, n.val, 0] a := by
  decide +kernel

/-- One position of a window: padding, or the token that many places before. -/
theorem win_term (x : S32x4x4x128.Idx → EReal) (b : Fin 32) (h t : Fin 4) (d : Fin 128) (n : Fin Win.numel)
    (P : Prop) {dec : Decidable P}
    (hP : P ↔ ∀ a : Fin 4, (![0, 0, 3, 0] : Fin 4 → Nat) a
          ≤ (ix4 b h t d a).val * (![1, 1, 1, 1] : Fin 4 → Nat) a + (Win.rowMajor.symm n a).val
        ∧ (ix4 b h t d a).val * (![1, 1, 1, 1] : Fin 4 → Nat) a + (Win.rowMajor.symm n a).val
            - (![0, 0, 3, 0] : Fin 4 → Nat) a < S32x4x4x128.size a)
    (f : P → S32x4x4x128.Idx)
    (hf : ∀ (p : P) (a : Fin 4), (f p a).val = (ix4 b h t d a).val * (![1, 1, 1, 1] : Fin 4 → Nat) a
        + (Win.rowMajor.symm n a).val - (![0, 0, 3, 0] : Fin 4 → Nat) a) :
    (if hp : P then x (f hp) else 0)
      = if hn : 3 ≤ t.val + n.val then x (ix4 b h ⟨t.val + n.val - 3, by
          have h4 : n.val < 4 := n.isLt
          omega⟩ d) else 0 := by
  have h4 : n.val < 4 := n.isLt
  by_cases hn : 3 ≤ t.val + n.val
  · have hp : P := hP.mpr fun a => by
      rw [win_coord]
      fin_cases a
      · show 0 ≤ b.val * 1 + 0 ∧ b.val * 1 + 0 - 0 < 32
        omega
      · show 0 ≤ h.val * 1 + 0 ∧ h.val * 1 + 0 - 0 < 4
        omega
      · show 3 ≤ t.val * 1 + n.val ∧ t.val * 1 + n.val - 3 < 4
        omega
      · show 0 ≤ d.val * 1 + 0 ∧ d.val * 1 + 0 - 0 < 128
        omega
    rw [dif_pos hn, dif_pos hp]
    congr 1
    funext a
    refine Fin.ext ?_
    rw [hf hp a, win_coord]
    fin_cases a
    · show b.val * 1 + 0 - 0 = b.val
      omega
    · show h.val * 1 + 0 - 0 = h.val
      omega
    · show t.val * 1 + n.val - 3 = t.val + n.val - 3
      omega
    · show d.val * 1 + 0 - 0 = d.val
      omega
  · rw [dif_neg hn, dif_neg]
    intro hp
    have h2 := (hP.mp hp 2).1
    rw [win_coord] at h2
    have h3 : 3 ≤ t.val * 1 + n.val := h2
    omega

/-- The windowed sum at an index: the sum of the tokens up to it. -/
theorem window_sum (x : S32x4x4x128.Idx → EReal) (b : Fin 32) (h t : Fin 4) (d : Fin 128) :
    Ideal.hostReduceWindowAdd ![1, 1, 4, 1] ![1, 1, 1, 1] ![0, 0, 3, 0] ![0, 0, 0, 0]
      reduceWindows_S32x4x4x128_S32x4x4x128_w1s1p0_0_w1s1p0_0_w4s1p3_0_w1s1p0_0 x 0 (ix4 b h t d)
      = ∑ s : Fin 4, if s ≤ t then x (ix4 b h s d) else 0 := by
  have e : Ideal.hostReduceWindowAdd ![1, 1, 4, 1] ![1, 1, 1, 1] ![0, 0, 3, 0] ![0, 0, 0, 0]
      reduceWindows_S32x4x4x128_S32x4x4x128_w1s1p0_0_w1s1p0_0_w4s1p3_0_w1s1p0_0 x 0 (ix4 b h t d)
      = (List.finRange Win.numel).foldl (fun r n => r + if hn : 3 ≤ t.val + n.val then x (ix4 b h ⟨t.val + n.val - 3, by
          have h4 : n.val < 4 := n.isLt
          omega⟩ d) else 0) 0 := by
    unfold Ideal.hostReduceWindowAdd Host.reduceWindow
    refine congrArg (fun f : EReal → Fin Win.numel → EReal => List.foldl f 0 (List.finRange Win.numel)) ?_
    funext r n
    refine congrArg (fun y : EReal => r + y) ?_
    refine win_term x b h t d n _ ?_ _ ?_
    · exact Iff.rfl
    · exact fun _ _ => rfl
  rw [e]
  show (0 : EReal) + _ + _ + _ + _ = _
  rw [Fin.sum_univ_four]
  fin_cases t <;> simp [Fin.le_def] <;> first | rfl | ac_rfl

variable (x1 : FVec Ideal S128x512 .f32)

/-- The reference's running sums of the gate logarithms. -/
theorem cumsum_apply (b : Fin 32) (h t : Fin 4) (d : Fin 128) :
    val_main_v14 (F := Ideal) x1 (ix4 b h t d) = Cert.Hgrn.cum (rowsOf x1 b h) t d := by
  have e : val_main_v14 (F := Ideal) x1 (ix4 b h t d)
      = Ideal.hostReduceWindowAdd ![1, 1, 4, 1] ![1, 1, 1, 1] ![0, 0, 3, 0] ![0, 0, 0, 0]
      reduceWindows_S32x4x4x128_S32x4x4x128_w1s1p0_0_w1s1p0_0_w4s1p3_0_w1s1p0_0 (val_main_v7 (F := Ideal) x1)
      (val_main_call1_call0_v0 (F := Ideal) (Shape.Idx.first h_S_)) (ix4 b h t d) := rfl
  have z : (val_main_call1_call0_v0 (F := Ideal) (Shape.Idx.first h_S_) : EReal) = 0 := by
    pointwise [val_main_call1_call0_v0, val_main_call1_call0_cst]
  rw [e, z, window_sum]
  unfold Cert.Hgrn.cum rowsOf
  refine Finset.sum_congr rfl fun s _ => ?_
  congr 1
  pointwise [val_main_v7, val_main_v6]

end Cert.ReferenceIdeal.Hgrn
-- ==== Proof.Hgrn.Ref.lean ====
module

public import proofs.«01_k».proof.Proof.Hgrn.Cumsum

/-!
# What the reference computes

The reference's two results at an index: the normalised, gated output (zeros in the rows past the four tokens) and the new state.
-/

@[expose] public section

set_option maxRecDepth 16384

noncomputable section

namespace Cert.ReferenceIdeal.Hgrn

open Cert.ReferenceIdeal Cert.ReferenceIdeal.Gen Cert.ReferenceIdeal.Read Idealize.ShloMosaic Idealize.SL.Sem
open Cert.Hgrn (rowsOf stateOf scaleOf)

variable (x0 : FVec Ideal S128x512 .bf16) (x1 : FVec Ideal S128x512 .f32) (x2 x3 x4 : FVec Ideal S128x512 .bf16)
  (x5 : FVec Ideal S1x32x4x128x128 .f32) (x6 : FVec Ideal S1x512 .f32)

/-- The new state at an index. -/
theorem state_apply (b : Fin 32) (h : Fin 4) (d j : Fin 128) :
    val_main_v46 (F := Ideal) x1 x2 x3 x5 (ix4 b h d j)
      = Cert.Hgrn.newState (rowsOf x2 b h) (rowsOf x3 b h) (rowsOf x1 b h) (stateOf x5 b h) d j := by
  pointwise [val_main_v46, val_main_v45, val_main_v44, val_main_v43, val_main_v42, val_main_v41, val_main_v40,
    val_main_v39, val_main_v38, val_main_v37, val_main_v36, val_main_v35, val_main_v11, val_main_v10, val_main_v9,
    val_main_v8, val_main_v5, val_main_v4, val_main_v3, val_main_v2]
  simp only [cumsum_apply]
  rfl

/-- The mask keeps the tokens up to the token's own. -/
theorem tri_bit : ∀ t s : Fin 4,
    Scalar.select (IntOp.cmpi CmpIPredicate.sge (IntOp.addi (BitVec.ofNat 32 t.val) 0#32) (BitVec.ofNat 32 s.val)) 1#1 0#1
      = if s ≤ t then 1#1 else 0#1 := by
  decide +kernel

/-- The masked logarithm of a decay, exponentiated: 0 where it is masked. -/
theorem exp_masked (p : Prop) [Decidable p] (x : EReal) (y : EReal) (hy : y = ⊥) :
    Ideal.exp (Scalar.select (if p then 1#1 else 0#1) x y) = if p then Ideal.exp x else 0 := by
  subst hy
  split
  · rfl
  · rfl

/-- A token's output before normalisation. -/
theorem pre_apply (b : Fin 32) (h : Fin 4) (t : Fin 4) (j : Fin 128) :
    val_main_v34 (F := Ideal) x0 x1 x2 x3 x5 (ix4 b h t j)
      = Cert.Hgrn.preOut (rowsOf x0 b h) (rowsOf x2 b h) (rowsOf x3 b h) (rowsOf x1 b h) (stateOf x5 b h) t j := by
  have hb : (id (constant (F := Ideal) S_ FTy.f32 4286578688#32) ix0 : EReal) = ⊥ := by
    show Ideal.ofBits FTy.f32 4286578688#32 = ⊥
    simp [Ideal.ofBits, Ideal.ieee]
  pointwise [val_main_v34, val_main_v33, val_main_v32, val_main_v31, val_main_v30, val_main_v29, val_main_v28,
    val_main_v27, val_main_v26, val_main_v25, val_main_v24, val_main_v23, val_main_v22, val_main_v21, val_main_call2_v2,
    val_main_call2_v1, val_main_call2_v0, val_main_cst, val_main_v20, val_main_v19, val_main_v18, val_main_v17,
    val_main_v16, val_main_v15, val_main_v13, val_main_call0_v5, val_main_call0_c_0, val_main_call0_v4,
    val_main_call0_v3, val_main_call0_v2, val_main_call0_v1, val_main_call0_c, val_main_call0_v0, val_main_v12,
    val_main_c, val_main_cst_0, val_main_v11, val_main_v10, val_main_v9, val_main_v8, val_main_v5, val_main_v4,
    val_main_v3, val_main_v2, val_main_v1, val_main_v0]
  simp only [tri_bit, exp_masked _ _ _ hb, cumsum_apply]
  unfold Cert.Hgrn.preOut
  refine congrArg₂ (fun x y : EReal => x + y) (Finset.sum_congr rfl fun s _ => ?_) rfl
  by_cases hs : s ≤ t
  · simp only [if_pos hs]
    rfl
  · simp only [if_neg hs]
    rw [Finset.sum_eq_zero fun d _ => mul_zero _]
    rfl

/-- The output at an index: normalised and gated in the first four rows, 0 past them. -/
theorem out_apply (b : Fin 32) (t : Fin 64) (h : Fin 4) (j : Fin 128) :
    val_main_v68 (F := Ideal) x0 x1 x2 x3 x4 x5 x6 (ix3 b t ⟨h.val * 128 + j.val, by omega⟩)
      = if ht : t.val < 4 then Cert.Hgrn.normGate
          (Cert.Hgrn.preOut (rowsOf x0 b h) (rowsOf x2 b h) (rowsOf x3 b h) (rowsOf x1 b h) (stateOf x5 b h) ⟨t.val, ht⟩)
          (scaleOf x6 h) (rowsOf x4 b h ⟨t.val, ht⟩ j) j else 0 := by
  have e1 : (⟨(h.val * 128 + j.val) / 128, by omega⟩ : Fin 4) = h := Fin.ext (by
    show (h.val * 128 + j.val) / 128 = h.val
    omega)
  have e2 : (⟨(h.val * 128 + j.val) % 128, by omega⟩ : Fin 128) = j := Fin.ext (by
    show (h.val * 128 + j.val) % 128 = j.val
    omega)
  have e3 : h.val * 128 + j.val < 512 := by omega
  pointwise [val_main_v68, val_main_call3_v0, val_main_c_4, val_main_v67, val_main_v66, val_main_v65, val_main_v64,
    val_main_v63, val_main_v62, val_main_v61, val_main_v60, val_main_v59, val_main_v58, val_main_v57, val_main_v56,
    val_main_v55, val_main_v54, val_main_cst_3, val_main_v53, val_main_v52, val_main_cst_2, val_main_v51, val_main_v50,
    val_main_v49, val_main_cst_1, val_main_v48, val_main_v47]
  simp only [e1, e2, pre_apply]
  by_cases ht : t.val < 4
  · rw [dif_pos ⟨ht, e3⟩, dif_pos ht]
    rfl
  · rw [dif_neg fun c => ht c.1, dif_neg ht]
    show ((((0#32 : BitVec 32).toInt : ℝ)) : EReal) = 0
    simp

end Cert.ReferenceIdeal.Hgrn
-- ==== Proof.Hgrn.Equation.lean ====
module

public import proofs.«01_k».proof.Proof.Hgrn.Array
public import proofs.«01_k».proof.Proof.Hgrn.Ref

/-!
# The two programs of the recurrence compute the same arrays

The array a window's visits leave behind, block by block, is the reference's.
-/

@[expose] public section

noncomputable section

namespace Cert.KernelIdeal.Hgrn

open Cert.KernelIdeal Cert.KernelIdeal.Gen Idealize.ShloMosaic Idealize.ShloMosaic.TcCoe Idealize.SL.Sem
open Cert.ReferenceIdeal.Read (val_main_v46 val_main_v68)

variable (m : (ℓ : Loc nD τ sig) → Buf (Elt Ideal) ℓ)

/-- The array of the new states is the reference's. -/
theorem state_array (c : Dev nD) :
    (dats m 0 c).arrAt 8 cfg0.N = val_main_v46 (F := Ideal) (A1 m c) (A2 m c) (A3 m c) (A5 m c) := by
  refine (dats m 0 c).arrAt_eq_of_covers 8 _ (by decide +kernel) fun t _ y => ?_
  blk_simp
  rw [after0_8]
  have e : (win0_8.blk t).view.emb y = ix4 (seq t) (y 1) (y 2) (y 3) := by blk_ext [idx t, seq]
  refine (state_point m c t _).trans ?_
  rw [e]
  exact (Cert.ReferenceIdeal.Hgrn.state_apply _ _ _ _ _ _ _ _).symm

/-- The array of the outputs is the reference's. -/
theorem out_array (c : Dev nD) (hfin : ∀ x, Cert.Hgrn.Finite (A1 m c x)) :
    (dats m 0 c).arrAt 7 cfg0.N
      = val_main_v68 (F := Ideal) (A0 m c) (A1 m c) (A2 m c) (A3 m c) (A4 m c) (A5 m c) (A6 m c) := by
  refine (dats m 0 c).arrAt_eq_of_covers 7 _ (by decide +kernel) fun t _ y => ?_
  blk_simp
  rw [after0_7]
  have y2 : (y 2).val < 512 := (y 2).isLt
  have hy : (y 2).val = (y 2).val / 128 * 128 + (y 2).val % 128 := by omega
  have e : (win0_7.blk t).view.emb y = ix3 (seq t) (y 1) ⟨(y 2).val / 128 * 128 + (y 2).val % 128, by omega⟩ := by
    blk_ext [idx t, seq]
  refine (out_point m c t hfin _ ⟨(y 2).val / 128, by omega⟩ ⟨(y 2).val % 128, by omega⟩ hy).trans ?_
  rw [e]
  exact (Cert.ReferenceIdeal.Hgrn.out_apply _ _ _ _ _ _ _ (seq t) (y 1) ⟨(y 2).val / 128, by omega⟩
    ⟨(y 2).val % 128, by omega⟩).symm

end Cert.KernelIdeal.Hgrn
-- ==== Proof.Hgrn.Pre.lean ====
module

public import proofs.«01_k».proof.Defs
public import proofs.«01_k».proof.Proof.Gen.Pre_finite
public import proofs.«01_k».proof.Proof.Hgrn.Spec

/-!
# What the precondition says

The gate logarithms are numbers: neither infinity is among them.
-/

@[expose] public section

noncomputable section

namespace Cert.Hgrn

open Idealize.ShloMosaic Idealize.ShloMosaic.TcCoe Idealize.SL.Sem

/-- The word of the comparison's bound is the upper infinity. -/
theorem bound_word : Ideal.ofBits FTy.f32 2139095040#32 = ⊤ := by
  have e : ((2139095040#32 : BitVec 32).extractLsb' (8 + 23) 1 == 1#1) = false := by decide
  have e1 : ((2139095040#32 : BitVec 32).extractLsb' 23 8).toNat = 2 ^ 8 - 1 := by decide
  have e2 : ((2139095040#32 : BitVec 32).extractLsb' 0 23).toNat = 0 := by decide
  show Ideal.ieee 8 23 2139095040#32 = ⊤
  unfold Ideal.ieee
  simp only [e, e1, e2, if_true, Bool.false_eq_true, if_false]

/-- A number below the upper infinity in absolute value is neither infinity. -/
theorem finite_of_abs (x : EReal) (h : max x (-x) < ⊤) : Finite x := by
  induction x with
  | bot => simp at h
  | top => simp at h
  | coe r => exact ⟨r, rfl⟩

/-- The comparison's bit, set, says the number is neither infinity. -/
theorem finite_of_bit (x : EReal)
    (e : BitVec.ofBool (decide (max x (-x) < Ideal.ofBits FTy.f32 2139095040#32)) = 1#1) : Finite x := by
  rw [bound_word] at e
  apply finite_of_abs
  by_contra hn
  rw [decide_eq_false hn] at e
  exact absurd e (by decide)

/-- The precondition makes every gate logarithm finite. -/
theorem pre_finite (m : (ℓ : Loc Cert.KernelIdeal.nD Cert.KernelIdeal.τ Cert.KernelIdeal.sig) → Buf (Elt Ideal) ℓ)
    (h : Pre_KernelIdeal_finite m) (c : Dev Cert.KernelIdeal.nD) (x : (⟨2, ![128, 512]⟩ : Shape).Idx) :
    Finite (m ((c : Thread Cert.KernelIdeal.nD Cert.KernelIdeal.τ).loc Cert.KernelIdeal.main_arg1) x) :=
  finite_of_bit _ (congrFun (h c) x)

end Cert.Hgrn
-- ==== Proof.Ffn.Spec.lean ====
module

public import Idealize.ShloMosaic.Lib.Pointwise
public import Idealize.ShloMosaic.PureOps.Ideal.Laws

/-!
# The feed-forward layer, as formulas

Rows are numbered through the whole batch: row `n` is token `n % 4096` of sequence `n / 4096`.
-/

@[expose] public section

noncomputable section

namespace Cert.Ffn

open Idealize.ShloMosaic

/-- The exact Gaussian error unit, with the constants' 32-bit words. -/
def gelu (x : EReal) : EReal :=
  Ideal.ofBits .f32 0x3F000000#32 * x
    * (1 + Ideal.erf (x * Ideal.ofBits .f32 0x3F3504F3#32))

/-- The same unit written with the complementary error function. -/
theorem gelu_erfc (x : EReal) :
    Ideal.ofBits .f32 0x3F000000#32 * x * Ideal.erfc (-x * Ideal.ofBits .f32 0x3F3504F3#32) = gelu x := by
  unfold gelu
  rw [neg_mul, Ideal.erfc_neg]

variable (H : (⟨2, ![32768, 1024]⟩ : Shape).Idx → EReal) (X : (⟨2, ![32768, 1024]⟩ : Shape).Idx → EReal)
  (G : (⟨3, ![8, 1, 1024]⟩ : Shape).Idx → EReal) (U : (⟨3, ![1, 1024, 5632]⟩ : Shape).Idx → EReal)
  (K : (⟨3, ![1, 3, 2816]⟩ : Shape).Idx → EReal) (B : (⟨2, ![1, 2816]⟩ : Shape).Idx → EReal)
  (D : (⟨3, ![1, 2816, 1024]⟩ : Shape).Idx → EReal) (S : (⟨1, ![1024]⟩ : Shape).Idx → EReal)

/-- The input projection of row `n` (0 at numbers past the last row, which are never asked for). -/
def up (n : Nat) (f : Fin 5632) : EReal :=
  if h : n < 32768 then ∑ k : Fin 1024, H (ix2 ⟨n, h⟩ k) * U (ix3 0 k f) else 0

/-- The convolved half of the projection, `s` rows back in the same sequence; zero before the sequence starts. -/
def back (s n : Nat) (f : Fin 2816) : EReal :=
  if n % 4096 < s then 0 else up H U (n - s) ⟨f.val, by omega⟩

/-- The causal convolution over the last three rows. -/
def conv (n : Nat) (f : Fin 2816) : EReal :=
  B (ix2 0 f) + K (ix3 0 0 f) * back H U 2 n f + K (ix3 0 1 f) * back H U 1 n f + K (ix3 0 2 f) * back H U 0 n f

/-- The hidden layer: the activated convolution, gated by the other half of the projection. -/
def act (n : Nat) (f : Fin 2816) : EReal :=
  gelu (conv H U K B n f) * up H U n ⟨2816 + f.val, by omega⟩

/-- The residual stream after the layer. -/
def res (n : Fin 32768) (j : Fin 1024) : EReal :=
  X (ix2 n j) + G (ix3 ⟨n.val / 4096, by omega⟩ 0 j) * ∑ f : Fin 2816, act H U K B n.val f * D (ix3 0 f j)

/-- A row scaled to root mean square one, then by the given scales. -/
def rms (x s : Fin 1024 → EReal) (j : Fin 1024) : EReal :=
  x j * Ideal.rsqrt (Ideal.div (∑ i : Fin 1024, x i * x i) (Ideal.ofBits .f32 0x44800000#32)
    + Ideal.ofBits .f32 0x358637BD#32) * s j

/-- The layer's normalised output. -/
def out (n : Fin 32768) (j : Fin 1024) : EReal :=
  rms (res H X G U K B D n) (fun i => S (ix1 i)) j

end Cert.Ffn
-- ==== Proof.Ffn.Block.lean ====
module

public import proofs.«01_k».proof.Proof.Gen.Kernel2Ideal.Value
public import proofs.«01_k».proof.Proof.Ffn.Spec

/-!
# What one block of rows computes

The kernel's body treats 512 rows at a time, and of the hidden layer 256 columns at a time, alike in all eleven column tiles.
The definitions here are one column tile's computation and the block's output; the theorems read them at an index.
-/

@[expose] public section

set_option maxRecDepth 16384

noncomputable section

namespace Cert.Kernel2Ideal.Ffn

open Cert.Kernel2Ideal Cert.Kernel2Ideal.Gen Idealize.ShloMosaic Idealize.SL.Sem

/-- The projection of the block's rows to a column tile. -/
def proj (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256)
    (constant S512x256 .f32 0x00000000#32)

/-- A row given to all 512 rows. -/
def rowwise (x : FVec Ideal S1x256 .f32) : FVec Ideal S512x256 .f32 :=
  broadcastTo S512x256 (shapeCast S1x256 x shapeCasts_S1x256_S1x256) broadcasts_S1x256_S512x256

/-- The row numbers. -/
def rowNo : IVec S512x256 32 := iota .tc S512x256 32 [0] iota_S512x256_d0_w32

/-- The block one row back; its first row is the last row `z1` before the block. -/
def back1 (u : FVec Ideal S512x256 .f32) (z1 : FVec Ideal S1x256 .f32) : FVec Ideal S512x256 .f32 :=
  select (cmpi .eq rowNo (broadcast S512x256 0#32)) (rowwise z1) (dynamicRotate 0 1#32 none u rotates_S512x256_d0)

/-- The block two rows back; its first rows are the last two rows `z2`, `z1` before the block. -/
def back2 (u : FVec Ideal S512x256 .f32) (z2 z1 : FVec Ideal S1x256 .f32) : FVec Ideal S512x256 .f32 :=
  select (cmpi .eq rowNo (broadcast S512x256 0#32)) (rowwise z2)
    (select (cmpi .eq rowNo (broadcast S512x256 1#32)) (rowwise z1) (dynamicRotate 0 2#32 none u rotates_S512x256_d0))

/-- The convolution's column tile. -/
def convTile (u : FVec Ideal S512x256 .f32) (z2 z1 b k0 k1 k2 : FVec Ideal S1x256 .f32) : FVec Ideal S512x256 .f32 :=
  addf (addf (addf (rowwise b) (mulf (rowwise k0) (back2 u z2 z1))) (mulf (rowwise k1) (back1 u z1))) (mulf (rowwise k2) u)

/-- The hidden layer's column tile from its convolution and its gate. -/
def actTile (x v : FVec Ideal S512x256 .f32) : FVec Ideal S512x256 .bf16 :=
  shapeCast S512x256 (truncf .bf16 (mulf (mulf (mulf (broadcast S512x256 (Scalar.ofBits .f32 0x3F000000#32)) x)
      (addf (broadcast S512x256 (Scalar.ofBits .f32 0x3F800000#32))
        (erf (mulf x (broadcast S512x256 (Scalar.ofBits .f32 0x3F3504F3#32)))))) v) bitsLt_bf16_f32)
    shapeCasts_S512x256_S512x256

/-- The last two rows of the block, which the next block's convolution reads. -/
def tail (u : FVec Ideal S512x256 .f32) : FVec Ideal S2x256 .f32 :=
  extractStridedSlice S2x256 ![510, 0] u slices_S512x256_o510_0_S2x256

/-- A projected row. -/
theorem proj_apply (h : FVec Ideal S512x1024 .bf16) (w : FVec Ideal S1024x256 .bf16) (r : Fin 512) (j : Fin 256) :
    proj h w (ix2 r j) = ∑ k : Fin 1024, (h (ix2 r k) * w (ix2 k j) : EReal) := by
  pointwise [proj]

/-- Row numbers compare as numbers do. -/
theorem rowNo_eq : ∀ (r : Fin 512) (k : Fin 2),
    IntOp.cmpi .eq (BitVec.ofNat 32 r.val) (BitVec.ofNat 32 k.val) = if r.val = k.val then 1#1 else 0#1 := by
  decide +kernel

theorem select_row {α : Type} (r : Fin 512) (k : Fin 2) (x y : α) :
    Scalar.select (IntOp.cmpi .eq (BitVec.ofNat 32 r.val) (BitVec.ofNat 32 k.val)) x y = if r.val = k.val then x else y := by
  rw [rowNo_eq]
  split <;> rfl

/-- A row of the block one row back. -/
theorem back1_apply (u : FVec Ideal S512x256 .f32) (z1 : FVec Ideal S1x256 .f32) (r : Fin 512) (j : Fin 256) :
    back1 u z1 (ix2 r j) = if r.val = 0 then z1 (ix2 0 j) else u (ix2 ⟨r.val - 1, by omega⟩ j) := by
  pointwise [back1, rowwise, rowNo]
  refine (select_row r 0 _ _).trans ?_
  by_cases h : r.val = 0
  · exact (if_pos h).trans (if_pos h).symm
  · refine (if_neg h).trans (Eq.trans ?_ (if_neg h).symm)
    congr 2
    refine Fin.ext ?_
    show (r.val + 512 - 1) % 512 = r.val - 1
    omega

/-- A row of the block two rows back. -/
theorem back2_apply (u : FVec Ideal S512x256 .f32) (z2 z1 : FVec Ideal S1x256 .f32) (r : Fin 512) (j : Fin 256) :
    back2 u z2 z1 (ix2 r j) = if r.val = 0 then z2 (ix2 0 j) else if r.val = 1 then z1 (ix2 0 j)
      else u (ix2 ⟨r.val - 2, by omega⟩ j) := by
  pointwise [back2, rowwise, rowNo]
  refine (select_row r 0 _ _).trans ?_
  by_cases h : r.val = 0
  · exact (if_pos h).trans (if_pos h).symm
  · refine (if_neg h).trans (Eq.trans ((select_row r 1 _ _).trans ?_) (if_neg h).symm)
    by_cases h1 : r.val = 1
    · exact (if_pos h1).trans (if_pos h1).symm
    · refine (if_neg h1).trans (Eq.trans ?_ (if_neg h1).symm)
      congr 2
      refine Fin.ext ?_
      show (r.val + 512 - 2) % 512 = r.val - 2
      omega

/-- The convolution at an index. -/
theorem convTile_apply (u : FVec Ideal S512x256 .f32) (z2 z1 b k0 k1 k2 : FVec Ideal S1x256 .f32) (r : Fin 512) (j : Fin 256) :
    convTile u z2 z1 b k0 k1 k2 (ix2 r j)
      = (b (ix2 0 j) + k0 (ix2 0 j) * back2 u z2 z1 (ix2 r j) + k1 (ix2 0 j) * back1 u z1 (ix2 r j)
          + k2 (ix2 0 j) * u (ix2 r j) : EReal) := by
  pointwise [convTile, rowwise]

/-- The hidden layer at an index. -/
theorem actTile_apply (x v : FVec Ideal S512x256 .f32) (r : Fin 512) (j : Fin 256) :
    actTile x v (ix2 r j) = (Cert.Ffn.gelu (x (ix2 r j)) * v (ix2 r j) : EReal) := by
  pointwise [actTile, Cert.Ffn.gelu]
  rfl

theorem tail_apply (u : FVec Ideal S512x256 .f32) (i : Fin 2) (j : Fin 256) :
    tail u (ix2 i j) = u (ix2 ⟨510 + i.val, by omega⟩ j) := by
  pointwise [tail]

section Whole

variable (h : FVec Ideal S512x1024 .bf16) (w : FVec Ideal S1024x5632 .bf16) (k : FVec Ideal S3x2816 .f32)
  (b : FVec Ideal S1x2816 .f32) (z : FVec Ideal S2x2816 .f32)

/-- The block's projection at an index. -/
def upAt (r : Fin 512) (f : Fin 5632) : EReal := ∑ i : Fin 1024, h (ix2 r i) * w (ix2 i f)

/-- The convolved half of the projection at an index. -/
def leftAt (r : Fin 512) (f : Fin 2816) : EReal := upAt h w r ⟨f.val, by omega⟩

/-- The block's convolution at an index, from the two rows `z` before the block. -/
def convAt (r : Fin 512) (f : Fin 2816) : EReal :=
  b (ix2 0 f)
    + k (ix2 0 f) * (if r.val = 0 then z (ix2 0 f) else if r.val = 1 then z (ix2 1 f)
        else leftAt h w ⟨r.val - 2, by omega⟩ f)
    + k (ix2 1 f) * (if r.val = 0 then z (ix2 1 f) else leftAt h w ⟨r.val - 1, by omega⟩ f)
    + k (ix2 2 f) * leftAt h w r f

/-- The block's hidden layer at an index. -/
def actAt (r : Fin 512) (f : Fin 2816) : EReal :=
  Cert.Ffn.gelu (convAt h w k b z r f) * upAt h w r ⟨2816 + f.val, by omega⟩

/-- A column tile's projection is the block's. -/
theorem proj_tile (o : Nat) (inb) (r : Fin 512) (j : Fin 256) (f : Fin 5632) (hf : f.val = o + j.val) :
    proj h (fun x => w ((Rect.unit (s := S1024x5632) ![0, o] ![1024, 256] inb).idx x)) (ix2 r j) = upAt h w r f := by
  rw [proj_apply]
  unfold upAt
  refine Finset.sum_congr rfl fun i _ => ?_
  congr 2
  pointwise
  congr 1
  exact Fin.ext hf.symm

/-- A column tile's hidden layer is the block's. -/
theorem act_tile (o : Nat) (i0 i1 ib k0 k1 k2 z0 z1) (x : S512x256.Idx) (r : Fin 512) (f : Fin 2816)
    (hr : r.val = (x 0).val) (hf : f.val = o + (x 1).val) :
    actTile
        (convTile (proj h (fun x => w ((Rect.unit (s := S1024x5632) ![0, o] ![1024, 256] i0).idx x)))
          (fun x => z ((Rect.unit (s := S2x2816) ![0, o] ![1, 256] z0).idx x))
          (fun x => z ((Rect.unit (s := S2x2816) ![1, o] ![1, 256] z1).idx x))
          (fun x => b ((Rect.unit (s := S1x2816) ![0, o] ![1, 256] ib).idx x))
          (fun x => k ((Rect.unit (s := S3x2816) ![0, o] ![1, 256] k0).idx x))
          (fun x => k ((Rect.unit (s := S3x2816) ![1, o] ![1, 256] k1).idx x))
          (fun x => k ((Rect.unit (s := S3x2816) ![2, o] ![1, 256] k2).idx x)))
        (proj h (fun x => w ((Rect.unit (s := S1024x5632) ![0, 2816 + o] ![1024, 256] i1).idx x))) x
      = actAt h w k b z r f := by
  obtain ⟨f, hl⟩ := f
  obtain ⟨a, j, rfl⟩ : ∃ (a : Fin 512) (j : Fin 256), x = ix2 a j := ⟨x 0, x 1, eq_ix2 x⟩
  obtain rfl : r = a := Fin.ext hr
  obtain rfl : f = o + j.val := hf
  rw [actTile_apply, convTile_apply, back1_apply, back2_apply]
  unfold actAt convAt leftAt
  rw [proj_tile h w o i0 r j ⟨o + j.val, by omega⟩ rfl,
    proj_tile h w (2816 + o) i1 r j ⟨2816 + (o + j.val), by omega⟩ (by
      show 2816 + (o + j.val) = _
      omega),
    proj_tile h w o i0 _ j ⟨o + j.val, by omega⟩ rfl, proj_tile h w o i0 _ j ⟨o + j.val, by omega⟩ rfl]
  pointwise

/-- A column tile's last two rows are the block's. -/
theorem tail_tile (o : Nat) (i0) (i : Fin 2) (j : Fin 256) (f : Fin 2816) (hf : f.val = o + j.val) :
    tail (proj h (fun x => w ((Rect.unit (s := S1024x5632) ![0, o] ![1024, 256] i0).idx x))) (ix2 i j)
      = leftAt h w ⟨510 + i.val, by omega⟩ f := by
  rw [tail_apply]
  exact proj_tile h w o i0 _ j ⟨f.val, by omega⟩ hf

/-- The same as it is stored. -/
theorem tail_piece2 (o : Nat) (i0) (x : S2x256.Idx) (i : Fin 2) (f : Fin 2816) (hi : i.val = (x 0).val)
    (hf : f.val = o + (x 1).val) :
    shapeCast S2x256 (tail (proj h (fun x => w ((Rect.unit (s := S1024x5632) ![0, o] ![1024, 256] i0).idx x))))
        shapeCasts_S2x256_S2x256 x
      = leftAt h w ⟨510 + i.val, by omega⟩ f := by
  obtain ⟨a, j, rfl⟩ : ∃ (a : Fin 2) (j : Fin 256), x = ix2 a j := ⟨x 0, x 1, eq_ix2 x⟩
  obtain rfl : i = a := Fin.ext hi
  rw [← tail_tile h w o i0 i j f hf]
  pointwise

/-- The same as it is stored in the convolution's block. -/
theorem tail_piece3 (o : Nat) (i0) (x : S1x2x256.Idx) (i : Fin 2) (f : Fin 2816) (hi : i.val = (x 1).val)
    (hf : f.val = o + (x 2).val) :
    shapeCast S1x2x256 (tail (proj h (fun x => w ((Rect.unit (s := S1024x5632) ![0, o] ![1024, 256] i0).idx x))))
        shapeCasts_S2x256_S1x2x256 x
      = leftAt h w ⟨510 + i.val, by omega⟩ f := by
  obtain ⟨b, a, j, rfl⟩ : ∃ (b : Fin 1) (a : Fin 2) (j : Fin 256), x = ix3 b a j := ⟨x 0, x 1, x 2, eq_ix3 x⟩
  obtain rfl : i = a := Fin.ext hi
  obtain rfl : b = 0 := Subsingleton.elim _ _
  rw [← tail_tile h w o i0 i j f hf]
  pointwise

end Whole

/-- The block's normalised output at an index. -/
theorem last_apply (x : FVec Ideal S512x1024 .f32) (g : FVec Ideal S1x1x1024 .f32) (a : FVec Ideal S512x2816 .bf16)
    (w : FVec Ideal S2816x1024 .bf16) (s : FVec Ideal S1x1024 .f32) (r : Fin 512) (j : Fin 1024) :
    k0_pay100 (F := Ideal) x g a w s (ix2 r j)
      = Cert.Ffn.rms (fun i => x (ix2 r i) + g (ix3 0 0 i) * ∑ f : Fin 2816, (a (ix2 r f) * w (ix2 f i) : EReal))
          (fun i => s (ix2 0 i)) j := by
  pointwise [k0_pay100, Cert.Ffn.rms]

/-- A block's normalised output, from the blocks it reads and the two rows `z` before it. -/
def outAt (h : FVec Ideal S512x1024 .bf16) (x : FVec Ideal S512x1024 .f32) (g : FVec Ideal S1x1x1024 .f32)
    (w : FVec Ideal S1024x5632 .bf16) (k : FVec Ideal S3x2816 .f32) (b : FVec Ideal S1x2816 .f32)
    (d : FVec Ideal S2816x1024 .bf16) (s : FVec Ideal S1x1024 .f32) (z : FVec Ideal S2x2816 .f32)
    (r : Fin 512) (j : Fin 1024) : EReal :=
  Cert.Ffn.rms (fun i => x (ix2 r i) + g (ix3 0 0 i) * ∑ f : Fin 2816, actAt h w k b z r f * d (ix2 f i))
    (fun i => s (ix2 0 i)) j

/-- A block's output, each part known in closed form. -/
theorem outAt_of (h : FVec Ideal S512x1024 .bf16) (x : FVec Ideal S512x1024 .f32) (g : FVec Ideal S1x1x1024 .f32)
    (w : FVec Ideal S1024x5632 .bf16) (k : FVec Ideal S3x2816 .f32) (b : FVec Ideal S1x2816 .f32)
    (d : FVec Ideal S2816x1024 .bf16) (s : FVec Ideal S1x1024 .f32) (z : FVec Ideal S2x2816 .f32) (r : Fin 512)
    (j : Fin 1024) (X G S : Fin 1024 → EReal) (A : Fin 2816 → EReal) (D : Fin 2816 → Fin 1024 → EReal)
    (hx : ∀ i, x (ix2 r i) = X i) (hg : ∀ i, g (ix3 0 0 i) = G i) (hs : ∀ i, s (ix2 0 i) = S i)
    (ha : ∀ f, actAt h w k b z r f = A f) (hd : ∀ f i, d (ix2 f i) = D f i) :
    outAt h x g w k b d s z r j = Cert.Ffn.rms (fun i => X i + G i * ∑ f : Fin 2816, A f * D f i) S j := by
  unfold outAt
  simp only [hx, hg, hs, ha, hd]

/-- The block's stored output, its hidden layer known in closed form. -/
theorem last_of (h : FVec Ideal S512x1024 .bf16) (x : FVec Ideal S512x1024 .f32) (g : FVec Ideal S1x1x1024 .f32)
    (w : FVec Ideal S1024x5632 .bf16) (k : FVec Ideal S3x2816 .f32) (b : FVec Ideal S1x2816 .f32)
    (d : FVec Ideal S2816x1024 .bf16) (s : FVec Ideal S1x1024 .f32) (z : FVec Ideal S2x2816 .f32)
    (a : FVec Ideal S512x2816 .bf16) (ha : ∀ r f, a (ix2 r f) = actAt h w k b z r f) (r : Fin 512) (j : Fin 1024) :
    k0_pay100 (F := Ideal) x g a d s (ix2 r j) = outAt h x g w k b d s z r j := by
  rw [last_apply]
  simp only [ha]
  rfl

end Cert.Kernel2Ideal.Ffn
-- ==== Proof.Ffn.Point.lean ====
module

public import proofs.«01_k».proof.Proof.Ffn.Block
public import Idealize.ShloMosaic.Lib.Pipeline.ValueKit
public import Idealize.ShloMosaic.Lib.Pipeline.ReadBack

/-!
# What a grid point leaves

A grid point's hidden layer is stored a column tile at a time and read back whole. Here: the hidden layer as read back, the
output block, and the two rows handed to the next point, each from the blocks the point reads.
-/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- Stores that cover an index leave there what they leave without the stores before them. -/
theorem canon_covered {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], hy => by
    obtain ⟨p, hp, _⟩ := hy
    exact absurd hp List.not_mem_nil
  | p :: L, hy => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hyq⟩ := hy
      rw [List.cons_append, View.canon_cons_of_not_mem _ _ hm, View.canon_cons_of_not_mem _ _ hm]
      refine canon_covered L' y L ?_
      rcases List.mem_cons.mp hq with rfl | h
      · exact absurd hyq hm
      · exact ⟨q, h, hyq⟩

/-- What a grid point leaves in the output block, the two rows `z` before it given. -/
abbrev pointOut (c : Dev nD) (t : Fin cfg0.N) (z : FVec Ideal S2x2816 .f32) (r : Fin 512) (j : Fin 1024) : EReal :=
  outAt (iblk m c 0 t) (iblk m c 1 t) (iblk m c 2 t) (iblk m c 4 t) (iblk m c 5 t) (iblk m c 6 t) (iblk m c 7 t)
    (iblk m c 8 t) z r j

set_option maxHeartbeats 4000000 in
/-- The output block at the first point of a sequence. -/
theorem out_A (c : Dev nD) (t : Fin cfg0.N) (h0 : t.val % 8 = 0) (r : Fin 512) (j : Fin 1024) :
    (outsAt0 m c t.val t.isLt).1 (ix2 r j) = pointOut m c t (k0_pay1 (iblk m c 3 t)) r j := by
  rw [outsAt0_A m c t h0]
  dsimp only
  unfold out0_A_9
  frame_open
  simp (disch := decide) only [↓ View.readCov_skip, ↓ View.readCov_cons_toLoadRect, ↓ View.readCov_fill]
  frame_out
  refine last_of (iblk m c 0 t) _ _ (iblk m c 4 t) (iblk m c 5 t) (iblk m c 6 t) _ _ (k0_pay1 (iblk m c 3 t)) _
    (fun r f => ?_) r j
  rw [View.readCov_eq_canon']
  generalize (k0_pay1 (F := Ideal) (iblk m c 3 t)) = Z
  have hB : (Rect.unit (s := S512x2816) ![0, 0] ![512, 2816] inb_S512x2816_S512x2816_0_0).toLoadRect.idx (ix2 r f)
      = ix2 r f := by pointwise
  refine (congrArg (View.canon _) hB).trans ?_
  have hr : (ix2 r f : S512x2816.Idx) 0 = r := rfl
  have hf : (ix2 r f : S512x2816.Idx) 1 = f := rfl
  generalize (ix2 r f : S512x2816.Idx) = y at hr hf ⊢
  subst hr hf
  canon_tiles x k
  on_goal 1 =>
    refine Eq.trans ?_ (act_tile _ _ _ _ Z 2560 (by decide) (by decide) (by decide) (by decide) (by decide) (by decide)
      (by decide) (by decide) x (y 0) (y 1) k0 k1)
  on_goal 2 =>
    refine Eq.trans ?_ (act_tile _ _ _ _ Z 2304 (by decide) (by decide) (by decide) (by decide) (by decide) (by decide)
      (by decide) (by decide) x (y 0) (y 1) k0 k1)
  on_goal 3 =>
    refine Eq.trans ?_ (act_tile _ _ _ _ Z 2048 (by decide) (by decide) (by decide) (by decide) (by decide) (by decide)
      (by decide) (by decide) x (y 0) (y 1) k0 k1)
  on_goal 4 =>
    refine Eq.trans ?_ (act_tile _ _ _ _ Z 1792 (by decide) (by decide) (by decide) (by decide) (by decide) (by decide)
      (by decide) (by decide) x (y 0) (y 1) k0 k1)
  on_goal 5 =>
    refine Eq.trans ?_ (act_tile _ _ _ _ Z 1536 (by decide) (by decide) (by decide) (by decide) (by decide) (by decide)
      (by decide) (by decide) x (y 0) (y 1) k0 k1)
  on_goal 6 =>
    refine Eq.trans ?_ (act_tile _ _ _ _ Z 1280 (by decide) (by decide) (by decide) (by decide) (by decide) (by decide)
      (by decide) (by decide) x (y 0) (y 1) k0 k1)
  on_goal 7 =>
    refine Eq.trans ?_ (act_tile _ _ _ _ Z 1024 (by decide) (by decide) (by decide) (by decide) (by decide) (by decide)
      (by decide) (by decide) x (y 0) (y 1) k0 k1)
  on_goal 8 =>
    refine Eq.trans ?_ (act_tile _ _ _ _ Z 768 (by decide) (by decide) (by decide) (by decide) (by decide) (by decide)
      (by decide) (by decide) x (y 0) (y 1) k0 k1)
  on_goal 9 =>
    refine Eq.trans ?_ (act_tile _ _ _ _ Z 512 (by decide) (by decide) (by decide) (by decide) (by decide) (by decide)
      (by decide) (by decide) x (y 0) (y 1) k0 k1)
  on_goal 10 =>
    refine Eq.trans ?_ (act_tile _ _ _ _ Z 256 (by decide) (by decide) (by decide) (by decide) (by decide) (by decide)
      (by decide) (by decide) x (y 0) (y 1) k0 k1)
  on_goal 11 =>
    refine Eq.trans ?_ (act_tile _ _ _ _ Z 0 (by decide) (by decide) (by decide) (by decide) (by decide) (by decide)
      (by decide) (by decide) x (y 0) (y 1) k0 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

set_option maxHeartbeats 4000000 in
/-- The output block at a later point of a sequence. -/
theorem out_B (c : Dev nD) (t : Fin cfg0.N) (h0 : ¬ t.val % 8 = 0) (r : Fin 512) (j : Fin 1024) :
    (outsAt0 m c t.val t.isLt).1 (ix2 r j) = pointOut m c t (outsAt0 m c (t.val - 1) (Nat.lt_of_le_of_lt (Nat.sub_le _ _) t.isLt)).2.2 r j := by
  rw [outsAt0_B m c t h0]
  dsimp only
  unfold out0_B_9
  frame_open
  simp (disch := decide) only [↓ View.readCov_skip, ↓ View.readCov_cons_toLoadRect, ↓ View.readCov_fill]
  frame_out
  simp only [read_unread_whole]
  refine last_of (iblk m c 0 t) _ _ (iblk m c 4 t) (iblk m c 5 t) (iblk m c 6 t) _ _ (outsAt0 m c (t.val - 1) (Nat.lt_of_le_of_lt (Nat.sub_le _ _) t.isLt)).2.2 _
    (fun r f => ?_) r j
  rw [View.readCov_eq_canon']
  generalize (outsAt0 m c (t.val - 1) (Nat.lt_of_le_of_lt (Nat.sub_le _ _) t.isLt)).2.2 = Z
  have hB : (Rect.unit (s := S512x2816) ![0, 0] ![512, 2816] inb_S512x2816_S512x2816_0_0).toLoadRect.idx (ix2 r f)
      = ix2 r f := by pointwise
  refine (congrArg (View.canon _) hB).trans ?_
  have hr : (ix2 r f : S512x2816.Idx) 0 = r := rfl
  have hf : (ix2 r f : S512x2816.Idx) 1 = f := rfl
  generalize (ix2 r f : S512x2816.Idx) = y at hr hf ⊢
  subst hr hf
  canon_tiles x k
  on_goal 1 =>
    refine Eq.trans ?_ (act_tile _ _ _ _ Z 2560 (by decide) (by decide) (by decide) (by decide) (by decide) (by decide)
      (by decide) (by decide) x (y 0) (y 1) k0 k1)
  on_goal 2 =>
    refine Eq.trans ?_ (act_tile _ _ _ _ Z 2304 (by decide) (by decide) (by decide) (by decide) (by decide) (by decide)
      (by decide) (by decide) x (y 0) (y 1) k0 k1)
  on_goal 3 =>
    refine Eq.trans ?_ (act_tile _ _ _ _ Z 2048 (by decide) (by decide) (by decide) (by decide) (by decide) (by decide)
      (by decide) (by decide) x (y 0) (y 1) k0 k1)
  on_goal 4 =>
    refine Eq.trans ?_ (act_tile _ _ _ _ Z 1792 (by decide) (by decide) (by decide) (by decide) (by decide) (by decide)
      (by decide) (by decide) x (y 0) (y 1) k0 k1)
  on_goal 5 =>
    refine Eq.trans ?_ (act_tile _ _ _ _ Z 1536 (by decide) (by decide) (by decide) (by decide) (by decide) (by decide)
      (by decide) (by decide) x (y 0) (y 1) k0 k1)
  on_goal 6 =>
    refine Eq.trans ?_ (act_tile _ _ _ _ Z 1280 (by decide) (by decide) (by decide) (by decide) (by decide) (by decide)
      (by decide) (by decide) x (y 0) (y 1) k0 k1)
  on_goal 7 =>
    refine Eq.trans ?_ (act_tile _ _ _ _ Z 1024 (by decide) (by decide) (by decide) (by decide) (by decide) (by decide)
      (by decide) (by decide) x (y 0) (y 1) k0 k1)
  on_goal 8 =>
    refine Eq.trans ?_ (act_tile _ _ _ _ Z 768 (by decide) (by decide) (by decide) (by decide) (by decide) (by decide)
      (by decide) (by decide) x (y 0) (y 1) k0 k1)
  on_goal 9 =>
    refine Eq.trans ?_ (act_tile _ _ _ _ Z 512 (by decide) (by decide) (by decide) (by decide) (by decide) (by decide)
      (by decide) (by decide) x (y 0) (y 1) k0 k1)
  on_goal 10 =>
    refine Eq.trans ?_ (act_tile _ _ _ _ Z 256 (by decide) (by decide) (by decide) (by decide) (by decide) (by decide)
      (by decide) (by decide) x (y 0) (y 1) k0 k1)
  on_goal 11 =>
    refine Eq.trans ?_ (act_tile _ _ _ _ Z 0 (by decide) (by decide) (by decide) (by decide) (by decide) (by decide)
      (by decide) (by decide) x (y 0) (y 1) k0 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

set_option maxHeartbeats 4000000 in
/-- The last two rows of the block, as the first point of a sequence leaves them in the convolution's block. -/
theorem tail_A (c : Dev nD) (t : Fin cfg0.N) (h0 : t.val % 8 = 0) (i : Fin 2) (f : Fin 2816) :
    (outsAt0 m c t.val t.isLt).2.1 (ix3 0 i f) = leftAt (iblk m c 0 t) (iblk m c 4 t) ⟨510 + i.val, by omega⟩ f := by
  rw [outsAt0_A m c t h0]
  dsimp only
  unfold out0_A_10
  frame_open
  simp (disch := decide) only [↓ View.readCov_skip, ↓ View.readCov_cons_toLoadRect, ↓ View.readCov_fill]
  frame_out
  have e0 : (ix3 0 i f : S1x2x2816.Idx) 1 = i := rfl
  have e1 : (ix3 0 i f : S1x2x2816.Idx) 2 = f := rfl
  generalize (ix3 0 i f : S1x2x2816.Idx) = y at e0 e1 ⊢
  subst e0 e1
  canon_tiles x k
  on_goal 1 =>
    refine Eq.trans ?_ (tail_piece3 _ _ 2560 (by decide) x (y 1) (y 2) k1 k2)
  on_goal 2 =>
    refine Eq.trans ?_ (tail_piece3 _ _ 2304 (by decide) x (y 1) (y 2) k1 k2)
  on_goal 3 =>
    refine Eq.trans ?_ (tail_piece3 _ _ 2048 (by decide) x (y 1) (y 2) k1 k2)
  on_goal 4 =>
    refine Eq.trans ?_ (tail_piece3 _ _ 1792 (by decide) x (y 1) (y 2) k1 k2)
  on_goal 5 =>
    refine Eq.trans ?_ (tail_piece3 _ _ 1536 (by decide) x (y 1) (y 2) k1 k2)
  on_goal 6 =>
    refine Eq.trans ?_ (tail_piece3 _ _ 1280 (by decide) x (y 1) (y 2) k1 k2)
  on_goal 7 =>
    refine Eq.trans ?_ (tail_piece3 _ _ 1024 (by decide) x (y 1) (y 2) k1 k2)
  on_goal 8 =>
    refine Eq.trans ?_ (tail_piece3 _ _ 768 (by decide) x (y 1) (y 2) k1 k2)
  on_goal 9 =>
    refine Eq.trans ?_ (tail_piece3 _ _ 512 (by decide) x (y 1) (y 2) k1 k2)
  on_goal 10 =>
    refine Eq.trans ?_ (tail_piece3 _ _ 256 (by decide) x (y 1) (y 2) k1 k2)
  on_goal 11 =>
    refine Eq.trans ?_ (tail_piece3 _ _ 0 (by decide) x (y 1) (y 2) k1 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

set_option maxHeartbeats 4000000 in
/-- The last two rows of the block, as the first point of a sequence hands them on. -/
theorem carry_A (c : Dev nD) (t : Fin cfg0.N) (h0 : t.val % 8 = 0) (i : Fin 2) (f : Fin 2816) :
    (outsAt0 m c t.val t.isLt).2.2 (ix2 i f) = leftAt (iblk m c 0 t) (iblk m c 4 t) ⟨510 + i.val, by omega⟩ f := by
  rw [outsAt0_A m c t h0]
  dsimp only
  unfold sout0_A_1
  frame_open
  simp (disch := decide) only [↓ View.readCov_skip, ↓ View.readCov_cons_toLoadRect, ↓ View.readCov_fill]
  frame_out
  have e0 : (ix2 i f : S2x2816.Idx) 0 = i := rfl
  have e1 : (ix2 i f : S2x2816.Idx) 1 = f := rfl
  generalize (ix2 i f : S2x2816.Idx) = y at e0 e1 ⊢
  subst e0 e1
  refine (canon_covered [_] y [_, _, _, _, _, _, _, _, _, _, _] (View.cover_of_tiled_head _ _ _ (by rfl) y)).trans ?_
  canon_tiles x k
  on_goal 1 =>
    refine Eq.trans ?_ (tail_piece2 _ _ 2560 (by decide) x (y 0) (y 1) k0 k1)
  on_goal 2 =>
    refine Eq.trans ?_ (tail_piece2 _ _ 2304 (by decide) x (y 0) (y 1) k0 k1)
  on_goal 3 =>
    refine Eq.trans ?_ (tail_piece2 _ _ 2048 (by decide) x (y 0) (y 1) k0 k1)
  on_goal 4 =>
    refine Eq.trans ?_ (tail_piece2 _ _ 1792 (by decide) x (y 0) (y 1) k0 k1)
  on_goal 5 =>
    refine Eq.trans ?_ (tail_piece2 _ _ 1536 (by decide) x (y 0) (y 1) k0 k1)
  on_goal 6 =>
    refine Eq.trans ?_ (tail_piece2 _ _ 1280 (by decide) x (y 0) (y 1) k0 k1)
  on_goal 7 =>
    refine Eq.trans ?_ (tail_piece2 _ _ 1024 (by decide) x (y 0) (y 1) k0 k1)
  on_goal 8 =>
    refine Eq.trans ?_ (tail_piece2 _ _ 768 (by decide) x (y 0) (y 1) k0 k1)
  on_goal 9 =>
    refine Eq.trans ?_ (tail_piece2 _ _ 512 (by decide) x (y 0) (y 1) k0 k1)
  on_goal 10 =>
    refine Eq.trans ?_ (tail_piece2 _ _ 256 (by decide) x (y 0) (y 1) k0 k1)
  on_goal 11 =>
    refine Eq.trans ?_ (tail_piece2 _ _ 0 (by decide) x (y 0) (y 1) k0 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

set_option maxHeartbeats 4000000 in
/-- The last two rows of the block, as a later point of a sequence leaves them in the convolution's block. -/
theorem tail_B (c : Dev nD) (t : Fin cfg0.N) (h0 : ¬ t.val % 8 = 0) (i : Fin 2) (f : Fin 2816) :
    (outsAt0 m c t.val t.isLt).2.1 (ix3 0 i f) = leftAt (iblk m c 0 t) (iblk m c 4 t) ⟨510 + i.val, by omega⟩ f := by
  rw [outsAt0_B m c t h0]
  dsimp only
  unfold out0_B_10
  frame_open
  simp (disch := decide) only [↓ View.readCov_skip, ↓ View.readCov_cons_toLoadRect, ↓ View.readCov_fill]
  frame_out
  have e0 : (ix3 0 i f : S1x2x2816.Idx) 1 = i := rfl
  have e1 : (ix3 0 i f : S1x2x2816.Idx) 2 = f := rfl
  generalize (ix3 0 i f : S1x2x2816.Idx) = y at e0 e1 ⊢
  subst e0 e1
  canon_tiles x k
  on_goal 1 =>
    refine Eq.trans ?_ (tail_piece3 _ _ 2560 (by decide) x (y 1) (y 2) k1 k2)
  on_goal 2 =>
    refine Eq.trans ?_ (tail_piece3 _ _ 2304 (by decide) x (y 1) (y 2) k1 k2)
  on_goal 3 =>
    refine Eq.trans ?_ (tail_piece3 _ _ 2048 (by decide) x (y 1) (y 2) k1 k2)
  on_goal 4 =>
    refine Eq.trans ?_ (tail_piece3 _ _ 1792 (by decide) x (y 1) (y 2) k1 k2)
  on_goal 5 =>
    refine Eq.trans ?_ (tail_piece3 _ _ 1536 (by decide) x (y 1) (y 2) k1 k2)
  on_goal 6 =>
    refine Eq.trans ?_ (tail_piece3 _ _ 1280 (by decide) x (y 1) (y 2) k1 k2)
  on_goal 7 =>
    refine Eq.trans ?_ (tail_piece3 _ _ 1024 (by decide) x (y 1) (y 2) k1 k2)
  on_goal 8 =>
    refine Eq.trans ?_ (tail_piece3 _ _ 768 (by decide) x (y 1) (y 2) k1 k2)
  on_goal 9 =>
    refine Eq.trans ?_ (tail_piece3 _ _ 512 (by decide) x (y 1) (y 2) k1 k2)
  on_goal 10 =>
    refine Eq.trans ?_ (tail_piece3 _ _ 256 (by decide) x (y 1) (y 2) k1 k2)
  on_goal 11 =>
    refine Eq.trans ?_ (tail_piece3 _ _ 0 (by decide) x (y 1) (y 2) k1 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

set_option maxHeartbeats 4000000 in
/-- The last two rows of the block, as a later point of a sequence hands them on. -/
theorem carry_B (c : Dev nD) (t : Fin cfg0.N) (h0 : ¬ t.val % 8 = 0) (i : Fin 2) (f : Fin 2816) :
    (outsAt0 m c t.val t.isLt).2.2 (ix2 i f) = leftAt (iblk m c 0 t) (iblk m c 4 t) ⟨510 + i.val, by omega⟩ f := by
  rw [outsAt0_B m c t h0]
  dsimp only
  unfold sout0_B_1
  frame_open
  simp (disch := decide) only [↓ View.readCov_skip, ↓ View.readCov_cons_toLoadRect, ↓ View.readCov_fill]
  frame_out
  have e0 : (ix2 i f : S2x2816.Idx) 0 = i := rfl
  have e1 : (ix2 i f : S2x2816.Idx) 1 = f := rfl
  generalize (ix2 i f : S2x2816.Idx) = y at e0 e1 ⊢
  subst e0 e1
  canon_tiles x k
  on_goal 1 =>
    refine Eq.trans ?_ (tail_piece2 _ _ 2560 (by decide) x (y 0) (y 1) k0 k1)
  on_goal 2 =>
    refine Eq.trans ?_ (tail_piece2 _ _ 2304 (by decide) x (y 0) (y 1) k0 k1)
  on_goal 3 =>
    refine Eq.trans ?_ (tail_piece2 _ _ 2048 (by decide) x (y 0) (y 1) k0 k1)
  on_goal 4 =>
    refine Eq.trans ?_ (tail_piece2 _ _ 1792 (by decide) x (y 0) (y 1) k0 k1)
  on_goal 5 =>
    refine Eq.trans ?_ (tail_piece2 _ _ 1536 (by decide) x (y 0) (y 1) k0 k1)
  on_goal 6 =>
    refine Eq.trans ?_ (tail_piece2 _ _ 1280 (by decide) x (y 0) (y 1) k0 k1)
  on_goal 7 =>
    refine Eq.trans ?_ (tail_piece2 _ _ 1024 (by decide) x (y 0) (y 1) k0 k1)
  on_goal 8 =>
    refine Eq.trans ?_ (tail_piece2 _ _ 768 (by decide) x (y 0) (y 1) k0 k1)
  on_goal 9 =>
    refine Eq.trans ?_ (tail_piece2 _ _ 512 (by decide) x (y 0) (y 1) k0 k1)
  on_goal 10 =>
    refine Eq.trans ?_ (tail_piece2 _ _ 256 (by decide) x (y 0) (y 1) k0 k1)
  on_goal 11 =>
    refine Eq.trans ?_ (tail_piece2 _ _ 0 (by decide) x (y 0) (y 1) k0 (by omega))
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, rowwise,
    rowNo, back1, back2, convTile, actTile, proj, tail]
    rfl

end Cert.Kernel2Ideal.Ffn
-- ==== Proof.Ffn.Array.lean ====
module

public import proofs.«01_k».proof.Proof.Ffn.Point
public import Idealize.ShloMosaic.Lib.StableHlo.ReadAt

/-!
# What the feed-forward kernel's blocks hold

Grid point `t` treats rows `512 t` to `512 t + 511`, which belong to sequence `t / 8`. Here: the operands' blocks as parts of
the arguments, and the formulas for what the point leaves.
-/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Ffn (up back conv act res out)

variable (m : (ℓ : Loc nD τ sig) → Buf (Elt Ideal) ℓ)

/-- Which block each window takes at a grid point. -/
theorem idx : ∀ t : Fin cfg0.N, win0_0.index t = ![t.val, 0] ∧ win0_1.index t = ![t.val, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val / 8, 0, 0] :=
  (by decide +kernel : ∀ t : Fin grid0.N, _)

/-- There are 64 grid points. -/
theorem lt64 (t : Fin cfg0.N) : t.val < 64 := t.isLt

/-- A row of a grid point, numbered through the batch. -/
def row (t : Fin cfg0.N) (r : Fin 512) : Fin 32768 := ⟨512 * t.val + r.val, by have := lt64 t; omega⟩

/-- The sequence of a grid point. -/
def seq (t : Fin cfg0.N) : Fin 8 := ⟨t.val / 8, by have := lt64 t; omega⟩

/-- The normalised inputs. -/
abbrev A0 (c : Dev nD) : (⟨2, ![32768, 1024]⟩ : Shape).Idx → EReal := m ((c : Thread nD τ).loc main_arg0)
/-- The residual stream. -/
abbrev A1 (c : Dev nD) : (⟨2, ![32768, 1024]⟩ : Shape).Idx → EReal := m ((c : Thread nD τ).loc main_arg1)
/-- The layer's gates. -/
abbrev A2 (c : Dev nD) : (⟨3, ![8, 1, 1024]⟩ : Shape).Idx → EReal := m ((c : Thread nD τ).loc main_arg2)
/-- The input projection. -/
abbrev A3 (c : Dev nD) : (⟨3, ![1, 1024, 5632]⟩ : Shape).Idx → EReal := m ((c : Thread nD τ).loc main_arg3)
/-- The convolution's weights. -/
abbrev A4 (c : Dev nD) : (⟨3, ![1, 3, 2816]⟩ : Shape).Idx → EReal := m ((c : Thread nD τ).loc main_arg4)
/-- The convolution's bias. -/
abbrev A5 (c : Dev nD) : (⟨2, ![1, 2816]⟩ : Shape).Idx → EReal := m ((c : Thread nD τ).loc main_arg5)
/-- The output projection. -/
abbrev A6 (c : Dev nD) : (⟨3, ![1, 2816, 1024]⟩ : Shape).Idx → EReal := m ((c : Thread nD τ).loc main_arg6)
/-- The normalisation scales. -/
abbrev A7 (c : Dev nD) : (⟨1, ![1024]⟩ : Shape).Idx → EReal := m ((c : Thread nD τ).loc main_arg7)

/-- The input projection that the kernel reads. -/
theorem arr4 (c : Dev nD) (k : Fin 1024) (f : Fin 5632) : (V m c main_v1 (ix2 k f) : EReal) = A3 m c (ix3 0 k f) := by
  simp only [V, hostOps0]
  after_reads_at

/-- The convolution's weights that the kernel reads. -/
theorem arr5 (c : Dev nD) (k : Fin 3) (f : Fin 2816) : (V m c main_v5 (ix2 k f) : EReal) = A4 m c (ix3 0 k f) := by
  simp only [V, hostOps0]
  after_reads_at

/-- The convolution's bias that the kernel reads. -/
theorem arr6 (c : Dev nD) (f : Fin 2816) : (V m c main_v7 (ix2 0 f) : EReal) = A5 m c (ix2 0 f) := by
  simp only [V, hostOps0]
  after_reads_at

/-- The output projection that the kernel reads. -/
theorem arr7 (c : Dev nD) (f : Fin 2816) (j : Fin 1024) : (V m c main_v3 (ix2 f j) : EReal) = A6 m c (ix3 0 f j) := by
  simp only [V, hostOps0]
  after_reads_at

/-- The scales that the kernel reads. -/
theorem arr8 (c : Dev nD) (j : Fin 1024) : (V m c main_v4 (ix2 0 j) : EReal) = A7 m c (ix1 j) := by
  simp only [V, hostOps0]
  after_reads_at

/-- The rows before each sequence that the kernel reads: zeros. -/
theorem arr3 (c : Dev nD) (b : Fin 8) (i : Fin 2) (f : Fin 2816) : (V m c main_v8 (ix3 b i f) : EReal) = (0 : EReal) := by
  simp only [V, hostOps0]
  after_reads_at

theorem arr0 (c : Dev nD) (i) : (V m c main_arg0 i : EReal) = A0 m c i := by
  simp only [V, hostOps0]
  after_reads_at

theorem arr1 (c : Dev nD) (i) : (V m c main_arg1 i : EReal) = A1 m c i := by
  simp only [V, hostOps0]
  after_reads_at

theorem arr2 (c : Dev nD) (i) : (V m c main_arg2 i : EReal) = A2 m c i := by
  simp only [V, hostOps0]
  after_reads_at

/-- The block of the inputs at a grid point. -/
theorem blk0 (c : Dev nD) (t : Fin cfg0.N) (r : Fin 512) (k : Fin 1024) :
    (iblk m c 0 t (ix2 r k) : EReal) = A0 m c (ix2 (row t r) k) := by
  rw [← arr0]
  blk_ext [iblk, idx t, row]

/-- The block of the residual stream at a grid point. -/
theorem blk1 (c : Dev nD) (t : Fin cfg0.N) (r : Fin 512) (k : Fin 1024) :
    (iblk m c 1 t (ix2 r k) : EReal) = A1 m c (ix2 (row t r) k) := by
  rw [← arr1]
  blk_ext [iblk, idx t, row]

/-- The block of the gates at a grid point. -/
theorem blk2 (c : Dev nD) (t : Fin cfg0.N) (k : Fin 1024) :
    (iblk m c 2 t (ix3 0 0 k) : EReal) = A2 m c (ix3 (seq t) 0 k) := by
  rw [← arr2]
  blk_ext [iblk, idx t, seq]

/-- The block of the rows before the sequence: zeros. -/
theorem blk3 (c : Dev nD) (t : Fin cfg0.N) (i : Fin 2) (f : Fin 2816) : (iblk m c 3 t (ix3 0 i f) : EReal) = (0 : EReal) := by
  rw [← arr3 m c (seq t) i f]
  blk_ext [iblk, idx t, seq]

/-- The block of the input projection: all of it. -/
theorem blk4 (c : Dev nD) (t : Fin cfg0.N) (k : Fin 1024) (f : Fin 5632) :
    (iblk m c 4 t (ix2 k f) : EReal) = A3 m c (ix3 0 k f) := by
  rw [← arr4]
  blk_ext [iblk, idx t]

/-- The block of the convolution's weights: all of them. -/
theorem blk5 (c : Dev nD) (t : Fin cfg0.N) (k : Fin 3) (f : Fin 2816) :
    (iblk m c 5 t (ix2 k f) : EReal) = A4 m c (ix3 0 k f) := by
  rw [← arr5]
  blk_ext [iblk, idx t]

/-- The block of the convolution's bias: all of it. -/
theorem blk6 (c : Dev nD) (t : Fin cfg0.N) (f : Fin 2816) : (iblk m c 6 t (ix2 0 f) : EReal) = A5 m c (ix2 0 f) := by
  rw [← arr6]
  blk_ext [iblk, idx t]

/-- The block of the output projection: all of it. -/
theorem blk7 (c : Dev nD) (t : Fin cfg0.N) (f : Fin 2816) (j : Fin 1024) :
    (iblk m c 7 t (ix2 f j) : EReal) = A6 m c (ix3 0 f j) := by
  rw [← arr7]
  blk_ext [iblk, idx t]

/-- The block of the scales: all of them. -/
theorem blk8 (c : Dev nD) (t : Fin cfg0.N) (j : Fin 1024) : (iblk m c 8 t (ix2 0 j) : EReal) = A7 m c (ix1 j) := by
  rw [← arr8]
  blk_ext [iblk, idx t]

/-- The point's projection is the batch's. -/
theorem up_blk (c : Dev nD) (t : Fin cfg0.N) (r : Fin 512) (f : Fin 5632) :
    upAt (iblk m c 0 t) (iblk m c 4 t) r f = up (A0 m c) (A3 m c) (512 * t.val + r.val) f := by
  have hn : 512 * t.val + r.val < 32768 := (row t r).isLt
  unfold upAt up
  rw [dif_pos hn]
  refine Finset.sum_congr rfl fun k _ => ?_
  rw [blk0, blk4]
  rfl

/-- The two rows before a grid point's rows. -/
def before (c : Dev nD) (t : Fin cfg0.N) (i : Fin 2) (f : Fin 2816) : EReal :=
  back (A0 m c) (A3 m c) (2 - i.val) (512 * t.val) f

/-- A sequence starts with the zeros. -/
theorem before_first (c : Dev nD) (t : Fin cfg0.N) (h0 : t.val % 8 = 0) (i : Fin 2) (f : Fin 2816) :
    k0_pay1 (F := Ideal) (iblk m c 3 t) (ix2 i f) = before m c t i f := by
  have e : k0_pay1 (F := Ideal) (iblk m c 3 t) (ix2 i f) = iblk m c 3 t (ix3 0 i f) := by pointwise [k0_pay1]
  unfold before back
  rw [if_pos (by omega)]
  exact e.trans (blk3 m c t i f)

/-- What a grid point hands on, whichever point of its sequence it is. -/
theorem carry (c : Dev nD) (t : Fin cfg0.N) (i : Fin 2) (f : Fin 2816) :
    (outsAt0 m c t.val t.isLt).2.2 (ix2 i f) = up (A0 m c) (A3 m c) (512 * t.val + (510 + i.val)) ⟨f.val, by omega⟩ := by
  by_cases h0 : t.val % 8 = 0
  · exact (carry_A m c t h0 i f).trans (up_blk m c t _ _)
  · exact (carry_B m c t h0 i f).trans (up_blk m c t _ _)

/-- What a grid point leaves in the convolution's block, whichever point of its sequence it is. -/
theorem tail_point (c : Dev nD) (t : Fin cfg0.N) (i : Fin 2) (f : Fin 2816) :
    (outsAt0 m c t.val t.isLt).2.1 (ix3 0 i f) = up (A0 m c) (A3 m c) (512 * t.val + (510 + i.val)) ⟨f.val, by omega⟩ := by
  by_cases h0 : t.val % 8 = 0
  · exact (tail_A m c t h0 i f).trans (up_blk m c t _ _)
  · exact (tail_B m c t h0 i f).trans (up_blk m c t _ _)

/-- A later point starts with what the point before it handed on. -/
theorem before_next (c : Dev nD) (t : Fin cfg0.N) (h0 : ¬ t.val % 8 = 0) (i : Fin 2) (f : Fin 2816) :
    (outsAt0 m c (t.val - 1) (Nat.lt_of_le_of_lt (Nat.sub_le _ _) t.isLt)).2.2 (ix2 i f) = before m c t i f := by
  have ht := lt64 t
  refine (carry m c ⟨t.val - 1, Nat.lt_of_le_of_lt (Nat.sub_le _ _) t.isLt⟩ i f).trans ?_
  unfold before back
  rw [if_neg (by omega)]
  congr 1
  show 512 * (t.val - 1) + (510 + i.val) = 512 * t.val - (2 - i.val)
  omega

/-- The point's convolution is the batch's. -/
theorem conv_blk (c : Dev nD) (t : Fin cfg0.N) (z : FVec Ideal S2x2816 .f32) (hz : ∀ i f, z (ix2 i f) = before m c t i f)
    (r : Fin 512) (f : Fin 2816) :
    convAt (iblk m c 0 t) (iblk m c 4 t) (iblk m c 5 t) (iblk m c 6 t) z r f
      = conv (A0 m c) (A3 m c) (A4 m c) (A5 m c) (512 * t.val + r.val) f := by
  have ht := lt64 t
  have hr := r.isLt
  have e0 : leftAt (iblk m c 0 t) (iblk m c 4 t) r f = back (A0 m c) (A3 m c) 0 (512 * t.val + r.val) f := by
    unfold leftAt back
    rw [if_neg (by omega)]
    exact up_blk m c t _ _
  have e1 : (if r.val = 0 then z (ix2 1 f) else leftAt (iblk m c 0 t) (iblk m c 4 t) ⟨r.val - 1, by omega⟩ f)
      = back (A0 m c) (A3 m c) 1 (512 * t.val + r.val) f := by
    split
    · next h =>
      rw [hz, h]
      rfl
    · next h =>
      unfold leftAt back
      rw [if_neg (by omega), up_blk]
      congr 1
      show 512 * t.val + (r.val - 1) = 512 * t.val + r.val - 1
      omega
  have e2 : (if r.val = 0 then z (ix2 0 f) else if r.val = 1 then z (ix2 1 f)
        else leftAt (iblk m c 0 t) (iblk m c 4 t) ⟨r.val - 2, by omega⟩ f)
      = back (A0 m c) (A3 m c) 2 (512 * t.val + r.val) f := by
    split
    · next h =>
      rw [hz, h]
      rfl
    · next h =>
      split
      · next h1 =>
        rw [hz, h1]
        unfold before back
        by_cases h8 : t.val % 8 = 0
        · rw [if_pos (by show 512 * t.val % 4096 < 2 - 1; omega), if_pos (by omega)]
        · rw [if_neg (by show ¬ 512 * t.val % 4096 < 2 - 1; omega), if_neg (by omega)]
          congr 1
      · next h1 =>
        unfold leftAt back
        rw [if_neg (by omega), up_blk]
        congr 1
        show 512 * t.val + (r.val - 2) = 512 * t.val + r.val - 2
        omega
  unfold convAt conv
  rw [e0, e1, e2, blk5, blk5, blk5, blk6]

/-- The point's hidden layer is the batch's. -/
theorem act_blk (c : Dev nD) (t : Fin cfg0.N) (z : FVec Ideal S2x2816 .f32) (hz : ∀ i f, z (ix2 i f) = before m c t i f)
    (r : Fin 512) (f : Fin 2816) :
    actAt (iblk m c 0 t) (iblk m c 4 t) (iblk m c 5 t) (iblk m c 6 t) z r f
      = act (A0 m c) (A3 m c) (A4 m c) (A5 m c) (512 * t.val + r.val) f := by
  unfold actAt act
  rw [conv_blk m c t z hz, up_blk]

/-- The point's output is the batch's. -/
theorem out_blk (c : Dev nD) (t : Fin cfg0.N) (z : FVec Ideal S2x2816 .f32) (hz : ∀ i f, z (ix2 i f) = before m c t i f)
    (r : Fin 512) (j : Fin 1024) :
    pointOut m c t z r j
      = out (A0 m c) (A1 m c) (A2 m c) (A3 m c) (A4 m c) (A5 m c) (A6 m c) (A7 m c) (row t r) j := by
  have hg : (⟨(row t r).val / 4096, by omega⟩ : Fin 8) = seq t := Fin.ext (by
    show (512 * t.val + r.val) / 4096 = t.val / 8
    omega)
  refine (outAt_of _ _ _ _ _ _ _ _ z r j _ _ _ _ _ (fun i => blk1 m c t r i) (fun i => blk2 m c t i) (fun i => blk8 m c t i)
    (fun f => act_blk m c t z hz r f) (fun f i => blk7 m c t f i)).trans ?_
  unfold out
  congr 1
  funext i
  unfold res
  rw [hg]
  rfl

/-- What a grid point leaves in the output block. -/
theorem out_point (c : Dev nD) (t : Fin cfg0.N) (r : Fin 512) (j : Fin 1024) :
    (outsAt0 m c t.val t.isLt).1 (ix2 r j)
      = out (A0 m c) (A1 m c) (A2 m c) (A3 m c) (A4 m c) (A5 m c) (A6 m c) (A7 m c) (row t r) j := by
  by_cases h0 : t.val % 8 = 0
  · exact (out_A m c t h0 r j).trans (out_blk m c t _ (before_first m c t h0) r j)
  · exact (out_B m c t h0 r j).trans (out_blk m c t _ (before_next m c t h0) r j)

end Cert.Kernel2Ideal.Ffn
-- ==== Proof.Ffn.Ref.lean ====
module

public import proofs.«01_k».proof.Proof.Gen.Reference2Ideal.Read
public import proofs.«01_k».proof.Proof.Ffn.Spec

/-!
# What the feed-forward reference computes

The reference's two results at an index: the normalised output, and the last two rows of the convolved half of each sequence.
-/

@[expose] public section

set_option maxRecDepth 16384

noncomputable section

namespace Cert.Reference2Ideal.Ffn

open Cert.Reference2Ideal Cert.Reference2Ideal.Gen Cert.Reference2Ideal.Read Idealize.ShloMosaic Idealize.SL.Sem
open Cert.Ffn (up back conv act res out)

variable (x0 : FVec Ideal S32768x1024 .bf16) (x1 : FVec Ideal S32768x1024 .f32) (x2 : FVec Ideal S8x1x1024 .f32)
  (x3 : FVec Ideal S1x1024x5632 .f32) (x4 : FVec Ideal S1x3x2816 .f32) (x5 : FVec Ideal S1x2816 .f32)
  (x6 : FVec Ideal S1x2816x1024 .f32) (x7 : FVec Ideal S1024 .f32)

/-- A projected row. -/
theorem up_apply (b : Fin 8) (t : Fin 4096) (f : Fin 5632) :
    val_main_v4 (F := Ideal) x0 x3 (ix3 b t f) = up x0 x3 (4096 * b.val + t.val) f := by
  unfold up
  rw [dif_pos (by omega)]
  pointwise [val_main_v4, val_main_v3, val_main_v1, val_main_v0]
  simp only [Nat.mul_comm b.val 4096]

/-- The convolved half, preceded by two rows of zeros. -/
theorem ext_apply (b : Fin 8) (t : Fin 4098) (f : Fin 2816) :
    val_main_v8 (F := Ideal) x0 x3 (ix3 b t f)
      = if t.val < 2 then (0 : EReal) else up x0 x3 (4096 * b.val + (t.val - 2)) ⟨f.val, by omega⟩ := by
  pointwise [val_main_v8, val_main_v7, val_main_v5, val_main_cst]
  simp only [up_apply]
  split <;> rfl

/-- The causal convolution. -/
theorem conv_apply (b : Fin 8) (t : Fin 4096) (f : Fin 2816) :
    val_main_v32 (F := Ideal) x0 x3 x4 x5 (ix3 b t f) = conv x0 x3 x4 x5 (4096 * b.val + t.val) f := by
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9]
  simp only [ext_apply]
  unfold conv
  have e : ∀ (s : Nat) (hs : s ≤ 2), (if 2 - s + t.val < 2 then (0 : EReal)
      else up x0 x3 (4096 * b.val + (2 - s + t.val - 2)) ⟨f.val, by omega⟩) = back x0 x3 s (4096 * b.val + t.val) f := by
    intro s hs
    unfold back
    split
    · rw [if_pos (by omega)]
    · rw [if_neg (by omega)]
      congr 1
      omega
  have e2 := e 2 (by omega)
  have e1 := e 1 (by omega)
  have e0 := e 0 (by omega)
  simp only [Nat.sub_self, Nat.zero_add] at e2
  rw [← e0, ← e1, ← e2]

/-- The hidden layer. -/
theorem act_apply (b : Fin 8) (t : Fin 4096) (f : Fin 2816) :
    val_main_v40 (F := Ideal) x0 x3 x4 x5 (ix3 b t f) = act x0 x3 x4 x5 (4096 * b.val + t.val) f := by
  pointwise [val_main_v40, val_main_v39, val_main_v38, val_main_v37, val_main_v36, val_main_v35, val_main_v34, val_main_v33,
    val_main_v6, val_main_cst_0, val_main_cst_1]
  rw [Cert.Ffn.gelu_erfc, conv_apply, up_apply]
  rfl

/-- The residual stream after the layer. -/
theorem res_apply (b : Fin 8) (t : Fin 4096) (j : Fin 1024) :
    val_main_v45 (F := Ideal) x0 x1 x2 x3 x4 x5 x6 (ix3 b t j)
      = res x0 x1 x2 x3 x4 x5 x6 ⟨4096 * b.val + t.val, by omega⟩ j := by
  pointwise [val_main_v45, val_main_v44, val_main_v43, val_main_v42, val_main_v41, val_main_v2]
  simp only [act_apply]
  unfold res
  have hb : (⟨(4096 * b.val + t.val) / 4096, by omega⟩ : Fin 8) = b := Fin.ext (by show (4096 * b.val + t.val) / 4096 = b.val; omega)
  simp only [hb, Nat.mul_comm b.val 4096]

/-- The normalised output. -/
theorem out_apply (n : Fin 32768) (j : Fin 1024) :
    val_main_v60 (F := Ideal) x0 x1 x2 x3 x4 x5 x6 x7 (ix2 n j) = out x0 x1 x2 x3 x4 x5 x6 x7 n j := by
  pointwise [val_main_v60, val_main_v59, val_main_v58, val_main_v57, val_main_v56, val_main_v55, val_main_v54, val_main_v53,
    val_main_v52, val_main_v51, val_main_v50, val_main_v49, val_main_v48, val_main_v47, val_main_cst_2, val_main_cst_3,
    val_main_cst_4]
  have hn : (⟨4096 * (n.val / 4096) + n.val % 4096, by omega⟩ : Fin 32768) = n := Fin.ext (by
    show 4096 * (n.val / 4096) + n.val % 4096 = n.val
    omega)
  simp only [res_apply, hn]
  rfl

/-- The last two rows of a sequence's convolved half. -/
theorem tail_apply (b : Fin 8) (i : Fin 2) (f : Fin 2816) :
    val_main_v46 (F := Ideal) x0 x3 (ix3 b i f) = up x0 x3 (4096 * b.val + (4094 + i.val)) ⟨f.val, by omega⟩ := by
  pointwise [val_main_v46]
  rw [ext_apply, if_neg (by show ¬ 4096 + i.val < 2; omega)]
  congr 1
  show 4096 * b.val + (4096 + i.val - 2) = _
  omega

end Cert.Reference2Ideal.Ffn
-- ==== Proof.Ffn.Equation.lean ====
module

public import proofs.«01_k».proof.Proof.Ffn.Array
public import proofs.«01_k».proof.Proof.Ffn.Ref

/-!
# The two programs of the feed-forward layer compute the same arrays

The array a window's visits leave behind, block by block, is the reference's.
-/

@[expose] public section

noncomputable section

namespace Cert.Kernel2Ideal.Ffn

open Cert.Kernel2Ideal Cert.Kernel2Ideal.Gen Idealize.ShloMosaic Idealize.ShloMosaic.TcCoe Idealize.SL.Sem
open Cert.Reference2Ideal.Read (val_main_v46 val_main_v60)

variable (m : (ℓ : Loc nD τ sig) → Buf (Elt Ideal) ℓ)

/-- The array of the outputs is the reference's. -/
theorem out_array (c : Dev nD) :
    (dats m 0 c).arrAt 9 cfg0.N
      = val_main_v60 (F := Ideal) (A0 m c) (A1 m c) (A2 m c) (A3 m c) (A4 m c) (A5 m c) (A6 m c) (A7 m c) := by
  refine (dats m 0 c).arrAt_eq_of_covers 9 _ (by decide +kernel) fun t _ y => ?_
  blk_simp
  rw [after0_9]
  have hy : y = ix2 (y 0) (y 1) := eq_ix2 y
  have e : (win0_9.blk t).view.emb y = ix2 (row t (y 0)) (y 1) := by blk_ext [idx t, row]
  refine ((congrArg (outsAt0 m c t.val t.isLt).1 hy).trans (out_point m c t (y 0) (y 1))).trans ?_
  rw [e]
  exact (Cert.Reference2Ideal.Ffn.out_apply _ _ _ _ _ _ _ _ _ _).symm

/-- The array of the sequences' last convolved rows is the reference's. -/
theorem tail_array (c : Dev nD) :
    (dats m 0 c).arrAt 10 cfg0.N = val_main_v46 (F := Ideal) (A0 m c) (A3 m c) := by
  refine (dats m 0 c).arrAt_eq_of_covers 10 _ (by decide +kernel) fun t ht y => ?_
  have h7 : t.val % 8 = 7 := (by decide +kernel : ∀ t : Fin grid0.N, win0_10.flush t = true → t.val % 8 = 7) t ht
  blk_simp
  rw [after0_10]
  have y0 : (y 0).val < 1 := (y 0).isLt
  have hy : y = ix3 0 (y 1) (y 2) := by
    refine (eq_ix3 y).trans ?_
    congr 1
    exact Fin.ext (by show (y 0).val = 0; omega)
  have e : (win0_10.blk t).view.emb y = ix3 (seq t) (y 1) (y 2) := by blk_ext [idx t, seq]
  refine ((congrArg (outsAt0 m c t.val t.isLt).2.1 hy).trans (tail_point m c t (y 1) (y 2))).trans ?_
  rw [e]
  refine Eq.trans ?_ (Cert.Reference2Ideal.Ffn.tail_apply _ _ _ _ _).symm
  congr 1
  show 512 * t.val + (510 + (y 1).val) = 4096 * (t.val / 8) + (4094 + (y 1).val)
  omega

end Cert.Kernel2Ideal.Ffn
-- ==== Proof.InProj.Spec.lean ====
module

public import Idealize.ShloMosaic.Lib.Pointwise
public import Idealize.ShloMosaic.PureOps.Ideal.Laws

/-!
# The input projection, as formulas

A row of the input is normalised and modulated, then multiplied by the projection's columns. The columns of the recurrence's
gates go on to a forget gate between a learned lower bound and one. Here: these formulas, and the identities between the
two ways in which the gate is computed.
-/

@[expose] public section

noncomputable section

namespace Cert.InProj

open Idealize.ShloMosaic

/-- A row `x`, scaled to root mean square one and by `g`, then modulated by the scales `sc` and the shifts `sh`. -/
def normed (x g sc sh : Fin 1024 → EReal) (k : Fin 1024) : EReal :=
  x k * Ideal.rsqrt (Ideal.div (∑ i, x i * x i) (Ideal.ofBits .f32 1149239296#32) + Ideal.ofBits .f32 897988541#32) * g k
    * (1 + sc k) + sh k

/-- A row times a column. -/
def dot (h w : Fin 1024 → EReal) : EReal := ∑ k, h k * w k

/-- Token `t` of sequence `b`, normalised and modulated with its sequence's shifts and scales, times column `f`. -/
def proj {B T : Nat} (X : (⟨3, ![B, T, 1024]⟩ : Shape).Idx → EReal) (SH SC : (⟨3, ![B, 1, 1024]⟩ : Shape).Idx → EReal)
    (G : (⟨2, ![1, 1024]⟩ : Shape).Idx → EReal) (W : (⟨3, ![1, 1024, 5632]⟩ : Shape).Idx → EReal)
    (b : Fin B) (t : Fin T) (f : Fin 5632) : EReal :=
  dot (normed (fun k => X (ix3 b t k)) (fun k => G (ix2 0 k)) (fun k => SC (ix3 b 0 k)) (fun k => SH (ix3 b 0 k)))
    (fun k => W (ix3 0 k f))

/-- The sigmoid linear unit. -/
def silu (a : EReal) : EReal := a * Ideal.logistic a

/-- The larger of two logits. -/
def top (l : Fin 2 → EReal) : EReal := Finset.fold max (Ideal.ofBits .f32 4286578688#32) l Finset.univ

/-- The gates' lower bound: the first of two logits' shares. -/
def bound (l : Fin 2 → EReal) : EReal := Ideal.div (Ideal.exp (l 0 - top l)) (∑ i, Ideal.exp (l i - top l))

/-- The gates' lower bound of a column. -/
def lower (L : (⟨2, ![2, 512]⟩ : Shape).Idx → EReal) (j : Fin 512) : EReal := bound (fun i => L (ix2 i j))

/-- The logarithm of the forget gate with lower bound `lb`. -/
def gate (lb a : EReal) : EReal := Ideal.log (lb + (1 - lb) * Ideal.logistic a)

/-- One minus the forget gate. -/
def key (lb a : EReal) : EReal := (1 - lb) * (1 - Ideal.logistic a)

/-! ## The sigmoid -/

/-- The sigmoid of a real number. -/
theorem logistic_coe (r : ℝ) : Ideal.logistic (r : EReal) = ((1 / (1 + Real.exp (-r)) : ℝ) : EReal) := by
  have h : (1 + Real.exp (-r) : ℝ) ≠ 0 := by positivity
  have e : (1 : EReal) + ((Real.exp (-r) : ℝ) : EReal) = ((1 + Real.exp (-r) : ℝ) : EReal) := by push_cast; rfl
  show Ideal.div 1 (1 + ((Real.exp (-r) : ℝ) : EReal)) = _
  rw [e]
  unfold Ideal.div
  rw [if_neg (by exact_mod_cast h), ← EReal.coe_inv, one_mul, one_div]

/-- The reciprocal of one is one. -/
theorem div_one_one : Ideal.div 1 1 = 1 := by
  unfold Ideal.div
  rw [if_neg one_ne_zero, one_mul]
  show (((1 : ℝ) : EReal))⁻¹ = ((1 : ℝ) : EReal)
  rw [← EReal.coe_inv, inv_one]

theorem logistic_top : Ideal.logistic ⊤ = 1 := by
  show Ideal.div 1 (1 + 0) = 1
  rw [add_zero, div_one_one]

theorem logistic_bot : Ideal.logistic ⊥ = 0 := by
  show Ideal.div 1 (1 + ⊤) = 0
  rw [EReal.add_top_of_ne_bot (by decide)]
  unfold Ideal.div
  rw [if_neg (by decide), EReal.inv_top, mul_zero]

/-- The decaying exponential of an absolute value. -/
def tail (a : EReal) : EReal := Ideal.exp (0 - max a (-a))

theorem tail_top : tail ⊤ = 0 := by
  unfold tail
  rw [max_eq_left le_top, zero_sub]
  rfl

theorem tail_bot : tail ⊥ = 0 := by
  unfold tail
  rw [max_eq_right bot_le, zero_sub]
  rfl

theorem tail_coe (r : ℝ) : tail (r : EReal) = ((Real.exp (-|r|) : ℝ) : EReal) := by
  unfold tail
  rw [zero_sub]
  have e : max (r : EReal) (-(r : EReal)) = ((|r| : ℝ) : EReal) := by
    rw [abs_eq_max_neg, ← EReal.coe_neg]
    exact (EReal.coe_strictMono.monotone.map_max).symm
  rw [e]
  rfl

/-- One over one plus a positive real. -/
theorem div_coe (r : ℝ) (h : 0 < r) : Ideal.div 1 (1 + ((r : ℝ) : EReal)) = ((1 / (1 + r) : ℝ) : EReal) := by
  have e : (1 : EReal) + (r : EReal) = ((1 + r : ℝ) : EReal) := by push_cast; rfl
  rw [e]
  unfold Ideal.div
  rw [if_neg (by exact_mod_cast (by positivity : (1 + r : ℝ) ≠ 0)), ← EReal.coe_inv, one_mul, one_div]

/-- The sigmoid by the exponential of the negated absolute value. -/
theorem logistic_tail (a : EReal) :
    (if 0 ≤ a then Ideal.div 1 (1 + tail a) else tail a * Ideal.div 1 (1 + tail a)) = Ideal.logistic a := by
  induction a with
  | top => rw [tail_top, logistic_top, add_zero, div_one_one, if_pos le_top]
  | bot => rw [tail_bot, logistic_bot, add_zero, div_one_one, if_neg (by decide), mul_one]
  | coe r =>
    rw [tail_coe, logistic_coe, div_coe _ (Real.exp_pos _)]
    by_cases h : 0 ≤ r
    · rw [if_pos (by exact_mod_cast h), abs_of_nonneg h]
    · rw [if_neg (by exact_mod_cast h), abs_of_neg (not_le.mp h), ← EReal.coe_mul]
      congr 1
      rw [neg_neg, Real.exp_neg]
      have := Real.exp_pos r
      field_simp
      ring

/-- One minus the sigmoid by the exponential of the negated absolute value. -/
theorem one_sub_logistic_tail (a : EReal) :
    (if 0 ≤ a then tail a * Ideal.div 1 (1 + tail a) else Ideal.div 1 (1 + tail a)) = 1 - Ideal.logistic a := by
  induction a with
  | top =>
    rw [tail_top, logistic_top, add_zero, div_one_one, if_pos le_top, mul_one]
    exact (EReal.sub_self (by decide) (by decide)).symm
  | bot => rw [tail_bot, logistic_bot, add_zero, div_one_one, if_neg (by decide), sub_zero]
  | coe r =>
    have e1 : (1 : EReal) - ((1 / (1 + Real.exp (-r)) : ℝ) : EReal) = ((1 - 1 / (1 + Real.exp (-r)) : ℝ) : EReal) := by
      push_cast; rfl
    rw [tail_coe, logistic_coe, div_coe _ (Real.exp_pos _), e1]
    by_cases h : 0 ≤ r
    · rw [if_pos (by exact_mod_cast h), abs_of_nonneg h, ← EReal.coe_mul]
      congr 1
      have := Real.exp_pos (-r)
      field_simp
      ring
    · rw [if_neg (by exact_mod_cast h), abs_of_neg (not_le.mp h)]
      congr 1
      rw [neg_neg, Real.exp_neg]
      have := Real.exp_pos r
      field_simp
      ring

/-- The sigmoid is a real number from zero to one; it is zero at the lower infinity only. -/
theorem logistic_real (a : EReal) :
    ∃ s : ℝ, 0 ≤ s ∧ s ≤ 1 ∧ Ideal.logistic a = (s : EReal) := by
  induction a with
  | top => exact ⟨1, zero_le_one, le_rfl, logistic_top⟩
  | bot => exact ⟨0, le_rfl, zero_le_one, logistic_bot⟩
  | coe r =>
    refine ⟨1 / (1 + Real.exp (-r)), by positivity, ?_, logistic_coe r⟩
    rw [div_le_one (by positivity)]
    have := Real.exp_pos (-r)
    linarith

/-! ## The lower bound -/

/-- The word that the running maximum starts from is the lower infinity. -/
theorem start_word : Ideal.ofBits FTy.f32 4286578688#32 = ⊥ := by
  have e : ((4286578688#32 : BitVec 32).extractLsb' (8 + 23) 1 == 1#1) = true := by decide
  have e1 : ((4286578688#32 : BitVec 32).extractLsb' 23 8).toNat = 2 ^ 8 - 1 := by decide
  have e2 : ((4286578688#32 : BitVec 32).extractLsb' 0 23).toNat = 0 := by decide
  show Ideal.ieee 8 23 4286578688#32 = ⊥
  unfold Ideal.ieee
  simp only [e, e1, e2, if_true]

/-- Starting the maximum twice from the lower infinity changes nothing. -/
theorem max_top (l : Fin 2 → EReal) : max (Ideal.ofBits .f32 4286578688#32) (top l) = top l := by
  rw [start_word, max_eq_right bot_le]

/-- The larger of two real logits. -/
theorem top_coe (l : Fin 2 → EReal) (a b : ℝ) (h0 : l 0 = a) (h1 : l 1 = b) : top l = ((max a b : ℝ) : EReal) := by
  have e : top l = max (l 0) (max (l 1) (Ideal.ofBits .f32 4286578688#32)) := by
    unfold top
    rw [Fin.univ_succ, Finset.fold_cons]
    rfl
  rw [e, start_word, max_eq_left bot_le, h0, h1]
  exact (EReal.coe_strictMono.monotone.map_max).symm

/-- With real logits the lower bound is a real number between zero and one. -/
theorem bound_real (l : Fin 2 → EReal) (h : ∀ i, ∃ r : ℝ, l i = r) : ∃ r : ℝ, 0 < r ∧ r < 1 ∧ bound l = (r : EReal) := by
  obtain ⟨a, ha⟩ := h 0
  obtain ⟨b, hb⟩ := h 1
  have hp := Real.exp_pos (a - max a b)
  have hq := Real.exp_pos (b - max a b)
  refine ⟨Real.exp (a - max a b) / (Real.exp (a - max a b) + Real.exp (b - max a b)), by positivity, ?_, ?_⟩
  · rw [div_lt_one (by positivity)]
    linarith
  · unfold bound
    rw [Fin.sum_univ_two, top_coe l a b ha hb, ha, hb]
    show Ideal.div ((Real.exp (a - max a b) : ℝ) : EReal)
      (((Real.exp (a - max a b) : ℝ) : EReal) + ((Real.exp (b - max a b) : ℝ) : EReal)) = _
    rw [← EReal.coe_add]
    unfold Ideal.div
    rw [if_neg (by exact_mod_cast (by positivity : (Real.exp (a - max a b) + Real.exp (b - max a b) : ℝ) ≠ 0)),
      ← EReal.coe_inv, ← EReal.coe_mul, div_eq_mul_inv]

/-! ## The gate in logarithms -/

/-- The logarithm of the sum of two exponentials, computed from the larger. -/
def logadd (x y : EReal) : EReal :=
  if x - y ≠ x - y then x + y else max x y + Ideal.log1p (Ideal.exp (-(max (x - y) (-(x - y)))))

/-- The logarithm of the sigmoid, computed as minus a sum of exponentials' logarithm. -/
def logsig (a : EReal) : EReal :=
  -if -a ≠ -a then -a else max (-a) 0 + Ideal.log1p (Ideal.exp (-(max (-a) (- -a))))

/-- The logarithm of a positive real. -/
theorem log_coe (r : ℝ) (h : 0 < r) : Ideal.log (r : EReal) = ((Real.log r : ℝ) : EReal) := by
  show (if r ≤ 0 then (⊥ : EReal) else ((Real.log r : ℝ) : EReal)) = _
  rw [if_neg (not_le.mpr h)]

theorem log_one : Ideal.log 1 = 0 := by
  have e := log_coe 1 one_pos
  rw [Real.log_one] at e
  exact e

theorem log1p_zero : Ideal.log1p 0 = 0 := by
  unfold Ideal.log1p
  rw [add_zero, log_one]

theorem log1p_coe (r : ℝ) (h : -1 < r) : Ideal.log1p (r : EReal) = ((Real.log (1 + r) : ℝ) : EReal) := by
  unfold Ideal.log1p
  have e : (1 : EReal) + (r : EReal) = ((1 + r : ℝ) : EReal) := by push_cast; rfl
  rw [e, log_coe _ (by linarith)]

/-- The decaying exponential, as `logsig` and `logadd` write it. -/
theorem exp_neg_max (r : ℝ) :
    Ideal.exp (-(max (r : EReal) (-(r : EReal)))) = ((Real.exp (-|r|) : ℝ) : EReal) := by
  rw [← tail_coe, tail, zero_sub]

/-- The larger number plus the logarithm of one plus the decaying exponential of their distance. -/
theorem log_add (x y : ℝ) : max x y + Real.log (1 + Real.exp (-|x - y|)) = Real.log (Real.exp x + Real.exp y) := by
  rcases le_total y x with h | h
  · rw [max_eq_left h, abs_of_nonneg (by linarith)]
    have e : Real.exp x + Real.exp y = Real.exp x * (1 + Real.exp (-(x - y))) := by
      rw [mul_add, ← Real.exp_add]; congr 2 <;> ring_nf
    rw [e, Real.log_mul (by positivity) (by positivity), Real.log_exp]
  · rw [max_eq_right h, abs_of_nonpos (by linarith)]
    have e : Real.exp x + Real.exp y = Real.exp y * (1 + Real.exp (- -(x - y))) := by
      rw [mul_add, ← Real.exp_add, mul_one, add_comm]; congr 2; ring_nf
    rw [e, Real.log_mul (by positivity) (by positivity), Real.log_exp]

/-- The sum of two exponentials' logarithm at real numbers. -/
theorem logadd_coe (x y : ℝ) : logadd (x : EReal) (y : EReal) = ((Real.log (Real.exp x + Real.exp y) : ℝ) : EReal) := by
  have hs : (x : EReal) - (y : EReal) = ((x - y : ℝ) : EReal) := rfl
  unfold logadd
  rw [if_neg (not_not.mpr rfl), hs, exp_neg_max, log1p_coe _ (by linarith [Real.exp_pos (-|x - y|)]), ← log_add]
  push_cast
  rfl

/-- Adding nothing: the other exponential is zero. -/
theorem logadd_bot (x : ℝ) : logadd (x : EReal) ⊥ = (x : EReal) := by
  have hs : (x : EReal) - ⊥ = ⊤ := EReal.coe_sub_bot x
  unfold logadd
  rw [if_neg (not_not.mpr rfl), hs, max_eq_left (a := (⊤ : EReal)) le_top, max_eq_left bot_le]
  show (x : EReal) + Ideal.log1p 0 = x
  rw [log1p_zero, add_zero]

/-- The logarithm of the sigmoid. -/
theorem logsig_eq (a : EReal) : logsig a = Ideal.log (Ideal.logistic a) := by
  unfold logsig
  rw [if_neg (not_not.mpr rfl)]
  induction a with
  | top =>
    rw [logistic_top, log_one, EReal.neg_top, EReal.neg_bot, max_eq_right bot_le, max_eq_right le_top, EReal.neg_top]
    show -(0 + Ideal.log1p 0) = 0
    rw [log1p_zero, add_zero, neg_zero]
  | bot =>
    rw [logistic_bot, EReal.neg_bot, EReal.neg_top, max_eq_left bot_le, max_eq_left le_top, EReal.neg_top]
    show -(⊤ + Ideal.log1p 0) = Ideal.log ((0 : ℝ) : EReal)
    rw [log1p_zero, add_zero, EReal.neg_top]
    show _ = if (0 : ℝ) ≤ 0 then (⊥ : EReal) else _
    rw [if_pos le_rfl]
  | coe r =>
    rw [logistic_coe, log_coe _ (by positivity), ← EReal.coe_neg, exp_neg_max, log1p_coe _ (by linarith [Real.exp_pos (-|(-r)|)])]
    have e : max (((-r : ℝ)) : EReal) 0 = ((max (-r) 0 : ℝ) : EReal) :=
      (EReal.coe_strictMono.monotone.map_max (a := -r) (b := 0)).symm
    have l := log_add (-r) 0
    rw [sub_zero, Real.exp_zero] at l
    rw [e, ← EReal.coe_add, ← EReal.coe_neg, l, one_div, Real.log_inv, add_comm]

/-- The gate's logarithm, added in logarithms. -/
theorem gate_eq (lb a : EReal) (h : ∃ r : ℝ, 0 < r ∧ r < 1 ∧ lb = (r : EReal)) :
    logadd (Ideal.log lb) (Ideal.log1p (-lb) + logsig a) = gate lb a := by
  obtain ⟨r, h0, h1, rfl⟩ := h
  obtain ⟨s, s0, s1, hs⟩ := logistic_real a
  have e1 : (1 : EReal) - (r : EReal) = ((1 - r : ℝ) : EReal) := by push_cast; rfl
  unfold gate
  rw [logsig_eq, hs, log_coe r h0, ← EReal.coe_neg, log1p_coe _ (by linarith), e1, ← EReal.coe_mul, ← EReal.coe_add,
    log_coe (r + (1 - r) * s) (by nlinarith)]
  rcases s0.lt_or_eq with hp | hz
  · rw [log_coe s hp, ← EReal.coe_add, logadd_coe, Real.exp_log h0, Real.exp_add, Real.exp_log hp,
      Real.exp_log (by linarith), ← sub_eq_add_neg]
  · subst hz
    have e0 : Ideal.log ((0 : ℝ) : EReal) = ⊥ := by
      show (if (0 : ℝ) ≤ 0 then (⊥ : EReal) else _) = ⊥
      rw [if_pos le_rfl]
    rw [e0, EReal.add_bot, logadd_bot, mul_zero, add_zero]

/-- One minus the gate, from the gate's logarithm. -/
theorem key_eq (lb a : EReal) (h : ∃ r : ℝ, 0 < r ∧ r < 1 ∧ lb = (r : EReal)) :
    -(Ideal.exp (gate lb a) - 1) = key lb a := by
  obtain ⟨r, h0, h1, rfl⟩ := h
  obtain ⟨s, s0, s1, hs⟩ := logistic_real a
  have e1 : (1 : EReal) - (r : EReal) = ((1 - r : ℝ) : EReal) := by push_cast; rfl
  have e2 : (1 : EReal) - (s : EReal) = ((1 - s : ℝ) : EReal) := by push_cast; rfl
  have hp : 0 < r + (1 - r) * s := by nlinarith
  unfold gate key
  rw [hs, e1, e2, ← EReal.coe_mul, ← EReal.coe_mul, ← EReal.coe_add, log_coe _ hp]
  show -(((Real.exp (Real.log (r + (1 - r) * s)) : ℝ) : EReal) - ((1 : ℝ) : EReal)) = _
  rw [Real.exp_log hp, ← EReal.coe_sub, ← EReal.coe_neg]
  congr 1
  ring

end Cert.InProj
-- ==== Proof.InProj.Point.lean ====
module

public import proofs.«01_k».proof.Proof.Gen.Kernel3Ideal.Value
public import proofs.«01_k».proof.Proof.InProj.Spec
public import Idealize.ShloMosaic.Lib.Pipeline.ValueKit
public import Idealize.ShloMosaic.Lib.Pipeline.ReadBack
public import Idealize.ShloMosaic.Lib.Pointwise

/-!
# What the prompt's projection kernel leaves at a grid point

A grid point treats 512 rows in two halves. Every output tile is a function of the rows' products with the projection's
columns; the attention's tiles are laid out with columns first.
-/

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Cert.InProj (normed dot silu bound gate key tail logistic_tail one_sub_logistic_tail)

variable (m : (ℓ : Loc nD τ sig) → Buf (Elt Ideal) ℓ)

/-- A row of a grid point, normalised and modulated, times a column of the projection, all from the point's blocks. -/
def pr (c : Dev nD) (t : Fin cfg0.N) (r : Fin 512) (f : Fin 5632) : EReal :=
  dot (normed (fun k => iblk m c 0 t (ix2 r k)) (fun k => iblk m c 3 t (ix2 0 k)) (fun k => iblk m c 2 t (ix3 0 0 k))
    (fun k => iblk m c 1 t (ix3 0 0 k))) (fun k => iblk m c 4 t (ix2 k f))

/-- The gates' lower bound, from a grid point's block. -/
def lb (c : Dev nD) (t : Fin cfg0.N) (j : Fin 512) : EReal := bound (fun i => iblk m c 5 t (ix2 i j))

set_option maxHeartbeats 4000000 in
/-- The queries, scaled. -/
theorem out_6 (c : Dev nD) (t : Fin cfg0.N) (r : Fin 512) (j : Fin 512) :
    ((outsAt0 m c t).1 (ix3 0 j r) : EReal) = pr m c t r ⟨j.val, by omega⟩ * Ideal.ofBits .f32 1043900987#32 := by
  unfold outsAt0
  dsimp only
  unfold out0_A_6
  frame_open
  simp (disch := decide) only [↓ View.readCov_skip, ↓ View.readCov_cons_toLoadRect, ↓ View.readCov_fill]
  frame_out
  have hf : (ix3 0 j r : S1x512x512.Idx) 1 = j := rfl
  have hr : (ix3 0 j r : S1x512x512.Idx) 2 = r := rfl
  generalize (ix3 0 j r : S1x512x512.Idx) = y at hr hf ⊢
  subst hr hf
  canon_tiles x k
  all_goals
    obtain ⟨a, b, d, rfl⟩ : ∃ (a : Fin 1) (b : Fin 512) (d : Fin 256), x = ix3 a b d := ⟨x 0, x 1, x 2, eq_ix3 x⟩
    have ec : y 1 = b := Fin.ext k1
    rw [ec]
  on_goal 1 =>
    have er : y 2 = (⟨256 + d.val, by omega⟩ : Fin 512) := Fin.ext k2
    rw [er]
  on_goal 2 =>
    have er : y 2 = (⟨d.val, by omega⟩ : Fin 512) := Fin.ext k2
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The keys. -/
theorem out_7 (c : Dev nD) (t : Fin cfg0.N) (r : Fin 512) (j : Fin 512) :
    ((outsAt0 m c t).2.1 (ix3 0 j r) : EReal) = pr m c t r ⟨512 + j.val, by omega⟩ := by
  unfold outsAt0
  dsimp only
  unfold out0_A_7
  frame_open
  simp (disch := decide) only [↓ View.readCov_skip, ↓ View.readCov_cons_toLoadRect, ↓ View.readCov_fill]
  frame_out
  have hf : (ix3 0 j r : S1x512x512.Idx) 1 = j := rfl
  have hr : (ix3 0 j r : S1x512x512.Idx) 2 = r := rfl
  generalize (ix3 0 j r : S1x512x512.Idx) = y at hr hf ⊢
  subst hr hf
  canon_tiles x k
  all_goals
    obtain ⟨a, b, d, rfl⟩ : ∃ (a : Fin 1) (b : Fin 512) (d : Fin 256), x = ix3 a b d := ⟨x 0, x 1, x 2, eq_ix3 x⟩
    have ec : y 1 = b := Fin.ext k1
    rw [ec]
  on_goal 1 =>
    have er : y 2 = (⟨256 + d.val, by omega⟩ : Fin 512) := Fin.ext k2
    rw [er]
  on_goal 2 =>
    have er : y 2 = (⟨d.val, by omega⟩ : Fin 512) := Fin.ext k2
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The values. -/
theorem out_8 (c : Dev nD) (t : Fin cfg0.N) (r : Fin 512) (j : Fin 512) :
    ((outsAt0 m c t).2.2.1 (ix3 0 j r) : EReal) = pr m c t r ⟨1024 + j.val, by omega⟩ := by
  unfold outsAt0
  dsimp only
  unfold out0_A_8
  frame_open
  simp (disch := decide) only [↓ View.readCov_skip, ↓ View.readCov_cons_toLoadRect, ↓ View.readCov_fill]
  frame_out
  have hf : (ix3 0 j r : S1x512x512.Idx) 1 = j := rfl
  have hr : (ix3 0 j r : S1x512x512.Idx) 2 = r := rfl
  generalize (ix3 0 j r : S1x512x512.Idx) = y at hr hf ⊢
  subst hr hf
  canon_tiles x k
  all_goals
    obtain ⟨a, b, d, rfl⟩ : ∃ (a : Fin 1) (b : Fin 512) (d : Fin 256), x = ix3 a b d := ⟨x 0, x 1, x 2, eq_ix3 x⟩
    have ec : y 1 = b := Fin.ext k1
    rw [ec]
  on_goal 1 =>
    have er : y 2 = (⟨256 + d.val, by omega⟩ : Fin 512) := Fin.ext k2
    rw [er]
  on_goal 2 =>
    have er : y 2 = (⟨d.val, by omega⟩ : Fin 512) := Fin.ext k2
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The keys by rows. -/
theorem out_9 (c : Dev nD) (t : Fin cfg0.N) (r : Fin 512) (j : Fin 512) :
    ((outsAt0 m c t).2.2.2.1 (ix2 r j) : EReal) = pr m c t r ⟨512 + j.val, by omega⟩ := by
  unfold outsAt0
  dsimp only
  unfold out0_A_9
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The values, rounded. -/
theorem out_10 (c : Dev nD) (t : Fin cfg0.N) (r : Fin 512) (j : Fin 512) :
    ((outsAt0 m c t).2.2.2.2.1 (ix3 0 j r) : EReal) = pr m c t r ⟨1024 + j.val, by omega⟩ := by
  unfold outsAt0
  dsimp only
  unfold out0_A_10
  frame_open
  simp (disch := decide) only [↓ View.readCov_skip, ↓ View.readCov_cons_toLoadRect, ↓ View.readCov_fill]
  frame_out
  have hf : (ix3 0 j r : S1x512x512.Idx) 1 = j := rfl
  have hr : (ix3 0 j r : S1x512x512.Idx) 2 = r := rfl
  generalize (ix3 0 j r : S1x512x512.Idx) = y at hr hf ⊢
  subst hr hf
  canon_tiles x k
  all_goals
    obtain ⟨a, b, d, rfl⟩ : ∃ (a : Fin 1) (b : Fin 512) (d : Fin 256), x = ix3 a b d := ⟨x 0, x 1, x 2, eq_ix3 x⟩
    have ec : y 1 = b := Fin.ext k1
    rw [ec]
  on_goal 1 =>
    have er : y 2 = (⟨256 + d.val, by omega⟩ : Fin 512) := Fin.ext k2
    rw [er]
  on_goal 2 =>
    have er : y 2 = (⟨d.val, by omega⟩ : Fin 512) := Fin.ext k2
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The recurrence's queries. -/
theorem out_11 (c : Dev nD) (t : Fin cfg0.N) (r : Fin 512) (j : Fin 512) :
    ((outsAt0 m c t).2.2.2.2.2.1 (ix2 r j) : EReal) = silu (pr m c t r ⟨1536 + j.val, by omega⟩) := by
  unfold outsAt0
  dsimp only
  unfold out0_A_11
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The gates' logarithms. -/
theorem out_12 (c : Dev nD) (t : Fin cfg0.N) (r : Fin 512) (j : Fin 512) :
    ((outsAt0 m c t).2.2.2.2.2.2.1 (ix2 r j) : EReal) = gate (lb m c t j) (pr m c t r ⟨2048 + j.val, by omega⟩) := by
  unfold outsAt0
  dsimp only
  unfold out0_A_12
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    exact congrArg (fun s : EReal => Ideal.log (lb m c t b + (1 - lb m c t b) * s)) (logistic_tail _)

set_option maxHeartbeats 4000000 in
/-- The recurrence's keys. -/
theorem out_13 (c : Dev nD) (t : Fin cfg0.N) (r : Fin 512) (j : Fin 512) :
    ((outsAt0 m c t).2.2.2.2.2.2.2.1 (ix2 r j) : EReal) = key (lb m c t j) (pr m c t r ⟨2048 + j.val, by omega⟩) := by
  unfold outsAt0
  dsimp only
  unfold out0_A_13
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    exact congrArg (fun s : EReal => (1 - lb m c t b) * s) (one_sub_logistic_tail _)

set_option maxHeartbeats 4000000 in
/-- The recurrence's values. -/
theorem out_14 (c : Dev nD) (t : Fin cfg0.N) (r : Fin 512) (j : Fin 512) :
    ((outsAt0 m c t).2.2.2.2.2.2.2.2.1 (ix2 r j) : EReal) = pr m c t r ⟨2560 + j.val, by omega⟩ := by
  unfold outsAt0
  dsimp only
  unfold out0_A_14
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The recurrence's output gates. -/
theorem out_15 (c : Dev nD) (t : Fin cfg0.N) (r : Fin 512) (j : Fin 512) :
    ((outsAt0 m c t).2.2.2.2.2.2.2.2.2.1 (ix2 r j) : EReal) = silu (pr m c t r ⟨3072 + j.val, by omega⟩) := by
  unfold outsAt0
  dsimp only
  unfold out0_A_15
  frame_open
  simp (disch := decide) only [↓ View.readCov_skip, ↓ View.readCov_cons_toLoadRect, ↓ View.readCov_fill]
  frame_out
  have hr : (ix2 r j : S512x512.Idx) 0 = r := rfl
  have hf : (ix2 r j : S512x512.Idx) 1 = j := rfl
  generalize (ix2 r j : S512x512.Idx) = y at hr hf ⊢
  subst hr hf
  canon_tiles x k
  all_goals
    obtain ⟨a, b, rfl⟩ : ∃ (a : Fin 256) (b : Fin 512), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The attention branch's gates. -/
theorem out_16 (c : Dev nD) (t : Fin cfg0.N) (r : Fin 512) (j : Fin 1024) :
    ((outsAt0 m c t).2.2.2.2.2.2.2.2.2.2.1 (ix2 r j) : EReal) = Ideal.logistic (pr m c t r ⟨3584 + j.val, by omega⟩) := by
  unfold outsAt0
  dsimp only
  unfold out0_A_16
  frame_open
  simp (disch := decide) only [↓ View.readCov_skip, ↓ View.readCov_cons_toLoadRect, ↓ View.readCov_fill]
  frame_out
  have hr : (ix2 r j : S512x1024.Idx) 0 = r := rfl
  have hf : (ix2 r j : S512x1024.Idx) 1 = j := rfl
  generalize (ix2 r j : S512x1024.Idx) = y at hr hf ⊢
  subst hr hf
  canon_tiles x k
  all_goals
    obtain ⟨a, b, rfl⟩ : ∃ (a : Fin 256) (b : Fin 1024), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

set_option maxHeartbeats 4000000 in
/-- The recurrent branch's gates. -/
theorem out_17 (c : Dev nD) (t : Fin cfg0.N) (r : Fin 512) (j : Fin 1024) :
    ((outsAt0 m c t).2.2.2.2.2.2.2.2.2.2.2 (ix2 r j) : EReal) = Ideal.logistic (pr m c t r ⟨4608 + j.val, by omega⟩) := by
  unfold outsAt0
  dsimp only
  unfold out0_A_17
  frame_open
  simp (disch := decide) only [↓ View.readCov_skip, ↓ View.readCov_cons_toLoadRect, ↓ View.readCov_fill]
  frame_out
  have hr : (ix2 r j : S512x1024.Idx) 0 = r := rfl
  have hf : (ix2 r j : S512x1024.Idx) 1 = j := rfl
  generalize (ix2 r j : S512x1024.Idx) = y at hr hf ⊢
  subst hr hf
  canon_tiles x k
  all_goals
    obtain ⟨a, b, rfl⟩ : ∃ (a : Fin 256) (b : Fin 1024), x = ix2 a b := ⟨x 0, x 1, eq_ix2 x⟩
    have ec : y 1 = b := Fin.ext k1
    rw [ec]
  on_goal 1 =>
    have er : y 0 = (⟨256 + a.val, by omega⟩ : Fin 512) := Fin.ext k0
    rw [er]
  on_goal 2 =>
    have er : y 0 = (⟨a.val, by omega⟩ : Fin 512) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, View.ld]
    rfl

end Cert.Kernel3Ideal.InProj
-- ==== Proof.InProj.Array.lean ====
module

public import proofs.«01_k».proof.Proof.InProj.Point
public import Idealize.ShloMosaic.Lib.StableHlo.ReadAt

/-!
# What the projection kernel's blocks hold

Grid point `t` treats rows `512 t` to `512 t + 511`, which belong to sequence `t / 8`. Here: the operands' blocks as parts of
the arguments.
-/

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Cert.InProj (normed dot proj lower bound)

variable (m : (ℓ : Loc nD τ sig) → Buf (Elt Ideal) ℓ)

/-- Which block each window takes at a grid point. -/
theorem idx : ∀ t : Fin cfg0.N, win0_0.index t = ![t.val, 0] ∧ win0_1.index t = ![t.val / 8, 0, 0]
    ∧ win0_2.index t = ![t.val / 8, 0, 0] ∧ win0_3.index t = ![0, 0] ∧ win0_4.index t = ![0, 0] ∧ win0_5.index t = ![0, 0] :=
  (by decide +kernel : ∀ t : Fin grid0.N, _)

/-- Which block each output window leaves at a grid point. -/
theorem idx_out : ∀ t : Fin cfg0.N, win0_6.index t = ![t.val / 8, 0, t.val % 8] ∧ win0_7.index t = ![t.val / 8, 0, t.val % 8]
    ∧ win0_8.index t = ![t.val / 8, 0, t.val % 8] ∧ win0_9.index t = ![t.val, 0]
    ∧ win0_10.index t = ![t.val / 8, 0, t.val % 8] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

/-- There are 64 grid points. -/
theorem lt64 (t : Fin cfg0.N) : t.val < 64 := t.isLt

/-- A row of a grid point, numbered through the batch. -/
def row (t : Fin cfg0.N) (r : Fin 512) : Fin 32768 := ⟨512 * t.val + r.val, by have := lt64 t; omega⟩

/-- The sequence of a grid point. -/
def seq (t : Fin cfg0.N) : Fin 8 := ⟨t.val / 8, by have := lt64 t; omega⟩

/-- A row of a grid point, numbered within its sequence. -/
def pos (t : Fin cfg0.N) (r : Fin 512) : Fin 4096 := ⟨512 * (t.val % 8) + r.val, by omega⟩

/-- The sequence of a row. -/
theorem row_seq (t : Fin cfg0.N) (r : Fin 512) (h) : (⟨(row t r).val / 4096, h⟩ : Fin 8) = seq t :=
  Fin.ext (by show (512 * t.val + r.val) / 4096 = t.val / 8; omega)

/-- The place of a row in its sequence. -/
theorem row_pos (t : Fin cfg0.N) (r : Fin 512) (h) : (⟨(row t r).val % 4096, h⟩ : Fin 4096) = pos t r :=
  Fin.ext (by show (512 * t.val + r.val) % 4096 = 512 * (t.val % 8) + r.val; omega)

/-- The inputs. -/
abbrev A0 (c : Dev nD) : (⟨3, ![8, 4096, 1024]⟩ : Shape).Idx → EReal := m ((c : Thread nD τ).loc main_arg0)
/-- The shifts. -/
abbrev A1 (c : Dev nD) : (⟨3, ![8, 1, 1024]⟩ : Shape).Idx → EReal := m ((c : Thread nD τ).loc main_arg1)
/-- The scales. -/
abbrev A2 (c : Dev nD) : (⟨3, ![8, 1, 1024]⟩ : Shape).Idx → EReal := m ((c : Thread nD τ).loc main_arg2)
/-- The normalisation's scales. -/
abbrev A3 (c : Dev nD) : (⟨2, ![1, 1024]⟩ : Shape).Idx → EReal := m ((c : Thread nD τ).loc main_arg3)
/-- The projection. -/
abbrev A4 (c : Dev nD) : (⟨3, ![1, 1024, 5632]⟩ : Shape).Idx → EReal := m ((c : Thread nD τ).loc main_arg4)
/-- The logits of the gates' lower bound. -/
abbrev A5 (c : Dev nD) : (⟨2, ![2, 512]⟩ : Shape).Idx → EReal := m ((c : Thread nD τ).loc main_arg5)

/-- The rows that the kernel reads. -/
theorem arr0 (c : Dev nD) (n : Fin 32768) (k : Fin 1024) :
    (V m c main_v4 (ix2 n k) : EReal) = A0 m c (ix3 ⟨n.val / 4096, by omega⟩ ⟨n.val % 4096, by omega⟩ k) := by
  simp only [V, hostOps0]
  after_reads_at

/-- The shifts that the kernel reads. -/
theorem arr1 (c : Dev nD) (i) : (V m c main_arg1 i : EReal) = A1 m c i := by
  simp only [V, hostOps0]
  after_reads_at

/-- The scales that the kernel reads. -/
theorem arr2 (c : Dev nD) (i) : (V m c main_arg2 i : EReal) = A2 m c i := by
  simp only [V, hostOps0]
  after_reads_at

/-- The normalisation's scales that the kernel reads. -/
theorem arr3 (c : Dev nD) (k : Fin 1024) : (V m c main_v3 (ix2 0 k) : EReal) = A3 m c (ix2 0 k) := by
  simp only [V, hostOps0]
  after_reads_at

/-- The projection that the kernel reads. -/
theorem arr4 (c : Dev nD) (k : Fin 1024) (f : Fin 5632) : (V m c main_v1 (ix2 k f) : EReal) = A4 m c (ix3 0 k f) := by
  simp only [V, hostOps0]
  after_reads_at

/-- The logits that the kernel reads. -/
theorem arr5 (c : Dev nD) (i) : (V m c main_arg5 i : EReal) = A5 m c i := by
  simp only [V, hostOps0]
  after_reads_at

/-- The block of the rows at a grid point. -/
theorem blk0 (c : Dev nD) (t : Fin cfg0.N) (r : Fin 512) (k : Fin 1024) :
    (iblk m c 0 t (ix2 r k) : EReal) = A0 m c (ix3 (seq t) (pos t r) k) := by
  rw [← row_seq t r (by omega), ← row_pos t r (by omega), ← arr0]
  blk_ext [iblk, idx t, row]

/-- The block of the shifts at a grid point. -/
theorem blk1 (c : Dev nD) (t : Fin cfg0.N) (k : Fin 1024) :
    (iblk m c 1 t (ix3 0 0 k) : EReal) = A1 m c (ix3 (seq t) 0 k) := by
  rw [← arr1]
  blk_ext [iblk, idx t, seq]

/-- The block of the scales at a grid point. -/
theorem blk2 (c : Dev nD) (t : Fin cfg0.N) (k : Fin 1024) :
    (iblk m c 2 t (ix3 0 0 k) : EReal) = A2 m c (ix3 (seq t) 0 k) := by
  rw [← arr2]
  blk_ext [iblk, idx t, seq]

/-- The block of the normalisation's scales at a grid point. -/
theorem blk3 (c : Dev nD) (t : Fin cfg0.N) (k : Fin 1024) : (iblk m c 3 t (ix2 0 k) : EReal) = A3 m c (ix2 0 k) := by
  rw [← arr3]
  blk_ext [iblk, idx t]

/-- The block of the projection at a grid point. -/
theorem blk4 (c : Dev nD) (t : Fin cfg0.N) (k : Fin 1024) (f : Fin 5632) :
    (iblk m c 4 t (ix2 k f) : EReal) = A4 m c (ix3 0 k f) := by
  rw [← arr4]
  blk_ext [iblk, idx t]

/-- The block of the logits at a grid point. -/
theorem blk5 (c : Dev nD) (t : Fin cfg0.N) (i : Fin 2) (j : Fin 512) :
    (iblk m c 5 t (ix2 i j) : EReal) = A5 m c (ix2 i j) := by
  rw [← arr5]
  blk_ext [iblk, idx t]

/-- A row of a grid point times a column, from the arguments. -/
theorem pr_eq (c : Dev nD) (t : Fin cfg0.N) (r : Fin 512) (f : Fin 5632) :
    pr m c t r f = proj (A0 m c) (A1 m c) (A2 m c) (A3 m c) (A4 m c) (seq t) (pos t r) f := by
  unfold pr proj
  congr 1
  · congr 1
    · funext k
      exact blk0 m c t r k
    · funext k
      exact blk3 m c t k
    · funext k
      exact blk2 m c t k
    · funext k
      exact blk1 m c t k
  · funext k
    exact blk4 m c t k f

/-- The gates' lower bound, from the arguments. -/
theorem lb_eq (c : Dev nD) (t : Fin cfg0.N) (j : Fin 512) : lb m c t j = lower (A5 m c) j := by
  unfold lb lower
  congr 1
  funext i
  exact blk5 m c t i j

end Cert.Kernel3Ideal.InProj
-- ==== Proof.InProj.Ref.lean ====
module

public import proofs.«01_k».proof.Proof.Gen.Reference3Ideal.Read
public import proofs.«01_k».proof.Proof.InProj.Spec
public import Idealize.ShloMosaic.Lib.Pointwise

/-!
# What the projection's reference for the prompt computes

The reference's results at an index. Its running sum over the two shares is read in the first share only.
-/

@[expose] public section

set_option maxRecDepth 16384

noncomputable section

namespace Cert.Reference3Ideal.InProj

open Cert.Reference3Ideal Cert.Reference3Ideal.Gen Cert.Reference3Ideal.Read Idealize.ShloMosaic Idealize.SL.Sem
open Cert.InProj (normed dot proj silu bound lower gate key logadd logsig top)

variable (x0 : FVec Ideal S8x4096x1024 .f32) (x1 x2 : FVec Ideal S8x1x1024 .f32) (x3 : FVec Ideal S1x1024 .f32)
  (x4 : FVec Ideal S1x1024x5632 .f32) (x5 : FVec Ideal S2x512 .f32)

/-- A row times a column of the projection. -/
theorem proj_apply (b : Fin 8) (t : Fin 4096) (f : Fin 5632) :
    (val_main_v21 (F := Ideal) x0 x1 x2 x3 x4 (ix3 b t f) : EReal) = proj x0 x1 x2 x3 x4 b t f := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  rfl

/-- The first share of two logits. -/
theorem share_apply (j : Fin 512) : (val_main_v41 (F := Ideal) x5 (ix2 0 j) : EReal) = lower x5 j := by
  pointwise [val_main_v41, val_main_v40, val_main_v39, val_main_v38, val_main_cst_5, val_main_v37, val_main_v36, val_main_v35,
    val_main_v34, val_main_v33, val_main_v32, val_main_cst_4, val_main_v31, val_main_cst_3]
  exact congrArg (fun M : EReal => Ideal.div (Ideal.exp (x5 (ix2 0 j) - M)) (∑ i, Ideal.exp (x5 (ix2 i j) - M)))
    (Cert.InProj.max_top (fun i => x5 (ix2 i j)))

/-- The shape of one window of the running sum. -/
abbrev Win : Shape := ⟨2, ![2, 1]⟩

/-- The coordinates of the `n`-th position of a window. -/
theorem win_coord : ∀ (n : Fin Win.numel) (a : Fin 2), (Win.rowMajor.symm n a).val = ![n.val, 0] a := by
  decide +kernel

/-- One position of the first window: padding, or the first share. -/
theorem win_term (x : S2x512.Idx → EReal) (j : Fin 512) (n : Fin Win.numel)
    (P : Prop) {dec : Decidable P}
    (hP : P ↔ ∀ a : Fin 2, (![1, 0] : Fin 2 → Nat) a
          ≤ (ix2 (0 : Fin 2) j a).val * (![1, 1] : Fin 2 → Nat) a + (Win.rowMajor.symm n a).val
        ∧ (ix2 (0 : Fin 2) j a).val * (![1, 1] : Fin 2 → Nat) a + (Win.rowMajor.symm n a).val
            - (![1, 0] : Fin 2 → Nat) a < S2x512.size a)
    (f : P → S2x512.Idx)
    (hf : ∀ (p : P) (a : Fin 2), (f p a).val = (ix2 (0 : Fin 2) j a).val * (![1, 1] : Fin 2 → Nat) a
        + (Win.rowMajor.symm n a).val - (![1, 0] : Fin 2 → Nat) a) :
    (if hp : P then x (f hp) else 0) = if n.val = 1 then x (ix2 0 j) else 0 := by
  have h2 : n.val < 2 := n.isLt
  by_cases hn : n.val = 1
  · have hp : P := hP.mpr fun a => by
      rw [win_coord]
      fin_cases a
      · show 1 ≤ 0 * 1 + n.val ∧ 0 * 1 + n.val - 1 < 2
        omega
      · show 0 ≤ j.val * 1 + 0 ∧ j.val * 1 + 0 - 0 < 512
        omega
    rw [if_pos hn, dif_pos hp]
    congr 1
    funext a
    refine Fin.ext ?_
    rw [hf hp a, win_coord]
    fin_cases a
    · show 0 * 1 + n.val - 1 = 0
      omega
    · show j.val * 1 + 0 - 0 = j.val
      omega
  · rw [if_neg hn, dif_neg]
    intro hp
    have h3 := (hP.mp hp 0).1
    rw [win_coord] at h3
    have h4 : 1 ≤ 0 * 1 + n.val := h3
    omega

/-- The running sum at the first share is that share. -/
theorem window_sum (x : S2x512.Idx → EReal) (j : Fin 512) :
    Ideal.hostReduceWindowAdd ![2, 1] ![1, 1] ![1, 0] ![0, 0]
      reduceWindows_S2x512_S2x512_w2s1p1_0_w1s1p0_0 x 0 (ix2 0 j) = x (ix2 0 j) := by
  have e : Ideal.hostReduceWindowAdd ![2, 1] ![1, 1] ![1, 0] ![0, 0]
      reduceWindows_S2x512_S2x512_w2s1p1_0_w1s1p0_0 x 0 (ix2 0 j)
      = (List.finRange Win.numel).foldl (fun r n => r + if n.val = 1 then x (ix2 0 j) else 0) 0 := by
    unfold Ideal.hostReduceWindowAdd Host.reduceWindow
    refine congrArg (fun f : EReal → Fin Win.numel → EReal => List.foldl f 0 (List.finRange Win.numel)) ?_
    funext r n
    refine congrArg (fun y : EReal => r + y) ?_
    refine win_term x j n _ ?_ _ ?_
    · exact Iff.rfl
    · exact fun _ _ => rfl
  rw [e]
  show (0 : EReal) + 0 + x (ix2 0 j) = x (ix2 0 j)
  rw [add_zero, zero_add]

/-- The lower bound of the gates. -/
theorem lower_apply (j : Fin 512) : (val_main_v42 (F := Ideal) x5 (ix2 0 j) : EReal) = lower x5 j := by
  have e : val_main_v42 (F := Ideal) x5 (ix2 0 j)
      = Ideal.hostReduceWindowAdd ![2, 1] ![1, 1] ![1, 0] ![0, 0]
      reduceWindows_S2x512_S2x512_w2s1p1_0_w1s1p0_0 (val_main_v41 (F := Ideal) x5)
      (val_main_call0_call0_v0 (F := Ideal) (Shape.Idx.first h_S_)) (ix2 0 j) := rfl
  have z : (val_main_call0_call0_v0 (F := Ideal) (Shape.Idx.first h_S_) : EReal) = 0 := by
    pointwise [val_main_call0_call0_v0, val_main_call0_call0_cst]
  rw [e, z, window_sum, share_apply]

/-- The gates' logarithms, for logits that are real numbers. -/
theorem gate_apply (h5 : ∀ i, ∃ r : ℝ, (x5 i : EReal) = r) (b : Fin 8) (t : Fin 4096) (j : Fin 512) :
    (val_main_v65 (F := Ideal) x0 x1 x2 x3 x4 x5 (ix3 b t j) : EReal)
      = gate (lower x5 j) (proj x0 x1 x2 x3 x4 b t ⟨2048 + j.val, by omega⟩) := by
  pointwise [val_main_v65, val_main_v64, val_main_v63, val_main_v62, val_main_v61, val_main_v60, val_main_v59,
    val_main_v58, val_main_v57, val_main_v56, val_main_v55, val_main_v54, val_main_v53, val_main_v52, val_main_v51,
    val_main_v50, val_main_v49, val_main_v48, val_main_v47, val_main_v46, val_main_v45, val_main_v44, val_main_v43,
    val_main_call1_v1, val_main_call1_call0_v11, val_main_call1_call0_v10, val_main_call1_call0_v9,
    val_main_call1_call0_v8, val_main_call1_call0_v7, val_main_call1_call0_v6, val_main_call1_call0_v5,
    val_main_call1_call0_v4, val_main_call1_call0_v3, val_main_call1_call0_v2, val_main_call1_call0_v1,
    val_main_call1_call0_v0, val_main_call1_call0_cst, val_main_call1_v0, val_main_v26]
  simp only [lower_apply, proj_apply]
  exact Cert.InProj.gate_eq _ _ (Cert.InProj.bound_real _ fun i => h5 (ix2 i j))

/-- The queries, scaled. -/
theorem res_6 (b : Fin 8) (j : Fin 512) (t : Fin 4096) :
    (val_main_v85 (F := Ideal) x0 x1 x2 x3 x4 (ix3 b j t) : EReal)
      = (proj x0 x1 x2 x3 x4 b t ⟨j.val, by omega⟩) * Ideal.ofBits .f32 1043900987#32 := by
  pointwise [val_main_v85, val_main_v84, val_main_v69, val_main_v68, val_main_cst_6, val_main_v22]
  simp only [proj_apply]

/-- The keys. -/
theorem res_7 (b : Fin 8) (j : Fin 512) (t : Fin 4096) :
    (val_main_v86 (F := Ideal) x0 x1 x2 x3 x4 (ix3 b j t) : EReal)
      = proj x0 x1 x2 x3 x4 b t ⟨512 + j.val, by omega⟩ := by
  pointwise [val_main_v86, val_main_v23]
  simp only [proj_apply]

/-- The values. -/
theorem res_8 (b : Fin 8) (j : Fin 512) (t : Fin 4096) :
    (val_main_v87 (F := Ideal) x0 x1 x2 x3 x4 (ix3 b j t) : EReal)
      = proj x0 x1 x2 x3 x4 b t ⟨1024 + j.val, by omega⟩ := by
  pointwise [val_main_v87, val_main_v24]
  simp only [proj_apply]

/-- The keys by rows. -/
theorem res_9 (n : Fin 32768) (j : Fin 512) :
    (val_main_v89 (F := Ideal) x0 x1 x2 x3 x4 (ix2 n j) : EReal)
      = proj x0 x1 x2 x3 x4 ⟨n.val / 4096, by omega⟩ ⟨n.val % 4096, by omega⟩ ⟨512 + j.val, by omega⟩ := by
  pointwise [val_main_v89, val_main_v88, val_main_v23]
  simp only [proj_apply]

/-- The values, rounded. -/
theorem res_10 (b : Fin 8) (j : Fin 512) (t : Fin 4096) :
    (val_main_v91 (F := Ideal) x0 x1 x2 x3 x4 (ix3 b j t) : EReal)
      = proj x0 x1 x2 x3 x4 b t ⟨1024 + j.val, by omega⟩ := by
  pointwise [val_main_v91, val_main_v90, val_main_v24]
  simp only [proj_apply]

/-- The recurrence's queries. -/
theorem res_11 (n : Fin 32768) (j : Fin 512) :
    (val_main_v93 (F := Ideal) x0 x1 x2 x3 x4 (ix2 n j) : EReal)
      = silu (proj x0 x1 x2 x3 x4 ⟨n.val / 4096, by omega⟩ ⟨n.val % 4096, by omega⟩ ⟨1536 + j.val, by omega⟩) := by
  pointwise [val_main_v93, val_main_v92, val_main_v70, val_main_call2_v5, val_main_call2_v4, val_main_call2_v3, val_main_call2_v2, val_main_call2_v1, val_main_call2_v0, val_main_call2_cst, val_main_call2_cst_0, val_main_v25]
  simp only [proj_apply]
  rfl

/-- The gates' logarithms. -/
theorem res_12 (h5 : ∀ i, ∃ r : ℝ, (x5 i : EReal) = r) (n : Fin 32768) (j : Fin 512) :
    (val_main_v94 (F := Ideal) x0 x1 x2 x3 x4 x5 (ix2 n j) : EReal)
      = gate (lower x5 j) (proj x0 x1 x2 x3 x4 ⟨n.val / 4096, by omega⟩ ⟨n.val % 4096, by omega⟩ ⟨2048 + j.val, by omega⟩) := by
  pointwise [val_main_v94]
  exact gate_apply x0 x1 x2 x3 x4 x5 h5 _ _ j

/-- The recurrence's keys. -/
theorem res_13 (h5 : ∀ i, ∃ r : ℝ, (x5 i : EReal) = r) (n : Fin 32768) (j : Fin 512) :
    (val_main_v96 (F := Ideal) x0 x1 x2 x3 x4 x5 (ix2 n j) : EReal)
      = key (lower x5 j) (proj x0 x1 x2 x3 x4 ⟨n.val / 4096, by omega⟩ ⟨n.val % 4096, by omega⟩ ⟨2048 + j.val, by omega⟩) := by
  pointwise [val_main_v96, val_main_v95, val_main_v67, val_main_v66]
  rw [gate_apply x0 x1 x2 x3 x4 x5 h5]
  exact Cert.InProj.key_eq _ _ (Cert.InProj.bound_real _ fun i => h5 (ix2 i j))

/-- The recurrence's values. -/
theorem res_14 (n : Fin 32768) (j : Fin 512) :
    (val_main_v98 (F := Ideal) x0 x1 x2 x3 x4 (ix2 n j) : EReal)
      = proj x0 x1 x2 x3 x4 ⟨n.val / 4096, by omega⟩ ⟨n.val % 4096, by omega⟩ ⟨2560 + j.val, by omega⟩ := by
  pointwise [val_main_v98, val_main_v97, val_main_v27]
  simp only [proj_apply]

/-- The recurrence's output gates. -/
theorem res_15 (n : Fin 32768) (j : Fin 512) :
    (val_main_v100 (F := Ideal) x0 x1 x2 x3 x4 (ix2 n j) : EReal)
      = silu (proj x0 x1 x2 x3 x4 ⟨n.val / 4096, by omega⟩ ⟨n.val % 4096, by omega⟩ ⟨3072 + j.val, by omega⟩) := by
  pointwise [val_main_v100, val_main_v99, val_main_v71, val_main_call3_v5, val_main_call3_v4, val_main_call3_v3, val_main_call3_v2, val_main_call3_v1, val_main_call3_v0, val_main_call3_cst, val_main_call3_cst_0, val_main_v28]
  simp only [proj_apply]
  rfl

/-- The attention branch's gates. -/
theorem res_16 (n : Fin 32768) (j : Fin 1024) :
    (val_main_v102 (F := Ideal) x0 x1 x2 x3 x4 (ix2 n j) : EReal)
      = Ideal.logistic (proj x0 x1 x2 x3 x4 ⟨n.val / 4096, by omega⟩ ⟨n.val % 4096, by omega⟩ ⟨3584 + j.val, by omega⟩) := by
  pointwise [val_main_v102, val_main_v101, val_main_v77, val_main_v76, val_main_v75, val_main_v74, val_main_v73, val_main_v72, val_main_cst_7, val_main_cst_8, val_main_v29]
  simp only [proj_apply]
  rfl

/-- The recurrent branch's gates. -/
theorem res_17 (n : Fin 32768) (j : Fin 1024) :
    (val_main_v104 (F := Ideal) x0 x1 x2 x3 x4 (ix2 n j) : EReal)
      = Ideal.logistic (proj x0 x1 x2 x3 x4 ⟨n.val / 4096, by omega⟩ ⟨n.val % 4096, by omega⟩ ⟨4608 + j.val, by omega⟩) := by
  pointwise [val_main_v104, val_main_v103, val_main_v83, val_main_v82, val_main_v81, val_main_v80, val_main_v79, val_main_v78, val_main_cst_9, val_main_cst_10, val_main_v30]
  simp only [proj_apply]
  rfl

end Cert.Reference3Ideal.InProj
-- ==== Proof.InProj.Equation.lean ====
module

public import proofs.«01_k».proof.Proof.InProj.Array
public import proofs.«01_k».proof.Proof.InProj.Ref

/-!
# The two programs of the prompt's projection compute the same arrays

The array a window's visits leave behind, block by block, is the reference's.
-/

@[expose] public section

noncomputable section

namespace Cert.Kernel3Ideal.InProj

open Cert.Kernel3Ideal Cert.Kernel3Ideal.Gen Idealize.ShloMosaic Idealize.ShloMosaic.TcCoe Idealize.SL.Sem
open Cert.Reference3Ideal.Read (val_main_v85 val_main_v86 val_main_v87 val_main_v89 val_main_v91
  val_main_v93 val_main_v94 val_main_v96 val_main_v98 val_main_v100 val_main_v102 val_main_v104)

variable (m : (ℓ : Loc nD τ sig) → Buf (Elt Ideal) ℓ)

/-- The block of the queries is the reference's. -/
theorem point_6 (c : Dev nD) (t : Fin cfg0.N) (r : Fin 512) (j : Fin 512) :
    ((outsAt0 m c t).1 (ix3 0 j r) : EReal) = val_main_v85 (F := Ideal) (A0 m c) (A1 m c) (A2 m c) (A3 m c) (A4 m c) (ix3 (seq t) j (pos t r)) := by
  rw [out_6, pr_eq]
  exact (Cert.Reference3Ideal.InProj.res_6 _ _ _ _ _ (seq t) j (pos t r)).symm

/-- The array of the queries is the reference's. -/
theorem array_6 (c : Dev nD) :
    (dats m 0 c).arrAt 6 cfg0.N = val_main_v85 (F := Ideal) (A0 m c) (A1 m c) (A2 m c) (A3 m c) (A4 m c) := by
  refine (dats m 0 c).arrAt_eq_of_covers 6 _ (by decide +kernel) fun t _ y => ?_
  blk_simp
  rw [after0_6]
  have y0 : (y 0).val < 1 := (y 0).isLt
  have hy : y = ix3 0 (y 1) (y 2) := by
    refine (eq_ix3 y).trans ?_
    congr 1
    exact Fin.ext (by show (y 0).val = 0; omega)
  have e : (win0_6.blk t).view.emb y = ix3 (seq t) (y 1) (pos t (y 2)) := by blk_ext [idx_out t, seq, pos]
  refine ((congrArg (outsAt0 m c t).1 hy).trans (point_6 m c t (y 2) (y 1))).trans ?_
  rw [e]
  rfl

/-- The block of the keys is the reference's. -/
theorem point_7 (c : Dev nD) (t : Fin cfg0.N) (r : Fin 512) (j : Fin 512) :
    ((outsAt0 m c t).2.1 (ix3 0 j r) : EReal) = val_main_v86 (F := Ideal) (A0 m c) (A1 m c) (A2 m c) (A3 m c) (A4 m c) (ix3 (seq t) j (pos t r)) := by
  rw [out_7, pr_eq]
  exact (Cert.Reference3Ideal.InProj.res_7 _ _ _ _ _ (seq t) j (pos t r)).symm

/-- The array of the keys is the reference's. -/
theorem array_7 (c : Dev nD) :
    (dats m 0 c).arrAt 7 cfg0.N = val_main_v86 (F := Ideal) (A0 m c) (A1 m c) (A2 m c) (A3 m c) (A4 m c) := by
  refine (dats m 0 c).arrAt_eq_of_covers 7 _ (by decide +kernel) fun t _ y => ?_
  blk_simp
  rw [after0_7]
  have y0 : (y 0).val < 1 := (y 0).isLt
  have hy : y = ix3 0 (y 1) (y 2) := by
    refine (eq_ix3 y).trans ?_
    congr 1
    exact Fin.ext (by show (y 0).val = 0; omega)
  have e : (win0_7.blk t).view.emb y = ix3 (seq t) (y 1) (pos t (y 2)) := by blk_ext [idx_out t, seq, pos]
  refine ((congrArg (outsAt0 m c t).2.1 hy).trans (point_7 m c t (y 2) (y 1))).trans ?_
  rw [e]
  rfl

/-- The block of the values is the reference's. -/
theorem point_8 (c : Dev nD) (t : Fin cfg0.N) (r : Fin 512) (j : Fin 512) :
    ((outsAt0 m c t).2.2.1 (ix3 0 j r) : EReal) = val_main_v87 (F := Ideal) (A0 m c) (A1 m c) (A2 m c) (A3 m c) (A4 m c) (ix3 (seq t) j (pos t r)) := by
  rw [out_8, pr_eq]
  exact (Cert.Reference3Ideal.InProj.res_8 _ _ _ _ _ (seq t) j (pos t r)).symm

/-- The array of the values is the reference's. -/
theorem array_8 (c : Dev nD) :
    (dats m 0 c).arrAt 8 cfg0.N = val_main_v87 (F := Ideal) (A0 m c) (A1 m c) (A2 m c) (A3 m c) (A4 m c) := by
  refine (dats m 0 c).arrAt_eq_of_covers 8 _ (by decide +kernel) fun t _ y => ?_
  blk_simp
  rw [after0_8]
  have y0 : (y 0).val < 1 := (y 0).isLt
  have hy : y = ix3 0 (y 1) (y 2) := by
    refine (eq_ix3 y).trans ?_
    congr 1
    exact Fin.ext (by show (y 0).val = 0; omega)
  have e : (win0_8.blk t).view.emb y = ix3 (seq t) (y 1) (pos t (y 2)) := by blk_ext [idx_out t, seq, pos]
  refine ((congrArg (outsAt0 m c t).2.2.1 hy).trans (point_8 m c t (y 2) (y 1))).trans ?_
  rw [e]
  rfl

/-- The block of the keys by rows is the reference's. -/
theorem point_9 (c : Dev nD) (t : Fin cfg0.N) (r : Fin 512) (j : Fin 512) :
    ((outsAt0 m c t).2.2.2.1 (ix2 r j) : EReal) = val_main_v89 (F := Ideal) (A0 m c) (A1 m c) (A2 m c) (A3 m c) (A4 m c) (ix2 (row t r) j) := by
  rw [out_9, pr_eq]
  refine Eq.trans ?_ (Cert.Reference3Ideal.InProj.res_9 _ _ _ _ _ (row t r) j).symm
  rw [row_seq, row_pos]

/-- The array of the keys by rows is the reference's. -/
theorem array_9 (c : Dev nD) :
    (dats m 0 c).arrAt 9 cfg0.N = val_main_v89 (F := Ideal) (A0 m c) (A1 m c) (A2 m c) (A3 m c) (A4 m c) := by
  refine (dats m 0 c).arrAt_eq_of_covers 9 _ (by decide +kernel) fun t _ y => ?_
  blk_simp
  rw [after0_9]
  have hy : y = ix2 (y 0) (y 1) := eq_ix2 y
  have e : (win0_9.blk t).view.emb y = ix2 (row t (y 0)) (y 1) := by blk_ext [idx_out t, row]
  refine ((congrArg (outsAt0 m c t).2.2.2.1 hy).trans (point_9 m c t (y 0) (y 1))).trans ?_
  rw [e]
  rfl

/-- The block of the rounded values is the reference's. -/
theorem point_10 (c : Dev nD) (t : Fin cfg0.N) (r : Fin 512) (j : Fin 512) :
    ((outsAt0 m c t).2.2.2.2.1 (ix3 0 j r) : EReal) = val_main_v91 (F := Ideal) (A0 m c) (A1 m c) (A2 m c) (A3 m c) (A4 m c) (ix3 (seq t) j (pos t r)) := by
  rw [out_10, pr_eq]
  exact (Cert.Reference3Ideal.InProj.res_10 _ _ _ _ _ (seq t) j (pos t r)).symm

/-- The array of the rounded values is the reference's. -/
theorem array_10 (c : Dev nD) :
    (dats m 0 c).arrAt 10 cfg0.N = val_main_v91 (F := Ideal) (A0 m c) (A1 m c) (A2 m c) (A3 m c) (A4 m c) := by
  refine (dats m 0 c).arrAt_eq_of_covers 10 _ (by decide +kernel) fun t _ y => ?_
  blk_simp
  rw [after0_10]
  have y0 : (y 0).val < 1 := (y 0).isLt
  have hy : y = ix3 0 (y 1) (y 2) := by
    refine (eq_ix3 y).trans ?_
    congr 1
    exact Fin.ext (by show (y 0).val = 0; omega)
  have e : (win0_10.blk t).view.emb y = ix3 (seq t) (y 1) (pos t (y 2)) := by blk_ext [idx_out t, seq, pos]
  refine ((congrArg (outsAt0 m c t).2.2.2.2.1 hy).trans (point_10 m c t (y 2) (y 1))).trans ?_
  rw [e]
  rfl

/-- The block of the recurrence's queries is the reference's. -/
theorem point_11 (c : Dev nD) (t : Fin cfg0.N) (r : Fin 512) (j : Fin 512) :
    ((outsAt0 m c t).2.2.2.2.2.1 (ix2 r j) : EReal) = val_main_v93 (F := Ideal) (A0 m c) (A1 m c) (A2 m c) (A3 m c) (A4 m c) (ix2 (row t r) j) := by
  rw [out_11, pr_eq]
  refine Eq.trans ?_ (Cert.Reference3Ideal.InProj.res_11 _ _ _ _ _ (row t r) j).symm
  rw [row_seq, row_pos]

/-- The array of the recurrence's queries is the reference's. -/
theorem array_11 (c : Dev nD) :
    (dats m 0 c).arrAt 11 cfg0.N = val_main_v93 (F := Ideal) (A0 m c) (A1 m c) (A2 m c) (A3 m c) (A4 m c) := by
  refine (dats m 0 c).arrAt_eq_of_covers 11 _ (by decide +kernel) fun t _ y => ?_
  blk_simp
  rw [after0_11]
  have hy : y = ix2 (y 0) (y 1) := eq_ix2 y
  have e : (win0_11.blk t).view.emb y = ix2 (row t (y 0)) (y 1) := by blk_ext [idx_out t, row]
  refine ((congrArg (outsAt0 m c t).2.2.2.2.2.1 hy).trans (point_11 m c t (y 0) (y 1))).trans ?_
  rw [e]
  rfl

/-- The block of the gates' logarithms is the reference's, for logits that are real numbers. -/
theorem point_12 (c : Dev nD) (h5 : ∀ i, ∃ r : ℝ, A5 m c i = r) (t : Fin cfg0.N) (r : Fin 512) (j : Fin 512) :
    ((outsAt0 m c t).2.2.2.2.2.2.1 (ix2 r j) : EReal) = val_main_v94 (F := Ideal) (A0 m c) (A1 m c) (A2 m c) (A3 m c) (A4 m c) (A5 m c) (ix2 (row t r) j) := by
  rw [out_12, pr_eq, lb_eq]
  refine Eq.trans ?_ (Cert.Reference3Ideal.InProj.res_12 _ _ _ _ _ _ h5 (row t r) j).symm
  rw [row_seq, row_pos]

/-- The array of the gates' logarithms is the reference's, for logits that are real numbers. -/
theorem array_12 (c : Dev nD) (h5 : ∀ i, ∃ r : ℝ, A5 m c i = r) :
    (dats m 0 c).arrAt 12 cfg0.N = val_main_v94 (F := Ideal) (A0 m c) (A1 m c) (A2 m c) (A3 m c) (A4 m c) (A5 m c) := by
  refine (dats m 0 c).arrAt_eq_of_covers 12 _ (by decide +kernel) fun t _ y => ?_
  blk_simp
  rw [after0_12]
  have hy : y = ix2 (y 0) (y 1) := eq_ix2 y
  have e : (win0_12.blk t).view.emb y = ix2 (row t (y 0)) (y 1) := by blk_ext [idx_out t, row]
  refine ((congrArg (outsAt0 m c t).2.2.2.2.2.2.1 hy).trans (point_12 m c h5 t (y 0) (y 1))).trans ?_
  rw [e]
  rfl

/-- The block of the recurrence's keys is the reference's, for logits that are real numbers. -/
theorem point_13 (c : Dev nD) (h5 : ∀ i, ∃ r : ℝ, A5 m c i = r) (t : Fin cfg0.N) (r : Fin 512) (j : Fin 512) :
    ((outsAt0 m c t).2.2.2.2.2.2.2.1 (ix2 r j) : EReal) = val_main_v96 (F := Ideal) (A0 m c) (A1 m c) (A2 m c) (A3 m c) (A4 m c) (A5 m c) (ix2 (row t r) j) := by
  rw [out_13, pr_eq, lb_eq]
  refine Eq.trans ?_ (Cert.Reference3Ideal.InProj.res_13 _ _ _ _ _ _ h5 (row t r) j).symm
  rw [row_seq, row_pos]

/-- The array of the recurrence's keys is the reference's, for logits that are real numbers. -/
theorem array_13 (c : Dev nD) (h5 : ∀ i, ∃ r : ℝ, A5 m c i = r) :
    (dats m 0 c).arrAt 13 cfg0.N = val_main_v96 (F := Ideal) (A0 m c) (A1 m c) (A2 m c) (A3 m c) (A4 m c) (A5 m c) := by
  refine (dats m 0 c).arrAt_eq_of_covers 13 _ (by decide +kernel) fun t _ y => ?_
  blk_simp
  rw [after0_13]
  have hy : y = ix2 (y 0) (y 1) := eq_ix2 y
  have e : (win0_13.blk t).view.emb y = ix2 (row t (y 0)) (y 1) := by blk_ext [idx_out t, row]
  refine ((congrArg (outsAt0 m c t).2.2.2.2.2.2.2.1 hy).trans (point_13 m c h5 t (y 0) (y 1))).trans ?_
  rw [e]
  rfl

/-- The block of the recurrence's values is the reference's. -/
theorem point_14 (c : Dev nD) (t : Fin cfg0.N) (r : Fin 512) (j : Fin 512) :
    ((outsAt0 m c t).2.2.2.2.2.2.2.2.1 (ix2 r j) : EReal) = val_main_v98 (F := Ideal) (A0 m c) (A1 m c) (A2 m c) (A3 m c) (A4 m c) (ix2 (row t r) j) := by
  rw [out_14, pr_eq]
  refine Eq.trans ?_ (Cert.Reference3Ideal.InProj.res_14 _ _ _ _ _ (row t r) j).symm
  rw [row_seq, row_pos]

/-- The array of the recurrence's values is the reference's. -/
theorem array_14 (c : Dev nD) :
    (dats m 0 c).arrAt 14 cfg0.N = val_main_v98 (F := Ideal) (A0 m c) (A1 m c) (A2 m c) (A3 m c) (A4 m c) := by
  refine (dats m 0 c).arrAt_eq_of_covers 14 _ (by decide +kernel) fun t _ y => ?_
  blk_simp
  rw [after0_14]
  have hy : y = ix2 (y 0) (y 1) := eq_ix2 y
  have e : (win0_14.blk t).view.emb y = ix2 (row t (y 0)) (y 1) := by blk_ext [idx_out t, row]
  refine ((congrArg (outsAt0 m c t).2.2.2.2.2.2.2.2.1 hy).trans (point_14 m c t (y 0) (y 1))).trans ?_
  rw [e]
  rfl

/-- The block of the recurrence's output gates is the reference's. -/
theorem point_15 (c : Dev nD) (t : Fin cfg0.N) (r : Fin 512) (j : Fin 512) :
    ((outsAt0 m c t).2.2.2.2.2.2.2.2.2.1 (ix2 r j) : EReal) = val_main_v100 (F := Ideal) (A0 m c) (A1 m c) (A2 m c) (A3 m c) (A4 m c) (ix2 (row t r) j) := by
  rw [out_15, pr_eq]
  refine Eq.trans ?_ (Cert.Reference3Ideal.InProj.res_15 _ _ _ _ _ (row t r) j).symm
  rw [row_seq, row_pos]

/-- The array of the recurrence's output gates is the reference's. -/
theorem array_15 (c : Dev nD) :
    (dats m 0 c).arrAt 15 cfg0.N = val_main_v100 (F := Ideal) (A0 m c) (A1 m c) (A2 m c) (A3 m c) (A4 m c) := by
  refine (dats m 0 c).arrAt_eq_of_covers 15 _ (by decide +kernel) fun t _ y => ?_
  blk_simp
  rw [after0_15]
  have hy : y = ix2 (y 0) (y 1) := eq_ix2 y
  have e : (win0_15.blk t).view.emb y = ix2 (row t (y 0)) (y 1) := by blk_ext [idx_out t, row]
  refine ((congrArg (outsAt0 m c t).2.2.2.2.2.2.2.2.2.1 hy).trans (point_15 m c t (y 0) (y 1))).trans ?_
  rw [e]
  rfl

/-- The block of the attention branch's gates is the reference's. -/
theorem point_16 (c : Dev nD) (t : Fin cfg0.N) (r : Fin 512) (j : Fin 1024) :
    ((outsAt0 m c t).2.2.2.2.2.2.2.2.2.2.1 (ix2 r j) : EReal) = val_main_v102 (F := Ideal) (A0 m c) (A1 m c) (A2 m c) (A3 m c) (A4 m c) (ix2 (row t r) j) := by
  rw [out_16, pr_eq]
  refine Eq.trans ?_ (Cert.Reference3Ideal.InProj.res_16 _ _ _ _ _ (row t r) j).symm
  rw [row_seq, row_pos]

/-- The array of the attention branch's gates is the reference's. -/
theorem array_16 (c : Dev nD) :
    (dats m 0 c).arrAt 16 cfg0.N = val_main_v102 (F := Ideal) (A0 m c) (A1 m c) (A2 m c) (A3 m c) (A4 m c) := by
  refine (dats m 0 c).arrAt_eq_of_covers 16 _ (by decide +kernel) fun t _ y => ?_
  blk_simp
  rw [after0_16]
  have hy : y = ix2 (y 0) (y 1) := eq_ix2 y
  have e : (win0_16.blk t).view.emb y = ix2 (row t (y 0)) (y 1) := by blk_ext [idx_out t, row]
  refine ((congrArg (outsAt0 m c t).2.2.2.2.2.2.2.2.2.2.1 hy).trans (point_16 m c t (y 0) (y 1))).trans ?_
  rw [e]
  rfl

/-- The block of the recurrent branch's gates is the reference's. -/
theorem point_17 (c : Dev nD) (t : Fin cfg0.N) (r : Fin 512) (j : Fin 1024) :
    ((outsAt0 m c t).2.2.2.2.2.2.2.2.2.2.2 (ix2 r j) : EReal) = val_main_v104 (F := Ideal) (A0 m c) (A1 m c) (A2 m c) (A3 m c) (A4 m c) (ix2 (row t r) j) := by
  rw [out_17, pr_eq]
  refine Eq.trans ?_ (Cert.Reference3Ideal.InProj.res_17 _ _ _ _ _ (row t r) j).symm
  rw [row_seq, row_pos]

/-- The array of the recurrent branch's gates is the reference's. -/
theorem array_17 (c : Dev nD) :
    (dats m 0 c).arrAt 17 cfg0.N = val_main_v104 (F := Ideal) (A0 m c) (A1 m c) (A2 m c) (A3 m c) (A4 m c) := by
  refine (dats m 0 c).arrAt_eq_of_covers 17 _ (by decide +kernel) fun t _ y => ?_
  blk_simp
  rw [after0_17]
  have hy : y = ix2 (y 0) (y 1) := eq_ix2 y
  have e : (win0_17.blk t).view.emb y = ix2 (row t (y 0)) (y 1) := by blk_ext [idx_out t, row]
  refine ((congrArg (outsAt0 m c t).2.2.2.2.2.2.2.2.2.2.2 hy).trans (point_17 m c t (y 0) (y 1))).trans ?_
  rw [e]
  rfl

end Cert.Kernel3Ideal.InProj
-- ==== Proof.InProj.Pre.lean ====
module

public import proofs.«01_k».proof.Defs
public import proofs.«01_k».proof.Proof.Gen.Pre_finite_prompt
public import proofs.«01_k».proof.Proof.Hgrn.Pre

/-!
# What the prompt's precondition says

The logits of the gates' lower bound are real numbers: neither infinity is among them.
-/

@[expose] public section

noncomputable section

namespace Cert.Kernel3Ideal.InProj

open Idealize.ShloMosaic Idealize.ShloMosaic.TcCoe Idealize.SL.Sem

/-- The precondition makes every logit real. -/
theorem logits_real (m : (ℓ : Loc Cert.Kernel3Ideal.nD Cert.Kernel3Ideal.τ Cert.Kernel3Ideal.sig) → Buf (Elt Ideal) ℓ)
    (h : Pre_Kernel3Ideal_finite_prompt m) (c : Dev Cert.Kernel3Ideal.nD) (x : (⟨2, ![2, 512]⟩ : Shape).Idx) :
    Cert.Hgrn.Finite (m ((c : Thread Cert.Kernel3Ideal.nD Cert.Kernel3Ideal.τ).loc Cert.Kernel3Ideal.main_arg5) x) :=
  Cert.Hgrn.finite_of_bit _ (congrFun (h c) x)

end Cert.Kernel3Ideal.InProj
-- ==== Proof.InProj.Claim.lean ====
module

public import proofs.«01_k».proof.Proof.Gen.Reference3Ideal.Run
public import proofs.«01_k».proof.Proof.InProj.Equation
public import proofs.«01_k».proof.Proof.InProj.Pre
public import Idealize.ShloMosaic.Adequacy

/-!
# The claims on the prompt's projection

The reference runs and leaves its arguments, and the two programs end with equal arrays.
-/

@[expose] public section

noncomputable section

namespace Cert.Kernel3Ideal.InProj

open Idealize.ShloMosaic Idealize.ShloMosaic.TcCoe Idealize.SL.Sem

/-- The reference runs and leaves its arguments; it uses no semaphore. -/
theorem reference_runs : Cert.quiescent_Reference3Ideal := fun m g _ =>
  (θ_run Cert.Reference3Ideal.defs _ _).mono
    (fun r h => ⟨fun c => (h c).2.2.2.2.2.2.2.2.2.2.2.2, Idealize.ShloMosaic.sem_eq_zero_of_no_sems (by decide) r.2⟩)
    (Cert.Reference3Ideal.Value.run m g)

set_option maxHeartbeats 4000000 in
/-- The kernel and its reference end with equal arrays. -/
theorem same_arrays : Cert.algebraic_Kernel3Ideal_Reference3Ideal_pre_finite_prompt := by
  intro m g m' g' hpre hag
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    Cert.Kernel3Ideal.Value.run_blocks m g, (θ_run _ _ _).mono (fun r h c => ?_) (Cert.Reference3Ideal.Value.run m' g')⟩
  obtain ⟨e0, e1, e2, e3, e4, e5⟩ := hag c
  obtain ⟨h0, h1, h2, h3, h4, h5, h6, h7, h8, h9, h10, h11, hrest⟩ := h c
  have real := logits_real m hpre c
  refine ⟨h0.trans ?_, h1.trans ?_, h2.trans ?_, h3.trans ?_, h4.trans ?_, h5.trans ?_,
    h6.trans ?_, h7.trans ?_, h8.trans ?_, h9.trans ?_, h10.trans ?_, h11.trans ?_, hrest⟩
  · rw [Cert.Reference3Ideal.Read.val_main_v85_eq, e0, e1, e2, e3, e4]
    exact (array_6 m c).symm
  · rw [Cert.Reference3Ideal.Read.val_main_v86_eq, e0, e1, e2, e3, e4]
    exact (array_7 m c).symm
  · rw [Cert.Reference3Ideal.Read.val_main_v87_eq, e0, e1, e2, e3, e4]
    exact (array_8 m c).symm
  · rw [Cert.Reference3Ideal.Read.val_main_v89_eq, e0, e1, e2, e3, e4]
    exact (array_9 m c).symm
  · rw [Cert.Reference3Ideal.Read.val_main_v91_eq, e0, e1, e2, e3, e4]
    exact (array_10 m c).symm
  · rw [Cert.Reference3Ideal.Read.val_main_v93_eq, e0, e1, e2, e3, e4]
    exact (array_11 m c).symm
  · rw [Cert.Reference3Ideal.Read.val_main_v94_eq, e0, e1, e2, e3, e4, e5]
    exact (array_12 m c real).symm
  · rw [Cert.Reference3Ideal.Read.val_main_v96_eq, e0, e1, e2, e3, e4, e5]
    exact (array_13 m c real).symm
  · rw [Cert.Reference3Ideal.Read.val_main_v98_eq, e0, e1, e2, e3, e4]
    exact (array_14 m c).symm
  · rw [Cert.Reference3Ideal.Read.val_main_v100_eq, e0, e1, e2, e3, e4]
    exact (array_15 m c).symm
  · rw [Cert.Reference3Ideal.Read.val_main_v102_eq, e0, e1, e2, e3, e4]
    exact (array_16 m c).symm
  · rw [Cert.Reference3Ideal.Read.val_main_v104_eq, e0, e1, e2, e3, e4]
    exact (array_17 m c).symm

end Cert.Kernel3Ideal.InProj
-- ==== Proof.InProjS.Point.lean ====
module

public import proofs.«01_k».proof.Proof.Gen.Kernel4Ideal.Value
public import proofs.«01_k».proof.Proof.InProj.Spec
public import Idealize.ShloMosaic.Lib.Pipeline.ValueKit
public import Idealize.ShloMosaic.Lib.Pipeline.ReadBack
public import Idealize.ShloMosaic.Lib.Pointwise

/-!
# What the samples' projection kernel leaves

One grid point treats all 128 rows, each with a shift and scales of its own. Every output tile is a function of the rows'
products with the projection's columns.
-/

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Cert.InProj (normed dot silu bound gate key tail logistic_tail one_sub_logistic_tail)

variable (m : (ℓ : Loc nD τ sig) → Buf (Elt Ideal) ℓ)

/-- A row of a grid point, normalised and modulated, times a column of the projection, all from the point's blocks. -/
def pr (c : Dev nD) (t : Fin cfg0.N) (r : Fin 128) (f : Fin 5632) : EReal :=
  dot (normed (fun k => iblk m c 0 t (ix2 r k)) (fun k => iblk m c 3 t (ix2 0 k)) (fun k => iblk m c 2 t (ix3 0 r k))
    (fun k => iblk m c 1 t (ix3 0 r k))) (fun k => iblk m c 4 t (ix2 k f))

/-- The gates' lower bound, from a grid point's block. -/
def lb (c : Dev nD) (t : Fin cfg0.N) (j : Fin 512) : EReal := bound (fun i => iblk m c 5 t (ix2 i j))

set_option maxHeartbeats 4000000 in
/-- The queries, scaled. -/
theorem out_6 (c : Dev nD) (t : Fin cfg0.N) (r : Fin 128) (j : Fin 512) :
    ((outsAt0 m c t).1 (ix2 r j) : EReal) = pr m c t r ⟨j.val, by omega⟩ * Ideal.ofBits .f32 1043900987#32 := by
  unfold outsAt0
  dsimp only
  unfold out0_A_6
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The keys. -/
theorem out_7 (c : Dev nD) (t : Fin cfg0.N) (r : Fin 128) (j : Fin 512) :
    ((outsAt0 m c t).2.1 (ix2 r j) : EReal) = pr m c t r ⟨512 + j.val, by omega⟩ := by
  unfold outsAt0
  dsimp only
  unfold out0_A_7
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The values. -/
theorem out_8 (c : Dev nD) (t : Fin cfg0.N) (r : Fin 128) (j : Fin 512) :
    ((outsAt0 m c t).2.2.1 (ix2 r j) : EReal) = pr m c t r ⟨1024 + j.val, by omega⟩ := by
  unfold outsAt0
  dsimp only
  unfold out0_A_8
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The keys by rows. -/
theorem out_9 (c : Dev nD) (t : Fin cfg0.N) (r : Fin 128) (j : Fin 512) :
    ((outsAt0 m c t).2.2.2.1 (ix2 r j) : EReal) = pr m c t r ⟨512 + j.val, by omega⟩ := by
  unfold outsAt0
  dsimp only
  unfold out0_A_9
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The values, rounded. -/
theorem out_10 (c : Dev nD) (t : Fin cfg0.N) (r : Fin 128) (j : Fin 512) :
    ((outsAt0 m c t).2.2.2.2.1 (ix2 r j) : EReal) = pr m c t r ⟨1024 + j.val, by omega⟩ := by
  unfold outsAt0
  dsimp only
  unfold out0_A_10
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The recurrence's queries. -/
theorem out_11 (c : Dev nD) (t : Fin cfg0.N) (r : Fin 128) (j : Fin 512) :
    ((outsAt0 m c t).2.2.2.2.2.1 (ix2 r j) : EReal) = silu (pr m c t r ⟨1536 + j.val, by omega⟩) := by
  unfold outsAt0
  dsimp only
  unfold out0_A_11
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The gates' logarithms. -/
theorem out_12 (c : Dev nD) (t : Fin cfg0.N) (r : Fin 128) (j : Fin 512) :
    ((outsAt0 m c t).2.2.2.2.2.2.1 (ix2 r j) : EReal) = gate (lb m c t j) (pr m c t r ⟨2048 + j.val, by omega⟩) := by
  unfold outsAt0
  dsimp only
  unfold out0_A_12
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  exact congrArg (fun s : EReal => Ideal.log (lb m c t j + (1 - lb m c t j) * s)) (logistic_tail _)

set_option maxHeartbeats 4000000 in
/-- The recurrence's keys. -/
theorem out_13 (c : Dev nD) (t : Fin cfg0.N) (r : Fin 128) (j : Fin 512) :
    ((outsAt0 m c t).2.2.2.2.2.2.2.1 (ix2 r j) : EReal) = key (lb m c t j) (pr m c t r ⟨2048 + j.val, by omega⟩) := by
  unfold outsAt0
  dsimp only
  unfold out0_A_13
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  exact congrArg (fun s : EReal => (1 - lb m c t j) * s) (one_sub_logistic_tail _)

set_option maxHeartbeats 4000000 in
/-- The recurrence's values. -/
theorem out_14 (c : Dev nD) (t : Fin cfg0.N) (r : Fin 128) (j : Fin 512) :
    ((outsAt0 m c t).2.2.2.2.2.2.2.2.1 (ix2 r j) : EReal) = pr m c t r ⟨2560 + j.val, by omega⟩ := by
  unfold outsAt0
  dsimp only
  unfold out0_A_14
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The recurrence's output gates. -/
theorem out_15 (c : Dev nD) (t : Fin cfg0.N) (r : Fin 128) (j : Fin 512) :
    ((outsAt0 m c t).2.2.2.2.2.2.2.2.2.1 (ix2 r j) : EReal) = silu (pr m c t r ⟨3072 + j.val, by omega⟩) := by
  unfold outsAt0
  dsimp only
  unfold out0_A_15
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The attention branch's gates. -/
theorem out_16 (c : Dev nD) (t : Fin cfg0.N) (r : Fin 128) (j : Fin 1024) :
    ((outsAt0 m c t).2.2.2.2.2.2.2.2.2.2.1 (ix2 r j) : EReal) = Ideal.logistic (pr m c t r ⟨3584 + j.val, by omega⟩) := by
  unfold outsAt0
  dsimp only
  unfold out0_A_16
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

set_option maxHeartbeats 4000000 in
/-- The recurrent branch's gates. -/
theorem out_17 (c : Dev nD) (t : Fin cfg0.N) (r : Fin 128) (j : Fin 1024) :
    ((outsAt0 m c t).2.2.2.2.2.2.2.2.2.2.2 (ix2 r j) : EReal) = Ideal.logistic (pr m c t r ⟨4608 + j.val, by omega⟩) := by
  unfold outsAt0
  dsimp only
  unfold out0_A_17
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, View.ld]
  rfl

end Cert.Kernel4Ideal.InProj
-- ==== Proof.InProjS.Array.lean ====
module

public import proofs.«01_k».proof.Proof.InProjS.Point
public import Idealize.ShloMosaic.Lib.StableHlo.ReadAt

/-!
# What the samples' projection kernel's blocks hold

One grid point treats all 128 rows, four to a sequence. Here: the operands' blocks as parts of the arguments.
-/

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Cert.InProj (normed dot proj lower bound)

variable (m : (ℓ : Loc nD τ sig) → Buf (Elt Ideal) ℓ)

/-- Every window takes its whole operand. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] :=
  (by decide +kernel : ∀ t : Fin grid0.N, _)

/-- Every output window leaves its whole array. -/
theorem idx_out : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] :=
  (by decide +kernel : ∀ t : Fin grid0.N, _)

/-- The sequence of a row. -/
def seq (r : Fin 128) : Fin 32 := ⟨r.val / 4, by omega⟩

/-- The place of a row in its sequence. -/
def pos (r : Fin 128) : Fin 4 := ⟨r.val % 4, by omega⟩

/-- The inputs. -/
abbrev A0 (c : Dev nD) : (⟨3, ![32, 4, 1024]⟩ : Shape).Idx → EReal := m ((c : Thread nD τ).loc main_arg0)
/-- The shifts. -/
abbrev A1 (c : Dev nD) : (⟨3, ![32, 1, 1024]⟩ : Shape).Idx → EReal := m ((c : Thread nD τ).loc main_arg1)
/-- The scales. -/
abbrev A2 (c : Dev nD) : (⟨3, ![32, 1, 1024]⟩ : Shape).Idx → EReal := m ((c : Thread nD τ).loc main_arg2)
/-- The normalisation's scales. -/
abbrev A3 (c : Dev nD) : (⟨2, ![1, 1024]⟩ : Shape).Idx → EReal := m ((c : Thread nD τ).loc main_arg3)
/-- The projection. -/
abbrev A4 (c : Dev nD) : (⟨3, ![1, 1024, 5632]⟩ : Shape).Idx → EReal := m ((c : Thread nD τ).loc main_arg4)
/-- The logits of the gates' lower bound. -/
abbrev A5 (c : Dev nD) : (⟨2, ![2, 512]⟩ : Shape).Idx → EReal := m ((c : Thread nD τ).loc main_arg5)

/-- The rows that the kernel reads. -/
theorem arr0 (c : Dev nD) (r : Fin 128) (k : Fin 1024) :
    (V m c main_v4 (ix2 r k) : EReal) = A0 m c (ix3 (seq r) (pos r) k) := by
  simp only [V, hostOps0]
  after_reads_at
  rfl

/-- The shifts, row by row, that the kernel reads. -/
theorem arr1 (c : Dev nD) (r : Fin 128) (k : Fin 1024) :
    (V m c main_v8 (ix3 0 r k) : EReal) = A1 m c (ix3 (seq r) 0 k) := by
  simp only [V, hostOps0]
  after_reads_at
  rfl

/-- The scales, row by row, that the kernel reads. -/
theorem arr2 (c : Dev nD) (r : Fin 128) (k : Fin 1024) :
    (V m c main_v12 (ix3 0 r k) : EReal) = A2 m c (ix3 (seq r) 0 k) := by
  simp only [V, hostOps0]
  after_reads_at
  rfl

/-- The normalisation's scales that the kernel reads. -/
theorem arr3 (c : Dev nD) (k : Fin 1024) : (V m c main_v3 (ix2 0 k) : EReal) = A3 m c (ix2 0 k) := by
  simp only [V, hostOps0]
  after_reads_at

/-- The projection that the kernel reads. -/
theorem arr4 (c : Dev nD) (k : Fin 1024) (f : Fin 5632) : (V m c main_v1 (ix2 k f) : EReal) = A4 m c (ix3 0 k f) := by
  simp only [V, hostOps0]
  after_reads_at

/-- The logits that the kernel reads. -/
theorem arr5 (c : Dev nD) (i) : (V m c main_arg5 i : EReal) = A5 m c i := by
  simp only [V, hostOps0]
  after_reads_at

/-- The block of the rows. -/
theorem blk0 (c : Dev nD) (t : Fin cfg0.N) (r : Fin 128) (k : Fin 1024) :
    (iblk m c 0 t (ix2 r k) : EReal) = A0 m c (ix3 (seq r) (pos r) k) := by
  rw [← arr0]
  blk_ext [iblk, idx t]

/-- The block of the shifts. -/
theorem blk1 (c : Dev nD) (t : Fin cfg0.N) (r : Fin 128) (k : Fin 1024) :
    (iblk m c 1 t (ix3 0 r k) : EReal) = A1 m c (ix3 (seq r) 0 k) := by
  rw [← arr1]
  blk_ext [iblk, idx t]

/-- The block of the scales. -/
theorem blk2 (c : Dev nD) (t : Fin cfg0.N) (r : Fin 128) (k : Fin 1024) :
    (iblk m c 2 t (ix3 0 r k) : EReal) = A2 m c (ix3 (seq r) 0 k) := by
  rw [← arr2]
  blk_ext [iblk, idx t]

/-- The block of the normalisation's scales. -/
theorem blk3 (c : Dev nD) (t : Fin cfg0.N) (k : Fin 1024) : (iblk m c 3 t (ix2 0 k) : EReal) = A3 m c (ix2 0 k) := by
  rw [← arr3]
  blk_ext [iblk, idx t]

/-- The block of the projection. -/
theorem blk4 (c : Dev nD) (t : Fin cfg0.N) (k : Fin 1024) (f : Fin 5632) :
    (iblk m c 4 t (ix2 k f) : EReal) = A4 m c (ix3 0 k f) := by
  rw [← arr4]
  blk_ext [iblk, idx t]

/-- The block of the logits. -/
theorem blk5 (c : Dev nD) (t : Fin cfg0.N) (i : Fin 2) (j : Fin 512) :
    (iblk m c 5 t (ix2 i j) : EReal) = A5 m c (ix2 i j) := by
  rw [← arr5]
  blk_ext [iblk, idx t]

/-- A row times a column, from the arguments. -/
theorem pr_eq (c : Dev nD) (t : Fin cfg0.N) (r : Fin 128) (f : Fin 5632) :
    pr m c t r f = proj (A0 m c) (A1 m c) (A2 m c) (A3 m c) (A4 m c) (seq r) (pos r) f := by
  unfold pr proj
  congr 1
  · congr 1
    · funext k
      exact blk0 m c t r k
    · funext k
      exact blk3 m c t k
    · funext k
      exact blk2 m c t r k
    · funext k
      exact blk1 m c t r k
  · funext k
    exact blk4 m c t k f

/-- The gates' lower bound, from the arguments. -/
theorem lb_eq (c : Dev nD) (t : Fin cfg0.N) (j : Fin 512) : lb m c t j = lower (A5 m c) j := by
  unfold lb lower
  congr 1
  funext i
  exact blk5 m c t i j

end Cert.Kernel4Ideal.InProj
-- ==== Proof.InProjS.Ref.lean ====
module

public import proofs.«01_k».proof.Proof.Gen.Reference4Ideal.Read
public import proofs.«01_k».proof.Proof.InProj.Spec
public import Idealize.ShloMosaic.Lib.Pointwise

/-!
# What the projection's reference for the sample tokens computes

The reference's results at an index. Its running sum over the two shares is read in the first share only.
-/

@[expose] public section

set_option maxRecDepth 16384

noncomputable section

namespace Cert.Reference4Ideal.InProj

open Cert.Reference4Ideal Cert.Reference4Ideal.Gen Cert.Reference4Ideal.Read Idealize.ShloMosaic Idealize.SL.Sem
open Cert.InProj (normed dot proj silu bound lower gate key logadd logsig top)

variable (x0 : FVec Ideal S32x4x1024 .f32) (x1 x2 : FVec Ideal S32x1x1024 .f32) (x3 : FVec Ideal S1x1024 .f32)
  (x4 : FVec Ideal S1x1024x5632 .f32) (x5 : FVec Ideal S2x512 .f32)

/-- A row times a column of the projection. -/
theorem proj_apply (b : Fin 32) (t : Fin 4) (f : Fin 5632) :
    (val_main_v21 (F := Ideal) x0 x1 x2 x3 x4 (ix3 b t f) : EReal) = proj x0 x1 x2 x3 x4 b t f := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  rfl

/-- The first share of two logits. -/
theorem share_apply (j : Fin 512) : (val_main_v41 (F := Ideal) x5 (ix2 0 j) : EReal) = lower x5 j := by
  pointwise [val_main_v41, val_main_v40, val_main_v39, val_main_v38, val_main_cst_5, val_main_v37, val_main_v36, val_main_v35,
    val_main_v34, val_main_v33, val_main_v32, val_main_cst_4, val_main_v31, val_main_cst_3]
  exact congrArg (fun M : EReal => Ideal.div (Ideal.exp (x5 (ix2 0 j) - M)) (∑ i, Ideal.exp (x5 (ix2 i j) - M)))
    (Cert.InProj.max_top (fun i => x5 (ix2 i j)))

/-- The shape of one window of the running sum. -/
abbrev Win : Shape := ⟨2, ![2, 1]⟩

/-- The coordinates of the `n`-th position of a window. -/
theorem win_coord : ∀ (n : Fin Win.numel) (a : Fin 2), (Win.rowMajor.symm n a).val = ![n.val, 0] a := by
  decide +kernel

/-- One position of the first window: padding, or the first share. -/
theorem win_term (x : S2x512.Idx → EReal) (j : Fin 512) (n : Fin Win.numel)
    (P : Prop) {dec : Decidable P}
    (hP : P ↔ ∀ a : Fin 2, (![1, 0] : Fin 2 → Nat) a
          ≤ (ix2 (0 : Fin 2) j a).val * (![1, 1] : Fin 2 → Nat) a + (Win.rowMajor.symm n a).val
        ∧ (ix2 (0 : Fin 2) j a).val * (![1, 1] : Fin 2 → Nat) a + (Win.rowMajor.symm n a).val
            - (![1, 0] : Fin 2 → Nat) a < S2x512.size a)
    (f : P → S2x512.Idx)
    (hf : ∀ (p : P) (a : Fin 2), (f p a).val = (ix2 (0 : Fin 2) j a).val * (![1, 1] : Fin 2 → Nat) a
        + (Win.rowMajor.symm n a).val - (![1, 0] : Fin 2 → Nat) a) :
    (if hp : P then x (f hp) else 0) = if n.val = 1 then x (ix2 0 j) else 0 := by
  have h2 : n.val < 2 := n.isLt
  by_cases hn : n.val = 1
  · have hp : P := hP.mpr fun a => by
      rw [win_coord]
      fin_cases a
      · show 1 ≤ 0 * 1 + n.val ∧ 0 * 1 + n.val - 1 < 2
        omega
      · show 0 ≤ j.val * 1 + 0 ∧ j.val * 1 + 0 - 0 < 512
        omega
    rw [if_pos hn, dif_pos hp]
    congr 1
    funext a
    refine Fin.ext ?_
    rw [hf hp a, win_coord]
    fin_cases a
    · show 0 * 1 + n.val - 1 = 0
      omega
    · show j.val * 1 + 0 - 0 = j.val
      omega
  · rw [if_neg hn, dif_neg]
    intro hp
    have h3 := (hP.mp hp 0).1
    rw [win_coord] at h3
    have h4 : 1 ≤ 0 * 1 + n.val := h3
    omega

/-- The running sum at the first share is that share. -/
theorem window_sum (x : S2x512.Idx → EReal) (j : Fin 512) :
    Ideal.hostReduceWindowAdd ![2, 1] ![1, 1] ![1, 0] ![0, 0]
      reduceWindows_S2x512_S2x512_w2s1p1_0_w1s1p0_0 x 0 (ix2 0 j) = x (ix2 0 j) := by
  have e : Ideal.hostReduceWindowAdd ![2, 1] ![1, 1] ![1, 0] ![0, 0]
      reduceWindows_S2x512_S2x512_w2s1p1_0_w1s1p0_0 x 0 (ix2 0 j)
      = (List.finRange Win.numel).foldl (fun r n => r + if n.val = 1 then x (ix2 0 j) else 0) 0 := by
    unfold Ideal.hostReduceWindowAdd Host.reduceWindow
    refine congrArg (fun f : EReal → Fin Win.numel → EReal => List.foldl f 0 (List.finRange Win.numel)) ?_
    funext r n
    refine congrArg (fun y : EReal => r + y) ?_
    refine win_term x j n _ ?_ _ ?_
    · exact Iff.rfl
    · exact fun _ _ => rfl
  rw [e]
  show (0 : EReal) + 0 + x (ix2 0 j) = x (ix2 0 j)
  rw [add_zero, zero_add]

/-- The lower bound of the gates. -/
theorem lower_apply (j : Fin 512) : (val_main_v42 (F := Ideal) x5 (ix2 0 j) : EReal) = lower x5 j := by
  have e : val_main_v42 (F := Ideal) x5 (ix2 0 j)
      = Ideal.hostReduceWindowAdd ![2, 1] ![1, 1] ![1, 0] ![0, 0]
      reduceWindows_S2x512_S2x512_w2s1p1_0_w1s1p0_0 (val_main_v41 (F := Ideal) x5)
      (val_main_call0_call0_v0 (F := Ideal) (Shape.Idx.first h_S_)) (ix2 0 j) := rfl
  have z : (val_main_call0_call0_v0 (F := Ideal) (Shape.Idx.first h_S_) : EReal) = 0 := by
    pointwise [val_main_call0_call0_v0, val_main_call0_call0_cst]
  rw [e, z, window_sum, share_apply]

/-- The gates' logarithms, for logits that are real numbers. -/
theorem gate_apply (h5 : ∀ i, ∃ r : ℝ, (x5 i : EReal) = r) (b : Fin 32) (t : Fin 4) (j : Fin 512) :
    (val_main_v65 (F := Ideal) x0 x1 x2 x3 x4 x5 (ix3 b t j) : EReal)
      = gate (lower x5 j) (proj x0 x1 x2 x3 x4 b t ⟨2048 + j.val, by omega⟩) := by
  pointwise [val_main_v65, val_main_v64, val_main_v63, val_main_v62, val_main_v61, val_main_v60, val_main_v59,
    val_main_v58, val_main_v57, val_main_v56, val_main_v55, val_main_v54, val_main_v53, val_main_v52, val_main_v51,
    val_main_v50, val_main_v49, val_main_v48, val_main_v47, val_main_v46, val_main_v45, val_main_v44, val_main_v43,
    val_main_call1_v1, val_main_call1_call0_v11, val_main_call1_call0_v10, val_main_call1_call0_v9,
    val_main_call1_call0_v8, val_main_call1_call0_v7, val_main_call1_call0_v6, val_main_call1_call0_v5,
    val_main_call1_call0_v4, val_main_call1_call0_v3, val_main_call1_call0_v2, val_main_call1_call0_v1,
    val_main_call1_call0_v0, val_main_call1_call0_cst, val_main_call1_v0, val_main_v26]
  simp only [lower_apply, proj_apply]
  exact Cert.InProj.gate_eq _ _ (Cert.InProj.bound_real _ fun i => h5 (ix2 i j))

/-- The queries, scaled. -/
theorem res_6 (n : Fin 128) (j : Fin 512) :
    (val_main_v85 (F := Ideal) x0 x1 x2 x3 x4 (ix2 n j) : EReal)
      = (proj x0 x1 x2 x3 x4 ⟨n.val / 4, by omega⟩ ⟨n.val % 4, by omega⟩ ⟨j.val, by omega⟩) * Ideal.ofBits .f32 1043900987#32 := by
  pointwise [val_main_v85, val_main_v84, val_main_v69, val_main_v68, val_main_cst_6, val_main_v22]
  simp only [proj_apply]

/-- The keys. -/
theorem res_7 (n : Fin 128) (j : Fin 512) :
    (val_main_v86 (F := Ideal) x0 x1 x2 x3 x4 (ix2 n j) : EReal)
      = proj x0 x1 x2 x3 x4 ⟨n.val / 4, by omega⟩ ⟨n.val % 4, by omega⟩ ⟨512 + j.val, by omega⟩ := by
  pointwise [val_main_v86, val_main_v23]
  simp only [proj_apply]

/-- The values. -/
theorem res_8 (n : Fin 128) (j : Fin 512) :
    (val_main_v87 (F := Ideal) x0 x1 x2 x3 x4 (ix2 n j) : EReal)
      = proj x0 x1 x2 x3 x4 ⟨n.val / 4, by omega⟩ ⟨n.val % 4, by omega⟩ ⟨1024 + j.val, by omega⟩ := by
  pointwise [val_main_v87, val_main_v24]
  simp only [proj_apply]

/-- The keys by rows. -/
theorem res_9 (n : Fin 128) (j : Fin 512) :
    (val_main_v89 (F := Ideal) x0 x1 x2 x3 x4 (ix2 n j) : EReal)
      = proj x0 x1 x2 x3 x4 ⟨n.val / 4, by omega⟩ ⟨n.val % 4, by omega⟩ ⟨512 + j.val, by omega⟩ := by
  pointwise [val_main_v89, val_main_v88, val_main_v23]
  simp only [proj_apply]

/-- The values, rounded. -/
theorem res_10 (n : Fin 128) (j : Fin 512) :
    (val_main_v91 (F := Ideal) x0 x1 x2 x3 x4 (ix2 n j) : EReal)
      = proj x0 x1 x2 x3 x4 ⟨n.val / 4, by omega⟩ ⟨n.val % 4, by omega⟩ ⟨1024 + j.val, by omega⟩ := by
  pointwise [val_main_v91, val_main_v90, val_main_v24]
  simp only [proj_apply]

/-- The recurrence's queries. -/
theorem res_11 (n : Fin 128) (j : Fin 512) :
    (val_main_v93 (F := Ideal) x0 x1 x2 x3 x4 (ix2 n j) : EReal)
      = silu (proj x0 x1 x2 x3 x4 ⟨n.val / 4, by omega⟩ ⟨n.val % 4, by omega⟩ ⟨1536 + j.val, by omega⟩) := by
  pointwise [val_main_v93, val_main_v92, val_main_v70, val_main_call2_v5, val_main_call2_v4, val_main_call2_v3, val_main_call2_v2, val_main_call2_v1, val_main_call2_v0, val_main_call2_cst, val_main_call2_cst_0, val_main_v25]
  simp only [proj_apply]
  rfl

/-- The gates' logarithms. -/
theorem res_12 (h5 : ∀ i, ∃ r : ℝ, (x5 i : EReal) = r) (n : Fin 128) (j : Fin 512) :
    (val_main_v94 (F := Ideal) x0 x1 x2 x3 x4 x5 (ix2 n j) : EReal)
      = gate (lower x5 j) (proj x0 x1 x2 x3 x4 ⟨n.val / 4, by omega⟩ ⟨n.val % 4, by omega⟩ ⟨2048 + j.val, by omega⟩) := by
  pointwise [val_main_v94]
  exact gate_apply x0 x1 x2 x3 x4 x5 h5 _ _ j

/-- The recurrence's keys. -/
theorem res_13 (h5 : ∀ i, ∃ r : ℝ, (x5 i : EReal) = r) (n : Fin 128) (j : Fin 512) :
    (val_main_v96 (F := Ideal) x0 x1 x2 x3 x4 x5 (ix2 n j) : EReal)
      = key (lower x5 j) (proj x0 x1 x2 x3 x4 ⟨n.val / 4, by omega⟩ ⟨n.val % 4, by omega⟩ ⟨2048 + j.val, by omega⟩) := by
  pointwise [val_main_v96, val_main_v95, val_main_v67, val_main_v66]
  rw [gate_apply x0 x1 x2 x3 x4 x5 h5]
  exact Cert.InProj.key_eq _ _ (Cert.InProj.bound_real _ fun i => h5 (ix2 i j))

/-- The recurrence's values. -/
theorem res_14 (n : Fin 128) (j : Fin 512) :
    (val_main_v98 (F := Ideal) x0 x1 x2 x3 x4 (ix2 n j) : EReal)
      = proj x0 x1 x2 x3 x4 ⟨n.val / 4, by omega⟩ ⟨n.val % 4, by omega⟩ ⟨2560 + j.val, by omega⟩ := by
  pointwise [val_main_v98, val_main_v97, val_main_v27]
  simp only [proj_apply]

/-- The recurrence's output gates. -/
theorem res_15 (n : Fin 128) (j : Fin 512) :
    (val_main_v100 (F := Ideal) x0 x1 x2 x3 x4 (ix2 n j) : EReal)
      = silu (proj x0 x1 x2 x3 x4 ⟨n.val / 4, by omega⟩ ⟨n.val % 4, by omega⟩ ⟨3072 + j.val, by omega⟩) := by
  pointwise [val_main_v100, val_main_v99, val_main_v71, val_main_call3_v5, val_main_call3_v4, val_main_call3_v3, val_main_call3_v2, val_main_call3_v1, val_main_call3_v0, val_main_call3_cst, val_main_call3_cst_0, val_main_v28]
  simp only [proj_apply]
  rfl

/-- The attention branch's gates. -/
theorem res_16 (n : Fin 128) (j : Fin 1024) :
    (val_main_v102 (F := Ideal) x0 x1 x2 x3 x4 (ix2 n j) : EReal)
      = Ideal.logistic (proj x0 x1 x2 x3 x4 ⟨n.val / 4, by omega⟩ ⟨n.val % 4, by omega⟩ ⟨3584 + j.val, by omega⟩) := by
  pointwise [val_main_v102, val_main_v101, val_main_v77, val_main_v76, val_main_v75, val_main_v74, val_main_v73, val_main_v72, val_main_cst_7, val_main_cst_8, val_main_v29]
  simp only [proj_apply]
  rfl

/-- The recurrent branch's gates. -/
theorem res_17 (n : Fin 128) (j : Fin 1024) :
    (val_main_v104 (F := Ideal) x0 x1 x2 x3 x4 (ix2 n j) : EReal)
      = Ideal.logistic (proj x0 x1 x2 x3 x4 ⟨n.val / 4, by omega⟩ ⟨n.val % 4, by omega⟩ ⟨4608 + j.val, by omega⟩) := by
  pointwise [val_main_v104, val_main_v103, val_main_v83, val_main_v82, val_main_v81, val_main_v80, val_main_v79, val_main_v78, val_main_cst_9, val_main_cst_10, val_main_v30]
  simp only [proj_apply]
  rfl

end Cert.Reference4Ideal.InProj
-- ==== Proof.InProjS.Equation.lean ====
module

public import proofs.«01_k».proof.Proof.InProjS.Array
public import proofs.«01_k».proof.Proof.InProjS.Ref

/-!
# The two programs of the samples' projection compute the same arrays

The array a window's visits leave behind, block by block, is the reference's.
-/

@[expose] public section

noncomputable section

namespace Cert.Kernel4Ideal.InProj

open Cert.Kernel4Ideal Cert.Kernel4Ideal.Gen Idealize.ShloMosaic Idealize.ShloMosaic.TcCoe Idealize.SL.Sem
open Cert.Reference4Ideal.Read (val_main_v85 val_main_v86 val_main_v87 val_main_v89 val_main_v91
  val_main_v93 val_main_v94 val_main_v96 val_main_v98 val_main_v100 val_main_v102 val_main_v104)

variable (m : (ℓ : Loc nD τ sig) → Buf (Elt Ideal) ℓ)

/-- The block of the queries is the reference's. -/
theorem point_6 (c : Dev nD) (t : Fin cfg0.N) (r : Fin 128) (j : Fin 512) :
    ((outsAt0 m c t).1 (ix2 r j) : EReal) = val_main_v85 (F := Ideal) (A0 m c) (A1 m c) (A2 m c) (A3 m c) (A4 m c) (ix2 r j) := by
  rw [out_6, pr_eq]
  refine Eq.trans ?_ (Cert.Reference4Ideal.InProj.res_6 _ _ _ _ _ r j).symm
  rfl

/-- The array of the queries is the reference's. -/
theorem array_6 (c : Dev nD) :
    (dats m 0 c).arrAt 6 cfg0.N = val_main_v85 (F := Ideal) (A0 m c) (A1 m c) (A2 m c) (A3 m c) (A4 m c) := by
  refine (dats m 0 c).arrAt_eq_of_covers 6 _ (by decide +kernel) fun t _ y => ?_
  blk_simp
  rw [after0_6]
  have hy : y = ix2 (y 0) (y 1) := eq_ix2 y
  have e : (win0_6.blk t).view.emb y = ix2 (y 0) (y 1) := by blk_ext [idx_out t]
  refine ((congrArg (outsAt0 m c t).1 hy).trans (point_6 m c t (y 0) (y 1))).trans ?_
  rw [e]
  rfl

/-- The block of the keys is the reference's. -/
theorem point_7 (c : Dev nD) (t : Fin cfg0.N) (r : Fin 128) (j : Fin 512) :
    ((outsAt0 m c t).2.1 (ix2 r j) : EReal) = val_main_v86 (F := Ideal) (A0 m c) (A1 m c) (A2 m c) (A3 m c) (A4 m c) (ix2 r j) := by
  rw [out_7, pr_eq]
  refine Eq.trans ?_ (Cert.Reference4Ideal.InProj.res_7 _ _ _ _ _ r j).symm
  rfl

/-- The array of the keys is the reference's. -/
theorem array_7 (c : Dev nD) :
    (dats m 0 c).arrAt 7 cfg0.N = val_main_v86 (F := Ideal) (A0 m c) (A1 m c) (A2 m c) (A3 m c) (A4 m c) := by
  refine (dats m 0 c).arrAt_eq_of_covers 7 _ (by decide +kernel) fun t _ y => ?_
  blk_simp
  rw [after0_7]
  have hy : y = ix2 (y 0) (y 1) := eq_ix2 y
  have e : (win0_7.blk t).view.emb y = ix2 (y 0) (y 1) := by blk_ext [idx_out t]
  refine ((congrArg (outsAt0 m c t).2.1 hy).trans (point_7 m c t (y 0) (y 1))).trans ?_
  rw [e]
  rfl

/-- The block of the values is the reference's. -/
theorem point_8 (c : Dev nD) (t : Fin cfg0.N) (r : Fin 128) (j : Fin 512) :
    ((outsAt0 m c t).2.2.1 (ix2 r j) : EReal) = val_main_v87 (F := Ideal) (A0 m c) (A1 m c) (A2 m c) (A3 m c) (A4 m c) (ix2 r j) := by
  rw [out_8, pr_eq]
  refine Eq.trans ?_ (Cert.Reference4Ideal.InProj.res_8 _ _ _ _ _ r j).symm
  rfl

/-- The array of the values is the reference's. -/
theorem array_8 (c : Dev nD) :
    (dats m 0 c).arrAt 8 cfg0.N = val_main_v87 (F := Ideal) (A0 m c) (A1 m c) (A2 m c) (A3 m c) (A4 m c) := by
  refine (dats m 0 c).arrAt_eq_of_covers 8 _ (by decide +kernel) fun t _ y => ?_
  blk_simp
  rw [after0_8]
  have hy : y = ix2 (y 0) (y 1) := eq_ix2 y
  have e : (win0_8.blk t).view.emb y = ix2 (y 0) (y 1) := by blk_ext [idx_out t]
  refine ((congrArg (outsAt0 m c t).2.2.1 hy).trans (point_8 m c t (y 0) (y 1))).trans ?_
  rw [e]
  rfl

/-- The block of the keys by rows is the reference's. -/
theorem point_9 (c : Dev nD) (t : Fin cfg0.N) (r : Fin 128) (j : Fin 512) :
    ((outsAt0 m c t).2.2.2.1 (ix2 r j) : EReal) = val_main_v89 (F := Ideal) (A0 m c) (A1 m c) (A2 m c) (A3 m c) (A4 m c) (ix2 r j) := by
  rw [out_9, pr_eq]
  refine Eq.trans ?_ (Cert.Reference4Ideal.InProj.res_9 _ _ _ _ _ r j).symm
  rfl

/-- The array of the keys by rows is the reference's. -/
theorem array_9 (c : Dev nD) :
    (dats m 0 c).arrAt 9 cfg0.N = val_main_v89 (F := Ideal) (A0 m c) (A1 m c) (A2 m c) (A3 m c) (A4 m c) := by
  refine (dats m 0 c).arrAt_eq_of_covers 9 _ (by decide +kernel) fun t _ y => ?_
  blk_simp
  rw [after0_9]
  have hy : y = ix2 (y 0) (y 1) := eq_ix2 y
  have e : (win0_9.blk t).view.emb y = ix2 (y 0) (y 1) := by blk_ext [idx_out t]
  refine ((congrArg (outsAt0 m c t).2.2.2.1 hy).trans (point_9 m c t (y 0) (y 1))).trans ?_
  rw [e]
  rfl

/-- The block of the rounded values is the reference's. -/
theorem point_10 (c : Dev nD) (t : Fin cfg0.N) (r : Fin 128) (j : Fin 512) :
    ((outsAt0 m c t).2.2.2.2.1 (ix2 r j) : EReal) = val_main_v91 (F := Ideal) (A0 m c) (A1 m c) (A2 m c) (A3 m c) (A4 m c) (ix2 r j) := by
  rw [out_10, pr_eq]
  refine Eq.trans ?_ (Cert.Reference4Ideal.InProj.res_10 _ _ _ _ _ r j).symm
  rfl

/-- The array of the rounded values is the reference's. -/
theorem array_10 (c : Dev nD) :
    (dats m 0 c).arrAt 10 cfg0.N = val_main_v91 (F := Ideal) (A0 m c) (A1 m c) (A2 m c) (A3 m c) (A4 m c) := by
  refine (dats m 0 c).arrAt_eq_of_covers 10 _ (by decide +kernel) fun t _ y => ?_
  blk_simp
  rw [after0_10]
  have hy : y = ix2 (y 0) (y 1) := eq_ix2 y
  have e : (win0_10.blk t).view.emb y = ix2 (y 0) (y 1) := by blk_ext [idx_out t]
  refine ((congrArg (outsAt0 m c t).2.2.2.2.1 hy).trans (point_10 m c t (y 0) (y 1))).trans ?_
  rw [e]
  rfl

/-- The block of the recurrence's queries is the reference's. -/
theorem point_11 (c : Dev nD) (t : Fin cfg0.N) (r : Fin 128) (j : Fin 512) :
    ((outsAt0 m c t).2.2.2.2.2.1 (ix2 r j) : EReal) = val_main_v93 (F := Ideal) (A0 m c) (A1 m c) (A2 m c) (A3 m c) (A4 m c) (ix2 r j) := by
  rw [out_11, pr_eq]
  refine Eq.trans ?_ (Cert.Reference4Ideal.InProj.res_11 _ _ _ _ _ r j).symm
  rfl

/-- The array of the recurrence's queries is the reference's. -/
theorem array_11 (c : Dev nD) :
    (dats m 0 c).arrAt 11 cfg0.N = val_main_v93 (F := Ideal) (A0 m c) (A1 m c) (A2 m c) (A3 m c) (A4 m c) := by
  refine (dats m 0 c).arrAt_eq_of_covers 11 _ (by decide +kernel) fun t _ y => ?_
  blk_simp
  rw [after0_11]
  have hy : y = ix2 (y 0) (y 1) := eq_ix2 y
  have e : (win0_11.blk t).view.emb y = ix2 (y 0) (y 1) := by blk_ext [idx_out t]
  refine ((congrArg (outsAt0 m c t).2.2.2.2.2.1 hy).trans (point_11 m c t (y 0) (y 1))).trans ?_
  rw [e]
  rfl

/-- The block of the gates' logarithms is the reference's, for logits that are real numbers. -/
theorem point_12 (c : Dev nD) (h5 : ∀ i, ∃ r : ℝ, A5 m c i = r) (t : Fin cfg0.N) (r : Fin 128) (j : Fin 512) :
    ((outsAt0 m c t).2.2.2.2.2.2.1 (ix2 r j) : EReal) = val_main_v94 (F := Ideal) (A0 m c) (A1 m c) (A2 m c) (A3 m c) (A4 m c) (A5 m c) (ix2 r j) := by
  rw [out_12, pr_eq, lb_eq]
  refine Eq.trans ?_ (Cert.Reference4Ideal.InProj.res_12 _ _ _ _ _ _ h5 r j).symm
  rfl

/-- The array of the gates' logarithms is the reference's, for logits that are real numbers. -/
theorem array_12 (c : Dev nD) (h5 : ∀ i, ∃ r : ℝ, A5 m c i = r) :
    (dats m 0 c).arrAt 12 cfg0.N = val_main_v94 (F := Ideal) (A0 m c) (A1 m c) (A2 m c) (A3 m c) (A4 m c) (A5 m c) := by
  refine (dats m 0 c).arrAt_eq_of_covers 12 _ (by decide +kernel) fun t _ y => ?_
  blk_simp
  rw [after0_12]
  have hy : y = ix2 (y 0) (y 1) := eq_ix2 y
  have e : (win0_12.blk t).view.emb y = ix2 (y 0) (y 1) := by blk_ext [idx_out t]
  refine ((congrArg (outsAt0 m c t).2.2.2.2.2.2.1 hy).trans (point_12 m c h5 t (y 0) (y 1))).trans ?_
  rw [e]
  rfl

/-- The block of the recurrence's keys is the reference's, for logits that are real numbers. -/
theorem point_13 (c : Dev nD) (h5 : ∀ i, ∃ r : ℝ, A5 m c i = r) (t : Fin cfg0.N) (r : Fin 128) (j : Fin 512) :
    ((outsAt0 m c t).2.2.2.2.2.2.2.1 (ix2 r j) : EReal) = val_main_v96 (F := Ideal) (A0 m c) (A1 m c) (A2 m c) (A3 m c) (A4 m c) (A5 m c) (ix2 r j) := by
  rw [out_13, pr_eq, lb_eq]
  refine Eq.trans ?_ (Cert.Reference4Ideal.InProj.res_13 _ _ _ _ _ _ h5 r j).symm
  rfl

/-- The array of the recurrence's keys is the reference's, for logits that are real numbers. -/
theorem array_13 (c : Dev nD) (h5 : ∀ i, ∃ r : ℝ, A5 m c i = r) :
    (dats m 0 c).arrAt 13 cfg0.N = val_main_v96 (F := Ideal) (A0 m c) (A1 m c) (A2 m c) (A3 m c) (A4 m c) (A5 m c) := by
  refine (dats m 0 c).arrAt_eq_of_covers 13 _ (by decide +kernel) fun t _ y => ?_
  blk_simp
  rw [after0_13]
  have hy : y = ix2 (y 0) (y 1) := eq_ix2 y
  have e : (win0_13.blk t).view.emb y = ix2 (y 0) (y 1) := by blk_ext [idx_out t]
  refine ((congrArg (outsAt0 m c t).2.2.2.2.2.2.2.1 hy).trans (point_13 m c h5 t (y 0) (y 1))).trans ?_
  rw [e]
  rfl

/-- The block of the recurrence's values is the reference's. -/
theorem point_14 (c : Dev nD) (t : Fin cfg0.N) (r : Fin 128) (j : Fin 512) :
    ((outsAt0 m c t).2.2.2.2.2.2.2.2.1 (ix2 r j) : EReal) = val_main_v98 (F := Ideal) (A0 m c) (A1 m c) (A2 m c) (A3 m c) (A4 m c) (ix2 r j) := by
  rw [out_14, pr_eq]
  refine Eq.trans ?_ (Cert.Reference4Ideal.InProj.res_14 _ _ _ _ _ r j).symm
  rfl

/-- The array of the recurrence's values is the reference's. -/
theorem array_14 (c : Dev nD) :
    (dats m 0 c).arrAt 14 cfg0.N = val_main_v98 (F := Ideal) (A0 m c) (A1 m c) (A2 m c) (A3 m c) (A4 m c) := by
  refine (dats m 0 c).arrAt_eq_of_covers 14 _ (by decide +kernel) fun t _ y => ?_
  blk_simp
  rw [after0_14]
  have hy : y = ix2 (y 0) (y 1) := eq_ix2 y
  have e : (win0_14.blk t).view.emb y = ix2 (y 0) (y 1) := by blk_ext [idx_out t]
  refine ((congrArg (outsAt0 m c t).2.2.2.2.2.2.2.2.1 hy).trans (point_14 m c t (y 0) (y 1))).trans ?_
  rw [e]
  rfl

/-- The block of the recurrence's output gates is the reference's. -/
theorem point_15 (c : Dev nD) (t : Fin cfg0.N) (r : Fin 128) (j : Fin 512) :
    ((outsAt0 m c t).2.2.2.2.2.2.2.2.2.1 (ix2 r j) : EReal) = val_main_v100 (F := Ideal) (A0 m c) (A1 m c) (A2 m c) (A3 m c) (A4 m c) (ix2 r j) := by
  rw [out_15, pr_eq]
  refine Eq.trans ?_ (Cert.Reference4Ideal.InProj.res_15 _ _ _ _ _ r j).symm
  rfl

/-- The array of the recurrence's output gates is the reference's. -/
theorem array_15 (c : Dev nD) :
    (dats m 0 c).arrAt 15 cfg0.N = val_main_v100 (F := Ideal) (A0 m c) (A1 m c) (A2 m c) (A3 m c) (A4 m c) := by
  refine (dats m 0 c).arrAt_eq_of_covers 15 _ (by decide +kernel) fun t _ y => ?_
  blk_simp
  rw [after0_15]
  have hy : y = ix2 (y 0) (y 1) := eq_ix2 y
  have e : (win0_15.blk t).view.emb y = ix2 (y 0) (y 1) := by blk_ext [idx_out t]
  refine ((congrArg (outsAt0 m c t).2.2.2.2.2.2.2.2.2.1 hy).trans (point_15 m c t (y 0) (y 1))).trans ?_
  rw [e]
  rfl

/-- The block of the attention branch's gates is the reference's. -/
theorem point_16 (c : Dev nD) (t : Fin cfg0.N) (r : Fin 128) (j : Fin 1024) :
    ((outsAt0 m c t).2.2.2.2.2.2.2.2.2.2.1 (ix2 r j) : EReal) = val_main_v102 (F := Ideal) (A0 m c) (A1 m c) (A2 m c) (A3 m c) (A4 m c) (ix2 r j) := by
  rw [out_16, pr_eq]
  refine Eq.trans ?_ (Cert.Reference4Ideal.InProj.res_16 _ _ _ _ _ r j).symm
  rfl

/-- The array of the attention branch's gates is the reference's. -/
theorem array_16 (c : Dev nD) :
    (dats m 0 c).arrAt 16 cfg0.N = val_main_v102 (F := Ideal) (A0 m c) (A1 m c) (A2 m c) (A3 m c) (A4 m c) := by
  refine (dats m 0 c).arrAt_eq_of_covers 16 _ (by decide +kernel) fun t _ y => ?_
  blk_simp
  rw [after0_16]
  have hy : y = ix2 (y 0) (y 1) := eq_ix2 y
  have e : (win0_16.blk t).view.emb y = ix2 (y 0) (y 1) := by blk_ext [idx_out t]
  refine ((congrArg (outsAt0 m c t).2.2.2.2.2.2.2.2.2.2.1 hy).trans (point_16 m c t (y 0) (y 1))).trans ?_
  rw [e]
  rfl

/-- The block of the recurrent branch's gates is the reference's. -/
theorem point_17 (c : Dev nD) (t : Fin cfg0.N) (r : Fin 128) (j : Fin 1024) :
    ((outsAt0 m c t).2.2.2.2.2.2.2.2.2.2.2 (ix2 r j) : EReal) = val_main_v104 (F := Ideal) (A0 m c) (A1 m c) (A2 m c) (A3 m c) (A4 m c) (ix2 r j) := by
  rw [out_17, pr_eq]
  refine Eq.trans ?_ (Cert.Reference4Ideal.InProj.res_17 _ _ _ _ _ r j).symm
  rfl

/-- The array of the recurrent branch's gates is the reference's. -/
theorem array_17 (c : Dev nD) :
    (dats m 0 c).arrAt 17 cfg0.N = val_main_v104 (F := Ideal) (A0 m c) (A1 m c) (A2 m c) (A3 m c) (A4 m c) := by
  refine (dats m 0 c).arrAt_eq_of_covers 17 _ (by decide +kernel) fun t _ y => ?_
  blk_simp
  rw [after0_17]
  have hy : y = ix2 (y 0) (y 1) := eq_ix2 y
  have e : (win0_17.blk t).view.emb y = ix2 (y 0) (y 1) := by blk_ext [idx_out t]
  refine ((congrArg (outsAt0 m c t).2.2.2.2.2.2.2.2.2.2.2 hy).trans (point_17 m c t (y 0) (y 1))).trans ?_
  rw [e]
  rfl

end Cert.Kernel4Ideal.InProj
-- ==== Proof.InProjS.Pre.lean ====
module

public import proofs.«01_k».proof.Defs
public import proofs.«01_k».proof.Proof.Gen.Pre_finite_sample
public import proofs.«01_k».proof.Proof.Hgrn.Pre

/-!
# What the samples' precondition says

The logits of the gates' lower bound are real numbers: neither infinity is among them.
-/

@[expose] public section

noncomputable section

namespace Cert.Kernel4Ideal.InProj

open Idealize.ShloMosaic Idealize.ShloMosaic.TcCoe Idealize.SL.Sem

/-- The precondition makes every logit real. -/
theorem logits_real (m : (ℓ : Loc Cert.Kernel4Ideal.nD Cert.Kernel4Ideal.τ Cert.Kernel4Ideal.sig) → Buf (Elt Ideal) ℓ)
    (h : Pre_Kernel4Ideal_finite_sample m) (c : Dev Cert.Kernel4Ideal.nD) (x : (⟨2, ![2, 512]⟩ : Shape).Idx) :
    Cert.Hgrn.Finite (m ((c : Thread Cert.Kernel4Ideal.nD Cert.Kernel4Ideal.τ).loc Cert.Kernel4Ideal.main_arg5) x) :=
  Cert.Hgrn.finite_of_bit _ (congrFun (h c) x)

end Cert.Kernel4Ideal.InProj
-- ==== Proof.InProjS.Claim.lean ====
module

public import proofs.«01_k».proof.Proof.Gen.Reference4Ideal.Run
public import proofs.«01_k».proof.Proof.InProjS.Equation
public import proofs.«01_k».proof.Proof.InProjS.Pre
public import Idealize.ShloMosaic.Adequacy

/-!
# The claims on the samples' projection

The reference runs and leaves its arguments, and the two programs end with equal arrays.
-/

@[expose] public section

noncomputable section

namespace Cert.Kernel4Ideal.InProj

open Idealize.ShloMosaic Idealize.ShloMosaic.TcCoe Idealize.SL.Sem

/-- The reference runs and leaves its arguments; it uses no semaphore. -/
theorem reference_runs : Cert.quiescent_Reference4Ideal := fun m g _ =>
  (θ_run Cert.Reference4Ideal.defs _ _).mono
    (fun r h => ⟨fun c => (h c).2.2.2.2.2.2.2.2.2.2.2.2, Idealize.ShloMosaic.sem_eq_zero_of_no_sems (by decide) r.2⟩)
    (Cert.Reference4Ideal.Value.run m g)

set_option maxHeartbeats 4000000 in
/-- The kernel and its reference end with equal arrays. -/
theorem same_arrays : Cert.algebraic_Kernel4Ideal_Reference4Ideal_pre_finite_sample := by
  intro m g m' g' hpre hag
  refine ⟨fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    Cert.Kernel4Ideal.Value.run_blocks m g, (θ_run _ _ _).mono (fun r h c => ?_) (Cert.Reference4Ideal.Value.run m' g')⟩
  obtain ⟨e0, e1, e2, e3, e4, e5⟩ := hag c
  obtain ⟨h0, h1, h2, h3, h4, h5, h6, h7, h8, h9, h10, h11, hrest⟩ := h c
  have real := logits_real m hpre c
  refine ⟨h0.trans ?_, h1.trans ?_, h2.trans ?_, h3.trans ?_, h4.trans ?_, h5.trans ?_,
    h6.trans ?_, h7.trans ?_, h8.trans ?_, h9.trans ?_, h10.trans ?_, h11.trans ?_, hrest⟩
  · rw [Cert.Reference4Ideal.Read.val_main_v85_eq, e0, e1, e2, e3, e4]
    exact (array_6 m c).symm
  · rw [Cert.Reference4Ideal.Read.val_main_v86_eq, e0, e1, e2, e3, e4]
    exact (array_7 m c).symm
  · rw [Cert.Reference4Ideal.Read.val_main_v87_eq, e0, e1, e2, e3, e4]
    exact (array_8 m c).symm
  · rw [Cert.Reference4Ideal.Read.val_main_v89_eq, e0, e1, e2, e3, e4]
    exact (array_9 m c).symm
  · rw [Cert.Reference4Ideal.Read.val_main_v91_eq, e0, e1, e2, e3, e4]
    exact (array_10 m c).symm
  · rw [Cert.Reference4Ideal.Read.val_main_v93_eq, e0, e1, e2, e3, e4]
    exact (array_11 m c).symm
  · rw [Cert.Reference4Ideal.Read.val_main_v94_eq, e0, e1, e2, e3, e4, e5]
    exact (array_12 m c real).symm
  · rw [Cert.Reference4Ideal.Read.val_main_v96_eq, e0, e1, e2, e3, e4, e5]
    exact (array_13 m c real).symm
  · rw [Cert.Reference4Ideal.Read.val_main_v98_eq, e0, e1, e2, e3, e4]
    exact (array_14 m c).symm
  · rw [Cert.Reference4Ideal.Read.val_main_v100_eq, e0, e1, e2, e3, e4]
    exact (array_15 m c).symm
  · rw [Cert.Reference4Ideal.Read.val_main_v102_eq, e0, e1, e2, e3, e4]
    exact (array_16 m c).symm
  · rw [Cert.Reference4Ideal.Read.val_main_v104_eq, e0, e1, e2, e3, e4]
    exact (array_17 m c).symm

end Cert.Kernel4Ideal.InProj
-- ==== Proof.Mix.Spec.lean ====
module

public import proofs.«01_k».proof.Proof.InProj.Spec

/-!
# The mix of the two branches, as formulas

A row's two branch outputs are projected, gated, added and projected again; the result, gated, is added to the residual stream.
-/

@[expose] public section

noncomputable section

namespace Cert.Mix

open Idealize.ShloMosaic Idealize.ShloMosaic.TcCoe
open Cert.InProj (normed)

/-- The two branches' gated projections, added. -/
def mixed (oa ob : Fin 512 → EReal) (ga gb : Fin 1024 → EReal) (wa wb : Fin 512 → Fin 1024 → EReal) (k : Fin 1024) : EReal :=
  ga k * (∑ i, oa i * wa i k) + gb k * ∑ i, ob i * wb i k

/-- The residual stream after the branches. -/
def stream (x g : Fin 1024 → EReal) (oa ob : Fin 512 → EReal) (ga gb : Fin 1024 → EReal) (wa wb : Fin 512 → Fin 1024 → EReal)
    (wo : Fin 1024 → Fin 1024 → EReal) (j : Fin 1024) : EReal :=
  x j + g j * ∑ k, mixed oa ob ga gb wa wb k * wo k j

variable (OA OB : (⟨2, ![32768, 512]⟩ : Shape).Idx → EReal) (GA GB : (⟨2, ![32768, 1024]⟩ : Shape).Idx → EReal)
  (X : (⟨3, ![8, 4096, 1024]⟩ : Shape).Idx → EReal) (G SH SC : (⟨3, ![8, 1, 1024]⟩ : Shape).Idx → EReal)
  (N : (⟨2, ![1, 1024]⟩ : Shape).Idx → EReal) (WA WB : (⟨3, ![1, 512, 1024]⟩ : Shape).Idx → EReal)
  (WO : (⟨3, ![1, 1024, 1024]⟩ : Shape).Idx → EReal)

/-- Row `n`, which is token `s` of sequence `b`, of the residual stream after the branches. -/
def res (n : Fin 32768) (b : Fin 8) (s : Fin 4096) : Fin 1024 → EReal :=
  stream (fun k => X (ix3 b s k)) (fun k => G (ix3 b 0 k)) (fun i => OA (ix2 n i)) (fun i => OB (ix2 n i))
    (fun k => GA (ix2 n k)) (fun k => GB (ix2 n k)) (fun i k => WA (ix3 0 i k)) (fun i k => WB (ix3 0 i k))
    (fun k j => WO (ix3 0 k j))

/-- The same row, normalised and modulated with its sequence's shifts and scales. -/
def layerIn (n : Fin 32768) (b : Fin 8) (s : Fin 4096) : Fin 1024 → EReal :=
  normed (res OA OB GA GB X G WA WB WO n b s) (fun k => N (ix2 0 k)) (fun k => SC (ix3 b 0 k)) (fun k => SH (ix3 b 0 k))

end Cert.Mix
-- ==== Proof.Mix.Point.lean ====
module

public import proofs.«01_k».proof.Proof.Gen.Kernel5Ideal.Value
public import proofs.«01_k».proof.Proof.Mix.Spec
public import Idealize.ShloMosaic.Lib.Pipeline.ValueKit
public import Idealize.ShloMosaic.Lib.Pipeline.ReadBack
public import Idealize.ShloMosaic.Lib.Pointwise

/-!
# What the branch mix's kernel leaves at a grid point

A grid point treats 1024 rows in four quarters. Each quarter of either output is a function of its own rows.
-/

@[expose] public section

set_option maxRecDepth 16384

noncomputable section

namespace Cert.Kernel5Ideal.Mix

open Cert.Kernel5Ideal Cert.Kernel5Ideal.Gen Idealize.ShloMosaic Idealize.ShloMosaic.TcCoe Idealize.SL.Sem
open Cert.InProj (normed)
open Cert.Mix (mixed stream)

variable (m : (ℓ : Loc nD τ sig) → Buf (Elt Ideal) ℓ)

/-- A row of the residual stream, from a grid point's blocks. -/
def st (c : Dev nD) (t : Fin cfg0.N) (r : Fin 1024) : Fin 1024 → EReal :=
  stream (fun k => iblk m c 4 t (ix2 r k)) (fun k => iblk m c 5 t (ix3 0 0 k)) (fun i => iblk m c 0 t (ix2 r i))
    (fun i => iblk m c 1 t (ix2 r i)) (fun k => iblk m c 2 t (ix2 r k)) (fun k => iblk m c 3 t (ix2 r k))
    (fun i k => iblk m c 9 t (ix2 i k)) (fun i k => iblk m c 10 t (ix2 i k)) (fun k j => iblk m c 11 t (ix2 k j))

/-- The residual stream that a grid point leaves. -/
def outs12 (c : Dev nD) (t : Fin cfg0.N) : Vec Ideal S1024x1024 .f32 :=
  out0_12 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)

set_option maxHeartbeats 4000000 in
/-- The residual stream, entry by entry. -/
theorem out_12 (c : Dev nD) (t : Fin cfg0.N) (r : Fin 1024) (j : Fin 1024) :
    (outs12 m c t (ix2 r j) : EReal) = st m c t r j := by
  unfold outs12
  unfold_out out0_12
  have hr : (ix2 r j : S1024x1024.Idx) 0 = r := rfl
  have hf : (ix2 r j : S1024x1024.Idx) 1 = j := rfl
  generalize (ix2 r j : S1024x1024.Idx) = y at hr hf ⊢
  subst hr hf
  canon_tiles x k
  all_goals
    obtain ⟨a, b, rfl⟩ : ∃ (a : Fin 256) (b : Fin 1024), x = ix2 a b := ⟨x 0, x 1, eq_ix2 x⟩
    have ec : y 1 = b := Fin.ext k1
    rw [ec]
  on_goal 1 =>
    have er : y 0 = (⟨768 + a.val, by omega⟩ : Fin 1024) := Fin.ext k0
    rw [er]
  on_goal 2 =>
    have er : y 0 = (⟨512 + a.val, by omega⟩ : Fin 1024) := Fin.ext k0
    rw [er]
  on_goal 3 =>
    have er : y 0 = (⟨256 + a.val, by omega⟩ : Fin 1024) := Fin.ext k0
    rw [er]
  on_goal 4 =>
    have er : y 0 = (⟨a.val, by omega⟩ : Fin 1024) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, View.ld]
    rfl

/-- The hidden rows that a grid point leaves. -/
def outs13 (c : Dev nD) (t : Fin cfg0.N) : Vec Ideal S1024x1024 .bf16 :=
  out0_13 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)

set_option maxHeartbeats 4000000 in
/-- The hidden rows, entry by entry. -/
theorem out_13 (c : Dev nD) (t : Fin cfg0.N) (r : Fin 1024) (j : Fin 1024) :
    (outs13 m c t (ix2 r j) : EReal) = normed (st m c t r) (fun k => iblk m c 8 t (ix2 0 k)) (fun k => iblk m c 7 t (ix3 0 0 k))
      (fun k => iblk m c 6 t (ix3 0 0 k)) j := by
  unfold outs13
  unfold_out out0_13
  have hr : (ix2 r j : S1024x1024.Idx) 0 = r := rfl
  have hf : (ix2 r j : S1024x1024.Idx) 1 = j := rfl
  generalize (ix2 r j : S1024x1024.Idx) = y at hr hf ⊢
  subst hr hf
  canon_tiles x k
  all_goals
    obtain ⟨a, b, rfl⟩ : ∃ (a : Fin 256) (b : Fin 1024), x = ix2 a b := ⟨x 0, x 1, eq_ix2 x⟩
    have ec : y 1 = b := Fin.ext k1
    rw [ec]
  on_goal 1 =>
    have er : y 0 = (⟨768 + a.val, by omega⟩ : Fin 1024) := Fin.ext k0
    rw [er]
  on_goal 2 =>
    have er : y 0 = (⟨512 + a.val, by omega⟩ : Fin 1024) := Fin.ext k0
    rw [er]
  on_goal 3 =>
    have er : y 0 = (⟨256 + a.val, by omega⟩ : Fin 1024) := Fin.ext k0
    rw [er]
  on_goal 4 =>
    have er : y 0 = (⟨a.val, by omega⟩ : Fin 1024) := Fin.ext k0
    rw [er]
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, View.ld]
    rfl

end Cert.Kernel5Ideal.Mix
-- ==== Proof.Mix.Array.lean ====
module

public import proofs.«01_k».proof.Proof.Mix.Point
public import Idealize.ShloMosaic.Lib.StableHlo.ReadAt

/-!
# What the branch mix's blocks hold

Grid point `t` treats rows `1024 t` to `1024 t + 1023`, which belong to sequence `t / 4`. Here: the operands' blocks as parts
of the arguments.
-/

@[expose] public section

set_option maxRecDepth 16384

noncomputable section

namespace Cert.Kernel5Ideal.Mix

open Cert.Kernel5Ideal Cert.Kernel5Ideal.Gen Idealize.ShloMosaic Idealize.ShloMosaic.TcCoe Idealize.SL.Sem
open Cert.InProj (normed)
open Cert.Mix (res layerIn)

variable (m : (ℓ : Loc nD τ sig) → Buf (Elt Ideal) ℓ)

/-- Which block each window takes at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val / 4, 0, 0] ∧ win0_6.index t = ![t.val / 4, 0, 0] ∧ win0_7.index t = ![t.val / 4, 0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] :=
  (by decide +kernel : ∀ t : Fin grid0.N, _)

/-- There are 32 grid points. -/
theorem lt32 (t : Fin cfg0.N) : t.val < 32 := t.isLt

/-- A row of a grid point, numbered through the batch. -/
def row (t : Fin cfg0.N) (r : Fin 1024) : Fin 32768 := ⟨1024 * t.val + r.val, by have := lt32 t; omega⟩

/-- The sequence of a grid point. -/
def seq (t : Fin cfg0.N) : Fin 8 := ⟨t.val / 4, by have := lt32 t; omega⟩

/-- A row of a grid point, numbered within its sequence. -/
def pos (t : Fin cfg0.N) (r : Fin 1024) : Fin 4096 := ⟨1024 * (t.val % 4) + r.val, by omega⟩

/-- The sequence of a row. -/
theorem row_seq (t : Fin cfg0.N) (r : Fin 1024) (h) : (⟨(row t r).val / 4096, h⟩ : Fin 8) = seq t :=
  Fin.ext (by show (1024 * t.val + r.val) / 4096 = t.val / 4; omega)

/-- The place of a row in its sequence. -/
theorem row_pos (t : Fin cfg0.N) (r : Fin 1024) (h) : (⟨(row t r).val % 4096, h⟩ : Fin 4096) = pos t r :=
  Fin.ext (by show (1024 * t.val + r.val) % 4096 = 1024 * (t.val % 4) + r.val; omega)

/-- The attention branch's outputs. -/
abbrev A0 (c : Dev nD) : (⟨2, ![32768, 512]⟩ : Shape).Idx → EReal := m ((c : Thread nD τ).loc main_arg0)

/-- The recurrent branch's outputs. -/
abbrev A1 (c : Dev nD) : (⟨2, ![32768, 512]⟩ : Shape).Idx → EReal := m ((c : Thread nD τ).loc main_arg1)

/-- The attention branch's gates. -/
abbrev A2 (c : Dev nD) : (⟨2, ![32768, 1024]⟩ : Shape).Idx → EReal := m ((c : Thread nD τ).loc main_arg2)

/-- The recurrent branch's gates. -/
abbrev A3 (c : Dev nD) : (⟨2, ![32768, 1024]⟩ : Shape).Idx → EReal := m ((c : Thread nD τ).loc main_arg3)

/-- The inputs. -/
abbrev A4 (c : Dev nD) : (⟨3, ![8, 4096, 1024]⟩ : Shape).Idx → EReal := m ((c : Thread nD τ).loc main_arg4)

/-- The mix's gates. -/
abbrev A5 (c : Dev nD) : (⟨3, ![8, 1, 1024]⟩ : Shape).Idx → EReal := m ((c : Thread nD τ).loc main_arg5)

/-- The shifts. -/
abbrev A6 (c : Dev nD) : (⟨3, ![8, 1, 1024]⟩ : Shape).Idx → EReal := m ((c : Thread nD τ).loc main_arg6)

/-- The scales. -/
abbrev A7 (c : Dev nD) : (⟨3, ![8, 1, 1024]⟩ : Shape).Idx → EReal := m ((c : Thread nD τ).loc main_arg7)

/-- The normalisation's scales. -/
abbrev A8 (c : Dev nD) : (⟨2, ![1, 1024]⟩ : Shape).Idx → EReal := m ((c : Thread nD τ).loc main_arg8)

/-- The attention branch's projection. -/
abbrev A9 (c : Dev nD) : (⟨3, ![1, 512, 1024]⟩ : Shape).Idx → EReal := m ((c : Thread nD τ).loc main_arg9)

/-- The recurrent branch's projection. -/
abbrev A10 (c : Dev nD) : (⟨3, ![1, 512, 1024]⟩ : Shape).Idx → EReal := m ((c : Thread nD τ).loc main_arg10)

/-- The joint projection. -/
abbrev A11 (c : Dev nD) : (⟨3, ![1, 1024, 1024]⟩ : Shape).Idx → EReal := m ((c : Thread nD τ).loc main_arg11)

/-- The attention branch's outputs that the kernel reads. -/
theorem arr0 (c : Dev nD) (i) :
    (V m c main_arg0 i : EReal) = A0 m c i := by
  simp only [V, hostOps0]
  after_reads_at

/-- The recurrent branch's outputs that the kernel reads. -/
theorem arr1 (c : Dev nD) (i) :
    (V m c main_arg1 i : EReal) = A1 m c i := by
  simp only [V, hostOps0]
  after_reads_at

/-- The attention branch's gates that the kernel reads. -/
theorem arr2 (c : Dev nD) (i) :
    (V m c main_arg2 i : EReal) = A2 m c i := by
  simp only [V, hostOps0]
  after_reads_at

/-- The recurrent branch's gates that the kernel reads. -/
theorem arr3 (c : Dev nD) (i) :
    (V m c main_arg3 i : EReal) = A3 m c i := by
  simp only [V, hostOps0]
  after_reads_at

/-- The inputs that the kernel reads. -/
theorem arr4 (c : Dev nD) (n : Fin 32768) (k : Fin 1024) :
    (V m c main_v8 (ix2 n k) : EReal) = A4 m c (ix3 ⟨n.val / 4096, by omega⟩ ⟨n.val % 4096, by omega⟩ k) := by
  simp only [V, hostOps0]
  after_reads_at

/-- The mix's gates that the kernel reads. -/
theorem arr5 (c : Dev nD) (i) :
    (V m c main_arg5 i : EReal) = A5 m c i := by
  simp only [V, hostOps0]
  after_reads_at

/-- The shifts that the kernel reads. -/
theorem arr6 (c : Dev nD) (i) :
    (V m c main_arg6 i : EReal) = A6 m c i := by
  simp only [V, hostOps0]
  after_reads_at

/-- The scales that the kernel reads. -/
theorem arr7 (c : Dev nD) (i) :
    (V m c main_arg7 i : EReal) = A7 m c i := by
  simp only [V, hostOps0]
  after_reads_at

/-- The normalisation's scales that the kernel reads. -/
theorem arr8 (c : Dev nD) (k : Fin 1024) :
    (V m c main_v7 (ix2 0 k) : EReal) = A8 m c (ix2 0 k) := by
  simp only [V, hostOps0]
  after_reads_at

/-- The attention branch's projection that the kernel reads. -/
theorem arr9 (c : Dev nD) (i : Fin 512) (k : Fin 1024) :
    (V m c main_v1 (ix2 i k) : EReal) = A9 m c (ix3 0 i k) := by
  simp only [V, hostOps0]
  after_reads_at

/-- The recurrent branch's projection that the kernel reads. -/
theorem arr10 (c : Dev nD) (i : Fin 512) (k : Fin 1024) :
    (V m c main_v3 (ix2 i k) : EReal) = A10 m c (ix3 0 i k) := by
  simp only [V, hostOps0]
  after_reads_at

/-- The joint projection that the kernel reads. -/
theorem arr11 (c : Dev nD) (k : Fin 1024) (j : Fin 1024) :
    (V m c main_v5 (ix2 k j) : EReal) = A11 m c (ix3 0 k j) := by
  simp only [V, hostOps0]
  after_reads_at

/-- The block of the attention branch's outputs. -/
theorem blk0 (c : Dev nD) (t : Fin cfg0.N) (r : Fin 1024) (i : Fin 512) :
    (iblk m c 0 t (ix2 r i) : EReal) = A0 m c (ix2 (row t r) i) := by
  rw [← arr0]
  blk_ext [iblk, idx t, row, seq]

/-- The block of the recurrent branch's outputs. -/
theorem blk1 (c : Dev nD) (t : Fin cfg0.N) (r : Fin 1024) (i : Fin 512) :
    (iblk m c 1 t (ix2 r i) : EReal) = A1 m c (ix2 (row t r) i) := by
  rw [← arr1]
  blk_ext [iblk, idx t, row, seq]

/-- The block of the attention branch's gates. -/
theorem blk2 (c : Dev nD) (t : Fin cfg0.N) (r : Fin 1024) (k : Fin 1024) :
    (iblk m c 2 t (ix2 r k) : EReal) = A2 m c (ix2 (row t r) k) := by
  rw [← arr2]
  blk_ext [iblk, idx t, row, seq]

/-- The block of the recurrent branch's gates. -/
theorem blk3 (c : Dev nD) (t : Fin cfg0.N) (r : Fin 1024) (k : Fin 1024) :
    (iblk m c 3 t (ix2 r k) : EReal) = A3 m c (ix2 (row t r) k) := by
  rw [← arr3]
  blk_ext [iblk, idx t, row, seq]

/-- The block of the inputs. -/
theorem blk4 (c : Dev nD) (t : Fin cfg0.N) (r : Fin 1024) (k : Fin 1024) :
    (iblk m c 4 t (ix2 r k) : EReal) = A4 m c (ix3 (seq t) (pos t r) k) := by
  rw [← row_seq t r (by omega), ← row_pos t r (by omega), ← arr4]
  blk_ext [iblk, idx t, row, seq]

/-- The block of the mix's gates. -/
theorem blk5 (c : Dev nD) (t : Fin cfg0.N) (k : Fin 1024) :
    (iblk m c 5 t (ix3 0 0 k) : EReal) = A5 m c (ix3 (seq t) 0 k) := by
  rw [← arr5]
  blk_ext [iblk, idx t, row, seq]

/-- The block of the shifts. -/
theorem blk6 (c : Dev nD) (t : Fin cfg0.N) (k : Fin 1024) :
    (iblk m c 6 t (ix3 0 0 k) : EReal) = A6 m c (ix3 (seq t) 0 k) := by
  rw [← arr6]
  blk_ext [iblk, idx t, row, seq]

/-- The block of the scales. -/
theorem blk7 (c : Dev nD) (t : Fin cfg0.N) (k : Fin 1024) :
    (iblk m c 7 t (ix3 0 0 k) : EReal) = A7 m c (ix3 (seq t) 0 k) := by
  rw [← arr7]
  blk_ext [iblk, idx t, row, seq]

/-- The block of the normalisation's scales. -/
theorem blk8 (c : Dev nD) (t : Fin cfg0.N) (k : Fin 1024) :
    (iblk m c 8 t (ix2 0 k) : EReal) = A8 m c (ix2 0 k) := by
  rw [← arr8]
  blk_ext [iblk, idx t, row, seq]

/-- The block of the attention branch's projection. -/
theorem blk9 (c : Dev nD) (t : Fin cfg0.N) (i : Fin 512) (k : Fin 1024) :
    (iblk m c 9 t (ix2 i k) : EReal) = A9 m c (ix3 0 i k) := by
  rw [← arr9]
  blk_ext [iblk, idx t, row, seq]

/-- The block of the recurrent branch's projection. -/
theorem blk10 (c : Dev nD) (t : Fin cfg0.N) (i : Fin 512) (k : Fin 1024) :
    (iblk m c 10 t (ix2 i k) : EReal) = A10 m c (ix3 0 i k) := by
  rw [← arr10]
  blk_ext [iblk, idx t, row, seq]

/-- The block of the joint projection. -/
theorem blk11 (c : Dev nD) (t : Fin cfg0.N) (k : Fin 1024) (j : Fin 1024) :
    (iblk m c 11 t (ix2 k j) : EReal) = A11 m c (ix3 0 k j) := by
  rw [← arr11]
  blk_ext [iblk, idx t, row, seq]

/-- A row of the residual stream, from the arguments. -/
theorem st_eq (c : Dev nD) (t : Fin cfg0.N) (r : Fin 1024) :
    st m c t r = res (A0 m c) (A1 m c) (A2 m c) (A3 m c) (A4 m c) (A5 m c) (A9 m c) (A10 m c) (A11 m c) (row t r) (seq t)
      (pos t r) := by
  unfold st res
  congr 1
  · exact funext fun k => blk4 m c t r k
  · exact funext fun k => blk5 m c t k
  · exact funext fun i => blk0 m c t r i
  · exact funext fun i => blk1 m c t r i
  · exact funext fun k => blk2 m c t r k
  · exact funext fun k => blk3 m c t r k
  · exact funext fun i => funext fun k => blk9 m c t i k
  · exact funext fun i => funext fun k => blk10 m c t i k
  · exact funext fun k => funext fun j => blk11 m c t k j

/-- A hidden row, from the arguments. -/
theorem hidden_eq (c : Dev nD) (t : Fin cfg0.N) (r : Fin 1024) (j : Fin 1024) :
    normed (st m c t r) (fun k => iblk m c 8 t (ix2 0 k)) (fun k => iblk m c 7 t (ix3 0 0 k)) (fun k => iblk m c 6 t (ix3 0 0 k)) j
      = layerIn (A0 m c) (A1 m c) (A2 m c) (A3 m c) (A4 m c) (A5 m c) (A6 m c) (A7 m c) (A8 m c) (A9 m c) (A10 m c) (A11 m c)
          (row t r) (seq t) (pos t r) j := by
  unfold layerIn
  rw [st_eq]
  congr 1
  · exact funext fun k => blk8 m c t k
  · exact funext fun k => blk7 m c t k
  · exact funext fun k => blk6 m c t k

end Cert.Kernel5Ideal.Mix
-- ==== Proof.Mix.Ref.lean ====
module

public import proofs.«01_k».proof.Proof.Gen.Reference5Ideal.Read
public import proofs.«01_k».proof.Proof.Mix.Spec
public import Idealize.ShloMosaic.Lib.Pointwise

/-!
# What the branch mix's reference computes

Its two results, row by row.
-/

@[expose] public section

set_option maxRecDepth 16384

noncomputable section

namespace Cert.Reference5Ideal.Mix

open Cert.Reference5Ideal Cert.Reference5Ideal.Read Idealize.ShloMosaic Idealize.ShloMosaic.TcCoe
open Cert.Mix (mixed stream res layerIn)

variable (x0 x1 : (⟨S32768x512, .bf16⟩ : BufTy).Contents (Elt Ideal)) (x2 x3 : (⟨S32768x1024, .bf16⟩ : BufTy).Contents (Elt Ideal))
  (x4 : (⟨S8x4096x1024, .f32⟩ : BufTy).Contents (Elt Ideal)) (x5 x6 x7 : (⟨S8x1x1024, .f32⟩ : BufTy).Contents (Elt Ideal))
  (x8 : (⟨S1x1024, .f32⟩ : BufTy).Contents (Elt Ideal)) (x9 x10 : (⟨S1x512x1024, .f32⟩ : BufTy).Contents (Elt Ideal))
  (x11 : (⟨S1x1024x1024, .f32⟩ : BufTy).Contents (Elt Ideal))

/-- A row of the batch. -/
def row (b : Fin 8) (s : Fin 4096) : Fin 32768 := ⟨b.val * 4096 + s.val, by omega⟩

/-- The residual stream after the branches. -/
theorem stream_apply (b : Fin 8) (s : Fin 4096) (j : Fin 1024) :
    (val_main_v19 (F := Ideal) x0 x1 x2 x3 x4 x5 x9 x10 x11 (ix3 b s j) : EReal)
      = res x0 x1 x2 x3 x4 x5 x9 x10 x11 (row b s) b s j := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0]
  rfl

/-- The first result: the residual stream, row by row. -/
theorem res_apply (n : Fin 32768) (j : Fin 1024) :
    (val_main_v40 (F := Ideal) x0 x1 x2 x3 x4 x5 x9 x10 x11 (ix2 n j) : EReal)
      = res x0 x1 x2 x3 x4 x5 x9 x10 x11 n ⟨n.val / 4096, by omega⟩ ⟨n.val % 4096, by omega⟩ j := by
  pointwise [val_main_v40]
  rw [stream_apply]
  congr 1
  exact Fin.ext (by show n.val / 4096 * 4096 + n.val % 4096 = n.val; omega)

/-- The second result: the same rows, normalised and modulated. -/
theorem hidden_apply (n : Fin 32768) (j : Fin 1024) :
    (val_main_v42 (F := Ideal) x0 x1 x2 x3 x4 x5 x6 x7 x8 x9 x10 x11 (ix2 n j) : EReal)
      = layerIn x0 x1 x2 x3 x4 x5 x6 x7 x8 x9 x10 x11 n ⟨n.val / 4096, by omega⟩ ⟨n.val % 4096, by omega⟩ j := by
  pointwise [val_main_v42, val_main_v41, val_main_v39, val_main_v38, val_main_v37, val_main_v36, val_main_v35, val_main_v34,
    val_main_cst_2, val_main_v33, val_main_v32, val_main_v31, val_main_v30, val_main_v29, val_main_v28, val_main_v27,
    val_main_v26, val_main_v25, val_main_cst_1, val_main_v24, val_main_v23, val_main_cst_0, val_main_v22, val_main_v21,
    val_main_cst, val_main_v20]
  simp only [stream_apply]
  have e : row ⟨n.val / 4096, by omega⟩ ⟨n.val % 4096, by omega⟩ = n :=
    Fin.ext (by show n.val / 4096 * 4096 + n.val % 4096 = n.val; omega)
  rw [e]
  rfl

end Cert.Reference5Ideal.Mix
-- ==== Proof.Mix.Equation.lean ====
module

public import proofs.«01_k».proof.Proof.Mix.Array
public import proofs.«01_k».proof.Proof.Mix.Ref

/-!
# The two programs of the branch mix compute the same arrays

The array a window's visits leave behind, block by block, is the reference's.
-/

@[expose] public section

noncomputable section

namespace Cert.Kernel5Ideal.Mix

open Cert.Kernel5Ideal Cert.Kernel5Ideal.Gen Idealize.ShloMosaic Idealize.ShloMosaic.TcCoe Idealize.SL.Sem
open Cert.Reference5Ideal.Read (val_main_v40 val_main_v42)

variable (m : (ℓ : Loc nD τ sig) → Buf (Elt Ideal) ℓ)

/-- The block of the residual stream is the reference's. -/
theorem point_12 (c : Dev nD) (t : Fin cfg0.N) (r : Fin 1024) (j : Fin 1024) :
    (outs12 m c t (ix2 r j) : EReal)
      = val_main_v40 (F := Ideal) (A0 m c) (A1 m c) (A2 m c) (A3 m c) (A4 m c) (A5 m c) (A9 m c) (A10 m c) (A11 m c)
          (ix2 (row t r) j) := by
  rw [out_12, st_eq]
  refine Eq.trans ?_ (Cert.Reference5Ideal.Mix.res_apply _ _ _ _ _ _ _ _ _ (row t r) j).symm
  rw [row_seq, row_pos]

/-- The array of the residual stream is the reference's. -/
theorem array_12 (c : Dev nD) :
    (dats m 0 c).arrAt 12 cfg0.N
      = val_main_v40 (F := Ideal) (A0 m c) (A1 m c) (A2 m c) (A3 m c) (A4 m c) (A5 m c)
          (A9 m c) (A10 m c) (A11 m c) := by
  refine (dats m 0 c).arrAt_eq_of_covers 12 _ (by decide +kernel) fun t _ y => ?_
  blk_simp
  rw [after0_12]
  have hy : y = ix2 (y 0) (y 1) := eq_ix2 y
  have e : (win0_12.blk t).view.emb y = ix2 (row t (y 0)) (y 1) := by blk_ext [idx t, row]
  refine ((congrArg (outs12 m c t) hy).trans (point_12 m c t (y 0) (y 1))).trans ?_
  rw [e]
  rfl

/-- The block of the hidden rows is the reference's. -/
theorem point_13 (c : Dev nD) (t : Fin cfg0.N) (r : Fin 1024) (j : Fin 1024) :
    (outs13 m c t (ix2 r j) : EReal)
      = val_main_v42 (F := Ideal) (A0 m c) (A1 m c) (A2 m c) (A3 m c) (A4 m c) (A5 m c) (A6 m c) (A7 m c) (A8 m c)
          (A9 m c) (A10 m c) (A11 m c)
          (ix2 (row t r) j) := by
  rw [out_13, hidden_eq]
  refine Eq.trans ?_ (Cert.Reference5Ideal.Mix.hidden_apply _ _ _ _ _ _ _ _ _ _ _ _ (row t r) j).symm
  rw [row_seq, row_pos]

/-- The array of the hidden rows is the reference's. -/
theorem array_13 (c : Dev nD) :
    (dats m 0 c).arrAt 13 cfg0.N
      = val_main_v42 (F := Ideal) (A0 m c) (A1 m c) (A2 m c) (A3 m c) (A4 m c) (A5 m c) (A6 m c) (A7 m c) (A8 m c)
          (A9 m c) (A10 m c) (A11 m c) := by
  refine (dats m 0 c).arrAt_eq_of_covers 13 _ (by decide +kernel) fun t _ y => ?_
  blk_simp
  rw [after0_13]
  have hy : y = ix2 (y 0) (y 1) := eq_ix2 y
  have e : (win0_13.blk t).view.emb y = ix2 (row t (y 0)) (y 1) := by blk_ext [idx t, row]
  refine ((congrArg (outs13 m c t) hy).trans (point_13 m c t (y 0) (y 1))).trans ?_
  rw [e]
  rfl

end Cert.Kernel5Ideal.Mix
-- ==== Proof.Mix.Claim.lean ====
module

public import proofs.«01_k».proof.Defs
public import proofs.«01_k».proof.Proof.Gen.Reference5Ideal.Run
public import proofs.«01_k».proof.Proof.Mix.Equation
public import Idealize.ShloMosaic.Adequacy

/-!
# The claims on the branch mix

The reference runs and leaves its arguments, and the two programs end with equal arrays.
-/

@[expose] public section

noncomputable section

namespace Cert.Kernel5Ideal.Mix

open Idealize.ShloMosaic Idealize.ShloMosaic.TcCoe Idealize.SL.Sem

/-- The reference runs and leaves its arguments; it uses no semaphore. -/
theorem reference_runs : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run m g)

set_option maxHeartbeats 4000000 in
/-- The kernel and its reference end with equal arrays. -/
theorem same_arrays : Cert.algebraic_Kernel5Ideal_Reference5Ideal := by
  intro m g m' g' _ hag
  refine ⟨fun c => (Cert.Kernel5Ideal.Gen.dats m 0 c).arrAt 12 Cert.Kernel5Ideal.cfg0.N,
    fun c => (Cert.Kernel5Ideal.Gen.dats m 0 c).arrAt 13 Cert.Kernel5Ideal.cfg0.N,
    Cert.Kernel5Ideal.Value.run_blocks m g, (θ_run _ _ _).mono (fun r h c => ?_) (Cert.Reference5Ideal.Value.run m' g')⟩
  obtain ⟨e0, e1, e2, e3, e4, e5, e6, e7, e8, e9, e10, e11⟩ := hag c
  obtain ⟨h0, h1, hrest⟩ := h c
  refine ⟨h0.trans ?_, h1.trans ?_, hrest⟩
  · rw [Cert.Reference5Ideal.Read.val_main_v40_eq, e0, e1, e2, e3, e4, e5, e9, e10, e11]
    exact (array_12 m c).symm
  · rw [Cert.Reference5Ideal.Read.val_main_v42_eq, e0, e1, e2, e3, e4, e5, e6, e7, e8, e9, e10, e11]
    exact (array_13 m c).symm

end Cert.Kernel5Ideal.Mix
-- ==== Proof.FfnS.Spec.lean ====
module

public import proofs.«01_k».proof.Proof.Ffn.Spec

/-!
# The feed-forward layer over the sample tokens, in closed form

Thirty-two sequences of four tokens; row `n` is token `n % 4` of sequence `n / 4`. The causal convolution reads, before a
sequence's first token, the two rows that the previous call left for it.
-/

@[expose] public section

set_option maxRecDepth 16384

noncomputable section

namespace Cert.Ffn.Short

open Idealize.ShloMosaic

variable (H : (⟨2, ![128, 1024]⟩ : Shape).Idx → EReal) (X : (⟨2, ![128, 1024]⟩ : Shape).Idx → EReal)
  (G : (⟨3, ![32, 1, 1024]⟩ : Shape).Idx → EReal) (P : (⟨4, ![1, 32, 2, 2816]⟩ : Shape).Idx → EReal)
  (U : (⟨3, ![1, 1024, 5632]⟩ : Shape).Idx → EReal) (K : (⟨3, ![1, 3, 2816]⟩ : Shape).Idx → EReal)
  (B : (⟨2, ![1, 2816]⟩ : Shape).Idx → EReal) (D : (⟨3, ![1, 2816, 1024]⟩ : Shape).Idx → EReal)
  (S : (⟨1, ![1024]⟩ : Shape).Idx → EReal)

/-- The sequence of a row. -/
def seq (r : Fin 128) : Fin 32 := ⟨r.val / 4, by omega⟩

/-- The input projection of a row. -/
def up (r : Fin 128) (f : Fin 5632) : EReal := ∑ k : Fin 1024, H (ix2 r k) * U (ix3 0 k f)

/-- The convolved half of the projection, `s` rows back in the same sequence; before it, the rows left by the previous call. -/
def back (s : Nat) (hs : s ≤ 2) (r : Fin 128) (f : Fin 2816) : EReal :=
  if h : r.val % 4 < s then P (ix4 0 (seq r) ⟨2 - s + r.val % 4, by omega⟩ f)
  else up H U ⟨r.val - s, by omega⟩ ⟨f.val, by omega⟩

/-- The causal convolution over the last three rows. -/
def conv (r : Fin 128) (f : Fin 2816) : EReal :=
  B (ix2 0 f) + K (ix3 0 0 f) * back H P U 2 (by omega) r f + K (ix3 0 1 f) * back H P U 1 (by omega) r f
    + K (ix3 0 2 f) * back H P U 0 (by omega) r f

/-- The hidden layer: the activated convolution, gated by the other half of the projection. -/
def act (r : Fin 128) (f : Fin 2816) : EReal :=
  gelu (conv H P U K B r f) * up H U r ⟨2816 + f.val, by omega⟩

/-- The residual stream after the layer. -/
def res (r : Fin 128) (j : Fin 1024) : EReal :=
  X (ix2 r j) + G (ix3 (seq r) 0 j) * ∑ f : Fin 2816, act H P U K B r f * D (ix3 0 f j)

/-- The layer's normalised output. -/
def out (r : Fin 128) (j : Fin 1024) : EReal :=
  rms (res H X G P U K B D r) (fun i => S (ix1 i)) j

end Cert.Ffn.Short
-- ==== Proof.FfnS.Block.lean ====
module

public import proofs.«01_k».proof.Proof.Gen.Kernel6Ideal.Value
public import proofs.«01_k».proof.Proof.FfnS.Spec

/-!
# What the block of the sample rows computes

The kernel's body treats all 128 rows at once, and of the hidden layer 256 columns at a time, alike in all eleven column tiles.
The definitions here are one column tile's computation and the block's output; the theorems read them at an index.
-/

@[expose] public section

set_option maxRecDepth 16384

noncomputable section

namespace Cert.Kernel6Ideal.Ffn

open Cert.Kernel6Ideal Cert.Kernel6Ideal.Gen Idealize.ShloMosaic Idealize.SL.Sem

/-- The projection of the rows to a column tile. -/
def proj (h : FVec Ideal S128x1024 .bf16) (w : FVec Ideal S1024x256 .bf16) : FVec Ideal S128x256 .f32 :=
  matmul dot_S128x1024_S1024x256_S128x256_1_0_0_1_n_n none h (shapeCast S1024x256 w shapeCasts_S1024x256_S1024x256)
    (constant S128x256 .f32 0x00000000#32)

/-- A row given to all 128 rows. -/
def rowwise (x : FVec Ideal S1x256 .f32) : FVec Ideal S128x256 .f32 :=
  broadcastTo S128x256 (shapeCast S1x256 x shapeCasts_S1x256_S1x256) broadcasts_S1x256_S128x256

/-- The rows one back within their sequence; a sequence's first row reads `p`. -/
def back1 (u p : FVec Ideal S128x256 .f32) : FVec Ideal S128x256 .f32 :=
  select (cmpi .sge k0_pay1 (broadcast S128x256 1#32)) (dynamicRotate 0 1#32 none u rotates_S128x256_d0)
    (shapeCast S128x256 p shapeCasts_S128x256_S128x256)

/-- The rows two back within their sequence; a sequence's first two rows read `p`. -/
def back2 (u p : FVec Ideal S128x256 .f32) : FVec Ideal S128x256 .f32 :=
  select (cmpi .sge k0_pay1 (broadcast S128x256 2#32)) (dynamicRotate 0 2#32 none u rotates_S128x256_d0)
    (shapeCast S128x256 p shapeCasts_S128x256_S128x256)

/-- The convolution's column tile. -/
def convTile (u p1 p2 : FVec Ideal S128x256 .f32) (b k0 k1 k2 : FVec Ideal S1x256 .f32) : FVec Ideal S128x256 .f32 :=
  addf (addf (addf (rowwise b) (mulf (rowwise k0) (back2 u p2))) (mulf (rowwise k1) (back1 u p1))) (mulf (rowwise k2) u)

/-- The hidden layer's column tile from its convolution and its gate. -/
def actTile (x v : FVec Ideal S128x256 .f32) : FVec Ideal S128x256 .bf16 :=
  shapeCast S128x256 (truncf .bf16 (mulf (mulf (mulf (broadcast S128x256 (Scalar.ofBits .f32 0x3F000000#32)) x)
      (addf (broadcast S128x256 (Scalar.ofBits .f32 0x3F800000#32))
        (erf (mulf x (broadcast S128x256 (Scalar.ofBits .f32 0x3F3504F3#32)))))) v) bitsLt_bf16_f32)
    shapeCasts_S128x256_S128x256

/-- A projected row. -/
theorem proj_apply (h : FVec Ideal S128x1024 .bf16) (w : FVec Ideal S1024x256 .bf16) (r : Fin 128) (j : Fin 256) :
    proj h w (ix2 r j) = ∑ k : Fin 1024, (h (ix2 r k) * w (ix2 k j) : EReal) := by
  pointwise [proj]

/-- The sequences' length, as the kernel guards it against zero. -/
def len : BitVec 32 := Scalar.select (Scalar.cmpi .eq 4#32 0#32) 1#32 4#32

/-- A row's place in its sequence, worked out from its number. -/
def place (n : BitVec 32) : BitVec 32 :=
  Scalar.select
    (IntOp.andi (IntOp.xori (IntOp.cmpi .slt (IntOp.remsi .vector n len) 0#32) (Scalar.cmpi .slt len 0#32))
      (IntOp.cmpi .ne (IntOp.remsi .vector n len) 0#32))
    (IntOp.addi (IntOp.remsi .vector n len) len) (IntOp.remsi .vector n len)

/-- The place compares as the row number's remainder does. -/
theorem place_ge : ∀ (r : Fin 128) (k : Fin 3),
    IntOp.cmpi .sge (place (BitVec.ofNat 32 r.val)) (BitVec.ofNat 32 k.val) = if k.val ≤ r.val % 4 then 1#1 else 0#1 := by
  decide +kernel

theorem select_place {α : Type} (r : Fin 128) (k : Fin 3) (x y : α) :
    Scalar.select (IntOp.cmpi .sge (place (BitVec.ofNat 32 r.val)) (BitVec.ofNat 32 k.val)) x y
      = if k.val ≤ r.val % 4 then x else y := by
  rw [place_ge]
  split <;> rfl

/-- A row one back. -/
theorem back1_apply (u p : FVec Ideal S128x256 .f32) (r : Fin 128) (j : Fin 256) :
    back1 u p (ix2 r j) = if 1 ≤ r.val % 4 then u (ix2 ⟨r.val - 1, by omega⟩ j) else p (ix2 r j) := by
  pointwise [back1, k0_pay1]
  refine (select_place r 1 _ _).trans ?_
  by_cases h : 1 ≤ r.val % 4
  · refine (if_pos h).trans (Eq.trans ?_ (if_pos h).symm)
    congr 2
    refine Fin.ext ?_
    show (r.val + 128 - 1) % 128 = r.val - 1
    omega
  · exact (if_neg h).trans (if_neg h).symm

/-- A row two back. -/
theorem back2_apply (u p : FVec Ideal S128x256 .f32) (r : Fin 128) (j : Fin 256) :
    back2 u p (ix2 r j) = if 2 ≤ r.val % 4 then u (ix2 ⟨r.val - 2, by omega⟩ j) else p (ix2 r j) := by
  pointwise [back2, k0_pay1]
  refine (select_place r 2 _ _).trans ?_
  by_cases h : 2 ≤ r.val % 4
  · refine (if_pos h).trans (Eq.trans ?_ (if_pos h).symm)
    congr 2
    refine Fin.ext ?_
    show (r.val + 128 - 2) % 128 = r.val - 2
    omega
  · exact (if_neg h).trans (if_neg h).symm

/-- The convolution at an index. -/
theorem convTile_apply (u p1 p2 : FVec Ideal S128x256 .f32) (b k0 k1 k2 : FVec Ideal S1x256 .f32) (r : Fin 128) (j : Fin 256) :
    convTile u p1 p2 b k0 k1 k2 (ix2 r j)
      = (b (ix2 0 j) + k0 (ix2 0 j) * back2 u p2 (ix2 r j) + k1 (ix2 0 j) * back1 u p1 (ix2 r j)
          + k2 (ix2 0 j) * u (ix2 r j) : EReal) := by
  pointwise [convTile, rowwise]

/-- The hidden layer at an index. -/
theorem actTile_apply (x v : FVec Ideal S128x256 .f32) (r : Fin 128) (j : Fin 256) :
    actTile x v (ix2 r j) = (Cert.Ffn.gelu (x (ix2 r j)) * v (ix2 r j) : EReal) := by
  pointwise [actTile, Cert.Ffn.gelu]
  rfl

section Whole

variable (h : FVec Ideal S128x1024 .bf16) (w : FVec Ideal S1024x5632 .bf16) (k : FVec Ideal S3x2816 .f32)
  (b : FVec Ideal S1x2816 .f32) (p1 p2 : FVec Ideal S128x2816 .f32)

/-- The projection at an index. -/
def upAt (r : Fin 128) (f : Fin 5632) : EReal := ∑ i : Fin 1024, h (ix2 r i) * w (ix2 i f)

/-- The convolved half of the projection at an index. -/
def leftAt (r : Fin 128) (f : Fin 2816) : EReal := upAt h w r ⟨f.val, by omega⟩

/-- The convolution at an index; `p1` and `p2` hold what the first rows of a sequence read from before it. -/
def convAt (r : Fin 128) (f : Fin 2816) : EReal :=
  b (ix2 0 f)
    + k (ix2 0 f) * (if 2 ≤ r.val % 4 then leftAt h w ⟨r.val - 2, by omega⟩ f else p2 (ix2 r f))
    + k (ix2 1 f) * (if 1 ≤ r.val % 4 then leftAt h w ⟨r.val - 1, by omega⟩ f else p1 (ix2 r f))
    + k (ix2 2 f) * leftAt h w r f

/-- The hidden layer at an index. -/
def actAt (r : Fin 128) (f : Fin 2816) : EReal :=
  Cert.Ffn.gelu (convAt h w k b p1 p2 r f) * upAt h w r ⟨2816 + f.val, by omega⟩

/-- A column tile's projection is the block's. -/
theorem proj_tile (o : Nat) (inb) (r : Fin 128) (j : Fin 256) (f : Fin 5632) (hf : f.val = o + j.val) :
    proj h (fun x => w ((Rect.unit (s := S1024x5632) ![0, o] ![1024, 256] inb).idx x)) (ix2 r j) = upAt h w r f := by
  rw [proj_apply]
  unfold upAt
  refine Finset.sum_congr rfl fun i _ => ?_
  congr 2
  pointwise
  congr 1
  exact Fin.ext hf.symm

/-- A column tile's convolved half is the block's. -/
theorem left_tile (o : Nat) (i0) (x : S128x256.Idx) (r : Fin 128) (f : Fin 2816) (hr : r.val = (x 0).val)
    (hf : f.val = o + (x 1).val) :
    proj h (fun x => w ((Rect.unit (s := S1024x5632) ![0, o] ![1024, 256] i0).idx x)) x = leftAt h w r f := by
  obtain ⟨a, j, rfl⟩ : ∃ (a : Fin 128) (j : Fin 256), x = ix2 a j := ⟨x 0, x 1, eq_ix2 x⟩
  obtain rfl : r = a := Fin.ext hr
  exact proj_tile h w o i0 r j _ hf

/-- A column tile's hidden layer is the block's. -/
theorem act_tile (o : Nat) (i0 i1 ib k0 k1 k2 q1 q2) (x : S128x256.Idx) (r : Fin 128) (f : Fin 2816)
    (hr : r.val = (x 0).val) (hf : f.val = o + (x 1).val) :
    actTile
        (convTile (proj h (fun x => w ((Rect.unit (s := S1024x5632) ![0, o] ![1024, 256] i0).idx x)))
          (fun x => p1 ((Rect.unit (s := S128x2816) ![0, o] ![128, 256] q1).idx x))
          (fun x => p2 ((Rect.unit (s := S128x2816) ![0, o] ![128, 256] q2).idx x))
          (fun x => b ((Rect.unit (s := S1x2816) ![0, o] ![1, 256] ib).idx x))
          (fun x => k ((Rect.unit (s := S3x2816) ![0, o] ![1, 256] k0).idx x))
          (fun x => k ((Rect.unit (s := S3x2816) ![1, o] ![1, 256] k1).idx x))
          (fun x => k ((Rect.unit (s := S3x2816) ![2, o] ![1, 256] k2).idx x)))
        (proj h (fun x => w ((Rect.unit (s := S1024x5632) ![0, 2816 + o] ![1024, 256] i1).idx x))) x
      = actAt h w k b p1 p2 r f := by
  obtain ⟨f, hl⟩ := f
  obtain ⟨a, j, rfl⟩ : ∃ (a : Fin 128) (j : Fin 256), x = ix2 a j := ⟨x 0, x 1, eq_ix2 x⟩
  obtain rfl : r = a := Fin.ext hr
  obtain rfl : f = o + j.val := hf
  rw [actTile_apply, convTile_apply, back1_apply, back2_apply]
  unfold actAt convAt leftAt
  rw [proj_tile h w o i0 r j ⟨o + j.val, by omega⟩ rfl,
    proj_tile h w (2816 + o) i1 r j ⟨2816 + (o + j.val), by omega⟩ (by
      show 2816 + (o + j.val) = _
      omega),
    proj_tile h w o i0 _ j ⟨o + j.val, by omega⟩ rfl, proj_tile h w o i0 _ j ⟨o + j.val, by omega⟩ rfl]
  pointwise

end Whole

/-- The normalised output at an index. -/
theorem last_apply (x : FVec Ideal S128x1024 .f32) (g : FVec Ideal S1x128x1024 .f32) (a : FVec Ideal S128x2816 .bf16)
    (w : FVec Ideal S2816x1024 .bf16) (s : FVec Ideal S1x1024 .f32) (r : Fin 128) (j : Fin 1024) :
    k0_pay59 (F := Ideal) x g a w s (ix2 r j)
      = Cert.Ffn.rms (fun i => x (ix2 r i) + g (ix3 0 r i) * ∑ f : Fin 2816, (a (ix2 r f) * w (ix2 f i) : EReal))
          (fun i => s (ix2 0 i)) j := by
  pointwise [k0_pay59, Cert.Ffn.rms]

/-- The normalised output, from the blocks the kernel reads. -/
def outAt (h : FVec Ideal S128x1024 .bf16) (x : FVec Ideal S128x1024 .f32) (g : FVec Ideal S1x128x1024 .f32)
    (p1 p2 : FVec Ideal S128x2816 .f32) (w : FVec Ideal S1024x5632 .bf16) (k : FVec Ideal S3x2816 .f32)
    (b : FVec Ideal S1x2816 .f32) (d : FVec Ideal S2816x1024 .bf16) (s : FVec Ideal S1x1024 .f32) (r : Fin 128)
    (j : Fin 1024) : EReal :=
  Cert.Ffn.rms (fun i => x (ix2 r i) + g (ix3 0 r i) * ∑ f : Fin 2816, (actAt h w k b p1 p2 r f * d (ix2 f i) : EReal))
    (fun i => s (ix2 0 i)) j

/-- The output, each part known in closed form. -/
theorem outAt_of (h : FVec Ideal S128x1024 .bf16) (x : FVec Ideal S128x1024 .f32) (g : FVec Ideal S1x128x1024 .f32)
    (p1 p2 : FVec Ideal S128x2816 .f32) (w : FVec Ideal S1024x5632 .bf16) (k : FVec Ideal S3x2816 .f32)
    (b : FVec Ideal S1x2816 .f32) (d : FVec Ideal S2816x1024 .bf16) (s : FVec Ideal S1x1024 .f32) (r : Fin 128)
    (j : Fin 1024) (X G S : Fin 1024 → EReal) (A : Fin 2816 → EReal) (D : Fin 2816 → Fin 1024 → EReal)
    (hx : ∀ i, x (ix2 r i) = X i) (hg : ∀ i, g (ix3 0 r i) = G i) (hs : ∀ i, s (ix2 0 i) = S i)
    (ha : ∀ f, actAt h w k b p1 p2 r f = A f) (hd : ∀ f i, d (ix2 f i) = D f i) :
    outAt h x g p1 p2 w k b d s r j = Cert.Ffn.rms (fun i => X i + G i * ∑ f : Fin 2816, A f * D f i) S j := by
  unfold outAt
  simp only [hx, hg, hs, ha, hd]

/-- The stored output, its hidden layer known in closed form. -/
theorem last_of (h : FVec Ideal S128x1024 .bf16) (x : FVec Ideal S128x1024 .f32) (g : FVec Ideal S1x128x1024 .f32)
    (p1 p2 : FVec Ideal S128x2816 .f32) (w : FVec Ideal S1024x5632 .bf16) (k : FVec Ideal S3x2816 .f32)
    (b : FVec Ideal S1x2816 .f32) (d : FVec Ideal S2816x1024 .bf16) (s : FVec Ideal S1x1024 .f32)
    (a : FVec Ideal S128x2816 .bf16) (ha : ∀ r f, a (ix2 r f) = actAt h w k b p1 p2 r f) (r : Fin 128) (j : Fin 1024) :
    k0_pay59 (F := Ideal) x g a d s (ix2 r j) = outAt h x g p1 p2 w k b d s r j := by
  rw [last_apply]
  simp only [ha]
  rfl

end Cert.Kernel6Ideal.Ffn
-- ==== Proof.FfnS.Point.lean ====
module

public import proofs.«01_k».proof.Proof.FfnS.Block
public import Idealize.ShloMosaic.Lib.Pipeline.ValueKit
public import Idealize.ShloMosaic.Lib.Pipeline.ReadBack

/-!
# What the kernel leaves in its output blocks

The hidden layer is stored a column tile at a time and read back whole. Here: the output block, and the block of the
convolution's inputs, each from the blocks the kernel reads.
-/

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

variable (m : (ℓ : Loc nD τ sig) → Buf (Elt Ideal) ℓ)

set_option maxHeartbeats 4000000 in
/-- The output block. -/
theorem out_10 (c : Dev nD) (t : Fin cfg0.N) (r : Fin 128) (j : Fin 1024) :
    (outsAt0 m c t).1 (ix2 r j)
      = outAt (iblk m c 0 t) (iblk m c 1 t) (iblk m c 2 t) (iblk m c 3 t) (iblk m c 4 t) (iblk m c 5 t) (iblk m c 6 t)
          (iblk m c 7 t) (iblk m c 8 t) (iblk m c 9 t) r j := by
  unfold outsAt0
  dsimp only
  unfold out0_A_10
  frame_open
  simp (disch := decide) only [↓ View.readCov_skip, ↓ View.readCov_cons_toLoadRect, ↓ View.readCov_fill]
  frame_out
  refine last_of (iblk m c 0 t) (iblk m c 1 t) (iblk m c 2 t) (iblk m c 3 t) (iblk m c 4 t) (iblk m c 5 t) (iblk m c 6 t)
    (iblk m c 7 t) (iblk m c 8 t) (iblk m c 9 t) _ (fun r f => ?_) r j
  rw [View.readCov_eq_canon']
  have hB : (Rect.unit (s := S128x2816) ![0, 0] ![128, 2816] inb_S128x2816_S128x2816_0_0).toLoadRect.idx (ix2 r f)
      = ix2 r f := by pointwise
  refine (congrArg (View.canon _) hB).trans ?_
  have hr : (ix2 r f : S128x2816.Idx) 0 = r := rfl
  have hf : (ix2 r f : S128x2816.Idx) 1 = f := rfl
  generalize (ix2 r f : S128x2816.Idx) = y at hr hf ⊢
  subst hr hf
  canon_tiles x k
  on_goal 1 =>
    refine Eq.trans ?_ (act_tile _ _ _ _ _ _ 2560 (by decide) (by decide) (by decide) (by decide) (by decide) (by decide) (by decide) (by decide)
      x (y 0) (y 1) k0 k1)
  on_goal 2 =>
    refine Eq.trans ?_ (act_tile _ _ _ _ _ _ 2304 (by decide) (by decide) (by decide) (by decide) (by decide) (by decide) (by decide) (by decide)
      x (y 0) (y 1) k0 k1)
  on_goal 3 =>
    refine Eq.trans ?_ (act_tile _ _ _ _ _ _ 2048 (by decide) (by decide) (by decide) (by decide) (by decide) (by decide) (by decide) (by decide)
      x (y 0) (y 1) k0 k1)
  on_goal 4 =>
    refine Eq.trans ?_ (act_tile _ _ _ _ _ _ 1792 (by decide) (by decide) (by decide) (by decide) (by decide) (by decide) (by decide) (by decide)
      x (y 0) (y 1) k0 k1)
  on_goal 5 =>
    refine Eq.trans ?_ (act_tile _ _ _ _ _ _ 1536 (by decide) (by decide) (by decide) (by decide) (by decide) (by decide) (by decide) (by decide)
      x (y 0) (y 1) k0 k1)
  on_goal 6 =>
    refine Eq.trans ?_ (act_tile _ _ _ _ _ _ 1280 (by decide) (by decide) (by decide) (by decide) (by decide) (by decide) (by decide) (by decide)
      x (y 0) (y 1) k0 k1)
  on_goal 7 =>
    refine Eq.trans ?_ (act_tile _ _ _ _ _ _ 1024 (by decide) (by decide) (by decide) (by decide) (by decide) (by decide) (by decide) (by decide)
      x (y 0) (y 1) k0 k1)
  on_goal 8 =>
    refine Eq.trans ?_ (act_tile _ _ _ _ _ _ 768 (by decide) (by decide) (by decide) (by decide) (by decide) (by decide) (by decide) (by decide)
      x (y 0) (y 1) k0 k1)
  on_goal 9 =>
    refine Eq.trans ?_ (act_tile _ _ _ _ _ _ 512 (by decide) (by decide) (by decide) (by decide) (by decide) (by decide) (by decide) (by decide)
      x (y 0) (y 1) k0 k1)
  on_goal 10 =>
    refine Eq.trans ?_ (act_tile _ _ _ _ _ _ 256 (by decide) (by decide) (by decide) (by decide) (by decide) (by decide) (by decide) (by decide)
      x (y 0) (y 1) k0 k1)
  on_goal 11 =>
    refine Eq.trans ?_ (act_tile _ _ _ _ _ _ 0 (by decide) (by decide) (by decide) (by decide) (by decide) (by decide) (by decide) (by decide)
      x (y 0) (y 1) k0 (by omega))
  all_goals
    simp only [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, rowwise, back1, back2, convTile, actTile, proj]
    rfl

set_option maxHeartbeats 4000000 in
/-- The block of the convolution's inputs. -/
theorem out_11 (c : Dev nD) (t : Fin cfg0.N) (r : Fin 128) (f : Fin 2816) :
    (outsAt0 m c t).2 (ix2 r f) = leftAt (iblk m c 0 t) (iblk m c 5 t) r f := by
  unfold outsAt0
  dsimp only
  unfold out0_A_11
  frame_open
  simp (disch := decide) only [↓ View.readCov_skip, ↓ View.readCov_cons_toLoadRect, ↓ View.readCov_fill]
  frame_out
  have hr : (ix2 r f : S128x2816.Idx) 0 = r := rfl
  have hf : (ix2 r f : S128x2816.Idx) 1 = f := rfl
  generalize (ix2 r f : S128x2816.Idx) = y at hr hf ⊢
  subst hr hf
  canon_tiles x k
  on_goal 1 =>
    refine Eq.trans ?_ (left_tile _ _ 2560 (by decide) x (y 0) (y 1) k0 k1)
  on_goal 2 =>
    refine Eq.trans ?_ (left_tile _ _ 2304 (by decide) x (y 0) (y 1) k0 k1)
  on_goal 3 =>
    refine Eq.trans ?_ (left_tile _ _ 2048 (by decide) x (y 0) (y 1) k0 k1)
  on_goal 4 =>
    refine Eq.trans ?_ (left_tile _ _ 1792 (by decide) x (y 0) (y 1) k0 k1)
  on_goal 5 =>
    refine Eq.trans ?_ (left_tile _ _ 1536 (by decide) x (y 0) (y 1) k0 k1)
  on_goal 6 =>
    refine Eq.trans ?_ (left_tile _ _ 1280 (by decide) x (y 0) (y 1) k0 k1)
  on_goal 7 =>
    refine Eq.trans ?_ (left_tile _ _ 1024 (by decide) x (y 0) (y 1) k0 k1)
  on_goal 8 =>
    refine Eq.trans ?_ (left_tile _ _ 768 (by decide) x (y 0) (y 1) k0 k1)
  on_goal 9 =>
    refine Eq.trans ?_ (left_tile _ _ 512 (by decide) x (y 0) (y 1) k0 k1)
  on_goal 10 =>
    refine Eq.trans ?_ (left_tile _ _ 256 (by decide) x (y 0) (y 1) k0 k1)
  on_goal 11 =>
    refine Eq.trans ?_ (left_tile _ _ 0 (by decide) x (y 0) (y 1) k0 (by omega))
  all_goals
    simp only [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, rowwise, back1, back2, convTile, actTile, proj]
    rfl

end Cert.Kernel6Ideal.Ffn
-- ==== Proof.FfnS.Array.lean ====
module

public import proofs.«01_k».proof.Proof.FfnS.Point
public import Idealize.ShloMosaic.Lib.StableHlo.ReadAt

/-!
# What the blocks of the sample tokens' feed-forward kernel hold

The kernel has one grid point, which takes its whole operands. Here: the operands as parts of the arguments, and the formulas
for what the point leaves.
-/

@[expose] public section

set_option maxRecDepth 16384

noncomputable section

namespace Cert.Kernel6Ideal.Ffn

open Cert.Kernel6Ideal Cert.Kernel6Ideal.Gen Idealize.ShloMosaic Idealize.ShloMosaic.TcCoe Idealize.SL.Sem
open Cert.Ffn.Short (seq up back conv act res out)

variable (m : (ℓ : Loc nD τ sig) → Buf (Elt Ideal) ℓ)

/-- Every window takes its whole operand. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, _)

/-- The normalised inputs. -/
abbrev A0 (c : Dev nD) : (⟨2, ![128, 1024]⟩ : Shape).Idx → EReal := m ((c : Thread nD τ).loc main_arg0)
/-- The residual stream. -/
abbrev A1 (c : Dev nD) : (⟨2, ![128, 1024]⟩ : Shape).Idx → EReal := m ((c : Thread nD τ).loc main_arg1)
/-- The layer's gates. -/
abbrev A2 (c : Dev nD) : (⟨3, ![32, 1, 1024]⟩ : Shape).Idx → EReal := m ((c : Thread nD τ).loc main_arg2)
/-- The rows before each sequence. -/
abbrev A3 (c : Dev nD) : (⟨4, ![1, 32, 2, 2816]⟩ : Shape).Idx → EReal := m ((c : Thread nD τ).loc main_arg3)
/-- The input projection. -/
abbrev A4 (c : Dev nD) : (⟨3, ![1, 1024, 5632]⟩ : Shape).Idx → EReal := m ((c : Thread nD τ).loc main_arg4)
/-- The convolution's weights. -/
abbrev A5 (c : Dev nD) : (⟨3, ![1, 3, 2816]⟩ : Shape).Idx → EReal := m ((c : Thread nD τ).loc main_arg5)
/-- The convolution's bias. -/
abbrev A6 (c : Dev nD) : (⟨2, ![1, 2816]⟩ : Shape).Idx → EReal := m ((c : Thread nD τ).loc main_arg6)
/-- The output projection. -/
abbrev A7 (c : Dev nD) : (⟨3, ![1, 2816, 1024]⟩ : Shape).Idx → EReal := m ((c : Thread nD τ).loc main_arg7)
/-- The normalisation scales. -/
abbrev A8 (c : Dev nD) : (⟨1, ![1024]⟩ : Shape).Idx → EReal := m ((c : Thread nD τ).loc main_arg8)

/-- The inputs that the kernel reads. -/
theorem arr0 (c : Dev nD) (r : Fin 128) (k : Fin 1024) :
    (V m c main_arg0 (ix2 r k) : EReal) = A0 m c (ix2 r k) := by
  simp only [V, hostOps0]
  after_reads_at

/-- The inputs in the kernel's block. -/
theorem blk0 (c : Dev nD) (t : Fin cfg0.N) (r : Fin 128) (k : Fin 1024) :
    (iblk m c 0 t (ix2 r k) : EReal) = A0 m c (ix2 r k) := by
  rw [← arr0 m c r k]
  blk_ext [iblk, idx t]

/-- The residual stream that the kernel reads. -/
theorem arr1 (c : Dev nD) (r : Fin 128) (k : Fin 1024) :
    (V m c main_arg1 (ix2 r k) : EReal) = A1 m c (ix2 r k) := by
  simp only [V, hostOps0]
  after_reads_at

/-- The residual stream in the kernel's block. -/
theorem blk1 (c : Dev nD) (t : Fin cfg0.N) (r : Fin 128) (k : Fin 1024) :
    (iblk m c 1 t (ix2 r k) : EReal) = A1 m c (ix2 r k) := by
  rw [← arr1 m c r k]
  blk_ext [iblk, idx t]

/-- The gates, row by row, that the kernel reads. -/
theorem arr2 (c : Dev nD) (r : Fin 128) (k : Fin 1024) :
    (V m c main_v11 (ix3 0 r k) : EReal) = A2 m c (ix3 (seq r) 0 k) := by
  simp only [V, hostOps0]
  after_reads_at
  rfl

/-- The gates, row by row in the kernel's block. -/
theorem blk2 (c : Dev nD) (t : Fin cfg0.N) (r : Fin 128) (k : Fin 1024) :
    (iblk m c 2 t (ix3 0 r k) : EReal) = A2 m c (ix3 (seq r) 0 k) := by
  rw [← arr2 m c r k]
  blk_ext [iblk, idx t]

/-- The row before a sequence's first row, that the kernel reads. -/
theorem arr3 (c : Dev nD) (r : Fin 128) (f : Fin 2816) (h : r.val % 4 < 1) :
    (V m c main_v16 (ix2 r f) : EReal) = A3 m c (ix4 0 (seq r) ⟨2 - 1 + r.val % 4, by omega⟩ f) := by
  simp only [V, hostOps0]
  after_reads_at
  rw [dif_pos h]
  after_reads_at
  rfl

/-- The row before a sequence's first row in the kernel's block. -/
theorem blk3 (c : Dev nD) (t : Fin cfg0.N) (r : Fin 128) (f : Fin 2816) (h : r.val % 4 < 1) :
    (iblk m c 3 t (ix2 r f) : EReal) = A3 m c (ix4 0 (seq r) ⟨2 - 1 + r.val % 4, by omega⟩ f) := by
  rw [← arr3 m c r f h]
  blk_ext [iblk, idx t]

/-- The row two before a sequence's first two rows, that the kernel reads. -/
theorem arr4 (c : Dev nD) (r : Fin 128) (f : Fin 2816) (h : r.val % 4 < 2) :
    (V m c main_v19 (ix2 r f) : EReal) = A3 m c (ix4 0 (seq r) ⟨2 - 2 + r.val % 4, by omega⟩ f) := by
  simp only [V, hostOps0]
  after_reads_at
  rw [dif_pos h]
  after_reads_at
  rfl

/-- The row two before a sequence's first two rows in the kernel's block. -/
theorem blk4 (c : Dev nD) (t : Fin cfg0.N) (r : Fin 128) (f : Fin 2816) (h : r.val % 4 < 2) :
    (iblk m c 4 t (ix2 r f) : EReal) = A3 m c (ix4 0 (seq r) ⟨2 - 2 + r.val % 4, by omega⟩ f) := by
  rw [← arr4 m c r f h]
  blk_ext [iblk, idx t]

/-- The input projection that the kernel reads. -/
theorem arr5 (c : Dev nD) (k : Fin 1024) (f : Fin 5632) :
    (V m c main_v1 (ix2 k f) : EReal) = A4 m c (ix3 0 k f) := by
  simp only [V, hostOps0]
  after_reads_at

/-- The input projection in the kernel's block. -/
theorem blk5 (c : Dev nD) (t : Fin cfg0.N) (k : Fin 1024) (f : Fin 5632) :
    (iblk m c 5 t (ix2 k f) : EReal) = A4 m c (ix3 0 k f) := by
  rw [← arr5 m c k f]
  blk_ext [iblk, idx t]

/-- The convolution's weights that the kernel reads. -/
theorem arr6 (c : Dev nD) (k : Fin 3) (f : Fin 2816) :
    (V m c main_v5 (ix2 k f) : EReal) = A5 m c (ix3 0 k f) := by
  simp only [V, hostOps0]
  after_reads_at

/-- The convolution's weights in the kernel's block. -/
theorem blk6 (c : Dev nD) (t : Fin cfg0.N) (k : Fin 3) (f : Fin 2816) :
    (iblk m c 6 t (ix2 k f) : EReal) = A5 m c (ix3 0 k f) := by
  rw [← arr6 m c k f]
  blk_ext [iblk, idx t]

/-- The convolution's bias that the kernel reads. -/
theorem arr7 (c : Dev nD) (f : Fin 2816) :
    (V m c main_v7 (ix2 0 f) : EReal) = A6 m c (ix2 0 f) := by
  simp only [V, hostOps0]
  after_reads_at

/-- The convolution's bias in the kernel's block. -/
theorem blk7 (c : Dev nD) (t : Fin cfg0.N) (f : Fin 2816) :
    (iblk m c 7 t (ix2 0 f) : EReal) = A6 m c (ix2 0 f) := by
  rw [← arr7 m c f]
  blk_ext [iblk, idx t]

/-- The output projection that the kernel reads. -/
theorem arr8 (c : Dev nD) (f : Fin 2816) (j : Fin 1024) :
    (V m c main_v3 (ix2 f j) : EReal) = A7 m c (ix3 0 f j) := by
  simp only [V, hostOps0]
  after_reads_at

/-- The output projection in the kernel's block. -/
theorem blk8 (c : Dev nD) (t : Fin cfg0.N) (f : Fin 2816) (j : Fin 1024) :
    (iblk m c 8 t (ix2 f j) : EReal) = A7 m c (ix3 0 f j) := by
  rw [← arr8 m c f j]
  blk_ext [iblk, idx t]

/-- The normalisation scales that the kernel reads. -/
theorem arr9 (c : Dev nD) (j : Fin 1024) :
    (V m c main_v4 (ix2 0 j) : EReal) = A8 m c (ix1 j) := by
  simp only [V, hostOps0]
  after_reads_at

/-- The normalisation scales in the kernel's block. -/
theorem blk9 (c : Dev nD) (t : Fin cfg0.N) (j : Fin 1024) :
    (iblk m c 9 t (ix2 0 j) : EReal) = A8 m c (ix1 j) := by
  rw [← arr9 m c j]
  blk_ext [iblk, idx t]

/-- The point's projection is the batch's. -/
theorem up_blk (c : Dev nD) (t : Fin cfg0.N) (r : Fin 128) (f : Fin 5632) :
    upAt (iblk m c 0 t) (iblk m c 5 t) r f = up (A0 m c) (A4 m c) r f := by
  unfold upAt up
  refine Finset.sum_congr rfl fun k _ => ?_
  rw [blk0, blk5]

/-- The point's convolution is the batch's. -/
theorem conv_blk (c : Dev nD) (t : Fin cfg0.N) (r : Fin 128) (f : Fin 2816) :
    convAt (iblk m c 0 t) (iblk m c 5 t) (iblk m c 6 t) (iblk m c 7 t) (iblk m c 3 t) (iblk m c 4 t) r f
      = conv (A0 m c) (A3 m c) (A4 m c) (A5 m c) (A6 m c) r f := by
  have e0 : leftAt (iblk m c 0 t) (iblk m c 5 t) r f = back (A0 m c) (A3 m c) (A4 m c) 0 (by omega) r f := by
    unfold leftAt back
    rw [dif_neg (by omega), up_blk]
    rfl
  have e1 : (if 1 ≤ r.val % 4 then leftAt (iblk m c 0 t) (iblk m c 5 t) ⟨r.val - 1, by omega⟩ f
      else (iblk m c 3 t (ix2 r f) : EReal)) = back (A0 m c) (A3 m c) (A4 m c) 1 (by omega) r f := by
    unfold leftAt back
    by_cases h : 1 ≤ r.val % 4
    · rw [if_pos h, dif_neg (by omega), up_blk]
    · rw [if_neg h, dif_pos (by omega), blk3 m c t r f (by omega)]
  have e2 : (if 2 ≤ r.val % 4 then leftAt (iblk m c 0 t) (iblk m c 5 t) ⟨r.val - 2, by omega⟩ f
      else (iblk m c 4 t (ix2 r f) : EReal)) = back (A0 m c) (A3 m c) (A4 m c) 2 (by omega) r f := by
    unfold leftAt back
    by_cases h : 2 ≤ r.val % 4
    · rw [if_pos h, dif_neg (by omega), up_blk]
    · rw [if_neg h, dif_pos (by omega), blk4 m c t r f (by omega)]
  unfold conv
  rw [← e0, ← e1, ← e2, ← blk6 m c t 0 f, ← blk6 m c t 1 f, ← blk6 m c t 2 f, ← blk7 m c t f]
  rfl

/-- The point's hidden layer is the batch's. -/
theorem act_blk (c : Dev nD) (t : Fin cfg0.N) (r : Fin 128) (f : Fin 2816) :
    actAt (iblk m c 0 t) (iblk m c 5 t) (iblk m c 6 t) (iblk m c 7 t) (iblk m c 3 t) (iblk m c 4 t) r f
      = act (A0 m c) (A3 m c) (A4 m c) (A5 m c) (A6 m c) r f := by
  unfold actAt act
  rw [conv_blk, up_blk]

/-- The point's output is the batch's. -/
theorem out_blk (c : Dev nD) (t : Fin cfg0.N) (r : Fin 128) (j : Fin 1024) :
    (outsAt0 m c t).1 (ix2 r j)
      = out (A0 m c) (A1 m c) (A2 m c) (A3 m c) (A4 m c) (A5 m c) (A6 m c) (A7 m c) (A8 m c) r j := by
  rw [out_10]
  exact outAt_of _ _ _ _ _ _ _ _ _ _ r j (fun i => A1 m c (ix2 r i)) (fun i => A2 m c (ix3 (seq r) 0 i))
    (fun i => A8 m c (ix1 i)) (act (A0 m c) (A3 m c) (A4 m c) (A5 m c) (A6 m c) r) (fun f i => A7 m c (ix3 0 f i))
    (fun i => blk1 m c t r i) (fun i => blk2 m c t r i) (fun i => blk9 m c t i) (fun f => act_blk m c t r f)
    (fun f i => blk8 m c t f i)

/-- The point's convolution inputs are the batch's. -/
theorem left_blk (c : Dev nD) (t : Fin cfg0.N) (r : Fin 128) (f : Fin 2816) :
    (outsAt0 m c t).2 (ix2 r f) = up (A0 m c) (A4 m c) r ⟨f.val, by omega⟩ := by
  rw [out_11]
  exact up_blk m c t r _

end Cert.Kernel6Ideal.Ffn
-- ==== Proof.FfnS.Ref.lean ====
module

public import proofs.«01_k».proof.Proof.Gen.Reference6Ideal.Read
public import proofs.«01_k».proof.Proof.FfnS.Spec

/-!
# What the reference of the feed-forward layer over the sample tokens computes

The reference's two results at an index: the normalised output, and the convolution's inputs.
-/

@[expose] public section

set_option maxRecDepth 16384

noncomputable section

namespace Cert.Reference6Ideal.Ffn

open Cert.Reference6Ideal Cert.Reference6Ideal.Gen Cert.Reference6Ideal.Read Idealize.ShloMosaic Idealize.SL.Sem
open Cert.Ffn.Short (seq up back conv act res out)

variable (x0 : FVec Ideal S128x1024 .bf16) (x1 : FVec Ideal S128x1024 .f32) (x2 : FVec Ideal S32x1x1024 .f32)
  (x3 : FVec Ideal S1x32x2x2816 .f32) (x4 : FVec Ideal S1x1024x5632 .f32) (x5 : FVec Ideal S1x3x2816 .f32)
  (x6 : FVec Ideal S1x2816 .f32) (x7 : FVec Ideal S1x2816x1024 .f32) (x8 : FVec Ideal S1024 .f32)

/-- The row of a token. -/
def row (b : Fin 32) (t : Fin 4) : Fin 128 := ⟨4 * b.val + t.val, by omega⟩

theorem row_seq (b : Fin 32) (t : Fin 4) : seq (row b t) = b := Fin.ext (by
  show (4 * b.val + t.val) / 4 = b.val
  omega)

theorem row_pos (b : Fin 32) (t : Fin 4) : (row b t).val % 4 = t.val := by
  show (4 * b.val + t.val) % 4 = t.val
  omega

/-- A projected row. -/
theorem up_apply (b : Fin 32) (t : Fin 4) (f : Fin 5632) :
    val_main_v4 (F := Ideal) x0 x4 (ix3 b t f) = up x0 x4 (row b t) f := by
  unfold up row
  pointwise [val_main_v4, val_main_v3, val_main_v1, val_main_v0]
  simp only [Nat.mul_comm b.val 4]

/-- The convolved half, preceded by the two rows left by the previous call. -/
theorem ext_apply (b : Fin 32) (t : Fin 6) (f : Fin 2816) :
    val_main_v8 (F := Ideal) x0 x3 x4 (ix3 b t f)
      = if h : t.val < 2 then (x3 (ix4 0 b ⟨t.val, h⟩ f) : EReal)
        else up x0 x4 (row b ⟨t.val - 2, by omega⟩) ⟨f.val, by omega⟩ := by
  pointwise [val_main_v8, val_main_v7, val_main_v5]
  simp only [up_apply]

/-- The extended half, `s` rows before a token. -/
theorem ext_back (s : Nat) (hs : s ≤ 2) (b : Fin 32) (t : Fin 4) (f : Fin 2816) :
    val_main_v8 (F := Ideal) x0 x3 x4 (ix3 b ⟨2 - s + t.val, by omega⟩ f) = back x0 x3 x4 s hs (row b t) f := by
  rw [ext_apply]
  unfold back
  have hp := row_pos b t
  by_cases h : t.val < s
  · rw [dif_pos (by show 2 - s + t.val < 2; omega), dif_pos (by omega), row_seq]
    congr 2
    refine Fin.ext ?_
    show 2 - s + t.val = 2 - s + (row b t).val % 4
    omega
  · rw [dif_neg (by show ¬ 2 - s + t.val < 2; omega), dif_neg (by omega)]
    congr 1
    refine Fin.ext ?_
    show 4 * b.val + (2 - s + t.val - 2) = 4 * b.val + t.val - s
    omega

/-- The causal convolution. -/
theorem conv_apply (b : Fin 32) (t : Fin 4) (f : Fin 2816) :
    val_main_v32 (F := Ideal) x0 x3 x4 x5 x6 (ix3 b t f) = conv x0 x3 x4 x5 x6 (row b t) f := by
  unfold conv
  rw [← ext_back x0 x3 x4 2, ← ext_back x0 x3 x4 1, ← ext_back x0 x3 x4 0]
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9]

/-- The hidden layer. -/
theorem act_apply (b : Fin 32) (t : Fin 4) (f : Fin 2816) :
    val_main_v40 (F := Ideal) x0 x3 x4 x5 x6 (ix3 b t f) = act x0 x3 x4 x5 x6 (row b t) f := by
  pointwise [val_main_v40, val_main_v39, val_main_v38, val_main_v37, val_main_v36, val_main_v35, val_main_v34, val_main_v33,
    val_main_v6, val_main_cst, val_main_cst_0]
  rw [Cert.Ffn.gelu_erfc, conv_apply, up_apply]
  rfl

/-- The residual stream after the layer. -/
theorem res_apply (b : Fin 32) (t : Fin 4) (j : Fin 1024) :
    val_main_v45 (F := Ideal) x0 x1 x2 x3 x4 x5 x6 x7 (ix3 b t j) = res x0 x1 x2 x3 x4 x5 x6 x7 (row b t) j := by
  unfold res
  rw [row_seq]
  pointwise [val_main_v45, val_main_v44, val_main_v43, val_main_v42, val_main_v41, val_main_v2]
  simp only [act_apply]
  unfold row
  simp only [Nat.mul_comm b.val 4]

/-- The normalised output. -/
theorem out_apply (r : Fin 128) (j : Fin 1024) :
    val_main_v59 (F := Ideal) x0 x1 x2 x3 x4 x5 x6 x7 x8 (ix2 r j) = out x0 x1 x2 x3 x4 x5 x6 x7 x8 r j := by
  pointwise [val_main_v59, val_main_v58, val_main_v57, val_main_v56, val_main_v55, val_main_v54, val_main_v53,
    val_main_v52, val_main_v51, val_main_v50, val_main_v49, val_main_v48, val_main_v47, val_main_v46, val_main_cst_1,
    val_main_cst_2, val_main_cst_3]
  have hn : row ⟨r.val / 4, by omega⟩ ⟨r.val % 4, by omega⟩ = r := Fin.ext (by
    show 4 * (r.val / 4) + r.val % 4 = r.val
    omega)
  simp only [res_apply, hn]
  rfl

/-- The convolution's inputs. -/
theorem left_apply (r : Fin 128) (f : Fin 2816) :
    val_main_v60 (F := Ideal) x0 x4 (ix2 r f) = up x0 x4 r ⟨f.val, by omega⟩ := by
  pointwise [val_main_v60, val_main_v5]
  have hn : row ⟨r.val / 4, by omega⟩ ⟨r.val % 4, by omega⟩ = r := Fin.ext (by
    show 4 * (r.val / 4) + r.val % 4 = r.val
    omega)
  simp only [up_apply, hn]

end Cert.Reference6Ideal.Ffn
-- ==== Proof.FfnS.Equation.lean ====
module

public import proofs.«01_k».proof.Proof.FfnS.Array
public import proofs.«01_k».proof.Proof.FfnS.Ref

/-!
# The two programs of the sample tokens' feed-forward layer compute the same arrays

The array each output window leaves behind is the reference's.
-/

@[expose] public section

noncomputable section

namespace Cert.Kernel6Ideal.Ffn

open Cert.Kernel6Ideal Cert.Kernel6Ideal.Gen Idealize.ShloMosaic Idealize.ShloMosaic.TcCoe Idealize.SL.Sem
open Cert.Reference6Ideal.Read (val_main_v59 val_main_v60)

variable (m : (ℓ : Loc nD τ sig) → Buf (Elt Ideal) ℓ)

/-- The block of the outputs is the reference's. -/
theorem point_10 (c : Dev nD) (t : Fin cfg0.N) (r : Fin 128) (j : Fin 1024) :
    ((outsAt0 m c t).1 (ix2 r j) : EReal)
      = val_main_v59 (F := Ideal) (A0 m c) (A1 m c) (A2 m c) (A3 m c) (A4 m c) (A5 m c) (A6 m c) (A7 m c) (A8 m c)
          (ix2 r j) :=
  (out_blk m c t r j).trans (Cert.Reference6Ideal.Ffn.out_apply _ _ _ _ _ _ _ _ _ r j).symm

/-- The array of the outputs is the reference's. -/
theorem array_10 (c : Dev nD) :
    (dats m 0 c).arrAt 10 cfg0.N
      = val_main_v59 (F := Ideal) (A0 m c) (A1 m c) (A2 m c) (A3 m c) (A4 m c) (A5 m c) (A6 m c) (A7 m c) (A8 m c) := by
  refine (dats m 0 c).arrAt_eq_of_covers 10 _ (by decide +kernel) fun t _ y => ?_
  blk_simp
  rw [after0_10]
  have hy : y = ix2 (y 0) (y 1) := eq_ix2 y
  have e : (win0_10.blk t).view.emb y = ix2 (y 0) (y 1) := by blk_ext [idx t]
  refine ((congrArg (outsAt0 m c t).1 hy).trans (point_10 m c t (y 0) (y 1))).trans ?_
  rw [e]
  rfl

/-- The block of the convolution's inputs is the reference's. -/
theorem point_11 (c : Dev nD) (t : Fin cfg0.N) (r : Fin 128) (f : Fin 2816) :
    ((outsAt0 m c t).2 (ix2 r f) : EReal) = val_main_v60 (F := Ideal) (A0 m c) (A4 m c) (ix2 r f) :=
  (left_blk m c t r f).trans (Cert.Reference6Ideal.Ffn.left_apply _ _ r f).symm

/-- The array of the convolution's inputs is the reference's. -/
theorem array_11 (c : Dev nD) :
    (dats m 0 c).arrAt 11 cfg0.N = val_main_v60 (F := Ideal) (A0 m c) (A4 m c) := by
  refine (dats m 0 c).arrAt_eq_of_covers 11 _ (by decide +kernel) fun t _ y => ?_
  blk_simp
  rw [after0_11]
  have hy : y = ix2 (y 0) (y 1) := eq_ix2 y
  have e : (win0_11.blk t).view.emb y = ix2 (y 0) (y 1) := by blk_ext [idx t]
  refine ((congrArg (outsAt0 m c t).2 hy).trans (point_11 m c t (y 0) (y 1))).trans ?_
  rw [e]
  rfl

end Cert.Kernel6Ideal.Ffn
-- ==== Proof.FfnS.Claim.lean ====
module

public import proofs.«01_k».proof.Defs
public import proofs.«01_k».proof.Proof.Gen.Reference6Ideal.Run
public import proofs.«01_k».proof.Proof.FfnS.Equation
public import Idealize.ShloMosaic.Adequacy

/-!
# The claims on the sample tokens' feed-forward layer

The reference runs and leaves its arguments, and the two programs end with equal arrays.
-/

@[expose] public section

noncomputable section

namespace Cert.Kernel6Ideal.Ffn

open Idealize.ShloMosaic Idealize.ShloMosaic.TcCoe Idealize.SL.Sem

/-- The reference runs and leaves its arguments; it uses no semaphore. -/
theorem reference_runs : Cert.quiescent_Reference6Ideal := fun m g _ =>
  (θ_run Cert.Reference6Ideal.defs _ _).mono
    (fun r h => ⟨fun c => (h c).2.2, Idealize.ShloMosaic.sem_eq_zero_of_no_sems (by decide) r.2⟩)
    (Cert.Reference6Ideal.Value.run m g)

set_option maxHeartbeats 4000000 in
/-- The kernel and its reference end with equal arrays. -/
theorem same_arrays : Cert.algebraic_Kernel6Ideal_Reference6Ideal := by
  intro m g m' g' _ hag
  refine ⟨fun c => (Cert.Kernel6Ideal.Gen.dats m 0 c).arrAt 10 Cert.Kernel6Ideal.cfg0.N,
    fun c => (Cert.Kernel6Ideal.Gen.dats m 0 c).arrAt 11 Cert.Kernel6Ideal.cfg0.N,
    Cert.Kernel6Ideal.Value.run_blocks m g, (θ_run _ _ _).mono (fun r h c => ?_) (Cert.Reference6Ideal.Value.run m' g')⟩
  obtain ⟨e0, e1, e2, e3, e4, e5, e6, e7, e8⟩ := hag c
  obtain ⟨h0, h1, hrest⟩ := h c
  refine ⟨h0.trans ?_, h1.trans ?_, hrest⟩
  · rw [Cert.Reference6Ideal.Read.val_main_v59_eq, e0, e1, e2, e3, e4, e5, e6, e7, e8]
    exact (array_10 m c).symm
  · rw [Cert.Reference6Ideal.Read.val_main_v60_eq, e0, e4]
    exact (array_11 m c).symm

end Cert.Kernel6Ideal.Ffn
-- ==== Proof.HgrnP.Scan.lean ====
module

public import proofs.«01_k».proof.Proof.Gen.Kernel7Ideal.Skeleton
public import Idealize.ShloMosaic.Lib.Pointwise

/-!
# Running sums by doubling

The recurrence of a block of 64 rows needs the running sums of the logarithms of its forget gates. The kernel takes them
in six rounds: in each round every row adds the row `n` above it, for `n = 1, 2, 4, 8, 16, 32`. Here: what one round does
to a column, that `n`-row windows become `2n`-row windows, and that after the six rounds every row holds the sum of all rows up to it.
-/

@[expose] public section

set_option maxRecDepth 16384

noncomputable section

namespace Cert.Kernel7Ideal.Hgrn

open Cert.Kernel7Ideal Cert.Kernel7Ideal.Gen Idealize.ShloMosaic Idealize.SL.Sem

/-- One round on a column: the row `n` above is added, where there is one. -/
def shiftAdd (n : ℕ) (F : ℕ → EReal) (t : ℕ) : EReal := F t + if n ≤ t then F (t - n) else 0

/-- The sum of the `n` rows that end at row `t`, rows above the first counting as 0. -/
def window (n : ℕ) (F : ℕ → EReal) (t : ℕ) : EReal := ∑ j ∈ Finset.range n, if j ≤ t then F (t - j) else 0

/-- A window of one row is the row. -/
theorem window_one (F : ℕ → EReal) : window 1 F = F := by
  funext t
  simp [window]

/-- Adding the window that ends `n` rows above to a window of `n` rows gives a window of `2n` rows. -/
theorem shiftAdd_window (n : ℕ) (F : ℕ → EReal) : shiftAdd n (window n F) = window (n + n) F := by
  funext t
  unfold shiftAdd window
  rw [Finset.sum_range_add]
  congr 1
  split
  · refine Finset.sum_congr rfl fun j _ => ?_
    by_cases h : n + j ≤ t
    · rw [if_pos h, if_pos (by omega), Nat.sub_sub]
    · rw [if_neg h, if_neg (by omega)]
  · refine (Finset.sum_eq_zero fun j _ => ?_).symm
    rw [if_neg (by omega)]

/-- A window longer than the rows above it is the sum of all rows up to its end. -/
theorem window_eq_prefix (n : ℕ) (F : ℕ → EReal) (t : ℕ) (h : t < n) :
    window n F t = ∑ s ∈ Finset.range (t + 1), F s := by
  unfold window
  rw [← Finset.sum_range_reflect (fun s => F s) (t + 1)]
  rw [← Finset.sum_subset (s₁ := Finset.range (t + 1)) (fun x hx => by
    simp only [Finset.mem_range] at *; omega)]
  · refine Finset.sum_congr rfl fun j hj => ?_
    have hj' := Finset.mem_range.mp hj
    rw [if_pos (by omega)]
    congr 1
  · intro x _ hx
    rw [if_neg (by simpa using hx)]

/-- Six rounds give the sum of all rows up to each of the 64 rows. -/
theorem six_rounds (F : ℕ → EReal) (t : ℕ) (h : t < 64) :
    shiftAdd 32 (shiftAdd 16 (shiftAdd 8 (shiftAdd 4 (shiftAdd 2 (shiftAdd 1 F))))) t
      = ∑ s ∈ Finset.range (t + 1), F s := by
  have e1 : shiftAdd 1 F = window 2 F := by
    have h1 := shiftAdd_window 1 F
    rwa [window_one] at h1
  rw [e1, shiftAdd_window 2, shiftAdd_window 4, shiftAdd_window 8, shiftAdd_window 16, shiftAdd_window 32]
  exact window_eq_prefix _ F t h

/-- One round on a block: each row has the row `n` above added, where there is one. -/
def round (n : BitVec 32) (x : FVec Ideal S64x128 .f32) : FVec Ideal S64x128 .f32 :=
  addf x (select (cmpi .sge (iota .tc S64x128 32 [0] iota_S64x128_d0_w32) (broadcast S64x128 n))
    (dynamicRotate 0 n none x rotates_S64x128_d0) (broadcast S64x128 (Scalar.ofBits .f32 0x00000000#32)))

/-- Column `d` of a block, as a sequence that is 0 past the last row. -/
def col (x : FVec Ideal S64x128 .f32) (d : Fin 128) (t : ℕ) : EReal :=
  if h : t < 64 then x (ix2 ⟨t, h⟩ d) else 0

theorem col_round (n : BitVec 32) (k : ℕ)
    (hn : ∀ (x : FVec Ideal S64x128 .f32) (r : Fin 64) (d : Fin 128),
      round n x (ix2 r d) = x (ix2 r d) + if h : k ≤ r.val then x (ix2 ⟨r.val - k, by omega⟩ d) else 0)
    (x : FVec Ideal S64x128 .f32) (d : Fin 128) (t : ℕ) (ht : t < 64) :
    col (round n x) d t = shiftAdd k (col x d) t := by
  unfold shiftAdd col
  rw [dif_pos ht, dif_pos ht, hn]
  congr 1
  by_cases h : k ≤ t
  · rw [dif_pos h, if_pos h, dif_pos (by omega)]
  · rw [dif_neg h, if_neg h]

/-- A row's own number compared with a round's step. -/
theorem sge_row (k : ℕ) (hk : k < 64) : ∀ r : Fin 64,
    IntOp.cmpi .sge (BitVec.ofNat 32 r.val) (BitVec.ofNat 32 k) = if k ≤ r.val then 1#1 else 0#1 := by
  interval_cases k <;> decide +kernel

/-- What remains of reading one round: the choice by the row's number, and the rotated row's place. -/
theorem round_close (k : ℕ) (hk : k < 64) (x : FVec Ideal S64x128 .f32) (r : Fin 64) (d : Fin 128)
    (p : (r.val + 64 - k) % 64 < 64) :
    x (ix2 r d) + Scalar.select (IntOp.cmpi .sge (BitVec.ofNat 32 r.val) (BitVec.ofNat 32 k))
        (x (ix2 ⟨(r.val + 64 - k) % 64, p⟩ d)) (0 : EReal)
      = x (ix2 r d) + if h : k ≤ r.val then x (ix2 ⟨r.val - k, by omega⟩ d) else 0 := by
  rw [sge_row k hk r]
  by_cases h : k ≤ r.val
  · rw [if_pos h, dif_pos h]
    have e : (⟨(r.val + 64 - k) % 64, p⟩ : Fin 64) = ⟨r.val - k, by omega⟩ := Fin.ext (by
      show (r.val + 64 - k) % 64 = r.val - k
      have := r.isLt
      omega)
    rw [e]
    rfl
  · rw [if_neg h, dif_neg h]
    rfl

/-- The round that adds the row 1 above. -/
theorem round_1 (x : FVec Ideal S64x128 .f32) (r : Fin 64) (d : Fin 128) :
    round 1#32 x (ix2 r d) = x (ix2 r d) + if h : 1 ≤ r.val then x (ix2 ⟨r.val - 1, by omega⟩ d) else 0 := by
  pointwise [round]
  exact round_close 1 (by decide) x r d _

/-- The round that adds the row 2 above. -/
theorem round_2 (x : FVec Ideal S64x128 .f32) (r : Fin 64) (d : Fin 128) :
    round 2#32 x (ix2 r d) = x (ix2 r d) + if h : 2 ≤ r.val then x (ix2 ⟨r.val - 2, by omega⟩ d) else 0 := by
  pointwise [round]
  exact round_close 2 (by decide) x r d _

/-- The round that adds the row 4 above. -/
theorem round_4 (x : FVec Ideal S64x128 .f32) (r : Fin 64) (d : Fin 128) :
    round 4#32 x (ix2 r d) = x (ix2 r d) + if h : 4 ≤ r.val then x (ix2 ⟨r.val - 4, by omega⟩ d) else 0 := by
  pointwise [round]
  exact round_close 4 (by decide) x r d _

/-- The round that adds the row 8 above. -/
theorem round_8 (x : FVec Ideal S64x128 .f32) (r : Fin 64) (d : Fin 128) :
    round 8#32 x (ix2 r d) = x (ix2 r d) + if h : 8 ≤ r.val then x (ix2 ⟨r.val - 8, by omega⟩ d) else 0 := by
  pointwise [round]
  exact round_close 8 (by decide) x r d _

/-- The round that adds the row 16 above. -/
theorem round_16 (x : FVec Ideal S64x128 .f32) (r : Fin 64) (d : Fin 128) :
    round 16#32 x (ix2 r d) = x (ix2 r d) + if h : 16 ≤ r.val then x (ix2 ⟨r.val - 16, by omega⟩ d) else 0 := by
  pointwise [round]
  exact round_close 16 (by decide) x r d _

/-- The round that adds the row 32 above. -/
theorem round_32 (x : FVec Ideal S64x128 .f32) (r : Fin 64) (d : Fin 128) :
    round 32#32 x (ix2 r d) = x (ix2 r d) + if h : 32 ≤ r.val then x (ix2 ⟨r.val - 32, by omega⟩ d) else 0 := by
  pointwise [round]
  exact round_close 32 (by decide) x r d _

/-- The six rounds on a block. -/
def scan (x : FVec Ideal S64x128 .f32) : FVec Ideal S64x128 .f32 :=
  round 32#32 (round 16#32 (round 8#32 (round 4#32 (round 2#32 (round 1#32 x)))))

/-- One round followed by functions that agree below row 64 agree below row 64. -/
theorem shiftAdd_congr (k : ℕ) (F G : ℕ → EReal) (h : ∀ t < 64, F t = G t) : ∀ t < 64, shiftAdd k F t = shiftAdd k G t := by
  intro t ht
  unfold shiftAdd
  rw [h t ht, h (t - k) (by omega)]

/-- After the six rounds row `r` of column `d` holds the sum of the rows up to it. -/
theorem scan_apply (x : FVec Ideal S64x128 .f32) (r : Fin 64) (d : Fin 128) :
    scan x (ix2 r d) = ∑ s ∈ Finset.range (r.val + 1), col x d s := by
  have h0 : scan x (ix2 r d) = col (scan x) d r.val := by
    unfold col
    rw [dif_pos r.isLt]
  rw [h0, ← six_rounds (col x d) r.val r.isLt]
  unfold scan
  have c1 := col_round 1#32 1 round_1 x d
  have c2 := fun t ht => (col_round 2#32 2 round_2 (round 1#32 x) d t ht).trans (shiftAdd_congr 2 _ _ c1 t ht)
  have c3 := fun t ht => (col_round 4#32 4 round_4 _ d t ht).trans (shiftAdd_congr 4 _ _ c2 t ht)
  have c4 := fun t ht => (col_round 8#32 8 round_8 _ d t ht).trans (shiftAdd_congr 8 _ _ c3 t ht)
  have c5 := fun t ht => (col_round 16#32 16 round_16 _ d t ht).trans (shiftAdd_congr 16 _ _ c4 t ht)
  exact (col_round 32#32 32 round_32 _ d r.val r.isLt).trans (shiftAdd_congr 32 _ _ c5 r.val r.isLt)

end Cert.Kernel7Ideal.Hgrn
-- ==== Proof.HgrnP.Spec.lean ====
module

public import proofs.«01_k».proof.Proof.Hgrn.Spec

/-!
# The gated linear recurrence of one head over a long sequence, in chunks of 64 tokens

The closed form that both programs compute for one head of one sequence of 4096 tokens: the state in front of every chunk,
and every token's output out of its chunk and the state in front of it.
-/

@[expose] public section

noncomputable section

namespace Cert.HgrnP

open Idealize.ShloMosaic

/-- The values of one head for the 64 tokens of a chunk. -/
abbrev Rows : Type := Fin 64 → Fin 128 → EReal

/-- The running sums of a chunk's gate logarithms. -/
def cum (lf : Rows) (t : Fin 64) (d : Fin 128) : EReal := ∑ s : Fin 64, if s ≤ t then lf s d else 0

/-- A token's output before normalisation: the chunk's earlier tokens, decayed, and the state in front of the chunk. -/
def preOut (q k v lf : Rows) (S : Fin 128 → Fin 128 → EReal) (t : Fin 64) (j : Fin 128) : EReal :=
  ∑ s : Fin 64, (if s ≤ t then ∑ d : Fin 128, q t d * k s d * Ideal.exp (cum lf t d - cum lf s d) else 0) * v s j
    + ∑ d : Fin 128, q t d * Ideal.exp (cum lf t d) * S d j

/-- The state after a chunk. -/
def newState (k v lf : Rows) (S : Fin 128 → Fin 128 → EReal) (d j : Fin 128) : EReal :=
  Ideal.exp (cum lf 63 d) * S d j + ∑ s : Fin 64, k s d * Ideal.exp (cum lf 63 d - cum lf s d) * v s j

/-- The running sums of finite logarithms are finite. -/
theorem cum_finite (lf : Rows) (h : ∀ s d, Cert.Hgrn.Finite (lf s d)) (t : Fin 64) (d : Fin 128) :
    Cert.Hgrn.Finite (cum lf t d) :=
  Cert.Hgrn.Finite.sum _ _ fun s _ => by
    split
    · exact h s d
    · exact Cert.Hgrn.Finite.zero

/-- A flat array of all tokens and channels. -/
abbrev Flat : Type := (⟨2, ![32768, 512]⟩ : Shape).Idx → EReal

/-- A head's values for the tokens of chunk `n` of a sequence, out of the flat array; 0 past the last chunk. -/
def rowsOf (x : Flat) (b : Fin 8) (h : Fin 4) (n : ℕ) (t : Fin 64) (d : Fin 128) : EReal :=
  if hn : n < 64 then x (ix2 ⟨b.val * 4096 + n * 64 + t.val, by omega⟩ ⟨h.val * 128 + d.val, by omega⟩) else 0

/-- The state of a head in front of chunk `n` of a sequence: 0 in front of the first. -/
def stateAt (k v lf : Flat) (b : Fin 8) (h : Fin 4) : ℕ → Fin 128 → Fin 128 → EReal
  | 0 => fun _ _ => 0
  | n + 1 => newState (rowsOf k b h n) (rowsOf v b h n) (rowsOf lf b h n) (stateAt k v lf b h n)

/-- A head's normalisation scale. -/
def scaleOf (x : (⟨2, ![1, 512]⟩ : Shape).Idx → EReal) (h : Fin 4) (j : Fin 128) : EReal :=
  x (ix2 0 ⟨h.val * 128 + j.val, by omega⟩)

/-- The output of token `t` of chunk `n`: normalised and gated. -/
def outOf (q lf k v hg : Flat) (g : (⟨2, ![1, 512]⟩ : Shape).Idx → EReal) (b : Fin 8) (h : Fin 4) (n : ℕ) (t : Fin 64)
    (j : Fin 128) : EReal :=
  Cert.Hgrn.normGate
    (preOut (rowsOf q b h n) (rowsOf k b h n) (rowsOf v b h n) (rowsOf lf b h n) (stateAt k v lf b h n) t)
    (scaleOf g h) (rowsOf hg b h n t j) j

end Cert.HgrnP
-- ==== Proof.HgrnP.Block.lean ====
module

public import proofs.«01_k».proof.Proof.HgrnP.Scan
public import proofs.«01_k».proof.Proof.HgrnP.Spec

/-!
# What one head of one block computes

The kernel's body treats the four heads alike, each on its own 128 columns of the blocks. The definitions here are that one
head's computation; the theorems read it at an index as sums over the block's 64 rows.
-/

@[expose] public section

set_option maxRecDepth 16384

noncomputable section

namespace Cert.Kernel7Ideal.Hgrn

open Cert.Kernel7Ideal Cert.Kernel7Ideal.Gen Idealize.ShloMosaic Idealize.SL.Sem

/-- The running sums of a head's gate logarithms. -/
def runs (lf : FVec Ideal S1x64x128 .f32) : FVec Ideal S64x128 .f32 :=
  scan (shapeCast S64x128 lf shapeCasts_S1x64x128_S64x128)

/-- A head's block as a matrix of reals. -/
def wide (x : FVec Ideal S1x64x128 .bf16) : FVec Ideal S64x128 .f32 :=
  extf .f32 (shapeCast S64x128 x shapeCasts_S1x64x128_S64x128) bitsLt_bf16_f32

/-- The attention of every row to every row, with the decay between them split at the running sum of row 31. -/
def score (b : FVec Ideal S64x128 .f32) (q k : FVec Ideal S1x64x128 .bf16) : FVec Ideal S64x64 .f32 :=
  let mid := broadcastTo S64x128 (extractStridedSlice S1x128 ![31, 0] b slices_S64x128_o31_0_S1x128) broadcasts_S1x128_S64x128
  matmul dot_S64x128_S64x128_S64x64_1_1_0_0_n_n none
    (truncf .bf16 (mulf (wide q) (exp (subf b mid))) bitsLt_bf16_f32)
    (truncf .bf16 (mulf (wide k) (exp (subf mid b))) bitsLt_bf16_f32)
    (constant S64x64 .f32 0x00000000#32)

/-- What the rows read from the state they started with. -/
def fromState (b : FVec Ideal S64x128 .f32) (q : FVec Ideal S1x64x128 .bf16) (st : FVec Ideal S128x128 .f32) :
    FVec Ideal S64x128 .f32 :=
  matmul dot_S64x128_S128x128_S64x128_1_1_0_0_n_n none
    (truncf .bf16 (mulf (wide q) (exp b)) bitsLt_bf16_f32) (truncf .bf16 st bitsLt_bf16_f32)
    (constant S64x128 .f32 0x00000000#32)

/-- What the rows add to the state, decayed to the last row. -/
def update (b : FVec Ideal S64x128 .f32) (k v : FVec Ideal S1x64x128 .bf16) : FVec Ideal S128x128 .f32 :=
  matmul dot_S64x128_S64x128_S128x128_0_0_1_1_n_n none
    (shapeCast S64x128 v shapeCasts_S1x64x128_S64x128)
    (truncf .bf16 (mulf (wide k) (exp (subf
      (broadcastTo S64x128 (extractStridedSlice S1x128 ![63, 0] b slices_S64x128_o63_0_S1x128) broadcasts_S1x128_S64x128) b)))
      bitsLt_bf16_f32)
    (constant S128x128 .f32 0x00000000#32)

/-- A row's output before normalisation. -/
def mixed (b : FVec Ideal S64x128 .f32) (q k v : FVec Ideal S1x64x128 .bf16) (st : FVec Ideal S128x128 .f32) :
    FVec Ideal S64x128 .f32 :=
  addf (matmul dot_S64x64_S64x128_S64x128_1_0_0_1_n_n none
      (truncf .bf16 (select (cmpi .sle (iota .tc S64x64 32 [1] iota_S64x64_d1_w32) (iota .tc S64x64 32 [0] iota_S64x64_d0_w32))
        (score b q k) (broadcast S64x64 (Scalar.ofBits .f32 0x00000000#32))) bitsLt_bf16_f32)
      (shapeCast S64x128 v shapeCasts_S1x64x128_S64x128) (constant S64x128 .f32 0x00000000#32))
    (fromState b q st)

/-- The normalised, gated output of a head, from the output before normalisation. -/
def gated (o : FVec Ideal S64x128 .f32) (g : FVec Ideal S1x128 .f32) (hg : FVec Ideal S1x64x128 .bf16) :
    FVec Ideal S1x64x128 .bf16 :=
  shapeCast S1x64x128 (truncf .bf16 (mulf (mulf (mulf o
      (broadcastTo S64x128 (rsqrt (addf (divf (shapeCast S64x1
          (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x358637BD#32))))
        broadcasts_S64x1_S64x128))
      (broadcastTo S64x128 (shapeCast S1x128 g shapeCasts_S1x128_S1x128) broadcasts_S1x128_S64x128))
    (wide hg)) bitsLt_bf16_f32) shapeCasts_S64x128_S1x64x128

/-- A head's output block for a chunk, from the state in front of it. -/
def headOut (q : FVec Ideal S1x64x128 .bf16) (lf : FVec Ideal S1x64x128 .f32) (k v hg : FVec Ideal S1x64x128 .bf16)
    (st : FVec Ideal S1x128x128 .f32) (g : FVec Ideal S1x128 .f32) : FVec Ideal S1x64x128 .bf16 :=
  gated (mixed (runs lf) q k v (shapeCast S128x128 st shapeCasts_S1x128x128_S128x128)) g hg

/-- A head's state after a chunk, from the state in front of it. -/
def headState (lf : FVec Ideal S1x64x128 .f32) (k v : FVec Ideal S1x64x128 .bf16) (st : FVec Ideal S1x128x128 .f32) :
    FVec Ideal S1x128x128 .f32 :=
  shapeCast S1x128x128 (addf (mulf (shapeCast S128x128 st shapeCasts_S1x128x128_S128x128)
      (broadcastTo S128x128 (exp (extractStridedSlice S1x128 ![63, 0] (runs lf) slices_S64x128_o63_0_S1x128))
        broadcasts_S1x128_S128x128))
    (update (runs lf) k v)) shapeCasts_S128x128_S1x128x128

/-- The attention of row `t` to row `s`. -/
theorem score_apply (b : FVec Ideal S64x128 .f32) (q k : FVec Ideal S1x64x128 .bf16) (t s : Fin 64) :
    score b q k (ix2 t s) = ∑ x : Fin 128, (q (ix3 0 t x) * Ideal.exp (b (ix2 t x) - b (ix2 31 x)) *
        (k (ix3 0 s x) * Ideal.exp (b (ix2 31 x) - b (ix2 s x))) : EReal) := by
  pointwise [score, wide]

/-- What row `t` reads from the state. -/
theorem fromState_apply (b : FVec Ideal S64x128 .f32) (q : FVec Ideal S1x64x128 .bf16) (st : FVec Ideal S128x128 .f32)
    (t : Fin 64) (j : Fin 128) :
    fromState b q st (ix2 t j) = ∑ x : Fin 128, (q (ix3 0 t x) * Ideal.exp (b (ix2 t x)) * st (ix2 j x) : EReal) := by
  pointwise [fromState, wide]

/-- What the rows add to the state. -/
theorem update_apply (b : FVec Ideal S64x128 .f32) (k v : FVec Ideal S1x64x128 .bf16) (j d : Fin 128) :
    update b k v (ix2 j d)
      = ∑ x : Fin 64, (v (ix3 0 x j) * (k (ix3 0 x d) * Ideal.exp (b (ix2 63 d) - b (ix2 x d))) : EReal) := by
  pointwise [update, wide]

/-- The mask keeps the rows up to the row's own. -/
theorem sle_row : ∀ s t : Fin 64,
    IntOp.cmpi .sle (BitVec.ofNat 32 s.val) (BitVec.ofNat 32 t.val) = if s ≤ t then 1#1 else 0#1 := by
  decide +kernel

/-- A row's output before normalisation: the rows up to its own, and the state. -/
theorem mixed_apply (b : FVec Ideal S64x128 .f32) (q k v : FVec Ideal S1x64x128 .bf16) (st : FVec Ideal S128x128 .f32)
    (t : Fin 64) (j : Fin 128) :
    mixed b q k v st (ix2 t j)
      = ∑ s : Fin 64, (if s ≤ t then (score b q k (ix2 t s) * v (ix3 0 s j) : EReal) else 0) + fromState b q st (ix2 t j) := by
  pointwise [mixed]
  congr 1
  refine Finset.sum_congr rfl fun s _ => ?_
  rw [sle_row]
  split <;> rfl

/-- The normalised and gated output at an index. -/
theorem gated_apply (o : FVec Ideal S64x128 .f32) (g : FVec Ideal S1x128 .f32) (hg : FVec Ideal S1x64x128 .bf16)
    (t : Fin 64) (j : Fin 128) :
    gated o g hg (ix3 0 t j)
      = Cert.Hgrn.normGate (fun x => o (ix2 t x)) (fun x => g (ix2 0 x)) (hg (ix3 0 t j)) j := by
  pointwise [gated, wide, Cert.Hgrn.normGate]

/-- A head's state after a chunk, at an index. -/
theorem headState_read (lf : FVec Ideal S1x64x128 .f32) (k v : FVec Ideal S1x64x128 .bf16)
    (st : FVec Ideal S1x128x128 .f32) (j d : Fin 128) :
    headState lf k v st (ix3 0 j d)
      = (st (ix3 0 j d) * Ideal.exp (runs lf (ix2 63 d)) + update (runs lf) k v (ix2 j d) : EReal) := by
  pointwise [headState]

/-- The state as a matrix. -/
theorem flat_state (st : FVec Ideal S1x128x128 .f32) (j d : Fin 128) :
    shapeCast S128x128 st shapeCasts_S1x128x128_S128x128 (ix2 j d) = st (ix3 0 j d) := by
  pointwise

/-- A sum over the rows up to `r`, written with all rows. -/
theorem prefix_rows (f : ℕ → EReal) (r : Fin 64) :
    ∑ s ∈ Finset.range (r.val + 1), f s = ∑ s : Fin 64, if s ≤ r then f s.val else 0 := by
  rw [show (fun s : Fin 64 => if s ≤ r then f s.val else 0) = fun s : Fin 64 => (fun n => if n ≤ r.val then f n else 0) s.val
    from rfl, Fin.sum_univ_eq_sum_range (fun s => if s ≤ r.val then f s else 0) 64, ← Finset.sum_filter]
  refine Finset.sum_congr ?_ fun _ _ => rfl
  ext s
  have := r.isLt
  simp only [Finset.mem_filter, Finset.mem_range]
  omega

section Chunk

variable (q : FVec Ideal S1x64x128 .bf16) (lf : FVec Ideal S1x64x128 .f32) (k v hg : FVec Ideal S1x64x128 .bf16)
  (st : FVec Ideal S1x128x128 .f32) (g : FVec Ideal S1x128 .f32)
  (Q K V HG LF : Cert.HgrnP.Rows) (S : Fin 128 → Fin 128 → EReal) (G : Fin 128 → EReal)

/-- The block `x` holds the rows `X`. -/
def Holds {φ : FTy} (x : FVec Ideal S1x64x128 φ) (X : Cert.HgrnP.Rows) : Prop :=
  ∀ (r : Fin 64) (d : Fin 128), (x (ix3 0 r d) : EReal) = X r d

/-- The block `x` holds the state `S`, transposed. -/
def HoldsState (x : FVec Ideal S1x128x128 .f32) (S : Fin 128 → Fin 128 → EReal) : Prop :=
  ∀ j d : Fin 128, (x (ix3 0 j d) : EReal) = S d j

/-- The running sums of a chunk's gate logarithms. -/
theorem runs_apply (h : Holds lf LF) (r : Fin 64) (d : Fin 128) : runs lf (ix2 r d) = Cert.HgrnP.cum LF r d := by
  unfold runs
  rw [scan_apply, prefix_rows]
  unfold Cert.HgrnP.cum
  refine Finset.sum_congr rfl fun s _ => ?_
  congr 1
  unfold col
  rw [dif_pos s.isLt]
  have e : shapeCast S64x128 lf shapeCasts_S1x64x128_S64x128 (ix2 ⟨s.val, s.isLt⟩ d) = lf (ix3 0 s d) := by pointwise
  rw [e]
  exact h s d

/-- A head's state after a chunk. -/
theorem headState_holds (hlf : Holds lf LF) (hk : Holds k K) (hv : Holds v V) (hs : HoldsState st S) :
    HoldsState (headState lf k v st) (Cert.HgrnP.newState K V LF S) := by
  intro j d
  rw [headState_read, hs, runs_apply lf LF hlf, update_apply]
  unfold Cert.HgrnP.newState
  rw [mul_comm (S d j)]
  congr 1
  refine Finset.sum_congr rfl fun s _ => ?_
  rw [hv, hk, runs_apply lf LF hlf, runs_apply lf LF hlf, mul_comm (V s j)]

/-- A row's output before normalisation. -/
theorem mixed_chunk (hq : Holds q Q) (hlf : Holds lf LF) (hk : Holds k K) (hv : Holds v V) (hs : HoldsState st S)
    (hfin : ∀ s d, Cert.Hgrn.Finite (LF s d)) (t : Fin 64) (j : Fin 128) :
    mixed (runs lf) q k v (shapeCast S128x128 st shapeCasts_S1x128x128_S128x128) (ix2 t j)
      = Cert.HgrnP.preOut Q K V LF S t j := by
  rw [mixed_apply, fromState_apply]
  unfold Cert.HgrnP.preOut
  congr 1
  · refine Finset.sum_congr rfl fun s _ => ?_
    by_cases h : s ≤ t
    · rw [if_pos h, if_pos h, score_apply, hv]
      congr 1
      refine Finset.sum_congr rfl fun d _ => ?_
      rw [hq, hk, runs_apply lf LF hlf, runs_apply lf LF hlf, runs_apply lf LF hlf]
      exact Cert.Hgrn.decay_split _ _ _ _ _ (Cert.HgrnP.cum_finite LF hfin _ _) (Cert.HgrnP.cum_finite LF hfin _ _)
        (Cert.HgrnP.cum_finite LF hfin _ _)
    · rw [if_neg h, if_neg h, zero_mul]
  · refine Finset.sum_congr rfl fun d _ => ?_
    rw [hq, runs_apply lf LF hlf, flat_state, hs]

/-- A head's output block for a chunk. -/
theorem headOut_holds (hq : Holds q Q) (hlf : Holds lf LF) (hk : Holds k K) (hv : Holds v V) (hhg : Holds hg HG)
    (hs : HoldsState st S) (hg' : ∀ x, g (ix2 0 x) = G x) (hfin : ∀ s d, Cert.Hgrn.Finite (LF s d)) :
    Holds (headOut q lf k v hg st g)
      (fun r j => Cert.Hgrn.normGate (Cert.HgrnP.preOut Q K V LF S r) G (HG r j) j) := by
  intro r j
  unfold headOut
  rw [gated_apply]
  have e : (fun x => mixed (runs lf) q k v (shapeCast S128x128 st shapeCasts_S1x128x128_S128x128) (ix2 r x))
      = Cert.HgrnP.preOut Q K V LF S r :=
    funext fun x => mixed_chunk q lf k v st Q K V LF S hq hlf hk hv hs hfin r x
  rw [e, hhg r j, funext hg']

end Chunk

end Cert.Kernel7Ideal.Hgrn
-- ==== Proof.HgrnP.Fold.lean ====
module

public import proofs.«01_k».proof.Proof.Gen.Kernel7Ideal.Value
public import proofs.«01_k».proof.Proof.HgrnP.Block
public import Idealize.ShloMosaic.Lib.Pipeline.ValueKit
public import Idealize.ShloMosaic.Lib.Pipeline.ReadBack

/-!
# The state through a grid point's 16 chunks

A head's state in front of every chunk of a grid point, as a recursion over the chunks, out of the point's operand blocks
and the states at the start of the point.
-/

@[expose] public section

set_option maxRecDepth 16384

noncomputable section

namespace Cert.Kernel7Ideal.Hgrn

open Cert.Kernel7Ideal Cert.Kernel7Ideal.Gen Idealize.ShloMosaic Idealize.ShloMosaic.TcCoe Idealize.SL.Sem

/-- 64 rows from row `a` and 128 columns from column `b`, out of a point's block. -/
def chunk {φ : FTy} (X : FVec Ideal S1x1024x512 φ) (a b : ℕ) : FVec Ideal S1x64x128 φ :=
  fun x => if hx : a + 64 ≤ 1024 ∧ b + 128 ≤ 512 then
      X (ix3 0 ⟨a + (x 1).val, by have : (x 1).val < 64 := (x 1).isLt; omega⟩
        ⟨b + (x 2).val, by have : (x 2).val < 128 := (x 2).isLt; omega⟩)
    else (0 : EReal)

/-- A load of 64 rows and 128 columns. -/
theorem ld_chunk16 (X : Vec Ideal S1x1024x512 .bf16) (a b : ℕ)
    (i : ∀ k, ![0, a, b] k + (![1, 64, 128] : Fin 3 → ℕ) k ≤ S1x1024x512.size k) :
    View.ld X (Rect.unit (s := S1x1024x512) ![0, a, b] ![1, 64, 128] i) = chunk (φ := .bf16) X a b := by
  funext x
  unfold chunk
  rw [dif_pos ⟨i 1, i 2⟩]
  obtain ⟨u, r, d, rfl⟩ : ∃ (u : Fin 1) (r : Fin 64) (d : Fin 128), x = ix3 u r d := ⟨x 0, x 1, x 2, (ix3_eta x).symm⟩
  obtain rfl : u = 0 := Fin.ext (by omega)
  pointwise [View.ld]

/-- A load of 64 rows and 128 columns. -/
theorem ld_chunk32 (X : Vec Ideal S1x1024x512 .f32) (a b : ℕ)
    (i : ∀ k, ![0, a, b] k + (![1, 64, 128] : Fin 3 → ℕ) k ≤ S1x1024x512.size k) :
    View.ld X (Rect.unit (s := S1x1024x512) ![0, a, b] ![1, 64, 128] i) = chunk (φ := .f32) X a b := by
  funext x
  unfold chunk
  rw [dif_pos ⟨i 1, i 2⟩]
  obtain ⟨u, r, d, rfl⟩ : ∃ (u : Fin 1) (r : Fin 64) (d : Fin 128), x = ix3 u r d := ⟨x 0, x 1, x 2, (ix3_eta x).symm⟩
  obtain rfl : u = 0 := Fin.ext (by omega)
  pointwise [View.ld]

/-- The state of head `h`, out of all heads' states. -/
def headOf (S : FVec Ideal S4x128x128 .f32) (h : ℕ) : FVec Ideal S1x128x128 .f32 :=
  fun x => if hx : h < 4 then S (ix3 ⟨h, hx⟩ (x 1) (x 2)) else (0 : EReal)

/-- A load of a head's state. -/
theorem ld_head (S : Vec Ideal S4x128x128 .f32) (h : ℕ)
    (i : ∀ k, ![h, 0, 0] k + (![1, 128, 128] : Fin 3 → ℕ) k ≤ S4x128x128.size k) :
    View.ld S (Rect.unit (s := S4x128x128) ![h, 0, 0] ![1, 128, 128] i) = headOf S h := by
  have hh : h < 4 := by
    have h0 := i 0
    simp at h0
    omega
  funext x
  unfold headOf
  obtain ⟨u, r, d, rfl⟩ : ∃ (u : Fin 1) (r : Fin 128) (d : Fin 128), x = ix3 u r d := ⟨x 0, x 1, x 2, (ix3_eta x).symm⟩
  obtain rfl : u = 0 := Fin.ext (by omega)
  refine Eq.trans ?_ (dif_pos hh).symm
  pointwise [View.ld]

/-- All heads' states, transposed. -/
def turned (s : FVec Ideal S1x4x128x128 .f32) : FVec Ideal S4x128x128 .f32 := fun y => s (ix4 0 (y 0) (y 2) (y 1))

/-- A matrix, transposed. -/
theorem transposed (w : FVec Ideal S1x1x128x128 .f32) (r d : Fin 128) :
    shapeCast S1x128x128 (transpose S128x128 [1, 0] (shapeCast S128x128 w shapeCasts_S1x1x128x128_S128x128)
      transposes_S128x128_p1_0_S128x128) shapeCasts_S128x128_S1x128x128 (ix3 0 r d) = w (ix4 0 0 d r) := by
  pointwise

/-- A head's state before the first chunk, transposed. -/
theorem first_state (s : Vec Ideal S1x4x128x128 .f32) (h : ℕ)
    (i : ∀ k, ![0, h, 0, 0] k + (![1, 1, 128, 128] : Fin 4 → ℕ) k ≤ S1x4x128x128.size k) :
    shapeCast S1x128x128 (transpose S128x128 [1, 0]
      (shapeCast S128x128 (View.ld s (Rect.unit (s := S1x4x128x128) ![0, h, 0, 0] ![1, 1, 128, 128] i)
        : FVec Ideal S1x1x128x128 .f32)
        shapeCasts_S1x1x128x128_S128x128) transposes_S128x128_p1_0_S128x128) shapeCasts_S128x128_S1x128x128
      = headOf (turned s) h := by
  have hh : h < 4 := by
    have h0 := i 1
    simp at h0
    omega
  funext x
  obtain ⟨u, r, d, rfl⟩ : ∃ (u : Fin 1) (r : Fin 128) (d : Fin 128), x = ix3 u r d := ⟨x 0, x 1, x 2, (ix3_eta x).symm⟩
  obtain rfl : u = 0 := Fin.ext (by omega)
  rw [transposed]
  refine Eq.trans ?_ (dif_pos hh).symm
  unfold turned View.ld
  congr 1
  funext a
  apply Fin.ext
  rw [Rect.idx_unit_val]
  fin_cases a <;> simp [ix4, ix3]

variable (lf : FVec Ideal S1x1024x512 .f32) (q k v hg : FVec Ideal S1x1024x512 .bf16) (S : FVec Ideal S4x128x128 .f32)

/-- A head's state in front of chunk `n` of a point. -/
def stateRec (h : ℕ) : ℕ → FVec Ideal S1x128x128 .f32
  | 0 => headOf S h
  | n + 1 => headState (chunk lf (n * 64) (h * 128)) (chunk k (n * 64) (h * 128)) (chunk v (n * 64) (h * 128))
      (stateRec h n)

/-- The state after the first chunk. -/
theorem fold_first (h b : ℕ) (hb : b = h * 128) :
    headState (chunk lf 0 b) (chunk k 0 b) (chunk v 0 b) (headOf S h) = stateRec lf k v S h 1 := by
  subst hb
  rfl

/-- The state after a further chunk. -/
theorem fold_next (h n a b : ℕ) (ha : a = n * 64) (hb : b = h * 128) :
    headState (chunk lf a b) (chunk k a b) (chunk v a b) (stateRec lf k v S h n) = stateRec lf k v S h (n + 1) := by
  subst ha hb
  rfl

/-- The output of the first chunk reads the state at the start. -/
theorem out_first (h b : ℕ) (g : FVec Ideal S1x128 .f32) :
    headOut (chunk q 0 b) (chunk lf 0 b) (chunk k 0 b) (chunk v 0 b) (chunk hg 0 b) (headOf S h) g
      = headOut (chunk q 0 b) (chunk lf 0 b) (chunk k 0 b) (chunk v 0 b) (chunk hg 0 b) (stateRec lf k v S h 0) g := rfl

/-- Stores of the four heads' states, last, leave them. -/
theorem canon_heads (f : ℕ → FVec Ideal S1x128x128 .f32) (L : List (View.Piece (Elt Ideal) S4x128x128 .f32))
    (i0 i1 i2 i3) (y : S4x128x128.Idx) :
    View.canon (⟨Rect.unit (s := S4x128x128) ![3, 0, 0] ![1, 128, 128] i3, f 3⟩
      :: ⟨Rect.unit (s := S4x128x128) ![2, 0, 0] ![1, 128, 128] i2, f 2⟩
      :: ⟨Rect.unit (s := S4x128x128) ![1, 0, 0] ![1, 128, 128] i1, f 1⟩
      :: ⟨Rect.unit (s := S4x128x128) ![0, 0, 0] ![1, 128, 128] i0, f 0⟩ :: L) y
      = f (y 0).val (ix3 0 (y 1) (y 2)) := by
  refine View.canon_append_of_pieces (fun y => f (y 0).val (ix3 0 (y 1) (y 2))) L
    [⟨Rect.unit (s := S4x128x128) ![3, 0, 0] ![1, 128, 128] i3, f 3⟩,
      ⟨Rect.unit (s := S4x128x128) ![2, 0, 0] ![1, 128, 128] i2, f 2⟩,
      ⟨Rect.unit (s := S4x128x128) ![1, 0, 0] ![1, 128, 128] i1, f 1⟩,
      ⟨Rect.unit (s := S4x128x128) ![0, 0, 0] ![1, 128, 128] i0, f 0⟩] ?_ y ?_
  · have key : ∀ (h : ℕ) (i) (x : S1x128x128.Idx), f h x
        = (fun y : S4x128x128.Idx => f (y 0).val (ix3 0 (y 1) (y 2)))
            ((Rect.unit (s := S4x128x128) ![h, 0, 0] ![1, 128, 128] i).emb x) := by
      intro h i x
      obtain ⟨u, r, d, rfl⟩ : ∃ (u : Fin 1) (r : Fin 128) (d : Fin 128), x = ix3 u r d := ⟨x 0, x 1, x 2, (ix3_eta x).symm⟩
      obtain rfl : u = 0 := Fin.ext (by omega)
      have e0 : (((Rect.unit (s := S4x128x128) ![h, 0, 0] ![1, 128, 128] i).emb (ix3 0 r d)) 0).val = h := by
        simp [Rect.emb_apply, ix3]
      have e1 : (((Rect.unit (s := S4x128x128) ![h, 0, 0] ![1, 128, 128] i).emb (ix3 0 r d)) 1) = r :=
        Fin.ext (by simp [Rect.emb_apply, ix3])
      have e2 : (((Rect.unit (s := S4x128x128) ![h, 0, 0] ![1, 128, 128] i).emb (ix3 0 r d)) 2) = d :=
        Fin.ext (by simp [Rect.emb_apply, ix3])
      dsimp only
      rw [e0, e1, e2]
    intro p hp x
    simp only [List.mem_cons, List.not_mem_nil, or_false] at hp
    rcases hp with rfl | rfl | rfl | rfl
    · exact key 3 i3 x
    · exact key 2 i2 x
    · exact key 1 i1 x
    · exact key 0 i0 x
  · exact View.cover_of_tiledL (s := S4x128x128) (Val := Elt Ideal) (e := .f32)
      [⟨Rect.unit (s := S4x128x128) ![3, 0, 0] ![1, 128, 128] i3, f 3⟩,
        ⟨Rect.unit (s := S4x128x128) ![2, 0, 0] ![1, 128, 128] i2, f 2⟩,
        ⟨Rect.unit (s := S4x128x128) ![1, 0, 0] ![1, 128, 128] i1, f 1⟩,
        ⟨Rect.unit (s := S4x128x128) ![0, 0, 0] ![1, 128, 128] i0, f 0⟩] S1x128x128.size (by sl_kernel_rfl) y

/-- Stores of the four heads' states, last, leave them: the stored values given one by one. -/
theorem canon_heads4 (f : ℕ → FVec Ideal S1x128x128 .f32) (w0 w1 w2 w3 : FVec Ideal S1x128x128 .f32)
    (L : List (View.Piece (Elt Ideal) S4x128x128 .f32)) (i0 i1 i2 i3) (y : S4x128x128.Idx)
    (e0 : w0 = f 0) (e1 : w1 = f 1) (e2 : w2 = f 2) (e3 : w3 = f 3) :
    View.canon (⟨Rect.unit (s := S4x128x128) ![3, 0, 0] ![1, 128, 128] i3, w3⟩
      :: ⟨Rect.unit (s := S4x128x128) ![2, 0, 0] ![1, 128, 128] i2, w2⟩
      :: ⟨Rect.unit (s := S4x128x128) ![1, 0, 0] ![1, 128, 128] i1, w1⟩
      :: ⟨Rect.unit (s := S4x128x128) ![0, 0, 0] ![1, 128, 128] i0, w0⟩ :: L) y
      = f (y 0).val (ix3 0 (y 1) (y 2)) := by
  subst e0 e1 e2 e3
  exact canon_heads f L i0 i1 i2 i3 y

/-- 128 of the normalisation scales. -/
def scales (X : FVec Ideal S1x512 .f32) (b : ℕ) : FVec Ideal S1x128 .f32 :=
  fun x => if hx : b + 128 ≤ 512 then X (ix2 0 ⟨b + (x 1).val, by have : (x 1).val < 128 := (x 1).isLt; omega⟩) else (0 : EReal)

/-- A load of 128 of the scales. -/
theorem ld_scale (X : Vec Ideal S1x512 .f32) (b : ℕ)
    (i : ∀ k, ![0, b] k + (![1, 128] : Fin 2 → ℕ) k ≤ S1x512.size k) :
    View.ld X (Rect.unit (s := S1x512) ![0, b] ![1, 128] i) = scales X b := by
  have hb : b + 128 ≤ 512 := i 1
  funext x
  unfold scales
  rw [dif_pos hb]
  obtain ⟨u, d, rfl⟩ : ∃ (u : Fin 1) (d : Fin 128), x = ix2 u d := ⟨x 0, x 1, (ix2_eta x).symm⟩
  obtain rfl : u = 0 := Fin.ext (by omega)
  pointwise [View.ld]

variable (g : FVec Ideal S1x512 .f32)

/-- What a point leaves at a place of the block of outputs: chunk `row / 64`, head `column / 128`. -/
def outAt (y : S1x1024x512.Idx) : EReal :=
  headOut (chunk q ((y 1).val / 64 * 64) ((y 2).val / 128 * 128)) (chunk lf ((y 1).val / 64 * 64) ((y 2).val / 128 * 128))
    (chunk k ((y 1).val / 64 * 64) ((y 2).val / 128 * 128)) (chunk v ((y 1).val / 64 * 64) ((y 2).val / 128 * 128))
    (chunk hg ((y 1).val / 64 * 64) ((y 2).val / 128 * 128)) (stateRec lf k v S ((y 2).val / 128) ((y 1).val / 64))
    (scales g ((y 2).val / 128 * 128))
    (ix3 0 ⟨(y 1).val % 64, Nat.mod_lt _ (by decide)⟩ ⟨(y 2).val % 128, Nat.mod_lt _ (by decide)⟩)

/-- The output of chunk `n` and head `h` lies where the block of outputs wants it. -/
theorem out_place (n h a b : ℕ) (ha : a = n * 64) (hb : b = h * 128) (y : S1x1024x512.Idx) (x : S1x64x128.Idx)
    (h1 : (y 1).val = a + (x 1).val) (h2 : (y 2).val = b + (x 2).val) :
    headOut (chunk q a b) (chunk lf a b) (chunk k a b) (chunk v a b) (chunk hg a b) (stateRec lf k v S h n)
      (scales g b) x = outAt lf q k v hg S g y := by
  have x1 : (x 1).val < 64 := (x 1).isLt
  have x2 : (x 2).val < 128 := (x 2).isLt
  have en : (y 1).val / 64 = n := by omega
  have eh : (y 2).val / 128 = h := by omega
  have ex : x = ix3 0 ⟨(y 1).val % 64, Nat.mod_lt _ (by decide)⟩ ⟨(y 2).val % 128, Nat.mod_lt _ (by decide)⟩ := by
    funext c
    apply Fin.ext
    fin_cases c
    · have := (x 0).isLt; change (x 0).val < 1 at this; change (x 0).val = 0; omega
    · change (x 1).val = (y 1).val % 64; omega
    · change (x 2).val = (y 2).val % 128; omega
  unfold outAt
  rw [en, eh, ← ha, ← hb]
  exact congrArg _ ex

/-- The state of head 0 at the start of a sequence. -/
theorem first_0 (s : Vec Ideal S1x4x128x128 .f32) (i : ∀ k, ![0, 0, 0, 0] k + (![1, 1, 128, 128] : Fin 4 → ℕ) k ≤ S1x4x128x128.size k) :
    k0_pay7 (View.ld s (Rect.unit (s := S1x4x128x128) ![0, 0, 0, 0] ![1, 1, 128, 128] i)) = headOf (turned s) 0 := by
  rw [← first_state s 0 i]
  rfl

/-- The state of head 1 at the start of a sequence. -/
theorem first_1 (s : Vec Ideal S1x4x128x128 .f32) (i : ∀ k, ![0, 1, 0, 0] k + (![1, 1, 128, 128] : Fin 4 → ℕ) k ≤ S1x4x128x128.size k) :
    k0_pay8 (View.ld s (Rect.unit (s := S1x4x128x128) ![0, 1, 0, 0] ![1, 1, 128, 128] i)) = headOf (turned s) 1 := by
  rw [← first_state s 1 i]
  rfl

/-- The state of head 2 at the start of a sequence. -/
theorem first_2 (s : Vec Ideal S1x4x128x128 .f32) (i : ∀ k, ![0, 2, 0, 0] k + (![1, 1, 128, 128] : Fin 4 → ℕ) k ≤ S1x4x128x128.size k) :
    k0_pay9 (View.ld s (Rect.unit (s := S1x4x128x128) ![0, 2, 0, 0] ![1, 1, 128, 128] i)) = headOf (turned s) 2 := by
  rw [← first_state s 2 i]
  rfl

/-- The state of head 3 at the start of a sequence. -/
theorem first_3 (s : Vec Ideal S1x4x128x128 .f32) (i : ∀ k, ![0, 3, 0, 0] k + (![1, 1, 128, 128] : Fin 4 → ℕ) k ≤ S1x4x128x128.size k) :
    k0_pay10 (View.ld s (Rect.unit (s := S1x4x128x128) ![0, 3, 0, 0] ![1, 1, 128, 128] i)) = headOf (turned s) 3 := by
  rw [← first_state s 3 i]
  rfl

end Cert.Kernel7Ideal.Hgrn
-- ==== Proof.HgrnP.Array.lean ====
module

public import proofs.«01_k».proof.Proof.Gen.Kernel7Ideal.Value
public import proofs.«01_k».proof.Proof.HgrnP.Fold
public import Idealize.ShloMosaic.Lib.Pipeline.ValueKit
public import Idealize.ShloMosaic.Lib.Pipeline.ReadBack
public import Idealize.ShloMosaic.Lib.StableHlo.ReadAt

/-!
# What the kernel's operands hold

Each grid point treats 1024 tokens of one sequence, sixteen runs of 64, and four grid points treat a sequence. Here: what
the operands' blocks hold at a grid point, and what the recurrence makes of them.
-/

@[expose] public section

set_option maxRecDepth 16384

noncomputable section

namespace Cert.Kernel7Ideal.Hgrn

open Cert.Kernel7Ideal Cert.Kernel7Ideal.Gen Idealize.ShloMosaic Idealize.ShloMosaic.TcCoe Idealize.SL.Sem
open Idealize.ShloMosaic.Pipeline (Dat)
open Cert.HgrnP (Flat rowsOf stateAt scaleOf outOf)

variable (m : (ℓ : Loc nD τ sig) → Buf (Elt Ideal) ℓ)

/-- Which block each window takes at a grid point. -/
theorem idx : ∀ t : Fin cfg0.N, win0_0.index t = ![t.val / 4, t.val % 4, 0]
    ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0]
    ∧ win0_5.index t = ![t.val / 4, 0, 0, 0] ∧ win0_6.index t = ![0, 0] ∧ win0_7.index t = ![t.val / 4, t.val % 4, 0]
    ∧ win0_8.index t = ![t.val / 4, 0, 0, 0] :=
  (by decide +kernel : ∀ t : Fin grid0.N, _)

/-- The sequence of a grid point. -/
def seq (t : Fin cfg0.N) : Fin 8 := ⟨t.val / 4, by have h : t.val < 32 := t.isLt; omega⟩

/-- The queries. -/
abbrev A0 (c : Dev nD) : Flat := m ((c : Thread nD τ).loc main_arg0)
/-- The gate logarithms. -/
abbrev A1 (c : Dev nD) : Flat := m ((c : Thread nD τ).loc main_arg1)
/-- The keys. -/
abbrev A2 (c : Dev nD) : Flat := m ((c : Thread nD τ).loc main_arg2)
/-- The values. -/
abbrev A3 (c : Dev nD) : Flat := m ((c : Thread nD τ).loc main_arg3)
/-- The output gates. -/
abbrev A4 (c : Dev nD) : Flat := m ((c : Thread nD τ).loc main_arg4)
/-- The normalisation scales. -/
abbrev A5 (c : Dev nD) : (⟨2, ![1, 512]⟩ : Shape).Idx → EReal := m ((c : Thread nD τ).loc main_arg5)

/-- An array of all tokens at a sequence's token and a channel. -/
def at3 (x : Flat) (b : Fin 8) (r : Fin 4096) (l : Fin 512) : EReal :=
  x (ix2 ⟨b.val * 4096 + r.val, by omega⟩ l)

/-- The queries that the kernel reads. -/
theorem arr_q (c : Dev nD) (b : Fin 8) (r : Fin 4096) (l : Fin 512) :
    (V m c main_v3 (ix3 b r l) : EReal) = at3 (A0 m c) b r l := by
  simp only [V, hostOps0, List.flatten_cons, List.flatten_nil, List.append_nil, List.cons_append, List.nil_append]
  unfold at3
  after_reads_at

/-- The gate logarithms that the kernel reads. -/
theorem arr_lf (c : Dev nD) (b : Fin 8) (r : Fin 4096) (l : Fin 512) :
    (V m c main_v4 (ix3 b r l) : EReal) = at3 (A1 m c) b r l := by
  simp only [V, hostOps0, List.flatten_cons, List.flatten_nil, List.append_nil, List.cons_append, List.nil_append]
  unfold at3
  after_reads_at

/-- The keys that the kernel reads. -/
theorem arr_k (c : Dev nD) (b : Fin 8) (r : Fin 4096) (l : Fin 512) :
    (V m c main_v5 (ix3 b r l) : EReal) = at3 (A2 m c) b r l := by
  simp only [V, hostOps0, List.flatten_cons, List.flatten_nil, List.append_nil, List.cons_append, List.nil_append]
  unfold at3
  after_reads_at

/-- The values that the kernel reads. -/
theorem arr_v (c : Dev nD) (b : Fin 8) (r : Fin 4096) (l : Fin 512) :
    (V m c main_v6 (ix3 b r l) : EReal) = at3 (A3 m c) b r l := by
  simp only [V, hostOps0, List.flatten_cons, List.flatten_nil, List.append_nil, List.cons_append, List.nil_append]
  unfold at3
  after_reads_at

/-- The output gates that the kernel reads. -/
theorem arr_hg (c : Dev nD) (b : Fin 8) (r : Fin 4096) (l : Fin 512) :
    (V m c main_v7 (ix3 b r l) : EReal) = at3 (A4 m c) b r l := by
  simp only [V, hostOps0, List.flatten_cons, List.flatten_nil, List.append_nil, List.cons_append, List.nil_append]
  unfold at3
  after_reads_at

/-- The states start at 0. -/
theorem arr_s (c : Dev nD) (b : Fin 8) (h : Fin 4) (d j : Fin 128) : (V m c main_v2 (ix4 b h d j) : EReal) = (0 : EReal) := by
  simp only [V, hostOps0, List.flatten_cons, List.flatten_nil, List.append_nil, List.cons_append, List.nil_append]
  after_reads_at

/-- The scale that the kernel reads. -/
theorem arr_g (c : Dev nD) (l : Fin 512) : (V m c main_v1 (ix2 0 l) : EReal) = A5 m c (ix2 0 l) := by
  simp only [V, hostOps0, List.flatten_cons, List.flatten_nil, List.append_nil, List.cons_append, List.nil_append]
  after_reads_at

/-- The block of the queries at a grid point. -/
theorem blk_q (c : Dev nD) (t : Fin cfg0.N) (r : Fin 1024) (l : Fin 512) :
    (iblk m c 0 t (ix3 0 r l) : EReal) = at3 (A0 m c) (seq t) ⟨t.val % 4 * 1024 + r.val, by omega⟩ l := by
  rw [← arr_q]
  blk_ext [iblk, idx t, seq]

/-- The block of the gate logarithms at a grid point. -/
theorem blk_lf (c : Dev nD) (t : Fin cfg0.N) (r : Fin 1024) (l : Fin 512) :
    (iblk m c 1 t (ix3 0 r l) : EReal) = at3 (A1 m c) (seq t) ⟨t.val % 4 * 1024 + r.val, by omega⟩ l := by
  rw [← arr_lf]
  blk_ext [iblk, idx t, seq]

/-- The block of the keys at a grid point. -/
theorem blk_k (c : Dev nD) (t : Fin cfg0.N) (r : Fin 1024) (l : Fin 512) :
    (iblk m c 2 t (ix3 0 r l) : EReal) = at3 (A2 m c) (seq t) ⟨t.val % 4 * 1024 + r.val, by omega⟩ l := by
  rw [← arr_k]
  blk_ext [iblk, idx t, seq]

/-- The block of the values at a grid point. -/
theorem blk_v (c : Dev nD) (t : Fin cfg0.N) (r : Fin 1024) (l : Fin 512) :
    (iblk m c 3 t (ix3 0 r l) : EReal) = at3 (A3 m c) (seq t) ⟨t.val % 4 * 1024 + r.val, by omega⟩ l := by
  rw [← arr_v]
  blk_ext [iblk, idx t, seq]

/-- The block of the output gates at a grid point. -/
theorem blk_hg (c : Dev nD) (t : Fin cfg0.N) (r : Fin 1024) (l : Fin 512) :
    (iblk m c 4 t (ix3 0 r l) : EReal) = at3 (A4 m c) (seq t) ⟨t.val % 4 * 1024 + r.val, by omega⟩ l := by
  rw [← arr_hg]
  blk_ext [iblk, idx t, seq]

/-- The block of the starting states at a grid point. -/
theorem blk_s (c : Dev nD) (t : Fin cfg0.N) (h : Fin 4) (d j : Fin 128) :
    (iblk m c 5 t (ix4 0 h d j) : EReal) = (0 : EReal) := by
  rw [← arr_s m c (seq t) h d j]
  blk_ext [iblk, idx t, seq]

/-- The block of the scale at a grid point. -/
theorem blk_g (c : Dev nD) (t : Fin cfg0.N) (l : Fin 512) : (iblk m c 6 t (ix2 0 l) : EReal) = A5 m c (ix2 0 l) := by
  rw [← arr_g]
  blk_ext [iblk, idx t, seq]

/-- The run of 64 tokens at a grid point, out of the runs of its sequence. -/
theorem holds_chunk (φ : FTy) (X : FVec Ideal S1x1024x512 φ) (A : Flat) (b : Fin 8) (p : Fin 4)
    (hX : ∀ (r : Fin 1024) (l : Fin 512), X (ix3 0 r l) = at3 A b ⟨p.val * 1024 + r.val, by omega⟩ l)
    (n : ℕ) (hn : n < 16) (h : Fin 4) :
    Holds (chunk X (n * 64) (h.val * 128)) (rowsOf A b h (16 * p.val + n)) := by
  intro r j
  have e1 : n * 64 + 64 ≤ 1024 ∧ h.val * 128 + 128 ≤ 512 := by omega
  have e2 : 16 * p.val + n < 64 := by omega
  unfold chunk rowsOf
  rw [dif_pos e1, dif_pos e2]
  refine (hX _ _).trans ?_
  unfold at3
  congr 1
  refine congrArg₂ ix2 (Fin.ext ?_) (Fin.ext ?_)
  · show b.val * 4096 + (p.val * 1024 + (n * 64 + r.val)) = b.val * 4096 + (16 * p.val + n) * 64 + r.val
    omega
  · rfl

end Cert.Kernel7Ideal.Hgrn
-- ==== Proof.HgrnP.Units1.lean ====
module

public import proofs.«01_k».proof.Proof.Gen.Kernel7Ideal.Skeleton
public import proofs.«01_k».proof.Proof.HgrnP.Block

/-!
# What one step of the sweep stores, chunks 0 to 3

A grid point treats 16 chunks of 64 tokens for 4 heads. For each chunk and head, the stored state and the stored output
are the state and the output of the recurrence, of the values that were read.
-/

@[expose] public section

noncomputable section

namespace Cert.Kernel7Ideal.Hgrn

open Cert.Kernel7Ideal Cert.Kernel7Ideal.Gen Idealize.ShloMosaic Idealize.ShloMosaic.TcCoe Idealize.SL.Sem

variable (q : FVec Ideal S1x64x128 .bf16) (lf : FVec Ideal S1x64x128 .f32) (k v hg : FVec Ideal S1x64x128 .bf16)
  (st : FVec Ideal S1x128x128 .f32) (g : FVec Ideal S1x128 .f32)

/-- The state of head 0 after chunk 0. -/
theorem state_0 : (k0_pay67 (k0_pay21 st) (k0_pay24 (iota .tc S64x128 32 [0] iota_S64x128_d0_w32) (k0_pay12 lf) k0_pay13 (k0_pay14 lf) (k0_pay15 (F := Ideal))
      k v) (k0_pay25 (k0_pay17 (iota .tc S64x128 32 [0] iota_S64x128_d0_w32) (k0_pay12 lf) k0_pay13 (k0_pay14 lf) (k0_pay15 (F := Ideal))))) = headState lf k
      v st := by
  simp only [k0_pay12, k0_pay13, k0_pay14, k0_pay15, k0_pay16, k0_pay17, k0_pay19, k0_pay20, k0_pay21, k0_pay24,
    k0_pay25, k0_pay67, headState, runs, update, wide, scan, round]

/-- The output of head 0 for chunk 0. -/
theorem out_0 : (k0_pay70 (k0_pay66 k0_pay11 (k0_pay20 v) (k0_pay22 (iota .tc S64x128 32 [0] iota_S64x128_d0_w32) (k0_pay12 lf) k0_pay13 (k0_pay14 lf)
      (k0_pay15 (F := Ideal)) q k) (k0_pay23 (iota .tc S64x128 32 [0] iota_S64x128_d0_w32) (k0_pay12 lf) k0_pay13 (k0_pay14 lf) (k0_pay15 (F := Ideal)) q st))
      (k0_pay68 g) (k0_pay69 k0_pay11 (k0_pay20 v) (k0_pay22 (iota .tc S64x128 32 [0] iota_S64x128_d0_w32) (k0_pay12 lf) k0_pay13 (k0_pay14 lf) (k0_pay15 (F
      := Ideal)) q k) (k0_pay23 (iota .tc S64x128 32 [0] iota_S64x128_d0_w32) (k0_pay12 lf) k0_pay13 (k0_pay14 lf) (k0_pay15 (F := Ideal)) q st)) hg) =
      headOut q lf k v hg st g := by
  simp only [k0_pay11, k0_pay12, k0_pay13, k0_pay14, k0_pay15, k0_pay16, k0_pay18, k0_pay19, k0_pay20, k0_pay21,
    k0_pay22, k0_pay23, k0_pay66, k0_pay68, k0_pay69, k0_pay70, headOut, runs, gated, mixed, score, fromState, wide,
    scan, round]

/-- The state of head 1 after chunk 0. -/
theorem state_1 : (k0_pay87 (k0_pay31 st) (k0_pay34 (k0_pay26 (iota .tc S64x128 32 [0] iota_S64x128_d0_w32) lf) k v) (k0_pay35 (k0_pay26 (iota .tc S64x128 32 [0] iota_S64x128_d0_w32) lf))) =
      headState lf k v st := by
  simp only [k0_pay26, k0_pay27, k0_pay29, k0_pay30, k0_pay31, k0_pay34, k0_pay35, k0_pay87, headState, runs, update,
    wide, scan, round]

/-- The output of head 1 for chunk 0. -/
theorem out_1 : (k0_pay88 k0_pay11 (k0_pay30 v) (k0_pay32 (k0_pay26 (iota .tc S64x128 32 [0] iota_S64x128_d0_w32) lf) q k) (k0_pay33 (k0_pay26 (iota .tc S64x128 32 [0] iota_S64x128_d0_w32) lf) q st)
      g hg) = headOut q lf k v hg st g := by
  simp only [k0_pay11, k0_pay26, k0_pay28, k0_pay29, k0_pay30, k0_pay31, k0_pay32, k0_pay33, k0_pay88, headOut, runs,
    gated, mixed, score, fromState, wide, scan, round]

/-- The state of head 2 after chunk 0. -/
theorem state_2 : (k0_pay102 (k0_pay101 (k0_pay45 st) (k0_pay48 (k0_pay39 (iota .tc S64x128 32 [0] iota_S64x128_d0_w32) (k0_pay36 lf) (k0_pay37 (iota .tc S64x128 32 [0] iota_S64x128_d0_w32))
      (k0_pay38 lf)) (k0_pay41 (iota .tc S64x128 32 [0] iota_S64x128_d0_w32) (k0_pay36 lf) (k0_pay37 (iota .tc S64x128 32 [0] iota_S64x128_d0_w32)) (k0_pay38 lf)) k v) (k0_pay49 (k0_pay41 (iota .tc S64x128 32 [0] iota_S64x128_d0_w32)
      (k0_pay36 lf) (k0_pay37 (iota .tc S64x128 32 [0] iota_S64x128_d0_w32)) (k0_pay38 lf))))) = headState lf k v st := by
  simp only [k0_pay36, k0_pay37, k0_pay38, k0_pay39, k0_pay41, k0_pay43, k0_pay44, k0_pay45, k0_pay48, k0_pay49,
    k0_pay101, k0_pay102, headState, runs, update, wide, scan, round]

/-- The output of head 2 for chunk 0. -/
theorem out_2 : (k0_pay103 (k0_pay100 k0_pay11 (k0_pay44 v) (k0_pay46 (k0_pay39 (iota .tc S64x128 32 [0] iota_S64x128_d0_w32) (k0_pay36 lf) (k0_pay37 (iota .tc S64x128 32 [0] iota_S64x128_d0_w32))
      (k0_pay38 lf)) (k0_pay40 (iota .tc S64x128 32 [0] iota_S64x128_d0_w32) (k0_pay36 lf) (k0_pay37 (iota .tc S64x128 32 [0] iota_S64x128_d0_w32)) (k0_pay38 lf)) (k0_pay42 q) k) (k0_pay47 (k0_pay39
      (iota .tc S64x128 32 [0] iota_S64x128_d0_w32) (k0_pay36 lf) (k0_pay37 (iota .tc S64x128 32 [0] iota_S64x128_d0_w32)) (k0_pay38 lf)) (k0_pay42 q) st)) g hg) = headOut q lf k v hg st g := by
  simp only [k0_pay11, k0_pay36, k0_pay37, k0_pay38, k0_pay39, k0_pay40, k0_pay42, k0_pay43, k0_pay44, k0_pay45,
    k0_pay46, k0_pay47, k0_pay100, k0_pay103, headOut, runs, gated, mixed, score, fromState, wide, scan, round]

/-- The state of head 3 after chunk 0. -/
theorem state_3 : (k0_pay121 (k0_pay61 st) (k0_pay64 (k0_pay54 (iota .tc S64x128 32 [0] iota_S64x128_d0_w32) (k0_pay50 (iota .tc S64x128 32 [0] iota_S64x128_d0_w32) lf) (k0_pay51 (iota .tc S64x128 32 [0] iota_S64x128_d0_w32)) (k0_pay52
      (iota .tc S64x128 32 [0] iota_S64x128_d0_w32) lf) (k0_pay53 (F := Ideal))) (k0_pay56 (iota .tc S64x128 32 [0] iota_S64x128_d0_w32) (k0_pay50 (iota .tc S64x128 32 [0] iota_S64x128_d0_w32) lf) (k0_pay51 (iota .tc S64x128 32 [0] iota_S64x128_d0_w32)) (k0_pay52 (iota .tc S64x128 32 [0] iota_S64x128_d0_w32) lf)
      (k0_pay53 (F := Ideal))) (k0_pay58 k) (k0_pay59 v)) (k0_pay65 (k0_pay56 (iota .tc S64x128 32 [0] iota_S64x128_d0_w32) (k0_pay50 (iota .tc S64x128 32 [0] iota_S64x128_d0_w32) lf) (k0_pay51
      (iota .tc S64x128 32 [0] iota_S64x128_d0_w32)) (k0_pay52 (iota .tc S64x128 32 [0] iota_S64x128_d0_w32) lf) (k0_pay53 (F := Ideal))))) = headState lf k v st := by
  simp only [k0_pay50, k0_pay51, k0_pay52, k0_pay53, k0_pay54, k0_pay56, k0_pay58, k0_pay59, k0_pay61, k0_pay64,
    k0_pay65, k0_pay121, headState, runs, update, wide, scan, round]

/-- The output of head 3 for chunk 0. -/
theorem out_3 : (k0_pay124 (k0_pay120 k0_pay11 (k0_pay59 v) (k0_pay62 (k0_pay54 (iota .tc S64x128 32 [0] iota_S64x128_d0_w32) (k0_pay50 (iota .tc S64x128 32 [0] iota_S64x128_d0_w32) lf) (k0_pay51
      (iota .tc S64x128 32 [0] iota_S64x128_d0_w32)) (k0_pay52 (iota .tc S64x128 32 [0] iota_S64x128_d0_w32) lf) (k0_pay53 (F := Ideal))) (k0_pay55 (iota .tc S64x128 32 [0] iota_S64x128_d0_w32) (k0_pay50 (iota .tc S64x128 32 [0] iota_S64x128_d0_w32) lf) (k0_pay51 (iota .tc S64x128 32 [0] iota_S64x128_d0_w32))
      (k0_pay52 (iota .tc S64x128 32 [0] iota_S64x128_d0_w32) lf) (k0_pay53 (F := Ideal))) (k0_pay57 q) (k0_pay58 k) (k0_pay60 (iota .tc S64x128 32 [0] iota_S64x128_d0_w32) (k0_pay50 (iota .tc S64x128 32 [0] iota_S64x128_d0_w32) lf)
      (k0_pay51 (iota .tc S64x128 32 [0] iota_S64x128_d0_w32)) (k0_pay52 (iota .tc S64x128 32 [0] iota_S64x128_d0_w32) lf) (k0_pay53 (F := Ideal)))) (k0_pay63 (k0_pay54 (iota .tc S64x128 32 [0] iota_S64x128_d0_w32) (k0_pay50 (iota .tc S64x128 32 [0] iota_S64x128_d0_w32) lf)
      (k0_pay51 (iota .tc S64x128 32 [0] iota_S64x128_d0_w32)) (k0_pay52 (iota .tc S64x128 32 [0] iota_S64x128_d0_w32) lf) (k0_pay53 (F := Ideal))) (k0_pay57 q) st)) (k0_pay122 g) (k0_pay123
      k0_pay11 (k0_pay59 v) (k0_pay62 (k0_pay54 (iota .tc S64x128 32 [0] iota_S64x128_d0_w32) (k0_pay50 (iota .tc S64x128 32 [0] iota_S64x128_d0_w32) lf) (k0_pay51 (iota .tc S64x128 32 [0] iota_S64x128_d0_w32)) (k0_pay52 (iota .tc S64x128 32 [0] iota_S64x128_d0_w32) lf)
      (k0_pay53 (F := Ideal))) (k0_pay55 (iota .tc S64x128 32 [0] iota_S64x128_d0_w32) (k0_pay50 (iota .tc S64x128 32 [0] iota_S64x128_d0_w32) lf) (k0_pay51 (iota .tc S64x128 32 [0] iota_S64x128_d0_w32)) (k0_pay52 (iota .tc S64x128 32 [0] iota_S64x128_d0_w32) lf) (k0_pay53 (F
      := Ideal))) (k0_pay57 q) (k0_pay58 k) (k0_pay60 (iota .tc S64x128 32 [0] iota_S64x128_d0_w32) (k0_pay50 (iota .tc S64x128 32 [0] iota_S64x128_d0_w32) lf) (k0_pay51 (iota .tc S64x128 32 [0] iota_S64x128_d0_w32)) (k0_pay52 (iota .tc S64x128 32 [0] iota_S64x128_d0_w32) lf)
      (k0_pay53 (F := Ideal)))) (k0_pay63 (k0_pay54 (iota .tc S64x128 32 [0] iota_S64x128_d0_w32) (k0_pay50 (iota .tc S64x128 32 [0] iota_S64x128_d0_w32) lf) (k0_pay51 (iota .tc S64x128 32 [0] iota_S64x128_d0_w32)) (k0_pay52 (iota .tc S64x128 32 [0] iota_S64x128_d0_w32) lf)
      (k0_pay53 (F := Ideal))) (k0_pay57 q) st)) hg) = headOut q lf k v hg st g := by
  simp only [k0_pay11, k0_pay50, k0_pay51, k0_pay52, k0_pay53, k0_pay54, k0_pay55, k0_pay57, k0_pay58, k0_pay59,
    k0_pay60, k0_pay61, k0_pay62, k0_pay63, k0_pay120, k0_pay122, k0_pay123, k0_pay124, headOut, runs, gated, mixed,
    score, fromState, wide, scan, round]

/-- The state of head 0 after chunk 1. -/
theorem state_4 : (k0_pay141 (k0_pay82 st) (k0_pay85 (k0_pay77 v) (k0_pay81 (iota .tc S64x128 32 [0] iota_S64x128_d0_w32) (k0_pay71 (iota .tc S64x128 32 [0] iota_S64x128_d0_w32) lf) k)) (k0_pay86
      (k0_pay74 (iota .tc S64x128 32 [0] iota_S64x128_d0_w32) (k0_pay71 (iota .tc S64x128 32 [0] iota_S64x128_d0_w32) lf)))) = headState lf k v st := by
  simp only [k0_pay71, k0_pay72, k0_pay74, k0_pay76, k0_pay77, k0_pay81, k0_pay82, k0_pay85, k0_pay86, k0_pay141,
    headState, runs, update, wide, scan, round]

/-- The output of head 0 for chunk 1. -/
theorem out_4 : (k0_pay142 k0_pay11 (k0_pay77 v) (k0_pay83 (k0_pay78 (iota .tc S64x128 32 [0] iota_S64x128_d0_w32) (k0_pay71 (iota .tc S64x128 32 [0] iota_S64x128_d0_w32) lf) q) (k0_pay79 (iota .tc S64x128 32 [0] iota_S64x128_d0_w32)
      (k0_pay71 (iota .tc S64x128 32 [0] iota_S64x128_d0_w32) lf) k)) (k0_pay84 (k0_pay80 (iota .tc S64x128 32 [0] iota_S64x128_d0_w32) (k0_pay71 (iota .tc S64x128 32 [0] iota_S64x128_d0_w32) lf) q) (k0_pay82 st)) g hg) = headOut q lf k v
      hg st g := by
  simp only [k0_pay11, k0_pay71, k0_pay72, k0_pay73, k0_pay75, k0_pay76, k0_pay77, k0_pay78, k0_pay79, k0_pay80,
    k0_pay82, k0_pay83, k0_pay84, k0_pay142, headOut, runs, gated, mixed, score, fromState, wide, scan, round]

/-- The state of head 1 after chunk 1. -/
theorem state_5 : (k0_pay156 (k0_pay155 (k0_pay95 st) (k0_pay98 (k0_pay89 (iota .tc S64x128 32 [0] iota_S64x128_d0_w32) lf) (k0_pay91 (iota .tc S64x128 32 [0] iota_S64x128_d0_w32) lf) k v) (k0_pay99
      (k0_pay91 (iota .tc S64x128 32 [0] iota_S64x128_d0_w32) lf)))) = headState lf k v st := by
  simp only [k0_pay89, k0_pay91, k0_pay93, k0_pay94, k0_pay95, k0_pay98, k0_pay99, k0_pay155, k0_pay156, headState,
    runs, update, wide, scan, round]

/-- The output of head 1 for chunk 1. -/
theorem out_5 : (k0_pay157 (k0_pay154 k0_pay11 (k0_pay94 v) (k0_pay96 (k0_pay89 (iota .tc S64x128 32 [0] iota_S64x128_d0_w32) lf) (k0_pay90 (iota .tc S64x128 32 [0] iota_S64x128_d0_w32) lf) q k)
      (k0_pay97 (k0_pay89 (iota .tc S64x128 32 [0] iota_S64x128_d0_w32) lf) q st)) g hg) = headOut q lf k v hg st g := by
  simp only [k0_pay11, k0_pay89, k0_pay90, k0_pay92, k0_pay93, k0_pay94, k0_pay95, k0_pay96, k0_pay97, k0_pay154,
    k0_pay157, headOut, runs, gated, mixed, score, fromState, wide, scan, round]

/-- The state of head 2 after chunk 1. -/
theorem state_6 : (k0_pay175 (k0_pay115 st) (k0_pay118 (k0_pay108 (iota .tc S64x128 32 [0] iota_S64x128_d0_w32) (k0_pay104 (iota .tc S64x128 32 [0] iota_S64x128_d0_w32) lf) (k0_pay105 (iota .tc S64x128 32 [0] iota_S64x128_d0_w32))
      (k0_pay106 (iota .tc S64x128 32 [0] iota_S64x128_d0_w32) lf) (k0_pay107 (F := Ideal))) (k0_pay110 (iota .tc S64x128 32 [0] iota_S64x128_d0_w32) (k0_pay104 (iota .tc S64x128 32 [0] iota_S64x128_d0_w32) lf) (k0_pay105 (iota .tc S64x128 32 [0] iota_S64x128_d0_w32))
      (k0_pay106 (iota .tc S64x128 32 [0] iota_S64x128_d0_w32) lf) (k0_pay107 (F := Ideal))) (k0_pay112 k) (k0_pay113 v)) (k0_pay119 (k0_pay110 (iota .tc S64x128 32 [0] iota_S64x128_d0_w32)
      (k0_pay104 (iota .tc S64x128 32 [0] iota_S64x128_d0_w32) lf) (k0_pay105 (iota .tc S64x128 32 [0] iota_S64x128_d0_w32)) (k0_pay106 (iota .tc S64x128 32 [0] iota_S64x128_d0_w32) lf) (k0_pay107 (F := Ideal))))) = headState lf k v st :=
      by
  simp only [k0_pay104, k0_pay105, k0_pay106, k0_pay107, k0_pay108, k0_pay110, k0_pay112, k0_pay113, k0_pay115,
    k0_pay118, k0_pay119, k0_pay175, headState, runs, update, wide, scan, round]

/-- The output of head 2 for chunk 1. -/
theorem out_6 : (k0_pay178 (k0_pay174 k0_pay11 (k0_pay113 v) (k0_pay116 (k0_pay108 (iota .tc S64x128 32 [0] iota_S64x128_d0_w32) (k0_pay104 (iota .tc S64x128 32 [0] iota_S64x128_d0_w32) lf)
      (k0_pay105 (iota .tc S64x128 32 [0] iota_S64x128_d0_w32)) (k0_pay106 (iota .tc S64x128 32 [0] iota_S64x128_d0_w32) lf) (k0_pay107 (F := Ideal))) (k0_pay109 (iota .tc S64x128 32 [0] iota_S64x128_d0_w32) (k0_pay104 (iota .tc S64x128 32 [0] iota_S64x128_d0_w32) lf)
      (k0_pay105 (iota .tc S64x128 32 [0] iota_S64x128_d0_w32)) (k0_pay106 (iota .tc S64x128 32 [0] iota_S64x128_d0_w32) lf) (k0_pay107 (F := Ideal))) (k0_pay111 q) (k0_pay112 k) (k0_pay114 (iota .tc S64x128 32 [0] iota_S64x128_d0_w32)
      (k0_pay104 (iota .tc S64x128 32 [0] iota_S64x128_d0_w32) lf) (k0_pay105 (iota .tc S64x128 32 [0] iota_S64x128_d0_w32)) (k0_pay106 (iota .tc S64x128 32 [0] iota_S64x128_d0_w32) lf) (k0_pay107 (F := Ideal)))) (k0_pay117 (k0_pay108
      (iota .tc S64x128 32 [0] iota_S64x128_d0_w32) (k0_pay104 (iota .tc S64x128 32 [0] iota_S64x128_d0_w32) lf) (k0_pay105 (iota .tc S64x128 32 [0] iota_S64x128_d0_w32)) (k0_pay106 (iota .tc S64x128 32 [0] iota_S64x128_d0_w32) lf) (k0_pay107 (F := Ideal))) (k0_pay111 q) st))
      (k0_pay176 g) (k0_pay177 k0_pay11 (k0_pay113 v) (k0_pay116 (k0_pay108 (iota .tc S64x128 32 [0] iota_S64x128_d0_w32) (k0_pay104 (iota .tc S64x128 32 [0] iota_S64x128_d0_w32) lf) (k0_pay105
      (iota .tc S64x128 32 [0] iota_S64x128_d0_w32)) (k0_pay106 (iota .tc S64x128 32 [0] iota_S64x128_d0_w32) lf) (k0_pay107 (F := Ideal))) (k0_pay109 (iota .tc S64x128 32 [0] iota_S64x128_d0_w32) (k0_pay104 (iota .tc S64x128 32 [0] iota_S64x128_d0_w32) lf) (k0_pay105 (iota .tc S64x128 32 [0] iota_S64x128_d0_w32))
      (k0_pay106 (iota .tc S64x128 32 [0] iota_S64x128_d0_w32) lf) (k0_pay107 (F := Ideal))) (k0_pay111 q) (k0_pay112 k) (k0_pay114 (iota .tc S64x128 32 [0] iota_S64x128_d0_w32) (k0_pay104 (iota .tc S64x128 32 [0] iota_S64x128_d0_w32) lf)
      (k0_pay105 (iota .tc S64x128 32 [0] iota_S64x128_d0_w32)) (k0_pay106 (iota .tc S64x128 32 [0] iota_S64x128_d0_w32) lf) (k0_pay107 (F := Ideal)))) (k0_pay117 (k0_pay108 (iota .tc S64x128 32 [0] iota_S64x128_d0_w32) (k0_pay104 (iota .tc S64x128 32 [0] iota_S64x128_d0_w32)
      lf) (k0_pay105 (iota .tc S64x128 32 [0] iota_S64x128_d0_w32)) (k0_pay106 (iota .tc S64x128 32 [0] iota_S64x128_d0_w32) lf) (k0_pay107 (F := Ideal))) (k0_pay111 q) st)) hg) = headOut q lf k v
      hg st g := by
  simp only [k0_pay11, k0_pay104, k0_pay105, k0_pay106, k0_pay107, k0_pay108, k0_pay109, k0_pay111, k0_pay112,
    k0_pay113, k0_pay114, k0_pay115, k0_pay116, k0_pay117, k0_pay174, k0_pay176, k0_pay177, k0_pay178, headOut, runs,
    gated, mixed, score, fromState, wide, scan, round]

/-- The state of head 3 after chunk 1. -/
theorem state_7 : (k0_pay195 (k0_pay136 st) (k0_pay139 (k0_pay131 v) (k0_pay135 (iota .tc S64x128 32 [0] iota_S64x128_d0_w32) (k0_pay125 (iota .tc S64x128 32 [0] iota_S64x128_d0_w32) lf) k))
      (k0_pay140 (k0_pay128 (iota .tc S64x128 32 [0] iota_S64x128_d0_w32) (k0_pay125 (iota .tc S64x128 32 [0] iota_S64x128_d0_w32) lf)))) = headState lf k v st := by
  simp only [k0_pay125, k0_pay126, k0_pay128, k0_pay130, k0_pay131, k0_pay135, k0_pay136, k0_pay139, k0_pay140,
    k0_pay195, headState, runs, update, wide, scan, round]

/-- The output of head 3 for chunk 1. -/
theorem out_7 : (k0_pay196 k0_pay11 (k0_pay131 v) (k0_pay137 (k0_pay132 (iota .tc S64x128 32 [0] iota_S64x128_d0_w32) (k0_pay125 (iota .tc S64x128 32 [0] iota_S64x128_d0_w32) lf) q) (k0_pay133 (iota .tc S64x128 32 [0] iota_S64x128_d0_w32)
      (k0_pay125 (iota .tc S64x128 32 [0] iota_S64x128_d0_w32) lf) k)) (k0_pay138 (k0_pay134 (iota .tc S64x128 32 [0] iota_S64x128_d0_w32) (k0_pay125 (iota .tc S64x128 32 [0] iota_S64x128_d0_w32) lf) q) (k0_pay136 st)) g hg) = headOut q
      lf k v hg st g := by
  simp only [k0_pay11, k0_pay125, k0_pay126, k0_pay127, k0_pay129, k0_pay130, k0_pay131, k0_pay132, k0_pay133,
    k0_pay134, k0_pay136, k0_pay137, k0_pay138, k0_pay196, headOut, runs, gated, mixed, score, fromState, wide, scan,
    round]

/-- The state of head 0 after chunk 2. -/
theorem state_8 : (k0_pay210 (k0_pay209 (k0_pay149 st) (k0_pay152 (k0_pay143 (iota .tc S64x128 32 [0] iota_S64x128_d0_w32) lf) (k0_pay145 (iota .tc S64x128 32 [0] iota_S64x128_d0_w32) lf) k v)
      (k0_pay153 (k0_pay145 (iota .tc S64x128 32 [0] iota_S64x128_d0_w32) lf)))) = headState lf k v st := by
  simp only [k0_pay143, k0_pay145, k0_pay147, k0_pay148, k0_pay149, k0_pay152, k0_pay153, k0_pay209, k0_pay210,
    headState, runs, update, wide, scan, round]

/-- The output of head 0 for chunk 2. -/
theorem out_8 : (k0_pay211 (k0_pay208 k0_pay11 (k0_pay148 v) (k0_pay150 (k0_pay143 (iota .tc S64x128 32 [0] iota_S64x128_d0_w32) lf) (k0_pay144 (iota .tc S64x128 32 [0] iota_S64x128_d0_w32) lf) q k)
      (k0_pay151 (k0_pay143 (iota .tc S64x128 32 [0] iota_S64x128_d0_w32) lf) q st)) g hg) = headOut q lf k v hg st g := by
  simp only [k0_pay11, k0_pay143, k0_pay144, k0_pay146, k0_pay147, k0_pay148, k0_pay149, k0_pay150, k0_pay151,
    k0_pay208, k0_pay211, headOut, runs, gated, mixed, score, fromState, wide, scan, round]

/-- The state of head 1 after chunk 2. -/
theorem state_9 : (k0_pay229 (k0_pay169 st) (k0_pay172 (k0_pay162 (iota .tc S64x128 32 [0] iota_S64x128_d0_w32) (k0_pay158 (iota .tc S64x128 32 [0] iota_S64x128_d0_w32) lf) (k0_pay159 (iota .tc S64x128 32 [0] iota_S64x128_d0_w32))
      (k0_pay160 (iota .tc S64x128 32 [0] iota_S64x128_d0_w32) lf) (k0_pay161 (F := Ideal))) (k0_pay164 (iota .tc S64x128 32 [0] iota_S64x128_d0_w32) (k0_pay158 (iota .tc S64x128 32 [0] iota_S64x128_d0_w32) lf) (k0_pay159 (iota .tc S64x128 32 [0] iota_S64x128_d0_w32))
      (k0_pay160 (iota .tc S64x128 32 [0] iota_S64x128_d0_w32) lf) (k0_pay161 (F := Ideal))) (k0_pay166 k) (k0_pay167 v)) (k0_pay173 (k0_pay164 (iota .tc S64x128 32 [0] iota_S64x128_d0_w32)
      (k0_pay158 (iota .tc S64x128 32 [0] iota_S64x128_d0_w32) lf) (k0_pay159 (iota .tc S64x128 32 [0] iota_S64x128_d0_w32)) (k0_pay160 (iota .tc S64x128 32 [0] iota_S64x128_d0_w32) lf) (k0_pay161 (F := Ideal))))) = headState lf k v st :=
      by
  simp only [k0_pay158, k0_pay159, k0_pay160, k0_pay161, k0_pay162, k0_pay164, k0_pay166, k0_pay167, k0_pay169,
    k0_pay172, k0_pay173, k0_pay229, headState, runs, update, wide, scan, round]

/-- The output of head 1 for chunk 2. -/
theorem out_9 : (k0_pay232 (k0_pay228 k0_pay11 (k0_pay167 v) (k0_pay170 (k0_pay162 (iota .tc S64x128 32 [0] iota_S64x128_d0_w32) (k0_pay158 (iota .tc S64x128 32 [0] iota_S64x128_d0_w32) lf)
      (k0_pay159 (iota .tc S64x128 32 [0] iota_S64x128_d0_w32)) (k0_pay160 (iota .tc S64x128 32 [0] iota_S64x128_d0_w32) lf) (k0_pay161 (F := Ideal))) (k0_pay163 (iota .tc S64x128 32 [0] iota_S64x128_d0_w32) (k0_pay158 (iota .tc S64x128 32 [0] iota_S64x128_d0_w32) lf)
      (k0_pay159 (iota .tc S64x128 32 [0] iota_S64x128_d0_w32)) (k0_pay160 (iota .tc S64x128 32 [0] iota_S64x128_d0_w32) lf) (k0_pay161 (F := Ideal))) (k0_pay165 q) (k0_pay166 k) (k0_pay168 (iota .tc S64x128 32 [0] iota_S64x128_d0_w32)
      (k0_pay158 (iota .tc S64x128 32 [0] iota_S64x128_d0_w32) lf) (k0_pay159 (iota .tc S64x128 32 [0] iota_S64x128_d0_w32)) (k0_pay160 (iota .tc S64x128 32 [0] iota_S64x128_d0_w32) lf) (k0_pay161 (F := Ideal)))) (k0_pay171 (k0_pay162
      (iota .tc S64x128 32 [0] iota_S64x128_d0_w32) (k0_pay158 (iota .tc S64x128 32 [0] iota_S64x128_d0_w32) lf) (k0_pay159 (iota .tc S64x128 32 [0] iota_S64x128_d0_w32)) (k0_pay160 (iota .tc S64x128 32 [0] iota_S64x128_d0_w32) lf) (k0_pay161 (F := Ideal))) (k0_pay165 q) st))
      (k0_pay230 g) (k0_pay231 k0_pay11 (k0_pay167 v) (k0_pay170 (k0_pay162 (iota .tc S64x128 32 [0] iota_S64x128_d0_w32) (k0_pay158 (iota .tc S64x128 32 [0] iota_S64x128_d0_w32) lf) (k0_pay159
      (iota .tc S64x128 32 [0] iota_S64x128_d0_w32)) (k0_pay160 (iota .tc S64x128 32 [0] iota_S64x128_d0_w32) lf) (k0_pay161 (F := Ideal))) (k0_pay163 (iota .tc S64x128 32 [0] iota_S64x128_d0_w32) (k0_pay158 (iota .tc S64x128 32 [0] iota_S64x128_d0_w32) lf) (k0_pay159 (iota .tc S64x128 32 [0] iota_S64x128_d0_w32))
      (k0_pay160 (iota .tc S64x128 32 [0] iota_S64x128_d0_w32) lf) (k0_pay161 (F := Ideal))) (k0_pay165 q) (k0_pay166 k) (k0_pay168 (iota .tc S64x128 32 [0] iota_S64x128_d0_w32) (k0_pay158 (iota .tc S64x128 32 [0] iota_S64x128_d0_w32) lf)
      (k0_pay159 (iota .tc S64x128 32 [0] iota_S64x128_d0_w32)) (k0_pay160 (iota .tc S64x128 32 [0] iota_S64x128_d0_w32) lf) (k0_pay161 (F := Ideal)))) (k0_pay171 (k0_pay162 (iota .tc S64x128 32 [0] iota_S64x128_d0_w32) (k0_pay158 (iota .tc S64x128 32 [0] iota_S64x128_d0_w32)
      lf) (k0_pay159 (iota .tc S64x128 32 [0] iota_S64x128_d0_w32)) (k0_pay160 (iota .tc S64x128 32 [0] iota_S64x128_d0_w32) lf) (k0_pay161 (F := Ideal))) (k0_pay165 q) st)) hg) = headOut q lf k v
      hg st g := by
  simp only [k0_pay11, k0_pay158, k0_pay159, k0_pay160, k0_pay161, k0_pay162, k0_pay163, k0_pay165, k0_pay166,
    k0_pay167, k0_pay168, k0_pay169, k0_pay170, k0_pay171, k0_pay228, k0_pay230, k0_pay231, k0_pay232, headOut, runs,
    gated, mixed, score, fromState, wide, scan, round]

/-- The state of head 2 after chunk 2. -/
theorem state_10 : (k0_pay249 (k0_pay190 st) (k0_pay193 (k0_pay185 v) (k0_pay189 (iota .tc S64x128 32 [0] iota_S64x128_d0_w32) (k0_pay179 (iota .tc S64x128 32 [0] iota_S64x128_d0_w32) lf) k))
      (k0_pay194 (k0_pay182 (iota .tc S64x128 32 [0] iota_S64x128_d0_w32) (k0_pay179 (iota .tc S64x128 32 [0] iota_S64x128_d0_w32) lf)))) = headState lf k v st := by
  simp only [k0_pay179, k0_pay180, k0_pay182, k0_pay184, k0_pay185, k0_pay189, k0_pay190, k0_pay193, k0_pay194,
    k0_pay249, headState, runs, update, wide, scan, round]

/-- The output of head 2 for chunk 2. -/
theorem out_10 : (k0_pay250 k0_pay11 (k0_pay185 v) (k0_pay191 (k0_pay186 (iota .tc S64x128 32 [0] iota_S64x128_d0_w32) (k0_pay179 (iota .tc S64x128 32 [0] iota_S64x128_d0_w32) lf) q) (k0_pay187
      (iota .tc S64x128 32 [0] iota_S64x128_d0_w32) (k0_pay179 (iota .tc S64x128 32 [0] iota_S64x128_d0_w32) lf) k)) (k0_pay192 (k0_pay188 (iota .tc S64x128 32 [0] iota_S64x128_d0_w32) (k0_pay179 (iota .tc S64x128 32 [0] iota_S64x128_d0_w32) lf) q) (k0_pay190 st)) g hg) =
      headOut q lf k v hg st g := by
  simp only [k0_pay11, k0_pay179, k0_pay180, k0_pay181, k0_pay183, k0_pay184, k0_pay185, k0_pay186, k0_pay187,
    k0_pay188, k0_pay190, k0_pay191, k0_pay192, k0_pay250, headOut, runs, gated, mixed, score, fromState, wide, scan,
    round]

/-- The state of head 3 after chunk 2. -/
theorem state_11 : (k0_pay264 (k0_pay263 (k0_pay203 st) (k0_pay206 (k0_pay197 (iota .tc S64x128 32 [0] iota_S64x128_d0_w32) lf) (k0_pay199 (iota .tc S64x128 32 [0] iota_S64x128_d0_w32) lf) k v)
      (k0_pay207 (k0_pay199 (iota .tc S64x128 32 [0] iota_S64x128_d0_w32) lf)))) = headState lf k v st := by
  simp only [k0_pay197, k0_pay199, k0_pay201, k0_pay202, k0_pay203, k0_pay206, k0_pay207, k0_pay263, k0_pay264,
    headState, runs, update, wide, scan, round]

/-- The output of head 3 for chunk 2. -/
theorem out_11 : (k0_pay265 (k0_pay262 k0_pay11 (k0_pay202 v) (k0_pay204 (k0_pay197 (iota .tc S64x128 32 [0] iota_S64x128_d0_w32) lf) (k0_pay198 (iota .tc S64x128 32 [0] iota_S64x128_d0_w32) lf) q
      k) (k0_pay205 (k0_pay197 (iota .tc S64x128 32 [0] iota_S64x128_d0_w32) lf) q st)) g hg) = headOut q lf k v hg st g := by
  simp only [k0_pay11, k0_pay197, k0_pay198, k0_pay200, k0_pay201, k0_pay202, k0_pay203, k0_pay204, k0_pay205,
    k0_pay262, k0_pay265, headOut, runs, gated, mixed, score, fromState, wide, scan, round]

/-- The state of head 0 after chunk 3. -/
theorem state_12 : (k0_pay283 (k0_pay223 st) (k0_pay226 (k0_pay216 (iota .tc S64x128 32 [0] iota_S64x128_d0_w32) (k0_pay212 (iota .tc S64x128 32 [0] iota_S64x128_d0_w32) lf) (k0_pay213 (iota .tc S64x128 32 [0] iota_S64x128_d0_w32))
      (k0_pay214 (iota .tc S64x128 32 [0] iota_S64x128_d0_w32) lf) (k0_pay215 (F := Ideal))) (k0_pay218 (iota .tc S64x128 32 [0] iota_S64x128_d0_w32) (k0_pay212 (iota .tc S64x128 32 [0] iota_S64x128_d0_w32) lf) (k0_pay213 (iota .tc S64x128 32 [0] iota_S64x128_d0_w32))
      (k0_pay214 (iota .tc S64x128 32 [0] iota_S64x128_d0_w32) lf) (k0_pay215 (F := Ideal))) (k0_pay220 k) (k0_pay221 v)) (k0_pay227 (k0_pay218 (iota .tc S64x128 32 [0] iota_S64x128_d0_w32)
      (k0_pay212 (iota .tc S64x128 32 [0] iota_S64x128_d0_w32) lf) (k0_pay213 (iota .tc S64x128 32 [0] iota_S64x128_d0_w32)) (k0_pay214 (iota .tc S64x128 32 [0] iota_S64x128_d0_w32) lf) (k0_pay215 (F := Ideal))))) = headState lf k v st :=
      by
  simp only [k0_pay212, k0_pay213, k0_pay214, k0_pay215, k0_pay216, k0_pay218, k0_pay220, k0_pay221, k0_pay223,
    k0_pay226, k0_pay227, k0_pay283, headState, runs, update, wide, scan, round]

/-- The output of head 0 for chunk 3. -/
theorem out_12 : (k0_pay286 (k0_pay282 k0_pay11 (k0_pay221 v) (k0_pay224 (k0_pay216 (iota .tc S64x128 32 [0] iota_S64x128_d0_w32) (k0_pay212 (iota .tc S64x128 32 [0] iota_S64x128_d0_w32) lf)
      (k0_pay213 (iota .tc S64x128 32 [0] iota_S64x128_d0_w32)) (k0_pay214 (iota .tc S64x128 32 [0] iota_S64x128_d0_w32) lf) (k0_pay215 (F := Ideal))) (k0_pay217 (iota .tc S64x128 32 [0] iota_S64x128_d0_w32) (k0_pay212 (iota .tc S64x128 32 [0] iota_S64x128_d0_w32) lf)
      (k0_pay213 (iota .tc S64x128 32 [0] iota_S64x128_d0_w32)) (k0_pay214 (iota .tc S64x128 32 [0] iota_S64x128_d0_w32) lf) (k0_pay215 (F := Ideal))) (k0_pay219 q) (k0_pay220 k) (k0_pay222 (iota .tc S64x128 32 [0] iota_S64x128_d0_w32)
      (k0_pay212 (iota .tc S64x128 32 [0] iota_S64x128_d0_w32) lf) (k0_pay213 (iota .tc S64x128 32 [0] iota_S64x128_d0_w32)) (k0_pay214 (iota .tc S64x128 32 [0] iota_S64x128_d0_w32) lf) (k0_pay215 (F := Ideal)))) (k0_pay225 (k0_pay216
      (iota .tc S64x128 32 [0] iota_S64x128_d0_w32) (k0_pay212 (iota .tc S64x128 32 [0] iota_S64x128_d0_w32) lf) (k0_pay213 (iota .tc S64x128 32 [0] iota_S64x128_d0_w32)) (k0_pay214 (iota .tc S64x128 32 [0] iota_S64x128_d0_w32) lf) (k0_pay215 (F := Ideal))) (k0_pay219 q) st))
      (k0_pay284 g) (k0_pay285 k0_pay11 (k0_pay221 v) (k0_pay224 (k0_pay216 (iota .tc S64x128 32 [0] iota_S64x128_d0_w32) (k0_pay212 (iota .tc S64x128 32 [0] iota_S64x128_d0_w32) lf) (k0_pay213
      (iota .tc S64x128 32 [0] iota_S64x128_d0_w32)) (k0_pay214 (iota .tc S64x128 32 [0] iota_S64x128_d0_w32) lf) (k0_pay215 (F := Ideal))) (k0_pay217 (iota .tc S64x128 32 [0] iota_S64x128_d0_w32) (k0_pay212 (iota .tc S64x128 32 [0] iota_S64x128_d0_w32) lf) (k0_pay213 (iota .tc S64x128 32 [0] iota_S64x128_d0_w32))
      (k0_pay214 (iota .tc S64x128 32 [0] iota_S64x128_d0_w32) lf) (k0_pay215 (F := Ideal))) (k0_pay219 q) (k0_pay220 k) (k0_pay222 (iota .tc S64x128 32 [0] iota_S64x128_d0_w32) (k0_pay212 (iota .tc S64x128 32 [0] iota_S64x128_d0_w32) lf)
      (k0_pay213 (iota .tc S64x128 32 [0] iota_S64x128_d0_w32)) (k0_pay214 (iota .tc S64x128 32 [0] iota_S64x128_d0_w32) lf) (k0_pay215 (F := Ideal)))) (k0_pay225 (k0_pay216 (iota .tc S64x128 32 [0] iota_S64x128_d0_w32) (k0_pay212 (iota .tc S64x128 32 [0] iota_S64x128_d0_w32)
      lf) (k0_pay213 (iota .tc S64x128 32 [0] iota_S64x128_d0_w32)) (k0_pay214 (iota .tc S64x128 32 [0] iota_S64x128_d0_w32) lf) (k0_pay215 (F := Ideal))) (k0_pay219 q) st)) hg) = headOut q lf k v
      hg st g := by
  simp only [k0_pay11, k0_pay212, k0_pay213, k0_pay214, k0_pay215, k0_pay216, k0_pay217, k0_pay219, k0_pay220,
    k0_pay221, k0_pay222, k0_pay223, k0_pay224, k0_pay225, k0_pay282, k0_pay284, k0_pay285, k0_pay286, headOut, runs,
    gated, mixed, score, fromState, wide, scan, round]

/-- The state of head 1 after chunk 3. -/
theorem state_13 : (k0_pay303 (k0_pay244 st) (k0_pay247 (k0_pay239 v) (k0_pay243 (iota .tc S64x128 32 [0] iota_S64x128_d0_w32) (k0_pay233 (iota .tc S64x128 32 [0] iota_S64x128_d0_w32) lf) k))
      (k0_pay248 (k0_pay236 (iota .tc S64x128 32 [0] iota_S64x128_d0_w32) (k0_pay233 (iota .tc S64x128 32 [0] iota_S64x128_d0_w32) lf)))) = headState lf k v st := by
  simp only [k0_pay233, k0_pay234, k0_pay236, k0_pay238, k0_pay239, k0_pay243, k0_pay244, k0_pay247, k0_pay248,
    k0_pay303, headState, runs, update, wide, scan, round]

/-- The output of head 1 for chunk 3. -/
theorem out_13 : (k0_pay304 k0_pay11 (k0_pay239 v) (k0_pay245 (k0_pay240 (iota .tc S64x128 32 [0] iota_S64x128_d0_w32) (k0_pay233 (iota .tc S64x128 32 [0] iota_S64x128_d0_w32) lf) q) (k0_pay241
      (iota .tc S64x128 32 [0] iota_S64x128_d0_w32) (k0_pay233 (iota .tc S64x128 32 [0] iota_S64x128_d0_w32) lf) k)) (k0_pay246 (k0_pay242 (iota .tc S64x128 32 [0] iota_S64x128_d0_w32) (k0_pay233 (iota .tc S64x128 32 [0] iota_S64x128_d0_w32) lf) q) (k0_pay244 st)) g hg) =
      headOut q lf k v hg st g := by
  simp only [k0_pay11, k0_pay233, k0_pay234, k0_pay235, k0_pay237, k0_pay238, k0_pay239, k0_pay240, k0_pay241,
    k0_pay242, k0_pay244, k0_pay245, k0_pay246, k0_pay304, headOut, runs, gated, mixed, score, fromState, wide, scan,
    round]

/-- The state of head 2 after chunk 3. -/
theorem state_14 : (k0_pay318 (k0_pay317 (k0_pay257 st) (k0_pay260 (k0_pay251 (iota .tc S64x128 32 [0] iota_S64x128_d0_w32) lf) (k0_pay253 (iota .tc S64x128 32 [0] iota_S64x128_d0_w32) lf) k v)
      (k0_pay261 (k0_pay253 (iota .tc S64x128 32 [0] iota_S64x128_d0_w32) lf)))) = headState lf k v st := by
  simp only [k0_pay251, k0_pay253, k0_pay255, k0_pay256, k0_pay257, k0_pay260, k0_pay261, k0_pay317, k0_pay318,
    headState, runs, update, wide, scan, round]

/-- The output of head 2 for chunk 3. -/
theorem out_14 : (k0_pay319 (k0_pay316 k0_pay11 (k0_pay256 v) (k0_pay258 (k0_pay251 (iota .tc S64x128 32 [0] iota_S64x128_d0_w32) lf) (k0_pay252 (iota .tc S64x128 32 [0] iota_S64x128_d0_w32) lf) q
      k) (k0_pay259 (k0_pay251 (iota .tc S64x128 32 [0] iota_S64x128_d0_w32) lf) q st)) g hg) = headOut q lf k v hg st g := by
  simp only [k0_pay11, k0_pay251, k0_pay252, k0_pay254, k0_pay255, k0_pay256, k0_pay257, k0_pay258, k0_pay259,
    k0_pay316, k0_pay319, headOut, runs, gated, mixed, score, fromState, wide, scan, round]

/-- The state of head 3 after chunk 3. -/
theorem state_15 : (k0_pay337 (k0_pay277 st) (k0_pay280 (k0_pay270 (iota .tc S64x128 32 [0] iota_S64x128_d0_w32) (k0_pay266 (iota .tc S64x128 32 [0] iota_S64x128_d0_w32) lf) (k0_pay267 (iota .tc S64x128 32 [0] iota_S64x128_d0_w32))
      (k0_pay268 (iota .tc S64x128 32 [0] iota_S64x128_d0_w32) lf) (k0_pay269 (F := Ideal))) (k0_pay272 (iota .tc S64x128 32 [0] iota_S64x128_d0_w32) (k0_pay266 (iota .tc S64x128 32 [0] iota_S64x128_d0_w32) lf) (k0_pay267 (iota .tc S64x128 32 [0] iota_S64x128_d0_w32))
      (k0_pay268 (iota .tc S64x128 32 [0] iota_S64x128_d0_w32) lf) (k0_pay269 (F := Ideal))) (k0_pay274 k) (k0_pay275 v)) (k0_pay281 (k0_pay272 (iota .tc S64x128 32 [0] iota_S64x128_d0_w32)
      (k0_pay266 (iota .tc S64x128 32 [0] iota_S64x128_d0_w32) lf) (k0_pay267 (iota .tc S64x128 32 [0] iota_S64x128_d0_w32)) (k0_pay268 (iota .tc S64x128 32 [0] iota_S64x128_d0_w32) lf) (k0_pay269 (F := Ideal))))) = headState lf k v st :=
      by
  simp only [k0_pay266, k0_pay267, k0_pay268, k0_pay269, k0_pay270, k0_pay272, k0_pay274, k0_pay275, k0_pay277,
    k0_pay280, k0_pay281, k0_pay337, headState, runs, update, wide, scan, round]

/-- The output of head 3 for chunk 3. -/
theorem out_15 : (k0_pay340 (k0_pay336 k0_pay11 (k0_pay275 v) (k0_pay278 (k0_pay270 (iota .tc S64x128 32 [0] iota_S64x128_d0_w32) (k0_pay266 (iota .tc S64x128 32 [0] iota_S64x128_d0_w32) lf)
      (k0_pay267 (iota .tc S64x128 32 [0] iota_S64x128_d0_w32)) (k0_pay268 (iota .tc S64x128 32 [0] iota_S64x128_d0_w32) lf) (k0_pay269 (F := Ideal))) (k0_pay271 (iota .tc S64x128 32 [0] iota_S64x128_d0_w32) (k0_pay266 (iota .tc S64x128 32 [0] iota_S64x128_d0_w32) lf)
      (k0_pay267 (iota .tc S64x128 32 [0] iota_S64x128_d0_w32)) (k0_pay268 (iota .tc S64x128 32 [0] iota_S64x128_d0_w32) lf) (k0_pay269 (F := Ideal))) (k0_pay273 q) (k0_pay274 k) (k0_pay276 (iota .tc S64x128 32 [0] iota_S64x128_d0_w32)
      (k0_pay266 (iota .tc S64x128 32 [0] iota_S64x128_d0_w32) lf) (k0_pay267 (iota .tc S64x128 32 [0] iota_S64x128_d0_w32)) (k0_pay268 (iota .tc S64x128 32 [0] iota_S64x128_d0_w32) lf) (k0_pay269 (F := Ideal)))) (k0_pay279 (k0_pay270
      (iota .tc S64x128 32 [0] iota_S64x128_d0_w32) (k0_pay266 (iota .tc S64x128 32 [0] iota_S64x128_d0_w32) lf) (k0_pay267 (iota .tc S64x128 32 [0] iota_S64x128_d0_w32)) (k0_pay268 (iota .tc S64x128 32 [0] iota_S64x128_d0_w32) lf) (k0_pay269 (F := Ideal))) (k0_pay273 q) st))
      (k0_pay338 g) (k0_pay339 k0_pay11 (k0_pay275 v) (k0_pay278 (k0_pay270 (iota .tc S64x128 32 [0] iota_S64x128_d0_w32) (k0_pay266 (iota .tc S64x128 32 [0] iota_S64x128_d0_w32) lf) (k0_pay267
      (iota .tc S64x128 32 [0] iota_S64x128_d0_w32)) (k0_pay268 (iota .tc S64x128 32 [0] iota_S64x128_d0_w32) lf) (k0_pay269 (F := Ideal))) (k0_pay271 (iota .tc S64x128 32 [0] iota_S64x128_d0_w32) (k0_pay266 (iota .tc S64x128 32 [0] iota_S64x128_d0_w32) lf) (k0_pay267 (iota .tc S64x128 32 [0] iota_S64x128_d0_w32))
      (k0_pay268 (iota .tc S64x128 32 [0] iota_S64x128_d0_w32) lf) (k0_pay269 (F := Ideal))) (k0_pay273 q) (k0_pay274 k) (k0_pay276 (iota .tc S64x128 32 [0] iota_S64x128_d0_w32) (k0_pay266 (iota .tc S64x128 32 [0] iota_S64x128_d0_w32) lf)
      (k0_pay267 (iota .tc S64x128 32 [0] iota_S64x128_d0_w32)) (k0_pay268 (iota .tc S64x128 32 [0] iota_S64x128_d0_w32) lf) (k0_pay269 (F := Ideal)))) (k0_pay279 (k0_pay270 (iota .tc S64x128 32 [0] iota_S64x128_d0_w32) (k0_pay266 (iota .tc S64x128 32 [0] iota_S64x128_d0_w32)
      lf) (k0_pay267 (iota .tc S64x128 32 [0] iota_S64x128_d0_w32)) (k0_pay268 (iota .tc S64x128 32 [0] iota_S64x128_d0_w32) lf) (k0_pay269 (F := Ideal))) (k0_pay273 q) st)) hg) = headOut q lf k v
      hg st g := by
  simp only [k0_pay11, k0_pay266, k0_pay267, k0_pay268, k0_pay269, k0_pay270, k0_pay271, k0_pay273, k0_pay274,
    k0_pay275, k0_pay276, k0_pay277, k0_pay278, k0_pay279, k0_pay336, k0_pay338, k0_pay339, k0_pay340, headOut, runs,
    gated, mixed, score, fromState, wide, scan, round]

end Cert.Kernel7Ideal.Hgrn
-- ==== Proof.HgrnP.Units2.lean ====
module

public import proofs.«01_k».proof.Proof.Gen.Kernel7Ideal.Skeleton
public import proofs.«01_k».proof.Proof.HgrnP.Block

/-!
# What one step of the sweep stores, chunks 4 to 7

A grid point treats 16 chunks of 64 tokens for 4 heads. For each chunk and head, the stored state and the stored output
are the state and the output of the recurrence, of the values that were read.
-/

@[expose] public section

noncomputable section

namespace Cert.Kernel7Ideal.Hgrn

open Cert.Kernel7Ideal Cert.Kernel7Ideal.Gen Idealize.ShloMosaic Idealize.ShloMosaic.TcCoe Idealize.SL.Sem

variable (q : FVec Ideal S1x64x128 .bf16) (lf : FVec Ideal S1x64x128 .f32) (k v hg : FVec Ideal S1x64x128 .bf16)
  (st : FVec Ideal S1x128x128 .f32) (g : FVec Ideal S1x128 .f32)

/-- The state of head 0 after chunk 4. -/
theorem state_16 : (k0_pay357 (k0_pay298 st) (k0_pay301 (k0_pay293 v) (k0_pay297 (iota .tc S64x128 32 [0] iota_S64x128_d0_w32) (k0_pay287 (iota .tc S64x128 32 [0] iota_S64x128_d0_w32) lf) k))
      (k0_pay302 (k0_pay290 (iota .tc S64x128 32 [0] iota_S64x128_d0_w32) (k0_pay287 (iota .tc S64x128 32 [0] iota_S64x128_d0_w32) lf)))) = headState lf k v st := by
  simp only [k0_pay287, k0_pay288, k0_pay290, k0_pay292, k0_pay293, k0_pay297, k0_pay298, k0_pay301, k0_pay302,
    k0_pay357, headState, runs, update, wide, scan, round]

/-- The output of head 0 for chunk 4. -/
theorem out_16 : (k0_pay358 k0_pay11 (k0_pay293 v) (k0_pay299 (k0_pay294 (iota .tc S64x128 32 [0] iota_S64x128_d0_w32) (k0_pay287 (iota .tc S64x128 32 [0] iota_S64x128_d0_w32) lf) q) (k0_pay295
      (iota .tc S64x128 32 [0] iota_S64x128_d0_w32) (k0_pay287 (iota .tc S64x128 32 [0] iota_S64x128_d0_w32) lf) k)) (k0_pay300 (k0_pay296 (iota .tc S64x128 32 [0] iota_S64x128_d0_w32) (k0_pay287 (iota .tc S64x128 32 [0] iota_S64x128_d0_w32) lf) q) (k0_pay298 st)) g hg) =
      headOut q lf k v hg st g := by
  simp only [k0_pay11, k0_pay287, k0_pay288, k0_pay289, k0_pay291, k0_pay292, k0_pay293, k0_pay294, k0_pay295,
    k0_pay296, k0_pay298, k0_pay299, k0_pay300, k0_pay358, headOut, runs, gated, mixed, score, fromState, wide, scan,
    round]

/-- The state of head 1 after chunk 4. -/
theorem state_17 : (k0_pay372 (k0_pay371 (k0_pay311 st) (k0_pay314 (k0_pay305 (iota .tc S64x128 32 [0] iota_S64x128_d0_w32) lf) (k0_pay307 (iota .tc S64x128 32 [0] iota_S64x128_d0_w32) lf) k v)
      (k0_pay315 (k0_pay307 (iota .tc S64x128 32 [0] iota_S64x128_d0_w32) lf)))) = headState lf k v st := by
  simp only [k0_pay305, k0_pay307, k0_pay309, k0_pay310, k0_pay311, k0_pay314, k0_pay315, k0_pay371, k0_pay372,
    headState, runs, update, wide, scan, round]

/-- The output of head 1 for chunk 4. -/
theorem out_17 : (k0_pay373 (k0_pay370 k0_pay11 (k0_pay310 v) (k0_pay312 (k0_pay305 (iota .tc S64x128 32 [0] iota_S64x128_d0_w32) lf) (k0_pay306 (iota .tc S64x128 32 [0] iota_S64x128_d0_w32) lf) q
      k) (k0_pay313 (k0_pay305 (iota .tc S64x128 32 [0] iota_S64x128_d0_w32) lf) q st)) g hg) = headOut q lf k v hg st g := by
  simp only [k0_pay11, k0_pay305, k0_pay306, k0_pay308, k0_pay309, k0_pay310, k0_pay311, k0_pay312, k0_pay313,
    k0_pay370, k0_pay373, headOut, runs, gated, mixed, score, fromState, wide, scan, round]

/-- The state of head 2 after chunk 4. -/
theorem state_18 : (k0_pay391 (k0_pay331 st) (k0_pay334 (k0_pay324 (iota .tc S64x128 32 [0] iota_S64x128_d0_w32) (k0_pay320 (iota .tc S64x128 32 [0] iota_S64x128_d0_w32) lf) (k0_pay321 (iota .tc S64x128 32 [0] iota_S64x128_d0_w32))
      (k0_pay322 (iota .tc S64x128 32 [0] iota_S64x128_d0_w32) lf) (k0_pay323 (F := Ideal))) (k0_pay326 (iota .tc S64x128 32 [0] iota_S64x128_d0_w32) (k0_pay320 (iota .tc S64x128 32 [0] iota_S64x128_d0_w32) lf) (k0_pay321 (iota .tc S64x128 32 [0] iota_S64x128_d0_w32))
      (k0_pay322 (iota .tc S64x128 32 [0] iota_S64x128_d0_w32) lf) (k0_pay323 (F := Ideal))) (k0_pay328 k) (k0_pay329 v)) (k0_pay335 (k0_pay326 (iota .tc S64x128 32 [0] iota_S64x128_d0_w32)
      (k0_pay320 (iota .tc S64x128 32 [0] iota_S64x128_d0_w32) lf) (k0_pay321 (iota .tc S64x128 32 [0] iota_S64x128_d0_w32)) (k0_pay322 (iota .tc S64x128 32 [0] iota_S64x128_d0_w32) lf) (k0_pay323 (F := Ideal))))) = headState lf k v st :=
      by
  simp only [k0_pay320, k0_pay321, k0_pay322, k0_pay323, k0_pay324, k0_pay326, k0_pay328, k0_pay329, k0_pay331,
    k0_pay334, k0_pay335, k0_pay391, headState, runs, update, wide, scan, round]

/-- The output of head 2 for chunk 4. -/
theorem out_18 : (k0_pay394 (k0_pay390 k0_pay11 (k0_pay329 v) (k0_pay332 (k0_pay324 (iota .tc S64x128 32 [0] iota_S64x128_d0_w32) (k0_pay320 (iota .tc S64x128 32 [0] iota_S64x128_d0_w32) lf)
      (k0_pay321 (iota .tc S64x128 32 [0] iota_S64x128_d0_w32)) (k0_pay322 (iota .tc S64x128 32 [0] iota_S64x128_d0_w32) lf) (k0_pay323 (F := Ideal))) (k0_pay325 (iota .tc S64x128 32 [0] iota_S64x128_d0_w32) (k0_pay320 (iota .tc S64x128 32 [0] iota_S64x128_d0_w32) lf)
      (k0_pay321 (iota .tc S64x128 32 [0] iota_S64x128_d0_w32)) (k0_pay322 (iota .tc S64x128 32 [0] iota_S64x128_d0_w32) lf) (k0_pay323 (F := Ideal))) (k0_pay327 q) (k0_pay328 k) (k0_pay330 (iota .tc S64x128 32 [0] iota_S64x128_d0_w32)
      (k0_pay320 (iota .tc S64x128 32 [0] iota_S64x128_d0_w32) lf) (k0_pay321 (iota .tc S64x128 32 [0] iota_S64x128_d0_w32)) (k0_pay322 (iota .tc S64x128 32 [0] iota_S64x128_d0_w32) lf) (k0_pay323 (F := Ideal)))) (k0_pay333 (k0_pay324
      (iota .tc S64x128 32 [0] iota_S64x128_d0_w32) (k0_pay320 (iota .tc S64x128 32 [0] iota_S64x128_d0_w32) lf) (k0_pay321 (iota .tc S64x128 32 [0] iota_S64x128_d0_w32)) (k0_pay322 (iota .tc S64x128 32 [0] iota_S64x128_d0_w32) lf) (k0_pay323 (F := Ideal))) (k0_pay327 q) st))
      (k0_pay392 g) (k0_pay393 k0_pay11 (k0_pay329 v) (k0_pay332 (k0_pay324 (iota .tc S64x128 32 [0] iota_S64x128_d0_w32) (k0_pay320 (iota .tc S64x128 32 [0] iota_S64x128_d0_w32) lf) (k0_pay321
      (iota .tc S64x128 32 [0] iota_S64x128_d0_w32)) (k0_pay322 (iota .tc S64x128 32 [0] iota_S64x128_d0_w32) lf) (k0_pay323 (F := Ideal))) (k0_pay325 (iota .tc S64x128 32 [0] iota_S64x128_d0_w32) (k0_pay320 (iota .tc S64x128 32 [0] iota_S64x128_d0_w32) lf) (k0_pay321 (iota .tc S64x128 32 [0] iota_S64x128_d0_w32))
      (k0_pay322 (iota .tc S64x128 32 [0] iota_S64x128_d0_w32) lf) (k0_pay323 (F := Ideal))) (k0_pay327 q) (k0_pay328 k) (k0_pay330 (iota .tc S64x128 32 [0] iota_S64x128_d0_w32) (k0_pay320 (iota .tc S64x128 32 [0] iota_S64x128_d0_w32) lf)
      (k0_pay321 (iota .tc S64x128 32 [0] iota_S64x128_d0_w32)) (k0_pay322 (iota .tc S64x128 32 [0] iota_S64x128_d0_w32) lf) (k0_pay323 (F := Ideal)))) (k0_pay333 (k0_pay324 (iota .tc S64x128 32 [0] iota_S64x128_d0_w32) (k0_pay320 (iota .tc S64x128 32 [0] iota_S64x128_d0_w32)
      lf) (k0_pay321 (iota .tc S64x128 32 [0] iota_S64x128_d0_w32)) (k0_pay322 (iota .tc S64x128 32 [0] iota_S64x128_d0_w32) lf) (k0_pay323 (F := Ideal))) (k0_pay327 q) st)) hg) = headOut q lf k v
      hg st g := by
  simp only [k0_pay11, k0_pay320, k0_pay321, k0_pay322, k0_pay323, k0_pay324, k0_pay325, k0_pay327, k0_pay328,
    k0_pay329, k0_pay330, k0_pay331, k0_pay332, k0_pay333, k0_pay390, k0_pay392, k0_pay393, k0_pay394, headOut, runs,
    gated, mixed, score, fromState, wide, scan, round]

/-- The state of head 3 after chunk 4. -/
theorem state_19 : (k0_pay411 (k0_pay352 st) (k0_pay355 (k0_pay347 v) (k0_pay351 (iota .tc S64x128 32 [0] iota_S64x128_d0_w32) (k0_pay341 (iota .tc S64x128 32 [0] iota_S64x128_d0_w32) lf) k))
      (k0_pay356 (k0_pay344 (iota .tc S64x128 32 [0] iota_S64x128_d0_w32) (k0_pay341 (iota .tc S64x128 32 [0] iota_S64x128_d0_w32) lf)))) = headState lf k v st := by
  simp only [k0_pay341, k0_pay342, k0_pay344, k0_pay346, k0_pay347, k0_pay351, k0_pay352, k0_pay355, k0_pay356,
    k0_pay411, headState, runs, update, wide, scan, round]

/-- The output of head 3 for chunk 4. -/
theorem out_19 : (k0_pay412 k0_pay11 (k0_pay347 v) (k0_pay353 (k0_pay348 (iota .tc S64x128 32 [0] iota_S64x128_d0_w32) (k0_pay341 (iota .tc S64x128 32 [0] iota_S64x128_d0_w32) lf) q) (k0_pay349
      (iota .tc S64x128 32 [0] iota_S64x128_d0_w32) (k0_pay341 (iota .tc S64x128 32 [0] iota_S64x128_d0_w32) lf) k)) (k0_pay354 (k0_pay350 (iota .tc S64x128 32 [0] iota_S64x128_d0_w32) (k0_pay341 (iota .tc S64x128 32 [0] iota_S64x128_d0_w32) lf) q) (k0_pay352 st)) g hg) =
      headOut q lf k v hg st g := by
  simp only [k0_pay11, k0_pay341, k0_pay342, k0_pay343, k0_pay345, k0_pay346, k0_pay347, k0_pay348, k0_pay349,
    k0_pay350, k0_pay352, k0_pay353, k0_pay354, k0_pay412, headOut, runs, gated, mixed, score, fromState, wide, scan,
    round]

/-- The state of head 0 after chunk 5. -/
theorem state_20 : (k0_pay426 (k0_pay425 (k0_pay365 st) (k0_pay368 (k0_pay359 (iota .tc S64x128 32 [0] iota_S64x128_d0_w32) lf) (k0_pay361 (iota .tc S64x128 32 [0] iota_S64x128_d0_w32) lf) k v)
      (k0_pay369 (k0_pay361 (iota .tc S64x128 32 [0] iota_S64x128_d0_w32) lf)))) = headState lf k v st := by
  simp only [k0_pay359, k0_pay361, k0_pay363, k0_pay364, k0_pay365, k0_pay368, k0_pay369, k0_pay425, k0_pay426,
    headState, runs, update, wide, scan, round]

/-- The output of head 0 for chunk 5. -/
theorem out_20 : (k0_pay427 (k0_pay424 k0_pay11 (k0_pay364 v) (k0_pay366 (k0_pay359 (iota .tc S64x128 32 [0] iota_S64x128_d0_w32) lf) (k0_pay360 (iota .tc S64x128 32 [0] iota_S64x128_d0_w32) lf) q
      k) (k0_pay367 (k0_pay359 (iota .tc S64x128 32 [0] iota_S64x128_d0_w32) lf) q st)) g hg) = headOut q lf k v hg st g := by
  simp only [k0_pay11, k0_pay359, k0_pay360, k0_pay362, k0_pay363, k0_pay364, k0_pay365, k0_pay366, k0_pay367,
    k0_pay424, k0_pay427, headOut, runs, gated, mixed, score, fromState, wide, scan, round]

/-- The state of head 1 after chunk 5. -/
theorem state_21 : (k0_pay445 (k0_pay385 st) (k0_pay388 (k0_pay378 (iota .tc S64x128 32 [0] iota_S64x128_d0_w32) (k0_pay374 (iota .tc S64x128 32 [0] iota_S64x128_d0_w32) lf) (k0_pay375 (iota .tc S64x128 32 [0] iota_S64x128_d0_w32))
      (k0_pay376 (iota .tc S64x128 32 [0] iota_S64x128_d0_w32) lf) (k0_pay377 (F := Ideal))) (k0_pay380 (iota .tc S64x128 32 [0] iota_S64x128_d0_w32) (k0_pay374 (iota .tc S64x128 32 [0] iota_S64x128_d0_w32) lf) (k0_pay375 (iota .tc S64x128 32 [0] iota_S64x128_d0_w32))
      (k0_pay376 (iota .tc S64x128 32 [0] iota_S64x128_d0_w32) lf) (k0_pay377 (F := Ideal))) (k0_pay382 k) (k0_pay383 v)) (k0_pay389 (k0_pay380 (iota .tc S64x128 32 [0] iota_S64x128_d0_w32)
      (k0_pay374 (iota .tc S64x128 32 [0] iota_S64x128_d0_w32) lf) (k0_pay375 (iota .tc S64x128 32 [0] iota_S64x128_d0_w32)) (k0_pay376 (iota .tc S64x128 32 [0] iota_S64x128_d0_w32) lf) (k0_pay377 (F := Ideal))))) = headState lf k v st :=
      by
  simp only [k0_pay374, k0_pay375, k0_pay376, k0_pay377, k0_pay378, k0_pay380, k0_pay382, k0_pay383, k0_pay385,
    k0_pay388, k0_pay389, k0_pay445, headState, runs, update, wide, scan, round]

/-- The output of head 1 for chunk 5. -/
theorem out_21 : (k0_pay448 (k0_pay444 k0_pay11 (k0_pay383 v) (k0_pay386 (k0_pay378 (iota .tc S64x128 32 [0] iota_S64x128_d0_w32) (k0_pay374 (iota .tc S64x128 32 [0] iota_S64x128_d0_w32) lf)
      (k0_pay375 (iota .tc S64x128 32 [0] iota_S64x128_d0_w32)) (k0_pay376 (iota .tc S64x128 32 [0] iota_S64x128_d0_w32) lf) (k0_pay377 (F := Ideal))) (k0_pay379 (iota .tc S64x128 32 [0] iota_S64x128_d0_w32) (k0_pay374 (iota .tc S64x128 32 [0] iota_S64x128_d0_w32) lf)
      (k0_pay375 (iota .tc S64x128 32 [0] iota_S64x128_d0_w32)) (k0_pay376 (iota .tc S64x128 32 [0] iota_S64x128_d0_w32) lf) (k0_pay377 (F := Ideal))) (k0_pay381 q) (k0_pay382 k) (k0_pay384 (iota .tc S64x128 32 [0] iota_S64x128_d0_w32)
      (k0_pay374 (iota .tc S64x128 32 [0] iota_S64x128_d0_w32) lf) (k0_pay375 (iota .tc S64x128 32 [0] iota_S64x128_d0_w32)) (k0_pay376 (iota .tc S64x128 32 [0] iota_S64x128_d0_w32) lf) (k0_pay377 (F := Ideal)))) (k0_pay387 (k0_pay378
      (iota .tc S64x128 32 [0] iota_S64x128_d0_w32) (k0_pay374 (iota .tc S64x128 32 [0] iota_S64x128_d0_w32) lf) (k0_pay375 (iota .tc S64x128 32 [0] iota_S64x128_d0_w32)) (k0_pay376 (iota .tc S64x128 32 [0] iota_S64x128_d0_w32) lf) (k0_pay377 (F := Ideal))) (k0_pay381 q) st))
      (k0_pay446 g) (k0_pay447 k0_pay11 (k0_pay383 v) (k0_pay386 (k0_pay378 (iota .tc S64x128 32 [0] iota_S64x128_d0_w32) (k0_pay374 (iota .tc S64x128 32 [0] iota_S64x128_d0_w32) lf) (k0_pay375
      (iota .tc S64x128 32 [0] iota_S64x128_d0_w32)) (k0_pay376 (iota .tc S64x128 32 [0] iota_S64x128_d0_w32) lf) (k0_pay377 (F := Ideal))) (k0_pay379 (iota .tc S64x128 32 [0] iota_S64x128_d0_w32) (k0_pay374 (iota .tc S64x128 32 [0] iota_S64x128_d0_w32) lf) (k0_pay375 (iota .tc S64x128 32 [0] iota_S64x128_d0_w32))
      (k0_pay376 (iota .tc S64x128 32 [0] iota_S64x128_d0_w32) lf) (k0_pay377 (F := Ideal))) (k0_pay381 q) (k0_pay382 k) (k0_pay384 (iota .tc S64x128 32 [0] iota_S64x128_d0_w32) (k0_pay374 (iota .tc S64x128 32 [0] iota_S64x128_d0_w32) lf)
      (k0_pay375 (iota .tc S64x128 32 [0] iota_S64x128_d0_w32)) (k0_pay376 (iota .tc S64x128 32 [0] iota_S64x128_d0_w32) lf) (k0_pay377 (F := Ideal)))) (k0_pay387 (k0_pay378 (iota .tc S64x128 32 [0] iota_S64x128_d0_w32) (k0_pay374 (iota .tc S64x128 32 [0] iota_S64x128_d0_w32)
      lf) (k0_pay375 (iota .tc S64x128 32 [0] iota_S64x128_d0_w32)) (k0_pay376 (iota .tc S64x128 32 [0] iota_S64x128_d0_w32) lf) (k0_pay377 (F := Ideal))) (k0_pay381 q) st)) hg) = headOut q lf k v
      hg st g := by
  simp only [k0_pay11, k0_pay374, k0_pay375, k0_pay376, k0_pay377, k0_pay378, k0_pay379, k0_pay381, k0_pay382,
    k0_pay383, k0_pay384, k0_pay385, k0_pay386, k0_pay387, k0_pay444, k0_pay446, k0_pay447, k0_pay448, headOut, runs,
    gated, mixed, score, fromState, wide, scan, round]

/-- The state of head 2 after chunk 5. -/
theorem state_22 : (k0_pay465 (k0_pay406 st) (k0_pay409 (k0_pay401 v) (k0_pay405 (iota .tc S64x128 32 [0] iota_S64x128_d0_w32) (k0_pay395 (iota .tc S64x128 32 [0] iota_S64x128_d0_w32) lf) k))
      (k0_pay410 (k0_pay398 (iota .tc S64x128 32 [0] iota_S64x128_d0_w32) (k0_pay395 (iota .tc S64x128 32 [0] iota_S64x128_d0_w32) lf)))) = headState lf k v st := by
  simp only [k0_pay395, k0_pay396, k0_pay398, k0_pay400, k0_pay401, k0_pay405, k0_pay406, k0_pay409, k0_pay410,
    k0_pay465, headState, runs, update, wide, scan, round]

/-- The output of head 2 for chunk 5. -/
theorem out_22 : (k0_pay466 k0_pay11 (k0_pay401 v) (k0_pay407 (k0_pay402 (iota .tc S64x128 32 [0] iota_S64x128_d0_w32) (k0_pay395 (iota .tc S64x128 32 [0] iota_S64x128_d0_w32) lf) q) (k0_pay403
      (iota .tc S64x128 32 [0] iota_S64x128_d0_w32) (k0_pay395 (iota .tc S64x128 32 [0] iota_S64x128_d0_w32) lf) k)) (k0_pay408 (k0_pay404 (iota .tc S64x128 32 [0] iota_S64x128_d0_w32) (k0_pay395 (iota .tc S64x128 32 [0] iota_S64x128_d0_w32) lf) q) (k0_pay406 st)) g hg) =
      headOut q lf k v hg st g := by
  simp only [k0_pay11, k0_pay395, k0_pay396, k0_pay397, k0_pay399, k0_pay400, k0_pay401, k0_pay402, k0_pay403,
    k0_pay404, k0_pay406, k0_pay407, k0_pay408, k0_pay466, headOut, runs, gated, mixed, score, fromState, wide, scan,
    round]

/-- The state of head 3 after chunk 5. -/
theorem state_23 : (k0_pay480 (k0_pay479 (k0_pay419 st) (k0_pay422 (k0_pay413 (iota .tc S64x128 32 [0] iota_S64x128_d0_w32) lf) (k0_pay415 (iota .tc S64x128 32 [0] iota_S64x128_d0_w32) lf) k v)
      (k0_pay423 (k0_pay415 (iota .tc S64x128 32 [0] iota_S64x128_d0_w32) lf)))) = headState lf k v st := by
  simp only [k0_pay413, k0_pay415, k0_pay417, k0_pay418, k0_pay419, k0_pay422, k0_pay423, k0_pay479, k0_pay480,
    headState, runs, update, wide, scan, round]

/-- The output of head 3 for chunk 5. -/
theorem out_23 : (k0_pay481 (k0_pay478 k0_pay11 (k0_pay418 v) (k0_pay420 (k0_pay413 (iota .tc S64x128 32 [0] iota_S64x128_d0_w32) lf) (k0_pay414 (iota .tc S64x128 32 [0] iota_S64x128_d0_w32) lf) q
      k) (k0_pay421 (k0_pay413 (iota .tc S64x128 32 [0] iota_S64x128_d0_w32) lf) q st)) g hg) = headOut q lf k v hg st g := by
  simp only [k0_pay11, k0_pay413, k0_pay414, k0_pay416, k0_pay417, k0_pay418, k0_pay419, k0_pay420, k0_pay421,
    k0_pay478, k0_pay481, headOut, runs, gated, mixed, score, fromState, wide, scan, round]

/-- The state of head 0 after chunk 6. -/
theorem state_24 : (k0_pay499 (k0_pay439 st) (k0_pay442 (k0_pay432 (iota .tc S64x128 32 [0] iota_S64x128_d0_w32) (k0_pay428 (iota .tc S64x128 32 [0] iota_S64x128_d0_w32) lf) (k0_pay429 (iota .tc S64x128 32 [0] iota_S64x128_d0_w32))
      (k0_pay430 (iota .tc S64x128 32 [0] iota_S64x128_d0_w32) lf) (k0_pay431 (F := Ideal))) (k0_pay434 (iota .tc S64x128 32 [0] iota_S64x128_d0_w32) (k0_pay428 (iota .tc S64x128 32 [0] iota_S64x128_d0_w32) lf) (k0_pay429 (iota .tc S64x128 32 [0] iota_S64x128_d0_w32))
      (k0_pay430 (iota .tc S64x128 32 [0] iota_S64x128_d0_w32) lf) (k0_pay431 (F := Ideal))) (k0_pay436 k) (k0_pay437 v)) (k0_pay443 (k0_pay434 (iota .tc S64x128 32 [0] iota_S64x128_d0_w32)
      (k0_pay428 (iota .tc S64x128 32 [0] iota_S64x128_d0_w32) lf) (k0_pay429 (iota .tc S64x128 32 [0] iota_S64x128_d0_w32)) (k0_pay430 (iota .tc S64x128 32 [0] iota_S64x128_d0_w32) lf) (k0_pay431 (F := Ideal))))) = headState lf k v st :=
      by
  simp only [k0_pay428, k0_pay429, k0_pay430, k0_pay431, k0_pay432, k0_pay434, k0_pay436, k0_pay437, k0_pay439,
    k0_pay442, k0_pay443, k0_pay499, headState, runs, update, wide, scan, round]

/-- The output of head 0 for chunk 6. -/
theorem out_24 : (k0_pay502 (k0_pay498 k0_pay11 (k0_pay437 v) (k0_pay440 (k0_pay432 (iota .tc S64x128 32 [0] iota_S64x128_d0_w32) (k0_pay428 (iota .tc S64x128 32 [0] iota_S64x128_d0_w32) lf)
      (k0_pay429 (iota .tc S64x128 32 [0] iota_S64x128_d0_w32)) (k0_pay430 (iota .tc S64x128 32 [0] iota_S64x128_d0_w32) lf) (k0_pay431 (F := Ideal))) (k0_pay433 (iota .tc S64x128 32 [0] iota_S64x128_d0_w32) (k0_pay428 (iota .tc S64x128 32 [0] iota_S64x128_d0_w32) lf)
      (k0_pay429 (iota .tc S64x128 32 [0] iota_S64x128_d0_w32)) (k0_pay430 (iota .tc S64x128 32 [0] iota_S64x128_d0_w32) lf) (k0_pay431 (F := Ideal))) (k0_pay435 q) (k0_pay436 k) (k0_pay438 (iota .tc S64x128 32 [0] iota_S64x128_d0_w32)
      (k0_pay428 (iota .tc S64x128 32 [0] iota_S64x128_d0_w32) lf) (k0_pay429 (iota .tc S64x128 32 [0] iota_S64x128_d0_w32)) (k0_pay430 (iota .tc S64x128 32 [0] iota_S64x128_d0_w32) lf) (k0_pay431 (F := Ideal)))) (k0_pay441 (k0_pay432
      (iota .tc S64x128 32 [0] iota_S64x128_d0_w32) (k0_pay428 (iota .tc S64x128 32 [0] iota_S64x128_d0_w32) lf) (k0_pay429 (iota .tc S64x128 32 [0] iota_S64x128_d0_w32)) (k0_pay430 (iota .tc S64x128 32 [0] iota_S64x128_d0_w32) lf) (k0_pay431 (F := Ideal))) (k0_pay435 q) st))
      (k0_pay500 g) (k0_pay501 k0_pay11 (k0_pay437 v) (k0_pay440 (k0_pay432 (iota .tc S64x128 32 [0] iota_S64x128_d0_w32) (k0_pay428 (iota .tc S64x128 32 [0] iota_S64x128_d0_w32) lf) (k0_pay429
      (iota .tc S64x128 32 [0] iota_S64x128_d0_w32)) (k0_pay430 (iota .tc S64x128 32 [0] iota_S64x128_d0_w32) lf) (k0_pay431 (F := Ideal))) (k0_pay433 (iota .tc S64x128 32 [0] iota_S64x128_d0_w32) (k0_pay428 (iota .tc S64x128 32 [0] iota_S64x128_d0_w32) lf) (k0_pay429 (iota .tc S64x128 32 [0] iota_S64x128_d0_w32))
      (k0_pay430 (iota .tc S64x128 32 [0] iota_S64x128_d0_w32) lf) (k0_pay431 (F := Ideal))) (k0_pay435 q) (k0_pay436 k) (k0_pay438 (iota .tc S64x128 32 [0] iota_S64x128_d0_w32) (k0_pay428 (iota .tc S64x128 32 [0] iota_S64x128_d0_w32) lf)
      (k0_pay429 (iota .tc S64x128 32 [0] iota_S64x128_d0_w32)) (k0_pay430 (iota .tc S64x128 32 [0] iota_S64x128_d0_w32) lf) (k0_pay431 (F := Ideal)))) (k0_pay441 (k0_pay432 (iota .tc S64x128 32 [0] iota_S64x128_d0_w32) (k0_pay428 (iota .tc S64x128 32 [0] iota_S64x128_d0_w32)
      lf) (k0_pay429 (iota .tc S64x128 32 [0] iota_S64x128_d0_w32)) (k0_pay430 (iota .tc S64x128 32 [0] iota_S64x128_d0_w32) lf) (k0_pay431 (F := Ideal))) (k0_pay435 q) st)) hg) = headOut q lf k v
      hg st g := by
  simp only [k0_pay11, k0_pay428, k0_pay429, k0_pay430, k0_pay431, k0_pay432, k0_pay433, k0_pay435, k0_pay436,
    k0_pay437, k0_pay438, k0_pay439, k0_pay440, k0_pay441, k0_pay498, k0_pay500, k0_pay501, k0_pay502, headOut, runs,
    gated, mixed, score, fromState, wide, scan, round]

/-- The state of head 1 after chunk 6. -/
theorem state_25 : (k0_pay519 (k0_pay460 st) (k0_pay463 (k0_pay455 v) (k0_pay459 (iota .tc S64x128 32 [0] iota_S64x128_d0_w32) (k0_pay449 (iota .tc S64x128 32 [0] iota_S64x128_d0_w32) lf) k))
      (k0_pay464 (k0_pay452 (iota .tc S64x128 32 [0] iota_S64x128_d0_w32) (k0_pay449 (iota .tc S64x128 32 [0] iota_S64x128_d0_w32) lf)))) = headState lf k v st := by
  simp only [k0_pay449, k0_pay450, k0_pay452, k0_pay454, k0_pay455, k0_pay459, k0_pay460, k0_pay463, k0_pay464,
    k0_pay519, headState, runs, update, wide, scan, round]

/-- The output of head 1 for chunk 6. -/
theorem out_25 : (k0_pay520 k0_pay11 (k0_pay455 v) (k0_pay461 (k0_pay456 (iota .tc S64x128 32 [0] iota_S64x128_d0_w32) (k0_pay449 (iota .tc S64x128 32 [0] iota_S64x128_d0_w32) lf) q) (k0_pay457
      (iota .tc S64x128 32 [0] iota_S64x128_d0_w32) (k0_pay449 (iota .tc S64x128 32 [0] iota_S64x128_d0_w32) lf) k)) (k0_pay462 (k0_pay458 (iota .tc S64x128 32 [0] iota_S64x128_d0_w32) (k0_pay449 (iota .tc S64x128 32 [0] iota_S64x128_d0_w32) lf) q) (k0_pay460 st)) g hg) =
      headOut q lf k v hg st g := by
  simp only [k0_pay11, k0_pay449, k0_pay450, k0_pay451, k0_pay453, k0_pay454, k0_pay455, k0_pay456, k0_pay457,
    k0_pay458, k0_pay460, k0_pay461, k0_pay462, k0_pay520, headOut, runs, gated, mixed, score, fromState, wide, scan,
    round]

/-- The state of head 2 after chunk 6. -/
theorem state_26 : (k0_pay534 (k0_pay533 (k0_pay473 st) (k0_pay476 (k0_pay467 (iota .tc S64x128 32 [0] iota_S64x128_d0_w32) lf) (k0_pay469 (iota .tc S64x128 32 [0] iota_S64x128_d0_w32) lf) k v)
      (k0_pay477 (k0_pay469 (iota .tc S64x128 32 [0] iota_S64x128_d0_w32) lf)))) = headState lf k v st := by
  simp only [k0_pay467, k0_pay469, k0_pay471, k0_pay472, k0_pay473, k0_pay476, k0_pay477, k0_pay533, k0_pay534,
    headState, runs, update, wide, scan, round]

/-- The output of head 2 for chunk 6. -/
theorem out_26 : (k0_pay535 (k0_pay532 k0_pay11 (k0_pay472 v) (k0_pay474 (k0_pay467 (iota .tc S64x128 32 [0] iota_S64x128_d0_w32) lf) (k0_pay468 (iota .tc S64x128 32 [0] iota_S64x128_d0_w32) lf) q
      k) (k0_pay475 (k0_pay467 (iota .tc S64x128 32 [0] iota_S64x128_d0_w32) lf) q st)) g hg) = headOut q lf k v hg st g := by
  simp only [k0_pay11, k0_pay467, k0_pay468, k0_pay470, k0_pay471, k0_pay472, k0_pay473, k0_pay474, k0_pay475,
    k0_pay532, k0_pay535, headOut, runs, gated, mixed, score, fromState, wide, scan, round]

/-- The state of head 3 after chunk 6. -/
theorem state_27 : (k0_pay553 (k0_pay493 st) (k0_pay496 (k0_pay486 (iota .tc S64x128 32 [0] iota_S64x128_d0_w32) (k0_pay482 (iota .tc S64x128 32 [0] iota_S64x128_d0_w32) lf) (k0_pay483 (iota .tc S64x128 32 [0] iota_S64x128_d0_w32))
      (k0_pay484 (iota .tc S64x128 32 [0] iota_S64x128_d0_w32) lf) (k0_pay485 (F := Ideal))) (k0_pay488 (iota .tc S64x128 32 [0] iota_S64x128_d0_w32) (k0_pay482 (iota .tc S64x128 32 [0] iota_S64x128_d0_w32) lf) (k0_pay483 (iota .tc S64x128 32 [0] iota_S64x128_d0_w32))
      (k0_pay484 (iota .tc S64x128 32 [0] iota_S64x128_d0_w32) lf) (k0_pay485 (F := Ideal))) (k0_pay490 k) (k0_pay491 v)) (k0_pay497 (k0_pay488 (iota .tc S64x128 32 [0] iota_S64x128_d0_w32)
      (k0_pay482 (iota .tc S64x128 32 [0] iota_S64x128_d0_w32) lf) (k0_pay483 (iota .tc S64x128 32 [0] iota_S64x128_d0_w32)) (k0_pay484 (iota .tc S64x128 32 [0] iota_S64x128_d0_w32) lf) (k0_pay485 (F := Ideal))))) = headState lf k v st :=
      by
  simp only [k0_pay482, k0_pay483, k0_pay484, k0_pay485, k0_pay486, k0_pay488, k0_pay490, k0_pay491, k0_pay493,
    k0_pay496, k0_pay497, k0_pay553, headState, runs, update, wide, scan, round]

/-- The output of head 3 for chunk 6. -/
theorem out_27 : (k0_pay556 (k0_pay552 k0_pay11 (k0_pay491 v) (k0_pay494 (k0_pay486 (iota .tc S64x128 32 [0] iota_S64x128_d0_w32) (k0_pay482 (iota .tc S64x128 32 [0] iota_S64x128_d0_w32) lf)
      (k0_pay483 (iota .tc S64x128 32 [0] iota_S64x128_d0_w32)) (k0_pay484 (iota .tc S64x128 32 [0] iota_S64x128_d0_w32) lf) (k0_pay485 (F := Ideal))) (k0_pay487 (iota .tc S64x128 32 [0] iota_S64x128_d0_w32) (k0_pay482 (iota .tc S64x128 32 [0] iota_S64x128_d0_w32) lf)
      (k0_pay483 (iota .tc S64x128 32 [0] iota_S64x128_d0_w32)) (k0_pay484 (iota .tc S64x128 32 [0] iota_S64x128_d0_w32) lf) (k0_pay485 (F := Ideal))) (k0_pay489 q) (k0_pay490 k) (k0_pay492 (iota .tc S64x128 32 [0] iota_S64x128_d0_w32)
      (k0_pay482 (iota .tc S64x128 32 [0] iota_S64x128_d0_w32) lf) (k0_pay483 (iota .tc S64x128 32 [0] iota_S64x128_d0_w32)) (k0_pay484 (iota .tc S64x128 32 [0] iota_S64x128_d0_w32) lf) (k0_pay485 (F := Ideal)))) (k0_pay495 (k0_pay486
      (iota .tc S64x128 32 [0] iota_S64x128_d0_w32) (k0_pay482 (iota .tc S64x128 32 [0] iota_S64x128_d0_w32) lf) (k0_pay483 (iota .tc S64x128 32 [0] iota_S64x128_d0_w32)) (k0_pay484 (iota .tc S64x128 32 [0] iota_S64x128_d0_w32) lf) (k0_pay485 (F := Ideal))) (k0_pay489 q) st))
      (k0_pay554 g) (k0_pay555 k0_pay11 (k0_pay491 v) (k0_pay494 (k0_pay486 (iota .tc S64x128 32 [0] iota_S64x128_d0_w32) (k0_pay482 (iota .tc S64x128 32 [0] iota_S64x128_d0_w32) lf) (k0_pay483
      (iota .tc S64x128 32 [0] iota_S64x128_d0_w32)) (k0_pay484 (iota .tc S64x128 32 [0] iota_S64x128_d0_w32) lf) (k0_pay485 (F := Ideal))) (k0_pay487 (iota .tc S64x128 32 [0] iota_S64x128_d0_w32) (k0_pay482 (iota .tc S64x128 32 [0] iota_S64x128_d0_w32) lf) (k0_pay483 (iota .tc S64x128 32 [0] iota_S64x128_d0_w32))
      (k0_pay484 (iota .tc S64x128 32 [0] iota_S64x128_d0_w32) lf) (k0_pay485 (F := Ideal))) (k0_pay489 q) (k0_pay490 k) (k0_pay492 (iota .tc S64x128 32 [0] iota_S64x128_d0_w32) (k0_pay482 (iota .tc S64x128 32 [0] iota_S64x128_d0_w32) lf)
      (k0_pay483 (iota .tc S64x128 32 [0] iota_S64x128_d0_w32)) (k0_pay484 (iota .tc S64x128 32 [0] iota_S64x128_d0_w32) lf) (k0_pay485 (F := Ideal)))) (k0_pay495 (k0_pay486 (iota .tc S64x128 32 [0] iota_S64x128_d0_w32) (k0_pay482 (iota .tc S64x128 32 [0] iota_S64x128_d0_w32)
      lf) (k0_pay483 (iota .tc S64x128 32 [0] iota_S64x128_d0_w32)) (k0_pay484 (iota .tc S64x128 32 [0] iota_S64x128_d0_w32) lf) (k0_pay485 (F := Ideal))) (k0_pay489 q) st)) hg) = headOut q lf k v
      hg st g := by
  simp only [k0_pay11, k0_pay482, k0_pay483, k0_pay484, k0_pay485, k0_pay486, k0_pay487, k0_pay489, k0_pay490,
    k0_pay491, k0_pay492, k0_pay493, k0_pay494, k0_pay495, k0_pay552, k0_pay554, k0_pay555, k0_pay556, headOut, runs,
    gated, mixed, score, fromState, wide, scan, round]

/-- The state of head 0 after chunk 7. -/
theorem state_28 : (k0_pay573 (k0_pay514 st) (k0_pay517 (k0_pay509 v) (k0_pay513 (iota .tc S64x128 32 [0] iota_S64x128_d0_w32) (k0_pay503 (iota .tc S64x128 32 [0] iota_S64x128_d0_w32) lf) k))
      (k0_pay518 (k0_pay506 (iota .tc S64x128 32 [0] iota_S64x128_d0_w32) (k0_pay503 (iota .tc S64x128 32 [0] iota_S64x128_d0_w32) lf)))) = headState lf k v st := by
  simp only [k0_pay503, k0_pay504, k0_pay506, k0_pay508, k0_pay509, k0_pay513, k0_pay514, k0_pay517, k0_pay518,
    k0_pay573, headState, runs, update, wide, scan, round]

/-- The output of head 0 for chunk 7. -/
theorem out_28 : (k0_pay574 k0_pay11 (k0_pay509 v) (k0_pay515 (k0_pay510 (iota .tc S64x128 32 [0] iota_S64x128_d0_w32) (k0_pay503 (iota .tc S64x128 32 [0] iota_S64x128_d0_w32) lf) q) (k0_pay511
      (iota .tc S64x128 32 [0] iota_S64x128_d0_w32) (k0_pay503 (iota .tc S64x128 32 [0] iota_S64x128_d0_w32) lf) k)) (k0_pay516 (k0_pay512 (iota .tc S64x128 32 [0] iota_S64x128_d0_w32) (k0_pay503 (iota .tc S64x128 32 [0] iota_S64x128_d0_w32) lf) q) (k0_pay514 st)) g hg) =
      headOut q lf k v hg st g := by
  simp only [k0_pay11, k0_pay503, k0_pay504, k0_pay505, k0_pay507, k0_pay508, k0_pay509, k0_pay510, k0_pay511,
    k0_pay512, k0_pay514, k0_pay515, k0_pay516, k0_pay574, headOut, runs, gated, mixed, score, fromState, wide, scan,
    round]

/-- The state of head 1 after chunk 7. -/
theorem state_29 : (k0_pay588 (k0_pay587 (k0_pay527 st) (k0_pay530 (k0_pay521 (iota .tc S64x128 32 [0] iota_S64x128_d0_w32) lf) (k0_pay523 (iota .tc S64x128 32 [0] iota_S64x128_d0_w32) lf) k v)
      (k0_pay531 (k0_pay523 (iota .tc S64x128 32 [0] iota_S64x128_d0_w32) lf)))) = headState lf k v st := by
  simp only [k0_pay521, k0_pay523, k0_pay525, k0_pay526, k0_pay527, k0_pay530, k0_pay531, k0_pay587, k0_pay588,
    headState, runs, update, wide, scan, round]

/-- The output of head 1 for chunk 7. -/
theorem out_29 : (k0_pay589 (k0_pay586 k0_pay11 (k0_pay526 v) (k0_pay528 (k0_pay521 (iota .tc S64x128 32 [0] iota_S64x128_d0_w32) lf) (k0_pay522 (iota .tc S64x128 32 [0] iota_S64x128_d0_w32) lf) q
      k) (k0_pay529 (k0_pay521 (iota .tc S64x128 32 [0] iota_S64x128_d0_w32) lf) q st)) g hg) = headOut q lf k v hg st g := by
  simp only [k0_pay11, k0_pay521, k0_pay522, k0_pay524, k0_pay525, k0_pay526, k0_pay527, k0_pay528, k0_pay529,
    k0_pay586, k0_pay589, headOut, runs, gated, mixed, score, fromState, wide, scan, round]

/-- The state of head 2 after chunk 7. -/
theorem state_30 : (k0_pay607 (k0_pay547 st) (k0_pay550 (k0_pay540 (iota .tc S64x128 32 [0] iota_S64x128_d0_w32) (k0_pay536 (iota .tc S64x128 32 [0] iota_S64x128_d0_w32) lf) (k0_pay537 (iota .tc S64x128 32 [0] iota_S64x128_d0_w32))
      (k0_pay538 (iota .tc S64x128 32 [0] iota_S64x128_d0_w32) lf) (k0_pay539 (F := Ideal))) (k0_pay542 (iota .tc S64x128 32 [0] iota_S64x128_d0_w32) (k0_pay536 (iota .tc S64x128 32 [0] iota_S64x128_d0_w32) lf) (k0_pay537 (iota .tc S64x128 32 [0] iota_S64x128_d0_w32))
      (k0_pay538 (iota .tc S64x128 32 [0] iota_S64x128_d0_w32) lf) (k0_pay539 (F := Ideal))) (k0_pay544 k) (k0_pay545 v)) (k0_pay551 (k0_pay542 (iota .tc S64x128 32 [0] iota_S64x128_d0_w32)
      (k0_pay536 (iota .tc S64x128 32 [0] iota_S64x128_d0_w32) lf) (k0_pay537 (iota .tc S64x128 32 [0] iota_S64x128_d0_w32)) (k0_pay538 (iota .tc S64x128 32 [0] iota_S64x128_d0_w32) lf) (k0_pay539 (F := Ideal))))) = headState lf k v st :=
      by
  simp only [k0_pay536, k0_pay537, k0_pay538, k0_pay539, k0_pay540, k0_pay542, k0_pay544, k0_pay545, k0_pay547,
    k0_pay550, k0_pay551, k0_pay607, headState, runs, update, wide, scan, round]

/-- The output of head 2 for chunk 7. -/
theorem out_30 : (k0_pay610 (k0_pay606 k0_pay11 (k0_pay545 v) (k0_pay548 (k0_pay540 (iota .tc S64x128 32 [0] iota_S64x128_d0_w32) (k0_pay536 (iota .tc S64x128 32 [0] iota_S64x128_d0_w32) lf)
      (k0_pay537 (iota .tc S64x128 32 [0] iota_S64x128_d0_w32)) (k0_pay538 (iota .tc S64x128 32 [0] iota_S64x128_d0_w32) lf) (k0_pay539 (F := Ideal))) (k0_pay541 (iota .tc S64x128 32 [0] iota_S64x128_d0_w32) (k0_pay536 (iota .tc S64x128 32 [0] iota_S64x128_d0_w32) lf)
      (k0_pay537 (iota .tc S64x128 32 [0] iota_S64x128_d0_w32)) (k0_pay538 (iota .tc S64x128 32 [0] iota_S64x128_d0_w32) lf) (k0_pay539 (F := Ideal))) (k0_pay543 q) (k0_pay544 k) (k0_pay546 (iota .tc S64x128 32 [0] iota_S64x128_d0_w32)
      (k0_pay536 (iota .tc S64x128 32 [0] iota_S64x128_d0_w32) lf) (k0_pay537 (iota .tc S64x128 32 [0] iota_S64x128_d0_w32)) (k0_pay538 (iota .tc S64x128 32 [0] iota_S64x128_d0_w32) lf) (k0_pay539 (F := Ideal)))) (k0_pay549 (k0_pay540
      (iota .tc S64x128 32 [0] iota_S64x128_d0_w32) (k0_pay536 (iota .tc S64x128 32 [0] iota_S64x128_d0_w32) lf) (k0_pay537 (iota .tc S64x128 32 [0] iota_S64x128_d0_w32)) (k0_pay538 (iota .tc S64x128 32 [0] iota_S64x128_d0_w32) lf) (k0_pay539 (F := Ideal))) (k0_pay543 q) st))
      (k0_pay608 g) (k0_pay609 k0_pay11 (k0_pay545 v) (k0_pay548 (k0_pay540 (iota .tc S64x128 32 [0] iota_S64x128_d0_w32) (k0_pay536 (iota .tc S64x128 32 [0] iota_S64x128_d0_w32) lf) (k0_pay537
      (iota .tc S64x128 32 [0] iota_S64x128_d0_w32)) (k0_pay538 (iota .tc S64x128 32 [0] iota_S64x128_d0_w32) lf) (k0_pay539 (F := Ideal))) (k0_pay541 (iota .tc S64x128 32 [0] iota_S64x128_d0_w32) (k0_pay536 (iota .tc S64x128 32 [0] iota_S64x128_d0_w32) lf) (k0_pay537 (iota .tc S64x128 32 [0] iota_S64x128_d0_w32))
      (k0_pay538 (iota .tc S64x128 32 [0] iota_S64x128_d0_w32) lf) (k0_pay539 (F := Ideal))) (k0_pay543 q) (k0_pay544 k) (k0_pay546 (iota .tc S64x128 32 [0] iota_S64x128_d0_w32) (k0_pay536 (iota .tc S64x128 32 [0] iota_S64x128_d0_w32) lf)
      (k0_pay537 (iota .tc S64x128 32 [0] iota_S64x128_d0_w32)) (k0_pay538 (iota .tc S64x128 32 [0] iota_S64x128_d0_w32) lf) (k0_pay539 (F := Ideal)))) (k0_pay549 (k0_pay540 (iota .tc S64x128 32 [0] iota_S64x128_d0_w32) (k0_pay536 (iota .tc S64x128 32 [0] iota_S64x128_d0_w32)
      lf) (k0_pay537 (iota .tc S64x128 32 [0] iota_S64x128_d0_w32)) (k0_pay538 (iota .tc S64x128 32 [0] iota_S64x128_d0_w32) lf) (k0_pay539 (F := Ideal))) (k0_pay543 q) st)) hg) = headOut q lf k v
      hg st g := by
  simp only [k0_pay11, k0_pay536, k0_pay537, k0_pay538, k0_pay539, k0_pay540, k0_pay541, k0_pay543, k0_pay544,
    k0_pay545, k0_pay546, k0_pay547, k0_pay548, k0_pay549, k0_pay606, k0_pay608, k0_pay609, k0_pay610, headOut, runs,
    gated, mixed, score, fromState, wide, scan, round]

/-- The state of head 3 after chunk 7. -/
theorem state_31 : (k0_pay627 (k0_pay568 st) (k0_pay571 (k0_pay563 v) (k0_pay567 (iota .tc S64x128 32 [0] iota_S64x128_d0_w32) (k0_pay557 (iota .tc S64x128 32 [0] iota_S64x128_d0_w32) lf) k))
      (k0_pay572 (k0_pay560 (iota .tc S64x128 32 [0] iota_S64x128_d0_w32) (k0_pay557 (iota .tc S64x128 32 [0] iota_S64x128_d0_w32) lf)))) = headState lf k v st := by
  simp only [k0_pay557, k0_pay558, k0_pay560, k0_pay562, k0_pay563, k0_pay567, k0_pay568, k0_pay571, k0_pay572,
    k0_pay627, headState, runs, update, wide, scan, round]

/-- The output of head 3 for chunk 7. -/
theorem out_31 : (k0_pay628 k0_pay11 (k0_pay563 v) (k0_pay569 (k0_pay564 (iota .tc S64x128 32 [0] iota_S64x128_d0_w32) (k0_pay557 (iota .tc S64x128 32 [0] iota_S64x128_d0_w32) lf) q) (k0_pay565
      (iota .tc S64x128 32 [0] iota_S64x128_d0_w32) (k0_pay557 (iota .tc S64x128 32 [0] iota_S64x128_d0_w32) lf) k)) (k0_pay570 (k0_pay566 (iota .tc S64x128 32 [0] iota_S64x128_d0_w32) (k0_pay557 (iota .tc S64x128 32 [0] iota_S64x128_d0_w32) lf) q) (k0_pay568 st)) g hg) =
      headOut q lf k v hg st g := by
  simp only [k0_pay11, k0_pay557, k0_pay558, k0_pay559, k0_pay561, k0_pay562, k0_pay563, k0_pay564, k0_pay565,
    k0_pay566, k0_pay568, k0_pay569, k0_pay570, k0_pay628, headOut, runs, gated, mixed, score, fromState, wide, scan,
    round]

end Cert.Kernel7Ideal.Hgrn
-- ==== Proof.HgrnP.Units3.lean ====
module

public import proofs.«01_k».proof.Proof.Gen.Kernel7Ideal.Skeleton
public import proofs.«01_k».proof.Proof.HgrnP.Block

/-!
# What one step of the sweep stores, chunks 8 to 11

A grid point treats 16 chunks of 64 tokens for 4 heads. For each chunk and head, the stored state and the stored output
are the state and the output of the recurrence, of the values that were read.
-/

@[expose] public section

noncomputable section

namespace Cert.Kernel7Ideal.Hgrn

open Cert.Kernel7Ideal Cert.Kernel7Ideal.Gen Idealize.ShloMosaic Idealize.ShloMosaic.TcCoe Idealize.SL.Sem

variable (q : FVec Ideal S1x64x128 .bf16) (lf : FVec Ideal S1x64x128 .f32) (k v hg : FVec Ideal S1x64x128 .bf16)
  (st : FVec Ideal S1x128x128 .f32) (g : FVec Ideal S1x128 .f32)

/-- The state of head 0 after chunk 8. -/
theorem state_32 : (k0_pay642 (k0_pay641 (k0_pay581 st) (k0_pay584 (k0_pay575 (iota .tc S64x128 32 [0] iota_S64x128_d0_w32) lf) (k0_pay577 (iota .tc S64x128 32 [0] iota_S64x128_d0_w32) lf) k v)
      (k0_pay585 (k0_pay577 (iota .tc S64x128 32 [0] iota_S64x128_d0_w32) lf)))) = headState lf k v st := by
  simp only [k0_pay575, k0_pay577, k0_pay579, k0_pay580, k0_pay581, k0_pay584, k0_pay585, k0_pay641, k0_pay642,
    headState, runs, update, wide, scan, round]

/-- The output of head 0 for chunk 8. -/
theorem out_32 : (k0_pay643 (k0_pay640 k0_pay11 (k0_pay580 v) (k0_pay582 (k0_pay575 (iota .tc S64x128 32 [0] iota_S64x128_d0_w32) lf) (k0_pay576 (iota .tc S64x128 32 [0] iota_S64x128_d0_w32) lf) q
      k) (k0_pay583 (k0_pay575 (iota .tc S64x128 32 [0] iota_S64x128_d0_w32) lf) q st)) g hg) = headOut q lf k v hg st g := by
  simp only [k0_pay11, k0_pay575, k0_pay576, k0_pay578, k0_pay579, k0_pay580, k0_pay581, k0_pay582, k0_pay583,
    k0_pay640, k0_pay643, headOut, runs, gated, mixed, score, fromState, wide, scan, round]

/-- The state of head 1 after chunk 8. -/
theorem state_33 : (k0_pay661 (k0_pay601 st) (k0_pay604 (k0_pay594 (iota .tc S64x128 32 [0] iota_S64x128_d0_w32) (k0_pay590 (iota .tc S64x128 32 [0] iota_S64x128_d0_w32) lf) (k0_pay591 (iota .tc S64x128 32 [0] iota_S64x128_d0_w32))
      (k0_pay592 (iota .tc S64x128 32 [0] iota_S64x128_d0_w32) lf) (k0_pay593 (F := Ideal))) (k0_pay596 (iota .tc S64x128 32 [0] iota_S64x128_d0_w32) (k0_pay590 (iota .tc S64x128 32 [0] iota_S64x128_d0_w32) lf) (k0_pay591 (iota .tc S64x128 32 [0] iota_S64x128_d0_w32))
      (k0_pay592 (iota .tc S64x128 32 [0] iota_S64x128_d0_w32) lf) (k0_pay593 (F := Ideal))) (k0_pay598 k) (k0_pay599 v)) (k0_pay605 (k0_pay596 (iota .tc S64x128 32 [0] iota_S64x128_d0_w32)
      (k0_pay590 (iota .tc S64x128 32 [0] iota_S64x128_d0_w32) lf) (k0_pay591 (iota .tc S64x128 32 [0] iota_S64x128_d0_w32)) (k0_pay592 (iota .tc S64x128 32 [0] iota_S64x128_d0_w32) lf) (k0_pay593 (F := Ideal))))) = headState lf k v st :=
      by
  simp only [k0_pay590, k0_pay591, k0_pay592, k0_pay593, k0_pay594, k0_pay596, k0_pay598, k0_pay599, k0_pay601,
    k0_pay604, k0_pay605, k0_pay661, headState, runs, update, wide, scan, round]

/-- The output of head 1 for chunk 8. -/
theorem out_33 : (k0_pay664 (k0_pay660 k0_pay11 (k0_pay599 v) (k0_pay602 (k0_pay594 (iota .tc S64x128 32 [0] iota_S64x128_d0_w32) (k0_pay590 (iota .tc S64x128 32 [0] iota_S64x128_d0_w32) lf)
      (k0_pay591 (iota .tc S64x128 32 [0] iota_S64x128_d0_w32)) (k0_pay592 (iota .tc S64x128 32 [0] iota_S64x128_d0_w32) lf) (k0_pay593 (F := Ideal))) (k0_pay595 (iota .tc S64x128 32 [0] iota_S64x128_d0_w32) (k0_pay590 (iota .tc S64x128 32 [0] iota_S64x128_d0_w32) lf)
      (k0_pay591 (iota .tc S64x128 32 [0] iota_S64x128_d0_w32)) (k0_pay592 (iota .tc S64x128 32 [0] iota_S64x128_d0_w32) lf) (k0_pay593 (F := Ideal))) (k0_pay597 q) (k0_pay598 k) (k0_pay600 (iota .tc S64x128 32 [0] iota_S64x128_d0_w32)
      (k0_pay590 (iota .tc S64x128 32 [0] iota_S64x128_d0_w32) lf) (k0_pay591 (iota .tc S64x128 32 [0] iota_S64x128_d0_w32)) (k0_pay592 (iota .tc S64x128 32 [0] iota_S64x128_d0_w32) lf) (k0_pay593 (F := Ideal)))) (k0_pay603 (k0_pay594
      (iota .tc S64x128 32 [0] iota_S64x128_d0_w32) (k0_pay590 (iota .tc S64x128 32 [0] iota_S64x128_d0_w32) lf) (k0_pay591 (iota .tc S64x128 32 [0] iota_S64x128_d0_w32)) (k0_pay592 (iota .tc S64x128 32 [0] iota_S64x128_d0_w32) lf) (k0_pay593 (F := Ideal))) (k0_pay597 q) st))
      (k0_pay662 g) (k0_pay663 k0_pay11 (k0_pay599 v) (k0_pay602 (k0_pay594 (iota .tc S64x128 32 [0] iota_S64x128_d0_w32) (k0_pay590 (iota .tc S64x128 32 [0] iota_S64x128_d0_w32) lf) (k0_pay591
      (iota .tc S64x128 32 [0] iota_S64x128_d0_w32)) (k0_pay592 (iota .tc S64x128 32 [0] iota_S64x128_d0_w32) lf) (k0_pay593 (F := Ideal))) (k0_pay595 (iota .tc S64x128 32 [0] iota_S64x128_d0_w32) (k0_pay590 (iota .tc S64x128 32 [0] iota_S64x128_d0_w32) lf) (k0_pay591 (iota .tc S64x128 32 [0] iota_S64x128_d0_w32))
      (k0_pay592 (iota .tc S64x128 32 [0] iota_S64x128_d0_w32) lf) (k0_pay593 (F := Ideal))) (k0_pay597 q) (k0_pay598 k) (k0_pay600 (iota .tc S64x128 32 [0] iota_S64x128_d0_w32) (k0_pay590 (iota .tc S64x128 32 [0] iota_S64x128_d0_w32) lf)
      (k0_pay591 (iota .tc S64x128 32 [0] iota_S64x128_d0_w32)) (k0_pay592 (iota .tc S64x128 32 [0] iota_S64x128_d0_w32) lf) (k0_pay593 (F := Ideal)))) (k0_pay603 (k0_pay594 (iota .tc S64x128 32 [0] iota_S64x128_d0_w32) (k0_pay590 (iota .tc S64x128 32 [0] iota_S64x128_d0_w32)
      lf) (k0_pay591 (iota .tc S64x128 32 [0] iota_S64x128_d0_w32)) (k0_pay592 (iota .tc S64x128 32 [0] iota_S64x128_d0_w32) lf) (k0_pay593 (F := Ideal))) (k0_pay597 q) st)) hg) = headOut q lf k v
      hg st g := by
  simp only [k0_pay11, k0_pay590, k0_pay591, k0_pay592, k0_pay593, k0_pay594, k0_pay595, k0_pay597, k0_pay598,
    k0_pay599, k0_pay600, k0_pay601, k0_pay602, k0_pay603, k0_pay660, k0_pay662, k0_pay663, k0_pay664, headOut, runs,
    gated, mixed, score, fromState, wide, scan, round]

/-- The state of head 2 after chunk 8. -/
theorem state_34 : (k0_pay681 (k0_pay622 st) (k0_pay625 (k0_pay617 v) (k0_pay621 (iota .tc S64x128 32 [0] iota_S64x128_d0_w32) (k0_pay611 (iota .tc S64x128 32 [0] iota_S64x128_d0_w32) lf) k))
      (k0_pay626 (k0_pay614 (iota .tc S64x128 32 [0] iota_S64x128_d0_w32) (k0_pay611 (iota .tc S64x128 32 [0] iota_S64x128_d0_w32) lf)))) = headState lf k v st := by
  simp only [k0_pay611, k0_pay612, k0_pay614, k0_pay616, k0_pay617, k0_pay621, k0_pay622, k0_pay625, k0_pay626,
    k0_pay681, headState, runs, update, wide, scan, round]

/-- The output of head 2 for chunk 8. -/
theorem out_34 : (k0_pay682 k0_pay11 (k0_pay617 v) (k0_pay623 (k0_pay618 (iota .tc S64x128 32 [0] iota_S64x128_d0_w32) (k0_pay611 (iota .tc S64x128 32 [0] iota_S64x128_d0_w32) lf) q) (k0_pay619
      (iota .tc S64x128 32 [0] iota_S64x128_d0_w32) (k0_pay611 (iota .tc S64x128 32 [0] iota_S64x128_d0_w32) lf) k)) (k0_pay624 (k0_pay620 (iota .tc S64x128 32 [0] iota_S64x128_d0_w32) (k0_pay611 (iota .tc S64x128 32 [0] iota_S64x128_d0_w32) lf) q) (k0_pay622 st)) g hg) =
      headOut q lf k v hg st g := by
  simp only [k0_pay11, k0_pay611, k0_pay612, k0_pay613, k0_pay615, k0_pay616, k0_pay617, k0_pay618, k0_pay619,
    k0_pay620, k0_pay622, k0_pay623, k0_pay624, k0_pay682, headOut, runs, gated, mixed, score, fromState, wide, scan,
    round]

/-- The state of head 3 after chunk 8. -/
theorem state_35 : (k0_pay696 (k0_pay695 (k0_pay635 st) (k0_pay638 (k0_pay629 (iota .tc S64x128 32 [0] iota_S64x128_d0_w32) lf) (k0_pay631 (iota .tc S64x128 32 [0] iota_S64x128_d0_w32) lf) k v)
      (k0_pay639 (k0_pay631 (iota .tc S64x128 32 [0] iota_S64x128_d0_w32) lf)))) = headState lf k v st := by
  simp only [k0_pay629, k0_pay631, k0_pay633, k0_pay634, k0_pay635, k0_pay638, k0_pay639, k0_pay695, k0_pay696,
    headState, runs, update, wide, scan, round]

/-- The output of head 3 for chunk 8. -/
theorem out_35 : (k0_pay697 (k0_pay694 k0_pay11 (k0_pay634 v) (k0_pay636 (k0_pay629 (iota .tc S64x128 32 [0] iota_S64x128_d0_w32) lf) (k0_pay630 (iota .tc S64x128 32 [0] iota_S64x128_d0_w32) lf) q
      k) (k0_pay637 (k0_pay629 (iota .tc S64x128 32 [0] iota_S64x128_d0_w32) lf) q st)) g hg) = headOut q lf k v hg st g := by
  simp only [k0_pay11, k0_pay629, k0_pay630, k0_pay632, k0_pay633, k0_pay634, k0_pay635, k0_pay636, k0_pay637,
    k0_pay694, k0_pay697, headOut, runs, gated, mixed, score, fromState, wide, scan, round]

/-- The state of head 0 after chunk 9. -/
theorem state_36 : (k0_pay715 (k0_pay655 st) (k0_pay658 (k0_pay648 (iota .tc S64x128 32 [0] iota_S64x128_d0_w32) (k0_pay644 (iota .tc S64x128 32 [0] iota_S64x128_d0_w32) lf) (k0_pay645 (iota .tc S64x128 32 [0] iota_S64x128_d0_w32))
      (k0_pay646 (iota .tc S64x128 32 [0] iota_S64x128_d0_w32) lf) (k0_pay647 (F := Ideal))) (k0_pay650 (iota .tc S64x128 32 [0] iota_S64x128_d0_w32) (k0_pay644 (iota .tc S64x128 32 [0] iota_S64x128_d0_w32) lf) (k0_pay645 (iota .tc S64x128 32 [0] iota_S64x128_d0_w32))
      (k0_pay646 (iota .tc S64x128 32 [0] iota_S64x128_d0_w32) lf) (k0_pay647 (F := Ideal))) (k0_pay652 k) (k0_pay653 v)) (k0_pay659 (k0_pay650 (iota .tc S64x128 32 [0] iota_S64x128_d0_w32)
      (k0_pay644 (iota .tc S64x128 32 [0] iota_S64x128_d0_w32) lf) (k0_pay645 (iota .tc S64x128 32 [0] iota_S64x128_d0_w32)) (k0_pay646 (iota .tc S64x128 32 [0] iota_S64x128_d0_w32) lf) (k0_pay647 (F := Ideal))))) = headState lf k v st :=
      by
  simp only [k0_pay644, k0_pay645, k0_pay646, k0_pay647, k0_pay648, k0_pay650, k0_pay652, k0_pay653, k0_pay655,
    k0_pay658, k0_pay659, k0_pay715, headState, runs, update, wide, scan, round]

/-- The output of head 0 for chunk 9. -/
theorem out_36 : (k0_pay718 (k0_pay714 k0_pay11 (k0_pay653 v) (k0_pay656 (k0_pay648 (iota .tc S64x128 32 [0] iota_S64x128_d0_w32) (k0_pay644 (iota .tc S64x128 32 [0] iota_S64x128_d0_w32) lf)
      (k0_pay645 (iota .tc S64x128 32 [0] iota_S64x128_d0_w32)) (k0_pay646 (iota .tc S64x128 32 [0] iota_S64x128_d0_w32) lf) (k0_pay647 (F := Ideal))) (k0_pay649 (iota .tc S64x128 32 [0] iota_S64x128_d0_w32) (k0_pay644 (iota .tc S64x128 32 [0] iota_S64x128_d0_w32) lf)
      (k0_pay645 (iota .tc S64x128 32 [0] iota_S64x128_d0_w32)) (k0_pay646 (iota .tc S64x128 32 [0] iota_S64x128_d0_w32) lf) (k0_pay647 (F := Ideal))) (k0_pay651 q) (k0_pay652 k) (k0_pay654 (iota .tc S64x128 32 [0] iota_S64x128_d0_w32)
      (k0_pay644 (iota .tc S64x128 32 [0] iota_S64x128_d0_w32) lf) (k0_pay645 (iota .tc S64x128 32 [0] iota_S64x128_d0_w32)) (k0_pay646 (iota .tc S64x128 32 [0] iota_S64x128_d0_w32) lf) (k0_pay647 (F := Ideal)))) (k0_pay657 (k0_pay648
      (iota .tc S64x128 32 [0] iota_S64x128_d0_w32) (k0_pay644 (iota .tc S64x128 32 [0] iota_S64x128_d0_w32) lf) (k0_pay645 (iota .tc S64x128 32 [0] iota_S64x128_d0_w32)) (k0_pay646 (iota .tc S64x128 32 [0] iota_S64x128_d0_w32) lf) (k0_pay647 (F := Ideal))) (k0_pay651 q) st))
      (k0_pay716 g) (k0_pay717 k0_pay11 (k0_pay653 v) (k0_pay656 (k0_pay648 (iota .tc S64x128 32 [0] iota_S64x128_d0_w32) (k0_pay644 (iota .tc S64x128 32 [0] iota_S64x128_d0_w32) lf) (k0_pay645
      (iota .tc S64x128 32 [0] iota_S64x128_d0_w32)) (k0_pay646 (iota .tc S64x128 32 [0] iota_S64x128_d0_w32) lf) (k0_pay647 (F := Ideal))) (k0_pay649 (iota .tc S64x128 32 [0] iota_S64x128_d0_w32) (k0_pay644 (iota .tc S64x128 32 [0] iota_S64x128_d0_w32) lf) (k0_pay645 (iota .tc S64x128 32 [0] iota_S64x128_d0_w32))
      (k0_pay646 (iota .tc S64x128 32 [0] iota_S64x128_d0_w32) lf) (k0_pay647 (F := Ideal))) (k0_pay651 q) (k0_pay652 k) (k0_pay654 (iota .tc S64x128 32 [0] iota_S64x128_d0_w32) (k0_pay644 (iota .tc S64x128 32 [0] iota_S64x128_d0_w32) lf)
      (k0_pay645 (iota .tc S64x128 32 [0] iota_S64x128_d0_w32)) (k0_pay646 (iota .tc S64x128 32 [0] iota_S64x128_d0_w32) lf) (k0_pay647 (F := Ideal)))) (k0_pay657 (k0_pay648 (iota .tc S64x128 32 [0] iota_S64x128_d0_w32) (k0_pay644 (iota .tc S64x128 32 [0] iota_S64x128_d0_w32)
      lf) (k0_pay645 (iota .tc S64x128 32 [0] iota_S64x128_d0_w32)) (k0_pay646 (iota .tc S64x128 32 [0] iota_S64x128_d0_w32) lf) (k0_pay647 (F := Ideal))) (k0_pay651 q) st)) hg) = headOut q lf k v
      hg st g := by
  simp only [k0_pay11, k0_pay644, k0_pay645, k0_pay646, k0_pay647, k0_pay648, k0_pay649, k0_pay651, k0_pay652,
    k0_pay653, k0_pay654, k0_pay655, k0_pay656, k0_pay657, k0_pay714, k0_pay716, k0_pay717, k0_pay718, headOut, runs,
    gated, mixed, score, fromState, wide, scan, round]

/-- The state of head 1 after chunk 9. -/
theorem state_37 : (k0_pay735 (k0_pay676 st) (k0_pay679 (k0_pay671 v) (k0_pay675 (iota .tc S64x128 32 [0] iota_S64x128_d0_w32) (k0_pay665 (iota .tc S64x128 32 [0] iota_S64x128_d0_w32) lf) k))
      (k0_pay680 (k0_pay668 (iota .tc S64x128 32 [0] iota_S64x128_d0_w32) (k0_pay665 (iota .tc S64x128 32 [0] iota_S64x128_d0_w32) lf)))) = headState lf k v st := by
  simp only [k0_pay665, k0_pay666, k0_pay668, k0_pay670, k0_pay671, k0_pay675, k0_pay676, k0_pay679, k0_pay680,
    k0_pay735, headState, runs, update, wide, scan, round]

/-- The output of head 1 for chunk 9. -/
theorem out_37 : (k0_pay736 k0_pay11 (k0_pay671 v) (k0_pay677 (k0_pay672 (iota .tc S64x128 32 [0] iota_S64x128_d0_w32) (k0_pay665 (iota .tc S64x128 32 [0] iota_S64x128_d0_w32) lf) q) (k0_pay673
      (iota .tc S64x128 32 [0] iota_S64x128_d0_w32) (k0_pay665 (iota .tc S64x128 32 [0] iota_S64x128_d0_w32) lf) k)) (k0_pay678 (k0_pay674 (iota .tc S64x128 32 [0] iota_S64x128_d0_w32) (k0_pay665 (iota .tc S64x128 32 [0] iota_S64x128_d0_w32) lf) q) (k0_pay676 st)) g hg) =
      headOut q lf k v hg st g := by
  simp only [k0_pay11, k0_pay665, k0_pay666, k0_pay667, k0_pay669, k0_pay670, k0_pay671, k0_pay672, k0_pay673,
    k0_pay674, k0_pay676, k0_pay677, k0_pay678, k0_pay736, headOut, runs, gated, mixed, score, fromState, wide, scan,
    round]

/-- The state of head 2 after chunk 9. -/
theorem state_38 : (k0_pay750 (k0_pay749 (k0_pay689 st) (k0_pay692 (k0_pay683 (iota .tc S64x128 32 [0] iota_S64x128_d0_w32) lf) (k0_pay685 (iota .tc S64x128 32 [0] iota_S64x128_d0_w32) lf) k v)
      (k0_pay693 (k0_pay685 (iota .tc S64x128 32 [0] iota_S64x128_d0_w32) lf)))) = headState lf k v st := by
  simp only [k0_pay683, k0_pay685, k0_pay687, k0_pay688, k0_pay689, k0_pay692, k0_pay693, k0_pay749, k0_pay750,
    headState, runs, update, wide, scan, round]

/-- The output of head 2 for chunk 9. -/
theorem out_38 : (k0_pay751 (k0_pay748 k0_pay11 (k0_pay688 v) (k0_pay690 (k0_pay683 (iota .tc S64x128 32 [0] iota_S64x128_d0_w32) lf) (k0_pay684 (iota .tc S64x128 32 [0] iota_S64x128_d0_w32) lf) q
      k) (k0_pay691 (k0_pay683 (iota .tc S64x128 32 [0] iota_S64x128_d0_w32) lf) q st)) g hg) = headOut q lf k v hg st g := by
  simp only [k0_pay11, k0_pay683, k0_pay684, k0_pay686, k0_pay687, k0_pay688, k0_pay689, k0_pay690, k0_pay691,
    k0_pay748, k0_pay751, headOut, runs, gated, mixed, score, fromState, wide, scan, round]

/-- The state of head 3 after chunk 9. -/
theorem state_39 : (k0_pay769 (k0_pay709 st) (k0_pay712 (k0_pay702 (iota .tc S64x128 32 [0] iota_S64x128_d0_w32) (k0_pay698 (iota .tc S64x128 32 [0] iota_S64x128_d0_w32) lf) (k0_pay699 (iota .tc S64x128 32 [0] iota_S64x128_d0_w32))
      (k0_pay700 (iota .tc S64x128 32 [0] iota_S64x128_d0_w32) lf) (k0_pay701 (F := Ideal))) (k0_pay704 (iota .tc S64x128 32 [0] iota_S64x128_d0_w32) (k0_pay698 (iota .tc S64x128 32 [0] iota_S64x128_d0_w32) lf) (k0_pay699 (iota .tc S64x128 32 [0] iota_S64x128_d0_w32))
      (k0_pay700 (iota .tc S64x128 32 [0] iota_S64x128_d0_w32) lf) (k0_pay701 (F := Ideal))) (k0_pay706 k) (k0_pay707 v)) (k0_pay713 (k0_pay704 (iota .tc S64x128 32 [0] iota_S64x128_d0_w32)
      (k0_pay698 (iota .tc S64x128 32 [0] iota_S64x128_d0_w32) lf) (k0_pay699 (iota .tc S64x128 32 [0] iota_S64x128_d0_w32)) (k0_pay700 (iota .tc S64x128 32 [0] iota_S64x128_d0_w32) lf) (k0_pay701 (F := Ideal))))) = headState lf k v st :=
      by
  simp only [k0_pay698, k0_pay699, k0_pay700, k0_pay701, k0_pay702, k0_pay704, k0_pay706, k0_pay707, k0_pay709,
    k0_pay712, k0_pay713, k0_pay769, headState, runs, update, wide, scan, round]

/-- The output of head 3 for chunk 9. -/
theorem out_39 : (k0_pay772 (k0_pay768 k0_pay11 (k0_pay707 v) (k0_pay710 (k0_pay702 (iota .tc S64x128 32 [0] iota_S64x128_d0_w32) (k0_pay698 (iota .tc S64x128 32 [0] iota_S64x128_d0_w32) lf)
      (k0_pay699 (iota .tc S64x128 32 [0] iota_S64x128_d0_w32)) (k0_pay700 (iota .tc S64x128 32 [0] iota_S64x128_d0_w32) lf) (k0_pay701 (F := Ideal))) (k0_pay703 (iota .tc S64x128 32 [0] iota_S64x128_d0_w32) (k0_pay698 (iota .tc S64x128 32 [0] iota_S64x128_d0_w32) lf)
      (k0_pay699 (iota .tc S64x128 32 [0] iota_S64x128_d0_w32)) (k0_pay700 (iota .tc S64x128 32 [0] iota_S64x128_d0_w32) lf) (k0_pay701 (F := Ideal))) (k0_pay705 q) (k0_pay706 k) (k0_pay708 (iota .tc S64x128 32 [0] iota_S64x128_d0_w32)
      (k0_pay698 (iota .tc S64x128 32 [0] iota_S64x128_d0_w32) lf) (k0_pay699 (iota .tc S64x128 32 [0] iota_S64x128_d0_w32)) (k0_pay700 (iota .tc S64x128 32 [0] iota_S64x128_d0_w32) lf) (k0_pay701 (F := Ideal)))) (k0_pay711 (k0_pay702
      (iota .tc S64x128 32 [0] iota_S64x128_d0_w32) (k0_pay698 (iota .tc S64x128 32 [0] iota_S64x128_d0_w32) lf) (k0_pay699 (iota .tc S64x128 32 [0] iota_S64x128_d0_w32)) (k0_pay700 (iota .tc S64x128 32 [0] iota_S64x128_d0_w32) lf) (k0_pay701 (F := Ideal))) (k0_pay705 q) st))
      (k0_pay770 g) (k0_pay771 k0_pay11 (k0_pay707 v) (k0_pay710 (k0_pay702 (iota .tc S64x128 32 [0] iota_S64x128_d0_w32) (k0_pay698 (iota .tc S64x128 32 [0] iota_S64x128_d0_w32) lf) (k0_pay699
      (iota .tc S64x128 32 [0] iota_S64x128_d0_w32)) (k0_pay700 (iota .tc S64x128 32 [0] iota_S64x128_d0_w32) lf) (k0_pay701 (F := Ideal))) (k0_pay703 (iota .tc S64x128 32 [0] iota_S64x128_d0_w32) (k0_pay698 (iota .tc S64x128 32 [0] iota_S64x128_d0_w32) lf) (k0_pay699 (iota .tc S64x128 32 [0] iota_S64x128_d0_w32))
      (k0_pay700 (iota .tc S64x128 32 [0] iota_S64x128_d0_w32) lf) (k0_pay701 (F := Ideal))) (k0_pay705 q) (k0_pay706 k) (k0_pay708 (iota .tc S64x128 32 [0] iota_S64x128_d0_w32) (k0_pay698 (iota .tc S64x128 32 [0] iota_S64x128_d0_w32) lf)
      (k0_pay699 (iota .tc S64x128 32 [0] iota_S64x128_d0_w32)) (k0_pay700 (iota .tc S64x128 32 [0] iota_S64x128_d0_w32) lf) (k0_pay701 (F := Ideal)))) (k0_pay711 (k0_pay702 (iota .tc S64x128 32 [0] iota_S64x128_d0_w32) (k0_pay698 (iota .tc S64x128 32 [0] iota_S64x128_d0_w32)
      lf) (k0_pay699 (iota .tc S64x128 32 [0] iota_S64x128_d0_w32)) (k0_pay700 (iota .tc S64x128 32 [0] iota_S64x128_d0_w32) lf) (k0_pay701 (F := Ideal))) (k0_pay705 q) st)) hg) = headOut q lf k v
      hg st g := by
  simp only [k0_pay11, k0_pay698, k0_pay699, k0_pay700, k0_pay701, k0_pay702, k0_pay703, k0_pay705, k0_pay706,
    k0_pay707, k0_pay708, k0_pay709, k0_pay710, k0_pay711, k0_pay768, k0_pay770, k0_pay771, k0_pay772, headOut, runs,
    gated, mixed, score, fromState, wide, scan, round]

/-- The state of head 0 after chunk 10. -/
theorem state_40 : (k0_pay789 (k0_pay730 st) (k0_pay733 (k0_pay725 v) (k0_pay729 (iota .tc S64x128 32 [0] iota_S64x128_d0_w32) (k0_pay719 (iota .tc S64x128 32 [0] iota_S64x128_d0_w32) lf) k))
      (k0_pay734 (k0_pay722 (iota .tc S64x128 32 [0] iota_S64x128_d0_w32) (k0_pay719 (iota .tc S64x128 32 [0] iota_S64x128_d0_w32) lf)))) = headState lf k v st := by
  simp only [k0_pay719, k0_pay720, k0_pay722, k0_pay724, k0_pay725, k0_pay729, k0_pay730, k0_pay733, k0_pay734,
    k0_pay789, headState, runs, update, wide, scan, round]

/-- The output of head 0 for chunk 10. -/
theorem out_40 : (k0_pay790 k0_pay11 (k0_pay725 v) (k0_pay731 (k0_pay726 (iota .tc S64x128 32 [0] iota_S64x128_d0_w32) (k0_pay719 (iota .tc S64x128 32 [0] iota_S64x128_d0_w32) lf) q) (k0_pay727
      (iota .tc S64x128 32 [0] iota_S64x128_d0_w32) (k0_pay719 (iota .tc S64x128 32 [0] iota_S64x128_d0_w32) lf) k)) (k0_pay732 (k0_pay728 (iota .tc S64x128 32 [0] iota_S64x128_d0_w32) (k0_pay719 (iota .tc S64x128 32 [0] iota_S64x128_d0_w32) lf) q) (k0_pay730 st)) g hg) =
      headOut q lf k v hg st g := by
  simp only [k0_pay11, k0_pay719, k0_pay720, k0_pay721, k0_pay723, k0_pay724, k0_pay725, k0_pay726, k0_pay727,
    k0_pay728, k0_pay730, k0_pay731, k0_pay732, k0_pay790, headOut, runs, gated, mixed, score, fromState, wide, scan,
    round]

/-- The state of head 1 after chunk 10. -/
theorem state_41 : (k0_pay804 (k0_pay803 (k0_pay743 st) (k0_pay746 (k0_pay737 (iota .tc S64x128 32 [0] iota_S64x128_d0_w32) lf) (k0_pay739 (iota .tc S64x128 32 [0] iota_S64x128_d0_w32) lf) k v)
      (k0_pay747 (k0_pay739 (iota .tc S64x128 32 [0] iota_S64x128_d0_w32) lf)))) = headState lf k v st := by
  simp only [k0_pay737, k0_pay739, k0_pay741, k0_pay742, k0_pay743, k0_pay746, k0_pay747, k0_pay803, k0_pay804,
    headState, runs, update, wide, scan, round]

/-- The output of head 1 for chunk 10. -/
theorem out_41 : (k0_pay805 (k0_pay802 k0_pay11 (k0_pay742 v) (k0_pay744 (k0_pay737 (iota .tc S64x128 32 [0] iota_S64x128_d0_w32) lf) (k0_pay738 (iota .tc S64x128 32 [0] iota_S64x128_d0_w32) lf) q
      k) (k0_pay745 (k0_pay737 (iota .tc S64x128 32 [0] iota_S64x128_d0_w32) lf) q st)) g hg) = headOut q lf k v hg st g := by
  simp only [k0_pay11, k0_pay737, k0_pay738, k0_pay740, k0_pay741, k0_pay742, k0_pay743, k0_pay744, k0_pay745,
    k0_pay802, k0_pay805, headOut, runs, gated, mixed, score, fromState, wide, scan, round]

/-- The state of head 2 after chunk 10. -/
theorem state_42 : (k0_pay823 (k0_pay763 st) (k0_pay766 (k0_pay756 (iota .tc S64x128 32 [0] iota_S64x128_d0_w32) (k0_pay752 (iota .tc S64x128 32 [0] iota_S64x128_d0_w32) lf) (k0_pay753 (iota .tc S64x128 32 [0] iota_S64x128_d0_w32))
      (k0_pay754 (iota .tc S64x128 32 [0] iota_S64x128_d0_w32) lf) (k0_pay755 (F := Ideal))) (k0_pay758 (iota .tc S64x128 32 [0] iota_S64x128_d0_w32) (k0_pay752 (iota .tc S64x128 32 [0] iota_S64x128_d0_w32) lf) (k0_pay753 (iota .tc S64x128 32 [0] iota_S64x128_d0_w32))
      (k0_pay754 (iota .tc S64x128 32 [0] iota_S64x128_d0_w32) lf) (k0_pay755 (F := Ideal))) (k0_pay760 k) (k0_pay761 v)) (k0_pay767 (k0_pay758 (iota .tc S64x128 32 [0] iota_S64x128_d0_w32)
      (k0_pay752 (iota .tc S64x128 32 [0] iota_S64x128_d0_w32) lf) (k0_pay753 (iota .tc S64x128 32 [0] iota_S64x128_d0_w32)) (k0_pay754 (iota .tc S64x128 32 [0] iota_S64x128_d0_w32) lf) (k0_pay755 (F := Ideal))))) = headState lf k v st :=
      by
  simp only [k0_pay752, k0_pay753, k0_pay754, k0_pay755, k0_pay756, k0_pay758, k0_pay760, k0_pay761, k0_pay763,
    k0_pay766, k0_pay767, k0_pay823, headState, runs, update, wide, scan, round]

/-- The output of head 2 for chunk 10. -/
theorem out_42 : (k0_pay826 (k0_pay822 k0_pay11 (k0_pay761 v) (k0_pay764 (k0_pay756 (iota .tc S64x128 32 [0] iota_S64x128_d0_w32) (k0_pay752 (iota .tc S64x128 32 [0] iota_S64x128_d0_w32) lf)
      (k0_pay753 (iota .tc S64x128 32 [0] iota_S64x128_d0_w32)) (k0_pay754 (iota .tc S64x128 32 [0] iota_S64x128_d0_w32) lf) (k0_pay755 (F := Ideal))) (k0_pay757 (iota .tc S64x128 32 [0] iota_S64x128_d0_w32) (k0_pay752 (iota .tc S64x128 32 [0] iota_S64x128_d0_w32) lf)
      (k0_pay753 (iota .tc S64x128 32 [0] iota_S64x128_d0_w32)) (k0_pay754 (iota .tc S64x128 32 [0] iota_S64x128_d0_w32) lf) (k0_pay755 (F := Ideal))) (k0_pay759 q) (k0_pay760 k) (k0_pay762 (iota .tc S64x128 32 [0] iota_S64x128_d0_w32)
      (k0_pay752 (iota .tc S64x128 32 [0] iota_S64x128_d0_w32) lf) (k0_pay753 (iota .tc S64x128 32 [0] iota_S64x128_d0_w32)) (k0_pay754 (iota .tc S64x128 32 [0] iota_S64x128_d0_w32) lf) (k0_pay755 (F := Ideal)))) (k0_pay765 (k0_pay756
      (iota .tc S64x128 32 [0] iota_S64x128_d0_w32) (k0_pay752 (iota .tc S64x128 32 [0] iota_S64x128_d0_w32) lf) (k0_pay753 (iota .tc S64x128 32 [0] iota_S64x128_d0_w32)) (k0_pay754 (iota .tc S64x128 32 [0] iota_S64x128_d0_w32) lf) (k0_pay755 (F := Ideal))) (k0_pay759 q) st))
      (k0_pay824 g) (k0_pay825 k0_pay11 (k0_pay761 v) (k0_pay764 (k0_pay756 (iota .tc S64x128 32 [0] iota_S64x128_d0_w32) (k0_pay752 (iota .tc S64x128 32 [0] iota_S64x128_d0_w32) lf) (k0_pay753
      (iota .tc S64x128 32 [0] iota_S64x128_d0_w32)) (k0_pay754 (iota .tc S64x128 32 [0] iota_S64x128_d0_w32) lf) (k0_pay755 (F := Ideal))) (k0_pay757 (iota .tc S64x128 32 [0] iota_S64x128_d0_w32) (k0_pay752 (iota .tc S64x128 32 [0] iota_S64x128_d0_w32) lf) (k0_pay753 (iota .tc S64x128 32 [0] iota_S64x128_d0_w32))
      (k0_pay754 (iota .tc S64x128 32 [0] iota_S64x128_d0_w32) lf) (k0_pay755 (F := Ideal))) (k0_pay759 q) (k0_pay760 k) (k0_pay762 (iota .tc S64x128 32 [0] iota_S64x128_d0_w32) (k0_pay752 (iota .tc S64x128 32 [0] iota_S64x128_d0_w32) lf)
      (k0_pay753 (iota .tc S64x128 32 [0] iota_S64x128_d0_w32)) (k0_pay754 (iota .tc S64x128 32 [0] iota_S64x128_d0_w32) lf) (k0_pay755 (F := Ideal)))) (k0_pay765 (k0_pay756 (iota .tc S64x128 32 [0] iota_S64x128_d0_w32) (k0_pay752 (iota .tc S64x128 32 [0] iota_S64x128_d0_w32)
      lf) (k0_pay753 (iota .tc S64x128 32 [0] iota_S64x128_d0_w32)) (k0_pay754 (iota .tc S64x128 32 [0] iota_S64x128_d0_w32) lf) (k0_pay755 (F := Ideal))) (k0_pay759 q) st)) hg) = headOut q lf k v
      hg st g := by
  simp only [k0_pay11, k0_pay752, k0_pay753, k0_pay754, k0_pay755, k0_pay756, k0_pay757, k0_pay759, k0_pay760,
    k0_pay761, k0_pay762, k0_pay763, k0_pay764, k0_pay765, k0_pay822, k0_pay824, k0_pay825, k0_pay826, headOut, runs,
    gated, mixed, score, fromState, wide, scan, round]

/-- The state of head 3 after chunk 10. -/
theorem state_43 : (k0_pay843 (k0_pay784 st) (k0_pay787 (k0_pay779 v) (k0_pay783 (iota .tc S64x128 32 [0] iota_S64x128_d0_w32) (k0_pay773 (iota .tc S64x128 32 [0] iota_S64x128_d0_w32) lf) k))
      (k0_pay788 (k0_pay776 (iota .tc S64x128 32 [0] iota_S64x128_d0_w32) (k0_pay773 (iota .tc S64x128 32 [0] iota_S64x128_d0_w32) lf)))) = headState lf k v st := by
  simp only [k0_pay773, k0_pay774, k0_pay776, k0_pay778, k0_pay779, k0_pay783, k0_pay784, k0_pay787, k0_pay788,
    k0_pay843, headState, runs, update, wide, scan, round]

/-- The output of head 3 for chunk 10. -/
theorem out_43 : (k0_pay844 k0_pay11 (k0_pay779 v) (k0_pay785 (k0_pay780 (iota .tc S64x128 32 [0] iota_S64x128_d0_w32) (k0_pay773 (iota .tc S64x128 32 [0] iota_S64x128_d0_w32) lf) q) (k0_pay781
      (iota .tc S64x128 32 [0] iota_S64x128_d0_w32) (k0_pay773 (iota .tc S64x128 32 [0] iota_S64x128_d0_w32) lf) k)) (k0_pay786 (k0_pay782 (iota .tc S64x128 32 [0] iota_S64x128_d0_w32) (k0_pay773 (iota .tc S64x128 32 [0] iota_S64x128_d0_w32) lf) q) (k0_pay784 st)) g hg) =
      headOut q lf k v hg st g := by
  simp only [k0_pay11, k0_pay773, k0_pay774, k0_pay775, k0_pay777, k0_pay778, k0_pay779, k0_pay780, k0_pay781,
    k0_pay782, k0_pay784, k0_pay785, k0_pay786, k0_pay844, headOut, runs, gated, mixed, score, fromState, wide, scan,
    round]

/-- The state of head 0 after chunk 11. -/
theorem state_44 : (k0_pay858 (k0_pay857 (k0_pay797 st) (k0_pay800 (k0_pay791 (iota .tc S64x128 32 [0] iota_S64x128_d0_w32) lf) (k0_pay793 (iota .tc S64x128 32 [0] iota_S64x128_d0_w32) lf) k v)
      (k0_pay801 (k0_pay793 (iota .tc S64x128 32 [0] iota_S64x128_d0_w32) lf)))) = headState lf k v st := by
  simp only [k0_pay791, k0_pay793, k0_pay795, k0_pay796, k0_pay797, k0_pay800, k0_pay801, k0_pay857, k0_pay858,
    headState, runs, update, wide, scan, round]

/-- The output of head 0 for chunk 11. -/
theorem out_44 : (k0_pay859 (k0_pay856 k0_pay11 (k0_pay796 v) (k0_pay798 (k0_pay791 (iota .tc S64x128 32 [0] iota_S64x128_d0_w32) lf) (k0_pay792 (iota .tc S64x128 32 [0] iota_S64x128_d0_w32) lf) q
      k) (k0_pay799 (k0_pay791 (iota .tc S64x128 32 [0] iota_S64x128_d0_w32) lf) q st)) g hg) = headOut q lf k v hg st g := by
  simp only [k0_pay11, k0_pay791, k0_pay792, k0_pay794, k0_pay795, k0_pay796, k0_pay797, k0_pay798, k0_pay799,
    k0_pay856, k0_pay859, headOut, runs, gated, mixed, score, fromState, wide, scan, round]

/-- The state of head 1 after chunk 11. -/
theorem state_45 : (k0_pay877 (k0_pay817 st) (k0_pay820 (k0_pay810 (iota .tc S64x128 32 [0] iota_S64x128_d0_w32) (k0_pay806 (iota .tc S64x128 32 [0] iota_S64x128_d0_w32) lf) (k0_pay807 (iota .tc S64x128 32 [0] iota_S64x128_d0_w32))
      (k0_pay808 (iota .tc S64x128 32 [0] iota_S64x128_d0_w32) lf) (k0_pay809 (F := Ideal))) (k0_pay812 (iota .tc S64x128 32 [0] iota_S64x128_d0_w32) (k0_pay806 (iota .tc S64x128 32 [0] iota_S64x128_d0_w32) lf) (k0_pay807 (iota .tc S64x128 32 [0] iota_S64x128_d0_w32))
      (k0_pay808 (iota .tc S64x128 32 [0] iota_S64x128_d0_w32) lf) (k0_pay809 (F := Ideal))) (k0_pay814 k) (k0_pay815 v)) (k0_pay821 (k0_pay812 (iota .tc S64x128 32 [0] iota_S64x128_d0_w32)
      (k0_pay806 (iota .tc S64x128 32 [0] iota_S64x128_d0_w32) lf) (k0_pay807 (iota .tc S64x128 32 [0] iota_S64x128_d0_w32)) (k0_pay808 (iota .tc S64x128 32 [0] iota_S64x128_d0_w32) lf) (k0_pay809 (F := Ideal))))) = headState lf k v st :=
      by
  simp only [k0_pay806, k0_pay807, k0_pay808, k0_pay809, k0_pay810, k0_pay812, k0_pay814, k0_pay815, k0_pay817,
    k0_pay820, k0_pay821, k0_pay877, headState, runs, update, wide, scan, round]

/-- The output of head 1 for chunk 11. -/
theorem out_45 : (k0_pay880 (k0_pay876 k0_pay11 (k0_pay815 v) (k0_pay818 (k0_pay810 (iota .tc S64x128 32 [0] iota_S64x128_d0_w32) (k0_pay806 (iota .tc S64x128 32 [0] iota_S64x128_d0_w32) lf)
      (k0_pay807 (iota .tc S64x128 32 [0] iota_S64x128_d0_w32)) (k0_pay808 (iota .tc S64x128 32 [0] iota_S64x128_d0_w32) lf) (k0_pay809 (F := Ideal))) (k0_pay811 (iota .tc S64x128 32 [0] iota_S64x128_d0_w32) (k0_pay806 (iota .tc S64x128 32 [0] iota_S64x128_d0_w32) lf)
      (k0_pay807 (iota .tc S64x128 32 [0] iota_S64x128_d0_w32)) (k0_pay808 (iota .tc S64x128 32 [0] iota_S64x128_d0_w32) lf) (k0_pay809 (F := Ideal))) (k0_pay813 q) (k0_pay814 k) (k0_pay816 (iota .tc S64x128 32 [0] iota_S64x128_d0_w32)
      (k0_pay806 (iota .tc S64x128 32 [0] iota_S64x128_d0_w32) lf) (k0_pay807 (iota .tc S64x128 32 [0] iota_S64x128_d0_w32)) (k0_pay808 (iota .tc S64x128 32 [0] iota_S64x128_d0_w32) lf) (k0_pay809 (F := Ideal)))) (k0_pay819 (k0_pay810
      (iota .tc S64x128 32 [0] iota_S64x128_d0_w32) (k0_pay806 (iota .tc S64x128 32 [0] iota_S64x128_d0_w32) lf) (k0_pay807 (iota .tc S64x128 32 [0] iota_S64x128_d0_w32)) (k0_pay808 (iota .tc S64x128 32 [0] iota_S64x128_d0_w32) lf) (k0_pay809 (F := Ideal))) (k0_pay813 q) st))
      (k0_pay878 g) (k0_pay879 k0_pay11 (k0_pay815 v) (k0_pay818 (k0_pay810 (iota .tc S64x128 32 [0] iota_S64x128_d0_w32) (k0_pay806 (iota .tc S64x128 32 [0] iota_S64x128_d0_w32) lf) (k0_pay807
      (iota .tc S64x128 32 [0] iota_S64x128_d0_w32)) (k0_pay808 (iota .tc S64x128 32 [0] iota_S64x128_d0_w32) lf) (k0_pay809 (F := Ideal))) (k0_pay811 (iota .tc S64x128 32 [0] iota_S64x128_d0_w32) (k0_pay806 (iota .tc S64x128 32 [0] iota_S64x128_d0_w32) lf) (k0_pay807 (iota .tc S64x128 32 [0] iota_S64x128_d0_w32))
      (k0_pay808 (iota .tc S64x128 32 [0] iota_S64x128_d0_w32) lf) (k0_pay809 (F := Ideal))) (k0_pay813 q) (k0_pay814 k) (k0_pay816 (iota .tc S64x128 32 [0] iota_S64x128_d0_w32) (k0_pay806 (iota .tc S64x128 32 [0] iota_S64x128_d0_w32) lf)
      (k0_pay807 (iota .tc S64x128 32 [0] iota_S64x128_d0_w32)) (k0_pay808 (iota .tc S64x128 32 [0] iota_S64x128_d0_w32) lf) (k0_pay809 (F := Ideal)))) (k0_pay819 (k0_pay810 (iota .tc S64x128 32 [0] iota_S64x128_d0_w32) (k0_pay806 (iota .tc S64x128 32 [0] iota_S64x128_d0_w32)
      lf) (k0_pay807 (iota .tc S64x128 32 [0] iota_S64x128_d0_w32)) (k0_pay808 (iota .tc S64x128 32 [0] iota_S64x128_d0_w32) lf) (k0_pay809 (F := Ideal))) (k0_pay813 q) st)) hg) = headOut q lf k v
      hg st g := by
  simp only [k0_pay11, k0_pay806, k0_pay807, k0_pay808, k0_pay809, k0_pay810, k0_pay811, k0_pay813, k0_pay814,
    k0_pay815, k0_pay816, k0_pay817, k0_pay818, k0_pay819, k0_pay876, k0_pay878, k0_pay879, k0_pay880, headOut, runs,
    gated, mixed, score, fromState, wide, scan, round]

/-- The state of head 2 after chunk 11. -/
theorem state_46 : (k0_pay897 (k0_pay838 st) (k0_pay841 (k0_pay833 v) (k0_pay837 (iota .tc S64x128 32 [0] iota_S64x128_d0_w32) (k0_pay827 (iota .tc S64x128 32 [0] iota_S64x128_d0_w32) lf) k))
      (k0_pay842 (k0_pay830 (iota .tc S64x128 32 [0] iota_S64x128_d0_w32) (k0_pay827 (iota .tc S64x128 32 [0] iota_S64x128_d0_w32) lf)))) = headState lf k v st := by
  simp only [k0_pay827, k0_pay828, k0_pay830, k0_pay832, k0_pay833, k0_pay837, k0_pay838, k0_pay841, k0_pay842,
    k0_pay897, headState, runs, update, wide, scan, round]

/-- The output of head 2 for chunk 11. -/
theorem out_46 : (k0_pay898 k0_pay11 (k0_pay833 v) (k0_pay839 (k0_pay834 (iota .tc S64x128 32 [0] iota_S64x128_d0_w32) (k0_pay827 (iota .tc S64x128 32 [0] iota_S64x128_d0_w32) lf) q) (k0_pay835
      (iota .tc S64x128 32 [0] iota_S64x128_d0_w32) (k0_pay827 (iota .tc S64x128 32 [0] iota_S64x128_d0_w32) lf) k)) (k0_pay840 (k0_pay836 (iota .tc S64x128 32 [0] iota_S64x128_d0_w32) (k0_pay827 (iota .tc S64x128 32 [0] iota_S64x128_d0_w32) lf) q) (k0_pay838 st)) g hg) =
      headOut q lf k v hg st g := by
  simp only [k0_pay11, k0_pay827, k0_pay828, k0_pay829, k0_pay831, k0_pay832, k0_pay833, k0_pay834, k0_pay835,
    k0_pay836, k0_pay838, k0_pay839, k0_pay840, k0_pay898, headOut, runs, gated, mixed, score, fromState, wide, scan,
    round]

/-- The state of head 3 after chunk 11. -/
theorem state_47 : (k0_pay912 (k0_pay911 (k0_pay851 st) (k0_pay854 (k0_pay845 (iota .tc S64x128 32 [0] iota_S64x128_d0_w32) lf) (k0_pay847 (iota .tc S64x128 32 [0] iota_S64x128_d0_w32) lf) k v)
      (k0_pay855 (k0_pay847 (iota .tc S64x128 32 [0] iota_S64x128_d0_w32) lf)))) = headState lf k v st := by
  simp only [k0_pay845, k0_pay847, k0_pay849, k0_pay850, k0_pay851, k0_pay854, k0_pay855, k0_pay911, k0_pay912,
    headState, runs, update, wide, scan, round]

/-- The output of head 3 for chunk 11. -/
theorem out_47 : (k0_pay913 (k0_pay910 k0_pay11 (k0_pay850 v) (k0_pay852 (k0_pay845 (iota .tc S64x128 32 [0] iota_S64x128_d0_w32) lf) (k0_pay846 (iota .tc S64x128 32 [0] iota_S64x128_d0_w32) lf) q
      k) (k0_pay853 (k0_pay845 (iota .tc S64x128 32 [0] iota_S64x128_d0_w32) lf) q st)) g hg) = headOut q lf k v hg st g := by
  simp only [k0_pay11, k0_pay845, k0_pay846, k0_pay848, k0_pay849, k0_pay850, k0_pay851, k0_pay852, k0_pay853,
    k0_pay910, k0_pay913, headOut, runs, gated, mixed, score, fromState, wide, scan, round]

end Cert.Kernel7Ideal.Hgrn
-- ==== Proof.HgrnP.Units4.lean ====
module

public import proofs.«01_k».proof.Proof.Gen.Kernel7Ideal.Skeleton
public import proofs.«01_k».proof.Proof.HgrnP.Block

/-!
# What one step of the sweep stores, chunks 12 to 15

A grid point treats 16 chunks of 64 tokens for 4 heads. For each chunk and head, the stored state and the stored output
are the state and the output of the recurrence, of the values that were read.
-/

@[expose] public section

noncomputable section

namespace Cert.Kernel7Ideal.Hgrn

open Cert.Kernel7Ideal Cert.Kernel7Ideal.Gen Idealize.ShloMosaic Idealize.ShloMosaic.TcCoe Idealize.SL.Sem

variable (q : FVec Ideal S1x64x128 .bf16) (lf : FVec Ideal S1x64x128 .f32) (k v hg : FVec Ideal S1x64x128 .bf16)
  (st : FVec Ideal S1x128x128 .f32) (g : FVec Ideal S1x128 .f32)

/-- The state of head 0 after chunk 12. -/
theorem state_48 : (k0_pay931 (k0_pay871 st) (k0_pay874 (k0_pay864 (iota .tc S64x128 32 [0] iota_S64x128_d0_w32) (k0_pay860 (iota .tc S64x128 32 [0] iota_S64x128_d0_w32) lf) (k0_pay861 (iota .tc S64x128 32 [0] iota_S64x128_d0_w32))
      (k0_pay862 (iota .tc S64x128 32 [0] iota_S64x128_d0_w32) lf) (k0_pay863 (F := Ideal))) (k0_pay866 (iota .tc S64x128 32 [0] iota_S64x128_d0_w32) (k0_pay860 (iota .tc S64x128 32 [0] iota_S64x128_d0_w32) lf) (k0_pay861 (iota .tc S64x128 32 [0] iota_S64x128_d0_w32))
      (k0_pay862 (iota .tc S64x128 32 [0] iota_S64x128_d0_w32) lf) (k0_pay863 (F := Ideal))) (k0_pay868 k) (k0_pay869 v)) (k0_pay875 (k0_pay866 (iota .tc S64x128 32 [0] iota_S64x128_d0_w32)
      (k0_pay860 (iota .tc S64x128 32 [0] iota_S64x128_d0_w32) lf) (k0_pay861 (iota .tc S64x128 32 [0] iota_S64x128_d0_w32)) (k0_pay862 (iota .tc S64x128 32 [0] iota_S64x128_d0_w32) lf) (k0_pay863 (F := Ideal))))) = headState lf k v st :=
      by
  simp only [k0_pay860, k0_pay861, k0_pay862, k0_pay863, k0_pay864, k0_pay866, k0_pay868, k0_pay869, k0_pay871,
    k0_pay874, k0_pay875, k0_pay931, headState, runs, update, wide, scan, round]

/-- The output of head 0 for chunk 12. -/
theorem out_48 : (k0_pay934 (k0_pay930 k0_pay11 (k0_pay869 v) (k0_pay872 (k0_pay864 (iota .tc S64x128 32 [0] iota_S64x128_d0_w32) (k0_pay860 (iota .tc S64x128 32 [0] iota_S64x128_d0_w32) lf)
      (k0_pay861 (iota .tc S64x128 32 [0] iota_S64x128_d0_w32)) (k0_pay862 (iota .tc S64x128 32 [0] iota_S64x128_d0_w32) lf) (k0_pay863 (F := Ideal))) (k0_pay865 (iota .tc S64x128 32 [0] iota_S64x128_d0_w32) (k0_pay860 (iota .tc S64x128 32 [0] iota_S64x128_d0_w32) lf)
      (k0_pay861 (iota .tc S64x128 32 [0] iota_S64x128_d0_w32)) (k0_pay862 (iota .tc S64x128 32 [0] iota_S64x128_d0_w32) lf) (k0_pay863 (F := Ideal))) (k0_pay867 q) (k0_pay868 k) (k0_pay870 (iota .tc S64x128 32 [0] iota_S64x128_d0_w32)
      (k0_pay860 (iota .tc S64x128 32 [0] iota_S64x128_d0_w32) lf) (k0_pay861 (iota .tc S64x128 32 [0] iota_S64x128_d0_w32)) (k0_pay862 (iota .tc S64x128 32 [0] iota_S64x128_d0_w32) lf) (k0_pay863 (F := Ideal)))) (k0_pay873 (k0_pay864
      (iota .tc S64x128 32 [0] iota_S64x128_d0_w32) (k0_pay860 (iota .tc S64x128 32 [0] iota_S64x128_d0_w32) lf) (k0_pay861 (iota .tc S64x128 32 [0] iota_S64x128_d0_w32)) (k0_pay862 (iota .tc S64x128 32 [0] iota_S64x128_d0_w32) lf) (k0_pay863 (F := Ideal))) (k0_pay867 q) st))
      (k0_pay932 g) (k0_pay933 k0_pay11 (k0_pay869 v) (k0_pay872 (k0_pay864 (iota .tc S64x128 32 [0] iota_S64x128_d0_w32) (k0_pay860 (iota .tc S64x128 32 [0] iota_S64x128_d0_w32) lf) (k0_pay861
      (iota .tc S64x128 32 [0] iota_S64x128_d0_w32)) (k0_pay862 (iota .tc S64x128 32 [0] iota_S64x128_d0_w32) lf) (k0_pay863 (F := Ideal))) (k0_pay865 (iota .tc S64x128 32 [0] iota_S64x128_d0_w32) (k0_pay860 (iota .tc S64x128 32 [0] iota_S64x128_d0_w32) lf) (k0_pay861 (iota .tc S64x128 32 [0] iota_S64x128_d0_w32))
      (k0_pay862 (iota .tc S64x128 32 [0] iota_S64x128_d0_w32) lf) (k0_pay863 (F := Ideal))) (k0_pay867 q) (k0_pay868 k) (k0_pay870 (iota .tc S64x128 32 [0] iota_S64x128_d0_w32) (k0_pay860 (iota .tc S64x128 32 [0] iota_S64x128_d0_w32) lf)
      (k0_pay861 (iota .tc S64x128 32 [0] iota_S64x128_d0_w32)) (k0_pay862 (iota .tc S64x128 32 [0] iota_S64x128_d0_w32) lf) (k0_pay863 (F := Ideal)))) (k0_pay873 (k0_pay864 (iota .tc S64x128 32 [0] iota_S64x128_d0_w32) (k0_pay860 (iota .tc S64x128 32 [0] iota_S64x128_d0_w32)
      lf) (k0_pay861 (iota .tc S64x128 32 [0] iota_S64x128_d0_w32)) (k0_pay862 (iota .tc S64x128 32 [0] iota_S64x128_d0_w32) lf) (k0_pay863 (F := Ideal))) (k0_pay867 q) st)) hg) = headOut q lf k v
      hg st g := by
  simp only [k0_pay11, k0_pay860, k0_pay861, k0_pay862, k0_pay863, k0_pay864, k0_pay865, k0_pay867, k0_pay868,
    k0_pay869, k0_pay870, k0_pay871, k0_pay872, k0_pay873, k0_pay930, k0_pay932, k0_pay933, k0_pay934, headOut, runs,
    gated, mixed, score, fromState, wide, scan, round]

/-- The state of head 1 after chunk 12. -/
theorem state_49 : (k0_pay951 (k0_pay892 st) (k0_pay895 (k0_pay887 v) (k0_pay891 (iota .tc S64x128 32 [0] iota_S64x128_d0_w32) (k0_pay881 (iota .tc S64x128 32 [0] iota_S64x128_d0_w32) lf) k))
      (k0_pay896 (k0_pay884 (iota .tc S64x128 32 [0] iota_S64x128_d0_w32) (k0_pay881 (iota .tc S64x128 32 [0] iota_S64x128_d0_w32) lf)))) = headState lf k v st := by
  simp only [k0_pay881, k0_pay882, k0_pay884, k0_pay886, k0_pay887, k0_pay891, k0_pay892, k0_pay895, k0_pay896,
    k0_pay951, headState, runs, update, wide, scan, round]

/-- The output of head 1 for chunk 12. -/
theorem out_49 : (k0_pay952 k0_pay11 (k0_pay887 v) (k0_pay893 (k0_pay888 (iota .tc S64x128 32 [0] iota_S64x128_d0_w32) (k0_pay881 (iota .tc S64x128 32 [0] iota_S64x128_d0_w32) lf) q) (k0_pay889
      (iota .tc S64x128 32 [0] iota_S64x128_d0_w32) (k0_pay881 (iota .tc S64x128 32 [0] iota_S64x128_d0_w32) lf) k)) (k0_pay894 (k0_pay890 (iota .tc S64x128 32 [0] iota_S64x128_d0_w32) (k0_pay881 (iota .tc S64x128 32 [0] iota_S64x128_d0_w32) lf) q) (k0_pay892 st)) g hg) =
      headOut q lf k v hg st g := by
  simp only [k0_pay11, k0_pay881, k0_pay882, k0_pay883, k0_pay885, k0_pay886, k0_pay887, k0_pay888, k0_pay889,
    k0_pay890, k0_pay892, k0_pay893, k0_pay894, k0_pay952, headOut, runs, gated, mixed, score, fromState, wide, scan,
    round]

/-- The state of head 2 after chunk 12. -/
theorem state_50 : (k0_pay966 (k0_pay965 (k0_pay905 st) (k0_pay908 (k0_pay899 (iota .tc S64x128 32 [0] iota_S64x128_d0_w32) lf) (k0_pay901 (iota .tc S64x128 32 [0] iota_S64x128_d0_w32) lf) k v)
      (k0_pay909 (k0_pay901 (iota .tc S64x128 32 [0] iota_S64x128_d0_w32) lf)))) = headState lf k v st := by
  simp only [k0_pay899, k0_pay901, k0_pay903, k0_pay904, k0_pay905, k0_pay908, k0_pay909, k0_pay965, k0_pay966,
    headState, runs, update, wide, scan, round]

/-- The output of head 2 for chunk 12. -/
theorem out_50 : (k0_pay967 (k0_pay964 k0_pay11 (k0_pay904 v) (k0_pay906 (k0_pay899 (iota .tc S64x128 32 [0] iota_S64x128_d0_w32) lf) (k0_pay900 (iota .tc S64x128 32 [0] iota_S64x128_d0_w32) lf) q
      k) (k0_pay907 (k0_pay899 (iota .tc S64x128 32 [0] iota_S64x128_d0_w32) lf) q st)) g hg) = headOut q lf k v hg st g := by
  simp only [k0_pay11, k0_pay899, k0_pay900, k0_pay902, k0_pay903, k0_pay904, k0_pay905, k0_pay906, k0_pay907,
    k0_pay964, k0_pay967, headOut, runs, gated, mixed, score, fromState, wide, scan, round]

/-- The state of head 3 after chunk 12. -/
theorem state_51 : (k0_pay985 (k0_pay925 st) (k0_pay928 (k0_pay918 (iota .tc S64x128 32 [0] iota_S64x128_d0_w32) (k0_pay914 (iota .tc S64x128 32 [0] iota_S64x128_d0_w32) lf) (k0_pay915 (iota .tc S64x128 32 [0] iota_S64x128_d0_w32))
      (k0_pay916 (iota .tc S64x128 32 [0] iota_S64x128_d0_w32) lf) (k0_pay917 (F := Ideal))) (k0_pay920 (iota .tc S64x128 32 [0] iota_S64x128_d0_w32) (k0_pay914 (iota .tc S64x128 32 [0] iota_S64x128_d0_w32) lf) (k0_pay915 (iota .tc S64x128 32 [0] iota_S64x128_d0_w32))
      (k0_pay916 (iota .tc S64x128 32 [0] iota_S64x128_d0_w32) lf) (k0_pay917 (F := Ideal))) (k0_pay922 k) (k0_pay923 v)) (k0_pay929 (k0_pay920 (iota .tc S64x128 32 [0] iota_S64x128_d0_w32)
      (k0_pay914 (iota .tc S64x128 32 [0] iota_S64x128_d0_w32) lf) (k0_pay915 (iota .tc S64x128 32 [0] iota_S64x128_d0_w32)) (k0_pay916 (iota .tc S64x128 32 [0] iota_S64x128_d0_w32) lf) (k0_pay917 (F := Ideal))))) = headState lf k v st :=
      by
  simp only [k0_pay914, k0_pay915, k0_pay916, k0_pay917, k0_pay918, k0_pay920, k0_pay922, k0_pay923, k0_pay925,
    k0_pay928, k0_pay929, k0_pay985, headState, runs, update, wide, scan, round]

/-- The output of head 3 for chunk 12. -/
theorem out_51 : (k0_pay988 (k0_pay984 k0_pay11 (k0_pay923 v) (k0_pay926 (k0_pay918 (iota .tc S64x128 32 [0] iota_S64x128_d0_w32) (k0_pay914 (iota .tc S64x128 32 [0] iota_S64x128_d0_w32) lf)
      (k0_pay915 (iota .tc S64x128 32 [0] iota_S64x128_d0_w32)) (k0_pay916 (iota .tc S64x128 32 [0] iota_S64x128_d0_w32) lf) (k0_pay917 (F := Ideal))) (k0_pay919 (iota .tc S64x128 32 [0] iota_S64x128_d0_w32) (k0_pay914 (iota .tc S64x128 32 [0] iota_S64x128_d0_w32) lf)
      (k0_pay915 (iota .tc S64x128 32 [0] iota_S64x128_d0_w32)) (k0_pay916 (iota .tc S64x128 32 [0] iota_S64x128_d0_w32) lf) (k0_pay917 (F := Ideal))) (k0_pay921 q) (k0_pay922 k) (k0_pay924 (iota .tc S64x128 32 [0] iota_S64x128_d0_w32)
      (k0_pay914 (iota .tc S64x128 32 [0] iota_S64x128_d0_w32) lf) (k0_pay915 (iota .tc S64x128 32 [0] iota_S64x128_d0_w32)) (k0_pay916 (iota .tc S64x128 32 [0] iota_S64x128_d0_w32) lf) (k0_pay917 (F := Ideal)))) (k0_pay927 (k0_pay918
      (iota .tc S64x128 32 [0] iota_S64x128_d0_w32) (k0_pay914 (iota .tc S64x128 32 [0] iota_S64x128_d0_w32) lf) (k0_pay915 (iota .tc S64x128 32 [0] iota_S64x128_d0_w32)) (k0_pay916 (iota .tc S64x128 32 [0] iota_S64x128_d0_w32) lf) (k0_pay917 (F := Ideal))) (k0_pay921 q) st))
      (k0_pay986 g) (k0_pay987 k0_pay11 (k0_pay923 v) (k0_pay926 (k0_pay918 (iota .tc S64x128 32 [0] iota_S64x128_d0_w32) (k0_pay914 (iota .tc S64x128 32 [0] iota_S64x128_d0_w32) lf) (k0_pay915
      (iota .tc S64x128 32 [0] iota_S64x128_d0_w32)) (k0_pay916 (iota .tc S64x128 32 [0] iota_S64x128_d0_w32) lf) (k0_pay917 (F := Ideal))) (k0_pay919 (iota .tc S64x128 32 [0] iota_S64x128_d0_w32) (k0_pay914 (iota .tc S64x128 32 [0] iota_S64x128_d0_w32) lf) (k0_pay915 (iota .tc S64x128 32 [0] iota_S64x128_d0_w32))
      (k0_pay916 (iota .tc S64x128 32 [0] iota_S64x128_d0_w32) lf) (k0_pay917 (F := Ideal))) (k0_pay921 q) (k0_pay922 k) (k0_pay924 (iota .tc S64x128 32 [0] iota_S64x128_d0_w32) (k0_pay914 (iota .tc S64x128 32 [0] iota_S64x128_d0_w32) lf)
      (k0_pay915 (iota .tc S64x128 32 [0] iota_S64x128_d0_w32)) (k0_pay916 (iota .tc S64x128 32 [0] iota_S64x128_d0_w32) lf) (k0_pay917 (F := Ideal)))) (k0_pay927 (k0_pay918 (iota .tc S64x128 32 [0] iota_S64x128_d0_w32) (k0_pay914 (iota .tc S64x128 32 [0] iota_S64x128_d0_w32)
      lf) (k0_pay915 (iota .tc S64x128 32 [0] iota_S64x128_d0_w32)) (k0_pay916 (iota .tc S64x128 32 [0] iota_S64x128_d0_w32) lf) (k0_pay917 (F := Ideal))) (k0_pay921 q) st)) hg) = headOut q lf k v
      hg st g := by
  simp only [k0_pay11, k0_pay914, k0_pay915, k0_pay916, k0_pay917, k0_pay918, k0_pay919, k0_pay921, k0_pay922,
    k0_pay923, k0_pay924, k0_pay925, k0_pay926, k0_pay927, k0_pay984, k0_pay986, k0_pay987, k0_pay988, headOut, runs,
    gated, mixed, score, fromState, wide, scan, round]

/-- The state of head 0 after chunk 13. -/
theorem state_52 : (k0_pay1005 (k0_pay946 st) (k0_pay949 (k0_pay941 v) (k0_pay945 (iota .tc S64x128 32 [0] iota_S64x128_d0_w32) (k0_pay935 (iota .tc S64x128 32 [0] iota_S64x128_d0_w32) lf) k))
      (k0_pay950 (k0_pay938 (iota .tc S64x128 32 [0] iota_S64x128_d0_w32) (k0_pay935 (iota .tc S64x128 32 [0] iota_S64x128_d0_w32) lf)))) = headState lf k v st := by
  simp only [k0_pay935, k0_pay936, k0_pay938, k0_pay940, k0_pay941, k0_pay945, k0_pay946, k0_pay949, k0_pay950,
    k0_pay1005, headState, runs, update, wide, scan, round]

/-- The output of head 0 for chunk 13. -/
theorem out_52 : (k0_pay1006 k0_pay11 (k0_pay941 v) (k0_pay947 (k0_pay942 (iota .tc S64x128 32 [0] iota_S64x128_d0_w32) (k0_pay935 (iota .tc S64x128 32 [0] iota_S64x128_d0_w32) lf) q) (k0_pay943
      (iota .tc S64x128 32 [0] iota_S64x128_d0_w32) (k0_pay935 (iota .tc S64x128 32 [0] iota_S64x128_d0_w32) lf) k)) (k0_pay948 (k0_pay944 (iota .tc S64x128 32 [0] iota_S64x128_d0_w32) (k0_pay935 (iota .tc S64x128 32 [0] iota_S64x128_d0_w32) lf) q) (k0_pay946 st)) g hg) =
      headOut q lf k v hg st g := by
  simp only [k0_pay11, k0_pay935, k0_pay936, k0_pay937, k0_pay939, k0_pay940, k0_pay941, k0_pay942, k0_pay943,
    k0_pay944, k0_pay946, k0_pay947, k0_pay948, k0_pay1006, headOut, runs, gated, mixed, score, fromState, wide, scan,
    round]

/-- The state of head 1 after chunk 13. -/
theorem state_53 : (k0_pay1020 (k0_pay1019 (k0_pay959 st) (k0_pay962 (k0_pay953 (iota .tc S64x128 32 [0] iota_S64x128_d0_w32) lf) (k0_pay955 (iota .tc S64x128 32 [0] iota_S64x128_d0_w32) lf) k v)
      (k0_pay963 (k0_pay955 (iota .tc S64x128 32 [0] iota_S64x128_d0_w32) lf)))) = headState lf k v st := by
  simp only [k0_pay953, k0_pay955, k0_pay957, k0_pay958, k0_pay959, k0_pay962, k0_pay963, k0_pay1019, k0_pay1020,
    headState, runs, update, wide, scan, round]

/-- The output of head 1 for chunk 13. -/
theorem out_53 : (k0_pay1021 (k0_pay1018 k0_pay11 (k0_pay958 v) (k0_pay960 (k0_pay953 (iota .tc S64x128 32 [0] iota_S64x128_d0_w32) lf) (k0_pay954 (iota .tc S64x128 32 [0] iota_S64x128_d0_w32) lf) q
      k) (k0_pay961 (k0_pay953 (iota .tc S64x128 32 [0] iota_S64x128_d0_w32) lf) q st)) g hg) = headOut q lf k v hg st g := by
  simp only [k0_pay11, k0_pay953, k0_pay954, k0_pay956, k0_pay957, k0_pay958, k0_pay959, k0_pay960, k0_pay961,
    k0_pay1018, k0_pay1021, headOut, runs, gated, mixed, score, fromState, wide, scan, round]

/-- The state of head 2 after chunk 13. -/
theorem state_54 : (k0_pay1039 (k0_pay979 st) (k0_pay982 (k0_pay972 (iota .tc S64x128 32 [0] iota_S64x128_d0_w32) (k0_pay968 (iota .tc S64x128 32 [0] iota_S64x128_d0_w32) lf) (k0_pay969 (iota .tc S64x128 32 [0] iota_S64x128_d0_w32))
      (k0_pay970 (iota .tc S64x128 32 [0] iota_S64x128_d0_w32) lf) (k0_pay971 (F := Ideal))) (k0_pay974 (iota .tc S64x128 32 [0] iota_S64x128_d0_w32) (k0_pay968 (iota .tc S64x128 32 [0] iota_S64x128_d0_w32) lf) (k0_pay969 (iota .tc S64x128 32 [0] iota_S64x128_d0_w32))
      (k0_pay970 (iota .tc S64x128 32 [0] iota_S64x128_d0_w32) lf) (k0_pay971 (F := Ideal))) (k0_pay976 k) (k0_pay977 v)) (k0_pay983 (k0_pay974 (iota .tc S64x128 32 [0] iota_S64x128_d0_w32)
      (k0_pay968 (iota .tc S64x128 32 [0] iota_S64x128_d0_w32) lf) (k0_pay969 (iota .tc S64x128 32 [0] iota_S64x128_d0_w32)) (k0_pay970 (iota .tc S64x128 32 [0] iota_S64x128_d0_w32) lf) (k0_pay971 (F := Ideal))))) = headState lf k v st :=
      by
  simp only [k0_pay968, k0_pay969, k0_pay970, k0_pay971, k0_pay972, k0_pay974, k0_pay976, k0_pay977, k0_pay979,
    k0_pay982, k0_pay983, k0_pay1039, headState, runs, update, wide, scan, round]

/-- The output of head 2 for chunk 13. -/
theorem out_54 : (k0_pay1042 (k0_pay1038 k0_pay11 (k0_pay977 v) (k0_pay980 (k0_pay972 (iota .tc S64x128 32 [0] iota_S64x128_d0_w32) (k0_pay968 (iota .tc S64x128 32 [0] iota_S64x128_d0_w32) lf)
      (k0_pay969 (iota .tc S64x128 32 [0] iota_S64x128_d0_w32)) (k0_pay970 (iota .tc S64x128 32 [0] iota_S64x128_d0_w32) lf) (k0_pay971 (F := Ideal))) (k0_pay973 (iota .tc S64x128 32 [0] iota_S64x128_d0_w32) (k0_pay968 (iota .tc S64x128 32 [0] iota_S64x128_d0_w32) lf)
      (k0_pay969 (iota .tc S64x128 32 [0] iota_S64x128_d0_w32)) (k0_pay970 (iota .tc S64x128 32 [0] iota_S64x128_d0_w32) lf) (k0_pay971 (F := Ideal))) (k0_pay975 q) (k0_pay976 k) (k0_pay978 (iota .tc S64x128 32 [0] iota_S64x128_d0_w32)
      (k0_pay968 (iota .tc S64x128 32 [0] iota_S64x128_d0_w32) lf) (k0_pay969 (iota .tc S64x128 32 [0] iota_S64x128_d0_w32)) (k0_pay970 (iota .tc S64x128 32 [0] iota_S64x128_d0_w32) lf) (k0_pay971 (F := Ideal)))) (k0_pay981 (k0_pay972
      (iota .tc S64x128 32 [0] iota_S64x128_d0_w32) (k0_pay968 (iota .tc S64x128 32 [0] iota_S64x128_d0_w32) lf) (k0_pay969 (iota .tc S64x128 32 [0] iota_S64x128_d0_w32)) (k0_pay970 (iota .tc S64x128 32 [0] iota_S64x128_d0_w32) lf) (k0_pay971 (F := Ideal))) (k0_pay975 q) st))
      (k0_pay1040 g) (k0_pay1041 k0_pay11 (k0_pay977 v) (k0_pay980 (k0_pay972 (iota .tc S64x128 32 [0] iota_S64x128_d0_w32) (k0_pay968 (iota .tc S64x128 32 [0] iota_S64x128_d0_w32) lf) (k0_pay969
      (iota .tc S64x128 32 [0] iota_S64x128_d0_w32)) (k0_pay970 (iota .tc S64x128 32 [0] iota_S64x128_d0_w32) lf) (k0_pay971 (F := Ideal))) (k0_pay973 (iota .tc S64x128 32 [0] iota_S64x128_d0_w32) (k0_pay968 (iota .tc S64x128 32 [0] iota_S64x128_d0_w32) lf) (k0_pay969 (iota .tc S64x128 32 [0] iota_S64x128_d0_w32))
      (k0_pay970 (iota .tc S64x128 32 [0] iota_S64x128_d0_w32) lf) (k0_pay971 (F := Ideal))) (k0_pay975 q) (k0_pay976 k) (k0_pay978 (iota .tc S64x128 32 [0] iota_S64x128_d0_w32) (k0_pay968 (iota .tc S64x128 32 [0] iota_S64x128_d0_w32) lf)
      (k0_pay969 (iota .tc S64x128 32 [0] iota_S64x128_d0_w32)) (k0_pay970 (iota .tc S64x128 32 [0] iota_S64x128_d0_w32) lf) (k0_pay971 (F := Ideal)))) (k0_pay981 (k0_pay972 (iota .tc S64x128 32 [0] iota_S64x128_d0_w32) (k0_pay968 (iota .tc S64x128 32 [0] iota_S64x128_d0_w32)
      lf) (k0_pay969 (iota .tc S64x128 32 [0] iota_S64x128_d0_w32)) (k0_pay970 (iota .tc S64x128 32 [0] iota_S64x128_d0_w32) lf) (k0_pay971 (F := Ideal))) (k0_pay975 q) st)) hg) = headOut q lf k v
      hg st g := by
  simp only [k0_pay11, k0_pay968, k0_pay969, k0_pay970, k0_pay971, k0_pay972, k0_pay973, k0_pay975, k0_pay976,
    k0_pay977, k0_pay978, k0_pay979, k0_pay980, k0_pay981, k0_pay1038, k0_pay1040, k0_pay1041, k0_pay1042, headOut,
    runs, gated, mixed, score, fromState, wide, scan, round]

/-- The state of head 3 after chunk 13. -/
theorem state_55 : (k0_pay1059 (k0_pay1000 st) (k0_pay1003 (k0_pay995 v) (k0_pay999 (iota .tc S64x128 32 [0] iota_S64x128_d0_w32) (k0_pay989 (iota .tc S64x128 32 [0] iota_S64x128_d0_w32) lf) k))
      (k0_pay1004 (k0_pay992 (iota .tc S64x128 32 [0] iota_S64x128_d0_w32) (k0_pay989 (iota .tc S64x128 32 [0] iota_S64x128_d0_w32) lf)))) = headState lf k v st := by
  simp only [k0_pay989, k0_pay990, k0_pay992, k0_pay994, k0_pay995, k0_pay999, k0_pay1000, k0_pay1003, k0_pay1004,
    k0_pay1059, headState, runs, update, wide, scan, round]

/-- The output of head 3 for chunk 13. -/
theorem out_55 : (k0_pay1060 k0_pay11 (k0_pay995 v) (k0_pay1001 (k0_pay996 (iota .tc S64x128 32 [0] iota_S64x128_d0_w32) (k0_pay989 (iota .tc S64x128 32 [0] iota_S64x128_d0_w32) lf) q) (k0_pay997
      (iota .tc S64x128 32 [0] iota_S64x128_d0_w32) (k0_pay989 (iota .tc S64x128 32 [0] iota_S64x128_d0_w32) lf) k)) (k0_pay1002 (k0_pay998 (iota .tc S64x128 32 [0] iota_S64x128_d0_w32) (k0_pay989 (iota .tc S64x128 32 [0] iota_S64x128_d0_w32) lf) q) (k0_pay1000 st)) g hg) =
      headOut q lf k v hg st g := by
  simp only [k0_pay11, k0_pay989, k0_pay990, k0_pay991, k0_pay993, k0_pay994, k0_pay995, k0_pay996, k0_pay997,
    k0_pay998, k0_pay1000, k0_pay1001, k0_pay1002, k0_pay1060, headOut, runs, gated, mixed, score, fromState, wide,
    scan, round]

/-- The state of head 0 after chunk 14. -/
theorem state_56 : (k0_pay1074 (k0_pay1073 (k0_pay1013 st) (k0_pay1016 (k0_pay1007 (iota .tc S64x128 32 [0] iota_S64x128_d0_w32) lf) (k0_pay1009 (iota .tc S64x128 32 [0] iota_S64x128_d0_w32) lf) k
      v) (k0_pay1017 (k0_pay1009 (iota .tc S64x128 32 [0] iota_S64x128_d0_w32) lf)))) = headState lf k v st := by
  simp only [k0_pay1007, k0_pay1009, k0_pay1011, k0_pay1012, k0_pay1013, k0_pay1016, k0_pay1017, k0_pay1073, k0_pay1074,
    headState, runs, update, wide, scan, round]

/-- The output of head 0 for chunk 14. -/
theorem out_56 : (k0_pay1075 (k0_pay1072 k0_pay11 (k0_pay1012 v) (k0_pay1014 (k0_pay1007 (iota .tc S64x128 32 [0] iota_S64x128_d0_w32) lf) (k0_pay1008 (iota .tc S64x128 32 [0] iota_S64x128_d0_w32)
      lf) q k) (k0_pay1015 (k0_pay1007 (iota .tc S64x128 32 [0] iota_S64x128_d0_w32) lf) q st)) g hg) = headOut q lf k v hg st g := by
  simp only [k0_pay11, k0_pay1007, k0_pay1008, k0_pay1010, k0_pay1011, k0_pay1012, k0_pay1013, k0_pay1014, k0_pay1015,
    k0_pay1072, k0_pay1075, headOut, runs, gated, mixed, score, fromState, wide, scan, round]

/-- The state of head 1 after chunk 14. -/
theorem state_57 : (k0_pay1093 (k0_pay1033 st) (k0_pay1036 (k0_pay1026 (iota .tc S64x128 32 [0] iota_S64x128_d0_w32) (k0_pay1022 (iota .tc S64x128 32 [0] iota_S64x128_d0_w32) lf) (k0_pay1023 (iota .tc S64x128 32 [0] iota_S64x128_d0_w32))
      (k0_pay1024 (iota .tc S64x128 32 [0] iota_S64x128_d0_w32) lf) (k0_pay1025 (F := Ideal))) (k0_pay1028 (iota .tc S64x128 32 [0] iota_S64x128_d0_w32) (k0_pay1022 (iota .tc S64x128 32 [0] iota_S64x128_d0_w32) lf) (k0_pay1023 (iota .tc S64x128 32 [0] iota_S64x128_d0_w32))
      (k0_pay1024 (iota .tc S64x128 32 [0] iota_S64x128_d0_w32) lf) (k0_pay1025 (F := Ideal))) (k0_pay1030 k) (k0_pay1031 v)) (k0_pay1037 (k0_pay1028 (iota .tc S64x128 32 [0] iota_S64x128_d0_w32)
      (k0_pay1022 (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal))))) = headState lf k v
      st := by
  simp only [k0_pay1022, k0_pay1023, k0_pay1024, k0_pay1025, k0_pay1026, k0_pay1028, k0_pay1030, k0_pay1031, k0_pay1033,
    k0_pay1036, k0_pay1037, k0_pay1093, headState, runs, update, wide, scan, round]

/-- The output of head 1 for chunk 14. -/
theorem out_57 : (k0_pay1096 (k0_pay1092 k0_pay11 (k0_pay1031 v) (k0_pay1034 (k0_pay1026 (iota .tc S64x128 32 [0] iota_S64x128_d0_w32) (k0_pay1022 (iota .tc S64x128 32 [0] iota_S64x128_d0_w32) lf)
      (k0_pay1023 (iota .tc S64x128 32 [0] iota_S64x128_d0_w32)) (k0_pay1024 (iota .tc S64x128 32 [0] iota_S64x128_d0_w32) lf) (k0_pay1025 (F := Ideal))) (k0_pay1027 (iota .tc S64x128 32 [0] iota_S64x128_d0_w32) (k0_pay1022 (iota .tc S64x128 32 [0] iota_S64x128_d0_w32) lf)
      (k0_pay1023 (iota .tc S64x128 32 [0] iota_S64x128_d0_w32)) (k0_pay1024 (iota .tc S64x128 32 [0] iota_S64x128_d0_w32) lf) (k0_pay1025 (F := Ideal))) (k0_pay1029 q) (k0_pay1030 k) (k0_pay1032
      (iota .tc S64x128 32 [0] iota_S64x128_d0_w32) (k0_pay1022 (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal)))) (k0_pay1035
      (k0_pay1026 (iota .tc S64x128 32 [0] iota_S64x128_d0_w32) (k0_pay1022 (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal)))
      (k0_pay1029 q) st)) (k0_pay1094 g) (k0_pay1095 k0_pay11 (k0_pay1031 v) (k0_pay1034 (k0_pay1026 (iota .tc S64x128 32 [0] iota_S64x128_d0_w32) (k0_pay1022
      (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal))) (k0_pay1027 (iota .tc S64x128 32 [0] iota_S64x128_d0_w32) (k0_pay1022
      (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal))) (k0_pay1029 q) (k0_pay1030 k)
      (k0_pay1032 (iota .tc S64x128 32 [0] iota_S64x128_d0_w32) (k0_pay1022 (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F := Ideal))))
      (k0_pay1035 (k0_pay1026 (iota .tc S64x128 32 [0] iota_S64x128_d0_w32) (k0_pay1022 (iota .tc S64x128 32 [0] iota_S64x128_d0_w32) lf) (k0_pay1023 (iota .tc S64x128 32 [0] iota_S64x128_d0_w32)) (k0_pay1024 (iota .tc S64x128 32 [0] iota_S64x128_d0_w32) lf) (k0_pay1025 (F :=
      Ideal))) (k0_pay1029 q) st)) hg) = headOut q lf k v hg st g := by
  simp only [k0_pay11, k0_pay1022, k0_pay1023, k0_pay1024, k0_pay1025, k0_pay1026, k0_pay1027, k0_pay1029, k0_pay1030,
    k0_pay1031, k0_pay1032, k0_pay1033, k0_pay1034, k0_pay1035, k0_pay1092, k0_pay1094, k0_pay1095, k0_pay1096,
    headOut, runs, gated, mixed, score, fromState, wide, scan, round]

/-- The state of head 2 after chunk 14. -/
theorem state_58 : (k0_pay1113 (k0_pay1054 st) (k0_pay1057 (k0_pay1049 v) (k0_pay1053 (iota .tc S64x128 32 [0] iota_S64x128_d0_w32) (k0_pay1043 (iota .tc S64x128 32 [0] iota_S64x128_d0_w32) lf) k))
      (k0_pay1058 (k0_pay1046 (iota .tc S64x128 32 [0] iota_S64x128_d0_w32) (k0_pay1043 (iota .tc S64x128 32 [0] iota_S64x128_d0_w32) lf)))) = headState lf k v st := by
  simp only [k0_pay1043, k0_pay1044, k0_pay1046, k0_pay1048, k0_pay1049, k0_pay1053, k0_pay1054, k0_pay1057, k0_pay1058,
    k0_pay1113, headState, runs, update, wide, scan, round]

/-- The output of head 2 for chunk 14. -/
theorem out_58 : (k0_pay1114 k0_pay11 (k0_pay1049 v) (k0_pay1055 (k0_pay1050 (iota .tc S64x128 32 [0] iota_S64x128_d0_w32) (k0_pay1043 (iota .tc S64x128 32 [0] iota_S64x128_d0_w32) lf) q)
      (k0_pay1051 (iota .tc S64x128 32 [0] iota_S64x128_d0_w32) (k0_pay1043 (iota .tc S64x128 32 [0] iota_S64x128_d0_w32) lf) k)) (k0_pay1056 (k0_pay1052 (iota .tc S64x128 32 [0] iota_S64x128_d0_w32) (k0_pay1043 (iota .tc S64x128 32 [0] iota_S64x128_d0_w32) lf) q) (k0_pay1054
      st)) g hg) = headOut q lf k v hg st g := by
  simp only [k0_pay11, k0_pay1043, k0_pay1044, k0_pay1045, k0_pay1047, k0_pay1048, k0_pay1049, k0_pay1050, k0_pay1051,
    k0_pay1052, k0_pay1054, k0_pay1055, k0_pay1056, k0_pay1114, headOut, runs, gated, mixed, score, fromState, wide,
    scan, round]

/-- The state of head 3 after chunk 14. -/
theorem state_59 : (k0_pay1128 (k0_pay1127 (k0_pay1067 st) (k0_pay1070 (k0_pay1061 (iota .tc S64x128 32 [0] iota_S64x128_d0_w32) lf) (k0_pay1063 (iota .tc S64x128 32 [0] iota_S64x128_d0_w32) lf) k
      v) (k0_pay1071 (k0_pay1063 (iota .tc S64x128 32 [0] iota_S64x128_d0_w32) lf)))) = headState lf k v st := by
  simp only [k0_pay1061, k0_pay1063, k0_pay1065, k0_pay1066, k0_pay1067, k0_pay1070, k0_pay1071, k0_pay1127, k0_pay1128,
    headState, runs, update, wide, scan, round]

/-- The output of head 3 for chunk 14. -/
theorem out_59 : (k0_pay1129 (k0_pay1126 k0_pay11 (k0_pay1066 v) (k0_pay1068 (k0_pay1061 (iota .tc S64x128 32 [0] iota_S64x128_d0_w32) lf) (k0_pay1062 (iota .tc S64x128 32 [0] iota_S64x128_d0_w32)
      lf) q k) (k0_pay1069 (k0_pay1061 (iota .tc S64x128 32 [0] iota_S64x128_d0_w32) lf) q st)) g hg) = headOut q lf k v hg st g := by
  simp only [k0_pay11, k0_pay1061, k0_pay1062, k0_pay1064, k0_pay1065, k0_pay1066, k0_pay1067, k0_pay1068, k0_pay1069,
    k0_pay1126, k0_pay1129, headOut, runs, gated, mixed, score, fromState, wide, scan, round]

/-- The state of head 0 after chunk 15. -/
theorem state_60 : (k0_pay1147 (k0_pay1087 st) (k0_pay1090 (k0_pay1080 (iota .tc S64x128 32 [0] iota_S64x128_d0_w32) (k0_pay1076 (iota .tc S64x128 32 [0] iota_S64x128_d0_w32) lf) (k0_pay1077 (iota .tc S64x128 32 [0] iota_S64x128_d0_w32))
      (k0_pay1078 (iota .tc S64x128 32 [0] iota_S64x128_d0_w32) lf) (k0_pay1079 (F := Ideal))) (k0_pay1082 (iota .tc S64x128 32 [0] iota_S64x128_d0_w32) (k0_pay1076 (iota .tc S64x128 32 [0] iota_S64x128_d0_w32) lf) (k0_pay1077 (iota .tc S64x128 32 [0] iota_S64x128_d0_w32))
      (k0_pay1078 (iota .tc S64x128 32 [0] iota_S64x128_d0_w32) lf) (k0_pay1079 (F := Ideal))) (k0_pay1084 k) (k0_pay1085 v)) (k0_pay1091 (k0_pay1082 (iota .tc S64x128 32 [0] iota_S64x128_d0_w32)
      (k0_pay1076 (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal))))) = headState lf k v
      st := by
  simp only [k0_pay1076, k0_pay1077, k0_pay1078, k0_pay1079, k0_pay1080, k0_pay1082, k0_pay1084, k0_pay1085, k0_pay1087,
    k0_pay1090, k0_pay1091, k0_pay1147, headState, runs, update, wide, scan, round]

/-- The output of head 0 for chunk 15. -/
theorem out_60 : (k0_pay1150 (k0_pay1146 k0_pay11 (k0_pay1085 v) (k0_pay1088 (k0_pay1080 (iota .tc S64x128 32 [0] iota_S64x128_d0_w32) (k0_pay1076 (iota .tc S64x128 32 [0] iota_S64x128_d0_w32) lf)
      (k0_pay1077 (iota .tc S64x128 32 [0] iota_S64x128_d0_w32)) (k0_pay1078 (iota .tc S64x128 32 [0] iota_S64x128_d0_w32) lf) (k0_pay1079 (F := Ideal))) (k0_pay1081 (iota .tc S64x128 32 [0] iota_S64x128_d0_w32) (k0_pay1076 (iota .tc S64x128 32 [0] iota_S64x128_d0_w32) lf)
      (k0_pay1077 (iota .tc S64x128 32 [0] iota_S64x128_d0_w32)) (k0_pay1078 (iota .tc S64x128 32 [0] iota_S64x128_d0_w32) lf) (k0_pay1079 (F := Ideal))) (k0_pay1083 q) (k0_pay1084 k) (k0_pay1086
      (iota .tc S64x128 32 [0] iota_S64x128_d0_w32) (k0_pay1076 (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal)))) (k0_pay1089
      (k0_pay1080 (iota .tc S64x128 32 [0] iota_S64x128_d0_w32) (k0_pay1076 (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal)))
      (k0_pay1083 q) st)) (k0_pay1148 g) (k0_pay1149 k0_pay11 (k0_pay1085 v) (k0_pay1088 (k0_pay1080 (iota .tc S64x128 32 [0] iota_S64x128_d0_w32) (k0_pay1076
      (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal))) (k0_pay1081 (iota .tc S64x128 32 [0] iota_S64x128_d0_w32) (k0_pay1076
      (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal))) (k0_pay1083 q) (k0_pay1084 k)
      (k0_pay1086 (iota .tc S64x128 32 [0] iota_S64x128_d0_w32) (k0_pay1076 (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F := Ideal))))
      (k0_pay1089 (k0_pay1080 (iota .tc S64x128 32 [0] iota_S64x128_d0_w32) (k0_pay1076 (iota .tc S64x128 32 [0] iota_S64x128_d0_w32) lf) (k0_pay1077 (iota .tc S64x128 32 [0] iota_S64x128_d0_w32)) (k0_pay1078 (iota .tc S64x128 32 [0] iota_S64x128_d0_w32) lf) (k0_pay1079 (F :=
      Ideal))) (k0_pay1083 q) st)) hg) = headOut q lf k v hg st g := by
  simp only [k0_pay11, k0_pay1076, k0_pay1077, k0_pay1078, k0_pay1079, k0_pay1080, k0_pay1081, k0_pay1083, k0_pay1084,
    k0_pay1085, k0_pay1086, k0_pay1087, k0_pay1088, k0_pay1089, k0_pay1146, k0_pay1148, k0_pay1149, k0_pay1150,
    headOut, runs, gated, mixed, score, fromState, wide, scan, round]

/-- The state of head 1 after chunk 15. -/
theorem state_61 : (k0_pay1151 (k0_pay1108 st) (k0_pay1111 (k0_pay1103 v) (k0_pay1107 (iota .tc S64x128 32 [0] iota_S64x128_d0_w32) (k0_pay1097 (iota .tc S64x128 32 [0] iota_S64x128_d0_w32) lf) k))
      (k0_pay1112 (k0_pay1100 (iota .tc S64x128 32 [0] iota_S64x128_d0_w32) (k0_pay1097 (iota .tc S64x128 32 [0] iota_S64x128_d0_w32) lf)))) = headState lf k v st := by
  simp only [k0_pay1097, k0_pay1098, k0_pay1100, k0_pay1102, k0_pay1103, k0_pay1107, k0_pay1108, k0_pay1111, k0_pay1112,
    k0_pay1151, headState, runs, update, wide, scan, round]

/-- The output of head 1 for chunk 15. -/
theorem out_61 : (k0_pay1154 (k0_pay1152 k0_pay11 (k0_pay1103 v) (k0_pay1109 (k0_pay1104 (iota .tc S64x128 32 [0] iota_S64x128_d0_w32) (k0_pay1097 (iota .tc S64x128 32 [0] iota_S64x128_d0_w32) lf)
      q) (k0_pay1105 (iota .tc S64x128 32 [0] iota_S64x128_d0_w32) (k0_pay1097 (iota .tc S64x128 32 [0] iota_S64x128_d0_w32) lf) k)) (k0_pay1110 (k0_pay1106 (iota .tc S64x128 32 [0] iota_S64x128_d0_w32) (k0_pay1097 (iota .tc S64x128 32 [0] iota_S64x128_d0_w32) lf) q)
      (k0_pay1108 st)) g) (k0_pay1153 hg)) = headOut q lf k v hg st g := by
  simp only [k0_pay11, k0_pay1097, k0_pay1098, k0_pay1099, k0_pay1101, k0_pay1102, k0_pay1103, k0_pay1104, k0_pay1105,
    k0_pay1106, k0_pay1108, k0_pay1109, k0_pay1110, k0_pay1152, k0_pay1153, k0_pay1154, headOut, runs, gated, mixed,
    score, fromState, wide, scan, round]

/-- The state of head 2 after chunk 15. -/
theorem state_62 : (k0_pay1155 (k0_pay1121 st) (k0_pay1124 (k0_pay1115 (iota .tc S64x128 32 [0] iota_S64x128_d0_w32) lf) (k0_pay1117 (iota .tc S64x128 32 [0] iota_S64x128_d0_w32) lf) k v)
      (k0_pay1125 (k0_pay1117 (iota .tc S64x128 32 [0] iota_S64x128_d0_w32) lf))) = headState lf k v st := by
  simp only [k0_pay1115, k0_pay1117, k0_pay1119, k0_pay1120, k0_pay1121, k0_pay1124, k0_pay1125, k0_pay1155, headState,
    runs, update, wide, scan, round]

/-- The output of head 2 for chunk 15. -/
theorem out_62 : (k0_pay1156 k0_pay11 (k0_pay1120 v) (k0_pay1122 (k0_pay1115 (iota .tc S64x128 32 [0] iota_S64x128_d0_w32) lf) (k0_pay1116 (iota .tc S64x128 32 [0] iota_S64x128_d0_w32) lf) q k)
      (k0_pay1123 (k0_pay1115 (iota .tc S64x128 32 [0] iota_S64x128_d0_w32) lf) q st) g hg) = headOut q lf k v hg st g := by
  simp only [k0_pay11, k0_pay1115, k0_pay1116, k0_pay1118, k0_pay1119, k0_pay1120, k0_pay1121, k0_pay1122, k0_pay1123,
    k0_pay1156, headOut, runs, gated, mixed, score, fromState, wide, scan, round]

/-- The state of head 3 after chunk 15. -/
theorem state_63 : (k0_pay1 (k0_pay1144 (k0_pay1134 (iota .tc S64x128 32 [0] iota_S64x128_d0_w32) (k0_pay1130 (iota .tc S64x128 32 [0] iota_S64x128_d0_w32) lf) (k0_pay1131 (iota .tc S64x128 32 [0] iota_S64x128_d0_w32)) (k0_pay1132 (iota .tc S64x128 32 [0] iota_S64x128_d0_w32)
      lf) (k0_pay1133 (F := Ideal))) (k0_pay1136 (iota .tc S64x128 32 [0] iota_S64x128_d0_w32) (k0_pay1130 (iota .tc S64x128 32 [0] iota_S64x128_d0_w32) lf) (k0_pay1131 (iota .tc S64x128 32 [0] iota_S64x128_d0_w32)) (k0_pay1132 (iota .tc S64x128 32 [0] iota_S64x128_d0_w32) lf)
      (k0_pay1133 (F := Ideal))) (k0_pay1138 k) (k0_pay1139 v)) (k0_pay1158 (k0_pay1141 st) (k0_pay1145 (k0_pay1136
      (iota .tc S64x128 32 [0] iota_S64x128_d0_w32) (k0_pay1130 (iota .tc S64x128 32 [0] iota_S64x128_d0_w32) lf) (k0_pay1131 (iota .tc S64x128 32 [0] iota_S64x128_d0_w32)) (k0_pay1132 (iota .tc S64x128 32 [0] iota_S64x128_d0_w32) lf) (k0_pay1133 (F := Ideal)))))) = headState
      lf k v st := by
  simp only [k0_pay1, k0_pay1130, k0_pay1131, k0_pay1132, k0_pay1133, k0_pay1134, k0_pay1136, k0_pay1138, k0_pay1139,
    k0_pay1141, k0_pay1144, k0_pay1145, k0_pay1158, headState, runs, update, wide, scan, round]

/-- The output of head 3 for chunk 15. -/
theorem out_63 : (k0_pay2 (k0_pay1157 k0_pay11 (k0_pay1139 v) (k0_pay1142 (k0_pay1134 (iota .tc S64x128 32 [0] iota_S64x128_d0_w32) (k0_pay1130 (iota .tc S64x128 32 [0] iota_S64x128_d0_w32) lf)
      (k0_pay1131 (iota .tc S64x128 32 [0] iota_S64x128_d0_w32)) (k0_pay1132 (iota .tc S64x128 32 [0] iota_S64x128_d0_w32) lf) (k0_pay1133 (F := Ideal))) (k0_pay1135 (iota .tc S64x128 32 [0] iota_S64x128_d0_w32) (k0_pay1130 (iota .tc S64x128 32 [0] iota_S64x128_d0_w32) lf)
      (k0_pay1131 (iota .tc S64x128 32 [0] iota_S64x128_d0_w32)) (k0_pay1132 (iota .tc S64x128 32 [0] iota_S64x128_d0_w32) lf) (k0_pay1133 (F := Ideal))) (k0_pay1137 q) (k0_pay1138 k) (k0_pay1140
      (iota .tc S64x128 32 [0] iota_S64x128_d0_w32) (k0_pay1130 (iota .tc S64x128 32 [0] iota_S64x128_d0_w32) lf) (k0_pay1131 (iota .tc S64x128 32 [0] iota_S64x128_d0_w32)) (k0_pay1132 (iota .tc S64x128 32 [0] iota_S64x128_d0_w32) lf) (k0_pay1133 (F := Ideal)))) (k0_pay1143
      (k0_pay1134 (iota .tc S64x128 32 [0] iota_S64x128_d0_w32) (k0_pay1130 (iota .tc S64x128 32 [0] iota_S64x128_d0_w32) lf) (k0_pay1131 (iota .tc S64x128 32 [0] iota_S64x128_d0_w32)) (k0_pay1132 (iota .tc S64x128 32 [0] iota_S64x128_d0_w32) lf) (k0_pay1133 (F := Ideal)))
      (k0_pay1137 q) st)) g hg) = headOut q lf k v hg st g := by
  simp only [k0_pay2, k0_pay11, k0_pay1130, k0_pay1131, k0_pay1132, k0_pay1133, k0_pay1134, k0_pay1135, k0_pay1137,
    k0_pay1138, k0_pay1139, k0_pay1140, k0_pay1141, k0_pay1142, k0_pay1143, k0_pay1157, headOut, runs, gated, mixed,
    score, fromState, wide, scan, round]

end Cert.Kernel7Ideal.Hgrn
-- ==== Proof.HgrnP.CaseA.lean ====
module

public import proofs.«01_k».proof.Proof.HgrnP.Fold
public import proofs.«01_k».proof.Proof.HgrnP.Units1
public import proofs.«01_k».proof.Proof.HgrnP.Units2
public import proofs.«01_k».proof.Proof.HgrnP.Units3
public import proofs.«01_k».proof.Proof.HgrnP.Units4

/-!
# What a grid point leaves: case A

The first grid point of a sequence starts from the given states, transposed.
-/

@[expose] public section

set_option maxRecDepth 16384

noncomputable section

namespace Cert.Kernel7Ideal.Hgrn

open Cert.Kernel7Ideal Cert.Kernel7Ideal.Gen Cert.Kernel7Ideal.Value Idealize.ShloMosaic
open Idealize.ShloMosaic.TcCoe Idealize.SL.Sem
set_option maxHeartbeats 1000000 in
/-- What case A leaves in the states. -/
theorem states_A (c : Dev nD) (i : grid0.Coords) (arg2 : Memref sig .tc .vmem S1x1024x512 .bf16)
    (harg2 : arg2.IsWhole) (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : cond0_0 i) (hc1 : ¬cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32)
    (y : S4x128x128.Idx) :
    sout0_A_0 c i arg2 harg2 arg3 harg3 arg4 harg4 arg5 harg5 arg6 harg6 arg7 harg7 arg8
    harg8 arg9 harg9 arg10 harg10 arg11 harg11 hc0 hc1 x0 x1 x2 x3 x4 x5 x6 y
      = stateRec x1 x2 x3 (turned x5) (y 0).val 16 (ix3 0 (y 1) (y 2)) := by
  unfold sout0_A_0
  frame_open
  simp (disch := decide) only [↓ View.readCov_skip, ↓ View.readCov_cons_toLoadRect, ↓ View.readCov_fill]
  frame_out
  simp only [ld_chunk16, ld_chunk32, ld_head]
  refine canon_heads4 (fun h => stateRec x1 x2 x3 (turned x5) h 16) _ _ _ _ _ _ _ _ _ y ?_ ?_ ?_ ?_
  · rw [state_0, state_4, state_8, state_12, state_16, state_20, state_24, state_28, state_32, state_36, state_40,
      state_44, state_48, state_52, state_56, state_60, first_0]
    rfl
  · rw [state_1, state_5, state_9, state_13, state_17, state_21, state_25, state_29, state_33, state_37, state_41,
      state_45, state_49, state_53, state_57, state_61, first_1]
    rfl
  · rw [state_2, state_6, state_10, state_14, state_18, state_22, state_26, state_30, state_34, state_38, state_42,
      state_46, state_50, state_54, state_58, state_62, first_2]
    rfl
  · rw [state_3, state_7, state_11, state_15, state_19, state_23, state_27, state_31, state_35, state_39, state_43,
      state_47, state_51, state_55, state_59, state_63, first_3]
    rfl

set_option maxHeartbeats 4000000 in
/-- What case A leaves in the block of outputs. -/
theorem outs_A (c : Dev nD) (i : grid0.Coords) (arg2 : Memref sig .tc .vmem S1x1024x512 .bf16) (harg2 : arg2.IsWhole)
    (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : cond0_0 i) (hc1 : ¬cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32)
    (y : S1x1024x512.Idx) :
    out0_A_7 c i arg2 harg2 arg3 harg3 arg4 harg4 arg5 harg5 arg6 harg6 arg7 harg7 arg8
    harg8 arg9 harg9 arg10 harg10 arg11 harg11 hc0 hc1 x0 x1 x2 x3 x4 x5 x6 y
      = outAt x1 x0 x2 x3 x4 (turned x5) x6 y := by
  unfold out0_A_7
  frame_open
  simp (disch := decide) only [↓ View.readCov_skip, ↓ View.readCov_cons_toLoadRect, ↓ View.readCov_fill]
  frame_out
  simp only [ld_chunk16, ld_chunk32, ld_head, ld_scale]
  canon_tiles x h
  · rw [out_63, state_3, state_7, state_11, state_15, state_19, state_23, state_27, state_31, state_35, state_39, state_43,
      state_47, state_51, state_55, state_59, first_3]
    exact out_place x1 x0 x2 x3 x4 (turned x5) x6 15 3 960 384 rfl rfl y x (by omega) (by omega)
  · rw [out_62, state_2, state_6, state_10, state_14, state_18, state_22, state_26, state_30, state_34, state_38, state_42,
      state_46, state_50, state_54, state_58, first_2]
    exact out_place x1 x0 x2 x3 x4 (turned x5) x6 15 2 960 256 rfl rfl y x (by omega) (by omega)
  · rw [out_61, state_1, state_5, state_9, state_13, state_17, state_21, state_25, state_29, state_33, state_37, state_41,
      state_45, state_49, state_53, state_57, first_1]
    exact out_place x1 x0 x2 x3 x4 (turned x5) x6 15 1 960 128 rfl rfl y x (by omega) (by omega)
  · rw [out_60, state_0, state_4, state_8, state_12, state_16, state_20, state_24, state_28, state_32, state_36, state_40,
      state_44, state_48, state_52, state_56, first_0]
    exact out_place x1 x0 x2 x3 x4 (turned x5) x6 15 0 960 0 rfl rfl y x (by omega) (by omega)
  · rw [out_59, state_3, state_7, state_11, state_15, state_19, state_23, state_27, state_31, state_35, state_39, state_43,
      state_47, state_51, state_55, first_3]
    exact out_place x1 x0 x2 x3 x4 (turned x5) x6 14 3 896 384 rfl rfl y x (by omega) (by omega)
  · rw [out_58, state_2, state_6, state_10, state_14, state_18, state_22, state_26, state_30, state_34, state_38, state_42,
      state_46, state_50, state_54, first_2]
    exact out_place x1 x0 x2 x3 x4 (turned x5) x6 14 2 896 256 rfl rfl y x (by omega) (by omega)
  · rw [out_57, state_1, state_5, state_9, state_13, state_17, state_21, state_25, state_29, state_33, state_37, state_41,
      state_45, state_49, state_53, first_1]
    exact out_place x1 x0 x2 x3 x4 (turned x5) x6 14 1 896 128 rfl rfl y x (by omega) (by omega)
  · rw [out_56, state_0, state_4, state_8, state_12, state_16, state_20, state_24, state_28, state_32, state_36, state_40,
      state_44, state_48, state_52, first_0]
    exact out_place x1 x0 x2 x3 x4 (turned x5) x6 14 0 896 0 rfl rfl y x (by omega) (by omega)
  · rw [out_55, state_3, state_7, state_11, state_15, state_19, state_23, state_27, state_31, state_35, state_39, state_43,
      state_47, state_51, first_3]
    exact out_place x1 x0 x2 x3 x4 (turned x5) x6 13 3 832 384 rfl rfl y x (by omega) (by omega)
  · rw [out_54, state_2, state_6, state_10, state_14, state_18, state_22, state_26, state_30, state_34, state_38, state_42,
      state_46, state_50, first_2]
    exact out_place x1 x0 x2 x3 x4 (turned x5) x6 13 2 832 256 rfl rfl y x (by omega) (by omega)
  · rw [out_53, state_1, state_5, state_9, state_13, state_17, state_21, state_25, state_29, state_33, state_37, state_41,
      state_45, state_49, first_1]
    exact out_place x1 x0 x2 x3 x4 (turned x5) x6 13 1 832 128 rfl rfl y x (by omega) (by omega)
  · rw [out_52, state_0, state_4, state_8, state_12, state_16, state_20, state_24, state_28, state_32, state_36, state_40,
      state_44, state_48, first_0]
    exact out_place x1 x0 x2 x3 x4 (turned x5) x6 13 0 832 0 rfl rfl y x (by omega) (by omega)
  · rw [out_51, state_3, state_7, state_11, state_15, state_19, state_23, state_27, state_31, state_35, state_39, state_43,
      state_47, first_3]
    exact out_place x1 x0 x2 x3 x4 (turned x5) x6 12 3 768 384 rfl rfl y x (by omega) (by omega)
  · rw [out_50, state_2, state_6, state_10, state_14, state_18, state_22, state_26, state_30, state_34, state_38, state_42,
      state_46, first_2]
    exact out_place x1 x0 x2 x3 x4 (turned x5) x6 12 2 768 256 rfl rfl y x (by omega) (by omega)
  · rw [out_49, state_1, state_5, state_9, state_13, state_17, state_21, state_25, state_29, state_33, state_37, state_41,
      state_45, first_1]
    exact out_place x1 x0 x2 x3 x4 (turned x5) x6 12 1 768 128 rfl rfl y x (by omega) (by omega)
  · rw [out_48, state_0, state_4, state_8, state_12, state_16, state_20, state_24, state_28, state_32, state_36, state_40,
      state_44, first_0]
    exact out_place x1 x0 x2 x3 x4 (turned x5) x6 12 0 768 0 rfl rfl y x (by omega) (by omega)
  · rw [out_47, state_3, state_7, state_11, state_15, state_19, state_23, state_27, state_31, state_35, state_39, state_43,
      first_3]
    exact out_place x1 x0 x2 x3 x4 (turned x5) x6 11 3 704 384 rfl rfl y x (by omega) (by omega)
  · rw [out_46, state_2, state_6, state_10, state_14, state_18, state_22, state_26, state_30, state_34, state_38, state_42,
      first_2]
    exact out_place x1 x0 x2 x3 x4 (turned x5) x6 11 2 704 256 rfl rfl y x (by omega) (by omega)
  · rw [out_45, state_1, state_5, state_9, state_13, state_17, state_21, state_25, state_29, state_33, state_37, state_41,
      first_1]
    exact out_place x1 x0 x2 x3 x4 (turned x5) x6 11 1 704 128 rfl rfl y x (by omega) (by omega)
  · rw [out_44, state_0, state_4, state_8, state_12, state_16, state_20, state_24, state_28, state_32, state_36, state_40,
      first_0]
    exact out_place x1 x0 x2 x3 x4 (turned x5) x6 11 0 704 0 rfl rfl y x (by omega) (by omega)
  · rw [out_43, state_3, state_7, state_11, state_15, state_19, state_23, state_27, state_31, state_35, state_39, first_3]
    exact out_place x1 x0 x2 x3 x4 (turned x5) x6 10 3 640 384 rfl rfl y x (by omega) (by omega)
  · rw [out_42, state_2, state_6, state_10, state_14, state_18, state_22, state_26, state_30, state_34, state_38, first_2]
    exact out_place x1 x0 x2 x3 x4 (turned x5) x6 10 2 640 256 rfl rfl y x (by omega) (by omega)
  · rw [out_41, state_1, state_5, state_9, state_13, state_17, state_21, state_25, state_29, state_33, state_37, first_1]
    exact out_place x1 x0 x2 x3 x4 (turned x5) x6 10 1 640 128 rfl rfl y x (by omega) (by omega)
  · rw [out_40, state_0, state_4, state_8, state_12, state_16, state_20, state_24, state_28, state_32, state_36, first_0]
    exact out_place x1 x0 x2 x3 x4 (turned x5) x6 10 0 640 0 rfl rfl y x (by omega) (by omega)
  · rw [out_39, state_3, state_7, state_11, state_15, state_19, state_23, state_27, state_31, state_35, first_3]
    exact out_place x1 x0 x2 x3 x4 (turned x5) x6 9 3 576 384 rfl rfl y x (by omega) (by omega)
  · rw [out_38, state_2, state_6, state_10, state_14, state_18, state_22, state_26, state_30, state_34, first_2]
    exact out_place x1 x0 x2 x3 x4 (turned x5) x6 9 2 576 256 rfl rfl y x (by omega) (by omega)
  · rw [out_37, state_1, state_5, state_9, state_13, state_17, state_21, state_25, state_29, state_33, first_1]
    exact out_place x1 x0 x2 x3 x4 (turned x5) x6 9 1 576 128 rfl rfl y x (by omega) (by omega)
  · rw [out_36, state_0, state_4, state_8, state_12, state_16, state_20, state_24, state_28, state_32, first_0]
    exact out_place x1 x0 x2 x3 x4 (turned x5) x6 9 0 576 0 rfl rfl y x (by omega) (by omega)
  · rw [out_35, state_3, state_7, state_11, state_15, state_19, state_23, state_27, state_31, first_3]
    exact out_place x1 x0 x2 x3 x4 (turned x5) x6 8 3 512 384 rfl rfl y x (by omega) (by omega)
  · rw [out_34, state_2, state_6, state_10, state_14, state_18, state_22, state_26, state_30, first_2]
    exact out_place x1 x0 x2 x3 x4 (turned x5) x6 8 2 512 256 rfl rfl y x (by omega) (by omega)
  · rw [out_33, state_1, state_5, state_9, state_13, state_17, state_21, state_25, state_29, first_1]
    exact out_place x1 x0 x2 x3 x4 (turned x5) x6 8 1 512 128 rfl rfl y x (by omega) (by omega)
  · rw [out_32, state_0, state_4, state_8, state_12, state_16, state_20, state_24, state_28, first_0]
    exact out_place x1 x0 x2 x3 x4 (turned x5) x6 8 0 512 0 rfl rfl y x (by omega) (by omega)
  · rw [out_31, state_3, state_7, state_11, state_15, state_19, state_23, state_27, first_3]
    exact out_place x1 x0 x2 x3 x4 (turned x5) x6 7 3 448 384 rfl rfl y x (by omega) (by omega)
  · rw [out_30, state_2, state_6, state_10, state_14, state_18, state_22, state_26, first_2]
    exact out_place x1 x0 x2 x3 x4 (turned x5) x6 7 2 448 256 rfl rfl y x (by omega) (by omega)
  · rw [out_29, state_1, state_5, state_9, state_13, state_17, state_21, state_25, first_1]
    exact out_place x1 x0 x2 x3 x4 (turned x5) x6 7 1 448 128 rfl rfl y x (by omega) (by omega)
  · rw [out_28, state_0, state_4, state_8, state_12, state_16, state_20, state_24, first_0]
    exact out_place x1 x0 x2 x3 x4 (turned x5) x6 7 0 448 0 rfl rfl y x (by omega) (by omega)
  · rw [out_27, state_3, state_7, state_11, state_15, state_19, state_23, first_3]
    exact out_place x1 x0 x2 x3 x4 (turned x5) x6 6 3 384 384 rfl rfl y x (by omega) (by omega)
  · rw [out_26, state_2, state_6, state_10, state_14, state_18, state_22, first_2]
    exact out_place x1 x0 x2 x3 x4 (turned x5) x6 6 2 384 256 rfl rfl y x (by omega) (by omega)
  · rw [out_25, state_1, state_5, state_9, state_13, state_17, state_21, first_1]
    exact out_place x1 x0 x2 x3 x4 (turned x5) x6 6 1 384 128 rfl rfl y x (by omega) (by omega)
  · rw [out_24, state_0, state_4, state_8, state_12, state_16, state_20, first_0]
    exact out_place x1 x0 x2 x3 x4 (turned x5) x6 6 0 384 0 rfl rfl y x (by omega) (by omega)
  · rw [out_23, state_3, state_7, state_11, state_15, state_19, first_3]
    exact out_place x1 x0 x2 x3 x4 (turned x5) x6 5 3 320 384 rfl rfl y x (by omega) (by omega)
  · rw [out_22, state_2, state_6, state_10, state_14, state_18, first_2]
    exact out_place x1 x0 x2 x3 x4 (turned x5) x6 5 2 320 256 rfl rfl y x (by omega) (by omega)
  · rw [out_21, state_1, state_5, state_9, state_13, state_17, first_1]
    exact out_place x1 x0 x2 x3 x4 (turned x5) x6 5 1 320 128 rfl rfl y x (by omega) (by omega)
  · rw [out_20, state_0, state_4, state_8, state_12, state_16, first_0]
    exact out_place x1 x0 x2 x3 x4 (turned x5) x6 5 0 320 0 rfl rfl y x (by omega) (by omega)
  · rw [out_19, state_3, state_7, state_11, state_15, first_3]
    exact out_place x1 x0 x2 x3 x4 (turned x5) x6 4 3 256 384 rfl rfl y x (by omega) (by omega)
  · rw [out_18, state_2, state_6, state_10, state_14, first_2]
    exact out_place x1 x0 x2 x3 x4 (turned x5) x6 4 2 256 256 rfl rfl y x (by omega) (by omega)
  · rw [out_17, state_1, state_5, state_9, state_13, first_1]
    exact out_place x1 x0 x2 x3 x4 (turned x5) x6 4 1 256 128 rfl rfl y x (by omega) (by omega)
  · rw [out_16, state_0, state_4, state_8, state_12, first_0]
    exact out_place x1 x0 x2 x3 x4 (turned x5) x6 4 0 256 0 rfl rfl y x (by omega) (by omega)
  · rw [out_15, state_3, state_7, state_11, first_3]
    exact out_place x1 x0 x2 x3 x4 (turned x5) x6 3 3 192 384 rfl rfl y x (by omega) (by omega)
  · rw [out_14, state_2, state_6, state_10, first_2]
    exact out_place x1 x0 x2 x3 x4 (turned x5) x6 3 2 192 256 rfl rfl y x (by omega) (by omega)
  · rw [out_13, state_1, state_5, state_9, first_1]
    exact out_place x1 x0 x2 x3 x4 (turned x5) x6 3 1 192 128 rfl rfl y x (by omega) (by omega)
  · rw [out_12, state_0, state_4, state_8, first_0]
    exact out_place x1 x0 x2 x3 x4 (turned x5) x6 3 0 192 0 rfl rfl y x (by omega) (by omega)
  · rw [out_11, state_3, state_7, first_3]
    exact out_place x1 x0 x2 x3 x4 (turned x5) x6 2 3 128 384 rfl rfl y x (by omega) (by omega)
  · rw [out_10, state_2, state_6, first_2]
    exact out_place x1 x0 x2 x3 x4 (turned x5) x6 2 2 128 256 rfl rfl y x (by omega) (by omega)
  · rw [out_9, state_1, state_5, first_1]
    exact out_place x1 x0 x2 x3 x4 (turned x5) x6 2 1 128 128 rfl rfl y x (by omega) (by omega)
  · rw [out_8, state_0, state_4, first_0]
    exact out_place x1 x0 x2 x3 x4 (turned x5) x6 2 0 128 0 rfl rfl y x (by omega) (by omega)
  · rw [out_7, state_3, first_3]
    exact out_place x1 x0 x2 x3 x4 (turned x5) x6 1 3 64 384 rfl rfl y x (by omega) (by omega)
  · rw [out_6, state_2, first_2]
    exact out_place x1 x0 x2 x3 x4 (turned x5) x6 1 2 64 256 rfl rfl y x (by omega) (by omega)
  · rw [out_5, state_1, first_1]
    exact out_place x1 x0 x2 x3 x4 (turned x5) x6 1 1 64 128 rfl rfl y x (by omega) (by omega)
  · rw [out_4, state_0, first_0]
    exact out_place x1 x0 x2 x3 x4 (turned x5) x6 1 0 64 0 rfl rfl y x (by omega) (by omega)
  · rw [out_3, first_3]
    exact out_place x1 x0 x2 x3 x4 (turned x5) x6 0 3 0 384 rfl rfl y x (by omega) (by omega)
  · rw [out_2, first_2]
    exact out_place x1 x0 x2 x3 x4 (turned x5) x6 0 2 0 256 rfl rfl y x (by omega) (by omega)
  · rw [out_1, first_1]
    exact out_place x1 x0 x2 x3 x4 (turned x5) x6 0 1 0 128 rfl rfl y x (by omega) (by omega)
  · rw [out_0, first_0]
    exact out_place x1 x0 x2 x3 x4 (turned x5) x6 0 0 0 0 rfl rfl y x (by omega) (by omega)

end Cert.Kernel7Ideal.Hgrn
-- ==== Proof.HgrnP.CaseB.lean ====
module

public import proofs.«01_k».proof.Proof.HgrnP.Fold
public import proofs.«01_k».proof.Proof.HgrnP.Units1
public import proofs.«01_k».proof.Proof.HgrnP.Units2
public import proofs.«01_k».proof.Proof.HgrnP.Units3
public import proofs.«01_k».proof.Proof.HgrnP.Units4

/-!
# What a grid point leaves: case B

A middle grid point of a sequence carries on from the states that the point before left.
-/

@[expose] public section

set_option maxRecDepth 16384

noncomputable section

namespace Cert.Kernel7Ideal.Hgrn

open Cert.Kernel7Ideal Cert.Kernel7Ideal.Gen Cert.Kernel7Ideal.Value Idealize.ShloMosaic
open Idealize.ShloMosaic.TcCoe Idealize.SL.Sem
set_option maxHeartbeats 1000000 in
/-- What case B leaves in the states. -/
theorem states_B (c : Dev nD) (i : grid0.Coords) (arg2 : Memref sig .tc .vmem S1x1024x512 .bf16)
    (harg2 : arg2.IsWhole) (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : ¬cond0_0 i) (hc1 : ¬cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32) (xs0 : Vec Ideal S4x128x128 .f32)
    (y : S4x128x128.Idx) :
    sout0_B_0 c i arg2 harg2 arg3 harg3 arg4 harg4 arg5 harg5 arg6 harg6 arg7 harg7 arg8
    harg8 arg9 harg9 arg10 harg10 arg11 harg11 hc0 hc1 x0 x1 x2 x3 x4 x5 x6 xs0 y
      = stateRec x1 x2 x3 (xs0) (y 0).val 16 (ix3 0 (y 1) (y 2)) := by
  unfold sout0_B_0
  frame_open
  simp (disch := decide) only [↓ View.readCov_skip, ↓ View.readCov_cons_toLoadRect, ↓ View.readCov_fill]
  frame_out
  simp only [ld_chunk16, ld_chunk32, ld_head]
  refine canon_heads4 (fun h => stateRec x1 x2 x3 (xs0) h 16) _ _ _ _ _ _ _ _ _ y ?_ ?_ ?_ ?_
  · rw [state_0, state_4, state_8, state_12, state_16, state_20, state_24, state_28, state_32, state_36, state_40,
      state_44, state_48, state_52, state_56, state_60]
    rfl
  · rw [state_1, state_5, state_9, state_13, state_17, state_21, state_25, state_29, state_33, state_37, state_41,
      state_45, state_49, state_53, state_57, state_61]
    rfl
  · rw [state_2, state_6, state_10, state_14, state_18, state_22, state_26, state_30, state_34, state_38, state_42,
      state_46, state_50, state_54, state_58, state_62]
    rfl
  · rw [state_3, state_7, state_11, state_15, state_19, state_23, state_27, state_31, state_35, state_39, state_43,
      state_47, state_51, state_55, state_59, state_63]
    rfl

set_option maxHeartbeats 4000000 in
/-- What case B leaves in the block of outputs. -/
theorem outs_B (c : Dev nD) (i : grid0.Coords) (arg2 : Memref sig .tc .vmem S1x1024x512 .bf16) (harg2 : arg2.IsWhole)
    (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : ¬cond0_0 i) (hc1 : ¬cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32) (xs0 : Vec Ideal S4x128x128 .f32)
    (y : S1x1024x512.Idx) :
    out0_B_7 c i arg2 harg2 arg3 harg3 arg4 harg4 arg5 harg5 arg6 harg6 arg7 harg7 arg8
    harg8 arg9 harg9 arg10 harg10 arg11 harg11 hc0 hc1 x0 x1 x2 x3 x4 x5 x6 xs0 y
      = outAt x1 x0 x2 x3 x4 (xs0) x6 y := by
  unfold out0_B_7
  frame_open
  simp (disch := decide) only [↓ View.readCov_skip, ↓ View.readCov_cons_toLoadRect, ↓ View.readCov_fill]
  frame_out
  simp only [ld_chunk16, ld_chunk32, ld_head, ld_scale]
  canon_tiles x h
  · rw [out_63, state_3, state_7, state_11, state_15, state_19, state_23, state_27, state_31, state_35, state_39, state_43,
      state_47, state_51, state_55, state_59]
    exact out_place x1 x0 x2 x3 x4 (xs0) x6 15 3 960 384 rfl rfl y x (by omega) (by omega)
  · rw [out_62, state_2, state_6, state_10, state_14, state_18, state_22, state_26, state_30, state_34, state_38, state_42,
      state_46, state_50, state_54, state_58]
    exact out_place x1 x0 x2 x3 x4 (xs0) x6 15 2 960 256 rfl rfl y x (by omega) (by omega)
  · rw [out_61, state_1, state_5, state_9, state_13, state_17, state_21, state_25, state_29, state_33, state_37, state_41,
      state_45, state_49, state_53, state_57]
    exact out_place x1 x0 x2 x3 x4 (xs0) x6 15 1 960 128 rfl rfl y x (by omega) (by omega)
  · rw [out_60, state_0, state_4, state_8, state_12, state_16, state_20, state_24, state_28, state_32, state_36, state_40,
      state_44, state_48, state_52, state_56]
    exact out_place x1 x0 x2 x3 x4 (xs0) x6 15 0 960 0 rfl rfl y x (by omega) (by omega)
  · rw [out_59, state_3, state_7, state_11, state_15, state_19, state_23, state_27, state_31, state_35, state_39, state_43,
      state_47, state_51, state_55]
    exact out_place x1 x0 x2 x3 x4 (xs0) x6 14 3 896 384 rfl rfl y x (by omega) (by omega)
  · rw [out_58, state_2, state_6, state_10, state_14, state_18, state_22, state_26, state_30, state_34, state_38, state_42,
      state_46, state_50, state_54]
    exact out_place x1 x0 x2 x3 x4 (xs0) x6 14 2 896 256 rfl rfl y x (by omega) (by omega)
  · rw [out_57, state_1, state_5, state_9, state_13, state_17, state_21, state_25, state_29, state_33, state_37, state_41,
      state_45, state_49, state_53]
    exact out_place x1 x0 x2 x3 x4 (xs0) x6 14 1 896 128 rfl rfl y x (by omega) (by omega)
  · rw [out_56, state_0, state_4, state_8, state_12, state_16, state_20, state_24, state_28, state_32, state_36, state_40,
      state_44, state_48, state_52]
    exact out_place x1 x0 x2 x3 x4 (xs0) x6 14 0 896 0 rfl rfl y x (by omega) (by omega)
  · rw [out_55, state_3, state_7, state_11, state_15, state_19, state_23, state_27, state_31, state_35, state_39, state_43,
      state_47, state_51]
    exact out_place x1 x0 x2 x3 x4 (xs0) x6 13 3 832 384 rfl rfl y x (by omega) (by omega)
  · rw [out_54, state_2, state_6, state_10, state_14, state_18, state_22, state_26, state_30, state_34, state_38, state_42,
      state_46, state_50]
    exact out_place x1 x0 x2 x3 x4 (xs0) x6 13 2 832 256 rfl rfl y x (by omega) (by omega)
  · rw [out_53, state_1, state_5, state_9, state_13, state_17, state_21, state_25, state_29, state_33, state_37, state_41,
      state_45, state_49]
    exact out_place x1 x0 x2 x3 x4 (xs0) x6 13 1 832 128 rfl rfl y x (by omega) (by omega)
  · rw [out_52, state_0, state_4, state_8, state_12, state_16, state_20, state_24, state_28, state_32, state_36, state_40,
      state_44, state_48]
    exact out_place x1 x0 x2 x3 x4 (xs0) x6 13 0 832 0 rfl rfl y x (by omega) (by omega)
  · rw [out_51, state_3, state_7, state_11, state_15, state_19, state_23, state_27, state_31, state_35, state_39, state_43,
      state_47]
    exact out_place x1 x0 x2 x3 x4 (xs0) x6 12 3 768 384 rfl rfl y x (by omega) (by omega)
  · rw [out_50, state_2, state_6, state_10, state_14, state_18, state_22, state_26, state_30, state_34, state_38, state_42,
      state_46]
    exact out_place x1 x0 x2 x3 x4 (xs0) x6 12 2 768 256 rfl rfl y x (by omega) (by omega)
  · rw [out_49, state_1, state_5, state_9, state_13, state_17, state_21, state_25, state_29, state_33, state_37, state_41,
      state_45]
    exact out_place x1 x0 x2 x3 x4 (xs0) x6 12 1 768 128 rfl rfl y x (by omega) (by omega)
  · rw [out_48, state_0, state_4, state_8, state_12, state_16, state_20, state_24, state_28, state_32, state_36, state_40,
      state_44]
    exact out_place x1 x0 x2 x3 x4 (xs0) x6 12 0 768 0 rfl rfl y x (by omega) (by omega)
  · rw [out_47, state_3, state_7, state_11, state_15, state_19, state_23, state_27, state_31, state_35, state_39, state_43]
    exact out_place x1 x0 x2 x3 x4 (xs0) x6 11 3 704 384 rfl rfl y x (by omega) (by omega)
  · rw [out_46, state_2, state_6, state_10, state_14, state_18, state_22, state_26, state_30, state_34, state_38, state_42]
    exact out_place x1 x0 x2 x3 x4 (xs0) x6 11 2 704 256 rfl rfl y x (by omega) (by omega)
  · rw [out_45, state_1, state_5, state_9, state_13, state_17, state_21, state_25, state_29, state_33, state_37, state_41]
    exact out_place x1 x0 x2 x3 x4 (xs0) x6 11 1 704 128 rfl rfl y x (by omega) (by omega)
  · rw [out_44, state_0, state_4, state_8, state_12, state_16, state_20, state_24, state_28, state_32, state_36, state_40]
    exact out_place x1 x0 x2 x3 x4 (xs0) x6 11 0 704 0 rfl rfl y x (by omega) (by omega)
  · rw [out_43, state_3, state_7, state_11, state_15, state_19, state_23, state_27, state_31, state_35, state_39]
    exact out_place x1 x0 x2 x3 x4 (xs0) x6 10 3 640 384 rfl rfl y x (by omega) (by omega)
  · rw [out_42, state_2, state_6, state_10, state_14, state_18, state_22, state_26, state_30, state_34, state_38]
    exact out_place x1 x0 x2 x3 x4 (xs0) x6 10 2 640 256 rfl rfl y x (by omega) (by omega)
  · rw [out_41, state_1, state_5, state_9, state_13, state_17, state_21, state_25, state_29, state_33, state_37]
    exact out_place x1 x0 x2 x3 x4 (xs0) x6 10 1 640 128 rfl rfl y x (by omega) (by omega)
  · rw [out_40, state_0, state_4, state_8, state_12, state_16, state_20, state_24, state_28, state_32, state_36]
    exact out_place x1 x0 x2 x3 x4 (xs0) x6 10 0 640 0 rfl rfl y x (by omega) (by omega)
  · rw [out_39, state_3, state_7, state_11, state_15, state_19, state_23, state_27, state_31, state_35]
    exact out_place x1 x0 x2 x3 x4 (xs0) x6 9 3 576 384 rfl rfl y x (by omega) (by omega)
  · rw [out_38, state_2, state_6, state_10, state_14, state_18, state_22, state_26, state_30, state_34]
    exact out_place x1 x0 x2 x3 x4 (xs0) x6 9 2 576 256 rfl rfl y x (by omega) (by omega)
  · rw [out_37, state_1, state_5, state_9, state_13, state_17, state_21, state_25, state_29, state_33]
    exact out_place x1 x0 x2 x3 x4 (xs0) x6 9 1 576 128 rfl rfl y x (by omega) (by omega)
  · rw [out_36, state_0, state_4, state_8, state_12, state_16, state_20, state_24, state_28, state_32]
    exact out_place x1 x0 x2 x3 x4 (xs0) x6 9 0 576 0 rfl rfl y x (by omega) (by omega)
  · rw [out_35, state_3, state_7, state_11, state_15, state_19, state_23, state_27, state_31]
    exact out_place x1 x0 x2 x3 x4 (xs0) x6 8 3 512 384 rfl rfl y x (by omega) (by omega)
  · rw [out_34, state_2, state_6, state_10, state_14, state_18, state_22, state_26, state_30]
    exact out_place x1 x0 x2 x3 x4 (xs0) x6 8 2 512 256 rfl rfl y x (by omega) (by omega)
  · rw [out_33, state_1, state_5, state_9, state_13, state_17, state_21, state_25, state_29]
    exact out_place x1 x0 x2 x3 x4 (xs0) x6 8 1 512 128 rfl rfl y x (by omega) (by omega)
  · rw [out_32, state_0, state_4, state_8, state_12, state_16, state_20, state_24, state_28]
    exact out_place x1 x0 x2 x3 x4 (xs0) x6 8 0 512 0 rfl rfl y x (by omega) (by omega)
  · rw [out_31, state_3, state_7, state_11, state_15, state_19, state_23, state_27]
    exact out_place x1 x0 x2 x3 x4 (xs0) x6 7 3 448 384 rfl rfl y x (by omega) (by omega)
  · rw [out_30, state_2, state_6, state_10, state_14, state_18, state_22, state_26]
    exact out_place x1 x0 x2 x3 x4 (xs0) x6 7 2 448 256 rfl rfl y x (by omega) (by omega)
  · rw [out_29, state_1, state_5, state_9, state_13, state_17, state_21, state_25]
    exact out_place x1 x0 x2 x3 x4 (xs0) x6 7 1 448 128 rfl rfl y x (by omega) (by omega)
  · rw [out_28, state_0, state_4, state_8, state_12, state_16, state_20, state_24]
    exact out_place x1 x0 x2 x3 x4 (xs0) x6 7 0 448 0 rfl rfl y x (by omega) (by omega)
  · rw [out_27, state_3, state_7, state_11, state_15, state_19, state_23]
    exact out_place x1 x0 x2 x3 x4 (xs0) x6 6 3 384 384 rfl rfl y x (by omega) (by omega)
  · rw [out_26, state_2, state_6, state_10, state_14, state_18, state_22]
    exact out_place x1 x0 x2 x3 x4 (xs0) x6 6 2 384 256 rfl rfl y x (by omega) (by omega)
  · rw [out_25, state_1, state_5, state_9, state_13, state_17, state_21]
    exact out_place x1 x0 x2 x3 x4 (xs0) x6 6 1 384 128 rfl rfl y x (by omega) (by omega)
  · rw [out_24, state_0, state_4, state_8, state_12, state_16, state_20]
    exact out_place x1 x0 x2 x3 x4 (xs0) x6 6 0 384 0 rfl rfl y x (by omega) (by omega)
  · rw [out_23, state_3, state_7, state_11, state_15, state_19]
    exact out_place x1 x0 x2 x3 x4 (xs0) x6 5 3 320 384 rfl rfl y x (by omega) (by omega)
  · rw [out_22, state_2, state_6, state_10, state_14, state_18]
    exact out_place x1 x0 x2 x3 x4 (xs0) x6 5 2 320 256 rfl rfl y x (by omega) (by omega)
  · rw [out_21, state_1, state_5, state_9, state_13, state_17]
    exact out_place x1 x0 x2 x3 x4 (xs0) x6 5 1 320 128 rfl rfl y x (by omega) (by omega)
  · rw [out_20, state_0, state_4, state_8, state_12, state_16]
    exact out_place x1 x0 x2 x3 x4 (xs0) x6 5 0 320 0 rfl rfl y x (by omega) (by omega)
  · rw [out_19, state_3, state_7, state_11, state_15]
    exact out_place x1 x0 x2 x3 x4 (xs0) x6 4 3 256 384 rfl rfl y x (by omega) (by omega)
  · rw [out_18, state_2, state_6, state_10, state_14]
    exact out_place x1 x0 x2 x3 x4 (xs0) x6 4 2 256 256 rfl rfl y x (by omega) (by omega)
  · rw [out_17, state_1, state_5, state_9, state_13]
    exact out_place x1 x0 x2 x3 x4 (xs0) x6 4 1 256 128 rfl rfl y x (by omega) (by omega)
  · rw [out_16, state_0, state_4, state_8, state_12]
    exact out_place x1 x0 x2 x3 x4 (xs0) x6 4 0 256 0 rfl rfl y x (by omega) (by omega)
  · rw [out_15, state_3, state_7, state_11]
    exact out_place x1 x0 x2 x3 x4 (xs0) x6 3 3 192 384 rfl rfl y x (by omega) (by omega)
  · rw [out_14, state_2, state_6, state_10]
    exact out_place x1 x0 x2 x3 x4 (xs0) x6 3 2 192 256 rfl rfl y x (by omega) (by omega)
  · rw [out_13, state_1, state_5, state_9]
    exact out_place x1 x0 x2 x3 x4 (xs0) x6 3 1 192 128 rfl rfl y x (by omega) (by omega)
  · rw [out_12, state_0, state_4, state_8]
    exact out_place x1 x0 x2 x3 x4 (xs0) x6 3 0 192 0 rfl rfl y x (by omega) (by omega)
  · rw [out_11, state_3, state_7]
    exact out_place x1 x0 x2 x3 x4 (xs0) x6 2 3 128 384 rfl rfl y x (by omega) (by omega)
  · rw [out_10, state_2, state_6]
    exact out_place x1 x0 x2 x3 x4 (xs0) x6 2 2 128 256 rfl rfl y x (by omega) (by omega)
  · rw [out_9, state_1, state_5]
    exact out_place x1 x0 x2 x3 x4 (xs0) x6 2 1 128 128 rfl rfl y x (by omega) (by omega)
  · rw [out_8, state_0, state_4]
    exact out_place x1 x0 x2 x3 x4 (xs0) x6 2 0 128 0 rfl rfl y x (by omega) (by omega)
  · rw [out_7, state_3]
    exact out_place x1 x0 x2 x3 x4 (xs0) x6 1 3 64 384 rfl rfl y x (by omega) (by omega)
  · rw [out_6, state_2]
    exact out_place x1 x0 x2 x3 x4 (xs0) x6 1 2 64 256 rfl rfl y x (by omega) (by omega)
  · rw [out_5, state_1]
    exact out_place x1 x0 x2 x3 x4 (xs0) x6 1 1 64 128 rfl rfl y x (by omega) (by omega)
  · rw [out_4, state_0]
    exact out_place x1 x0 x2 x3 x4 (xs0) x6 1 0 64 0 rfl rfl y x (by omega) (by omega)
  · rw [out_3]
    exact out_place x1 x0 x2 x3 x4 (xs0) x6 0 3 0 384 rfl rfl y x (by omega) (by omega)
  · rw [out_2]
    exact out_place x1 x0 x2 x3 x4 (xs0) x6 0 2 0 256 rfl rfl y x (by omega) (by omega)
  · rw [out_1]
    exact out_place x1 x0 x2 x3 x4 (xs0) x6 0 1 0 128 rfl rfl y x (by omega) (by omega)
  · rw [out_0]
    exact out_place x1 x0 x2 x3 x4 (xs0) x6 0 0 0 0 rfl rfl y x (by omega) (by omega)

end Cert.Kernel7Ideal.Hgrn
-- ==== Proof.HgrnP.CaseC.lean ====
module

public import proofs.«01_k».proof.Proof.HgrnP.Fold
public import proofs.«01_k».proof.Proof.HgrnP.Units1
public import proofs.«01_k».proof.Proof.HgrnP.Units2
public import proofs.«01_k».proof.Proof.HgrnP.Units3
public import proofs.«01_k».proof.Proof.HgrnP.Units4

/-!
# What a grid point leaves: case C

The last grid point of a sequence also stores the new states, transposed.
-/

@[expose] public section

set_option maxRecDepth 16384

noncomputable section

namespace Cert.Kernel7Ideal.Hgrn

open Cert.Kernel7Ideal Cert.Kernel7Ideal.Gen Cert.Kernel7Ideal.Value Idealize.ShloMosaic
open Idealize.ShloMosaic.TcCoe Idealize.SL.Sem
set_option maxHeartbeats 1000000 in
/-- What case C leaves in the states. -/
theorem states_C (c : Dev nD) (i : grid0.Coords) (arg2 : Memref sig .tc .vmem S1x1024x512 .bf16)
    (harg2 : arg2.IsWhole) (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : ¬cond0_0 i) (hc1 : cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32) (xs0 : Vec Ideal S4x128x128 .f32)
    (y : S4x128x128.Idx) :
    sout0_C_0 c i arg2 harg2 arg3 harg3 arg4 harg4 arg5 harg5 arg6 harg6 arg7 harg7 arg8
    harg8 arg9 harg9 arg10 harg10 arg11 harg11 hc0 hc1 x0 x1 x2 x3 x4 x5 x6 xs0 y
      = stateRec x1 x2 x3 (xs0) (y 0).val 16 (ix3 0 (y 1) (y 2)) := by
  unfold sout0_C_0
  frame_open
  simp (disch := decide) only [↓ View.readCov_skip, ↓ View.readCov_cons_toLoadRect, ↓ View.readCov_fill]
  frame_out
  simp only [ld_chunk16, ld_chunk32, ld_head]
  refine canon_heads4 (fun h => stateRec x1 x2 x3 (xs0) h 16) _ _ _ _ _ _ _ _ _ y ?_ ?_ ?_ ?_
  · rw [state_0, state_4, state_8, state_12, state_16, state_20, state_24, state_28, state_32, state_36, state_40,
      state_44, state_48, state_52, state_56, state_60]
    rfl
  · rw [state_1, state_5, state_9, state_13, state_17, state_21, state_25, state_29, state_33, state_37, state_41,
      state_45, state_49, state_53, state_57, state_61]
    rfl
  · rw [state_2, state_6, state_10, state_14, state_18, state_22, state_26, state_30, state_34, state_38, state_42,
      state_46, state_50, state_54, state_58, state_62]
    rfl
  · rw [state_3, state_7, state_11, state_15, state_19, state_23, state_27, state_31, state_35, state_39, state_43,
      state_47, state_51, state_55, state_59, state_63]
    rfl

set_option maxHeartbeats 4000000 in
/-- What case C leaves in the block of outputs. -/
theorem outs_C (c : Dev nD) (i : grid0.Coords) (arg2 : Memref sig .tc .vmem S1x1024x512 .bf16) (harg2 : arg2.IsWhole)
    (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : ¬cond0_0 i) (hc1 : cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32) (xs0 : Vec Ideal S4x128x128 .f32)
    (y : S1x1024x512.Idx) :
    out0_C_7 c i arg2 harg2 arg3 harg3 arg4 harg4 arg5 harg5 arg6 harg6 arg7 harg7 arg8
    harg8 arg9 harg9 arg10 harg10 arg11 harg11 hc0 hc1 x0 x1 x2 x3 x4 x5 x6 xs0 y
      = outAt x1 x0 x2 x3 x4 (xs0) x6 y := by
  unfold out0_C_7
  frame_open
  simp (disch := decide) only [↓ View.readCov_skip, ↓ View.readCov_cons_toLoadRect, ↓ View.readCov_fill]
  frame_out
  simp only [ld_chunk16, ld_chunk32, ld_head, ld_scale]
  canon_tiles x h
  · rw [out_63, state_3, state_7, state_11, state_15, state_19, state_23, state_27, state_31, state_35, state_39, state_43,
      state_47, state_51, state_55, state_59]
    exact out_place x1 x0 x2 x3 x4 (xs0) x6 15 3 960 384 rfl rfl y x (by omega) (by omega)
  · rw [out_62, state_2, state_6, state_10, state_14, state_18, state_22, state_26, state_30, state_34, state_38, state_42,
      state_46, state_50, state_54, state_58]
    exact out_place x1 x0 x2 x3 x4 (xs0) x6 15 2 960 256 rfl rfl y x (by omega) (by omega)
  · rw [out_61, state_1, state_5, state_9, state_13, state_17, state_21, state_25, state_29, state_33, state_37, state_41,
      state_45, state_49, state_53, state_57]
    exact out_place x1 x0 x2 x3 x4 (xs0) x6 15 1 960 128 rfl rfl y x (by omega) (by omega)
  · rw [out_60, state_0, state_4, state_8, state_12, state_16, state_20, state_24, state_28, state_32, state_36, state_40,
      state_44, state_48, state_52, state_56]
    exact out_place x1 x0 x2 x3 x4 (xs0) x6 15 0 960 0 rfl rfl y x (by omega) (by omega)
  · rw [out_59, state_3, state_7, state_11, state_15, state_19, state_23, state_27, state_31, state_35, state_39, state_43,
      state_47, state_51, state_55]
    exact out_place x1 x0 x2 x3 x4 (xs0) x6 14 3 896 384 rfl rfl y x (by omega) (by omega)
  · rw [out_58, state_2, state_6, state_10, state_14, state_18, state_22, state_26, state_30, state_34, state_38, state_42,
      state_46, state_50, state_54]
    exact out_place x1 x0 x2 x3 x4 (xs0) x6 14 2 896 256 rfl rfl y x (by omega) (by omega)
  · rw [out_57, state_1, state_5, state_9, state_13, state_17, state_21, state_25, state_29, state_33, state_37, state_41,
      state_45, state_49, state_53]
    exact out_place x1 x0 x2 x3 x4 (xs0) x6 14 1 896 128 rfl rfl y x (by omega) (by omega)
  · rw [out_56, state_0, state_4, state_8, state_12, state_16, state_20, state_24, state_28, state_32, state_36, state_40,
      state_44, state_48, state_52]
    exact out_place x1 x0 x2 x3 x4 (xs0) x6 14 0 896 0 rfl rfl y x (by omega) (by omega)
  · rw [out_55, state_3, state_7, state_11, state_15, state_19, state_23, state_27, state_31, state_35, state_39, state_43,
      state_47, state_51]
    exact out_place x1 x0 x2 x3 x4 (xs0) x6 13 3 832 384 rfl rfl y x (by omega) (by omega)
  · rw [out_54, state_2, state_6, state_10, state_14, state_18, state_22, state_26, state_30, state_34, state_38, state_42,
      state_46, state_50]
    exact out_place x1 x0 x2 x3 x4 (xs0) x6 13 2 832 256 rfl rfl y x (by omega) (by omega)
  · rw [out_53, state_1, state_5, state_9, state_13, state_17, state_21, state_25, state_29, state_33, state_37, state_41,
      state_45, state_49]
    exact out_place x1 x0 x2 x3 x4 (xs0) x6 13 1 832 128 rfl rfl y x (by omega) (by omega)
  · rw [out_52, state_0, state_4, state_8, state_12, state_16, state_20, state_24, state_28, state_32, state_36, state_40,
      state_44, state_48]
    exact out_place x1 x0 x2 x3 x4 (xs0) x6 13 0 832 0 rfl rfl y x (by omega) (by omega)
  · rw [out_51, state_3, state_7, state_11, state_15, state_19, state_23, state_27, state_31, state_35, state_39, state_43,
      state_47]
    exact out_place x1 x0 x2 x3 x4 (xs0) x6 12 3 768 384 rfl rfl y x (by omega) (by omega)
  · rw [out_50, state_2, state_6, state_10, state_14, state_18, state_22, state_26, state_30, state_34, state_38, state_42,
      state_46]
    exact out_place x1 x0 x2 x3 x4 (xs0) x6 12 2 768 256 rfl rfl y x (by omega) (by omega)
  · rw [out_49, state_1, state_5, state_9, state_13, state_17, state_21, state_25, state_29, state_33, state_37, state_41,
      state_45]
    exact out_place x1 x0 x2 x3 x4 (xs0) x6 12 1 768 128 rfl rfl y x (by omega) (by omega)
  · rw [out_48, state_0, state_4, state_8, state_12, state_16, state_20, state_24, state_28, state_32, state_36, state_40,
      state_44]
    exact out_place x1 x0 x2 x3 x4 (xs0) x6 12 0 768 0 rfl rfl y x (by omega) (by omega)
  · rw [out_47, state_3, state_7, state_11, state_15, state_19, state_23, state_27, state_31, state_35, state_39, state_43]
    exact out_place x1 x0 x2 x3 x4 (xs0) x6 11 3 704 384 rfl rfl y x (by omega) (by omega)
  · rw [out_46, state_2, state_6, state_10, state_14, state_18, state_22, state_26, state_30, state_34, state_38, state_42]
    exact out_place x1 x0 x2 x3 x4 (xs0) x6 11 2 704 256 rfl rfl y x (by omega) (by omega)
  · rw [out_45, state_1, state_5, state_9, state_13, state_17, state_21, state_25, state_29, state_33, state_37, state_41]
    exact out_place x1 x0 x2 x3 x4 (xs0) x6 11 1 704 128 rfl rfl y x (by omega) (by omega)
  · rw [out_44, state_0, state_4, state_8, state_12, state_16, state_20, state_24, state_28, state_32, state_36, state_40]
    exact out_place x1 x0 x2 x3 x4 (xs0) x6 11 0 704 0 rfl rfl y x (by omega) (by omega)
  · rw [out_43, state_3, state_7, state_11, state_15, state_19, state_23, state_27, state_31, state_35, state_39]
    exact out_place x1 x0 x2 x3 x4 (xs0) x6 10 3 640 384 rfl rfl y x (by omega) (by omega)
  · rw [out_42, state_2, state_6, state_10, state_14, state_18, state_22, state_26, state_30, state_34, state_38]
    exact out_place x1 x0 x2 x3 x4 (xs0) x6 10 2 640 256 rfl rfl y x (by omega) (by omega)
  · rw [out_41, state_1, state_5, state_9, state_13, state_17, state_21, state_25, state_29, state_33, state_37]
    exact out_place x1 x0 x2 x3 x4 (xs0) x6 10 1 640 128 rfl rfl y x (by omega) (by omega)
  · rw [out_40, state_0, state_4, state_8, state_12, state_16, state_20, state_24, state_28, state_32, state_36]
    exact out_place x1 x0 x2 x3 x4 (xs0) x6 10 0 640 0 rfl rfl y x (by omega) (by omega)
  · rw [out_39, state_3, state_7, state_11, state_15, state_19, state_23, state_27, state_31, state_35]
    exact out_place x1 x0 x2 x3 x4 (xs0) x6 9 3 576 384 rfl rfl y x (by omega) (by omega)
  · rw [out_38, state_2, state_6, state_10, state_14, state_18, state_22, state_26, state_30, state_34]
    exact out_place x1 x0 x2 x3 x4 (xs0) x6 9 2 576 256 rfl rfl y x (by omega) (by omega)
  · rw [out_37, state_1, state_5, state_9, state_13, state_17, state_21, state_25, state_29, state_33]
    exact out_place x1 x0 x2 x3 x4 (xs0) x6 9 1 576 128 rfl rfl y x (by omega) (by omega)
  · rw [out_36, state_0, state_4, state_8, state_12, state_16, state_20, state_24, state_28, state_32]
    exact out_place x1 x0 x2 x3 x4 (xs0) x6 9 0 576 0 rfl rfl y x (by omega) (by omega)
  · rw [out_35, state_3, state_7, state_11, state_15, state_19, state_23, state_27, state_31]
    exact out_place x1 x0 x2 x3 x4 (xs0) x6 8 3 512 384 rfl rfl y x (by omega) (by omega)
  · rw [out_34, state_2, state_6, state_10, state_14, state_18, state_22, state_26, state_30]
    exact out_place x1 x0 x2 x3 x4 (xs0) x6 8 2 512 256 rfl rfl y x (by omega) (by omega)
  · rw [out_33, state_1, state_5, state_9, state_13, state_17, state_21, state_25, state_29]
    exact out_place x1 x0 x2 x3 x4 (xs0) x6 8 1 512 128 rfl rfl y x (by omega) (by omega)
  · rw [out_32, state_0, state_4, state_8, state_12, state_16, state_20, state_24, state_28]
    exact out_place x1 x0 x2 x3 x4 (xs0) x6 8 0 512 0 rfl rfl y x (by omega) (by omega)
  · rw [out_31, state_3, state_7, state_11, state_15, state_19, state_23, state_27]
    exact out_place x1 x0 x2 x3 x4 (xs0) x6 7 3 448 384 rfl rfl y x (by omega) (by omega)
  · rw [out_30, state_2, state_6, state_10, state_14, state_18, state_22, state_26]
    exact out_place x1 x0 x2 x3 x4 (xs0) x6 7 2 448 256 rfl rfl y x (by omega) (by omega)
  · rw [out_29, state_1, state_5, state_9, state_13, state_17, state_21, state_25]
    exact out_place x1 x0 x2 x3 x4 (xs0) x6 7 1 448 128 rfl rfl y x (by omega) (by omega)
  · rw [out_28, state_0, state_4, state_8, state_12, state_16, state_20, state_24]
    exact out_place x1 x0 x2 x3 x4 (xs0) x6 7 0 448 0 rfl rfl y x (by omega) (by omega)
  · rw [out_27, state_3, state_7, state_11, state_15, state_19, state_23]
    exact out_place x1 x0 x2 x3 x4 (xs0) x6 6 3 384 384 rfl rfl y x (by omega) (by omega)
  · rw [out_26, state_2, state_6, state_10, state_14, state_18, state_22]
    exact out_place x1 x0 x2 x3 x4 (xs0) x6 6 2 384 256 rfl rfl y x (by omega) (by omega)
  · rw [out_25, state_1, state_5, state_9, state_13, state_17, state_21]
    exact out_place x1 x0 x2 x3 x4 (xs0) x6 6 1 384 128 rfl rfl y x (by omega) (by omega)
  · rw [out_24, state_0, state_4, state_8, state_12, state_16, state_20]
    exact out_place x1 x0 x2 x3 x4 (xs0) x6 6 0 384 0 rfl rfl y x (by omega) (by omega)
  · rw [out_23, state_3, state_7, state_11, state_15, state_19]
    exact out_place x1 x0 x2 x3 x4 (xs0) x6 5 3 320 384 rfl rfl y x (by omega) (by omega)
  · rw [out_22, state_2, state_6, state_10, state_14, state_18]
    exact out_place x1 x0 x2 x3 x4 (xs0) x6 5 2 320 256 rfl rfl y x (by omega) (by omega)
  · rw [out_21, state_1, state_5, state_9, state_13, state_17]
    exact out_place x1 x0 x2 x3 x4 (xs0) x6 5 1 320 128 rfl rfl y x (by omega) (by omega)
  · rw [out_20, state_0, state_4, state_8, state_12, state_16]
    exact out_place x1 x0 x2 x3 x4 (xs0) x6 5 0 320 0 rfl rfl y x (by omega) (by omega)
  · rw [out_19, state_3, state_7, state_11, state_15]
    exact out_place x1 x0 x2 x3 x4 (xs0) x6 4 3 256 384 rfl rfl y x (by omega) (by omega)
  · rw [out_18, state_2, state_6, state_10, state_14]
    exact out_place x1 x0 x2 x3 x4 (xs0) x6 4 2 256 256 rfl rfl y x (by omega) (by omega)
  · rw [out_17, state_1, state_5, state_9, state_13]
    exact out_place x1 x0 x2 x3 x4 (xs0) x6 4 1 256 128 rfl rfl y x (by omega) (by omega)
  · rw [out_16, state_0, state_4, state_8, state_12]
    exact out_place x1 x0 x2 x3 x4 (xs0) x6 4 0 256 0 rfl rfl y x (by omega) (by omega)
  · rw [out_15, state_3, state_7, state_11]
    exact out_place x1 x0 x2 x3 x4 (xs0) x6 3 3 192 384 rfl rfl y x (by omega) (by omega)
  · rw [out_14, state_2, state_6, state_10]
    exact out_place x1 x0 x2 x3 x4 (xs0) x6 3 2 192 256 rfl rfl y x (by omega) (by omega)
  · rw [out_13, state_1, state_5, state_9]
    exact out_place x1 x0 x2 x3 x4 (xs0) x6 3 1 192 128 rfl rfl y x (by omega) (by omega)
  · rw [out_12, state_0, state_4, state_8]
    exact out_place x1 x0 x2 x3 x4 (xs0) x6 3 0 192 0 rfl rfl y x (by omega) (by omega)
  · rw [out_11, state_3, state_7]
    exact out_place x1 x0 x2 x3 x4 (xs0) x6 2 3 128 384 rfl rfl y x (by omega) (by omega)
  · rw [out_10, state_2, state_6]
    exact out_place x1 x0 x2 x3 x4 (xs0) x6 2 2 128 256 rfl rfl y x (by omega) (by omega)
  · rw [out_9, state_1, state_5]
    exact out_place x1 x0 x2 x3 x4 (xs0) x6 2 1 128 128 rfl rfl y x (by omega) (by omega)
  · rw [out_8, state_0, state_4]
    exact out_place x1 x0 x2 x3 x4 (xs0) x6 2 0 128 0 rfl rfl y x (by omega) (by omega)
  · rw [out_7, state_3]
    exact out_place x1 x0 x2 x3 x4 (xs0) x6 1 3 64 384 rfl rfl y x (by omega) (by omega)
  · rw [out_6, state_2]
    exact out_place x1 x0 x2 x3 x4 (xs0) x6 1 2 64 256 rfl rfl y x (by omega) (by omega)
  · rw [out_5, state_1]
    exact out_place x1 x0 x2 x3 x4 (xs0) x6 1 1 64 128 rfl rfl y x (by omega) (by omega)
  · rw [out_4, state_0]
    exact out_place x1 x0 x2 x3 x4 (xs0) x6 1 0 64 0 rfl rfl y x (by omega) (by omega)
  · rw [out_3]
    exact out_place x1 x0 x2 x3 x4 (xs0) x6 0 3 0 384 rfl rfl y x (by omega) (by omega)
  · rw [out_2]
    exact out_place x1 x0 x2 x3 x4 (xs0) x6 0 2 0 256 rfl rfl y x (by omega) (by omega)
  · rw [out_1]
    exact out_place x1 x0 x2 x3 x4 (xs0) x6 0 1 0 128 rfl rfl y x (by omega) (by omega)
  · rw [out_0]
    exact out_place x1 x0 x2 x3 x4 (xs0) x6 0 0 0 0 rfl rfl y x (by omega) (by omega)

/-- The state of head 0 as stored at the end of a sequence, transposed. -/
theorem last_0 (w : Vec Ideal S1x128x128 .f32) (x : S1x1x128x128.Idx) :
    k0_pay3 w x = w (ix3 0 (x 3) (x 2)) := by
  obtain ⟨a, b, d, j, rfl⟩ : ∃ (a b : Fin 1) (d j : Fin 128), x = ix4 a b d j :=
    ⟨x 0, x 1, x 2, x 3, (ix4_eta x).symm⟩
  obtain rfl : a = 0 := Fin.ext (by omega)
  obtain rfl : b = 0 := Fin.ext (by omega)
  pointwise [k0_pay3]

/-- The state of head 1 as stored at the end of a sequence, transposed. -/
theorem last_1 (w : Vec Ideal S1x128x128 .f32) (x : S1x1x128x128.Idx) :
    k0_pay4 w x = w (ix3 0 (x 3) (x 2)) := by
  obtain ⟨a, b, d, j, rfl⟩ : ∃ (a b : Fin 1) (d j : Fin 128), x = ix4 a b d j :=
    ⟨x 0, x 1, x 2, x 3, (ix4_eta x).symm⟩
  obtain rfl : a = 0 := Fin.ext (by omega)
  obtain rfl : b = 0 := Fin.ext (by omega)
  pointwise [k0_pay4]

/-- The state of head 2 as stored at the end of a sequence, transposed. -/
theorem last_2 (w : Vec Ideal S1x128x128 .f32) (x : S1x1x128x128.Idx) :
    k0_pay5 w x = w (ix3 0 (x 3) (x 2)) := by
  obtain ⟨a, b, d, j, rfl⟩ : ∃ (a b : Fin 1) (d j : Fin 128), x = ix4 a b d j :=
    ⟨x 0, x 1, x 2, x 3, (ix4_eta x).symm⟩
  obtain rfl : a = 0 := Fin.ext (by omega)
  obtain rfl : b = 0 := Fin.ext (by omega)
  pointwise [k0_pay5]

/-- The state of head 3 as stored at the end of a sequence, transposed. -/
theorem last_3 (w : Vec Ideal S1x128x128 .f32) (x : S1x1x128x128.Idx) :
    k0_pay6 w x = w (ix3 0 (x 3) (x 2)) := by
  obtain ⟨a, b, d, j, rfl⟩ : ∃ (a b : Fin 1) (d j : Fin 128), x = ix4 a b d j :=
    ⟨x 0, x 1, x 2, x 3, (ix4_eta x).symm⟩
  obtain rfl : a = 0 := Fin.ext (by omega)
  obtain rfl : b = 0 := Fin.ext (by omega)
  pointwise [k0_pay6]

set_option maxHeartbeats 1000000 in
/-- What case C leaves in the block of the new states. -/
theorem news_C (c : Dev nD) (i : grid0.Coords) (arg2 : Memref sig .tc .vmem S1x1024x512 .bf16) (harg2 : arg2.IsWhole)
    (arg3 : Memref sig .tc .vmem S1x1024x512 .f32) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1x4x128x128 .f32) (harg7 : arg7.IsWhole) (arg8 : Memref sig .tc .vmem S1x512 .f32)
    (harg8 : arg8.IsWhole) (arg9 : Memref sig .tc .vmem S1x1024x512 .bf16) (harg9 : arg9.IsWhole)
    (arg10 : Memref sig .tc .vmem S1x4x128x128 .f32) (harg10 : arg10.IsWhole)
    (arg11 : Memref sig .tc .vmem S4x128x128 .f32) (harg11 : arg11.IsWhole) (hc0 : ¬cond0_0 i) (hc1 : cond0_1 i)
    (x0 : Vec Ideal S1x1024x512 .bf16) (x1 : Vec Ideal S1x1024x512 .f32) (x2 : Vec Ideal S1x1024x512 .bf16)
    (x3 : Vec Ideal S1x1024x512 .bf16) (x4 : Vec Ideal S1x1024x512 .bf16) (x5 : Vec Ideal S1x4x128x128 .f32)
    (x6 : Vec Ideal S1x512 .f32) (xs0 : Vec Ideal S4x128x128 .f32)
    (y : S1x4x128x128.Idx) :
    out0_C_8 c i arg2 harg2 arg3 harg3 arg4 harg4 arg5 harg5 arg6 harg6 arg7 harg7 arg8
    harg8 arg9 harg9 arg10 harg10 arg11 harg11 hc0 hc1 x0 x1 x2 x3 x4 x5 x6 xs0 y
      = stateRec x1 x2 x3 xs0 (y 1).val 16 (ix3 0 (y 3) (y 2)) := by
  unfold out0_C_8
  frame_open
  simp (disch := decide) only [↓ View.readCov_skip, ↓ View.readCov_cons_toLoadRect, ↓ View.readCov_fill]
  frame_out
  simp only [ld_chunk16, ld_chunk32, ld_head]
  canon_tiles x h
  · rw [last_3, state_3, state_7, state_11, state_15, state_19, state_23, state_27, state_31, state_35, state_39, state_43,
      state_47, state_51, state_55, state_59, state_63]
    have e1 : (y 1).val = 3 := by omega
    have e2 : x 2 = y 2 := Fin.ext h2.symm
    have e3 : x 3 = y 3 := Fin.ext h3.symm
    rw [e1, e2, e3]
    rfl
  · rw [last_2, state_2, state_6, state_10, state_14, state_18, state_22, state_26, state_30, state_34, state_38, state_42,
      state_46, state_50, state_54, state_58, state_62]
    have e1 : (y 1).val = 2 := by omega
    have e2 : x 2 = y 2 := Fin.ext h2.symm
    have e3 : x 3 = y 3 := Fin.ext h3.symm
    rw [e1, e2, e3]
    rfl
  · rw [last_1, state_1, state_5, state_9, state_13, state_17, state_21, state_25, state_29, state_33, state_37, state_41,
      state_45, state_49, state_53, state_57, state_61]
    have e1 : (y 1).val = 1 := by omega
    have e2 : x 2 = y 2 := Fin.ext h2.symm
    have e3 : x 3 = y 3 := Fin.ext h3.symm
    rw [e1, e2, e3]
    rfl
  · rw [last_0, state_0, state_4, state_8, state_12, state_16, state_20, state_24, state_28, state_32, state_36, state_40,
      state_44, state_48, state_52, state_56, state_60]
    have e1 : (y 1).val = 0 := by omega
    have e2 : x 2 = y 2 := Fin.ext h2.symm
    have e3 : x 3 = y 3 := Fin.ext h3.symm
    rw [e1, e2, e3]
    rfl

end Cert.Kernel7Ideal.Hgrn
-- ==== Proof.HgrnP.Points.lean ====
module

public import proofs.«01_k».proof.Proof.HgrnP.Array
public import proofs.«01_k».proof.Proof.HgrnP.CaseA
public import proofs.«01_k».proof.Proof.HgrnP.CaseB
public import proofs.«01_k».proof.Proof.HgrnP.CaseC

/-!
# What each grid point leaves

By induction over the grid points of a sequence: the carried states are the recurrence's after the point's last run of
tokens, and the outputs are the recurrence's.
-/

@[expose] public section

set_option maxRecDepth 16384

noncomputable section

namespace Cert.Kernel7Ideal.Hgrn

open Cert.Kernel7Ideal Cert.Kernel7Ideal.Gen Cert.Kernel7Ideal.Value Idealize.ShloMosaic
open Idealize.ShloMosaic.TcCoe Idealize.SL.Sem
open Cert.HgrnP (Flat rowsOf stateAt scaleOf outOf)

variable (m : (ℓ : Loc nD τ sig) → Buf (Elt Ideal) ℓ)

/-- The place of a grid point among its sequence's four. -/
def part (t : Fin cfg0.N) : Fin 4 := ⟨t.val % 4, Nat.mod_lt _ (by decide)⟩

/-- The recurrence's state of a head after `n` runs of a grid point. -/
abbrev stateIn (c : Dev nD) (t : Fin cfg0.N) (h : Fin 4) (n : ℕ) : Fin 128 → Fin 128 → EReal :=
  stateAt (A2 m c) (A3 m c) (A1 m c) (seq t) h (16 * (part t).val + n)

/-- States that a grid point starts from: each head's is the recurrence's in front of the point's first run. -/
def Starts (c : Dev nD) (t : Fin cfg0.N) (S : FVec Ideal S4x128x128 .f32) : Prop :=
  ∀ (h : Fin 4) (j d : Fin 128), S (ix3 h j d) = stateIn m c t h 0 d j

/-- A point's run of 64 tokens of the gate logarithms. -/
theorem chunk_lf (c : Dev nD) (t : Fin cfg0.N) (n : ℕ) (hn : n < 16) (h : Fin 4) :
    Holds (chunk (φ := .f32) (iblk m c 1 t) (n * 64) (h.val * 128)) (rowsOf (A1 m c) (seq t) h (16 * (part t).val + n)) :=
  holds_chunk .f32 _ _ _ (part t) (blk_lf m c t) n hn h

/-- A point's run of 64 tokens of the queries. -/
theorem chunk_q (c : Dev nD) (t : Fin cfg0.N) (n : ℕ) (hn : n < 16) (h : Fin 4) :
    Holds (chunk (φ := .bf16) (iblk m c 0 t) (n * 64) (h.val * 128)) (rowsOf (A0 m c) (seq t) h (16 * (part t).val + n)) :=
  holds_chunk .bf16 _ _ _ (part t) (blk_q m c t) n hn h

/-- A point's run of 64 tokens of the keys. -/
theorem chunk_k (c : Dev nD) (t : Fin cfg0.N) (n : ℕ) (hn : n < 16) (h : Fin 4) :
    Holds (chunk (φ := .bf16) (iblk m c 2 t) (n * 64) (h.val * 128)) (rowsOf (A2 m c) (seq t) h (16 * (part t).val + n)) :=
  holds_chunk .bf16 _ _ _ (part t) (blk_k m c t) n hn h

/-- A point's run of 64 tokens of the values. -/
theorem chunk_v (c : Dev nD) (t : Fin cfg0.N) (n : ℕ) (hn : n < 16) (h : Fin 4) :
    Holds (chunk (φ := .bf16) (iblk m c 3 t) (n * 64) (h.val * 128)) (rowsOf (A3 m c) (seq t) h (16 * (part t).val + n)) :=
  holds_chunk .bf16 _ _ _ (part t) (blk_v m c t) n hn h

/-- A point's run of 64 tokens of the output gates. -/
theorem chunk_hg (c : Dev nD) (t : Fin cfg0.N) (n : ℕ) (hn : n < 16) (h : Fin 4) :
    Holds (chunk (φ := .bf16) (iblk m c 4 t) (n * 64) (h.val * 128)) (rowsOf (A4 m c) (seq t) h (16 * (part t).val + n)) :=
  holds_chunk .bf16 _ _ _ (part t) (blk_hg m c t) n hn h

/-- The states of a grid point after `n` runs. -/
theorem stateRec_holds (c : Dev nD) (t : Fin cfg0.N) (S : FVec Ideal S4x128x128 .f32) (hS : Starts m c t S) (h : Fin 4) :
    ∀ n : ℕ, n ≤ 16 → HoldsState (stateRec (iblk m c 1 t) (iblk m c 2 t) (iblk m c 3 t) S h.val n) (stateIn m c t h n)
  | 0, _ => fun d j => by
    show headOf S h.val (ix3 0 _ _) = _
    unfold headOf
    rw [dif_pos h.isLt]
    exact hS h _ _
  | n + 1, hn =>
    headState_holds _ _ _ _ _ _ _ _ (chunk_lf m c t n hn h) (chunk_k m c t n hn h) (chunk_v m c t n hn h)
      (stateRec_holds c t S hS h n (Nat.le_of_succ_le hn))

/-- The outputs of a grid point. -/
theorem outAt_eq (c : Dev nD) (hfin : ∀ x, Cert.Hgrn.Finite (A1 m c x)) (t : Fin cfg0.N)
    (S : FVec Ideal S4x128x128 .f32) (hS : Starts m c t S) (n : Fin 16) (r : Fin 64) (h : Fin 4) (j : Fin 128) :
    outAt (iblk m c 1 t) (iblk m c 0 t) (iblk m c 2 t) (iblk m c 3 t) (iblk m c 4 t) S (iblk m c 6 t)
        (ix3 0 ⟨n.val * 64 + r.val, by omega⟩ ⟨h.val * 128 + j.val, by omega⟩)
      = outOf (A0 m c) (A1 m c) (A2 m c) (A3 m c) (A4 m c) (A5 m c) (seq t) h (16 * (part t).val + n.val) r j := by
  refine (out_place (iblk m c 1 t) (iblk m c 0 t) (iblk m c 2 t) (iblk m c 3 t) (iblk m c 4 t) S (iblk m c 6 t)
    n.val h.val (n.val * 64) (h.val * 128) rfl rfl _ (ix3 0 r j) rfl rfl).symm.trans ?_
  refine headOut_holds _ _ _ _ _ _ _ _ _ _ _ _ _ (scaleOf (A5 m c) h) (chunk_q m c t n.val n.isLt h)
    (chunk_lf m c t n.val n.isLt h) (chunk_k m c t n.val n.isLt h) (chunk_v m c t n.val n.isLt h)
    (chunk_hg m c t n.val n.isLt h) (stateRec_holds m c t S hS h n.val (Nat.le_of_lt n.isLt)) ?_ ?_ r j
  · intro x
    unfold scales scaleOf
    rw [dif_pos (by omega : h.val * 128 + 128 ≤ 512)]
    exact blk_g m c t _
  · intro s d
    unfold rowsOf
    split
    · exact hfin _
    · exact Cert.Hgrn.Finite.zero

/-- What the carried states are after a point. -/
def Ends (c : Dev nD) (t : Fin cfg0.N) (S : FVec Ideal S4x128x128 .f32) : Prop :=
  ∀ (h : Fin 4) (j d : Fin 128), S (ix3 h j d) = stateIn m c t h 16 d j

/-- A sequence's first point starts from 0. -/
theorem starts_first (c : Dev nD) (t : Fin cfg0.N) (h0 : t.val % 4 = 0) : Starts m c t (turned (iblk m c 5 t)) := by
  intro h j d
  have e : 16 * (part t).val + 0 = 0 := by
    show 16 * (t.val % 4) + 0 = 0
    omega
  unfold stateIn
  rw [e]
  exact blk_s m c t h d j

/-- A later point starts from what the point before left. -/
theorem starts_next (c : Dev nD) (t : Fin cfg0.N) (h0 : ¬t.val % 4 = 0) (S : FVec Ideal S4x128x128 .f32)
    (hS : Ends m c ⟨t.val - 1, lt_of_le_of_lt (Nat.sub_le _ _) t.isLt⟩ S) : Starts m c t S := by
  intro h j d
  rw [hS h j d]
  unfold stateIn
  have e1 : seq ⟨t.val - 1, lt_of_le_of_lt (Nat.sub_le _ _) t.isLt⟩ = seq t := Fin.ext (by
    show (t.val - 1) / 4 = t.val / 4
    omega)
  have e2 : 16 * (part ⟨t.val - 1, lt_of_le_of_lt (Nat.sub_le _ _) t.isLt⟩).val + 16 = 16 * (part t).val + 0 := by
    show 16 * ((t.val - 1) % 4) + 16 = 16 * (t.val % 4) + 0
    omega
  rw [e1, e2]

end Cert.Kernel7Ideal.Hgrn
-- ==== Proof.HgrnP.Leaves.lean ====
module

public import proofs.«01_k».proof.Proof.HgrnP.Points

/-!
# The kernel's result arrays

What each grid point leaves, and the two arrays after the run: the recurrence's outputs and its last states.
-/

@[expose] public section

set_option maxRecDepth 16384

noncomputable section

namespace Cert.Kernel7Ideal.Hgrn

open Cert.Kernel7Ideal Cert.Kernel7Ideal.Gen Cert.Kernel7Ideal.Value Idealize.ShloMosaic
open Idealize.ShloMosaic.TcCoe Idealize.SL.Sem
open Cert.HgrnP (Flat rowsOf stateAt scaleOf outOf)

variable (m : (ℓ : Loc nD τ sig) → Buf (Elt Ideal) ℓ)

/-- What a point leaves, out of states that it starts from. -/
def Leaves (c : Dev nD) (t : Fin cfg0.N) (S : FVec Ideal S4x128x128 .f32) : Prop :=
  (∀ y, (outsAt0 m c t.val t.isLt).1 y
      = outAt (iblk m c 1 t) (iblk m c 0 t) (iblk m c 2 t) (iblk m c 3 t) (iblk m c 4 t) S (iblk m c 6 t) y)
    ∧ (∀ y : S4x128x128.Idx, (outsAt0 m c t.val t.isLt).2.2 y
      = stateRec (iblk m c 1 t) (iblk m c 2 t) (iblk m c 3 t) S (y 0).val 16 (ix3 0 (y 1) (y 2)))
    ∧ (t.val % 4 = 3 → ∀ y : S1x4x128x128.Idx, (outsAt0 m c t.val t.isLt).2.1 y
      = stateRec (iblk m c 1 t) (iblk m c 2 t) (iblk m c 3 t) S (y 1).val 16 (ix3 0 (y 3) (y 2)))

/-- The states after a point that started from the recurrence's are the recurrence's. -/
theorem ends_of_leaves (c : Dev nD) (t : Fin cfg0.N) (S : FVec Ideal S4x128x128 .f32) (hS : Starts m c t S)
    (hl : Leaves m c t S) : Ends m c t (outsAt0 m c t.val t.isLt).2.2 := by
  intro h j d
  exact (hl.2.1 (ix3 h j d)).trans (stateRec_holds m c t S hS h 16 (Nat.le_refl _) j d)

/-- A sequence's first point. -/
theorem leaves_A (c : Dev nD) (t : Fin cfg0.N) (h0 : t.val % 4 = 0) (h1 : ¬t.val % 4 = 3) :
    Leaves m c t (turned (iblk m c 5 t)) := by
  refine ⟨fun y => ?_, fun y => ?_, fun h3 => ?_⟩
  · have q := outs_A c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) ((hcond0_0 t).mpr h0) (fun h => h1 ((hcond0_1 t).mp h)) (iblk m c 0 t)
      (iblk m c 1 t) (iblk m c 2 t) (iblk m c 3 t) (iblk m c 4 t) (iblk m c 5 t) (iblk m c 6 t) y
    rw [← q, outsAt0_A m c t h0 h1]
  · have q := states_A c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) ((hcond0_0 t).mpr h0) (fun h => h1 ((hcond0_1 t).mp h)) (iblk m c 0 t)
      (iblk m c 1 t) (iblk m c 2 t) (iblk m c 3 t) (iblk m c 4 t) (iblk m c 5 t) (iblk m c 6 t) y
    rw [← q, outsAt0_A m c t h0 h1]
  · exact absurd h3 h1

/-- A sequence's points in the middle. -/
theorem leaves_B (c : Dev nD) (t : Fin cfg0.N) (h0 : ¬t.val % 4 = 0) (h1 : ¬t.val % 4 = 3) :
    Leaves m c t (outsAt0 m c (t.val - 1) (Nat.lt_of_le_of_lt (Nat.sub_le _ _) t.isLt)).2.2 := by
  refine ⟨fun y => ?_, fun y => ?_, fun h3 => ?_⟩
  · have q := outs_B c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2.2 y
    rw [← q, outsAt0_B m c t h0 h1]
  · have q := states_B c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2.2 y
    rw [← q, outsAt0_B m c t h0 h1]
  · exact absurd h3 h1

/-- A sequence's last point. -/
theorem leaves_C (c : Dev nD) (t : Fin cfg0.N) (h0 : ¬t.val % 4 = 0) (h1 : t.val % 4 = 3) :
    Leaves m c t (outsAt0 m c (t.val - 1) (Nat.lt_of_le_of_lt (Nat.sub_le _ _) t.isLt)).2.2 := by
  refine ⟨fun y => ?_, fun y => ?_, fun h3 => ?_⟩
  · have q := outs_C c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) (fun h => h0 ((hcond0_0 t).mp h)) ((hcond0_1 t).mpr h1) (iblk m c 0 t)
      (iblk m c 1 t) (iblk m c 2 t) (iblk m c 3 t) (iblk m c 4 t) (iblk m c 5 t) (iblk m c 6 t) (outsAt0 m c
      (t.val - 1) (Nat.lt_of_le_of_lt (Nat.sub_le _ _) t.isLt)).2.2 y
    rw [← q, outsAt0_C m c t h0 h1]
  · have q := states_C c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) (fun h => h0 ((hcond0_0 t).mp h)) ((hcond0_1 t).mpr h1) (iblk m c 0 t)
      (iblk m c 1 t) (iblk m c 2 t) (iblk m c 3 t) (iblk m c 4 t) (iblk m c 5 t) (iblk m c 6 t) (outsAt0 m c
      (t.val - 1) (Nat.lt_of_le_of_lt (Nat.sub_le _ _) t.isLt)).2.2 y
    rw [← q, outsAt0_C m c t h0 h1]
  · intro y
    have q := news_C c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8
      t) scM0_0 (Memref.isWhole_whole _) (fun h => h0 ((hcond0_0 t).mp h)) ((hcond0_1 t).mpr h1) (iblk m c 0 t)
      (iblk m c 1 t) (iblk m c 2 t) (iblk m c 3 t) (iblk m c 4 t) (iblk m c 5 t) (iblk m c 6 t) (outsAt0 m c
      (t.val - 1) (Nat.lt_of_le_of_lt (Nat.sub_le _ _) t.isLt)).2.2 y
    rw [← q, outsAt0_C m c t h0 h1]

/-- Every point starts from the recurrence's states. -/
theorem point (c : Dev nD) : ∀ (n : ℕ) (hn : n < cfg0.N), ∃ S, Starts m c ⟨n, hn⟩ S ∧ Leaves m c ⟨n, hn⟩ S
  | 0, hn => ⟨_, starts_first m c ⟨0, hn⟩ rfl, leaves_A m c ⟨0, hn⟩ rfl (show ¬0 % 4 = 3 by decide)⟩
  | n + 1, hn => by
    by_cases h0 : (n + 1) % 4 = 0
    · exact ⟨_, starts_first m c ⟨n + 1, hn⟩ h0, leaves_A m c ⟨n + 1, hn⟩ h0 (fun h3 : (n + 1) % 4 = 3 => absurd (h0.symm.trans h3) (by decide))⟩
    · obtain ⟨S, hS, hl⟩ := point c n (Nat.lt_of_succ_lt hn)
      have hs := starts_next m c ⟨n + 1, hn⟩ h0 _ (ends_of_leaves m c ⟨n, Nat.lt_of_succ_lt hn⟩ S hS hl)
      by_cases h1 : (n + 1) % 4 = 3
      · exact ⟨_, hs, leaves_C m c ⟨n + 1, hn⟩ h0 h1⟩
      · exact ⟨_, hs, leaves_B m c ⟨n + 1, hn⟩ h0 h1⟩

/-- The outputs, as an array. -/
def outArray (c : Dev nD) : S8x4096x512.Idx → EReal := fun i =>
  outOf (A0 m c) (A1 m c) (A2 m c) (A3 m c) (A4 m c) (A5 m c) (i 0)
    ⟨(i 2).val / 128, by have h : (i 2).val < 512 := (i 2).isLt; omega⟩ ((i 1).val / 64)
    ⟨(i 1).val % 64, Nat.mod_lt _ (by decide)⟩ ⟨(i 2).val % 128, Nat.mod_lt _ (by decide)⟩

/-- The states after the last tokens, as an array. -/
def stateArray (c : Dev nD) : S8x4x128x128.Idx → EReal := fun i =>
  stateAt (A2 m c) (A3 m c) (A1 m c) (i 0) (i 1) 64 (i 2) (i 3)

/-- The array of the outputs after the run. -/
theorem out_array (c : Dev nD) (hfin : ∀ x, Cert.Hgrn.Finite (A1 m c x)) :
    (dats m 0 c).arrAt 7 cfg0.N = outArray m c := by
  refine (dats m 0 c).arrAt_eq_of_covers 7 _ (by decide +kernel) fun t _ y => ?_
  blk_simp
  rw [after0_7]
  obtain ⟨S, hS, hl⟩ := point m c t.val t.isLt
  have y1 : (y 1).val < 1024 := (y 1).isLt
  have y2 : (y 2).val < 512 := (y 2).isLt
  have ey : y = ix3 0 ⟨(y 1).val / 64 * 64 + (y 1).val % 64, by omega⟩ ⟨(y 2).val / 128 * 128 + (y 2).val % 128, by omega⟩ := by
    funext a
    apply Fin.ext
    fin_cases a
    · have h : (y 0).val < 1 := (y 0).isLt
      show (y 0).val = 0
      omega
    · show (y 1).val = (y 1).val / 64 * 64 + (y 1).val % 64
      omega
    · show (y 2).val = (y 2).val / 128 * 128 + (y 2).val % 128
      omega
  have e : (win0_7.blk t).view.emb y = ix3 (seq t) ⟨t.val % 4 * 1024 + (y 1).val, by omega⟩ (y 2) := by
    blk_ext [idx t, seq]
  refine (hl.1 y).trans ?_
  rw [e]
  refine (congrArg _ ey).trans ((outAt_eq m c hfin t S hS ⟨(y 1).val / 64, by omega⟩ ⟨(y 1).val % 64, by omega⟩
    ⟨(y 2).val / 128, by omega⟩ ⟨(y 2).val % 128, by omega⟩).trans ?_)
  unfold outArray
  refine congrArg₂ (fun n r => outOf (A0 m c) (A1 m c) (A2 m c) (A3 m c) (A4 m c) (A5 m c) (seq t) _ n r _) ?_ (Fin.ext ?_)
  · show 16 * (t.val % 4) + (y 1).val / 64 = (t.val % 4 * 1024 + (y 1).val) / 64
    omega
  · show (y 1).val % 64 = (t.val % 4 * 1024 + (y 1).val) % 64
    omega

/-- The array of the states after the run. -/
theorem state_array (c : Dev nD) : (dats m 0 c).arrAt 8 cfg0.N = stateArray m c := by
  refine (dats m 0 c).arrAt_eq_of_covers 8 _ (by decide +kernel) fun t hf y => ?_
  have h3 : t.val % 4 = 3 := (flush0_8 t).mp hf
  blk_simp
  rw [after0_8]
  obtain ⟨S, hS, hl⟩ := point m c t.val t.isLt
  have e : (win0_8.blk t).view.emb y = ix4 (seq t) (y 1) (y 2) (y 3) := by blk_ext [idx t, seq]
  refine (hl.2.2 h3 y).trans ?_
  rw [e]
  refine (stateRec_holds m c t S hS (y 1) 16 (Nat.le_refl _) (y 3) (y 2)).trans ?_
  have e6 : 16 * (part t).val + 16 = 64 := by
    show 16 * (t.val % 4) + 16 = 64
    omega
  unfold stateIn
  rw [e6]
  rfl

end Cert.Kernel7Ideal.Hgrn
-- ==== Proof.HgrnP.RefEntry.lean ====
module

public import proofs.«01_k».proof.Proof.Gen.Reference7Ideal.Run
public import proofs.«01_k».proof.Proof.HgrnP.Spec
public import Idealize.ShloMosaic.Lib.StableHlo.ReadAt

/-!
# What the reference's loop starts from

The reference walks over the 64 runs of 64 tokens with a loop. Here: the values of the buffers that the loop carries,
before the first trip.
-/

@[expose] public section

set_option maxRecDepth 16384

noncomputable section

namespace Cert.Reference7Ideal.Hgrn

open Cert.Reference7Ideal Cert.Reference7Ideal.Gen Cert.Reference7Ideal.Value Idealize.ShloMosaic
open Idealize.ShloMosaic.TcCoe Idealize.SL.Sem Idealize.ShloMosaic.StableHlo
open Cert.HgrnP (Flat rowsOf stateAt scaleOf outOf)

variable (m : (ℓ : Loc nD τ sig) → Buf (Elt Ideal) ℓ)

/-- The queries. -/
abbrev A0 (c : Dev nD) : Flat := m ((c : Thread nD τ).loc main_arg0)
/-- The gate logarithms. -/
abbrev A1 (c : Dev nD) : Flat := m ((c : Thread nD τ).loc main_arg1)
/-- The keys. -/
abbrev A2 (c : Dev nD) : Flat := m ((c : Thread nD τ).loc main_arg2)
/-- The values. -/
abbrev A3 (c : Dev nD) : Flat := m ((c : Thread nD τ).loc main_arg3)
/-- The output gates. -/
abbrev A4 (c : Dev nD) : Flat := m ((c : Thread nD τ).loc main_arg4)
/-- The normalisation scales. -/
abbrev A5 (c : Dev nD) : (⟨2, ![1, 512]⟩ : Shape).Idx → EReal := m ((c : Thread nD τ).loc main_arg5)

/-- The loop's queries: by run of tokens, sequence, head, token and channel. -/
theorem entry_q (c : Dev nD) (n : Fin 64) (b : Fin 8) (h : Fin 4) (t : Fin 64) (d : Fin 128) :
    (entryContents preI m c (Proc.devRef .tc main_v15_0) (ix5 n b h t d) : EReal) = rowsOf (A0 m c) b h n.val t d := by
  unfold rowsOf
  rw [dif_pos n.isLt]
  simp only [entryContents, afterL_cons, afterL_nil]
  after_reads_at
  pointwise
  rfl

/-- The loop's keys: by run of tokens, sequence, head, token and channel. -/
theorem entry_k (c : Dev nD) (n : Fin 64) (b : Fin 8) (h : Fin 4) (t : Fin 64) (d : Fin 128) :
    (entryContents preI m c (Proc.devRef .tc main_v15_1) (ix5 n b h t d) : EReal) = rowsOf (A2 m c) b h n.val t d := by
  unfold rowsOf
  rw [dif_pos n.isLt]
  simp only [entryContents, afterL_cons, afterL_nil]
  after_reads_at
  pointwise
  rfl

/-- The loop's gate logarithms: by run of tokens, sequence, head, token and channel. -/
theorem entry_lf (c : Dev nD) (n : Fin 64) (b : Fin 8) (h : Fin 4) (t : Fin 64) (d : Fin 128) :
    (entryContents preI m c (Proc.devRef .tc main_v15_2) (ix5 n b h t d) : EReal) = rowsOf (A1 m c) b h n.val t d := by
  unfold rowsOf
  rw [dif_pos n.isLt]
  simp only [entryContents, afterL_cons, afterL_nil]
  after_reads_at
  pointwise
  rfl

/-- The loop's values: by run of tokens, sequence, head, token and channel. -/
theorem entry_v (c : Dev nD) (n : Fin 64) (b : Fin 8) (h : Fin 4) (t : Fin 64) (d : Fin 128) :
    (entryContents preI m c (Proc.devRef .tc main_v15_3) (ix5 n b h t d) : EReal) = rowsOf (A3 m c) b h n.val t d := by
  unfold rowsOf
  rw [dif_pos n.isLt]
  simp only [entryContents, afterL_cons, afterL_nil]
  after_reads_at
  pointwise
  rfl

/-- The loop's state starts at 0. -/
theorem entry_s (c : Dev nD) (b : Fin 8) (h : Fin 4) (d j : Fin 128) :
    (entryContents preI m c (Proc.devRef .tc main_v15_6) (ix4 b h d j) : EReal) = (0 : EReal) := by
  simp only [entryContents, afterL_cons, afterL_nil]
  after_reads_at
  rw [id_eq]
  pointwise

/-- The loop's mask keeps the tokens up to the token's own. -/
theorem entry_tri (c : Dev nD) (t s : Fin 64) :
    (entryContents preI m c (Proc.devRef .tc main_v15_4) (ix2 t s) : BitVec 1) = if s ≤ t then 1#1 else 0#1 := by
  simp only [entryContents, afterL_cons, afterL_nil]
  after_reads_at
  revert t s
  decide +kernel

end Cert.Reference7Ideal.Hgrn
-- ==== Proof.HgrnP.RefTrip.lean ====
module

public import proofs.«01_k».proof.Proof.HgrnP.RefEntry
public import Idealize.ShloMosaic.Lib.WordCmp

/-!
# What one trip of the reference's loop computes

A trip takes the run of tokens that the counter names, and computes its outputs before normalisation and the state after
it. The running sums are sums of windows of 64 tokens, padded with 63 zeros in front.
-/

@[expose] public section

set_option maxRecDepth 16384

noncomputable section

namespace Cert.Reference7Ideal.Hgrn

open Cert.Reference7Ideal Cert.Reference7Ideal.Gen Cert.Reference7Ideal.Value Idealize.ShloMosaic
open Idealize.ShloMosaic.TcCoe Idealize.SL.Sem Idealize.ShloMosaic.StableHlo
open Cert.HgrnP (Rows cum preOut newState)

/-- The shape of one window. -/
abbrev Win : Shape := ⟨4, ![1, 1, 64, 1]⟩

/-- The coordinates of the `n`-th position of a window. -/
theorem win_coord : ∀ (n : Fin Win.numel) (a : Fin 4), (Win.rowMajor.symm n a).val = ![0, 0, n.val, 0] a := by
  decide +kernel

/-- One position of a window: padding, or the token that many places before. -/
theorem win_term (x : S8x4x64x128.Idx → EReal) (b : Fin 8) (h : Fin 4) (t : Fin 64) (d : Fin 128) (n : Fin Win.numel)
    (P : Prop) {dec : Decidable P}
    (hP : P ↔ ∀ a : Fin 4, (![0, 0, 63, 0] : Fin 4 → Nat) a
          ≤ (ix4 b h t d a).val * (![1, 1, 1, 1] : Fin 4 → Nat) a + (Win.rowMajor.symm n a).val
        ∧ (ix4 b h t d a).val * (![1, 1, 1, 1] : Fin 4 → Nat) a + (Win.rowMajor.symm n a).val
            - (![0, 0, 63, 0] : Fin 4 → Nat) a < S8x4x64x128.size a)
    (f : P → S8x4x64x128.Idx)
    (hf : ∀ (p : P) (a : Fin 4), (f p a).val = (ix4 b h t d a).val * (![1, 1, 1, 1] : Fin 4 → Nat) a
        + (Win.rowMajor.symm n a).val - (![0, 0, 63, 0] : Fin 4 → Nat) a) :
    (if hp : P then x (f hp) else 0)
      = if hn : 63 ≤ t.val + n.val then x (ix4 b h ⟨t.val + n.val - 63, by
          have h4 : n.val < 64 := n.isLt
          omega⟩ d) else 0 := by
  have h4 : n.val < 64 := n.isLt
  by_cases hn : 63 ≤ t.val + n.val
  · have hp : P := hP.mpr fun a => by
      rw [win_coord]
      fin_cases a
      · show 0 ≤ b.val * 1 + 0 ∧ b.val * 1 + 0 - 0 < 8
        omega
      · show 0 ≤ h.val * 1 + 0 ∧ h.val * 1 + 0 - 0 < 4
        omega
      · show 63 ≤ t.val * 1 + n.val ∧ t.val * 1 + n.val - 63 < 64
        omega
      · show 0 ≤ d.val * 1 + 0 ∧ d.val * 1 + 0 - 0 < 128
        omega
    rw [dif_pos hn, dif_pos hp]
    congr 1
    funext a
    refine Fin.ext ?_
    rw [hf hp a, win_coord]
    fin_cases a
    · show b.val * 1 + 0 - 0 = b.val
      omega
    · show h.val * 1 + 0 - 0 = h.val
      omega
    · show t.val * 1 + n.val - 63 = t.val + n.val - 63
      omega
    · show d.val * 1 + 0 - 0 = d.val
      omega
  · rw [dif_neg hn, dif_neg]
    intro hp
    have h2 := (hP.mp hp 2).1
    rw [win_coord] at h2
    have h3 : 63 ≤ t.val * 1 + n.val := h2
    omega

/-- A running total over a list is its sum. -/
theorem total {ι : Type} (f : ι → EReal) : ∀ (L : List ι) (r : EReal), L.foldl (fun r n => r + f n) r = r + (L.map f).sum
  | [], r => by simp
  | a :: L, r => by
    rw [List.foldl_cons, total f L, List.map_cons, List.sum_cons, add_assoc]

/-- The windowed sum at an index: the sum of the tokens up to it. -/
theorem window_sum (x : S8x4x64x128.Idx → EReal) (b : Fin 8) (h : Fin 4) (t : Fin 64) (d : Fin 128) :
    Ideal.hostReduceWindowAdd ![1, 1, 64, 1] ![1, 1, 1, 1] ![0, 0, 63, 0] ![0, 0, 0, 0]
      reduceWindows_S8x4x64x128_S8x4x64x128_w1s1p0_0_w1s1p0_0_w64s1p63_0_w1s1p0_0 x 0 (ix4 b h t d)
      = ∑ s : Fin 64, if s ≤ t then x (ix4 b h s d) else 0 := by
  have e : Ideal.hostReduceWindowAdd ![1, 1, 64, 1] ![1, 1, 1, 1] ![0, 0, 63, 0] ![0, 0, 0, 0]
      reduceWindows_S8x4x64x128_S8x4x64x128_w1s1p0_0_w1s1p0_0_w64s1p63_0_w1s1p0_0 x 0 (ix4 b h t d)
      = (List.finRange Win.numel).foldl (fun r n => r + if hn : 63 ≤ t.val + n.val then x (ix4 b h ⟨t.val + n.val - 63, by
          have h4 : n.val < 64 := n.isLt
          omega⟩ d) else 0) 0 := by
    unfold Ideal.hostReduceWindowAdd Host.reduceWindow
    refine congrArg (fun f : EReal → Fin Win.numel → EReal => List.foldl f 0 (List.finRange Win.numel)) ?_
    funext r n
    refine congrArg (fun y : EReal => r + y) ?_
    refine win_term x b h t d n _ ?_ _ ?_
    · exact Iff.rfl
    · exact fun _ _ => rfl
  rw [e, total, zero_add, ← Fin.sum_univ_def, ← Finset.sum_filter]
  have t64 : t.val < 64 := t.isLt
  have e2 : ∀ n : Fin Win.numel, (if hn : 63 ≤ t.val + n.val then x (ix4 b h ⟨t.val + n.val - 63, by
          have h4 : n.val < 64 := n.isLt
          omega⟩ d) else 0) = if 63 ≤ t.val + n.val then x (ix4 b h ⟨(t.val + n.val - 63) % 64, Nat.mod_lt _ (by decide)⟩ d)
          else 0 := by
    intro n
    have h4 : n.val < 64 := n.isLt
    split
    · refine congrArg (fun r : Fin 64 => x (ix4 b h r d)) (Fin.ext ?_)
      show t.val + n.val - 63 = (t.val + n.val - 63) % 64
      omega
    · rfl
  rw [Finset.sum_congr rfl fun n _ => e2 n, ← Finset.sum_filter]
  refine Finset.sum_bij' (fun n _ => ⟨(t.val + n.val - 63) % 64, Nat.mod_lt _ (by decide)⟩)
    (fun s _ => (⟨(s.val + 63 - t.val) % 64, Nat.mod_lt _ (by decide)⟩ : Fin 64)) ?_ ?_ ?_ ?_ ?_
  · intro n hn
    have h4 : n.val < 64 := n.isLt
    have h5 := (Finset.mem_filter.mp hn).2
    refine Finset.mem_filter.mpr ⟨Finset.mem_univ _, ?_⟩
    show (t.val + n.val - 63) % 64 ≤ t.val
    omega
  · intro s hs
    have h5 : s.val ≤ t.val := (Finset.mem_filter.mp hs).2
    refine Finset.mem_filter.mpr ⟨Finset.mem_univ _, ?_⟩
    show 63 ≤ t.val + (s.val + 63 - t.val) % 64
    omega
  · intro n hn
    have h4 : n.val < 64 := n.isLt
    have h5 := (Finset.mem_filter.mp hn).2
    refine Fin.ext ?_
    show ((t.val + n.val - 63) % 64 + 63 - t.val) % 64 = n.val
    omega
  · intro s hs
    have h5 : s.val ≤ t.val := (Finset.mem_filter.mp hs).2
    refine Fin.ext ?_
    show (t.val + (s.val + 63 - t.val) % 64 - 63) % 64 = s.val
    omega
  · intro n hn
    rfl

/-- The word of a trip's number reads back as the number. -/
theorem word (n : Fin 64) : (BitVec.ofNat 32 n.val).toInt = (n.val : Int) := by
  revert n
  decide +kernel

variable (V0 : Valuation τ sig (Elt Ideal)) (n : Fin 64)
  (hc : V0 (Proc.devRef .tc main_v15_5) = fun _ => BitVec.ofNat 32 n.val)

include hc

/-- Where a trip's run of tokens starts, in the carried arrays. -/
theorem start : ∀ a : Fin 5, (((![V0 (Proc.devRef .tc main_v15_5), constantI S_ 32 0#32, constantI S_ 32 0#32,
      constantI S_ 32 0#32, constantI S_ 32 0#32] : Fin 5 → (⟨S_, .i32⟩ : BufTy).Contents (Elt Ideal))) a
        (Shape.Idx.first h_S_)).toInt = ((![n.val, 0, 0, 0, 0] : Fin 5 → ℕ) a : Int) := by
  rw [hc]
  intro a
  fin_cases a
  · exact word n
  · rfl
  · rfl
  · rfl
  · rfl

/-- The run of tokens that a trip takes out of a carried array. -/
theorem taken (x : FVec Ideal S64x8x4x64x128 .f32) (b : Fin 8) (h : Fin 4) (t : Fin 64) (d : Fin 128) :
    shapeCast S8x4x64x128 (Host.dynamicSlice S1x8x4x64x128 x (fun k => (((![V0 (Proc.devRef .tc main_v15_5),
      constantI S_ 32 0#32, constantI S_ 32 0#32, constantI S_ 32 0#32, constantI S_ 32 0#32] : Fin 5 →
        (⟨S_, .i32⟩ : BufTy).Contents (Elt Ideal))) k (Shape.Idx.first h_S_)).toInt) sliceFits_S64x8x4x64x128_S1x8x4x64x128)
      shapeCasts_S1x8x4x64x128_S8x4x64x128 (ix4 b h t d) = x (ix5 n b h t d) := by
  have hk : S64x8x4x64x128.Slices ![n.val, 0, 0, 0, 0] S1x8x4x64x128 := ⟨rfl, fun a => by
    have hn := n.isLt
    fin_cases a
    · show n.val + 1 ≤ 64
      omega
    · exact Nat.le_refl 8
    · exact Nat.le_refl 4
    · exact Nat.le_refl 64
    · exact Nat.le_refl 128⟩
  rw [WordCmp.dynamicSlice_eq_extract _ x _ _ ![n.val, 0, 0, 0, 0] hk (start V0 n hc)]
  pointwise

variable (Q K V LF : Fin 8 → Fin 4 → Rows) (S : Fin 8 → Fin 4 → Fin 128 → Fin 128 → EReal)

/-- The running sums of a trip. -/
theorem cum_apply (hlf : ∀ b h t d, (V0 (Proc.devRef .tc main_v15_2) (ix5 n b h t d) : EReal) = LF b h t d)
    (b : Fin 8) (h : Fin 4) (t : Fin 64) (d : Fin 128) :
    (res_main_while0b_v42 V0 (ix4 b h t d) : EReal) = cum (LF b h) t d := by
  unfold res_main_while0b_v42
  have z : (broadcastInDim S_ ![] bcast_S_S_ (constant (F := Ideal) S_ .f32 0x00000000#32) (Shape.Idx.first h_S_) : EReal) = 0 := by
    pointwise
  have e : ∀ x : FVec Ideal S8x4x64x128 .f32, (Host.reduceWindowAdd (F := Ideal) ![1, 1, 64, 1] ![1, 1, 1, 1]
      ![0, 0, 63, 0] ![0, 0, 0, 0] x (broadcastInDim S_ ![] bcast_S_S_ (constant S_ .f32 0x00000000#32))
      reduceWindows_S8x4x64x128_S8x4x64x128_w1s1p0_0_w1s1p0_0_w64s1p63_0_w1s1p0_0 h_S_ (ix4 b h t d) : EReal)
      = ∑ s : Fin 64, if s ≤ t then (x (ix4 b h s d) : EReal) else 0 := fun x => by
    refine Eq.trans (b := Ideal.hostReduceWindowAdd ![1, 1, 64, 1] ![1, 1, 1, 1] ![0, 0, 63, 0] ![0, 0, 0, 0]
        reduceWindows_S8x4x64x128_S8x4x64x128_w1s1p0_0_w1s1p0_0_w64s1p63_0_w1s1p0_0 x
        (broadcastInDim S_ ![] bcast_S_S_ (constant (F := Ideal) S_ .f32 0x00000000#32) (Shape.Idx.first h_S_))
        (ix4 b h t d)) rfl ?_
    rw [z]
    exact window_sum x b h t d
  refine (e _).trans (Finset.sum_congr rfl fun s _ => ?_)
  exact congrArg (fun z : EReal => if s ≤ t then z else 0) ((taken V0 n hc _ b h s d).trans (hlf b h s d))

/-- The state after a trip. -/
theorem state_trip (hk : ∀ b h t d, (V0 (Proc.devRef .tc main_v15_1) (ix5 n b h t d) : EReal) = K b h t d)
    (hlf : ∀ b h t d, (V0 (Proc.devRef .tc main_v15_2) (ix5 n b h t d) : EReal) = LF b h t d)
    (hv : ∀ b h t d, (V0 (Proc.devRef .tc main_v15_3) (ix5 n b h t d) : EReal) = V b h t d)
    (hs : ∀ b h d j, (V0 (Proc.devRef .tc main_v15_6) (ix4 b h d j) : EReal) = S b h d j)
    (b : Fin 8) (h : Fin 4) (d j : Fin 128) :
    (step_main_v15_6 V0 (ix4 b h d j) : EReal) = newState (K b h) (V b h) (LF b h) (S b h) d j := by
  have ek : (res_main_while0b_v39 V0 : S8x4x64x128.Idx → EReal) = fun y => K (y 0) (y 1) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact (taken V0 n hc _ b h t d).trans (hk b h t d)
  have ev : (res_main_while0b_v41 V0 : S8x4x64x128.Idx → EReal) = fun y => V (y 0) (y 1) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact (taken V0 n hc _ b h t d).trans (hv b h t d)
  have el : (res_main_while0b_v42 V0 : S8x4x64x128.Idx → EReal) = fun y => cum (LF (y 0) (y 1)) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact cum_apply V0 n hc LF hlf b h t d
  have es : (V0 (Proc.devRef .tc main_v15_6) : S8x4x128x128.Idx → EReal) = fun y => S (y 0) (y 1) (y 2) (y 3) := by
    funext y
    obtain ⟨b, h, t, d, rfl⟩ : ∃ (b : Fin 8) (h : Fin 4) (t d : Fin 128), y = ix4 b h t d :=
      ⟨y 0, y 1, y 2, y 3, (ix4_eta y).symm⟩
    exact hs b h t d
  unfold step_main_v15_6 res_main_while0b_v63
  rw [ek, ev, el, es, id_eq]
  pointwise
  rfl

omit hc

/-- The masked logarithm of a decay, exponentiated: 0 where it is masked. -/
theorem exp_masked (p : Prop) [Decidable p] (x : EReal) (y : EReal) (hy : y = ⊥) :
    Ideal.exp (Scalar.select (if p then 1#1 else 0#1) x y) = if p then Ideal.exp x else 0 := by
  subst hy
  split
  · rfl
  · rfl

include hc

/-- The outputs after a trip: the trip's own run of tokens is written, the other runs stay. -/
theorem out_trip (hq : ∀ b h t d, (V0 (Proc.devRef .tc main_v15_0) (ix5 n b h t d) : EReal) = Q b h t d)
    (hk : ∀ b h t d, (V0 (Proc.devRef .tc main_v15_1) (ix5 n b h t d) : EReal) = K b h t d)
    (hlf : ∀ b h t d, (V0 (Proc.devRef .tc main_v15_2) (ix5 n b h t d) : EReal) = LF b h t d)
    (hv : ∀ b h t d, (V0 (Proc.devRef .tc main_v15_3) (ix5 n b h t d) : EReal) = V b h t d)
    (hs : ∀ b h d j, (V0 (Proc.devRef .tc main_v15_6) (ix4 b h d j) : EReal) = S b h d j)
    (ht : ∀ t s, (V0 (Proc.devRef .tc main_v15_4) (ix2 t s) : BitVec 1) = if s ≤ t then 1#1 else 0#1)
    (i : Fin 64) (b : Fin 8) (h : Fin 4) (t : Fin 64) (j : Fin 128) :
    (step_main_v15_7 V0 (ix5 i b h t j) : EReal)
      = if i = n then preOut (Q b h) (K b h) (V b h) (LF b h) (S b h) t j
        else V0 (Proc.devRef .tc main_v15_7) (ix5 i b h t j) := by
  have hu : S64x8x4x64x128.Slices ![n.val, 0, 0, 0, 0] S1x8x4x64x128 := ⟨rfl, fun a => by
    have hn := n.isLt
    fin_cases a
    · show n.val + 1 ≤ 64
      omega
    · exact Nat.le_refl 8
    · exact Nat.le_refl 4
    · exact Nat.le_refl 64
    · exact Nat.le_refl 128⟩
  have hb : (id (constant (F := Ideal) S_ FTy.f32 4286578688#32) ix0 : EReal) = ⊥ := by
    show Ideal.ofBits FTy.f32 4286578688#32 = ⊥
    simp [Ideal.ofBits, Ideal.ieee]
  have eq : (res_main_while0b_v38 V0 : S8x4x64x128.Idx → EReal) = fun y => Q (y 0) (y 1) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact (taken V0 n hc _ b h t d).trans (hq b h t d)
  have ek : (res_main_while0b_v39 V0 : S8x4x64x128.Idx → EReal) = fun y => K (y 0) (y 1) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact (taken V0 n hc _ b h t d).trans (hk b h t d)
  have ev : (res_main_while0b_v41 V0 : S8x4x64x128.Idx → EReal) = fun y => V (y 0) (y 1) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact (taken V0 n hc _ b h t d).trans (hv b h t d)
  have el : (res_main_while0b_v42 V0 : S8x4x64x128.Idx → EReal) = fun y => cum (LF (y 0) (y 1)) (y 2) (y 3) := by
    funext y
    obtain ⟨b, h, t, d, rfl⟩ : ∃ (b : Fin 8) (h : Fin 4) (t : Fin 64) (d : Fin 128), y = ix4 b h t d :=
      ⟨y 0, y 1, y 2, y 3, (ix4_eta y).symm⟩
    exact cum_apply V0 n hc LF hlf b h t d
  have es : (V0 (Proc.devRef .tc main_v15_6) : S8x4x128x128.Idx → EReal) = fun y => S (y 0) (y 1) (y 2) (y 3) := by
    funext y
    obtain ⟨b, h, t, d, rfl⟩ : ∃ (b : Fin 8) (h : Fin 4) (t d : Fin 128), y = ix4 b h t d :=
      ⟨y 0, y 1, y 2, y 3, (ix4_eta y).symm⟩
    exact hs b h t d
  have et : (V0 (Proc.devRef .tc main_v15_4) : S64x64.Idx → BitVec 1) = fun y => if y 1 ≤ y 0 then 1#1 else 0#1 := by
    funext y
    obtain ⟨t, s, rfl⟩ : ∃ (t s : Fin 64), y = ix2 t s := ⟨y 0, y 1, (ix2_eta y).symm⟩
    exact ht t s
  unfold step_main_v15_7
  rw [id_eq, WordCmp.dynamicUpdateSlice_eq_update _ _ _ _ ![n.val, 0, 0, 0, 0] hu (start V0 n hc), eq, ek, ev, el, es, et]
  unfold updateSlice
  by_cases hi : i = n
  · subst hi
    rw [if_pos rfl, dif_pos fun a => by
      fin_cases a
      · exact ⟨Nat.le_refl i.val, Nat.lt_succ_self i.val⟩
      · exact ⟨Nat.zero_le b.val, (Nat.zero_add 8).symm ▸ b.isLt⟩
      · exact ⟨Nat.zero_le h.val, (Nat.zero_add 4).symm ▸ h.isLt⟩
      · exact ⟨Nat.zero_le t.val, (Nat.zero_add 64).symm ▸ t.isLt⟩
      · exact ⟨Nat.zero_le j.val, (Nat.zero_add 128).symm ▸ j.isLt⟩]
    have ex : ∀ (f : (a : Fin 5) → Fin (S1x8x4x64x128.size a))
        (_ : ∀ a, (f a).val = (ix5 i b h t j a).val - (![i.val, 0, 0, 0, 0] : Fin 5 → ℕ) a),
        (f : S1x8x4x64x128.Idx) = ix5 0 b h t j := by
      intro f hf
      funext a
      apply Fin.ext
      rw [hf a]
      fin_cases a
      · exact Nat.sub_self i.val
      · exact Nat.sub_zero b.val
      · exact Nat.sub_zero h.val
      · exact Nat.sub_zero t.val
      · exact Nat.sub_zero j.val
    refine (congrArg _ (ex _ fun _ => rfl)).trans ?_
    pointwise
    simp only [exp_masked _ _ _ hb]
    unfold preOut
    refine congrArg₂ (fun x y : EReal => x + y) (Finset.sum_congr rfl fun s _ => ?_) rfl
    by_cases hst : s ≤ t
    · rw [if_pos hst]
      exact congrArg (fun z : EReal => z * V b h s j) (Finset.sum_congr rfl fun d _ =>
        congrArg (fun z : EReal => Q b h t d * K b h s d * z) (if_pos hst))
    · rw [if_neg hst]
      exact congrArg (fun z : EReal => z * V b h s j) (Finset.sum_eq_zero fun d _ =>
        (congrArg (fun z : EReal => Q b h t d * K b h s d * z) (if_neg hst)).trans (mul_zero _))
  · rw [if_neg hi, dif_neg fun c => hi ?_]
    have c0 := c 0
    have c1 : n.val ≤ i.val ∧ i.val < n.val + 1 := c0
    exact Fin.ext (by omega)

end Cert.Reference7Ideal.Hgrn
-- ==== Proof.HgrnP.Ref.lean ====
module

public import proofs.«01_k».proof.Proof.HgrnP.RefTrip

/-!
# What the reference computes

By induction over the trips of the loop: the carried state and the outputs written so far are the recurrence's. Then the
reference's two results: the normalised, gated outputs and the state after the last tokens.
-/

@[expose] public section

set_option maxRecDepth 16384

noncomputable section

namespace Cert.Reference7Ideal.Hgrn

open Cert.Reference7Ideal Cert.Reference7Ideal.Gen Cert.Reference7Ideal.Value Idealize.ShloMosaic
open Idealize.ShloMosaic.TcCoe Idealize.SL.Sem Idealize.ShloMosaic.StableHlo
open Cert.HgrnP (Rows cum preOut newState rowsOf stateAt scaleOf outOf)

variable (m : (ℓ : Loc nD τ sig) → Buf (Elt Ideal) ℓ)

/-- The carried buffers after `k` trips. -/
abbrev trips (c : Dev nD) (k : ℕ) : Valuation τ sig (Elt Ideal) := STEP^[k] (entryContents preI m c)

/-- The trips keep the carried queries. -/
theorem keep_0 (c : Dev nD) : ∀ k, trips m c k (Proc.devRef .tc main_v15_0)
    = entryContents preI m c (Proc.devRef .tc main_v15_0)
  | 0 => rfl
  | k + 1 => by
    unfold trips
    rw [Function.iterate_succ_apply', STEP_main_v15_0]
    exact keep_0 c k

/-- The trips keep the carried keys. -/
theorem keep_1 (c : Dev nD) : ∀ k, trips m c k (Proc.devRef .tc main_v15_1)
    = entryContents preI m c (Proc.devRef .tc main_v15_1)
  | 0 => rfl
  | k + 1 => by
    unfold trips
    rw [Function.iterate_succ_apply', STEP_main_v15_1]
    exact keep_1 c k

/-- The trips keep the carried gate logarithms. -/
theorem keep_2 (c : Dev nD) : ∀ k, trips m c k (Proc.devRef .tc main_v15_2)
    = entryContents preI m c (Proc.devRef .tc main_v15_2)
  | 0 => rfl
  | k + 1 => by
    unfold trips
    rw [Function.iterate_succ_apply', STEP_main_v15_2]
    exact keep_2 c k

/-- The trips keep the carried values. -/
theorem keep_3 (c : Dev nD) : ∀ k, trips m c k (Proc.devRef .tc main_v15_3)
    = entryContents preI m c (Proc.devRef .tc main_v15_3)
  | 0 => rfl
  | k + 1 => by
    unfold trips
    rw [Function.iterate_succ_apply', STEP_main_v15_3]
    exact keep_3 c k

/-- The trips keep the carried mask. -/
theorem keep_4 (c : Dev nD) : ∀ k, trips m c k (Proc.devRef .tc main_v15_4)
    = entryContents preI m c (Proc.devRef .tc main_v15_4)
  | 0 => rfl
  | k + 1 => by
    unfold trips
    rw [Function.iterate_succ_apply', STEP_main_v15_4]
    exact keep_4 c k

/-- The counter after `k` trips. -/
theorem counter (c : Dev nD) : ∀ k, trips m c k (Proc.devRef .tc main_v15_5) = fun _ => BitVec.ofNat 32 k
  | 0 => ctr_entry m c
  | k + 1 => by
    unfold trips
    rw [Function.iterate_succ_apply', STEP_main_v15_5]
    unfold step_main_v15_5
    have e : STEP^[k] (entryContents preI m c) (Proc.devRef .tc main_v15_5) = fun _ => BitVec.ofNat 32 k := counter c k
    rw [e]
    funext x
    exact (BitVec.ofNat_add k 1).symm

/-- An output of a run of tokens before normalisation. -/
def preAt (c : Dev nD) (i : ℕ) (b : Fin 8) (h : Fin 4) (t : Fin 64) (j : Fin 128) : EReal :=
  preOut (rowsOf (A0 m c) b h i) (rowsOf (A2 m c) b h i) (rowsOf (A3 m c) b h i) (rowsOf (A1 m c) b h i)
    (stateAt (A2 m c) (A3 m c) (A1 m c) b h i) t j

/-- The state after `k` trips. -/
theorem state_at (c : Dev nD) : ∀ k, k ≤ 64 → ∀ (b : Fin 8) (h : Fin 4) (d j : Fin 128),
    (trips m c k (Proc.devRef .tc main_v15_6) (ix4 b h d j) : EReal) = stateAt (A2 m c) (A3 m c) (A1 m c) b h k d j
  | 0, _ => entry_s m c
  | k + 1, hk => fun b h d j => by
    unfold trips
    rw [Function.iterate_succ_apply', STEP_main_v15_6]
    exact state_trip (trips m c k) ⟨k, hk⟩ (counter m c k) (fun b h => rowsOf (A2 m c) b h k)
      (fun b h => rowsOf (A3 m c) b h k) (fun b h => rowsOf (A1 m c) b h k)
      (fun b h => stateAt (A2 m c) (A3 m c) (A1 m c) b h k)
      (fun b h t d => (congrFun (keep_1 m c k) _).trans (entry_k m c ⟨k, hk⟩ b h t d))
      (fun b h t d => (congrFun (keep_2 m c k) _).trans (entry_lf m c ⟨k, hk⟩ b h t d))
      (fun b h t d => (congrFun (keep_3 m c k) _).trans (entry_v m c ⟨k, hk⟩ b h t d))
      (state_at c k (Nat.le_of_succ_le hk)) b h d j

/-- The outputs that `k` trips have written. -/
theorem outs_at (c : Dev nD) : ∀ k, k ≤ 64 → ∀ (i : Fin 64), i.val < k → ∀ (b : Fin 8) (h : Fin 4) (t : Fin 64)
    (j : Fin 128), (trips m c k (Proc.devRef .tc main_v15_7) (ix5 i b h t j) : EReal) = preAt m c i.val b h t j
  | 0, _ => fun i hi => absurd hi (Nat.not_lt_zero _)
  | k + 1, hk => fun i hi b h t j => by
    unfold trips
    rw [Function.iterate_succ_apply', STEP_main_v15_7]
    refine (out_trip (trips m c k) ⟨k, hk⟩ (counter m c k) (fun b h => rowsOf (A0 m c) b h k)
      (fun b h => rowsOf (A2 m c) b h k) (fun b h => rowsOf (A3 m c) b h k) (fun b h => rowsOf (A1 m c) b h k)
      (fun b h => stateAt (A2 m c) (A3 m c) (A1 m c) b h k)
      (fun b h t d => (congrFun (keep_0 m c k) _).trans (entry_q m c ⟨k, hk⟩ b h t d))
      (fun b h t d => (congrFun (keep_1 m c k) _).trans (entry_k m c ⟨k, hk⟩ b h t d))
      (fun b h t d => (congrFun (keep_2 m c k) _).trans (entry_lf m c ⟨k, hk⟩ b h t d))
      (fun b h t d => (congrFun (keep_3 m c k) _).trans (entry_v m c ⟨k, hk⟩ b h t d))
      (state_at m c k (Nat.le_of_succ_le hk))
      (fun t s => (congrFun (keep_4 m c k) _).trans (entry_tri m c t s)) i b h t j).trans ?_
    by_cases e : i = ⟨k, hk⟩
    · rw [if_pos e]
      subst e
      rfl
    · rw [if_neg e]
      have h1 : i.val ≠ k := fun h1 => e (Fin.ext h1)
      exact outs_at c k (Nat.le_of_succ_le hk) i (by omega) b h t j

/-- The operations after the loop normalise and gate. -/
theorem post_apply (V0 : Valuation τ sig (Elt Ideal)) (P : Fin 64 → Fin 8 → Fin 4 → Fin 64 → Fin 128 → EReal)
    (hP : (V0 (Proc.devRef .tc main_v15_7) : S64x8x4x64x128.Idx → EReal) = fun y => P (y 0) (y 1) (y 2) (y 3) (y 4))
    (g : (⟨2, ![1, 512]⟩ : Shape).Idx → EReal) (hg : Cert.HgrnP.Flat)
    (h5 : V0 (Proc.devRef .tc main_arg5) = g) (h4 : V0 (Proc.devRef .tc main_arg4) = hg)
    (b : Fin 8) (r : Fin 4096) (l : Fin 512) :
    (out_main_v37 V0 (ix3 b r l) : EReal)
      = Cert.Hgrn.normGate (fun x => P ⟨r.val / 64, by omega⟩ b ⟨l.val / 128, by omega⟩ ⟨r.val % 64, by omega⟩ x)
        (scaleOf g ⟨l.val / 128, by omega⟩) (hg (ix2 ⟨b.val * 4096 + r.val, by omega⟩ l)) ⟨l.val % 128, by omega⟩ := by
  unfold out_main_v37
  rw [hP, h5, h4]
  have e : scaleOf g ⟨l.val / 128, by omega⟩ ⟨l.val % 128, by omega⟩ = g (ix2 0 l) := by
    unfold scaleOf
    refine congrArg (fun x => g (ix2 0 x)) (Fin.ext ?_)
    show l.val / 128 * 128 + l.val % 128 = l.val
    omega
  unfold Cert.Hgrn.normGate
  rw [e]
  pointwise

/-- The reference's first result: the recurrence's outputs. -/
theorem out_ref (c : Dev nD) (i : S8x4096x512.Idx) : (out_main_v37 (trips m c 64) i : EReal)
    = outOf (A0 m c) (A1 m c) (A2 m c) (A3 m c) (A4 m c) (A5 m c) (i 0)
      ⟨(i 2).val / 128, by have h : (i 2).val < 512 := (i 2).isLt; omega⟩ ((i 1).val / 64)
      ⟨(i 1).val % 64, Nat.mod_lt _ (by decide)⟩ ⟨(i 2).val % 128, Nat.mod_lt _ (by decide)⟩ := by
  obtain ⟨b, r, l, rfl⟩ : ∃ (b : Fin 8) (r : Fin 4096) (l : Fin 512), i = ix3 b r l := ⟨i 0, i 1, i 2, (ix3_eta i).symm⟩
  have hP : (trips m c 64 (Proc.devRef .tc main_v15_7) : S64x8x4x64x128.Idx → EReal)
      = fun y => preAt m c (y 0).val (y 1) (y 2) (y 3) (y 4) := by
    funext y
    obtain ⟨i, b, h, t, j, rfl⟩ : ∃ (i : Fin 64) (b : Fin 8) (h : Fin 4) (t : Fin 64) (j : Fin 128), y = ix5 i b h t j :=
      ⟨y 0, y 1, y 2, y 3, y 4, (ix5_eta y).symm⟩
    exact outs_at m c 64 (Nat.le_refl _) i i.isLt b h t j
  refine (post_apply (trips m c 64) (fun i b h t j => preAt m c i.val b h t j) hP (A5 m c) (A4 m c)
    (iter_main_arg5 m c 64) (iter_main_arg4 m c 64) b r l).trans ?_
  have hr : r.val / 64 < 64 := by omega
  have e : rowsOf (A4 m c) b ⟨l.val / 128, by omega⟩ (r.val / 64) ⟨r.val % 64, Nat.mod_lt _ (by decide)⟩
      ⟨l.val % 128, Nat.mod_lt _ (by decide)⟩
      = A4 m c (ix2 (⟨b.val * 4096 + r.val, by omega⟩ : Fin 32768) l) := by
    unfold rowsOf
    rw [dif_pos hr]
    refine congrArg (A4 m c) (congrArg₂ ix2 (Fin.ext ?_) (Fin.ext ?_))
    · show b.val * 4096 + r.val / 64 * 64 + r.val % 64 = b.val * 4096 + r.val
      omega
    · show l.val / 128 * 128 + l.val % 128 = l.val
      omega
  unfold outOf
  exact congrArg (fun z => Cert.Hgrn.normGate _ _ z _) e.symm

/-- The reference's second result: the recurrence's states after the last tokens. -/
theorem state_ref (c : Dev nD) (i : S8x4x128x128.Idx) : (trips m c 64 (Proc.devRef .tc main_v15_6) i : EReal)
    = stateAt (A2 m c) (A3 m c) (A1 m c) (i 0) (i 1) 64 (i 2) (i 3) := by
  obtain ⟨b, h, d, j, rfl⟩ : ∃ (b : Fin 8) (h : Fin 4) (d j : Fin 128), i = ix4 b h d j :=
    ⟨i 0, i 1, i 2, i 3, (ix4_eta i).symm⟩
  exact state_at m c 64 (Nat.le_refl _) b h d j

end Cert.Reference7Ideal.Hgrn
-- ==== Proof.HgrnP.Claim.lean ====
module

public import proofs.«01_k».proof.Defs
public import proofs.«01_k».proof.Proof.Gen.Kernel7Ideal.Value
public import proofs.«01_k».proof.Proof.Gen.Reference7Ideal.Run
public import proofs.«01_k».proof.Proof.Gen.Pre_finite_logs
public import proofs.«01_k».proof.Proof.HgrnP.Leaves
public import proofs.«01_k».proof.Proof.HgrnP.Ref
public import proofs.«01_k».proof.Proof.Hgrn.Pre
public import Idealize.ShloMosaic.Adequacy
public import Idealize.ShloMosaic.Init

/-!
# The prompt's recurrence: the claims

The reference runs and leaves its arguments, and it ends with the kernel's two arrays: the gated, normalised outputs of all
tokens and the states after the last tokens.
-/

@[expose] public section

noncomputable section

namespace Cert.Kernel7Ideal.Hgrn

open Idealize.ShloMosaic Idealize.ShloMosaic.TcCoe Idealize.SL.Sem

/-- The precondition makes every gate logarithm of the prompt finite. -/
theorem pre_finite (m : (ℓ : Loc nD τ sig) → Buf (Elt Ideal) ℓ) (h : Pre_Kernel7Ideal_finite_logs m) (c : Dev nD)
    (x : S32768x512.Idx) : Cert.Hgrn.Finite (A1 m c x) :=
  Cert.Hgrn.finite_of_bit _ (congrFun (h c) x)

/-- The reference runs and leaves its arguments; it uses no semaphore. -/
theorem reference_runs : Cert.quiescent_Reference7Ideal := fun m g _ =>
  (θ_run Cert.Reference7Ideal.defs _ _).mono
    (fun r h => ⟨fun c => (h c).2.2, Idealize.ShloMosaic.sem_eq_zero_of_no_sems (by decide) r.2⟩)
    (Cert.Reference7Ideal.Value.run m g)

/-- The kernel and its reference end with equal arrays. -/
theorem same_arrays : Cert.algebraic_Kernel7Ideal_Reference7Ideal_pre_finite_logs := by
  intro m g m' g' hpre hag
  refine ⟨fun c => (Cert.Kernel7Ideal.Gen.dats m 0 c).arrAt 7 Cert.Kernel7Ideal.cfg0.N,
    fun c => (Cert.Kernel7Ideal.Gen.dats m 0 c).arrAt 8 Cert.Kernel7Ideal.cfg0.N,
    Cert.Kernel7Ideal.Value.run_blocks m g, (θ_run _ _ _).mono (fun r h c => ?_) (Cert.Reference7Ideal.Value.run m' g')⟩
  obtain ⟨e0, e1, e2, e3, e4, e5⟩ := hag c
  obtain ⟨h0, h1, hrest⟩ := h c
  have a0 : Cert.Reference7Ideal.Hgrn.A0 m' c = A0 m c := e0
  have a1 : Cert.Reference7Ideal.Hgrn.A1 m' c = A1 m c := e1
  have a2 : Cert.Reference7Ideal.Hgrn.A2 m' c = A2 m c := e2
  have a3 : Cert.Reference7Ideal.Hgrn.A3 m' c = A3 m c := e3
  have a4 : Cert.Reference7Ideal.Hgrn.A4 m' c = A4 m c := e4
  have a5 : Cert.Reference7Ideal.Hgrn.A5 m' c = A5 m c := e5
  refine ⟨h0.trans ?_, h1.trans ?_, hrest⟩
  · refine Eq.trans (funext fun i => ?_) (out_array m c (pre_finite m hpre c)).symm
    refine (Cert.Reference7Ideal.Hgrn.out_ref m' c i).trans ?_
    rw [a0, a1, a2, a3, a4, a5]
    rfl
  · refine Eq.trans (funext fun i => ?_) (state_array m c).symm
    refine (Cert.Reference7Ideal.Hgrn.state_ref m' c i).trans ?_
    rw [a1, a2, a3]
    rfl

end Cert.Kernel7Ideal.Hgrn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Pre_finite_prompt
public import proofs.«01_k».proof.Proof.Gen.Pre_finite_sample
public import proofs.«01_k».proof.Proof.Gen.Pre_finite_logs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Hgrn.Equation
public import proofs.«01_k».proof.Proof.Hgrn.Pre
public import proofs.«01_k».proof.Proof.Ffn.Equation
public import proofs.«01_k».proof.Proof.InProj.Claim
public import proofs.«01_k».proof.Proof.InProjS.Claim
public import proofs.«01_k».proof.Proof.Mix.Claim
public import proofs.«01_k».proof.Proof.FfnS.Claim
public import proofs.«01_k».proof.Proof.HgrnP.Claim
public import Idealize.ShloMosaic.Adequacy
public import Idealize.ShloMosaic.Init

@[expose] public section

noncomputable section

namespace Cert.Proof

open Idealize.ShloMosaic Idealize.SL.Sem Cert.Kernel

/-- The recurrence's reference runs and leaves its arguments; it uses no semaphore. -/
theorem hgrn_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- The recurrence's kernel and its reference end with equal arrays. -/
theorem hgrn : Cert.algebraic_KernelIdeal_ReferenceIdeal_pre_finite := by
  intro m g m' g' hpre hag
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, (θ_run _ _ _).mono (fun r h c => ?_) (Cert.ReferenceIdeal.Value.run m' g')⟩
  obtain ⟨e0, e1, e2, e3, e4, e5, e6⟩ := hag c
  obtain ⟨h0, h1, hrest⟩ := h c
  refine ⟨h0.trans ?_, h1.trans ?_, hrest⟩
  · rw [Cert.ReferenceIdeal.Read.val_main_v68_eq, e0, e1, e2, e3, e4, e5, e6]
    exact (Cert.KernelIdeal.Hgrn.out_array m c (Cert.Hgrn.pre_finite m hpre c)).symm
  · rw [Cert.ReferenceIdeal.Read.val_main_v46_eq, e1, e2, e3, e5]
    exact (Cert.KernelIdeal.Hgrn.state_array m c).symm

/-- The feed-forward reference runs and leaves its arguments; it uses no semaphore. -/
theorem ffn_reference : Cert.quiescent_Reference2Ideal := fun m g _ =>
  (θ_run Cert.Reference2Ideal.defs _ _).mono
    (fun r h => ⟨fun c => (h c).2.2, Idealize.ShloMosaic.sem_eq_zero_of_no_sems (by decide) r.2⟩)
    (Cert.Reference2Ideal.Value.run m g)

/-- The feed-forward kernel and its reference end with equal arrays. -/
theorem ffn : Cert.algebraic_Kernel2Ideal_Reference2Ideal := by
  intro m g m' g' _ hag
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    Cert.Kernel2Ideal.Value.run_blocks m g, (θ_run _ _ _).mono (fun r h c => ?_) (Cert.Reference2Ideal.Value.run m' g')⟩
  obtain ⟨e0, e1, e2, e3, e4, e5, e6, e7⟩ := hag c
  obtain ⟨h0, h1, hrest⟩ := h c
  refine ⟨h0.trans ?_, h1.trans ?_, hrest⟩
  · rw [Cert.Reference2Ideal.Read.val_main_v60_eq, e0, e1, e2, e3, e4, e5, e6, e7]
    exact (Cert.Kernel2Ideal.Ffn.out_array m c).symm
  · rw [Cert.Reference2Ideal.Read.val_main_v46_eq, e0, e3]
    exact (Cert.Kernel2Ideal.Ffn.tail_array m c).symm

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Pre_finite.Gen.facts, Cert.Pre_finite_prompt.Gen.facts,
    Cert.Pre_finite_sample.Gen.facts, Cert.Pre_finite_logs.Gen.facts,
    fun m ρ _ => Cert.Kernel.Gen.frame m ρ,
    fun m ρ _ => Cert.KernelIdeal.Gen.frame m ρ,
    fun m ρ _ => Cert.KernelIdeal.Gen.frame m ρ,
    hgrn_reference,
    fun m g _ => hgrn_reference m g trivial,
    fun m ρ _ => Cert.Kernel2.Gen.frame m ρ,
    fun m ρ _ => Cert.Kernel2Ideal.Gen.frame m ρ,
    ffn_reference,
    fun m ρ _ => Cert.Kernel3.Gen.frame m ρ,
    fun m ρ _ => Cert.Kernel3Ideal.Gen.frame m ρ,
    fun m ρ _ => Cert.Kernel3Ideal.Gen.frame m ρ,
    Cert.Kernel3Ideal.InProj.reference_runs,
    fun m g _ => Cert.Kernel3Ideal.InProj.reference_runs m g trivial,
    fun m ρ _ => Cert.Kernel4.Gen.frame m ρ,
    fun m ρ _ => Cert.Kernel4Ideal.Gen.frame m ρ,
    fun m ρ _ => Cert.Kernel4Ideal.Gen.frame m ρ,
    Cert.Kernel4Ideal.InProj.reference_runs,
    fun m g _ => Cert.Kernel4Ideal.InProj.reference_runs m g trivial,
    fun m ρ _ => Cert.Kernel5.Gen.frame m ρ,
    fun m ρ _ => Cert.Kernel5Ideal.Gen.frame m ρ,
    Cert.Kernel5Ideal.Mix.reference_runs,
    fun m ρ _ => Cert.Kernel6.Gen.frame m ρ,
    fun m ρ _ => Cert.Kernel6Ideal.Gen.frame m ρ,
    Cert.Kernel6Ideal.Ffn.reference_runs,
    fun m ρ _ => Cert.Kernel7.Gen.frame m ρ,
    fun m ρ _ => Cert.Kernel7Ideal.Gen.frame m ρ,
    fun m ρ _ => Cert.Kernel7Ideal.Gen.frame m ρ,
    Cert.Kernel7Ideal.Hgrn.reference_runs,
    fun m g _ => Cert.Kernel7Ideal.Hgrn.reference_runs m g trivial,
    trivial,
    hgrn,
    trivial,
    ffn,
    trivial,
    Cert.Kernel3Ideal.InProj.same_arrays,
    trivial,
    Cert.Kernel4Ideal.InProj.same_arrays,
    trivial,
    Cert.Kernel5Ideal.Mix.same_arrays,
    trivial,
    Cert.Kernel6Ideal.Ffn.same_arrays,
    trivial,
    Cert.Kernel7Ideal.Hgrn.same_arrays⟩

end Cert.Proof

end
